-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite6 [hPre_finite6 : Cert.Pre_finite6.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite6 [hPre_finite6 : Cert.Pre_finite6.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Kernel18Ideal_finite18 [hPre_finite18 : Cert.Pre_finite18.Facts] (m : (ℓ : Loc Cert.Kernel18Ideal.nD Cert.Kernel18Ideal.τ Cert.Kernel18Ideal.sig) → Buf (Elt Ideal) ℓ) : Prop :=
  ∀ c : Dev Cert.Kernel18Ideal.nD,
    (Cert.Pre_finite18.fn (F := Ideal) (m ((c.tc : Thread Cert.Kernel18Ideal.nD Cert.Kernel18Ideal.τ).loc Cert.Kernel18Ideal.main_arg0)) (m ((c.tc : Thread Cert.Kernel18Ideal.nD Cert.Kernel18Ideal.τ).loc Cert.Kernel18Ideal.main_arg1)) (m ((c.tc : Thread Cert.Kernel18Ideal.nD Cert.Kernel18Ideal.τ).loc Cert.Kernel18Ideal.main_arg2)) (m ((c.tc : Thread Cert.Kernel18Ideal.nD Cert.Kernel18Ideal.τ).loc Cert.Kernel18Ideal.main_arg3)) (m ((c.tc : Thread Cert.Kernel18Ideal.nD Cert.Kernel18Ideal.τ).loc Cert.Kernel18Ideal.main_arg4))) = (fun _ => 1#1)

def Pre_Reference18Ideal (m : (ℓ : Loc Cert.Reference18Ideal.nD Cert.Reference18Ideal.τ Cert.Reference18Ideal.sig) → Buf (Elt Ideal) ℓ) : Prop :=
  True

def Pre_Reference18Ideal_finite18 [hPre_finite18 : Cert.Pre_finite18.Facts] (m : (ℓ : Loc Cert.Reference18Ideal.nD Cert.Reference18Ideal.τ Cert.Reference18Ideal.sig) → Buf (Elt Ideal) ℓ) : Prop :=
  ∀ c : Dev Cert.Reference18Ideal.nD,
    (Cert.Pre_finite18.fn (F := Ideal) (m ((c.tc : Thread Cert.Reference18Ideal.nD Cert.Reference18Ideal.τ).loc Cert.Reference18Ideal.main_arg0)) (m ((c.tc : Thread Cert.Reference18Ideal.nD Cert.Reference18Ideal.τ).loc Cert.Reference18Ideal.main_arg1)) (m ((c.tc : Thread Cert.Reference18Ideal.nD Cert.Reference18Ideal.τ).loc Cert.Reference18Ideal.main_arg2)) (m ((c.tc : Thread Cert.Reference18Ideal.nD Cert.Reference18Ideal.τ).loc Cert.Reference18Ideal.main_arg3)) (m ((c.tc : Thread Cert.Reference18Ideal.nD Cert.Reference18Ideal.τ).loc Cert.Reference18Ideal.main_arg4))) = (fun _ => 1#1)

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Reference32Ideal (m : (ℓ : Loc Cert.Reference32Ideal.nD Cert.Reference32Ideal.τ Cert.Reference32Ideal.sig) → Buf (Elt Ideal) ℓ) : Prop :=
  True

def Pre_Kernel33 (m : (ℓ : Loc Cert.Kernel33.nD Cert.Kernel33.τ Cert.Kernel33.sig) → Buf (Elt Bits) ℓ) : Prop :=
  True

def Pre_Kernel33Ideal (m : (ℓ : Loc Cert.Kernel33Ideal.nD Cert.Kernel33Ideal.τ Cert.Kernel33Ideal.sig) → Buf (Elt Ideal) ℓ) : Prop :=
  True

def Pre_Reference33Ideal (m : (ℓ : Loc Cert.Reference33Ideal.nD Cert.Reference33Ideal.τ Cert.Reference33Ideal.sig) → Buf (Elt Ideal) ℓ) : Prop :=
  True

def Pre_Kernel34 (m : (ℓ : Loc Cert.Kernel34.nD Cert.Kernel34.τ Cert.Kernel34.sig) → Buf (Elt Bits) ℓ) : Prop :=
  True

def Pre_Kernel34Ideal (m : (ℓ : Loc Cert.Kernel34Ideal.nD Cert.Kernel34Ideal.τ Cert.Kernel34Ideal.sig) → Buf (Elt Ideal) ℓ) : Prop :=
  True

def Pre_Reference34Ideal (m : (ℓ : Loc Cert.Reference34Ideal.nD Cert.Reference34Ideal.τ Cert.Reference34Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Kernel6Ideal_pre_finite6 [hKernel6Ideal : Cert.Kernel6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite6 m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Reference6Ideal_pre_finite6 [hReference6Ideal : Cert.Reference6Ideal.Facts] [hPre_finite6 : Cert.Pre_finite6.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite6 m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3)
      ∧ r.2.mem ((c.tc : Thread Cert.Kernel18.nD Cert.Kernel18.τ).loc Cert.Kernel18.main_arg4) = m ((c.tc : Thread Cert.Kernel18.nD Cert.Kernel18.τ).loc Cert.Kernel18.main_arg4))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
      ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4))
      ∧ r.2.sem = fun _ => 0)

def quiescent_Kernel18Ideal_pre_finite18 [hKernel18Ideal : Cert.Kernel18Ideal.Facts] [hPre_finite18 : Cert.Pre_finite18.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal_finite18 m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
      ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4))
      ∧ r.2.sem = fun _ => 0)

def quiescent_Reference18Ideal_pre_finite18 [hReference18Ideal : Cert.Reference18Ideal.Facts] [hPre_finite18 : Cert.Pre_finite18.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal_finite18 m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2)
      ∧ r.2.mem ((c.tc : Thread Cert.Kernel27.nD Cert.Kernel27.τ).loc Cert.Kernel27.main_arg3) = m ((c.tc : Thread Cert.Kernel27.nD Cert.Kernel27.τ).loc Cert.Kernel27.main_arg3)
      ∧ r.2.mem ((c.tc : Thread Cert.Kernel27.nD Cert.Kernel27.τ).loc Cert.Kernel27.main_arg4) = m ((c.tc : Thread Cert.Kernel27.nD Cert.Kernel27.τ).loc Cert.Kernel27.main_arg4)
      ∧ r.2.mem ((c.tc : Thread Cert.Kernel27.nD Cert.Kernel27.τ).loc Cert.Kernel27.main_arg5) = m ((c.tc : Thread Cert.Kernel27.nD Cert.Kernel27.τ).loc Cert.Kernel27.main_arg5)
      ∧ r.2.mem ((c.tc : Thread Cert.Kernel27.nD Cert.Kernel27.τ).loc Cert.Kernel27.main_arg6) = m ((c.tc : Thread Cert.Kernel27.nD Cert.Kernel27.τ).loc Cert.Kernel27.main_arg6))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
      ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3)
      ∧ r.2.mem ((c.tc : Thread Cert.Kernel27Ideal.nD Cert.Kernel27Ideal.τ).loc Cert.Kernel27Ideal.main_arg4) = m ((c.tc : Thread Cert.Kernel27Ideal.nD Cert.Kernel27Ideal.τ).loc Cert.Kernel27Ideal.main_arg4)
      ∧ r.2.mem ((c.tc : Thread Cert.Kernel27Ideal.nD Cert.Kernel27Ideal.τ).loc Cert.Kernel27Ideal.main_arg5) = m ((c.tc : Thread Cert.Kernel27Ideal.nD Cert.Kernel27Ideal.τ).loc Cert.Kernel27Ideal.main_arg5)
      ∧ r.2.mem ((c.tc : Thread Cert.Kernel27Ideal.nD Cert.Kernel27Ideal.τ).loc Cert.Kernel27Ideal.main_arg6) = m ((c.tc : Thread Cert.Kernel27Ideal.nD Cert.Kernel27Ideal.τ).loc Cert.Kernel27Ideal.main_arg6))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2)
      ∧ r.2.mem ((c.tc : Thread Cert.Reference27Ideal.nD Cert.Reference27Ideal.τ).loc Cert.Reference27Ideal.main_arg3) = m ((c.tc : Thread Cert.Reference27Ideal.nD Cert.Reference27Ideal.τ).loc Cert.Reference27Ideal.main_arg3)
      ∧ r.2.mem ((c.tc : Thread Cert.Reference27Ideal.nD Cert.Reference27Ideal.τ).loc Cert.Reference27Ideal.main_arg4) = m ((c.tc : Thread Cert.Reference27Ideal.nD Cert.Reference27Ideal.τ).loc Cert.Reference27Ideal.main_arg4)
      ∧ r.2.mem ((c.tc : Thread Cert.Reference27Ideal.nD Cert.Reference27Ideal.τ).loc Cert.Reference27Ideal.main_arg5) = m ((c.tc : Thread Cert.Reference27Ideal.nD Cert.Reference27Ideal.τ).loc Cert.Reference27Ideal.main_arg5)
      ∧ r.2.mem ((c.tc : Thread Cert.Reference27Ideal.nD Cert.Reference27Ideal.τ).loc Cert.Reference27Ideal.main_arg6) = m ((c.tc : Thread Cert.Reference27Ideal.nD Cert.Reference27Ideal.τ).loc Cert.Reference27Ideal.main_arg6))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2)
      ∧ r.2.mem ((c.tc : Thread Cert.Kernel28.nD Cert.Kernel28.τ).loc Cert.Kernel28.main_arg3) = m ((c.tc : Thread Cert.Kernel28.nD Cert.Kernel28.τ).loc Cert.Kernel28.main_arg3)
      ∧ r.2.mem ((c.tc : Thread Cert.Kernel28.nD Cert.Kernel28.τ).loc Cert.Kernel28.main_arg4) = m ((c.tc : Thread Cert.Kernel28.nD Cert.Kernel28.τ).loc Cert.Kernel28.main_arg4)
      ∧ r.2.mem ((c.tc : Thread Cert.Kernel28.nD Cert.Kernel28.τ).loc Cert.Kernel28.main_arg5) = m ((c.tc : Thread Cert.Kernel28.nD Cert.Kernel28.τ).loc Cert.Kernel28.main_arg5)
      ∧ r.2.mem ((c.tc : Thread Cert.Kernel28.nD Cert.Kernel28.τ).loc Cert.Kernel28.main_arg6) = m ((c.tc : Thread Cert.Kernel28.nD Cert.Kernel28.τ).loc Cert.Kernel28.main_arg6))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
      ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3)
      ∧ r.2.mem ((c.tc : Thread Cert.Kernel28Ideal.nD Cert.Kernel28Ideal.τ).loc Cert.Kernel28Ideal.main_arg4) = m ((c.tc : Thread Cert.Kernel28Ideal.nD Cert.Kernel28Ideal.τ).loc Cert.Kernel28Ideal.main_arg4)
      ∧ r.2.mem ((c.tc : Thread Cert.Kernel28Ideal.nD Cert.Kernel28Ideal.τ).loc Cert.Kernel28Ideal.main_arg5) = m ((c.tc : Thread Cert.Kernel28Ideal.nD Cert.Kernel28Ideal.τ).loc Cert.Kernel28Ideal.main_arg5)
      ∧ r.2.mem ((c.tc : Thread Cert.Kernel28Ideal.nD Cert.Kernel28Ideal.τ).loc Cert.Kernel28Ideal.main_arg6) = m ((c.tc : Thread Cert.Kernel28Ideal.nD Cert.Kernel28Ideal.τ).loc Cert.Kernel28Ideal.main_arg6))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2)
      ∧ r.2.mem ((c.tc : Thread Cert.Reference28Ideal.nD Cert.Reference28Ideal.τ).loc Cert.Reference28Ideal.main_arg3) = m ((c.tc : Thread Cert.Reference28Ideal.nD Cert.Reference28Ideal.τ).loc Cert.Reference28Ideal.main_arg3)
      ∧ r.2.mem ((c.tc : Thread Cert.Reference28Ideal.nD Cert.Reference28Ideal.τ).loc Cert.Reference28Ideal.main_arg4) = m ((c.tc : Thread Cert.Reference28Ideal.nD Cert.Reference28Ideal.τ).loc Cert.Reference28Ideal.main_arg4)
      ∧ r.2.mem ((c.tc : Thread Cert.Reference28Ideal.nD Cert.Reference28Ideal.τ).loc Cert.Reference28Ideal.main_arg5) = m ((c.tc : Thread Cert.Reference28Ideal.nD Cert.Reference28Ideal.τ).loc Cert.Reference28Ideal.main_arg5)
      ∧ r.2.mem ((c.tc : Thread Cert.Reference28Ideal.nD Cert.Reference28Ideal.τ).loc Cert.Reference28Ideal.main_arg6) = m ((c.tc : Thread Cert.Reference28Ideal.nD Cert.Reference28Ideal.τ).loc Cert.Reference28Ideal.main_arg6))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1)
      ∧ r.2.mem ((c.tc : Thread Cert.Kernel29.nD Cert.Kernel29.τ).loc Cert.Kernel29.main_arg2) = m ((c.tc : Thread Cert.Kernel29.nD Cert.Kernel29.τ).loc Cert.Kernel29.main_arg2)
      ∧ r.2.mem ((c.tc : Thread Cert.Kernel29.nD Cert.Kernel29.τ).loc Cert.Kernel29.main_arg3) = m ((c.tc : Thread Cert.Kernel29.nD Cert.Kernel29.τ).loc Cert.Kernel29.main_arg3)
      ∧ r.2.mem ((c.tc : Thread Cert.Kernel29.nD Cert.Kernel29.τ).loc Cert.Kernel29.main_arg4) = m ((c.tc : Thread Cert.Kernel29.nD Cert.Kernel29.τ).loc Cert.Kernel29.main_arg4)
      ∧ r.2.mem ((c.tc : Thread Cert.Kernel29.nD Cert.Kernel29.τ).loc Cert.Kernel29.main_arg5) = m ((c.tc : Thread Cert.Kernel29.nD Cert.Kernel29.τ).loc Cert.Kernel29.main_arg5)
      ∧ r.2.mem ((c.tc : Thread Cert.Kernel29.nD Cert.Kernel29.τ).loc Cert.Kernel29.main_arg6) = m ((c.tc : Thread Cert.Kernel29.nD Cert.Kernel29.τ).loc Cert.Kernel29.main_arg6))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
      ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3)
      ∧ r.2.mem ((c.tc : Thread Cert.Kernel29Ideal.nD Cert.Kernel29Ideal.τ).loc Cert.Kernel29Ideal.main_arg4) = m ((c.tc : Thread Cert.Kernel29Ideal.nD Cert.Kernel29Ideal.τ).loc Cert.Kernel29Ideal.main_arg4)
      ∧ r.2.mem ((c.tc : Thread Cert.Kernel29Ideal.nD Cert.Kernel29Ideal.τ).loc Cert.Kernel29Ideal.main_arg5) = m ((c.tc : Thread Cert.Kernel29Ideal.nD Cert.Kernel29Ideal.τ).loc Cert.Kernel29Ideal.main_arg5)
      ∧ r.2.mem ((c.tc : Thread Cert.Kernel29Ideal.nD Cert.Kernel29Ideal.τ).loc Cert.Kernel29Ideal.main_arg6) = m ((c.tc : Thread Cert.Kernel29Ideal.nD Cert.Kernel29Ideal.τ).loc Cert.Kernel29Ideal.main_arg6))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2)
      ∧ r.2.mem ((c.tc : Thread Cert.Reference29Ideal.nD Cert.Reference29Ideal.τ).loc Cert.Reference29Ideal.main_arg3) = m ((c.tc : Thread Cert.Reference29Ideal.nD Cert.Reference29Ideal.τ).loc Cert.Reference29Ideal.main_arg3)
      ∧ r.2.mem ((c.tc : Thread Cert.Reference29Ideal.nD Cert.Reference29Ideal.τ).loc Cert.Reference29Ideal.main_arg4) = m ((c.tc : Thread Cert.Reference29Ideal.nD Cert.Reference29Ideal.τ).loc Cert.Reference29Ideal.main_arg4)
      ∧ r.2.mem ((c.tc : Thread Cert.Reference29Ideal.nD Cert.Reference29Ideal.τ).loc Cert.Reference29Ideal.main_arg5) = m ((c.tc : Thread Cert.Reference29Ideal.nD Cert.Reference29Ideal.τ).loc Cert.Reference29Ideal.main_arg5)
      ∧ r.2.mem ((c.tc : Thread Cert.Reference29Ideal.nD Cert.Reference29Ideal.τ).loc Cert.Reference29Ideal.main_arg6) = m ((c.tc : Thread Cert.Reference29Ideal.nD Cert.Reference29Ideal.τ).loc Cert.Reference29Ideal.main_arg6))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1)
      ∧ r.2.mem ((c.tc : Thread Cert.Kernel30.nD Cert.Kernel30.τ).loc Cert.Kernel30.main_arg2) = m ((c.tc : Thread Cert.Kernel30.nD Cert.Kernel30.τ).loc Cert.Kernel30.main_arg2)
      ∧ r.2.mem ((c.tc : Thread Cert.Kernel30.nD Cert.Kernel30.τ).loc Cert.Kernel30.main_arg3) = m ((c.tc : Thread Cert.Kernel30.nD Cert.Kernel30.τ).loc Cert.Kernel30.main_arg3)
      ∧ r.2.mem ((c.tc : Thread Cert.Kernel30.nD Cert.Kernel30.τ).loc Cert.Kernel30.main_arg4) = m ((c.tc : Thread Cert.Kernel30.nD Cert.Kernel30.τ).loc Cert.Kernel30.main_arg4)
      ∧ r.2.mem ((c.tc : Thread Cert.Kernel30.nD Cert.Kernel30.τ).loc Cert.Kernel30.main_arg5) = m ((c.tc : Thread Cert.Kernel30.nD Cert.Kernel30.τ).loc Cert.Kernel30.main_arg5)
      ∧ r.2.mem ((c.tc : Thread Cert.Kernel30.nD Cert.Kernel30.τ).loc Cert.Kernel30.main_arg6) = m ((c.tc : Thread Cert.Kernel30.nD Cert.Kernel30.τ).loc Cert.Kernel30.main_arg6))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
      ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
      ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3)
      ∧ r.2.mem ((c.tc : Thread Cert.Kernel30Ideal.nD Cert.Kernel30Ideal.τ).loc Cert.Kernel30Ideal.main_arg4) = m ((c.tc : Thread Cert.Kernel30Ideal.nD Cert.Kernel30Ideal.τ).loc Cert.Kernel30Ideal.main_arg4)
      ∧ r.2.mem ((c.tc : Thread Cert.Kernel30Ideal.nD Cert.Kernel30Ideal.τ).loc Cert.Kernel30Ideal.main_arg5) = m ((c.tc : Thread Cert.Kernel30Ideal.nD Cert.Kernel30Ideal.τ).loc Cert.Kernel30Ideal.main_arg5)
      ∧ r.2.mem ((c.tc : Thread Cert.Kernel30Ideal.nD Cert.Kernel30Ideal.τ).loc Cert.Kernel30Ideal.main_arg6) = m ((c.tc : Thread Cert.Kernel30Ideal.nD Cert.Kernel30Ideal.τ).loc Cert.Kernel30Ideal.main_arg6))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1)
      ∧ r.2.mem ((c.tc : Thread Cert.Reference30Ideal.nD Cert.Reference30Ideal.τ).loc Cert.Reference30Ideal.main_arg2) = m ((c.tc : Thread Cert.Reference30Ideal.nD Cert.Reference30Ideal.τ).loc Cert.Reference30Ideal.main_arg2)
      ∧ r.2.mem ((c.tc : Thread Cert.Reference30Ideal.nD Cert.Reference30Ideal.τ).loc Cert.Reference30Ideal.main_arg3) = m ((c.tc : Thread Cert.Reference30Ideal.nD Cert.Reference30Ideal.τ).loc Cert.Reference30Ideal.main_arg3)
      ∧ r.2.mem ((c.tc : Thread Cert.Reference30Ideal.nD Cert.Reference30Ideal.τ).loc Cert.Reference30Ideal.main_arg4) = m ((c.tc : Thread Cert.Reference30Ideal.nD Cert.Reference30Ideal.τ).loc Cert.Reference30Ideal.main_arg4)
      ∧ r.2.mem ((c.tc : Thread Cert.Reference30Ideal.nD Cert.Reference30Ideal.τ).loc Cert.Reference30Ideal.main_arg5) = m ((c.tc : Thread Cert.Reference30Ideal.nD Cert.Reference30Ideal.τ).loc Cert.Reference30Ideal.main_arg5)
      ∧ r.2.mem ((c.tc : Thread Cert.Reference30Ideal.nD Cert.Reference30Ideal.τ).loc Cert.Reference30Ideal.main_arg6) = m ((c.tc : Thread Cert.Reference30Ideal.nD Cert.Reference30Ideal.τ).loc Cert.Reference30Ideal.main_arg6))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1)
      ∧ r.2.mem ((c.tc : Thread Cert.Kernel31.nD Cert.Kernel31.τ).loc Cert.Kernel31.main_arg2) = m ((c.tc : Thread Cert.Kernel31.nD Cert.Kernel31.τ).loc Cert.Kernel31.main_arg2)
      ∧ r.2.mem ((c.tc : Thread Cert.Kernel31.nD Cert.Kernel31.τ).loc Cert.Kernel31.main_arg3) = m ((c.tc : Thread Cert.Kernel31.nD Cert.Kernel31.τ).loc Cert.Kernel31.main_arg3)
      ∧ r.2.mem ((c.tc : Thread Cert.Kernel31.nD Cert.Kernel31.τ).loc Cert.Kernel31.main_arg4) = m ((c.tc : Thread Cert.Kernel31.nD Cert.Kernel31.τ).loc Cert.Kernel31.main_arg4))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
      ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
      ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3)
      ∧ r.2.mem ((c.tc : Thread Cert.Kernel31Ideal.nD Cert.Kernel31Ideal.τ).loc Cert.Kernel31Ideal.main_arg4) = m ((c.tc : Thread Cert.Kernel31Ideal.nD Cert.Kernel31Ideal.τ).loc Cert.Kernel31Ideal.main_arg4))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1)
      ∧ r.2.mem ((c.tc : Thread Cert.Reference31Ideal.nD Cert.Reference31Ideal.τ).loc Cert.Reference31Ideal.main_arg2) = m ((c.tc : Thread Cert.Reference31Ideal.nD Cert.Reference31Ideal.τ).loc Cert.Reference31Ideal.main_arg2)
      ∧ r.2.mem ((c.tc : Thread Cert.Reference31Ideal.nD Cert.Reference31Ideal.τ).loc Cert.Reference31Ideal.main_arg3) = m ((c.tc : Thread Cert.Reference31Ideal.nD Cert.Reference31Ideal.τ).loc Cert.Reference31Ideal.main_arg3)
      ∧ r.2.mem ((c.tc : Thread Cert.Reference31Ideal.nD Cert.Reference31Ideal.τ).loc Cert.Reference31Ideal.main_arg4) = m ((c.tc : Thread Cert.Reference31Ideal.nD Cert.Reference31Ideal.τ).loc Cert.Reference31Ideal.main_arg4))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0)
      ∧ r.2.mem ((c.tc : Thread Cert.Kernel32.nD Cert.Kernel32.τ).loc Cert.Kernel32.main_arg1) = m ((c.tc : Thread Cert.Kernel32.nD Cert.Kernel32.τ).loc Cert.Kernel32.main_arg1)
      ∧ r.2.mem ((c.tc : Thread Cert.Kernel32.nD Cert.Kernel32.τ).loc Cert.Kernel32.main_arg2) = m ((c.tc : Thread Cert.Kernel32.nD Cert.Kernel32.τ).loc Cert.Kernel32.main_arg2)
      ∧ r.2.mem ((c.tc : Thread Cert.Kernel32.nD Cert.Kernel32.τ).loc Cert.Kernel32.main_arg3) = m ((c.tc : Thread Cert.Kernel32.nD Cert.Kernel32.τ).loc Cert.Kernel32.main_arg3)
      ∧ r.2.mem ((c.tc : Thread Cert.Kernel32.nD Cert.Kernel32.τ).loc Cert.Kernel32.main_arg4) = m ((c.tc : Thread Cert.Kernel32.nD Cert.Kernel32.τ).loc Cert.Kernel32.main_arg4))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
      ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
      ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3)
      ∧ r.2.mem ((c.tc : Thread Cert.Kernel32Ideal.nD Cert.Kernel32Ideal.τ).loc Cert.Kernel32Ideal.main_arg4) = m ((c.tc : Thread Cert.Kernel32Ideal.nD Cert.Kernel32Ideal.τ).loc Cert.Kernel32Ideal.main_arg4))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1)
      ∧ r.2.mem ((c.tc : Thread Cert.Reference32Ideal.nD Cert.Reference32Ideal.τ).loc Cert.Reference32Ideal.main_arg2) = m ((c.tc : Thread Cert.Reference32Ideal.nD Cert.Reference32Ideal.τ).loc Cert.Reference32Ideal.main_arg2)
      ∧ r.2.mem ((c.tc : Thread Cert.Reference32Ideal.nD Cert.Reference32Ideal.τ).loc Cert.Reference32Ideal.main_arg3) = m ((c.tc : Thread Cert.Reference32Ideal.nD Cert.Reference32Ideal.τ).loc Cert.Reference32Ideal.main_arg3)
      ∧ r.2.mem ((c.tc : Thread Cert.Reference32Ideal.nD Cert.Reference32Ideal.τ).loc Cert.Reference32Ideal.main_arg4) = m ((c.tc : Thread Cert.Reference32Ideal.nD Cert.Reference32Ideal.τ).loc Cert.Reference32Ideal.main_arg4))
      ∧ r.2.sem = fun _ => 0)

def quiescent_Kernel33 [hKernel33 : Cert.Kernel33.Facts] : Prop :=
  ∀ (m : (ℓ : Loc Cert.Kernel33.nD Cert.Kernel33.τ Cert.Kernel33.sig) → Buf (Elt Bits) ℓ) (g : Dev Cert.Kernel33.nD → PrngReg), Pre_Kernel33 m →
    θ_run (Cert.Kernel33.defs (F := Bits)) (onTc (τ := Cert.Kernel33.τ) (Cert.Kernel33.main (F := Bits))) ⟨m, fun _ => 0, g⟩ (fun r => (∀ c : Dev Cert.Kernel33.nD,
      r.2.mem ((c.tc : Thread Cert.Kernel33.nD Cert.Kernel33.τ).loc Cert.Kernel33.main_arg0) = m ((c.tc : Thread Cert.Kernel33.nD Cert.Kernel33.τ).loc Cert.Kernel33.main_arg0)
      ∧ r.2.mem ((c.tc : Thread Cert.Kernel33.nD Cert.Kernel33.τ).loc Cert.Kernel33.main_arg1) = m ((c.tc : Thread Cert.Kernel33.nD Cert.Kernel33.τ).loc Cert.Kernel33.main_arg1)
      ∧ r.2.mem ((c.tc : Thread Cert.Kernel33.nD Cert.Kernel33.τ).loc Cert.Kernel33.main_arg2) = m ((c.tc : Thread Cert.Kernel33.nD Cert.Kernel33.τ).loc Cert.Kernel33.main_arg2)
      ∧ r.2.mem ((c.tc : Thread Cert.Kernel33.nD Cert.Kernel33.τ).loc Cert.Kernel33.main_arg3) = m ((c.tc : Thread Cert.Kernel33.nD Cert.Kernel33.τ).loc Cert.Kernel33.main_arg3)
      ∧ r.2.mem ((c.tc : Thread Cert.Kernel33.nD Cert.Kernel33.τ).loc Cert.Kernel33.main_arg4) = m ((c.tc : Thread Cert.Kernel33.nD Cert.Kernel33.τ).loc Cert.Kernel33.main_arg4))
      ∧ r.2.sem = fun _ => 0)

def quiescent_Kernel33Ideal [hKernel33Ideal : Cert.Kernel33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg), Pre_Kernel33Ideal m →
    θ_run (Cert.Kernel33Ideal.defs (F := Ideal)) (onTc (τ := Cert.Kernel33Ideal.τ) (Cert.Kernel33Ideal.main (F := Ideal))) ⟨m, fun _ => 0, g⟩ (fun r => (∀ c : Dev Cert.Kernel33Ideal.nD,
      r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
      ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
      ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2)
      ∧ r.2.mem ((c.tc : Thread Cert.Kernel33Ideal.nD Cert.Kernel33Ideal.τ).loc Cert.Kernel33Ideal.main_arg3) = m ((c.tc : Thread Cert.Kernel33Ideal.nD Cert.Kernel33Ideal.τ).loc Cert.Kernel33Ideal.main_arg3)
      ∧ r.2.mem ((c.tc : Thread Cert.Kernel33Ideal.nD Cert.Kernel33Ideal.τ).loc Cert.Kernel33Ideal.main_arg4) = m ((c.tc : Thread Cert.Kernel33Ideal.nD Cert.Kernel33Ideal.τ).loc Cert.Kernel33Ideal.main_arg4))
      ∧ r.2.sem = fun _ => 0)

def quiescent_Reference33Ideal [hReference33Ideal : Cert.Reference33Ideal.Facts] : Prop :=
  ∀ (m : (ℓ : Loc Cert.Reference33Ideal.nD Cert.Reference33Ideal.τ Cert.Reference33Ideal.sig) → Buf (Elt Ideal) ℓ) (g : Dev Cert.Reference33Ideal.nD → PrngReg), Pre_Reference33Ideal m →
    θ_run (Cert.Reference33Ideal.defs (F := Ideal)) (onTc (τ := Cert.Reference33Ideal.τ) (Cert.Reference33Ideal.main (F := Ideal))) ⟨m, fun _ => 0, g⟩ (fun r => (∀ c : Dev Cert.Reference33Ideal.nD,
      r.2.mem ((c.tc : Thread Cert.Reference33Ideal.nD Cert.Reference33Ideal.τ).loc Cert.Reference33Ideal.main_arg0) = m ((c.tc : Thread Cert.Reference33Ideal.nD Cert.Reference33Ideal.τ).loc Cert.Reference33Ideal.main_arg0)
      ∧ r.2.mem ((c.tc : Thread Cert.Reference33Ideal.nD Cert.Reference33Ideal.τ).loc Cert.Reference33Ideal.main_arg1) = m ((c.tc : Thread Cert.Reference33Ideal.nD Cert.Reference33Ideal.τ).loc Cert.Reference33Ideal.main_arg1)
      ∧ r.2.mem ((c.tc : Thread Cert.Reference33Ideal.nD Cert.Reference33Ideal.τ).loc Cert.Reference33Ideal.main_arg2) = m ((c.tc : Thread Cert.Reference33Ideal.nD Cert.Reference33Ideal.τ).loc Cert.Reference33Ideal.main_arg2)
      ∧ r.2.mem ((c.tc : Thread Cert.Reference33Ideal.nD Cert.Reference33Ideal.τ).loc Cert.Reference33Ideal.main_arg3) = m ((c.tc : Thread Cert.Reference33Ideal.nD Cert.Reference33Ideal.τ).loc Cert.Reference33Ideal.main_arg3)
      ∧ r.2.mem ((c.tc : Thread Cert.Reference33Ideal.nD Cert.Reference33Ideal.τ).loc Cert.Reference33Ideal.main_arg4) = m ((c.tc : Thread Cert.Reference33Ideal.nD Cert.Reference33Ideal.τ).loc Cert.Reference33Ideal.main_arg4))
      ∧ r.2.sem = fun _ => 0)

def quiescent_Kernel34 [hKernel34 : Cert.Kernel34.Facts] : Prop :=
  ∀ (m : (ℓ : Loc Cert.Kernel34.nD Cert.Kernel34.τ Cert.Kernel34.sig) → Buf (Elt Bits) ℓ) (g : Dev Cert.Kernel34.nD → PrngReg), Pre_Kernel34 m →
    θ_run (Cert.Kernel34.defs (F := Bits)) (onTc (τ := Cert.Kernel34.τ) (Cert.Kernel34.main (F := Bits))) ⟨m, fun _ => 0, g⟩ (fun r => (∀ c : Dev Cert.Kernel34.nD,
      r.2.mem ((c.tc : Thread Cert.Kernel34.nD Cert.Kernel34.τ).loc Cert.Kernel34.main_arg0) = m ((c.tc : Thread Cert.Kernel34.nD Cert.Kernel34.τ).loc Cert.Kernel34.main_arg0)
      ∧ r.2.mem ((c.tc : Thread Cert.Kernel34.nD Cert.Kernel34.τ).loc Cert.Kernel34.main_arg1) = m ((c.tc : Thread Cert.Kernel34.nD Cert.Kernel34.τ).loc Cert.Kernel34.main_arg1)
      ∧ r.2.mem ((c.tc : Thread Cert.Kernel34.nD Cert.Kernel34.τ).loc Cert.Kernel34.main_arg2) = m ((c.tc : Thread Cert.Kernel34.nD Cert.Kernel34.τ).loc Cert.Kernel34.main_arg2)
      ∧ r.2.mem ((c.tc : Thread Cert.Kernel34.nD Cert.Kernel34.τ).loc Cert.Kernel34.main_arg3) = m ((c.tc : Thread Cert.Kernel34.nD Cert.Kernel34.τ).loc Cert.Kernel34.main_arg3)
      ∧ r.2.mem ((c.tc : Thread Cert.Kernel34.nD Cert.Kernel34.τ).loc Cert.Kernel34.main_arg4) = m ((c.tc : Thread Cert.Kernel34.nD Cert.Kernel34.τ).loc Cert.Kernel34.main_arg4))
      ∧ r.2.sem = fun _ => 0)

def quiescent_Kernel34Ideal [hKernel34Ideal : Cert.Kernel34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg), Pre_Kernel34Ideal m →
    θ_run (Cert.Kernel34Ideal.defs (F := Ideal)) (onTc (τ := Cert.Kernel34Ideal.τ) (Cert.Kernel34Ideal.main (F := Ideal))) ⟨m, fun _ => 0, g⟩ (fun r => (∀ c : Dev Cert.Kernel34Ideal.nD,
      r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
      ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
      ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2)
      ∧ r.2.mem ((c.tc : Thread Cert.Kernel34Ideal.nD Cert.Kernel34Ideal.τ).loc Cert.Kernel34Ideal.main_arg3) = m ((c.tc : Thread Cert.Kernel34Ideal.nD Cert.Kernel34Ideal.τ).loc Cert.Kernel34Ideal.main_arg3)
      ∧ r.2.mem ((c.tc : Thread Cert.Kernel34Ideal.nD Cert.Kernel34Ideal.τ).loc Cert.Kernel34Ideal.main_arg4) = m ((c.tc : Thread Cert.Kernel34Ideal.nD Cert.Kernel34Ideal.τ).loc Cert.Kernel34Ideal.main_arg4))
      ∧ r.2.sem = fun _ => 0)

def quiescent_Reference34Ideal [hReference34Ideal : Cert.Reference34Ideal.Facts] : Prop :=
  ∀ (m : (ℓ : Loc Cert.Reference34Ideal.nD Cert.Reference34Ideal.τ Cert.Reference34Ideal.sig) → Buf (Elt Ideal) ℓ) (g : Dev Cert.Reference34Ideal.nD → PrngReg), Pre_Reference34Ideal m →
    θ_run (Cert.Reference34Ideal.defs (F := Ideal)) (onTc (τ := Cert.Reference34Ideal.τ) (Cert.Reference34Ideal.main (F := Ideal))) ⟨m, fun _ => 0, g⟩ (fun r => (∀ c : Dev Cert.Reference34Ideal.nD,
      r.2.mem ((c.tc : Thread Cert.Reference34Ideal.nD Cert.Reference34Ideal.τ).loc Cert.Reference34Ideal.main_arg0) = m ((c.tc : Thread Cert.Reference34Ideal.nD Cert.Reference34Ideal.τ).loc Cert.Reference34Ideal.main_arg0)
      ∧ r.2.mem ((c.tc : Thread Cert.Reference34Ideal.nD Cert.Reference34Ideal.τ).loc Cert.Reference34Ideal.main_arg1) = m ((c.tc : Thread Cert.Reference34Ideal.nD Cert.Reference34Ideal.τ).loc Cert.Reference34Ideal.main_arg1)
      ∧ r.2.mem ((c.tc : Thread Cert.Reference34Ideal.nD Cert.Reference34Ideal.τ).loc Cert.Reference34Ideal.main_arg2) = m ((c.tc : Thread Cert.Reference34Ideal.nD Cert.Reference34Ideal.τ).loc Cert.Reference34Ideal.main_arg2)
      ∧ r.2.mem ((c.tc : Thread Cert.Reference34Ideal.nD Cert.Reference34Ideal.τ).loc Cert.Reference34Ideal.main_arg3) = m ((c.tc : Thread Cert.Reference34Ideal.nD Cert.Reference34Ideal.τ).loc Cert.Reference34Ideal.main_arg3)
      ∧ r.2.mem ((c.tc : Thread Cert.Reference34Ideal.nD Cert.Reference34Ideal.τ).loc Cert.Reference34Ideal.main_arg4) = m ((c.tc : Thread Cert.Reference34Ideal.nD Cert.Reference34Ideal.τ).loc Cert.Reference34Ideal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v19_0)) (v1 : (c : Dev Cert.KernelIdeal.nD) → Buf (Elt Ideal) ((c.tc : Thread Cert.KernelIdeal.nD Cert.KernelIdeal.τ).loc Cert.KernelIdeal.main_v19_1)) (v2 : (c : Dev Cert.KernelIdeal.nD) → Buf (Elt Ideal) ((c.tc : Thread Cert.KernelIdeal.nD Cert.KernelIdeal.τ).loc Cert.KernelIdeal.main_v19_2)) (v3 : (c : Dev Cert.KernelIdeal.nD) → Buf (Elt Ideal) ((c.tc : Thread Cert.KernelIdeal.nD Cert.KernelIdeal.τ).loc Cert.KernelIdeal.main_v19_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19_0) = v0 c
          ∧ r.2.mem ((c.tc : Thread Cert.KernelIdeal.nD Cert.KernelIdeal.τ).loc Cert.KernelIdeal.main_v19_1) = v1 c
          ∧ r.2.mem ((c.tc : Thread Cert.KernelIdeal.nD Cert.KernelIdeal.τ).loc Cert.KernelIdeal.main_v19_2) = v2 c
          ∧ r.2.mem ((c.tc : Thread Cert.KernelIdeal.nD Cert.KernelIdeal.τ).loc Cert.KernelIdeal.main_v19_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_v41) = v1 c
          ∧ r.2.mem ((c.tc : Thread Cert.ReferenceIdeal.nD Cert.ReferenceIdeal.τ).loc Cert.ReferenceIdeal.main_v85) = v2 c
          ∧ r.2.mem ((c.tc : Thread Cert.ReferenceIdeal.nD Cert.ReferenceIdeal.τ).loc Cert.ReferenceIdeal.main_v86) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)) (v2 : (c : Dev Cert.Kernel2Ideal.nD) → Buf (Elt Ideal) ((c.tc : Thread Cert.Kernel2Ideal.nD Cert.Kernel2Ideal.τ).loc Cert.Kernel2Ideal.main_v0_2)) (v3 : (c : Dev Cert.Kernel2Ideal.nD) → Buf (Elt Ideal) ((c.tc : Thread Cert.Kernel2Ideal.nD Cert.Kernel2Ideal.τ).loc Cert.Kernel2Ideal.main_v0_3)) (v4 : (c : Dev Cert.Kernel2Ideal.nD) → Buf (Elt Ideal) ((c.tc : Thread Cert.Kernel2Ideal.nD Cert.Kernel2Ideal.τ).loc Cert.Kernel2Ideal.main_v0_4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_v0_2) = v2 c
          ∧ r.2.mem ((c.tc : Thread Cert.Kernel2Ideal.nD Cert.Kernel2Ideal.τ).loc Cert.Kernel2Ideal.main_v0_3) = v3 c
          ∧ r.2.mem ((c.tc : Thread Cert.Kernel2Ideal.nD Cert.Kernel2Ideal.τ).loc Cert.Kernel2Ideal.main_v0_4) = v4 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v24) = v0 c
          ∧ r.2.mem ((c.tc : Thread Cert.Reference2Ideal.nD Cert.Reference2Ideal.τ).loc Cert.Reference2Ideal.main_v25) = v1 c
          ∧ r.2.mem ((c.tc : Thread Cert.Reference2Ideal.nD Cert.Reference2Ideal.τ).loc Cert.Reference2Ideal.main_v26) = v2 c
          ∧ r.2.mem ((c.tc : Thread Cert.Reference2Ideal.nD Cert.Reference2Ideal.τ).loc Cert.Reference2Ideal.main_v27) = v3 c
          ∧ r.2.mem ((c.tc : Thread Cert.Reference2Ideal.nD Cert.Reference2Ideal.τ).loc Cert.Reference2Ideal.main_v28) = v4 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v13) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v14)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v14) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v23) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v13)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v13) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v25) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal_pre_finite6 [hKernel6Ideal : Cert.Kernel6Ideal.Facts] [hReference6Ideal : Cert.Reference6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite6 m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v69) = v0 c
          ∧ r.2.mem ((c.tc : Thread Cert.Reference6Ideal.nD Cert.Reference6Ideal.τ).loc Cert.Reference6Ideal.main_v70) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v5) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v6) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v7) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v7) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v7) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v4) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v39) = v0 c
          ∧ r.2.mem ((c.tc : Thread Cert.Reference13Ideal.nD Cert.Reference13Ideal.τ).loc Cert.Reference13Ideal.main_v22) = v1 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v39) = v0 c
          ∧ r.2.mem ((c.tc : Thread Cert.Reference14Ideal.nD Cert.Reference14Ideal.τ).loc Cert.Reference14Ideal.main_v22) = v1 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v39) = v0 c
          ∧ r.2.mem ((c.tc : Thread Cert.Reference15Ideal.nD Cert.Reference15Ideal.τ).loc Cert.Reference15Ideal.main_v22) = v1 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v12) = v0 c
          ∧ r.2.mem ((c.tc : Thread Cert.Reference16Ideal.nD Cert.Reference16Ideal.τ).loc Cert.Reference16Ideal.main_v16) = v1 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v12) = v0 c
          ∧ r.2.mem ((c.tc : Thread Cert.Reference17Ideal.nD Cert.Reference17Ideal.τ).loc Cert.Reference17Ideal.main_v16) = v1 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2))

def preserves_Kernel18_Kernel18Ideal : Prop :=
  True

def algebraic_Kernel18Ideal_Reference18Ideal_pre_finite18 [hKernel18Ideal : Cert.Kernel18Ideal.Facts] [hReference18Ideal : Cert.Reference18Ideal.Facts] [hPre_finite18 : Cert.Pre_finite18.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal_finite18 m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)
      ∧ m' ((c.tc : Thread Cert.Reference18Ideal.nD Cert.Reference18Ideal.τ).loc Cert.Reference18Ideal.main_arg4) = m ((c.tc : Thread Cert.Kernel18Ideal.nD Cert.Kernel18Ideal.τ).loc Cert.Kernel18Ideal.main_arg4)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)) (v3 : (c : Dev Cert.Kernel18Ideal.nD) → Buf (Elt Ideal) ((c.tc : Thread Cert.Kernel18Ideal.nD Cert.Kernel18Ideal.τ).loc Cert.Kernel18Ideal.main_v0_3)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_v0_3) = v3 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
          ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v42) = v0 c
          ∧ r.2.mem ((c.tc : Thread Cert.Reference18Ideal.nD Cert.Reference18Ideal.τ).loc Cert.Reference18Ideal.main_v43) = v1 c
          ∧ r.2.mem ((c.tc : Thread Cert.Reference18Ideal.nD Cert.Reference18Ideal.τ).loc Cert.Reference18Ideal.main_v44) = v2 c
          ∧ r.2.mem ((c.tc : Thread Cert.Reference18Ideal.nD Cert.Reference18Ideal.τ).loc Cert.Reference18Ideal.main_v45) = v3 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3)
          ∧ r.2.mem ((c.tc : Thread Cert.Reference18Ideal.nD Cert.Reference18Ideal.τ).loc Cert.Reference18Ideal.main_arg4) = m' ((c.tc : Thread Cert.Reference18Ideal.nD Cert.Reference18Ideal.τ).loc Cert.Reference18Ideal.main_arg4))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v12) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v0)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v4) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)) →
    ∃ (v0 : (c : Dev Cert.Kernel21Ideal.nD) → Buf (Elt Ideal) ((c.tc : Thread Cert.Kernel21Ideal.nD Cert.Kernel21Ideal.τ).loc Cert.Kernel21Ideal.main_v0)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v6) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)) →
    ∃ (v0 : (c : Dev Cert.Kernel22Ideal.nD) → Buf (Elt Ideal) ((c.tc : Thread Cert.Kernel22Ideal.nD Cert.Kernel22Ideal.τ).loc Cert.Kernel22Ideal.main_v0)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v4) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)) →
    ∃ (v0 : (c : Dev Cert.Kernel23Ideal.nD) → Buf (Elt Ideal) ((c.tc : Thread Cert.Kernel23Ideal.nD Cert.Kernel23Ideal.τ).loc Cert.Kernel23Ideal.main_v0)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v14) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)) →
    ∃ (v0 : (c : Dev Cert.Kernel24Ideal.nD) → Buf (Elt Ideal) ((c.tc : Thread Cert.Kernel24Ideal.nD Cert.Kernel24Ideal.τ).loc Cert.Kernel24Ideal.main_v0_0)) (v1 : (c : Dev Cert.Kernel24Ideal.nD) → Buf (Elt Ideal) ((c.tc : Thread Cert.Kernel24Ideal.nD Cert.Kernel24Ideal.τ).loc Cert.Kernel24Ideal.main_v0_1)) (v2 : (c : Dev Cert.Kernel24Ideal.nD) → Buf (Elt Ideal) ((c.tc : Thread Cert.Kernel24Ideal.nD Cert.Kernel24Ideal.τ).loc Cert.Kernel24Ideal.main_v0_2)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0_0) = v0 c
          ∧ r.2.mem ((c.tc : Thread Cert.Kernel24Ideal.nD Cert.Kernel24Ideal.τ).loc Cert.Kernel24Ideal.main_v0_1) = v1 c
          ∧ r.2.mem ((c.tc : Thread Cert.Kernel24Ideal.nD Cert.Kernel24Ideal.τ).loc Cert.Kernel24Ideal.main_v0_2) = v2 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v49) = v0 c
          ∧ r.2.mem ((c.tc : Thread Cert.Reference24Ideal.nD Cert.Reference24Ideal.τ).loc Cert.Reference24Ideal.main_v48) = v1 c
          ∧ r.2.mem ((c.tc : Thread Cert.Reference24Ideal.nD Cert.Reference24Ideal.τ).loc Cert.Reference24Ideal.main_v32) = v2 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)) →
    ∃ (v0 : (c : Dev Cert.Kernel25Ideal.nD) → Buf (Elt Ideal) ((c.tc : Thread Cert.Kernel25Ideal.nD Cert.Kernel25Ideal.τ).loc Cert.Kernel25Ideal.main_v1_0)) (v1 : (c : Dev Cert.Kernel25Ideal.nD) → Buf (Elt Ideal) ((c.tc : Thread Cert.Kernel25Ideal.nD Cert.Kernel25Ideal.τ).loc Cert.Kernel25Ideal.main_v1_1)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v1_0) = v0 c
          ∧ r.2.mem ((c.tc : Thread Cert.Kernel25Ideal.nD Cert.Kernel25Ideal.τ).loc Cert.Kernel25Ideal.main_v1_1) = v1 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v24) = v0 c
          ∧ r.2.mem ((c.tc : Thread Cert.Reference25Ideal.nD Cert.Reference25Ideal.τ).loc Cert.Reference25Ideal.main_v25) = v1 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)) →
    ∃ (v0 : (c : Dev Cert.Kernel26Ideal.nD) → Buf (Elt Ideal) ((c.tc : Thread Cert.Kernel26Ideal.nD Cert.Kernel26Ideal.τ).loc Cert.Kernel26Ideal.main_v26_0)) (v1 : (c : Dev Cert.Kernel26Ideal.nD) → Buf (Elt Ideal) ((c.tc : Thread Cert.Kernel26Ideal.nD Cert.Kernel26Ideal.τ).loc Cert.Kernel26Ideal.main_v26_1)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v26_0) = v0 c
          ∧ r.2.mem ((c.tc : Thread Cert.Kernel26Ideal.nD Cert.Kernel26Ideal.τ).loc Cert.Kernel26Ideal.main_v26_1) = v1 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v62) = v0 c
          ∧ r.2.mem ((c.tc : Thread Cert.Reference26Ideal.nD Cert.Reference26Ideal.τ).loc Cert.Reference26Ideal.main_v64) = v1 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)
      ∧ m' ((c.tc : Thread Cert.Reference27Ideal.nD Cert.Reference27Ideal.τ).loc Cert.Reference27Ideal.main_arg3) = m ((c.tc : Thread Cert.Kernel27Ideal.nD Cert.Kernel27Ideal.τ).loc Cert.Kernel27Ideal.main_arg3)
      ∧ m' ((c.tc : Thread Cert.Reference27Ideal.nD Cert.Reference27Ideal.τ).loc Cert.Reference27Ideal.main_arg4) = m ((c.tc : Thread Cert.Kernel27Ideal.nD Cert.Kernel27Ideal.τ).loc Cert.Kernel27Ideal.main_arg4)
      ∧ m' ((c.tc : Thread Cert.Reference27Ideal.nD Cert.Reference27Ideal.τ).loc Cert.Reference27Ideal.main_arg5) = m ((c.tc : Thread Cert.Kernel27Ideal.nD Cert.Kernel27Ideal.τ).loc Cert.Kernel27Ideal.main_arg5)
      ∧ m' ((c.tc : Thread Cert.Reference27Ideal.nD Cert.Reference27Ideal.τ).loc Cert.Reference27Ideal.main_arg6) = m ((c.tc : Thread Cert.Kernel27Ideal.nD Cert.Kernel27Ideal.τ).loc Cert.Kernel27Ideal.main_arg6)) →
    ∃ (v0 : (c : Dev Cert.Kernel27Ideal.nD) → Buf (Elt Ideal) ((c.tc : Thread Cert.Kernel27Ideal.nD Cert.Kernel27Ideal.τ).loc Cert.Kernel27Ideal.main_v0_0)) (v1 : (c : Dev Cert.Kernel27Ideal.nD) → Buf (Elt Ideal) ((c.tc : Thread Cert.Kernel27Ideal.nD Cert.Kernel27Ideal.τ).loc Cert.Kernel27Ideal.main_v0_1)) (v2 : (c : Dev Cert.Kernel27Ideal.nD) → Buf (Elt Ideal) ((c.tc : Thread Cert.Kernel27Ideal.nD Cert.Kernel27Ideal.τ).loc Cert.Kernel27Ideal.main_v0_2)) (v3 : (c : Dev Cert.Kernel27Ideal.nD) → Buf (Elt Ideal) ((c.tc : Thread Cert.Kernel27Ideal.nD Cert.Kernel27Ideal.τ).loc Cert.Kernel27Ideal.main_v0_3)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0_0) = v0 c
          ∧ r.2.mem ((c.tc : Thread Cert.Kernel27Ideal.nD Cert.Kernel27Ideal.τ).loc Cert.Kernel27Ideal.main_v0_1) = v1 c
          ∧ r.2.mem ((c.tc : Thread Cert.Kernel27Ideal.nD Cert.Kernel27Ideal.τ).loc Cert.Kernel27Ideal.main_v0_2) = v2 c
          ∧ r.2.mem ((c.tc : Thread Cert.Kernel27Ideal.nD Cert.Kernel27Ideal.τ).loc Cert.Kernel27Ideal.main_v0_3) = v3 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
          ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3)
          ∧ r.2.mem ((c.tc : Thread Cert.Kernel27Ideal.nD Cert.Kernel27Ideal.τ).loc Cert.Kernel27Ideal.main_arg4) = m ((c.tc : Thread Cert.Kernel27Ideal.nD Cert.Kernel27Ideal.τ).loc Cert.Kernel27Ideal.main_arg4)
          ∧ r.2.mem ((c.tc : Thread Cert.Kernel27Ideal.nD Cert.Kernel27Ideal.τ).loc Cert.Kernel27Ideal.main_arg5) = m ((c.tc : Thread Cert.Kernel27Ideal.nD Cert.Kernel27Ideal.τ).loc Cert.Kernel27Ideal.main_arg5)
          ∧ r.2.mem ((c.tc : Thread Cert.Kernel27Ideal.nD Cert.Kernel27Ideal.τ).loc Cert.Kernel27Ideal.main_arg6) = m ((c.tc : Thread Cert.Kernel27Ideal.nD Cert.Kernel27Ideal.τ).loc Cert.Kernel27Ideal.main_arg6))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v2) = v0 c
          ∧ r.2.mem ((c.tc : Thread Cert.Reference27Ideal.nD Cert.Reference27Ideal.τ).loc Cert.Reference27Ideal.main_v26) = v1 c
          ∧ r.2.mem ((c.tc : Thread Cert.Reference27Ideal.nD Cert.Reference27Ideal.τ).loc Cert.Reference27Ideal.main_v7) = v2 c
          ∧ r.2.mem ((c.tc : Thread Cert.Reference27Ideal.nD Cert.Reference27Ideal.τ).loc Cert.Reference27Ideal.main_v13) = v3 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2)
          ∧ r.2.mem ((c.tc : Thread Cert.Reference27Ideal.nD Cert.Reference27Ideal.τ).loc Cert.Reference27Ideal.main_arg3) = m' ((c.tc : Thread Cert.Reference27Ideal.nD Cert.Reference27Ideal.τ).loc Cert.Reference27Ideal.main_arg3)
          ∧ r.2.mem ((c.tc : Thread Cert.Reference27Ideal.nD Cert.Reference27Ideal.τ).loc Cert.Reference27Ideal.main_arg4) = m' ((c.tc : Thread Cert.Reference27Ideal.nD Cert.Reference27Ideal.τ).loc Cert.Reference27Ideal.main_arg4)
          ∧ r.2.mem ((c.tc : Thread Cert.Reference27Ideal.nD Cert.Reference27Ideal.τ).loc Cert.Reference27Ideal.main_arg5) = m' ((c.tc : Thread Cert.Reference27Ideal.nD Cert.Reference27Ideal.τ).loc Cert.Reference27Ideal.main_arg5)
          ∧ r.2.mem ((c.tc : Thread Cert.Reference27Ideal.nD Cert.Reference27Ideal.τ).loc Cert.Reference27Ideal.main_arg6) = m' ((c.tc : Thread Cert.Reference27Ideal.nD Cert.Reference27Ideal.τ).loc Cert.Reference27Ideal.main_arg6))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)
      ∧ m' ((c.tc : Thread Cert.Reference28Ideal.nD Cert.Reference28Ideal.τ).loc Cert.Reference28Ideal.main_arg3) = m ((c.tc : Thread Cert.Kernel28Ideal.nD Cert.Kernel28Ideal.τ).loc Cert.Kernel28Ideal.main_arg3)
      ∧ m' ((c.tc : Thread Cert.Reference28Ideal.nD Cert.Reference28Ideal.τ).loc Cert.Reference28Ideal.main_arg4) = m ((c.tc : Thread Cert.Kernel28Ideal.nD Cert.Kernel28Ideal.τ).loc Cert.Kernel28Ideal.main_arg4)
      ∧ m' ((c.tc : Thread Cert.Reference28Ideal.nD Cert.Reference28Ideal.τ).loc Cert.Reference28Ideal.main_arg5) = m ((c.tc : Thread Cert.Kernel28Ideal.nD Cert.Kernel28Ideal.τ).loc Cert.Kernel28Ideal.main_arg5)
      ∧ m' ((c.tc : Thread Cert.Reference28Ideal.nD Cert.Reference28Ideal.τ).loc Cert.Reference28Ideal.main_arg6) = m ((c.tc : Thread Cert.Kernel28Ideal.nD Cert.Kernel28Ideal.τ).loc Cert.Kernel28Ideal.main_arg6)) →
    ∃ (v0 : (c : Dev Cert.Kernel28Ideal.nD) → Buf (Elt Ideal) ((c.tc : Thread Cert.Kernel28Ideal.nD Cert.Kernel28Ideal.τ).loc Cert.Kernel28Ideal.main_v0_0)) (v1 : (c : Dev Cert.Kernel28Ideal.nD) → Buf (Elt Ideal) ((c.tc : Thread Cert.Kernel28Ideal.nD Cert.Kernel28Ideal.τ).loc Cert.Kernel28Ideal.main_v0_1)) (v2 : (c : Dev Cert.Kernel28Ideal.nD) → Buf (Elt Ideal) ((c.tc : Thread Cert.Kernel28Ideal.nD Cert.Kernel28Ideal.τ).loc Cert.Kernel28Ideal.main_v0_2)) (v3 : (c : Dev Cert.Kernel28Ideal.nD) → Buf (Elt Ideal) ((c.tc : Thread Cert.Kernel28Ideal.nD Cert.Kernel28Ideal.τ).loc Cert.Kernel28Ideal.main_v0_3)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0_0) = v0 c
          ∧ r.2.mem ((c.tc : Thread Cert.Kernel28Ideal.nD Cert.Kernel28Ideal.τ).loc Cert.Kernel28Ideal.main_v0_1) = v1 c
          ∧ r.2.mem ((c.tc : Thread Cert.Kernel28Ideal.nD Cert.Kernel28Ideal.τ).loc Cert.Kernel28Ideal.main_v0_2) = v2 c
          ∧ r.2.mem ((c.tc : Thread Cert.Kernel28Ideal.nD Cert.Kernel28Ideal.τ).loc Cert.Kernel28Ideal.main_v0_3) = v3 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
          ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3)
          ∧ r.2.mem ((c.tc : Thread Cert.Kernel28Ideal.nD Cert.Kernel28Ideal.τ).loc Cert.Kernel28Ideal.main_arg4) = m ((c.tc : Thread Cert.Kernel28Ideal.nD Cert.Kernel28Ideal.τ).loc Cert.Kernel28Ideal.main_arg4)
          ∧ r.2.mem ((c.tc : Thread Cert.Kernel28Ideal.nD Cert.Kernel28Ideal.τ).loc Cert.Kernel28Ideal.main_arg5) = m ((c.tc : Thread Cert.Kernel28Ideal.nD Cert.Kernel28Ideal.τ).loc Cert.Kernel28Ideal.main_arg5)
          ∧ r.2.mem ((c.tc : Thread Cert.Kernel28Ideal.nD Cert.Kernel28Ideal.τ).loc Cert.Kernel28Ideal.main_arg6) = m ((c.tc : Thread Cert.Kernel28Ideal.nD Cert.Kernel28Ideal.τ).loc Cert.Kernel28Ideal.main_arg6))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v2) = v0 c
          ∧ r.2.mem ((c.tc : Thread Cert.Reference28Ideal.nD Cert.Reference28Ideal.τ).loc Cert.Reference28Ideal.main_v26) = v1 c
          ∧ r.2.mem ((c.tc : Thread Cert.Reference28Ideal.nD Cert.Reference28Ideal.τ).loc Cert.Reference28Ideal.main_v7) = v2 c
          ∧ r.2.mem ((c.tc : Thread Cert.Reference28Ideal.nD Cert.Reference28Ideal.τ).loc Cert.Reference28Ideal.main_v13) = v3 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2)
          ∧ r.2.mem ((c.tc : Thread Cert.Reference28Ideal.nD Cert.Reference28Ideal.τ).loc Cert.Reference28Ideal.main_arg3) = m' ((c.tc : Thread Cert.Reference28Ideal.nD Cert.Reference28Ideal.τ).loc Cert.Reference28Ideal.main_arg3)
          ∧ r.2.mem ((c.tc : Thread Cert.Reference28Ideal.nD Cert.Reference28Ideal.τ).loc Cert.Reference28Ideal.main_arg4) = m' ((c.tc : Thread Cert.Reference28Ideal.nD Cert.Reference28Ideal.τ).loc Cert.Reference28Ideal.main_arg4)
          ∧ r.2.mem ((c.tc : Thread Cert.Reference28Ideal.nD Cert.Reference28Ideal.τ).loc Cert.Reference28Ideal.main_arg5) = m' ((c.tc : Thread Cert.Reference28Ideal.nD Cert.Reference28Ideal.τ).loc Cert.Reference28Ideal.main_arg5)
          ∧ r.2.mem ((c.tc : Thread Cert.Reference28Ideal.nD Cert.Reference28Ideal.τ).loc Cert.Reference28Ideal.main_arg6) = m' ((c.tc : Thread Cert.Reference28Ideal.nD Cert.Reference28Ideal.τ).loc Cert.Reference28Ideal.main_arg6))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)
      ∧ m' ((c.tc : Thread Cert.Reference29Ideal.nD Cert.Reference29Ideal.τ).loc Cert.Reference29Ideal.main_arg2) = m ((c.tc : Thread Cert.Kernel29Ideal.nD Cert.Kernel29Ideal.τ).loc Cert.Kernel29Ideal.main_arg2)
      ∧ m' ((c.tc : Thread Cert.Reference29Ideal.nD Cert.Reference29Ideal.τ).loc Cert.Reference29Ideal.main_arg3) = m ((c.tc : Thread Cert.Kernel29Ideal.nD Cert.Kernel29Ideal.τ).loc Cert.Kernel29Ideal.main_arg3)
      ∧ m' ((c.tc : Thread Cert.Reference29Ideal.nD Cert.Reference29Ideal.τ).loc Cert.Reference29Ideal.main_arg4) = m ((c.tc : Thread Cert.Kernel29Ideal.nD Cert.Kernel29Ideal.τ).loc Cert.Kernel29Ideal.main_arg4)
      ∧ m' ((c.tc : Thread Cert.Reference29Ideal.nD Cert.Reference29Ideal.τ).loc Cert.Reference29Ideal.main_arg5) = m ((c.tc : Thread Cert.Kernel29Ideal.nD Cert.Kernel29Ideal.τ).loc Cert.Kernel29Ideal.main_arg5)
      ∧ m' ((c.tc : Thread Cert.Reference29Ideal.nD Cert.Reference29Ideal.τ).loc Cert.Reference29Ideal.main_arg6) = m ((c.tc : Thread Cert.Kernel29Ideal.nD Cert.Kernel29Ideal.τ).loc Cert.Kernel29Ideal.main_arg6)) →
    ∃ (v0 : (c : Dev Cert.Kernel29Ideal.nD) → Buf (Elt Ideal) ((c.tc : Thread Cert.Kernel29Ideal.nD Cert.Kernel29Ideal.τ).loc Cert.Kernel29Ideal.main_v0_0)) (v1 : (c : Dev Cert.Kernel29Ideal.nD) → Buf (Elt Ideal) ((c.tc : Thread Cert.Kernel29Ideal.nD Cert.Kernel29Ideal.τ).loc Cert.Kernel29Ideal.main_v0_1)) (v2 : (c : Dev Cert.Kernel29Ideal.nD) → Buf (Elt Ideal) ((c.tc : Thread Cert.Kernel29Ideal.nD Cert.Kernel29Ideal.τ).loc Cert.Kernel29Ideal.main_v0_2)) (v3 : (c : Dev Cert.Kernel29Ideal.nD) → Buf (Elt Ideal) ((c.tc : Thread Cert.Kernel29Ideal.nD Cert.Kernel29Ideal.τ).loc Cert.Kernel29Ideal.main_v0_3)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v0_0) = v0 c
          ∧ r.2.mem ((c.tc : Thread Cert.Kernel29Ideal.nD Cert.Kernel29Ideal.τ).loc Cert.Kernel29Ideal.main_v0_1) = v1 c
          ∧ r.2.mem ((c.tc : Thread Cert.Kernel29Ideal.nD Cert.Kernel29Ideal.τ).loc Cert.Kernel29Ideal.main_v0_2) = v2 c
          ∧ r.2.mem ((c.tc : Thread Cert.Kernel29Ideal.nD Cert.Kernel29Ideal.τ).loc Cert.Kernel29Ideal.main_v0_3) = v3 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
          ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
          ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3)
          ∧ r.2.mem ((c.tc : Thread Cert.Kernel29Ideal.nD Cert.Kernel29Ideal.τ).loc Cert.Kernel29Ideal.main_arg4) = m ((c.tc : Thread Cert.Kernel29Ideal.nD Cert.Kernel29Ideal.τ).loc Cert.Kernel29Ideal.main_arg4)
          ∧ r.2.mem ((c.tc : Thread Cert.Kernel29Ideal.nD Cert.Kernel29Ideal.τ).loc Cert.Kernel29Ideal.main_arg5) = m ((c.tc : Thread Cert.Kernel29Ideal.nD Cert.Kernel29Ideal.τ).loc Cert.Kernel29Ideal.main_arg5)
          ∧ r.2.mem ((c.tc : Thread Cert.Kernel29Ideal.nD Cert.Kernel29Ideal.τ).loc Cert.Kernel29Ideal.main_arg6) = m ((c.tc : Thread Cert.Kernel29Ideal.nD Cert.Kernel29Ideal.τ).loc Cert.Kernel29Ideal.main_arg6))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v2) = v0 c
          ∧ r.2.mem ((c.tc : Thread Cert.Reference29Ideal.nD Cert.Reference29Ideal.τ).loc Cert.Reference29Ideal.main_v26) = v1 c
          ∧ r.2.mem ((c.tc : Thread Cert.Reference29Ideal.nD Cert.Reference29Ideal.τ).loc Cert.Reference29Ideal.main_v7) = v2 c
          ∧ r.2.mem ((c.tc : Thread Cert.Reference29Ideal.nD Cert.Reference29Ideal.τ).loc Cert.Reference29Ideal.main_v13) = v3 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1)
          ∧ r.2.mem ((c.tc : Thread Cert.Reference29Ideal.nD Cert.Reference29Ideal.τ).loc Cert.Reference29Ideal.main_arg2) = m' ((c.tc : Thread Cert.Reference29Ideal.nD Cert.Reference29Ideal.τ).loc Cert.Reference29Ideal.main_arg2)
          ∧ r.2.mem ((c.tc : Thread Cert.Reference29Ideal.nD Cert.Reference29Ideal.τ).loc Cert.Reference29Ideal.main_arg3) = m' ((c.tc : Thread Cert.Reference29Ideal.nD Cert.Reference29Ideal.τ).loc Cert.Reference29Ideal.main_arg3)
          ∧ r.2.mem ((c.tc : Thread Cert.Reference29Ideal.nD Cert.Reference29Ideal.τ).loc Cert.Reference29Ideal.main_arg4) = m' ((c.tc : Thread Cert.Reference29Ideal.nD Cert.Reference29Ideal.τ).loc Cert.Reference29Ideal.main_arg4)
          ∧ r.2.mem ((c.tc : Thread Cert.Reference29Ideal.nD Cert.Reference29Ideal.τ).loc Cert.Reference29Ideal.main_arg5) = m' ((c.tc : Thread Cert.Reference29Ideal.nD Cert.Reference29Ideal.τ).loc Cert.Reference29Ideal.main_arg5)
          ∧ r.2.mem ((c.tc : Thread Cert.Reference29Ideal.nD Cert.Reference29Ideal.τ).loc Cert.Reference29Ideal.main_arg6) = m' ((c.tc : Thread Cert.Reference29Ideal.nD Cert.Reference29Ideal.τ).loc Cert.Reference29Ideal.main_arg6))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)
      ∧ m' ((c.tc : Thread Cert.Reference30Ideal.nD Cert.Reference30Ideal.τ).loc Cert.Reference30Ideal.main_arg2) = m ((c.tc : Thread Cert.Kernel30Ideal.nD Cert.Kernel30Ideal.τ).loc Cert.Kernel30Ideal.main_arg2)
      ∧ m' ((c.tc : Thread Cert.Reference30Ideal.nD Cert.Reference30Ideal.τ).loc Cert.Reference30Ideal.main_arg3) = m ((c.tc : Thread Cert.Kernel30Ideal.nD Cert.Kernel30Ideal.τ).loc Cert.Kernel30Ideal.main_arg3)
      ∧ m' ((c.tc : Thread Cert.Reference30Ideal.nD Cert.Reference30Ideal.τ).loc Cert.Reference30Ideal.main_arg4) = m ((c.tc : Thread Cert.Kernel30Ideal.nD Cert.Kernel30Ideal.τ).loc Cert.Kernel30Ideal.main_arg4)
      ∧ m' ((c.tc : Thread Cert.Reference30Ideal.nD Cert.Reference30Ideal.τ).loc Cert.Reference30Ideal.main_arg5) = m ((c.tc : Thread Cert.Kernel30Ideal.nD Cert.Kernel30Ideal.τ).loc Cert.Kernel30Ideal.main_arg5)
      ∧ m' ((c.tc : Thread Cert.Reference30Ideal.nD Cert.Reference30Ideal.τ).loc Cert.Reference30Ideal.main_arg6) = m ((c.tc : Thread Cert.Kernel30Ideal.nD Cert.Kernel30Ideal.τ).loc Cert.Kernel30Ideal.main_arg6)) →
    ∃ (v0 : (c : Dev Cert.Kernel30Ideal.nD) → Buf (Elt Ideal) ((c.tc : Thread Cert.Kernel30Ideal.nD Cert.Kernel30Ideal.τ).loc Cert.Kernel30Ideal.main_v0_0)) (v1 : (c : Dev Cert.Kernel30Ideal.nD) → Buf (Elt Ideal) ((c.tc : Thread Cert.Kernel30Ideal.nD Cert.Kernel30Ideal.τ).loc Cert.Kernel30Ideal.main_v0_1)) (v2 : (c : Dev Cert.Kernel30Ideal.nD) → Buf (Elt Ideal) ((c.tc : Thread Cert.Kernel30Ideal.nD Cert.Kernel30Ideal.τ).loc Cert.Kernel30Ideal.main_v0_2)) (v3 : (c : Dev Cert.Kernel30Ideal.nD) → Buf (Elt Ideal) ((c.tc : Thread Cert.Kernel30Ideal.nD Cert.Kernel30Ideal.τ).loc Cert.Kernel30Ideal.main_v0_3)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v0_0) = v0 c
          ∧ r.2.mem ((c.tc : Thread Cert.Kernel30Ideal.nD Cert.Kernel30Ideal.τ).loc Cert.Kernel30Ideal.main_v0_1) = v1 c
          ∧ r.2.mem ((c.tc : Thread Cert.Kernel30Ideal.nD Cert.Kernel30Ideal.τ).loc Cert.Kernel30Ideal.main_v0_2) = v2 c
          ∧ r.2.mem ((c.tc : Thread Cert.Kernel30Ideal.nD Cert.Kernel30Ideal.τ).loc Cert.Kernel30Ideal.main_v0_3) = v3 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
          ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
          ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3)
          ∧ r.2.mem ((c.tc : Thread Cert.Kernel30Ideal.nD Cert.Kernel30Ideal.τ).loc Cert.Kernel30Ideal.main_arg4) = m ((c.tc : Thread Cert.Kernel30Ideal.nD Cert.Kernel30Ideal.τ).loc Cert.Kernel30Ideal.main_arg4)
          ∧ r.2.mem ((c.tc : Thread Cert.Kernel30Ideal.nD Cert.Kernel30Ideal.τ).loc Cert.Kernel30Ideal.main_arg5) = m ((c.tc : Thread Cert.Kernel30Ideal.nD Cert.Kernel30Ideal.τ).loc Cert.Kernel30Ideal.main_arg5)
          ∧ r.2.mem ((c.tc : Thread Cert.Kernel30Ideal.nD Cert.Kernel30Ideal.τ).loc Cert.Kernel30Ideal.main_arg6) = m ((c.tc : Thread Cert.Kernel30Ideal.nD Cert.Kernel30Ideal.τ).loc Cert.Kernel30Ideal.main_arg6))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v2) = v0 c
          ∧ r.2.mem ((c.tc : Thread Cert.Reference30Ideal.nD Cert.Reference30Ideal.τ).loc Cert.Reference30Ideal.main_v26) = v1 c
          ∧ r.2.mem ((c.tc : Thread Cert.Reference30Ideal.nD Cert.Reference30Ideal.τ).loc Cert.Reference30Ideal.main_v7) = v2 c
          ∧ r.2.mem ((c.tc : Thread Cert.Reference30Ideal.nD Cert.Reference30Ideal.τ).loc Cert.Reference30Ideal.main_v13) = v3 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1)
          ∧ r.2.mem ((c.tc : Thread Cert.Reference30Ideal.nD Cert.Reference30Ideal.τ).loc Cert.Reference30Ideal.main_arg2) = m' ((c.tc : Thread Cert.Reference30Ideal.nD Cert.Reference30Ideal.τ).loc Cert.Reference30Ideal.main_arg2)
          ∧ r.2.mem ((c.tc : Thread Cert.Reference30Ideal.nD Cert.Reference30Ideal.τ).loc Cert.Reference30Ideal.main_arg3) = m' ((c.tc : Thread Cert.Reference30Ideal.nD Cert.Reference30Ideal.τ).loc Cert.Reference30Ideal.main_arg3)
          ∧ r.2.mem ((c.tc : Thread Cert.Reference30Ideal.nD Cert.Reference30Ideal.τ).loc Cert.Reference30Ideal.main_arg4) = m' ((c.tc : Thread Cert.Reference30Ideal.nD Cert.Reference30Ideal.τ).loc Cert.Reference30Ideal.main_arg4)
          ∧ r.2.mem ((c.tc : Thread Cert.Reference30Ideal.nD Cert.Reference30Ideal.τ).loc Cert.Reference30Ideal.main_arg5) = m' ((c.tc : Thread Cert.Reference30Ideal.nD Cert.Reference30Ideal.τ).loc Cert.Reference30Ideal.main_arg5)
          ∧ r.2.mem ((c.tc : Thread Cert.Reference30Ideal.nD Cert.Reference30Ideal.τ).loc Cert.Reference30Ideal.main_arg6) = m' ((c.tc : Thread Cert.Reference30Ideal.nD Cert.Reference30Ideal.τ).loc Cert.Reference30Ideal.main_arg6))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)
      ∧ m' ((c.tc : Thread Cert.Reference31Ideal.nD Cert.Reference31Ideal.τ).loc Cert.Reference31Ideal.main_arg2) = m ((c.tc : Thread Cert.Kernel31Ideal.nD Cert.Kernel31Ideal.τ).loc Cert.Kernel31Ideal.main_arg2)
      ∧ m' ((c.tc : Thread Cert.Reference31Ideal.nD Cert.Reference31Ideal.τ).loc Cert.Reference31Ideal.main_arg3) = m ((c.tc : Thread Cert.Kernel31Ideal.nD Cert.Kernel31Ideal.τ).loc Cert.Kernel31Ideal.main_arg3)
      ∧ m' ((c.tc : Thread Cert.Reference31Ideal.nD Cert.Reference31Ideal.τ).loc Cert.Reference31Ideal.main_arg4) = m ((c.tc : Thread Cert.Kernel31Ideal.nD Cert.Kernel31Ideal.τ).loc Cert.Kernel31Ideal.main_arg4)) →
    ∃ (v0 : (c : Dev Cert.Kernel31Ideal.nD) → Buf (Elt Ideal) ((c.tc : Thread Cert.Kernel31Ideal.nD Cert.Kernel31Ideal.τ).loc Cert.Kernel31Ideal.main_v0_0)) (v1 : (c : Dev Cert.Kernel31Ideal.nD) → Buf (Elt Ideal) ((c.tc : Thread Cert.Kernel31Ideal.nD Cert.Kernel31Ideal.τ).loc Cert.Kernel31Ideal.main_v0_1)) (v2 : (c : Dev Cert.Kernel31Ideal.nD) → Buf (Elt Ideal) ((c.tc : Thread Cert.Kernel31Ideal.nD Cert.Kernel31Ideal.τ).loc Cert.Kernel31Ideal.main_v0_2)) (v3 : (c : Dev Cert.Kernel31Ideal.nD) → Buf (Elt Ideal) ((c.tc : Thread Cert.Kernel31Ideal.nD Cert.Kernel31Ideal.τ).loc Cert.Kernel31Ideal.main_v0_3)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v0_0) = v0 c
          ∧ r.2.mem ((c.tc : Thread Cert.Kernel31Ideal.nD Cert.Kernel31Ideal.τ).loc Cert.Kernel31Ideal.main_v0_1) = v1 c
          ∧ r.2.mem ((c.tc : Thread Cert.Kernel31Ideal.nD Cert.Kernel31Ideal.τ).loc Cert.Kernel31Ideal.main_v0_2) = v2 c
          ∧ r.2.mem ((c.tc : Thread Cert.Kernel31Ideal.nD Cert.Kernel31Ideal.τ).loc Cert.Kernel31Ideal.main_v0_3) = v3 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
          ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
          ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3)
          ∧ r.2.mem ((c.tc : Thread Cert.Kernel31Ideal.nD Cert.Kernel31Ideal.τ).loc Cert.Kernel31Ideal.main_arg4) = m ((c.tc : Thread Cert.Kernel31Ideal.nD Cert.Kernel31Ideal.τ).loc Cert.Kernel31Ideal.main_arg4))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v0) = v0 c
          ∧ r.2.mem ((c.tc : Thread Cert.Reference31Ideal.nD Cert.Reference31Ideal.τ).loc Cert.Reference31Ideal.main_v24) = v1 c
          ∧ r.2.mem ((c.tc : Thread Cert.Reference31Ideal.nD Cert.Reference31Ideal.τ).loc Cert.Reference31Ideal.main_v5) = v2 c
          ∧ r.2.mem ((c.tc : Thread Cert.Reference31Ideal.nD Cert.Reference31Ideal.τ).loc Cert.Reference31Ideal.main_v11) = v3 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1)
          ∧ r.2.mem ((c.tc : Thread Cert.Reference31Ideal.nD Cert.Reference31Ideal.τ).loc Cert.Reference31Ideal.main_arg2) = m' ((c.tc : Thread Cert.Reference31Ideal.nD Cert.Reference31Ideal.τ).loc Cert.Reference31Ideal.main_arg2)
          ∧ r.2.mem ((c.tc : Thread Cert.Reference31Ideal.nD Cert.Reference31Ideal.τ).loc Cert.Reference31Ideal.main_arg3) = m' ((c.tc : Thread Cert.Reference31Ideal.nD Cert.Reference31Ideal.τ).loc Cert.Reference31Ideal.main_arg3)
          ∧ r.2.mem ((c.tc : Thread Cert.Reference31Ideal.nD Cert.Reference31Ideal.τ).loc Cert.Reference31Ideal.main_arg4) = m' ((c.tc : Thread Cert.Reference31Ideal.nD Cert.Reference31Ideal.τ).loc Cert.Reference31Ideal.main_arg4))

def preserves_Kernel32_Kernel32Ideal : Prop :=
  True

def algebraic_Kernel32Ideal_Reference32Ideal [hKernel32Ideal : Cert.Kernel32Ideal.Facts] [hReference32Ideal : Cert.Reference32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)
      ∧ m' ((c.tc : Thread Cert.Reference32Ideal.nD Cert.Reference32Ideal.τ).loc Cert.Reference32Ideal.main_arg1) = m ((c.tc : Thread Cert.Kernel32Ideal.nD Cert.Kernel32Ideal.τ).loc Cert.Kernel32Ideal.main_arg1)
      ∧ m' ((c.tc : Thread Cert.Reference32Ideal.nD Cert.Reference32Ideal.τ).loc Cert.Reference32Ideal.main_arg2) = m ((c.tc : Thread Cert.Kernel32Ideal.nD Cert.Kernel32Ideal.τ).loc Cert.Kernel32Ideal.main_arg2)
      ∧ m' ((c.tc : Thread Cert.Reference32Ideal.nD Cert.Reference32Ideal.τ).loc Cert.Reference32Ideal.main_arg3) = m ((c.tc : Thread Cert.Kernel32Ideal.nD Cert.Kernel32Ideal.τ).loc Cert.Kernel32Ideal.main_arg3)
      ∧ m' ((c.tc : Thread Cert.Reference32Ideal.nD Cert.Reference32Ideal.τ).loc Cert.Reference32Ideal.main_arg4) = m ((c.tc : Thread Cert.Kernel32Ideal.nD Cert.Kernel32Ideal.τ).loc Cert.Kernel32Ideal.main_arg4)) →
    ∃ (v0 : (c : Dev Cert.Kernel32Ideal.nD) → Buf (Elt Ideal) ((c.tc : Thread Cert.Kernel32Ideal.nD Cert.Kernel32Ideal.τ).loc Cert.Kernel32Ideal.main_v0_0)) (v1 : (c : Dev Cert.Kernel32Ideal.nD) → Buf (Elt Ideal) ((c.tc : Thread Cert.Kernel32Ideal.nD Cert.Kernel32Ideal.τ).loc Cert.Kernel32Ideal.main_v0_1)) (v2 : (c : Dev Cert.Kernel32Ideal.nD) → Buf (Elt Ideal) ((c.tc : Thread Cert.Kernel32Ideal.nD Cert.Kernel32Ideal.τ).loc Cert.Kernel32Ideal.main_v0_2)) (v3 : (c : Dev Cert.Kernel32Ideal.nD) → Buf (Elt Ideal) ((c.tc : Thread Cert.Kernel32Ideal.nD Cert.Kernel32Ideal.τ).loc Cert.Kernel32Ideal.main_v0_3)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v0_0) = v0 c
          ∧ r.2.mem ((c.tc : Thread Cert.Kernel32Ideal.nD Cert.Kernel32Ideal.τ).loc Cert.Kernel32Ideal.main_v0_1) = v1 c
          ∧ r.2.mem ((c.tc : Thread Cert.Kernel32Ideal.nD Cert.Kernel32Ideal.τ).loc Cert.Kernel32Ideal.main_v0_2) = v2 c
          ∧ r.2.mem ((c.tc : Thread Cert.Kernel32Ideal.nD Cert.Kernel32Ideal.τ).loc Cert.Kernel32Ideal.main_v0_3) = v3 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
          ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
          ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
          ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3)
          ∧ r.2.mem ((c.tc : Thread Cert.Kernel32Ideal.nD Cert.Kernel32Ideal.τ).loc Cert.Kernel32Ideal.main_arg4) = m ((c.tc : Thread Cert.Kernel32Ideal.nD Cert.Kernel32Ideal.τ).loc Cert.Kernel32Ideal.main_arg4))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_v0) = v0 c
          ∧ r.2.mem ((c.tc : Thread Cert.Reference32Ideal.nD Cert.Reference32Ideal.τ).loc Cert.Reference32Ideal.main_v24) = v1 c
          ∧ r.2.mem ((c.tc : Thread Cert.Reference32Ideal.nD Cert.Reference32Ideal.τ).loc Cert.Reference32Ideal.main_v5) = v2 c
          ∧ r.2.mem ((c.tc : Thread Cert.Reference32Ideal.nD Cert.Reference32Ideal.τ).loc Cert.Reference32Ideal.main_v11) = v3 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0)
          ∧ r.2.mem ((c.tc : Thread Cert.Reference32Ideal.nD Cert.Reference32Ideal.τ).loc Cert.Reference32Ideal.main_arg1) = m' ((c.tc : Thread Cert.Reference32Ideal.nD Cert.Reference32Ideal.τ).loc Cert.Reference32Ideal.main_arg1)
          ∧ r.2.mem ((c.tc : Thread Cert.Reference32Ideal.nD Cert.Reference32Ideal.τ).loc Cert.Reference32Ideal.main_arg2) = m' ((c.tc : Thread Cert.Reference32Ideal.nD Cert.Reference32Ideal.τ).loc Cert.Reference32Ideal.main_arg2)
          ∧ r.2.mem ((c.tc : Thread Cert.Reference32Ideal.nD Cert.Reference32Ideal.τ).loc Cert.Reference32Ideal.main_arg3) = m' ((c.tc : Thread Cert.Reference32Ideal.nD Cert.Reference32Ideal.τ).loc Cert.Reference32Ideal.main_arg3)
          ∧ r.2.mem ((c.tc : Thread Cert.Reference32Ideal.nD Cert.Reference32Ideal.τ).loc Cert.Reference32Ideal.main_arg4) = m' ((c.tc : Thread Cert.Reference32Ideal.nD Cert.Reference32Ideal.τ).loc Cert.Reference32Ideal.main_arg4))

def preserves_Kernel33_Kernel33Ideal : Prop :=
  True

def algebraic_Kernel33Ideal_Reference33Ideal [hKernel33Ideal : Cert.Kernel33Ideal.Facts] [hReference33Ideal : Cert.Reference33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg)
    (m' : (ℓ : Loc Cert.Reference33Ideal.nD Cert.Reference33Ideal.τ Cert.Reference33Ideal.sig) → Buf (Elt Ideal) ℓ) (g' : Dev Cert.Reference33Ideal.nD → PrngReg), Pre_Kernel33Ideal m →
    (∀ c : Dev Cert.Kernel33Ideal.nD,
      m' ((c.tc : Thread Cert.Reference33Ideal.nD Cert.Reference33Ideal.τ).loc Cert.Reference33Ideal.main_arg0) = m ((c.tc : Thread Cert.Kernel33Ideal.nD Cert.Kernel33Ideal.τ).loc Cert.Kernel33Ideal.main_arg0)
      ∧ m' ((c.tc : Thread Cert.Reference33Ideal.nD Cert.Reference33Ideal.τ).loc Cert.Reference33Ideal.main_arg1) = m ((c.tc : Thread Cert.Kernel33Ideal.nD Cert.Kernel33Ideal.τ).loc Cert.Kernel33Ideal.main_arg1)
      ∧ m' ((c.tc : Thread Cert.Reference33Ideal.nD Cert.Reference33Ideal.τ).loc Cert.Reference33Ideal.main_arg2) = m ((c.tc : Thread Cert.Kernel33Ideal.nD Cert.Kernel33Ideal.τ).loc Cert.Kernel33Ideal.main_arg2)
      ∧ m' ((c.tc : Thread Cert.Reference33Ideal.nD Cert.Reference33Ideal.τ).loc Cert.Reference33Ideal.main_arg3) = m ((c.tc : Thread Cert.Kernel33Ideal.nD Cert.Kernel33Ideal.τ).loc Cert.Kernel33Ideal.main_arg3)
      ∧ m' ((c.tc : Thread Cert.Reference33Ideal.nD Cert.Reference33Ideal.τ).loc Cert.Reference33Ideal.main_arg4) = m ((c.tc : Thread Cert.Kernel33Ideal.nD Cert.Kernel33Ideal.τ).loc Cert.Kernel33Ideal.main_arg4)) →
    ∃ (v0 : (c : Dev Cert.Kernel33Ideal.nD) → Buf (Elt Ideal) ((c.tc : Thread Cert.Kernel33Ideal.nD Cert.Kernel33Ideal.τ).loc Cert.Kernel33Ideal.main_v0_0)) (v1 : (c : Dev Cert.Kernel33Ideal.nD) → Buf (Elt Ideal) ((c.tc : Thread Cert.Kernel33Ideal.nD Cert.Kernel33Ideal.τ).loc Cert.Kernel33Ideal.main_v0_1)) (v2 : (c : Dev Cert.Kernel33Ideal.nD) → Buf (Elt Ideal) ((c.tc : Thread Cert.Kernel33Ideal.nD Cert.Kernel33Ideal.τ).loc Cert.Kernel33Ideal.main_v0_2)) (v3 : (c : Dev Cert.Kernel33Ideal.nD) → Buf (Elt Ideal) ((c.tc : Thread Cert.Kernel33Ideal.nD Cert.Kernel33Ideal.τ).loc Cert.Kernel33Ideal.main_v0_3)),
      θ_run (Cert.Kernel33Ideal.defs (F := Ideal)) (onTc (τ := Cert.Kernel33Ideal.τ) (Cert.Kernel33Ideal.main (F := Ideal))) ⟨m, fun _ => 0, g⟩ (fun r => ∀ c : Dev Cert.Kernel33Ideal.nD,
          r.2.mem ((c.tc : Thread Cert.Kernel33Ideal.nD Cert.Kernel33Ideal.τ).loc Cert.Kernel33Ideal.main_v0_0) = v0 c
          ∧ r.2.mem ((c.tc : Thread Cert.Kernel33Ideal.nD Cert.Kernel33Ideal.τ).loc Cert.Kernel33Ideal.main_v0_1) = v1 c
          ∧ r.2.mem ((c.tc : Thread Cert.Kernel33Ideal.nD Cert.Kernel33Ideal.τ).loc Cert.Kernel33Ideal.main_v0_2) = v2 c
          ∧ r.2.mem ((c.tc : Thread Cert.Kernel33Ideal.nD Cert.Kernel33Ideal.τ).loc Cert.Kernel33Ideal.main_v0_3) = v3 c
          ∧ r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
          ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
          ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2)
          ∧ r.2.mem ((c.tc : Thread Cert.Kernel33Ideal.nD Cert.Kernel33Ideal.τ).loc Cert.Kernel33Ideal.main_arg3) = m ((c.tc : Thread Cert.Kernel33Ideal.nD Cert.Kernel33Ideal.τ).loc Cert.Kernel33Ideal.main_arg3)
          ∧ r.2.mem ((c.tc : Thread Cert.Kernel33Ideal.nD Cert.Kernel33Ideal.τ).loc Cert.Kernel33Ideal.main_arg4) = m ((c.tc : Thread Cert.Kernel33Ideal.nD Cert.Kernel33Ideal.τ).loc Cert.Kernel33Ideal.main_arg4))
      ∧ θ_run (Cert.Reference33Ideal.defs (F := Ideal)) (onTc (τ := Cert.Reference33Ideal.τ) (Cert.Reference33Ideal.main (F := Ideal))) ⟨m', fun _ => 0, g'⟩ (fun r => ∀ c : Dev Cert.Reference33Ideal.nD,
          r.2.mem ((c.tc : Thread Cert.Reference33Ideal.nD Cert.Reference33Ideal.τ).loc Cert.Reference33Ideal.main_v0) = v0 c
          ∧ r.2.mem ((c.tc : Thread Cert.Reference33Ideal.nD Cert.Reference33Ideal.τ).loc Cert.Reference33Ideal.main_v24) = v1 c
          ∧ r.2.mem ((c.tc : Thread Cert.Reference33Ideal.nD Cert.Reference33Ideal.τ).loc Cert.Reference33Ideal.main_v5) = v2 c
          ∧ r.2.mem ((c.tc : Thread Cert.Reference33Ideal.nD Cert.Reference33Ideal.τ).loc Cert.Reference33Ideal.main_v11) = v3 c
          ∧ r.2.mem ((c.tc : Thread Cert.Reference33Ideal.nD Cert.Reference33Ideal.τ).loc Cert.Reference33Ideal.main_arg0) = m' ((c.tc : Thread Cert.Reference33Ideal.nD Cert.Reference33Ideal.τ).loc Cert.Reference33Ideal.main_arg0)
          ∧ r.2.mem ((c.tc : Thread Cert.Reference33Ideal.nD Cert.Reference33Ideal.τ).loc Cert.Reference33Ideal.main_arg1) = m' ((c.tc : Thread Cert.Reference33Ideal.nD Cert.Reference33Ideal.τ).loc Cert.Reference33Ideal.main_arg1)
          ∧ r.2.mem ((c.tc : Thread Cert.Reference33Ideal.nD Cert.Reference33Ideal.τ).loc Cert.Reference33Ideal.main_arg2) = m' ((c.tc : Thread Cert.Reference33Ideal.nD Cert.Reference33Ideal.τ).loc Cert.Reference33Ideal.main_arg2)
          ∧ r.2.mem ((c.tc : Thread Cert.Reference33Ideal.nD Cert.Reference33Ideal.τ).loc Cert.Reference33Ideal.main_arg3) = m' ((c.tc : Thread Cert.Reference33Ideal.nD Cert.Reference33Ideal.τ).loc Cert.Reference33Ideal.main_arg3)
          ∧ r.2.mem ((c.tc : Thread Cert.Reference33Ideal.nD Cert.Reference33Ideal.τ).loc Cert.Reference33Ideal.main_arg4) = m' ((c.tc : Thread Cert.Reference33Ideal.nD Cert.Reference33Ideal.τ).loc Cert.Reference33Ideal.main_arg4))

def preserves_Kernel34_Kernel34Ideal : Prop :=
  True

def algebraic_Kernel34Ideal_Reference34Ideal [hKernel34Ideal : Cert.Kernel34Ideal.Facts] [hReference34Ideal : Cert.Reference34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg)
    (m' : (ℓ : Loc Cert.Reference34Ideal.nD Cert.Reference34Ideal.τ Cert.Reference34Ideal.sig) → Buf (Elt Ideal) ℓ) (g' : Dev Cert.Reference34Ideal.nD → PrngReg), Pre_Kernel34Ideal m →
    (∀ c : Dev Cert.Kernel34Ideal.nD,
      m' ((c.tc : Thread Cert.Reference34Ideal.nD Cert.Reference34Ideal.τ).loc Cert.Reference34Ideal.main_arg0) = m ((c.tc : Thread Cert.Kernel34Ideal.nD Cert.Kernel34Ideal.τ).loc Cert.Kernel34Ideal.main_arg0)
      ∧ m' ((c.tc : Thread Cert.Reference34Ideal.nD Cert.Reference34Ideal.τ).loc Cert.Reference34Ideal.main_arg1) = m ((c.tc : Thread Cert.Kernel34Ideal.nD Cert.Kernel34Ideal.τ).loc Cert.Kernel34Ideal.main_arg1)
      ∧ m' ((c.tc : Thread Cert.Reference34Ideal.nD Cert.Reference34Ideal.τ).loc Cert.Reference34Ideal.main_arg2) = m ((c.tc : Thread Cert.Kernel34Ideal.nD Cert.Kernel34Ideal.τ).loc Cert.Kernel34Ideal.main_arg2)
      ∧ m' ((c.tc : Thread Cert.Reference34Ideal.nD Cert.Reference34Ideal.τ).loc Cert.Reference34Ideal.main_arg3) = m ((c.tc : Thread Cert.Kernel34Ideal.nD Cert.Kernel34Ideal.τ).loc Cert.Kernel34Ideal.main_arg3)
      ∧ m' ((c.tc : Thread Cert.Reference34Ideal.nD Cert.Reference34Ideal.τ).loc Cert.Reference34Ideal.main_arg4) = m ((c.tc : Thread Cert.Kernel34Ideal.nD Cert.Kernel34Ideal.τ).loc Cert.Kernel34Ideal.main_arg4)) →
    ∃ (v0 : (c : Dev Cert.Kernel34Ideal.nD) → Buf (Elt Ideal) ((c.tc : Thread Cert.Kernel34Ideal.nD Cert.Kernel34Ideal.τ).loc Cert.Kernel34Ideal.main_v0_0)) (v1 : (c : Dev Cert.Kernel34Ideal.nD) → Buf (Elt Ideal) ((c.tc : Thread Cert.Kernel34Ideal.nD Cert.Kernel34Ideal.τ).loc Cert.Kernel34Ideal.main_v0_1)) (v2 : (c : Dev Cert.Kernel34Ideal.nD) → Buf (Elt Ideal) ((c.tc : Thread Cert.Kernel34Ideal.nD Cert.Kernel34Ideal.τ).loc Cert.Kernel34Ideal.main_v0_2)) (v3 : (c : Dev Cert.Kernel34Ideal.nD) → Buf (Elt Ideal) ((c.tc : Thread Cert.Kernel34Ideal.nD Cert.Kernel34Ideal.τ).loc Cert.Kernel34Ideal.main_v0_3)),
      θ_run (Cert.Kernel34Ideal.defs (F := Ideal)) (onTc (τ := Cert.Kernel34Ideal.τ) (Cert.Kernel34Ideal.main (F := Ideal))) ⟨m, fun _ => 0, g⟩ (fun r => ∀ c : Dev Cert.Kernel34Ideal.nD,
          r.2.mem ((c.tc : Thread Cert.Kernel34Ideal.nD Cert.Kernel34Ideal.τ).loc Cert.Kernel34Ideal.main_v0_0) = v0 c
          ∧ r.2.mem ((c.tc : Thread Cert.Kernel34Ideal.nD Cert.Kernel34Ideal.τ).loc Cert.Kernel34Ideal.main_v0_1) = v1 c
          ∧ r.2.mem ((c.tc : Thread Cert.Kernel34Ideal.nD Cert.Kernel34Ideal.τ).loc Cert.Kernel34Ideal.main_v0_2) = v2 c
          ∧ r.2.mem ((c.tc : Thread Cert.Kernel34Ideal.nD Cert.Kernel34Ideal.τ).loc Cert.Kernel34Ideal.main_v0_3) = v3 c
          ∧ r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
          ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
          ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2)
          ∧ r.2.mem ((c.tc : Thread Cert.Kernel34Ideal.nD Cert.Kernel34Ideal.τ).loc Cert.Kernel34Ideal.main_arg3) = m ((c.tc : Thread Cert.Kernel34Ideal.nD Cert.Kernel34Ideal.τ).loc Cert.Kernel34Ideal.main_arg3)
          ∧ r.2.mem ((c.tc : Thread Cert.Kernel34Ideal.nD Cert.Kernel34Ideal.τ).loc Cert.Kernel34Ideal.main_arg4) = m ((c.tc : Thread Cert.Kernel34Ideal.nD Cert.Kernel34Ideal.τ).loc Cert.Kernel34Ideal.main_arg4))
      ∧ θ_run (Cert.Reference34Ideal.defs (F := Ideal)) (onTc (τ := Cert.Reference34Ideal.τ) (Cert.Reference34Ideal.main (F := Ideal))) ⟨m', fun _ => 0, g'⟩ (fun r => ∀ c : Dev Cert.Reference34Ideal.nD,
          r.2.mem ((c.tc : Thread Cert.Reference34Ideal.nD Cert.Reference34Ideal.τ).loc Cert.Reference34Ideal.main_v0) = v0 c
          ∧ r.2.mem ((c.tc : Thread Cert.Reference34Ideal.nD Cert.Reference34Ideal.τ).loc Cert.Reference34Ideal.main_v24) = v1 c
          ∧ r.2.mem ((c.tc : Thread Cert.Reference34Ideal.nD Cert.Reference34Ideal.τ).loc Cert.Reference34Ideal.main_v5) = v2 c
          ∧ r.2.mem ((c.tc : Thread Cert.Reference34Ideal.nD Cert.Reference34Ideal.τ).loc Cert.Reference34Ideal.main_v11) = v3 c
          ∧ r.2.mem ((c.tc : Thread Cert.Reference34Ideal.nD Cert.Reference34Ideal.τ).loc Cert.Reference34Ideal.main_arg0) = m' ((c.tc : Thread Cert.Reference34Ideal.nD Cert.Reference34Ideal.τ).loc Cert.Reference34Ideal.main_arg0)
          ∧ r.2.mem ((c.tc : Thread Cert.Reference34Ideal.nD Cert.Reference34Ideal.τ).loc Cert.Reference34Ideal.main_arg1) = m' ((c.tc : Thread Cert.Reference34Ideal.nD Cert.Reference34Ideal.τ).loc Cert.Reference34Ideal.main_arg1)
          ∧ r.2.mem ((c.tc : Thread Cert.Reference34Ideal.nD Cert.Reference34Ideal.τ).loc Cert.Reference34Ideal.main_arg2) = m' ((c.tc : Thread Cert.Reference34Ideal.nD Cert.Reference34Ideal.τ).loc Cert.Reference34Ideal.main_arg2)
          ∧ r.2.mem ((c.tc : Thread Cert.Reference34Ideal.nD Cert.Reference34Ideal.τ).loc Cert.Reference34Ideal.main_arg3) = m' ((c.tc : Thread Cert.Reference34Ideal.nD Cert.Reference34Ideal.τ).loc Cert.Reference34Ideal.main_arg3)
          ∧ r.2.mem ((c.tc : Thread Cert.Reference34Ideal.nD Cert.Reference34Ideal.τ).loc Cert.Reference34Ideal.main_arg4) = m' ((c.tc : Thread Cert.Reference34Ideal.nD Cert.Reference34Ideal.τ).loc Cert.Reference34Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hKernel32 : Cert.Kernel32.Facts) (hKernel32Ideal : Cert.Kernel32Ideal.Facts) (hReference32Ideal : Cert.Reference32Ideal.Facts) (hKernel33 : Cert.Kernel33.Facts) (hKernel33Ideal : Cert.Kernel33Ideal.Facts) (hReference33Ideal : Cert.Reference33Ideal.Facts) (hKernel34 : Cert.Kernel34.Facts) (hKernel34Ideal : Cert.Kernel34Ideal.Facts) (hReference34Ideal : Cert.Reference34Ideal.Facts) (hPre_finite : Cert.Pre_finite.Facts) (hPre_finite6 : Cert.Pre_finite6.Facts) (hPre_finite18 : Cert.Pre_finite18.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_finite6 (hKernel6Ideal := hKernel6Ideal) (hPre_finite6 := hPre_finite6)
    ∧ quiescent_Reference6Ideal (hReference6Ideal := hReference6Ideal)
    ∧ quiescent_Reference6Ideal_pre_finite6 (hReference6Ideal := hReference6Ideal) (hPre_finite6 := hPre_finite6)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Kernel18Ideal_pre_finite18 (hKernel18Ideal := hKernel18Ideal) (hPre_finite18 := hPre_finite18)
    ∧ quiescent_Reference18Ideal (hReference18Ideal := hReference18Ideal)
    ∧ quiescent_Reference18Ideal_pre_finite18 (hReference18Ideal := hReference18Ideal) (hPre_finite18 := hPre_finite18)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Reference31Ideal (hReference31Ideal := hReference31Ideal)
    ∧ quiescent_Kernel32 (hKernel32 := hKernel32)
    ∧ quiescent_Kernel32Ideal (hKernel32Ideal := hKernel32Ideal)
    ∧ quiescent_Reference32Ideal (hReference32Ideal := hReference32Ideal)
    ∧ quiescent_Kernel33 (hKernel33 := hKernel33)
    ∧ quiescent_Kernel33Ideal (hKernel33Ideal := hKernel33Ideal)
    ∧ quiescent_Reference33Ideal (hReference33Ideal := hReference33Ideal)
    ∧ quiescent_Kernel34 (hKernel34 := hKernel34)
    ∧ quiescent_Kernel34Ideal (hKernel34Ideal := hKernel34Ideal)
    ∧ quiescent_Reference34Ideal (hReference34Ideal := hReference34Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_finite6 (hKernel6Ideal := hKernel6Ideal) (hReference6Ideal := hReference6Ideal) (hPre_finite6 := hPre_finite6)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal_pre_finite18 (hKernel18Ideal := hKernel18Ideal) (hReference18Ideal := hReference18Ideal) (hPre_finite18 := hPre_finite18)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal (hKernel31Ideal := hKernel31Ideal) (hReference31Ideal := hReference31Ideal)
    ∧ preserves_Kernel32_Kernel32Ideal
    ∧ algebraic_Kernel32Ideal_Reference32Ideal (hKernel32Ideal := hKernel32Ideal) (hReference32Ideal := hReference32Ideal)
    ∧ preserves_Kernel33_Kernel33Ideal
    ∧ algebraic_Kernel33Ideal_Reference33Ideal (hKernel33Ideal := hKernel33Ideal) (hReference33Ideal := hReference33Ideal)
    ∧ preserves_Kernel34_Kernel34Ideal
    ∧ algebraic_Kernel34Ideal_Reference34Ideal (hKernel34Ideal := hKernel34Ideal) (hReference34Ideal := hReference34Ideal)
-- ==== Pre_finite.lean ====
abbrev S8192x1024 : Shape := ⟨2, ![8192, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S_ : Shape := ⟨0, ![]⟩

class Facts : Prop where
  bcast_S_S1x1024 : S_.BroadcastsInDim S1x1024 (![] : Fin 0 → Fin S1x1024.rank)
  reducesTo_S1x1024_S_d0_1 : S1x1024.ReducesTo [0, 1] S_
  h_S_ : 0 < S_.numel
  bitsLt_bf16_f32 : FTy.bits .bf16 < FTy.bits .f32
  bcast_S_S1x1024x5632 : S_.BroadcastsInDim S1x1024x5632 (![] : Fin 0 → Fin S1x1024x5632.rank)
  reducesTo_S1x1024x5632_S_d0_1_2 : S1x1024x5632.ReducesTo [0, 1, 2] S_
  bcast_S_S1x2816x1024 : S_.BroadcastsInDim S1x2816x1024 (![] : Fin 0 → Fin S1x2816x1024.rank)
  reducesTo_S1x2816x1024_S_d0_1_2 : S1x2816x1024.ReducesTo [0, 1, 2] S_
  bcast_S_S8192x1024 : S_.BroadcastsInDim S8192x1024 (![] : Fin 0 → Fin S8192x1024.rank)
  reducesTo_S8192x1024_S_d0_1 : S8192x1024.ReducesTo [0, 1] S_

variable [Facts]

def fn_part1 {F : FTy → Type} [FloatOps F] (main_v15 : IVec S_ 1) (main_v16 : FVec F S8192x1024 .f32) (main_cst_4 : FVec F S_ .f32) : IVec S_ 1 :=
  let main_v17 : FVec F S8192x1024 .f32 := broadcastInDim S8192x1024 ![] bcast_S_S8192x1024 main_cst_4
  let main_v18 : IVec S8192x1024 1 := cmpf .olt main_v16 main_v17
  let main_c_5 : IVec S_ 1 := constantI S_ 1 1#1
  let main_v19 : IVec S_ 1 := (fun x v => Host.reduce IntOp.andi x v reducesTo_S8192x1024_S_d0_1 h_S_) main_v18 main_c_5
  let main_v20 : IVec S_ 1 := andi main_v15 main_v19
  main_v20

def fn {F : FTy → Type} [FloatOps F] (main_arg0 : FVec F S8192x1024 .f32) (main_arg1 : FVec F S1x1024 .f32) (main_arg2 : FVec F S1x1024x5632 .bf16) (main_arg3 : FVec F S1x2816x1024 .bf16) (main_arg4 : FVec F S8192x1024 .f32) : IVec S_ 1 :=
  let main_v0 : FVec F S1x1024 .f32 := Host.absf main_arg1
  let main_cst : FVec F S_ .f32 := constant S_ .f32 0x7F800000#32
  let main_v1 : FVec F S1x1024 .f32 := broadcastInDim S1x1024 ![] bcast_S_S1x1024 main_cst
  let main_v2 : IVec S1x1024 1 := cmpf .olt main_v0 main_v1
  let main_c : IVec S_ 1 := constantI S_ 1 1#1
  let main_v3 : IVec S_ 1 := (fun x v => Host.reduce IntOp.andi x v reducesTo_S1x1024_S_d0_1 h_S_) main_v2 main_c
  let main_v4 : FVec F S1x1024x5632 .f32 := (extf .f32 · bitsLt_bf16_f32) main_arg2
  let main_v5 : FVec F S1x1024x5632 .f32 := Host.absf main_v4
  let main_cst_0 : FVec F S_ .f32 := constant S_ .f32 0x7F800000#32
  let main_v6 : FVec F S1x1024x5632 .f32 := broadcastInDim S1x1024x5632 ![] bcast_S_S1x1024x5632 main_cst_0
  let main_v7 : IVec S1x1024x5632 1 := cmpf .olt main_v5 main_v6
  let main_c_1 : IVec S_ 1 := constantI S_ 1 1#1
  let main_v8 : IVec S_ 1 := (fun x v => Host.reduce IntOp.andi x v reducesTo_S1x1024x5632_S_d0_1_2 h_S_) main_v7 main_c_1
  let main_v9 : IVec S_ 1 := andi main_v3 main_v8
  let main_v10 : FVec F S1x2816x1024 .f32 := (extf .f32 · bitsLt_bf16_f32) main_arg3
  let main_v11 : FVec F S1x2816x1024 .f32 := Host.absf main_v10
  let main_cst_2 : FVec F S_ .f32 := constant S_ .f32 0x7F800000#32
  let main_v12 : FVec F S1x2816x1024 .f32 := broadcastInDim S1x2816x1024 ![] bcast_S_S1x2816x1024 main_cst_2
  let main_v13 : IVec S1x2816x1024 1 := cmpf .olt main_v11 main_v12
  let main_c_3 : IVec S_ 1 := constantI S_ 1 1#1
  let main_v14 : IVec S_ 1 := (fun x v => Host.reduce IntOp.andi x v reducesTo_S1x2816x1024_S_d0_1_2 h_S_) main_v13 main_c_3
  let main_v15 : IVec S_ 1 := andi main_v9 main_v14
  let main_v16 : FVec F S8192x1024 .f32 := Host.absf main_arg4
  let main_cst_4 : FVec F S_ .f32 := constant S_ .f32 0x7F800000#32
  fn_part1 (F := F) main_v15 main_v16 main_cst_4
-- ==== Pre_finite18.lean ====
abbrev S8192x1024 : Shape := ⟨2, ![8192, 1024]⟩
abbrev S1x1024 : Shape := ⟨2, ![1, 1024]⟩
abbrev S1x1024x1024 : Shape := ⟨3, ![1, 1024, 1024]⟩
abbrev S256x2048 : Shape := ⟨2, ![256, 2048]⟩
abbrev S_ : Shape := ⟨0, ![]⟩
abbrev S256x1024 : Shape := ⟨2, ![256, 1024]⟩

class Facts : Prop where
  bcast_S_S1x1024 : S_.BroadcastsInDim S1x1024 (![] : Fin 0 → Fin S1x1024.rank)
  reducesTo_S1x1024_S_d0_1 : S1x1024.ReducesTo [0, 1] S_
  h_S_ : 0 < S_.numel
  bitsLt_bf16_f32 : FTy.bits .bf16 < FTy.bits .f32
  bcast_S_S1x1024x1024 : S_.BroadcastsInDim S1x1024x1024 (![] : Fin 0 → Fin S1x1024x1024.rank)
  reducesTo_S1x1024x1024_S_d0_1_2 : S1x1024x1024.ReducesTo [0, 1, 2] S_
  slices_S256x2048_S256x1024_0_0 : S256x2048.Slices ![0, 0] S256x1024
  bcast_S_S256x1024 : S_.BroadcastsInDim S256x1024 (![] : Fin 0 → Fin S256x1024.rank)
  reducesTo_S256x1024_S_d0_1 : S256x1024.ReducesTo [0, 1] S_

variable [Facts]

def fn {F : FTy → Type} [FloatOps F] (main_arg0 : FVec F S8192x1024 .f32) (main_arg1 : FVec F S1x1024 .f32) (main_arg2 : FVec F S1x1024x1024 .bf16) (main_arg3 : FVec F S1x1024x1024 .bf16) (main_arg4 : FVec F S256x2048 .bf16) : IVec S_ 1 :=
  let main_v0 : FVec F S1x1024 .f32 := Host.absf main_arg1
  let main_cst : FVec F S_ .f32 := constant S_ .f32 0x7F800000#32
  let main_v1 : FVec F S1x1024 .f32 := broadcastInDim S1x1024 ![] bcast_S_S1x1024 main_cst
  let main_v2 : IVec S1x1024 1 := cmpf .olt main_v0 main_v1
  let main_c : IVec S_ 1 := constantI S_ 1 1#1
  let main_v3 : IVec S_ 1 := (fun x v => Host.reduce IntOp.andi x v reducesTo_S1x1024_S_d0_1 h_S_) main_v2 main_c
  let main_v4 : FVec F S1x1024x1024 .f32 := (extf .f32 · bitsLt_bf16_f32) main_arg2
  let main_v5 : FVec F S1x1024x1024 .f32 := Host.absf main_v4
  let main_cst_0 : FVec F S_ .f32 := constant S_ .f32 0x7F800000#32
  let main_v6 : FVec F S1x1024x1024 .f32 := broadcastInDim S1x1024x1024 ![] bcast_S_S1x1024x1024 main_cst_0
  let main_v7 : IVec S1x1024x1024 1 := cmpf .olt main_v5 main_v6
  let main_c_1 : IVec S_ 1 := constantI S_ 1 1#1
  let main_v8 : IVec S_ 1 := (fun x v => Host.reduce IntOp.andi x v reducesTo_S1x1024x1024_S_d0_1_2 h_S_) main_v7 main_c_1
  let main_v9 : IVec S_ 1 := andi main_v3 main_v8
  let main_v10 : FVec F S256x1024 .bf16 := (extractStridedSlice S256x1024 ![0, 0] · slices_S256x2048_S256x1024_0_0) main_arg4
  let main_v11 : FVec F S256x1024 .f32 := (extf .f32 · bitsLt_bf16_f32) main_v10
  let main_v12 : FVec F S256x1024 .f32 := Host.absf main_v11
  let main_cst_2 : FVec F S_ .f32 := constant S_ .f32 0x7F800000#32
  let main_v13 : FVec F S256x1024 .f32 := broadcastInDim S256x1024 ![] bcast_S_S256x1024 main_cst_2
  let main_v14 : IVec S256x1024 1 := cmpf .olt main_v12 main_v13
  let main_c_3 : IVec S_ 1 := constantI S_ 1 1#1
  let main_v15 : IVec S_ 1 := (fun x v => Host.reduce IntOp.andi x v reducesTo_S256x1024_S_d0_1 h_S_) main_v14 main_c_3
  let main_v16 : IVec S_ 1 := andi main_v9 main_v15
  main_v16
-- ==== Pre_finite6.lean ====
abbrev S8192x1024 : Shape := ⟨2, ![8192, 1024]⟩
abbrev S256x2048 : Shape := ⟨2, ![256, 2048]⟩
abbrev S_ : Shape := ⟨0, ![]⟩

class Facts : Prop where
  bitsLt_bf16_f32 : FTy.bits .bf16 < FTy.bits .f32
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S256x2048 : S_.BroadcastsInDim S256x2048 (![] : Fin 0 → Fin S256x2048.rank)
  reducesTo_S256x2048_S_d0_1 : S256x2048.ReducesTo [0, 1] S_

variable [Facts]

def fn {F : FTy → Type} [FloatOps F] (main_arg0 : FVec F S8192x1024 .bf16) (main_arg1 : FVec F S256x2048 .bf16) (main_arg2 : FVec F S8192x1024 .bf16) : IVec S_ 1 :=
  let main_v0 : FVec F S8192x1024 .f32 := (extf .f32 · bitsLt_bf16_f32) main_arg0
  let main_v1 : FVec F S8192x1024 .f32 := Host.absf main_v0
  let main_cst : FVec F S_ .f32 := constant S_ .f32 0x7F800000#32
  let main_v2 : FVec F S8192x1024 .f32 := broadcastInDim S8192x1024 ![] bcast_S_S8192x1024 main_cst
  let main_v3 : IVec S8192x1024 1 := cmpf .olt main_v1 main_v2
  let main_c : IVec S_ 1 := constantI S_ 1 1#1
  let main_v4 : IVec S_ 1 := (fun x v => Host.reduce IntOp.andi x v reducesTo_S8192x1024_S_d0_1 h_S_) main_v3 main_c
  let main_v5 : FVec F S256x2048 .f32 := (extf .f32 · bitsLt_bf16_f32) main_arg1
  let main_v6 : FVec F S256x2048 .f32 := Host.absf main_v5
  let main_cst_0 : FVec F S_ .f32 := constant S_ .f32 0x7F800000#32
  let main_v7 : FVec F S256x2048 .f32 := broadcastInDim S256x2048 ![] bcast_S_S256x2048 main_cst_0
  let main_v8 : IVec S256x2048 1 := cmpf .olt main_v6 main_v7
  let main_c_1 : IVec S_ 1 := constantI S_ 1 1#1
  let main_v9 : IVec S_ 1 := (fun x v => Host.reduce IntOp.andi x v reducesTo_S256x2048_S_d0_1 h_S_) main_v8 main_c_1
  let main_v10 : IVec S_ 1 := andi main_v4 main_v9
  let main_v11 : FVec F S8192x1024 .f32 := (extf .f32 · bitsLt_bf16_f32) main_arg2
  let main_v12 : FVec F S8192x1024 .f32 := Host.absf main_v11
  let main_cst_2 : FVec F S_ .f32 := constant S_ .f32 0x7F800000#32
  let main_v13 : FVec F S8192x1024 .f32 := broadcastInDim S8192x1024 ![] bcast_S_S8192x1024 main_cst_2
  let main_v14 : IVec S8192x1024 1 := cmpf .olt main_v12 main_v13
  let main_c_3 : IVec S_ 1 := constantI S_ 1 1#1
  let main_v15 : IVec S_ 1 := (fun x v => Host.reduce IntOp.andi x v reducesTo_S8192x1024_S_d0_1 h_S_) main_v14 main_c_3
  let main_v16 : IVec S_ 1 := andi main_v10 main_v15
  main_v16
-- ==== Kernel.lean ====
abbrev S8192x1024 : Shape := ⟨2, ![8192, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S_ : Shape := ⟨0, ![]⟩
abbrev S8192 : Shape := ⟨1, ![8192]⟩
abbrev S8192x1 : Shape := ⟨2, ![8192, 1]⟩
abbrev S1024x5632 : Shape := ⟨2, ![1024, 5632]⟩
abbrev S8192x5632 : Shape := ⟨2, ![8192, 5632]⟩
abbrev S8192x2816 : Shape := ⟨2, ![8192, 2816]⟩
abbrev S256x1024 : Shape := ⟨2, ![256, 1024]⟩
abbrev S256x2816 : Shape := ⟨2, ![256, 2816]⟩
abbrev S1x768x1024 : Shape := ⟨3, ![1, 768, 1024]⟩
abbrev S768x1024 : Shape := ⟨2, ![768, 1024]⟩
abbrev S256x768 : Shape := ⟨2, ![256, 768]⟩
abbrev S1x1024x768 : Shape := ⟨3, ![1, 1024, 768]⟩
abbrev S1024x768 : Shape := ⟨2, ![1024, 768]⟩
abbrev S1x512x1024 : Shape := ⟨3, ![1, 512, 1024]⟩
abbrev S512x1024 : Shape := ⟨2, ![512, 1024]⟩
abbrev S256x512 : Shape := ⟨2, ![256, 512]⟩
abbrev S1x1024x512 : Shape := ⟨3, ![1, 1024, 512]⟩
abbrev S1024x512 : Shape := ⟨2, ![1024, 512]⟩
abbrev S256 : Shape := ⟨1, ![256]⟩
abbrev S256x1 : Shape := ⟨2, ![256, 1]⟩
abbrev S1024 : Shape := ⟨1, ![1024]⟩

abbrev nBuf : Space → Nat
  | .hbm => 31
  | .vmem => 18
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024x5632, .bf16⟩
  | .hbm, ⟨3, _⟩ => ⟨S1x2816x1024, .bf16⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S1024x5632, .bf16⟩
  | .hbm, ⟨21, _⟩ => ⟨S1024x5632, .f32⟩
  | .hbm, ⟨22, _⟩ => ⟨S8192x5632, .f32⟩
  | .hbm, ⟨23, _⟩ => ⟨S8192x2816, .f32⟩
  | .hbm, ⟨24, _⟩ => ⟨S8192x2816, .f32⟩
  | .hbm, ⟨25, _⟩ => ⟨S8192x2816, .bf16⟩
  | .hbm, ⟨26, _⟩ => ⟨S8192x2816, .bf16⟩
  | .hbm, ⟨27, _⟩ => ⟨S8192x1024, .f32⟩
  | .hbm, ⟨28, _⟩ => ⟨S1x1024, .f32⟩
  | .hbm, ⟨29, _⟩ => ⟨S8192x2816, .bf16⟩
  | .hbm, ⟨30, _⟩ => ⟨S8192x2816, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S256x2816, .bf16⟩
  | .local _ .vmem, ⟨6, _⟩ => ⟨S256x2816, .bf16⟩
  | .local _ .vmem, ⟨7, _⟩ => ⟨S256x2816, .bf16⟩
  | .local _ .vmem, ⟨8, _⟩ => ⟨S256x2816, .bf16⟩
  | .local _ .vmem, ⟨9, _⟩ => ⟨S1x1024x5632, .bf16⟩
  | .local _ .vmem, ⟨10, _⟩ => ⟨S1x2816x1024, .bf16⟩
  | .local _ .vmem, ⟨11, _⟩ => ⟨S256x1024, .f32⟩
  | .local _ .vmem, ⟨12, _⟩ => ⟨S256x1024, .f32⟩
  | .local _ .vmem, ⟨13, _⟩ => ⟨S1x1024, .f32⟩
  | .local _ .vmem, ⟨14, _⟩ => ⟨S256x2816, .bf16⟩
  | .local _ .vmem, ⟨15, _⟩ => ⟨S256x2816, .bf16⟩
  | .local _ .vmem, ⟨16, _⟩ => ⟨S256x2816, .bf16⟩
  | .local _ .vmem, ⟨17, _⟩ => ⟨S256x2816, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19_0 : Ref sig .tc := ⟨.hbm, 27, rfl⟩
abbrev main_v19_1 : Ref sig .tc := ⟨.hbm, 28, rfl⟩
abbrev main_v19_2 : Ref sig .tc := ⟨.hbm, 29, rfl⟩
abbrev main_v19_3 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v184 : BitVec 1 := Scalar.cmpi .eq arg0 c0_i32
  let v185 : BitVec 32 := Scalar.extui v184
  let c0_i32_106 : BitVec 32 := 0#32
  let v186 : BitVec 1 := Scalar.cmpi .ne v185 c0_i32_106
  v186

def k0_cond2 (i : grid0.Coords) : BitVec 1 :=
  let arg0 : BitVec 32 := BitVec.ofNat 32 (i 0).val
  let c0_i32_107 : BitVec 32 := 0#32
  let v187 : BitVec 1 := Scalar.cmpi .sgt arg0 c0_i32_107
  let v188 : BitVec 32 := Scalar.extui v187
  let c0_i32_108 : BitVec 32 := 0#32
  let v189 : BitVec 1 := Scalar.cmpi .ne v188 c0_i32_108
  v189

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024x5632 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x2816 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2816 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceIdeal.lean ====
abbrev S8192x1024 : Shape := ⟨2, ![8192, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S1024x5632 : Shape := ⟨2, ![1024, 5632]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S8192x5632 : Shape := ⟨2, ![8192, 5632]⟩
abbrev S8192x2816 : Shape := ⟨2, ![8192, 2816]⟩
abbrev S1024 : Shape := ⟨1, ![1024]⟩

abbrev nBuf : Space → Nat
  | .hbm => 139
  | .vmem => 0
  | .smem => 0
  | _ => 0

abbrev hbmTy0_0 (i : Nat) : BufTy := match i % 128 with
  | 0 => ⟨S8192x1024, .f32⟩
  | 1 => ⟨S1x1024, .f32⟩
  | 2 => ⟨S1x1024x5632, .bf16⟩
  | 3 => ⟨S1x2816x1024, .bf16⟩
  | 4 => ⟨S8192x1024, .f32⟩
  | 5 => ⟨S1024x5632, .bf16⟩
  | 6 => ⟨S1024x5632, .f32⟩
  | 7 => ⟨S2816x1024, .bf16⟩
  | 8 => ⟨S2816x1024, .f32⟩
  | 9 => ⟨S8192x1024, .f32⟩
  | 10 => ⟨S_, .f32⟩
  | 11 => ⟨S8192, .f32⟩
  | 12 => ⟨S8192x1, .f32⟩
  | 13 => ⟨S_, .f32⟩
  | 14 => ⟨S8192x1, .f32⟩
  | 15 => ⟨S8192x1, .f32⟩
  | 16 => ⟨S_, .f32⟩
  | 17 => ⟨S8192x1, .f32⟩
  | 18 => ⟨S8192x1, .f32⟩
  | 19 => ⟨S8192x1, .f32⟩
  | 20 => ⟨S8192x1, .f32⟩
  | 21 => ⟨S_, .f32⟩
  | 22 => ⟨S8192x1, .f32⟩
  | 23 => ⟨S8192x1, .f32⟩
  | 24 => ⟨S8192x1024, .f32⟩
  | 25 => ⟨S8192x1024, .f32⟩
  | 26 => ⟨S8192x1024, .f32⟩
  | 27 => ⟨S8192x1024, .f32⟩
  | 28 => ⟨S8192x5632, .f32⟩
  | 29 => ⟨S8192x2816, .f32⟩
  | 30 => ⟨S8192x2816, .f32⟩
  | 31 => ⟨S8192x2816, .f32⟩
  | 32 => ⟨S8192x2816, .f32⟩
  | 33 => ⟨S_, .f32⟩
  | 34 => ⟨S8192x2816, .f32⟩
  | 35 => ⟨S8192x2816, .f32⟩
  | 36 => ⟨S_, .f32⟩
  | 37 => ⟨S8192x2816, .f32⟩
  | 38 => ⟨S8192x2816, .f32⟩
  | 39 => ⟨S_, .f32⟩
  | 40 => ⟨S8192x2816, .f32⟩
  | 41 => ⟨S8192x2816, .f32⟩
  | 42 => ⟨S8192x2816, .f32⟩
  | 43 => ⟨S8192x2816, .f32⟩
  | 44 => ⟨S8192x2816, .f32⟩
  | 45 => ⟨S8192x1024, .f32⟩
  | 46 => ⟨S_, .f32⟩
  | 47 => ⟨S8192x1024, .f32⟩
  | 48 => ⟨S8192x1024, .f32⟩
  | 49 => ⟨S8192x1024, .f32⟩
  | 50 => ⟨S8192x1024, .f32⟩
  | 51 => ⟨S_, .f32⟩
  | 52 => ⟨S8192x1024, .f32⟩
  | 53 => ⟨S8192x1024, .f32⟩
  | 54 => ⟨S8192x2816, .f32⟩
  | 55 => ⟨S8192x2816, .f32⟩
  | 56 => ⟨S8192x2816, .f32⟩
  | 57 => ⟨S8192x2816, .f32⟩
  | 58 => ⟨S8192x2816, .f32⟩
  | 59 => ⟨S8192x2816, .f32⟩
  | 60 => ⟨S8192x2816, .f32⟩
  | 61 => ⟨S_, .f32⟩
  | 62 => ⟨S8192x5632, .f32⟩
  | 63 => ⟨S_, .f32⟩
  | 64 => ⟨S8192x5632, .f32⟩
  | 65 => ⟨S8192x5632, .f32⟩
  | 66 => ⟨S8192x1024, .f32⟩
  | 67 => ⟨S8192x1024, .f32⟩
  | 68 => ⟨S_, .f32⟩
  | 69 => ⟨S1024, .f32⟩
  | 70 => ⟨S1x1024, .f32⟩
  | 71 => ⟨S8192x1024, .f32⟩
  | 72 => ⟨S8192x1024, .f32⟩
  | 73 => ⟨S8192x1024, .f32⟩
  | 74 => ⟨S_, .f32⟩
  | 75 => ⟨S8192, .f32⟩
  | 76 => ⟨S8192x1, .f32⟩
  | 77 => ⟨S8192x1024, .f32⟩
  | 78 => ⟨S8192x1024, .f32⟩
  | 79 => ⟨S8192x1024, .f32⟩
  | 80 => ⟨S8192x1, .f32⟩
  | 81 => ⟨S_, .f32⟩
  | 82 => ⟨S8192x1, .f32⟩
  | 83 => ⟨S8192x1, .f32⟩
  | 84 => ⟨S_, .f32⟩
  | 85 => ⟨S8192, .f32⟩
  | 86 => ⟨S8192x1024, .f32⟩
  | 87 => ⟨S8192x1024, .f32⟩
  | 88 => ⟨S8192x1024, .f32⟩
  | 89 => ⟨S8192x1024, .f32⟩
  | 90 => ⟨S8192x1024, .f32⟩
  | 91 => ⟨S8192x1024, .f32⟩
  | 92 => ⟨S_, .f32⟩
  | 93 => ⟨S8192, .f32⟩
  | 94 => ⟨S8192x1, .f32⟩
  | 95 => ⟨S_, .f32⟩
  | 96 => ⟨S8192x1, .f32⟩
  | 97 => ⟨S8192x1, .f32⟩
  | 98 => ⟨S_, .f32⟩
  | 99 => ⟨S8192x1, .f32⟩
  | 100 => ⟨S8192x1, .f32⟩
  | 101 => ⟨S8192x1, .f32⟩
  | 102 => ⟨S8192x1024, .f32⟩
  | 103 => ⟨S8192x1024, .f32⟩
  | 104 => ⟨S8192x1024, .f32⟩
  | 105 => ⟨S8192x1024, .f32⟩
  | 106 => ⟨S8192x5632, .f32⟩
  | 107 => ⟨S8192x2816, .f32⟩
  | 108 => ⟨S8192x2816, .f32⟩
  | 109 => ⟨S8192x2816, .f32⟩
  | 110 => ⟨S8192x2816, .f32⟩
  | 111 => ⟨S_, .f32⟩
  | 112 => ⟨S8192x2816, .f32⟩
  | 113 => ⟨S8192x2816, .f32⟩
  | 114 => ⟨S_, .f32⟩
  | 115 => ⟨S8192x2816, .f32⟩
  | 116 => ⟨S8192x2816, .f32⟩
  | 117 => ⟨S_, .f32⟩
  | 118 => ⟨S8192x2816, .f32⟩
  | 119 => ⟨S8192x2816, .f32⟩
  | 120 => ⟨S8192x2816, .f32⟩
  | 121 => ⟨S8192x2816, .f32⟩
  | 122 => ⟨S8192x2816, .f32⟩
  | 123 => ⟨S8192x1024, .f32⟩
  | 124 => ⟨S_, .f32⟩
  | 125 => ⟨S8192x1024, .f32⟩
  | 126 => ⟨S8192x1024, .f32⟩
  | 127 => ⟨S_, .f32⟩
  | _ => ⟨S8192x1024, .f32⟩

abbrev hbmTy0_1 (i : Nat) : BufTy := match i % 128 with
  | 0 => ⟨S8192x1024, .f32⟩
  | 1 => ⟨S8192x1024, .f32⟩
  | 2 => ⟨S8192x2816, .f32⟩
  | 3 => ⟨S8192x2816, .f32⟩
  | 4 => ⟨S8192x2816, .f32⟩
  | 5 => ⟨S8192x2816, .f32⟩
  | 6 => ⟨S8192x2816, .f32⟩
  | 7 => ⟨S8192x2816, .f32⟩
  | 8 => ⟨S8192x2816, .f32⟩
  | 9 => ⟨S8192x2816, .bf16⟩
  | 10 => ⟨S8192x2816, .bf16⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_v22_2 : Ref sig .tc := ⟨.hbm, 38, rfl⟩
abbrev main_call0_cst_1 : Ref sig .tc := ⟨.hbm, 39, rfl⟩
abbrev main_call0_v6 : Ref sig .tc := ⟨.hbm, 40, rfl⟩
abbrev main_call0_v7 : Ref sig .tc := ⟨.hbm, 41, rfl⟩
abbrev main_v22_1 : Ref sig .tc := ⟨.hbm, 42, rfl⟩
abbrev main_v22_0 : Ref sig .tc := ⟨.hbm, 43, rfl⟩
abbrev main_v23 : Ref sig .tc := ⟨.hbm, 44, rfl⟩
abbrev main_v24 : Ref sig .tc := ⟨.hbm, 45, rfl⟩
abbrev main_cst_3 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_cst_4 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_call1_v0 : Ref sig .tc := ⟨.hbm, 57, rfl⟩
abbrev main_call1_v1 : Ref sig .tc := ⟨.hbm, 58, rfl⟩
abbrev main_call1_v2 : Ref sig .tc := ⟨.hbm, 59, rfl⟩
abbrev main_v34 : Ref sig .tc := ⟨.hbm, 60, rfl⟩
abbrev main_cst_5 : Ref sig .tc := ⟨.hbm, 61, rfl⟩
abbrev main_v35 : Ref sig .tc := ⟨.hbm, 62, rfl⟩
abbrev main_cst_6 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_cst_7 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_cst_8 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_cst_9 : Ref sig .tc := ⟨.hbm, 81, rfl⟩
abbrev main_v51 : Ref sig .tc := ⟨.hbm, 82, rfl⟩
abbrev main_v52 : Ref sig .tc := ⟨.hbm, 83, rfl⟩
abbrev main_cst_10 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_cst_11 : Ref sig .tc := ⟨.hbm, 92, rfl⟩
abbrev main_v60 : Ref sig .tc := ⟨.hbm, 93, rfl⟩
abbrev main_v61 : Ref sig .tc := ⟨.hbm, 94, rfl⟩
abbrev main_cst_12 : Ref sig .tc := ⟨.hbm, 95, rfl⟩
abbrev main_v62 : Ref sig .tc := ⟨.hbm, 96, rfl⟩
abbrev main_v63 : Ref sig .tc := ⟨.hbm, 97, rfl⟩
abbrev main_cst_13 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_call2_v0 : Ref sig .tc := ⟨.hbm, 109, rfl⟩
abbrev main_call2_v1 : Ref sig .tc := ⟨.hbm, 110, rfl⟩
abbrev main_call2_cst : Ref sig .tc := ⟨.hbm, 111, rfl⟩
abbrev main_call2_v2 : Ref sig .tc := ⟨.hbm, 112, rfl⟩
abbrev main_call2_v3 : Ref sig .tc := ⟨.hbm, 113, rfl⟩
abbrev main_call2_cst_0 : Ref sig .tc := ⟨.hbm, 114, rfl⟩
abbrev main_call2_v4 : Ref sig .tc := ⟨.hbm, 115, rfl⟩
abbrev main_v74_2 : Ref sig .tc := ⟨.hbm, 116, rfl⟩
abbrev main_call2_cst_1 : Ref sig .tc := ⟨.hbm, 117, rfl⟩
abbrev main_call2_v6 : Ref sig .tc := ⟨.hbm, 118, rfl⟩
abbrev main_call2_v7 : Ref sig .tc := ⟨.hbm, 119, rfl⟩
abbrev main_v74_1 : Ref sig .tc := ⟨.hbm, 120, rfl⟩
abbrev main_v74_0 : Ref sig .tc := ⟨.hbm, 121, rfl⟩
abbrev main_v75 : Ref sig .tc := ⟨.hbm, 122, rfl⟩
abbrev main_v76 : Ref sig .tc := ⟨.hbm, 123, rfl⟩
abbrev main_cst_14 : Ref sig .tc := ⟨.hbm, 124, rfl⟩
abbrev main_v77 : Ref sig .tc := ⟨.hbm, 125, rfl⟩
abbrev main_v78 : Ref sig .tc := ⟨.hbm, 126, rfl⟩
abbrev main_cst_15 : Ref sig .tc := ⟨.hbm, 127, rfl⟩
abbrev main_v79 : Ref sig .tc := ⟨.hbm, 128, rfl⟩
abbrev main_v80 : Ref sig .tc := ⟨.hbm, 129, rfl⟩
abbrev main_v81 : Ref sig .tc := ⟨.hbm, 130, rfl⟩
abbrev main_v82 : Ref sig .tc := ⟨.hbm, 131, rfl⟩
abbrev main_v83 : Ref sig .tc := ⟨.hbm, 132, rfl⟩
abbrev main_call3_v0 : Ref sig .tc := ⟨.hbm, 133, rfl⟩
abbrev main_call3_v1 : Ref sig .tc := ⟨.hbm, 134, rfl⟩
abbrev main_call3_v2 : Ref sig .tc := ⟨.hbm, 135, rfl⟩
abbrev main_v84 : Ref sig .tc := ⟨.hbm, 136, rfl⟩
abbrev main_v85 : Ref sig .tc := ⟨.hbm, 137, rfl⟩
abbrev main_v86 : Ref sig .tc := ⟨.hbm, 138, rfl⟩

abbrev nD : Nat := 1
abbrev τ : Topo := Topo.v7x

variable {F : FTy → Type} [FloatOps F]
-- ==== Kernel2.lean ====
abbrev S8192x1024 : Shape := ⟨2, ![8192, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S8192x2816 : Shape := ⟨2, ![8192, 2816]⟩
abbrev S256x1024 : Shape := ⟨2, ![256, 1024]⟩
abbrev S256x2816 : Shape := ⟨2, ![256, 2816]⟩
abbrev S256 : Shape := ⟨1, ![256]⟩
abbrev S256x1 : Shape := ⟨2, ![256, 1]⟩
abbrev S1x1024x1408 : Shape := ⟨3, ![1, 1024, 1408]⟩
abbrev S1024x1408 : Shape := ⟨2, ![1024, 1408]⟩
abbrev S256x1408 : Shape := ⟨2, ![256, 1408]⟩
abbrev S1x1408x1024 : Shape := ⟨3, ![1, 1408, 1024]⟩
abbrev S1408x1024 : Shape := ⟨2, ![1408, 1024]⟩

abbrev nBuf : Space → Nat
  | .hbm => 9
  | .vmem => 15
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024x5632, .bf16⟩
  | .hbm, ⟨3, _⟩ => ⟨S1x2816x1024, .bf16⟩
  | .hbm, ⟨4, _⟩ => ⟨S8192x1024, .f32⟩
  | .hbm, ⟨5, _⟩ => ⟨S8192x1024, .bf16⟩
  | .hbm, ⟨6, _⟩ => ⟨S8192x2816, .bf16⟩
  | .hbm, ⟨7, _⟩ => ⟨S8192x2816, .bf16⟩
  | .hbm, ⟨8, _⟩ => ⟨S8192x2816, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x1024x5632, .bf16⟩
  | .local _ .vmem, ⟨4, _⟩ => ⟨S1x2816x1024, .bf16⟩
  | .local _ .vmem, ⟨5, _⟩ => ⟨S256x1024, .f32⟩
  | .local _ .vmem, ⟨6, _⟩ => ⟨S256x1024, .f32⟩
  | .local _ .vmem, ⟨7, _⟩ => ⟨S256x1024, .bf16⟩
  | .local _ .vmem, ⟨8, _⟩ => ⟨S256x1024, .bf16⟩
  | .local _ .vmem, ⟨9, _⟩ => ⟨S256x2816, .bf16⟩
  | .local _ .vmem, ⟨10, _⟩ => ⟨S256x2816, .bf16⟩
  | .local _ .vmem, ⟨11, _⟩ => ⟨S256x2816, .bf16⟩
  | .local _ .vmem, ⟨12, _⟩ => ⟨S256x2816, .bf16⟩
  | .local _ .vmem, ⟨13, _⟩ => ⟨S256x2816, .bf16⟩
  | .local _ .vmem, ⟨14, _⟩ => ⟨S256x2816, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_v0_4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2816 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference2Ideal.lean ====
abbrev S8192x1024 : Shape := ⟨2, ![8192, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S_ : Shape := ⟨0, ![]⟩
abbrev S8192 : Shape := ⟨1, ![8192]⟩
abbrev S8192x1 : Shape := ⟨2, ![8192, 1]⟩
abbrev S1024x5632 : Shape := ⟨2, ![1024, 5632]⟩
abbrev S8192x5632 : Shape := ⟨2, ![8192, 5632]⟩
abbrev S8192x2816 : Shape := ⟨2, ![8192, 2816]⟩
abbrev S2816x1024 : Shape := ⟨2, ![2816, 1024]⟩

abbrev nBuf : Space → Nat
  | .hbm => 45
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024x5632, .bf16⟩
  | .hbm, ⟨3, _⟩ => ⟨S1x2816x1024, .bf16⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S1024x5632, .bf16⟩
  | .hbm, ⟨20, _⟩ => ⟨S1024x5632, .f32⟩
  | .hbm, ⟨21, _⟩ => ⟨S8192x5632, .f32⟩
  | .hbm, ⟨22, _⟩ => ⟨S8192x2816, .f32⟩
  | .hbm, ⟨23, _⟩ => ⟨S8192x2816, .f32⟩
  | .hbm, ⟨24, _⟩ => ⟨S8192x2816, .f32⟩
  | .hbm, ⟨25, _⟩ => ⟨S8192x2816, .f32⟩
  | .hbm, ⟨26, _⟩ => ⟨S_, .f32⟩
  | .hbm, ⟨27, _⟩ => ⟨S8192x2816, .f32⟩
  | .hbm, ⟨28, _⟩ => ⟨S8192x2816, .f32⟩
  | .hbm, ⟨29, _⟩ => ⟨S_, .f32⟩
  | .hbm, ⟨30, _⟩ => ⟨S8192x2816, .f32⟩
  | .hbm, ⟨31, _⟩ => ⟨S8192x2816, .f32⟩
  | .hbm, ⟨32, _⟩ => ⟨S8192x2816, .f32⟩
  | .hbm, ⟨33, _⟩ => ⟨S8192x2816, .f32⟩
  | .hbm, ⟨34, _⟩ => ⟨S2816x1024, .bf16⟩
  | .hbm, ⟨35, _⟩ => ⟨S2816x1024, .f32⟩
  | .hbm, ⟨36, _⟩ => ⟨S8192x1024, .f32⟩
  | .hbm, ⟨37, _⟩ => ⟨S_, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .bf16⟩
  | .hbm, ⟨42, _⟩ => ⟨S8192x2816, .bf16⟩
  | .hbm, ⟨43, _⟩ => ⟨S8192x2816, .bf16⟩
  | .hbm, ⟨44, _⟩ => ⟨S8192x2816, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_2 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩

abbrev nD : Nat := 1
abbrev τ : Topo := Topo.v7x

variable {F : FTy → Type} [FloatOps F]
-- ==== Kernel3.lean ====
abbrev S8192x2816 : Shape := ⟨2, ![8192, 2816]⟩
abbrev S1x2816x1024 : Shape := ⟨3, ![1, 2816, 1024]⟩
abbrev S8192x1024 : Shape := ⟨2, ![8192, 1024]⟩
abbrev S_ : Shape := ⟨0, ![]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 18
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x2816, .bf16⟩
  | .hbm, ⟨2, _⟩ => ⟨S1x2816x1024, .bf16⟩
  | .hbm, ⟨3, _⟩ => ⟨S8192x1024, .f32⟩
  | .hbm, ⟨4, _⟩ => ⟨S8192x2816, .f32⟩
  | .hbm, ⟨5, _⟩ => ⟨S8192x2816, .f32⟩
  | .hbm, ⟨6, _⟩ => ⟨S8192x2816, .f32⟩
  | .hbm, ⟨7, _⟩ => ⟨S_, .f32⟩
  | .hbm, ⟨8, _⟩ => ⟨S8192x2816, .f32⟩
  | .hbm, ⟨9, _⟩ => ⟨S8192x2816, .f32⟩
  | .hbm, ⟨10, _⟩ => ⟨S_, .f32⟩
  | .hbm, ⟨11, _⟩ => ⟨S8192x2816, .f32⟩
  | .hbm, ⟨12, _⟩ => ⟨S8192x2816, .f32⟩
  | .hbm, ⟨13, _⟩ => ⟨S8192x2816, .f32⟩
  | .hbm, ⟨14, _⟩ => ⟨S8192x2816, .f32⟩
  | .hbm, ⟨15, _⟩ => ⟨S8192x2816, .f32⟩
  | .hbm, ⟨16, _⟩ => ⟨S8192x2816, .bf16⟩
  | .hbm, ⟨17, _⟩ => ⟨S2816x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1024, .f32⟩
  | .local _ .vmem, ⟨3, _⟩ => ⟨S1024x1024, .f32⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond3 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S8192x2816 : Shape := ⟨2, ![8192, 2816]⟩
abbrev S1x2816x1024 : Shape := ⟨3, ![1, 2816, 1024]⟩
abbrev S8192x1024 : Shape := ⟨2, ![8192, 1024]⟩
abbrev S2816x1024 : Shape := ⟨2, ![2816, 1024]⟩
abbrev S_ : Shape := ⟨0, ![]⟩
abbrev S1024x2816 : Shape := ⟨2, ![1024, 2816]⟩

abbrev nBuf : Space → Nat
  | .hbm => 28
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x2816, .bf16⟩
  | .hbm, ⟨2, _⟩ => ⟨S1x2816x1024, .bf16⟩
  | .hbm, ⟨3, _⟩ => ⟨S8192x1024, .f32⟩
  | .hbm, ⟨4, _⟩ => ⟨S8192x2816, .f32⟩
  | .hbm, ⟨5, _⟩ => ⟨S8192x2816, .f32⟩
  | .hbm, ⟨6, _⟩ => ⟨S2816x1024, .bf16⟩
  | .hbm, ⟨7, _⟩ => ⟨S2816x1024, .f32⟩
  | .hbm, ⟨8, _⟩ => ⟨S8192x2816, .f32⟩
  | .hbm, ⟨9, _⟩ => ⟨S8192x2816, .f32⟩
  | .hbm, ⟨10, _⟩ => ⟨S_, .f32⟩
  | .hbm, ⟨11, _⟩ => ⟨S8192x2816, .f32⟩
  | .hbm, ⟨12, _⟩ => ⟨S8192x2816, .f32⟩
  | .hbm, ⟨13, _⟩ => ⟨S_, .f32⟩
  | .hbm, ⟨14, _⟩ => ⟨S8192x2816, .f32⟩
  | .hbm, ⟨15, _⟩ => ⟨S8192x2816, .f32⟩
  | .hbm, ⟨16, _⟩ => ⟨S8192x2816, .f32⟩
  | .hbm, ⟨17, _⟩ => ⟨S8192x2816, .f32⟩
  | .hbm, ⟨18, _⟩ => ⟨S8192x1024, .f32⟩
  | .hbm, ⟨19, _⟩ => ⟨S_, .f32⟩
  | .hbm, ⟨20, _⟩ => ⟨S8192x1024, .f32⟩
  | .hbm, ⟨21, _⟩ => ⟨S8192x1024, .f32⟩
  | .hbm, ⟨22, _⟩ => ⟨S_, .f32⟩
  | .hbm, ⟨23, _⟩ => ⟨S8192x1024, .f32⟩
  | .hbm, ⟨24, _⟩ => ⟨S8192x1024, .f32⟩
  | .hbm, ⟨25, _⟩ => ⟨S1024x2816, .f32⟩
  | .hbm, ⟨26, _⟩ => ⟨S2816x1024, .f32⟩
  | .hbm, ⟨27, _⟩ => ⟨S2816x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_v8 : Ref sig .tc := ⟨.hbm, 21, rfl⟩
abbrev main_cst_0 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩

abbrev nD : Nat := 1
abbrev τ : Topo := Topo.v7x

variable {F : FTy → Type} [FloatOps F]
-- ==== Kernel4.lean ====
abbrev S8192x1024 : Shape := ⟨2, ![8192, 1024]⟩
abbrev S1x1024 : Shape := ⟨2, ![1, 1024]⟩
abbrev S1x1024x5632 : Shape := ⟨3, ![1, 1024, 5632]⟩
abbrev S8192x2816 : Shape := ⟨2, ![8192, 2816]⟩
abbrev S_ : Shape := ⟨0, ![]⟩
abbrev S8192 : Shape := ⟨1, ![8192]⟩
abbrev S8192x1 : Shape := ⟨2, ![8192, 1]⟩
abbrev S2048x1024 : Shape := ⟨2, ![2048, 1024]⟩
abbrev S2048x1408 : Shape := ⟨2, ![2048, 1408]⟩
abbrev S1x1024x1408 : Shape := ⟨3, ![1, 1024, 1408]⟩
abbrev S1024x1408 : Shape := ⟨2, ![1024, 1408]⟩
abbrev S1x1024x2816 : Shape := ⟨3, ![1, 1024, 2816]⟩

abbrev nBuf : Space → Nat
  | .hbm => 22
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024x5632, .bf16⟩
  | .hbm, ⟨3, _⟩ => ⟨S8192x2816, .bf16⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .bf16⟩
  | .hbm, ⟨20, _⟩ => ⟨S1x1024x5632, .bf16⟩
  | .hbm, ⟨21, _⟩ => ⟨S1x1024x2816, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1024x1408, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S8192x1024 : Shape := ⟨2, ![8192, 1024]⟩
abbrev S1x1024 : Shape := ⟨2, ![1, 1024]⟩
abbrev S1x1024x5632 : Shape := ⟨3, ![1, 1024, 5632]⟩
abbrev S8192x2816 : Shape := ⟨2, ![8192, 2816]⟩
abbrev S_ : Shape := ⟨0, ![]⟩
abbrev S8192 : Shape := ⟨1, ![8192]⟩
abbrev S8192x1 : Shape := ⟨2, ![8192, 1]⟩
abbrev S1024x5632 : Shape := ⟨2, ![1024, 5632]⟩
abbrev S8192x5632 : Shape := ⟨2, ![8192, 5632]⟩
abbrev S5632x1024 : Shape := ⟨2, ![5632, 1024]⟩
abbrev S1024x2816 : Shape := ⟨2, ![1024, 2816]⟩
abbrev S1x1024x2816 : Shape := ⟨3, ![1, 1024, 2816]⟩

abbrev nBuf : Space → Nat
  | .hbm => 32
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024x5632, .bf16⟩
  | .hbm, ⟨3, _⟩ => ⟨S8192x2816, .bf16⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S1024x5632, .bf16⟩
  | .hbm, ⟨20, _⟩ => ⟨S1024x5632, .f32⟩
  | .hbm, ⟨21, _⟩ => ⟨S8192x5632, .f32⟩
  | .hbm, ⟨22, _⟩ => ⟨S8192x2816, .f32⟩
  | .hbm, ⟨23, _⟩ => ⟨S8192x2816, .f32⟩
  | .hbm, ⟨24, _⟩ => ⟨S8192x2816, .f32⟩
  | .hbm, ⟨25, _⟩ => ⟨S_, .f32⟩
  | .hbm, ⟨26, _⟩ => ⟨S8192x5632, .f32⟩
  | .hbm, ⟨27, _⟩ => ⟨S5632x1024, .f32⟩
  | .hbm, ⟨28, _⟩ => ⟨S1024x5632, .f32⟩
  | .hbm, ⟨29, _⟩ => ⟨S1024x5632, .bf16⟩
  | .hbm, ⟨30, _⟩ => ⟨S1024x2816, .bf16⟩
  | .hbm, ⟨31, _⟩ => ⟨S1x1024x2816, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]
-- ==== Kernel5.lean ====
abbrev S8192x1024 : Shape := ⟨2, ![8192, 1024]⟩
abbrev S1x1024 : Shape := ⟨2, ![1, 1024]⟩
abbrev S1x1024x5632 : Shape := ⟨3, ![1, 1024, 5632]⟩
abbrev S8192x2816 : Shape := ⟨2, ![8192, 2816]⟩
abbrev S_ : Shape := ⟨0, ![]⟩
abbrev S8192 : Shape := ⟨1, ![8192]⟩
abbrev S8192x1 : Shape := ⟨2, ![8192, 1]⟩
abbrev S2048x1024 : Shape := ⟨2, ![2048, 1024]⟩
abbrev S2048x1408 : Shape := ⟨2, ![2048, 1408]⟩
abbrev S1x1024x1408 : Shape := ⟨3, ![1, 1024, 1408]⟩
abbrev S1024x1408 : Shape := ⟨2, ![1024, 1408]⟩

abbrev nBuf : Space → Nat
  | .hbm => 22
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024x5632, .bf16⟩
  | .hbm, ⟨3, _⟩ => ⟨S1x1024x5632, .bf16⟩
  | .hbm, ⟨4, _⟩ => ⟨S8192x2816, .bf16⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .bf16⟩
  | .hbm, ⟨21, _⟩ => ⟨S1x1024x5632, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1024x1408, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi arg1 c2_i32
  let c0_i32 : BitVec 32 := 0#32
  let c0_i32_0 : BitVec 32 := 0#32
  ![c0_i32.toNat, arg0.toNat, v0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S8192x1024 : Shape := ⟨2, ![8192, 1024]⟩
abbrev S1x1024 : Shape := ⟨2, ![1, 1024]⟩
abbrev S1x1024x5632 : Shape := ⟨3, ![1, 1024, 5632]⟩
abbrev S8192x2816 : Shape := ⟨2, ![8192, 2816]⟩
abbrev S_ : Shape := ⟨0, ![]⟩
abbrev S8192 : Shape := ⟨1, ![8192]⟩
abbrev S8192x1 : Shape := ⟨2, ![8192, 1]⟩
abbrev S1024x5632 : Shape := ⟨2, ![1024, 5632]⟩
abbrev S8192x5632 : Shape := ⟨2, ![8192, 5632]⟩
abbrev S5632x1024 : Shape := ⟨2, ![5632, 1024]⟩
abbrev S1x1024x2816 : Shape := ⟨3, ![1, 1024, 2816]⟩
abbrev S1024x2816 : Shape := ⟨2, ![1024, 2816]⟩

abbrev nBuf : Space → Nat
  | .hbm => 35
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024x5632, .bf16⟩
  | .hbm, ⟨3, _⟩ => ⟨S1x1024x5632, .bf16⟩
  | .hbm, ⟨4, _⟩ => ⟨S8192x2816, .bf16⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S1024x5632, .bf16⟩
  | .hbm, ⟨21, _⟩ => ⟨S1024x5632, .f32⟩
  | .hbm, ⟨22, _⟩ => ⟨S8192x5632, .f32⟩
  | .hbm, ⟨23, _⟩ => ⟨S8192x2816, .f32⟩
  | .hbm, ⟨24, _⟩ => ⟨S8192x2816, .f32⟩
  | .hbm, ⟨25, _⟩ => ⟨S8192x2816, .f32⟩
  | .hbm, ⟨26, _⟩ => ⟨S_, .f32⟩
  | .hbm, ⟨27, _⟩ => ⟨S8192x5632, .f32⟩
  | .hbm, ⟨28, _⟩ => ⟨S5632x1024, .f32⟩
  | .hbm, ⟨29, _⟩ => ⟨S1024x5632, .f32⟩
  | .hbm, ⟨30, _⟩ => ⟨S1x1024x2816, .bf16⟩
  | .hbm, ⟨31, _⟩ => ⟨S1024x5632, .bf16⟩
  | .hbm, ⟨32, _⟩ => ⟨S1024x2816, .bf16⟩
  | .hbm, ⟨33, _⟩ => ⟨S1x1024x2816, .bf16⟩
  | .hbm, ⟨34, _⟩ => ⟨S1x1024x5632, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩

abbrev nD : Nat := 1
abbrev τ : Topo := Topo.v7x

variable {F : FTy → Type} [FloatOps F]
-- ==== Kernel6.lean ====
abbrev S8192x1024 : Shape := ⟨2, ![8192, 1024]⟩
abbrev S256x2048 : Shape := ⟨2, ![256, 2048]⟩
abbrev S512x1024 : Shape := ⟨2, ![512, 1024]⟩
abbrev S256x1024 : Shape := ⟨2, ![256, 1024]⟩
abbrev S512x256 : Shape := ⟨2, ![512, 256]⟩
abbrev S256x256 : Shape := ⟨2, ![256, 256]⟩
abbrev S512 : Shape := ⟨1, ![512]⟩
abbrev S512x1 : Shape := ⟨2, ![512, 1]⟩

abbrev nBuf : Space → Nat
  | .hbm => 5
  | .vmem => 9
  | .smem => 0
  | _ => 0

abbrev bufTy : (tb : Table) → Fin (tcTables nBuf tb) → BufTy
  | .hbm, ⟨0, _⟩ => ⟨S8192x1024, .bf16⟩
  | .hbm, ⟨1, _⟩ => ⟨S256x2048, .bf16⟩
  | .hbm, ⟨2, _⟩ => ⟨S8192x1024, .bf16⟩
  | .hbm, ⟨3, _⟩ => ⟨S8192x1024, .bf16⟩
  | .hbm, ⟨4, _⟩ => ⟨S256x2048, .f32⟩
  | .local _ .vmem, ⟨0, _⟩ => ⟨S512x1024, .bf16⟩
  | .local _ .vmem, ⟨1, _⟩ => ⟨S512x1024, .bf16⟩
  | .local _ .vmem, ⟨2, _⟩ => ⟨S256x1024, .bf16⟩
  | .local _ .vmem, ⟨3, _⟩ => ⟨S256x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S256x2048, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S256x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference6Ideal.lean ====
abbrev S8192x1024 : Shape := ⟨2, ![8192, 1024]⟩
abbrev S256x2048 : Shape := ⟨2, ![256, 2048]⟩
abbrev S256x1024 : Shape := ⟨2, ![256, 1024]⟩
abbrev S1x8192x4x256 : Shape := ⟨4, ![1, 8192, 4, 256]⟩
abbrev S1x256x4x256 : Shape := ⟨4, ![1, 256, 4, 256]⟩
abbrev S1x4x8192x256 : Shape := ⟨4, ![1, 4, 8192, 256]⟩
abbrev S_ : Shape := ⟨0, ![]⟩
abbrev S1x4x8192 : Shape := ⟨3, ![1, 4, 8192]⟩
abbrev S1x4x8192x1 : Shape := ⟨4, ![1, 4, 8192, 1]⟩
abbrev S1x4x256x8192 : Shape := ⟨4, ![1, 4, 256, 8192]⟩
abbrev S1x4x256x256 : Shape := ⟨4, ![1, 4, 256, 256]⟩
abbrev S4x8192 : Shape := ⟨2, ![4, 8192]⟩

abbrev nBuf : Space → Nat
  | .hbm => 88
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S256x2048, .bf16⟩
  | .hbm, ⟨2, _⟩ => ⟨S8192x1024, .bf16⟩
  | .hbm, ⟨3, _⟩ => ⟨S8192x1024, .f32⟩
  | .hbm, ⟨4, _⟩ => ⟨S256x2048, .f32⟩
  | .hbm, ⟨5, _⟩ => ⟨S8192x1024, .f32⟩
  | .hbm, ⟨6, _⟩ => ⟨S256x1024, .f32⟩
  | .hbm, ⟨7, _⟩ => ⟨S256x1024, .f32⟩
  | .hbm, ⟨8, _⟩ => ⟨S1x8192x4x256, .f32⟩
  | .hbm, ⟨9, _⟩ => ⟨S1x256x4x256, .f32⟩
  | .hbm, ⟨10, _⟩ => ⟨S1x256x4x256, .f32⟩
  | .hbm, ⟨11, _⟩ => ⟨S1x4x8192x256, .f32⟩
  | .hbm, ⟨12, _⟩ => ⟨S_, .f32⟩
  | .hbm, ⟨13, _⟩ => ⟨S1x4x8192x256, .f32⟩
  | .hbm, ⟨14, _⟩ => ⟨S1x4x8192x256, .f32⟩
  | .hbm, ⟨15, _⟩ => ⟨S_, .f32⟩
  | .hbm, ⟨16, _⟩ => ⟨S1x4x8192, .f32⟩
  | .hbm, ⟨17, _⟩ => ⟨S1x4x8192x1, .f32⟩
  | .hbm, ⟨18, _⟩ => ⟨S1x4x8192x256, .f32⟩
  | .hbm, ⟨19, _⟩ => ⟨S1x4x8192x256, .i1⟩
  | .hbm, ⟨20, _⟩ => ⟨S1x4x8192x256, .f32⟩
  | .hbm, ⟨21, _⟩ => ⟨S_, .f32⟩
  | .hbm, ⟨22, _⟩ => ⟨S1x4x8192, .f32⟩
  | .hbm, ⟨23, _⟩ => ⟨S_, .f32⟩
  | .hbm, ⟨24, _⟩ => ⟨S1x4x8192, .f32⟩
  | .hbm, ⟨25, _⟩ => ⟨S1x4x8192, .f32⟩
  | .hbm, ⟨26, _⟩ => ⟨S_, .f32⟩
  | .hbm, ⟨27, _⟩ => ⟨S1x4x8192, .f32⟩
  | .hbm, ⟨28, _⟩ => ⟨S1x4x8192, .i1⟩
  | .hbm, ⟨29, _⟩ => ⟨S_, .f32⟩
  | .hbm, ⟨30, _⟩ => ⟨S1x4x8192, .f32⟩
  | .hbm, ⟨31, _⟩ => ⟨S1x4x8192, .i1⟩
  | .hbm, ⟨32, _⟩ => ⟨S_, .f32⟩
  | .hbm, ⟨33, _⟩ => ⟨S1x4x8192, .f32⟩
  | .hbm, ⟨34, _⟩ => ⟨S_, .f32⟩
  | .hbm, ⟨35, _⟩ => ⟨S1x4x8192, .f32⟩
  | .hbm, ⟨36, _⟩ => ⟨S_, .f32⟩
  | .hbm, ⟨37, _⟩ => ⟨S1x4x8192, .f32⟩
  | .hbm, ⟨38, _⟩ => ⟨S1x4x8192, .f32⟩
  | .hbm, ⟨39, _⟩ => ⟨S1x4x8192, .f32⟩
  | .hbm, ⟨40, _⟩ => ⟨S1x4x8192x1, .f32⟩
  | .hbm, ⟨41, _⟩ => ⟨S1x4x8192x256, .f32⟩
  | .hbm, ⟨42, _⟩ => ⟨S1x4x8192x256, .f32⟩
  | .hbm, ⟨43, _⟩ => ⟨S1x4x8192x256, .f32⟩
  | .hbm, ⟨44, _⟩ => ⟨S_, .f32⟩
  | .hbm, ⟨45, _⟩ => ⟨S1x4x8192, .f32⟩
  | .hbm, ⟨46, _⟩ => ⟨S1x4x8192x1, .f32⟩
  | .hbm, ⟨47, _⟩ => ⟨S1x4x8192x256, .f32⟩
  | .hbm, ⟨48, _⟩ => ⟨S1x4x8192x256, .f32⟩
  | .hbm, ⟨49, _⟩ => ⟨S1x4x8192x1, .f32⟩
  | .hbm, ⟨50, _⟩ => ⟨S_, .f32⟩
  | .hbm, ⟨51, _⟩ => ⟨S1x4x8192x1, .f32⟩
  | .hbm, ⟨52, _⟩ => ⟨S1x4x8192x1, .f32⟩
  | .hbm, ⟨53, _⟩ => ⟨S1x4x256x8192, .f32⟩
  | .hbm, ⟨54, _⟩ => ⟨S1x8192x4x256, .f32⟩
  | .hbm, ⟨55, _⟩ => ⟨S8192x1024, .f32⟩
  | .hbm, ⟨56, _⟩ => ⟨S1x8192x4x256, .f32⟩
  | .hbm, ⟨57, _⟩ => ⟨S1x4x256x8192, .f32⟩
  | .hbm, ⟨58, _⟩ => ⟨S1x4x8192x256, .f32⟩
  | .hbm, ⟨59, _⟩ => ⟨S1x4x256x256, .f32⟩
  | .hbm, ⟨60, _⟩ => ⟨S1x256x4x256, .f32⟩
  | .hbm, ⟨61, _⟩ => ⟨S1x4x8192x256, .f32⟩
  | .hbm, ⟨62, _⟩ => ⟨S1x4x8192x256, .f32⟩
  | .hbm, ⟨63, _⟩ => ⟨S1x4x8192x256, .f32⟩
  | .hbm, ⟨64, _⟩ => ⟨S_, .f32⟩
  | .hbm, ⟨65, _⟩ => ⟨S1x4x8192, .f32⟩
  | .hbm, ⟨66, _⟩ => ⟨S1x4x8192x1, .f32⟩
  | .hbm, ⟨67, _⟩ => ⟨S1x4x8192x1, .f32⟩
  | .hbm, ⟨68, _⟩ => ⟨S1x4x8192x256, .f32⟩
  | .hbm, ⟨69, _⟩ => ⟨S1x4x8192x256, .f32⟩
  | .hbm, ⟨70, _⟩ => ⟨S_, .f32⟩
  | .hbm, ⟨71, _⟩ => ⟨S4x8192, .f32⟩
  | .hbm, ⟨72, _⟩ => ⟨S1x4x8192, .f32⟩
  | .hbm, ⟨73, _⟩ => ⟨S1x4x8192x256, .f32⟩
  | .hbm, ⟨74, _⟩ => ⟨S1x4x8192x256, .f32⟩
  | .hbm, ⟨75, _⟩ => ⟨S1x4x8192x256, .f32⟩
  | .hbm, ⟨76, _⟩ => ⟨S_, .f32⟩
  | .hbm, ⟨77, _⟩ => ⟨S1x4x8192x256, .f32⟩
  | .hbm, ⟨78, _⟩ => ⟨S1x4x8192x256, .f32⟩
  | .hbm, ⟨79, _⟩ => ⟨S1x4x256x256, .f32⟩
  | .hbm, ⟨80, _⟩ => ⟨S1x256x4x256, .f32⟩
  | .hbm, ⟨81, _⟩ => ⟨S1x4x8192x256, .f32⟩
  | .hbm, ⟨82, _⟩ => ⟨S1x8192x4x256, .f32⟩
  | .hbm, ⟨83, _⟩ => ⟨S256x1024, .f32⟩
  | .hbm, ⟨84, _⟩ => ⟨S256x1024, .f32⟩
  | .hbm, ⟨85, _⟩ => ⟨S8192x1024, .f32⟩
  | .hbm, ⟨86, _⟩ => ⟨S8192x1024, .bf16⟩
  | .hbm, ⟨87, _⟩ => ⟨S256x2048, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_1 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_cst_5 : Ref sig .tc := ⟨.hbm, 32, rfl⟩
abbrev main_v23 : Ref sig .tc := ⟨.hbm, 33, rfl⟩
abbrev main_cst_6 : Ref sig .tc := ⟨.hbm, 34, rfl⟩
abbrev main_v24 : Ref sig .tc := ⟨.hbm, 35, rfl⟩
abbrev main_cst_7 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_8 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_9 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_cst_10 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_cst_11 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_cst_12 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩

abbrev nD : Nat := 1
abbrev τ : Topo := Topo.v7x

variable {F : FTy → Type} [FloatOps F]
-- ==== Kernel7.lean ====
abbrev S8192x1024 : Shape := ⟨2, ![8192, 1024]⟩
abbrev S1x1024x1024 : Shape := ⟨3, ![1, 1024, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1x1024x1024, .bf16⟩
  | .hbm, ⟨2, _⟩ => ⟨S8192x1024, .f32⟩
  | .hbm, ⟨3, _⟩ => ⟨S8192x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond3 (i : grid0.Coords) : BitVec 1 :=
  let arg2 : BitVec 32 := BitVec.ofNat 32 (i 2).val
  let c0_i32_7 : BitVec 32 := 0#32
  let v11 : BitVec 1 := Scalar.cmpi .eq arg2 c0_i32_7
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S8192x1024 : Shape := ⟨2, ![8192, 1024]⟩
abbrev S1x1024x1024 : Shape := ⟨3, ![1, 1024, 1024]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1x1024x1024, .bf16⟩
  | .hbm, ⟨2, _⟩ => ⟨S8192x1024, .f32⟩
  | .hbm, ⟨3, _⟩ => ⟨S1024x1024, .bf16⟩
  | .hbm, ⟨4, _⟩ => ⟨S1024x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel8.lean ====
abbrev S8192x1024 : Shape := ⟨2, ![8192, 1024]⟩
abbrev S1x1024x1024 : Shape := ⟨3, ![1, 1024, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1x1024x1024, .bf16⟩
  | .hbm, ⟨2, _⟩ => ⟨S8192x1024, .f32⟩
  | .hbm, ⟨3, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32 : BitVec 32 := 7#32
  let v10 : BitVec 1 := Scalar.cmpi .eq arg2 c7_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference8Ideal.lean ====
abbrev S8192x1024 : Shape := ⟨2, ![8192, 1024]⟩
abbrev S1x1024x1024 : Shape := ⟨3, ![1, 1024, 1024]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1x1024x1024, .bf16⟩
  | .hbm, ⟨2, _⟩ => ⟨S8192x1024, .f32⟩
  | .hbm, ⟨3, _⟩ => ⟨S8192x1024, .f32⟩
  | .hbm, ⟨4, _⟩ => ⟨S1024x1024, .bf16⟩
  | .hbm, ⟨5, _⟩ => ⟨S1024x1024, .f32⟩
  | .hbm, ⟨6, _⟩ => ⟨S8192x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel9.lean ====
abbrev S8192x1024 : Shape := ⟨2, ![8192, 1024]⟩
abbrev S1x1024x1024 : Shape := ⟨3, ![1, 1024, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1x1024x1024, .bf16⟩
  | .hbm, ⟨2, _⟩ => ⟨S8192x1024, .bf16⟩
  | .hbm, ⟨3, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference9Ideal.lean ====
abbrev S8192x1024 : Shape := ⟨2, ![8192, 1024]⟩
abbrev S1x1024x1024 : Shape := ⟨3, ![1, 1024, 1024]⟩
abbrev S1024x1024 : Shape := ⟨2, ![1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1x1024x1024, .bf16⟩
  | .hbm, ⟨2, _⟩ => ⟨S8192x1024, .bf16⟩
  | .hbm, ⟨3, _⟩ => ⟨S8192x1024, .f32⟩
  | .hbm, ⟨4, _⟩ => ⟨S1024x1024, .bf16⟩
  | .hbm, ⟨5, _⟩ => ⟨S1024x1024, .f32⟩
  | .hbm, ⟨6, _⟩ => ⟨S8192x1024, .f32⟩
  | .hbm, ⟨7, _⟩ => ⟨S8192x1024, .f32⟩
  | .hbm, ⟨8, _⟩ => ⟨S1024x1024, .f32⟩
  | .hbm, ⟨9, _⟩ => ⟨S1024x1024, .f32⟩
  | .hbm, ⟨10, _⟩ => ⟨S1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel10.lean ====
abbrev S8192x1024 : Shape := ⟨2, ![8192, 1024]⟩
abbrev S1x1024x3072 : Shape := ⟨3, ![1, 1024, 3072]⟩
abbrev S8192x3072 : Shape := ⟨2, ![8192, 3072]⟩
abbrev S1024x3072 : Shape := ⟨2, ![1024, 3072]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S1x1024x3072, .bf16⟩
  | .hbm, ⟨2, _⟩ => ⟨S8192x3072, .bf16⟩
  | .hbm, ⟨3, _⟩ => ⟨S1024x3072, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 3, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S8192x1024 : Shape := ⟨2, ![8192, 1024]⟩
abbrev S1x1024x3072 : Shape := ⟨3, ![1, 1024, 3072]⟩
abbrev S8192x3072 : Shape := ⟨2, ![8192, 3072]⟩
abbrev S1024x3072 : Shape := ⟨2, ![1024, 3072]⟩
abbrev S3072x1024 : Shape := ⟨2, ![3072, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1x1024x3072, .bf16⟩
  | .hbm, ⟨2, _⟩ => ⟨S8192x3072, .bf16⟩
  | .hbm, ⟨3, _⟩ => ⟨S8192x1024, .f32⟩
  | .hbm, ⟨4, _⟩ => ⟨S1024x3072, .bf16⟩
  | .hbm, ⟨5, _⟩ => ⟨S1024x3072, .f32⟩
  | .hbm, ⟨6, _⟩ => ⟨S8192x3072, .f32⟩
  | .hbm, ⟨7, _⟩ => ⟨S8192x3072, .f32⟩
  | .hbm, ⟨8, _⟩ => ⟨S3072x1024, .f32⟩
  | .hbm, ⟨9, _⟩ => ⟨S1024x3072, .f32⟩
  | .hbm, ⟨10, _⟩ => ⟨S1024x3072, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel11.lean ====
abbrev S8192x1024 : Shape := ⟨2, ![8192, 1024]⟩
abbrev S1x1024x1792 : Shape := ⟨3, ![1, 1024, 1792]⟩
abbrev S8192x1792 : Shape := ⟨2, ![8192, 1792]⟩
abbrev S1024x1792 : Shape := ⟨2, ![1024, 1792]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1x1024x1792, .bf16⟩
  | .hbm, ⟨2, _⟩ => ⟨S8192x1792, .bf16⟩
  | .hbm, ⟨3, _⟩ => ⟨S1024x1792, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1792, .bf16⟩
  | .local _ .vmem, ⟨3, _⟩ => ⟨S1024x1792, .bf16⟩
  | .local _ .vmem, ⟨4, _⟩ => ⟨S1024x1792, .bf16⟩
  | .local _ .vmem, ⟨5, _⟩ => ⟨S1024x1792, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1792 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference11Ideal.lean ====
abbrev S8192x1024 : Shape := ⟨2, ![8192, 1024]⟩
abbrev S1x1024x1792 : Shape := ⟨3, ![1, 1024, 1792]⟩
abbrev S8192x1792 : Shape := ⟨2, ![8192, 1792]⟩
abbrev S1024x1792 : Shape := ⟨2, ![1024, 1792]⟩
abbrev S1792x1024 : Shape := ⟨2, ![1792, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1x1024x1792, .bf16⟩
  | .hbm, ⟨2, _⟩ => ⟨S8192x1792, .bf16⟩
  | .hbm, ⟨3, _⟩ => ⟨S8192x1024, .f32⟩
  | .hbm, ⟨4, _⟩ => ⟨S1024x1792, .bf16⟩
  | .hbm, ⟨5, _⟩ => ⟨S1024x1792, .f32⟩
  | .hbm, ⟨6, _⟩ => ⟨S8192x1792, .f32⟩
  | .hbm, ⟨7, _⟩ => ⟨S8192x1792, .f32⟩
  | .hbm, ⟨8, _⟩ => ⟨S1792x1024, .f32⟩
  | .hbm, ⟨9, _⟩ => ⟨S1024x1792, .f32⟩
  | .hbm, ⟨10, _⟩ => ⟨S1024x1792, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel12.lean ====
abbrev S8192x1024 : Shape := ⟨2, ![8192, 1024]⟩
abbrev S1x1024x1024 : Shape := ⟨3, ![1, 1024, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x1024, .bf16⟩
  | .hbm, ⟨1, _⟩ => ⟨S1x1024x1024, .bf16⟩
  | .hbm, ⟨2, _⟩ => ⟨S8192x1024, .f32⟩
  | .hbm, ⟨3, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def k0_cond3 (i : grid0.Coords) : BitVec 1 :=
  let arg2 : BitVec 32 := BitVec.ofNat 32 (i 2).val
  let c0_i32_7 : BitVec 32 := 0#32
  let v10 : BitVec 1 := Scalar.cmpi .eq arg2 c0_i32_7
  let v11 : BitVec 32 := Scalar.extui v10
  let c0_i32_8 : BitVec 32 := 0#32
  let v12 : BitVec 1 := Scalar.cmpi .ne v11 c0_i32_8
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference12Ideal.lean ====
abbrev S8192x1024 : Shape := ⟨2, ![8192, 1024]⟩
abbrev S1x1024x1024 : Shape := ⟨3, ![1, 1024, 1024]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1x1024x1024, .bf16⟩
  | .hbm, ⟨2, _⟩ => ⟨S8192x1024, .f32⟩
  | .hbm, ⟨3, _⟩ => ⟨S8192x1024, .f32⟩
  | .hbm, ⟨4, _⟩ => ⟨S1024x1024, .bf16⟩
  | .hbm, ⟨5, _⟩ => ⟨S1024x1024, .f32⟩
  | .hbm, ⟨6, _⟩ => ⟨S8192x1024, .f32⟩
  | .hbm, ⟨7, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel13.lean ====
abbrev S8192x1024 : Shape := ⟨2, ![8192, 1024]⟩
abbrev S1x1024x1024 : Shape := ⟨3, ![1, 1024, 1024]⟩
abbrev S1x1024 : Shape := ⟨2, ![1, 1024]⟩
abbrev S1024x1024 : Shape := ⟨2, ![1024, 1024]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 7
  | .vmem => 12
  | .smem => 0
  | _ => 0

abbrev bufTy : (tb : Table) → Fin (tcTables nBuf tb) → BufTy
  | .hbm, ⟨0, _⟩ => ⟨S8192x1024, .bf16⟩
  | .hbm, ⟨1, _⟩ => ⟨S1x1024x1024, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S1x1024, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1x1024, .f32⟩
  | .local _ .vmem, ⟨11, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨2, ![8, 1], ![false, false]⟩

def k0_cond1 (i : grid0.Coords) : BitVec 1 :=
  let arg0 : BitVec 32 := BitVec.ofNat 32 (i 0).val
  let c0_i32 : BitVec 32 := 0#32
  let v141 : BitVec 1 := Scalar.cmpi .eq arg0 c0_i32
  let v142 : BitVec 32 := Scalar.extui v141
  let c0_i32_76 : BitVec 32 := 0#32
  let v143 : BitVec 1 := Scalar.cmpi .ne v142 c0_i32_76
  v143

def k0_cond2 (i : grid0.Coords) : BitVec 1 :=
  let arg0 : BitVec 32 := BitVec.ofNat 32 (i 0).val
  let c0_i32_77 : BitVec 32 := 0#32
  let v144 : BitVec 1 := Scalar.cmpi .sgt arg0 c0_i32_77
  let v145 : BitVec 32 := Scalar.extui v144
  let c0_i32_78 : BitVec 32 := 0#32
  let v146 : BitVec 1 := Scalar.cmpi .ne v145 c0_i32_78
  v146

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== Kernel13Ideal.lean ====
abbrev S8192x1024 : Shape := ⟨2, ![8192, 1024]⟩
abbrev S1x1024x1024 : Shape := ⟨3, ![1, 1024, 1024]⟩
abbrev S1x1024 : Shape := ⟨2, ![1, 1024]⟩
abbrev S1024x1024 : Shape := ⟨2, ![1024, 1024]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 7
  | .vmem => 12
  | .smem => 0
  | _ => 0

abbrev bufTy : (tb : Table) → Fin (tcTables nBuf tb) → BufTy
  | .hbm, ⟨0, _⟩ => ⟨S8192x1024, .bf16⟩
  | .hbm, ⟨1, _⟩ => ⟨S1x1024x1024, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S1x1024, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1x1024, .f32⟩
  | .local _ .vmem, ⟨11, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨2, ![8, 1], ![false, false]⟩

def k0_cond1 (i : grid0.Coords) : BitVec 1 :=
  let arg0 : BitVec 32 := BitVec.ofNat 32 (i 0).val
  let c0_i32 : BitVec 32 := 0#32
  let v141 : BitVec 1 := Scalar.cmpi .eq arg0 c0_i32
  let v142 : BitVec 32 := Scalar.extui v141
  let c0_i32_76 : BitVec 32 := 0#32
  let v143 : BitVec 1 := Scalar.cmpi .ne v142 c0_i32_76
  v143

def k0_cond2 (i : grid0.Coords) : BitVec 1 :=
  let arg0 : BitVec 32 := BitVec.ofNat 32 (i 0).val
  let c0_i32_77 : BitVec 32 := 0#32
  let v144 : BitVec 1 := Scalar.cmpi .sgt arg0 c0_i32_77
  let v145 : BitVec 32 := Scalar.extui v144
  let c0_i32_78 : BitVec 32 := 0#32
  let v146 : BitVec 1 := Scalar.cmpi .ne v145 c0_i32_78
  v146

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== Reference13Ideal.lean ====
abbrev S8192x1024 : Shape := ⟨2, ![8192, 1024]⟩
abbrev S1x1024x1024 : Shape := ⟨3, ![1, 1024, 1024]⟩
abbrev S1x1024 : Shape := ⟨2, ![1, 1024]⟩
abbrev S1024x1024 : Shape := ⟨2, ![1024, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 53
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1x1024x1024, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S1024x1024, .bf16⟩
  | .hbm, ⟨6, _⟩ => ⟨S1024x1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S8192, .f32⟩
  | .hbm, ⟨38, _⟩ => ⟨S8192x1, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S_, .f32⟩
  | .hbm, ⟨47, _⟩ => ⟨S8192, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_5 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== Kernel14.lean ====
abbrev S8192x1792 : Shape := ⟨2, ![8192, 1792]⟩
abbrev S1x1024x1792 : Shape := ⟨3, ![1, 1024, 1792]⟩
abbrev S8192x1024 : Shape := ⟨2, ![8192, 1024]⟩
abbrev S1x1024 : Shape := ⟨2, ![1, 1024]⟩
abbrev S1024x1792 : Shape := ⟨2, ![1024, 1792]⟩
abbrev S1024x1024 : Shape := ⟨2, ![1024, 1024]⟩
abbrev S256x1792 : Shape := ⟨2, ![256, 1792]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 7
  | .vmem => 12
  | .smem => 0
  | _ => 0

abbrev bufTy : (tb : Table) → Fin (tcTables nBuf tb) → BufTy
  | .hbm, ⟨0, _⟩ => ⟨S8192x1792, .bf16⟩
  | .hbm, ⟨1, _⟩ => ⟨S1x1024x1792, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S1x1024, .f32⟩
  | .local _ .vmem, ⟨0, _⟩ => ⟨S1024x1792, .bf16⟩
  | .local _ .vmem, ⟨1, _⟩ => ⟨S1024x1792, .bf16⟩
  | .local _ .vmem, ⟨2, _⟩ => ⟨S1x1024x1792, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1x1024, .f32⟩
  | .local _ .vmem, ⟨11, _⟩ => ⟨S1024x1024, .f32⟩
  | _, _ => ⟨S8192x1792, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨2, ![8, 1], ![false, false]⟩

def k0_cond1 (i : grid0.Coords) : BitVec 1 :=
  let arg0 : BitVec 32 := BitVec.ofNat 32 (i 0).val
  let c0_i32 : BitVec 32 := 0#32
  let v141 : BitVec 1 := Scalar.cmpi .eq arg0 c0_i32
  let v142 : BitVec 32 := Scalar.extui v141
  let c0_i32_76 : BitVec 32 := 0#32
  let v143 : BitVec 1 := Scalar.cmpi .ne v142 c0_i32_76
  v143

def k0_cond2 (i : grid0.Coords) : BitVec 1 :=
  let arg0 : BitVec 32 := BitVec.ofNat 32 (i 0).val
  let c0_i32_77 : BitVec 32 := 0#32
  let v144 : BitVec 1 := Scalar.cmpi .sgt arg0 c0_i32_77
  let v145 : BitVec 32 := Scalar.extui v144
  let c0_i32_78 : BitVec 32 := 0#32
  let v146 : BitVec 1 := Scalar.cmpi .ne v145 c0_i32_78
  v146

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1792 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024x1792 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== Reference14Ideal.lean ====
abbrev S8192x1792 : Shape := ⟨2, ![8192, 1792]⟩
abbrev S1x1024x1792 : Shape := ⟨3, ![1, 1024, 1792]⟩
abbrev S8192x1024 : Shape := ⟨2, ![8192, 1024]⟩
abbrev S1x1024 : Shape := ⟨2, ![1, 1024]⟩
abbrev S1024x1792 : Shape := ⟨2, ![1024, 1792]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 53
  | .vmem => 0
  | .smem => 0
  | _ => 0

abbrev bufTy : (tb : Table) → Fin (tcTables nBuf tb) → BufTy
  | .hbm, ⟨0, _⟩ => ⟨S8192x1792, .bf16⟩
  | .hbm, ⟨1, _⟩ => ⟨S1x1024x1792, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S1024x1792, .bf16⟩
  | .hbm, ⟨6, _⟩ => ⟨S1024x1792, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1792, .f32⟩
  | .hbm, ⟨27, _⟩ => ⟨S8192x1792, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S8192, .f32⟩
  | .hbm, ⟨38, _⟩ => ⟨S8192x1, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S_, .f32⟩
  | .hbm, ⟨47, _⟩ => ⟨S8192, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | _, _ => ⟨S8192x1792, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_5 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== Kernel15.lean ====
abbrev S8192x3072 : Shape := ⟨2, ![8192, 3072]⟩
abbrev S1x1024x3072 : Shape := ⟨3, ![1, 1024, 3072]⟩
abbrev S8192x1024 : Shape := ⟨2, ![8192, 1024]⟩
abbrev S1x1024 : Shape := ⟨2, ![1, 1024]⟩
abbrev S1024x1024 : Shape := ⟨2, ![1024, 1024]⟩
abbrev S1x1024x1024 : Shape := ⟨3, ![1, 1024, 1024]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 7
  | .vmem => 13
  | .smem => 0
  | _ => 0

abbrev bufTy : (tb : Table) → Fin (tcTables nBuf tb) → BufTy
  | .hbm, ⟨0, _⟩ => ⟨S8192x3072, .bf16⟩
  | .hbm, ⟨1, _⟩ => ⟨S1x1024x3072, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S1x1024, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1x1024, .f32⟩
  | .local _ .vmem, ⟨12, _⟩ => ⟨S1024x1024, .f32⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![8, 3], ![false, false]⟩

def k0_cond3 (i : grid0.Coords) : BitVec 1 :=
  let arg1 : BitVec 32 := BitVec.ofNat 32 (i 1).val
  let c2_i32 : BitVec 32 := 2#32
  let v10 : BitVec 1 := Scalar.cmpi .eq arg1 c2_i32
  let v11 : BitVec 32 := Scalar.extui v10
  let c0_i32_7 : BitVec 32 := 0#32
  let v12 : BitVec 1 := Scalar.cmpi .ne v11 c0_i32_7
  v12

def k0_cond4 (i : grid0.Coords) : BitVec 1 :=
  let arg0 : BitVec 32 := BitVec.ofNat 32 (i 0).val
  let c0_i32_70 : BitVec 32 := 0#32
  let v142 : BitVec 1 := Scalar.cmpi .eq arg0 c0_i32_70
  let v143 : BitVec 32 := Scalar.extui v142
  let c0_i32_71 : BitVec 32 := 0#32
  let v144 : BitVec 1 := Scalar.cmpi .ne v143 c0_i32_71
  v144

def k0_cond5 (i : grid0.Coords) : BitVec 1 :=
  let arg0 : BitVec 32 := BitVec.ofNat 32 (i 0).val
  let c0_i32_72 : BitVec 32 := 0#32
  let v145 : BitVec 1 := Scalar.cmpi .sgt arg0 c0_i32_72
  let v146 : BitVec 32 := Scalar.extui v145
  let c0_i32_73 : BitVec 32 := 0#32
  let v147 : BitVec 1 := Scalar.cmpi .ne v146 c0_i32_73
  v147

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== Reference15Ideal.lean ====
abbrev S8192x3072 : Shape := ⟨2, ![8192, 3072]⟩
abbrev S1x1024x3072 : Shape := ⟨3, ![1, 1024, 3072]⟩
abbrev S8192x1024 : Shape := ⟨2, ![8192, 1024]⟩
abbrev S1x1024 : Shape := ⟨2, ![1, 1024]⟩
abbrev S1024x3072 : Shape := ⟨2, ![1024, 3072]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 53
  | .vmem => 0
  | .smem => 0
  | _ => 0

abbrev bufTy : (tb : Table) → Fin (tcTables nBuf tb) → BufTy
  | .hbm, ⟨0, _⟩ => ⟨S8192x3072, .bf16⟩
  | .hbm, ⟨1, _⟩ => ⟨S1x1024x3072, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S1024x3072, .bf16⟩
  | .hbm, ⟨6, _⟩ => ⟨S1024x3072, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x3072, .f32⟩
  | .hbm, ⟨27, _⟩ => ⟨S8192x3072, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S8192, .f32⟩
  | .hbm, ⟨38, _⟩ => ⟨S8192x1, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S_, .f32⟩
  | .hbm, ⟨47, _⟩ => ⟨S8192, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_5 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== Kernel16.lean ====
abbrev S8192x1024 : Shape := ⟨2, ![8192, 1024]⟩
abbrev S1x1024 : Shape := ⟨2, ![1, 1024]⟩
abbrev S1x1024x3072 : Shape := ⟨3, ![1, 1024, 3072]⟩
abbrev S8192x3072 : Shape := ⟨2, ![8192, 3072]⟩
abbrev S1024x1024 : Shape := ⟨2, ![1024, 1024]⟩
abbrev S1024x3072 : Shape := ⟨2, ![1024, 3072]⟩
abbrev S256x1024 : Shape := ⟨2, ![256, 1024]⟩
abbrev S256 : Shape := ⟨1, ![256]⟩
abbrev S256x1 : Shape := ⟨2, ![256, 1]⟩
abbrev S256x3072 : Shape := ⟨2, ![256, 3072]⟩

abbrev nBuf : Space → Nat
  | .hbm => 5
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024x3072, .bf16⟩
  | .hbm, ⟨3, _⟩ => ⟨S8192x1024, .bf16⟩
  | .hbm, ⟨4, _⟩ => ⟨S8192x3072, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024x3072, .bf16⟩
  | .local _ .vmem, ⟨4, _⟩ => ⟨S1024x1024, .bf16⟩
  | .local _ .vmem, ⟨5, _⟩ => ⟨S1024x1024, .bf16⟩
  | .local _ .vmem, ⟨6, _⟩ => ⟨S1024x3072, .bf16⟩
  | .local _ .vmem, ⟨7, _⟩ => ⟨S1024x3072, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Kernel16Ideal.lean ====
abbrev S8192x1024 : Shape := ⟨2, ![8192, 1024]⟩
abbrev S1x1024 : Shape := ⟨2, ![1, 1024]⟩
abbrev S1x1024x3072 : Shape := ⟨3, ![1, 1024, 3072]⟩
abbrev S8192x3072 : Shape := ⟨2, ![8192, 3072]⟩
abbrev S1024x1024 : Shape := ⟨2, ![1024, 1024]⟩
abbrev S1024x3072 : Shape := ⟨2, ![1024, 3072]⟩
abbrev S256x1024 : Shape := ⟨2, ![256, 1024]⟩
abbrev S256 : Shape := ⟨1, ![256]⟩
abbrev S256x1 : Shape := ⟨2, ![256, 1]⟩
abbrev S256x3072 : Shape := ⟨2, ![256, 3072]⟩

abbrev nBuf : Space → Nat
  | .hbm => 5
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024x3072, .bf16⟩
  | .hbm, ⟨3, _⟩ => ⟨S8192x1024, .bf16⟩
  | .hbm, ⟨4, _⟩ => ⟨S8192x3072, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024x3072, .bf16⟩
  | .local _ .vmem, ⟨4, _⟩ => ⟨S1024x1024, .bf16⟩
  | .local _ .vmem, ⟨5, _⟩ => ⟨S1024x1024, .bf16⟩
  | .local _ .vmem, ⟨6, _⟩ => ⟨S1024x3072, .bf16⟩
  | .local _ .vmem, ⟨7, _⟩ => ⟨S1024x3072, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference16Ideal.lean ====
abbrev S8192x1024 : Shape := ⟨2, ![8192, 1024]⟩
abbrev S1x1024 : Shape := ⟨2, ![1, 1024]⟩
abbrev S1x1024x3072 : Shape := ⟨3, ![1, 1024, 3072]⟩
abbrev S_ : Shape := ⟨0, ![]⟩
abbrev S8192 : Shape := ⟨1, ![8192]⟩
abbrev S8192x1 : Shape := ⟨2, ![8192, 1]⟩
abbrev S1024x3072 : Shape := ⟨2, ![1024, 3072]⟩
abbrev S8192x3072 : Shape := ⟨2, ![8192, 3072]⟩

abbrev nBuf : Space → Nat
  | .hbm => 23
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024x3072, .bf16⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .bf16⟩
  | .hbm, ⟨19, _⟩ => ⟨S1024x3072, .bf16⟩
  | .hbm, ⟨20, _⟩ => ⟨S1024x3072, .f32⟩
  | .hbm, ⟨21, _⟩ => ⟨S8192x3072, .f32⟩
  | .hbm, ⟨22, _⟩ => ⟨S8192x3072, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Kernel17.lean ====
abbrev S8192x1024 : Shape := ⟨2, ![8192, 1024]⟩
abbrev S1x1024 : Shape := ⟨2, ![1, 1024]⟩
abbrev S1x1024x1792 : Shape := ⟨3, ![1, 1024, 1792]⟩
abbrev S8192x1792 : Shape := ⟨2, ![8192, 1792]⟩
abbrev S1024x1024 : Shape := ⟨2, ![1024, 1024]⟩
abbrev S1024x1792 : Shape := ⟨2, ![1024, 1792]⟩
abbrev S256x1024 : Shape := ⟨2, ![256, 1024]⟩
abbrev S256 : Shape := ⟨1, ![256]⟩
abbrev S256x1 : Shape := ⟨2, ![256, 1]⟩
abbrev S256x1792 : Shape := ⟨2, ![256, 1792]⟩

abbrev nBuf : Space → Nat
  | .hbm => 5
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024x1792, .bf16⟩
  | .hbm, ⟨3, _⟩ => ⟨S8192x1024, .bf16⟩
  | .hbm, ⟨4, _⟩ => ⟨S8192x1792, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024x1792, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1792, .bf16⟩
  | .local _ .vmem, ⟨7, _⟩ => ⟨S1024x1792, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x1792 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1792 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference17Ideal.lean ====
abbrev S8192x1024 : Shape := ⟨2, ![8192, 1024]⟩
abbrev S1x1024 : Shape := ⟨2, ![1, 1024]⟩
abbrev S1x1024x1792 : Shape := ⟨3, ![1, 1024, 1792]⟩
abbrev S_ : Shape := ⟨0, ![]⟩
abbrev S8192 : Shape := ⟨1, ![8192]⟩
abbrev S8192x1 : Shape := ⟨2, ![8192, 1]⟩
abbrev S1024x1792 : Shape := ⟨2, ![1024, 1792]⟩
abbrev S8192x1792 : Shape := ⟨2, ![8192, 1792]⟩

abbrev nBuf : Space → Nat
  | .hbm => 23
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024x1792, .bf16⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .bf16⟩
  | .hbm, ⟨19, _⟩ => ⟨S1024x1792, .bf16⟩
  | .hbm, ⟨20, _⟩ => ⟨S1024x1792, .f32⟩
  | .hbm, ⟨21, _⟩ => ⟨S8192x1792, .f32⟩
  | .hbm, ⟨22, _⟩ => ⟨S8192x1792, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Kernel18.lean ====
abbrev S8192x1024 : Shape := ⟨2, ![8192, 1024]⟩
abbrev S1x1024 : Shape := ⟨2, ![1, 1024]⟩
abbrev S1x1024x1024 : Shape := ⟨3, ![1, 1024, 1024]⟩
abbrev S256x2048 : Shape := ⟨2, ![256, 2048]⟩
abbrev S512x1024 : Shape := ⟨2, ![512, 1024]⟩
abbrev S256x1024 : Shape := ⟨2, ![256, 1024]⟩
abbrev S256 : Shape := ⟨1, ![256]⟩
abbrev S256x1 : Shape := ⟨2, ![256, 1]⟩
abbrev S1024x1024 : Shape := ⟨2, ![1024, 1024]⟩
abbrev S256x256 : Shape := ⟨2, ![256, 256]⟩

abbrev nBuf : Space → Nat
  | .hbm => 9
  | .vmem => 15
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024x1024, .bf16⟩
  | .hbm, ⟨3, _⟩ => ⟨S1x1024x1024, .bf16⟩
  | .hbm, ⟨4, _⟩ => ⟨S256x2048, .bf16⟩
  | .hbm, ⟨5, _⟩ => ⟨S8192x1024, .f32⟩
  | .hbm, ⟨6, _⟩ => ⟨S8192x1024, .bf16⟩
  | .hbm, ⟨7, _⟩ => ⟨S8192x1024, .bf16⟩
  | .hbm, ⟨8, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024x1024, .bf16⟩
  | .local _ .vmem, ⟨4, _⟩ => ⟨S1x1024x1024, .bf16⟩
  | .local _ .vmem, ⟨5, _⟩ => ⟨S256x1024, .bf16⟩
  | .local _ .vmem, ⟨6, _⟩ => ⟨S256x1024, .bf16⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference18Ideal.lean ====
abbrev S8192x1024 : Shape := ⟨2, ![8192, 1024]⟩
abbrev S1x1024 : Shape := ⟨2, ![1, 1024]⟩
abbrev S1x1024x1024 : Shape := ⟨3, ![1, 1024, 1024]⟩
abbrev S256x2048 : Shape := ⟨2, ![256, 2048]⟩
abbrev S_ : Shape := ⟨0, ![]⟩
abbrev S8192 : Shape := ⟨1, ![8192]⟩
abbrev S8192x1 : Shape := ⟨2, ![8192, 1]⟩
abbrev S1024x1024 : Shape := ⟨2, ![1024, 1024]⟩
abbrev S256x1024 : Shape := ⟨2, ![256, 1024]⟩
abbrev S1x8192x4x256 : Shape := ⟨4, ![1, 8192, 4, 256]⟩
abbrev S1x256x4x256 : Shape := ⟨4, ![1, 256, 4, 256]⟩
abbrev S1x4x8192x256 : Shape := ⟨4, ![1, 4, 8192, 256]⟩
abbrev S1x4x8192 : Shape := ⟨3, ![1, 4, 8192]⟩
abbrev S1x4x8192x1 : Shape := ⟨4, ![1, 4, 8192, 1]⟩
abbrev S1x4x256x8192 : Shape := ⟨4, ![1, 4, 256, 8192]⟩

abbrev nBuf : Space → Nat
  | .hbm => 58
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024x1024, .bf16⟩
  | .hbm, ⟨3, _⟩ => ⟨S1x1024x1024, .bf16⟩
  | .hbm, ⟨4, _⟩ => ⟨S256x2048, .bf16⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S1024x1024, .bf16⟩
  | .hbm, ⟨21, _⟩ => ⟨S1024x1024, .f32⟩
  | .hbm, ⟨22, _⟩ => ⟨S8192x1024, .f32⟩
  | .hbm, ⟨23, _⟩ => ⟨S256x1024, .bf16⟩
  | .hbm, ⟨24, _⟩ => ⟨S256x1024, .f32⟩
  | .hbm, ⟨25, _⟩ => ⟨S256x1024, .bf16⟩
  | .hbm, ⟨26, _⟩ => ⟨S256x1024, .f32⟩
  | .hbm, ⟨27, _⟩ => ⟨S1x8192x4x256, .f32⟩
  | .hbm, ⟨28, _⟩ => ⟨S1x256x4x256, .f32⟩
  | .hbm, ⟨29, _⟩ => ⟨S1x256x4x256, .f32⟩
  | .hbm, ⟨30, _⟩ => ⟨S1x4x8192x256, .f32⟩
  | .hbm, ⟨31, _⟩ => ⟨S_, .f32⟩
  | .hbm, ⟨32, _⟩ => ⟨S1x4x8192x256, .f32⟩
  | .hbm, ⟨33, _⟩ => ⟨S1x4x8192x256, .f32⟩
  | .hbm, ⟨34, _⟩ => ⟨S_, .f32⟩
  | .hbm, ⟨35, _⟩ => ⟨S1x4x8192, .f32⟩
  | .hbm, ⟨36, _⟩ => ⟨S_, .f32⟩
  | .hbm, ⟨37, _⟩ => ⟨S1x4x8192, .f32⟩
  | .hbm, ⟨38, _⟩ => ⟨S1x4x8192, .f32⟩
  | .hbm, ⟨39, _⟩ => ⟨S1x4x8192x1, .f32⟩
  | .hbm, ⟨40, _⟩ => ⟨S1x4x8192x256, .f32⟩
  | .hbm, ⟨41, _⟩ => ⟨S1x4x8192x256, .f32⟩
  | .hbm, ⟨42, _⟩ => ⟨S1x4x8192x256, .f32⟩
  | .hbm, ⟨43, _⟩ => ⟨S_, .f32⟩
  | .hbm, ⟨44, _⟩ => ⟨S1x4x8192, .f32⟩
  | .hbm, ⟨45, _⟩ => ⟨S1x4x8192x1, .f32⟩
  | .hbm, ⟨46, _⟩ => ⟨S1x4x8192x256, .f32⟩
  | .hbm, ⟨47, _⟩ => ⟨S1x4x8192x256, .f32⟩
  | .hbm, ⟨48, _⟩ => ⟨S1x4x256x8192, .f32⟩
  | .hbm, ⟨49, _⟩ => ⟨S1x8192x4x256, .f32⟩
  | .hbm, ⟨50, _⟩ => ⟨S8192x1024, .f32⟩
  | .hbm, ⟨51, _⟩ => ⟨S1024x1024, .bf16⟩
  | .hbm, ⟨52, _⟩ => ⟨S1024x1024, .f32⟩
  | .hbm, ⟨53, _⟩ => ⟨S8192x1024, .f32⟩
  | .hbm, ⟨54, _⟩ => ⟨S8192x1024, .f32⟩
  | .hbm, ⟨55, _⟩ => ⟨S8192x1024, .bf16⟩
  | .hbm, ⟨56, _⟩ => ⟨S8192x1024, .bf16⟩
  | .hbm, ⟨57, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_2 : Ref sig .tc := ⟨.hbm, 31, rfl⟩
abbrev main_v23 : Ref sig .tc := ⟨.hbm, 32, rfl⟩
abbrev main_v24 : Ref sig .tc := ⟨.hbm, 33, rfl⟩
abbrev main_cst_3 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_5 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩

abbrev nD : Nat := 1
abbrev τ : Topo := Topo.v7x

variable {F : FTy → Type} [FloatOps F]
-- ==== Kernel19.lean ====
abbrev S256x1024 : Shape := ⟨2, ![256, 1024]⟩
abbrev S1x1024 : Shape := ⟨2, ![1, 1024]⟩
abbrev S256 : Shape := ⟨1, ![256]⟩
abbrev S256x1 : Shape := ⟨2, ![256, 1]⟩

abbrev nBuf : Space → Nat
  | .hbm => 3
  | .vmem => 3
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S256x1024, .bf16⟩
  | .local _ .vmem, ⟨0, _⟩ => ⟨S256x1024, .f32⟩
  | .local _ .vmem, ⟨1, _⟩ => ⟨S1x1024, .f32⟩
  | .local _ .vmem, ⟨2, _⟩ => ⟨S256x1024, .bf16⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== Reference19Ideal.lean ====
abbrev S256x1024 : Shape := ⟨2, ![256, 1024]⟩
abbrev S1x1024 : Shape := ⟨2, ![1, 1024]⟩
abbrev S_ : Shape := ⟨0, ![]⟩
abbrev S256 : Shape := ⟨1, ![256]⟩
abbrev S256x1 : Shape := ⟨2, ![256, 1]⟩

abbrev nBuf : Space → Nat
  | .hbm => 18
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S256x1024, .f32⟩
  | .hbm, ⟨3, _⟩ => ⟨S_, .f32⟩
  | .hbm, ⟨4, _⟩ => ⟨S256, .f32⟩
  | .hbm, ⟨5, _⟩ => ⟨S256x1, .f32⟩
  | .hbm, ⟨6, _⟩ => ⟨S_, .f32⟩
  | .hbm, ⟨7, _⟩ => ⟨S256x1, .f32⟩
  | .hbm, ⟨8, _⟩ => ⟨S256x1, .f32⟩
  | .hbm, ⟨9, _⟩ => ⟨S_, .f32⟩
  | .hbm, ⟨10, _⟩ => ⟨S256x1, .f32⟩
  | .hbm, ⟨11, _⟩ => ⟨S256x1, .f32⟩
  | .hbm, ⟨12, _⟩ => ⟨S256x1, .f32⟩
  | .hbm, ⟨13, _⟩ => ⟨S256x1024, .f32⟩
  | .hbm, ⟨14, _⟩ => ⟨S256x1024, .f32⟩
  | .hbm, ⟨15, _⟩ => ⟨S256x1024, .f32⟩
  | .hbm, ⟨16, _⟩ => ⟨S256x1024, .f32⟩
  | .hbm, ⟨17, _⟩ => ⟨S256x1024, .bf16⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel20.lean ====
abbrev S256x1024 : Shape := ⟨2, ![256, 1024]⟩
abbrev S1x1024x2048 : Shape := ⟨3, ![1, 1024, 2048]⟩
abbrev S256x2048 : Shape := ⟨2, ![256, 2048]⟩
abbrev S1x1024x1024 : Shape := ⟨3, ![1, 1024, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S256x1024, .bf16⟩
  | .hbm, ⟨1, _⟩ => ⟨S1x1024x2048, .bf16⟩
  | .hbm, ⟨2, _⟩ => ⟨S256x2048, .bf16⟩
  | .local _ .vmem, ⟨0, _⟩ => ⟨S256x1024, .bf16⟩
  | .local _ .vmem, ⟨1, _⟩ => ⟨S1x1024x1024, .bf16⟩
  | .local _ .vmem, ⟨2, _⟩ => ⟨S1x1024x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .f32⟩
  | _, _ => ⟨S256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def k0_cond3 (i : grid0.Coords) : BitVec 1 :=
  let arg2 : BitVec 32 := BitVec.ofNat 32 (i 2).val
  let c0_i32_7 : BitVec 32 := 0#32
  let v10 : BitVec 1 := Scalar.cmpi .eq arg2 c0_i32_7
  let v11 : BitVec 32 := Scalar.extui v10
  let c0_i32_8 : BitVec 32 := 0#32
  let v12 : BitVec 1 := Scalar.cmpi .ne v11 c0_i32_8
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference20Ideal.lean ====
abbrev S256x1024 : Shape := ⟨2, ![256, 1024]⟩
abbrev S1x1024x2048 : Shape := ⟨3, ![1, 1024, 2048]⟩
abbrev S1024x2048 : Shape := ⟨2, ![1024, 2048]⟩
abbrev S256x2048 : Shape := ⟨2, ![256, 2048]⟩

abbrev nBuf : Space → Nat
  | .hbm => 7
  | .vmem => 0
  | .smem => 0
  | _ => 0

abbrev bufTy : (tb : Table) → Fin (tcTables nBuf tb) → BufTy
  | .hbm, ⟨0, _⟩ => ⟨S256x1024, .bf16⟩
  | .hbm, ⟨1, _⟩ => ⟨S1x1024x2048, .bf16⟩
  | .hbm, ⟨2, _⟩ => ⟨S256x1024, .f32⟩
  | .hbm, ⟨3, _⟩ => ⟨S1024x2048, .bf16⟩
  | .hbm, ⟨4, _⟩ => ⟨S1024x2048, .f32⟩
  | .hbm, ⟨5, _⟩ => ⟨S256x2048, .f32⟩
  | .hbm, ⟨6, _⟩ => ⟨S256x2048, .bf16⟩
  | _, _ => ⟨S256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel21.lean ====
abbrev S256x1024 : Shape := ⟨2, ![256, 1024]⟩
abbrev S1x1024x2048 : Shape := ⟨3, ![1, 1024, 2048]⟩
abbrev S256x2048 : Shape := ⟨2, ![256, 2048]⟩
abbrev S1024x2048 : Shape := ⟨2, ![1024, 2048]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S256x1024, .bf16⟩
  | .hbm, ⟨1, _⟩ => ⟨S1x1024x2048, .bf16⟩
  | .hbm, ⟨2, _⟩ => ⟨S256x2048, .f32⟩
  | .hbm, ⟨3, _⟩ => ⟨S1024x2048, .bf16⟩
  | .local _ .vmem, ⟨0, _⟩ => ⟨S256x1024, .bf16⟩
  | .local _ .vmem, ⟨1, _⟩ => ⟨S256x1024, .f32⟩
  | .local _ .vmem, ⟨2, _⟩ => ⟨S256x1024, .f32⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def k0_cond3 (i : grid0.Coords) : BitVec 1 :=
  let arg2 : BitVec 32 := BitVec.ofNat 32 (i 2).val
  let c0_i32_6 : BitVec 32 := 0#32
  let v10 : BitVec 1 := Scalar.cmpi .eq arg2 c0_i32_6
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference21Ideal.lean ====
abbrev S256x1024 : Shape := ⟨2, ![256, 1024]⟩
abbrev S1x1024x2048 : Shape := ⟨3, ![1, 1024, 2048]⟩
abbrev S256x2048 : Shape := ⟨2, ![256, 2048]⟩
abbrev S1024x2048 : Shape := ⟨2, ![1024, 2048]⟩
abbrev S2048x1024 : Shape := ⟨2, ![2048, 1024]⟩

abbrev nBuf : Space → Nat
  | .hbm => 10
  | .vmem => 0
  | .smem => 0
  | _ => 0

abbrev bufTy : (tb : Table) → Fin (tcTables nBuf tb) → BufTy
  | .hbm, ⟨0, _⟩ => ⟨S256x1024, .bf16⟩
  | .hbm, ⟨1, _⟩ => ⟨S1x1024x2048, .bf16⟩
  | .hbm, ⟨2, _⟩ => ⟨S256x2048, .f32⟩
  | .hbm, ⟨3, _⟩ => ⟨S256x1024, .f32⟩
  | .hbm, ⟨4, _⟩ => ⟨S1024x2048, .bf16⟩
  | .hbm, ⟨5, _⟩ => ⟨S1024x2048, .f32⟩
  | .hbm, ⟨6, _⟩ => ⟨S256x2048, .f32⟩
  | .hbm, ⟨7, _⟩ => ⟨S2048x1024, .f32⟩
  | .hbm, ⟨8, _⟩ => ⟨S1024x2048, .f32⟩
  | .hbm, ⟨9, _⟩ => ⟨S1024x2048, .bf16⟩
  | _, _ => ⟨S256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel22.lean ====
abbrev S256x1024 : Shape := ⟨2, ![256, 1024]⟩
abbrev S1x1024x2048 : Shape := ⟨3, ![1, 1024, 2048]⟩
abbrev S256x2048 : Shape := ⟨2, ![256, 2048]⟩
abbrev S1x1024x1024 : Shape := ⟨3, ![1, 1024, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S256x1024, .bf16⟩
  | .hbm, ⟨1, _⟩ => ⟨S1x1024x2048, .bf16⟩
  | .hbm, ⟨2, _⟩ => ⟨S256x2048, .f32⟩
  | .hbm, ⟨3, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S1x1024x1024, .bf16⟩
  | .local _ .vmem, ⟨3, _⟩ => ⟨S1x1024x1024, .bf16⟩
  | .local _ .vmem, ⟨4, _⟩ => ⟨S256x1024, .f32⟩
  | .local _ .vmem, ⟨5, _⟩ => ⟨S256x1024, .f32⟩
  | _, _ => ⟨S256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference22Ideal.lean ====
abbrev S256x1024 : Shape := ⟨2, ![256, 1024]⟩
abbrev S1x1024x2048 : Shape := ⟨3, ![1, 1024, 2048]⟩
abbrev S256x2048 : Shape := ⟨2, ![256, 2048]⟩
abbrev S1024x2048 : Shape := ⟨2, ![1024, 2048]⟩

abbrev nBuf : Space → Nat
  | .hbm => 8
  | .vmem => 0
  | .smem => 0
  | _ => 0

abbrev bufTy : (tb : Table) → Fin (tcTables nBuf tb) → BufTy
  | .hbm, ⟨0, _⟩ => ⟨S256x1024, .bf16⟩
  | .hbm, ⟨1, _⟩ => ⟨S1x1024x2048, .bf16⟩
  | .hbm, ⟨2, _⟩ => ⟨S256x2048, .f32⟩
  | .hbm, ⟨3, _⟩ => ⟨S1024x2048, .bf16⟩
  | .hbm, ⟨4, _⟩ => ⟨S1024x2048, .f32⟩
  | .hbm, ⟨5, _⟩ => ⟨S256x1024, .f32⟩
  | .hbm, ⟨6, _⟩ => ⟨S256x2048, .f32⟩
  | .hbm, ⟨7, _⟩ => ⟨S256x1024, .f32⟩
  | _, _ => ⟨S256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel23.lean ====
abbrev S256x1024 : Shape := ⟨2, ![256, 1024]⟩
abbrev S1x1024 : Shape := ⟨2, ![1, 1024]⟩
abbrev S256 : Shape := ⟨1, ![256]⟩
abbrev S256x1 : Shape := ⟨2, ![256, 1]⟩
abbrev S1024 : Shape := ⟨1, ![1024]⟩

abbrev nBuf : Space → Nat
  | .hbm => 4
  | .vmem => 4
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S256x1024, .f32⟩
  | .hbm, ⟨3, _⟩ => ⟨S1x1024, .f32⟩
  | .local _ .vmem, ⟨0, _⟩ => ⟨S256x1024, .f32⟩
  | .local _ .vmem, ⟨1, _⟩ => ⟨S1x1024, .f32⟩
  | .local _ .vmem, ⟨2, _⟩ => ⟨S256x1024, .f32⟩
  | .local _ .vmem, ⟨3, _⟩ => ⟨S1x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨1, ![1], ![false]⟩

def k0_cond1 (i : grid0.Coords) : BitVec 1 :=
  let arg0 : BitVec 32 := BitVec.ofNat 32 (i 0).val
  let c0_i32 : BitVec 32 := 0#32
  let v15 : BitVec 1 := Scalar.cmpi .eq arg0 c0_i32
  let v16 : BitVec 32 := Scalar.extui v15
  let c0_i32_6 : BitVec 32 := 0#32
  let v17 : BitVec 1 := Scalar.cmpi .ne v16 c0_i32_6
  v17

def k0_cond2 (i : grid0.Coords) : BitVec 1 :=
  let arg0 : BitVec 32 := BitVec.ofNat 32 (i 0).val
  let c0_i32_7 : BitVec 32 := 0#32
  let v18 : BitVec 1 := Scalar.cmpi .sgt arg0 c0_i32_7
  let v19 : BitVec 32 := Scalar.extui v18
  let c0_i32_8 : BitVec 32 := 0#32
  let v20 : BitVec 1 := Scalar.cmpi .ne v19 c0_i32_8
  v20

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== Reference23Ideal.lean ====
abbrev S256x1024 : Shape := ⟨2, ![256, 1024]⟩
abbrev S1x1024 : Shape := ⟨2, ![1, 1024]⟩
abbrev S_ : Shape := ⟨0, ![]⟩
abbrev S256 : Shape := ⟨1, ![256]⟩
abbrev S256x1 : Shape := ⟨2, ![256, 1]⟩
abbrev S1024 : Shape := ⟨1, ![1024]⟩

abbrev nBuf : Space → Nat
  | .hbm => 22
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S256x1024, .f32⟩
  | .hbm, ⟨3, _⟩ => ⟨S256x1024, .f32⟩
  | .hbm, ⟨4, _⟩ => ⟨S_, .f32⟩
  | .hbm, ⟨5, _⟩ => ⟨S256, .f32⟩
  | .hbm, ⟨6, _⟩ => ⟨S256x1, .f32⟩
  | .hbm, ⟨7, _⟩ => ⟨S_, .f32⟩
  | .hbm, ⟨8, _⟩ => ⟨S256x1, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S256x1, .f32⟩
  | .hbm, ⟨14, _⟩ => ⟨S256x1024, .f32⟩
  | .hbm, ⟨15, _⟩ => ⟨S256x1024, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S_, .f32⟩
  | .hbm, ⟨20, _⟩ => ⟨S1024, .f32⟩
  | .hbm, ⟨21, _⟩ => ⟨S1x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== Kernel24.lean ====
abbrev S8192x1024 : Shape := ⟨2, ![8192, 1024]⟩
abbrev S1x1024 : Shape := ⟨2, ![1, 1024]⟩
abbrev S8x128 : Shape := ⟨2, ![8, 128]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩
abbrev S1024 : Shape := ⟨1, ![1024]⟩

abbrev nBuf : Space → Nat
  | .hbm => 6
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S8x128, .f32⟩
  | .hbm, ⟨4, _⟩ => ⟨S8192x1024, .f32⟩
  | .hbm, ⟨5, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S8x128, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v30 : BitVec 1 := Scalar.cmpi .eq arg0 c0_i32
  let v31 : BitVec 32 := Scalar.extui v30
  let c0_i32_13 : BitVec 32 := 0#32
  let v32 : BitVec 1 := Scalar.cmpi .ne v31 c0_i32_13
  v32

def k0_cond2 (i : grid0.Coords) : BitVec 1 :=
  let arg0 : BitVec 32 := BitVec.ofNat 32 (i 0).val
  let c0_i32_14 : BitVec 32 := 0#32
  let v33 : BitVec 1 := Scalar.cmpi .sgt arg0 c0_i32_14
  let v34 : BitVec 32 := Scalar.extui v33
  let c0_i32_15 : BitVec 32 := 0#32
  let v35 : BitVec 1 := Scalar.cmpi .ne v34 c0_i32_15
  v35

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference24Ideal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩
abbrev S8x128 : Shape := ⟨2, ![8, 128]⟩

abbrev nBuf : Space → Nat
  | .hbm => 69
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192, .f32⟩
  | .hbm, ⟨29, _⟩ => ⟨S_, .f32⟩
  | .hbm, ⟨30, _⟩ => ⟨S8192, .f32⟩
  | .hbm, ⟨31, _⟩ => ⟨S8192, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S8192, .f32⟩
  | .hbm, ⟨40, _⟩ => ⟨S_, .f32⟩
  | .hbm, ⟨41, _⟩ => ⟨S8192, .f32⟩
  | .hbm, ⟨42, _⟩ => ⟨S8192, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S_, .f32⟩
  | .hbm, ⟨47, _⟩ => ⟨S1024, .f32⟩
  | .hbm, ⟨48, _⟩ => ⟨S1x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S_, .f32⟩
  | .hbm, ⟨53, _⟩ => ⟨S8192, .f32⟩
  | .hbm, ⟨54, _⟩ => ⟨S8192x1, .f32⟩
  | .hbm, ⟨55, _⟩ => ⟨S8192x1024, .f32⟩
  | .hbm, ⟨56, _⟩ => ⟨S8192x1024, .f32⟩
  | .hbm, ⟨57, _⟩ => ⟨S8192x1, .f32⟩
  | .hbm, ⟨58, _⟩ => ⟨S_, .f32⟩
  | .hbm, ⟨59, _⟩ => ⟨S8192x1, .f32⟩
  | .hbm, ⟨60, _⟩ => ⟨S8192x1, .f32⟩
  | .hbm, ⟨61, _⟩ => ⟨S_, .f32⟩
  | .hbm, ⟨62, _⟩ => ⟨S8192, .f32⟩
  | .hbm, ⟨63, _⟩ => ⟨S8192x1024, .f32⟩
  | .hbm, ⟨64, _⟩ => ⟨S8192x1024, .f32⟩
  | .hbm, ⟨65, _⟩ => ⟨S8192x1024, .f32⟩
  | .hbm, ⟨66, _⟩ => ⟨S8192x1024, .f32⟩
  | .hbm, ⟨67, _⟩ => ⟨S8192x1024, .f32⟩
  | .hbm, ⟨68, _⟩ => ⟨S8x128, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_cst_7 : Ref sig .tc := ⟨.hbm, 34, rfl⟩
abbrev main_v23 : Ref sig .tc := ⟨.hbm, 35, rfl⟩
abbrev main_cst_8 : Ref sig .tc := ⟨.hbm, 36, rfl⟩
abbrev main_cst_9 : Ref sig .tc := ⟨.hbm, 37, rfl⟩
abbrev main_v24 : Ref sig .tc := ⟨.hbm, 38, rfl⟩
abbrev main_v25 : Ref sig .tc := ⟨.hbm, 39, rfl⟩
abbrev main_cst_10 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_11 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_13 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩

abbrev nD : Nat := 1
abbrev τ : Topo := Topo.v7x

variable {F : FTy → Type} [FloatOps F]
-- ==== Kernel25.lean ====
abbrev S8192x3072 : Shape := ⟨2, ![8192, 3072]⟩
abbrev S3x1024 : Shape := ⟨2, ![3, 1024]⟩
abbrev S_ : Shape := ⟨0, ![]⟩
abbrev S8x1024 : Shape := ⟨2, ![8, 1024]⟩
abbrev S8192x1024 : Shape := ⟨2, ![8192, 1024]⟩
abbrev S256x1024 : Shape := ⟨2, ![256, 1024]⟩
abbrev S264x1024 : Shape := ⟨2, ![264, 1024]⟩
abbrev S1x1024 : Shape := ⟨2, ![1, 1024]⟩

abbrev nBuf : Space → Nat
  | .hbm => 7
  | .vmem => 12
  | .smem => 0
  | _ => 0

abbrev bufTy : (tb : Table) → Fin (tcTables nBuf tb) → BufTy
  | .hbm, ⟨0, _⟩ => ⟨S8192x3072, .bf16⟩
  | .hbm, ⟨1, _⟩ => ⟨S3x1024, .f32⟩
  | .hbm, ⟨2, _⟩ => ⟨S_, .i32⟩
  | .hbm, ⟨3, _⟩ => ⟨S_, .f32⟩
  | .hbm, ⟨4, _⟩ => ⟨S8x1024, .f32⟩
  | .hbm, ⟨5, _⟩ => ⟨S8192x1024, .bf16⟩
  | .hbm, ⟨6, _⟩ => ⟨S8192x1024, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S8x1024, .f32⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S264x1024, .f32⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference25Ideal.lean ====
abbrev S8192x3072 : Shape := ⟨2, ![8192, 3072]⟩
abbrev S3x1024 : Shape := ⟨2, ![3, 1024]⟩
abbrev S8192x1024 : Shape := ⟨2, ![8192, 1024]⟩
abbrev S_ : Shape := ⟨0, ![]⟩
abbrev S2x1024 : Shape := ⟨2, ![2, 1024]⟩
abbrev S8194x1024 : Shape := ⟨2, ![8194, 1024]⟩
abbrev S1x1024 : Shape := ⟨2, ![1, 1024]⟩

abbrev nBuf : Space → Nat
  | .hbm => 30
  | .vmem => 0
  | .smem => 0
  | _ => 0

abbrev bufTy : (tb : Table) → Fin (tcTables nBuf tb) → BufTy
  | .hbm, ⟨0, _⟩ => ⟨S8192x3072, .bf16⟩
  | .hbm, ⟨1, _⟩ => ⟨S3x1024, .f32⟩
  | .hbm, ⟨2, _⟩ => ⟨S8192x3072, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S2x1024, .f32⟩
  | .hbm, ⟨9, _⟩ => ⟨S8194x1024, .f32⟩
  | .hbm, ⟨10, _⟩ => ⟨S1x1024, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S_, .f32⟩
  | .hbm, ⟨15, _⟩ => ⟨S8192x1024, .f32⟩
  | .hbm, ⟨16, _⟩ => ⟨S8192x1024, .f32⟩
  | .hbm, ⟨17, _⟩ => ⟨S1x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .bf16⟩
  | .hbm, ⟨29, _⟩ => ⟨S8192x1024, .bf16⟩
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩

abbrev nD : Nat := 1
abbrev τ : Topo := Topo.v7x

variable {F : FTy → Type} [FloatOps F]
-- ==== Kernel26.lean ====
abbrev S8192x3072 : Shape := ⟨2, ![8192, 3072]⟩
abbrev S3x1024 : Shape := ⟨2, ![3, 1024]⟩
abbrev S8192x1024 : Shape := ⟨2, ![8192, 1024]⟩
abbrev S_ : Shape := ⟨0, ![]⟩
abbrev S2x1024 : Shape := ⟨2, ![2, 1024]⟩
abbrev S8194x1024 : Shape := ⟨2, ![8194, 1024]⟩
abbrev S1x1024 : Shape := ⟨2, ![1, 1024]⟩
abbrev S8x1024 : Shape := ⟨2, ![8, 1024]⟩
abbrev S256x1024 : Shape := ⟨2, ![256, 1024]⟩
abbrev S256x3072 : Shape := ⟨2, ![256, 3072]⟩
abbrev S264x1024 : Shape := ⟨2, ![264, 1024]⟩
abbrev S1024 : Shape := ⟨1, ![1024]⟩

abbrev nBuf : Space → Nat
  | .hbm => 35
  | .vmem => 15
  | .smem => 0
  | _ => 0

abbrev bufTy : (tb : Table) → Fin (tcTables nBuf tb) → BufTy
  | .hbm, ⟨0, _⟩ => ⟨S8192x3072, .bf16⟩
  | .hbm, ⟨1, _⟩ => ⟨S3x1024, .f32⟩
  | .hbm, ⟨2, _⟩ => ⟨S8192x1024, .bf16⟩
  | .hbm, ⟨3, _⟩ => ⟨S8192x3072, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S2x1024, .f32⟩
  | .hbm, ⟨10, _⟩ => ⟨S8194x1024, .f32⟩
  | .hbm, ⟨11, _⟩ => ⟨S1x1024, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S_, .f32⟩
  | .hbm, ⟨16, _⟩ => ⟨S8192x1024, .f32⟩
  | .hbm, ⟨17, _⟩ => ⟨S8192x1024, .f32⟩
  | .hbm, ⟨18, _⟩ => ⟨S1x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S1x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .bf16⟩
  | .hbm, ⟨30, _⟩ => ⟨S_, .i32⟩
  | .hbm, ⟨31, _⟩ => ⟨S_, .f32⟩
  | .hbm, ⟨32, _⟩ => ⟨S8x1024, .f32⟩
  | .hbm, ⟨33, _⟩ => ⟨S8192x3072, .bf16⟩
  | .hbm, ⟨34, _⟩ => ⟨S8x1024, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S8x1024, .f32⟩
  | .local _ .vmem, ⟨11, _⟩ => ⟨S256x3072, .bf16⟩
  | .local _ .vmem, ⟨12, _⟩ => ⟨S256x3072, .bf16⟩
  | .local _ .vmem, ⟨13, _⟩ => ⟨S8x1024, .f32⟩
  | .local _ .vmem, ⟨14, _⟩ => ⟨S264x1024, .f32⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_c : Ref sig .tc := ⟨.hbm, 30, rfl⟩
abbrev main_call0_v0 : Ref sig .tc := ⟨.hbm, 31, rfl⟩
abbrev main_v25 : Ref sig .tc := ⟨.hbm, 32, rfl⟩
abbrev main_v26_0 : Ref sig .tc := ⟨.hbm, 33, rfl⟩
abbrev main_v26_1 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c31_i32 : BitVec 32 := 31#32
  let v0 : BitVec 32 := Scalar.subi c31_i32 arg0
  let c1_i32 : BitVec 32 := 1#32
  let c0_i32 : BitVec 32 := 0#32
  ![v0.toNat, c1_i32.toNat]

def cc0_transform_2 (i : grid0.Coords) : Fin 2 → Nat :=
  let arg0 : BitVec 32 := BitVec.ofNat 32 (i 0).val
  let c31_i32 : BitVec 32 := 31#32
  let v0 : BitVec 32 := Scalar.subi c31_i32 arg0
  let c2_i32 : BitVec 32 := 2#32
  let c0_i32 : BitVec 32 := 0#32
  ![v0.toNat, c2_i32.toNat]

def cc0_transform_3 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x3072 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference26Ideal.lean ====
abbrev S8192x3072 : Shape := ⟨2, ![8192, 3072]⟩
abbrev S3x1024 : Shape := ⟨2, ![3, 1024]⟩
abbrev S8192x1024 : Shape := ⟨2, ![8192, 1024]⟩
abbrev S_ : Shape := ⟨0, ![]⟩
abbrev S2x1024 : Shape := ⟨2, ![2, 1024]⟩
abbrev S8194x1024 : Shape := ⟨2, ![8194, 1024]⟩
abbrev S1x1024 : Shape := ⟨2, ![1, 1024]⟩
abbrev S1024 : Shape := ⟨1, ![1024]⟩
abbrev S5x1024 : Shape := ⟨2, ![5, 1024]⟩
abbrev S8x1024 : Shape := ⟨2, ![8, 1024]⟩

abbrev nBuf : Space → Nat
  | .hbm => 84
  | .vmem => 0
  | .smem => 0
  | _ => 0

abbrev bufTy : (tb : Table) → Fin (tcTables nBuf tb) → BufTy
  | .hbm, ⟨0, _⟩ => ⟨S8192x3072, .bf16⟩
  | .hbm, ⟨1, _⟩ => ⟨S3x1024, .f32⟩
  | .hbm, ⟨2, _⟩ => ⟨S8192x1024, .bf16⟩
  | .hbm, ⟨3, _⟩ => ⟨S8192x3072, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S2x1024, .f32⟩
  | .hbm, ⟨10, _⟩ => ⟨S8194x1024, .f32⟩
  | .hbm, ⟨11, _⟩ => ⟨S_, .f32⟩
  | .hbm, ⟨12, _⟩ => ⟨S2x1024, .f32⟩
  | .hbm, ⟨13, _⟩ => ⟨S1x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S_, .f32⟩
  | .hbm, ⟨18, _⟩ => ⟨S8192x1024, .f32⟩
  | .hbm, ⟨19, _⟩ => ⟨S8192x1024, .f32⟩
  | .hbm, ⟨20, _⟩ => ⟨S1x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S1x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S_, .f32⟩
  | .hbm, ⟨38, _⟩ => ⟨S1024, .f32⟩
  | .hbm, ⟨39, _⟩ => ⟨S1x1024, .f32⟩
  | .hbm, ⟨40, _⟩ => ⟨S_, .f32⟩
  | .hbm, ⟨41, _⟩ => ⟨S8194x1024, .f32⟩
  | .hbm, ⟨42, _⟩ => ⟨S_, .f32⟩
  | .hbm, ⟨43, _⟩ => ⟨S3x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S_, .f32⟩
  | .hbm, ⟨51, _⟩ => ⟨S8194x1024, .f32⟩
  | .hbm, ⟨52, _⟩ => ⟨S8194x1024, .f32⟩
  | .hbm, ⟨53, _⟩ => ⟨S_, .f32⟩
  | .hbm, ⟨54, _⟩ => ⟨S3x1024, .f32⟩
  | .hbm, ⟨55, _⟩ => ⟨S3x1024, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S_, .f32⟩
  | .hbm, ⟨60, _⟩ => ⟨S1024, .f32⟩
  | .hbm, ⟨61, _⟩ => ⟨S1x1024, .f32⟩
  | .hbm, ⟨62, _⟩ => ⟨S_, .f32⟩
  | .hbm, ⟨63, _⟩ => ⟨S8194x1024, .f32⟩
  | .hbm, ⟨64, _⟩ => ⟨S8194x1024, .f32⟩
  | .hbm, ⟨65, _⟩ => ⟨S_, .f32⟩
  | .hbm, ⟨66, _⟩ => ⟨S3x1024, .f32⟩
  | .hbm, ⟨67, _⟩ => ⟨S3x1024, .f32⟩
  | .hbm, ⟨68, _⟩ => ⟨S2x1024, .f32⟩
  | .hbm, ⟨69, _⟩ => ⟨S8192x1024, .f32⟩
  | .hbm, ⟨70, _⟩ => ⟨S8192x1024, .f32⟩
  | .hbm, ⟨71, _⟩ => ⟨S8192x1024, .f32⟩
  | .hbm, ⟨72, _⟩ => ⟨S_, .f32⟩
  | .hbm, ⟨73, _⟩ => ⟨S8192x3072, .f32⟩
  | .hbm, ⟨74, _⟩ => ⟨S_, .f32⟩
  | .hbm, ⟨75, _⟩ => ⟨S8192x3072, .f32⟩
  | .hbm, ⟨76, _⟩ => ⟨S8192x3072, .f32⟩
  | .hbm, ⟨77, _⟩ => ⟨S_, .f32⟩
  | .hbm, ⟨78, _⟩ => ⟨S8192x3072, .f32⟩
  | .hbm, ⟨79, _⟩ => ⟨S8192x3072, .f32⟩
  | .hbm, ⟨80, _⟩ => ⟨S8192x3072, .bf16⟩
  | .hbm, ⟨81, _⟩ => ⟨S_, .f32⟩
  | .hbm, ⟨82, _⟩ => ⟨S5x1024, .f32⟩
  | .hbm, ⟨83, _⟩ => ⟨S8x1024, .f32⟩
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_cst_2 : Ref sig .tc := ⟨.hbm, 37, rfl⟩
abbrev main_v31 : Ref sig .tc := ⟨.hbm, 38, rfl⟩
abbrev main_v32 : Ref sig .tc := ⟨.hbm, 39, rfl⟩
abbrev main_cst_3 : Ref sig .tc := ⟨.hbm, 40, rfl⟩
abbrev main_v33 : Ref sig .tc := ⟨.hbm, 41, rfl⟩
abbrev main_cst_4 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_cst_5 : Ref sig .tc := ⟨.hbm, 47, rfl⟩
abbrev main_v38 : Ref sig .tc := ⟨.hbm, 48, rfl⟩
abbrev main_v39 : Ref sig .tc := ⟨.hbm, 49, rfl⟩
abbrev main_cst_6 : Ref sig .tc := ⟨.hbm, 50, rfl⟩
abbrev main_v40 : Ref sig .tc := ⟨.hbm, 51, rfl⟩
abbrev main_v41 : Ref sig .tc := ⟨.hbm, 52, rfl⟩
abbrev main_cst_7 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_cst_8 : Ref sig .tc := ⟨.hbm, 59, rfl⟩
abbrev main_v47 : Ref sig .tc := ⟨.hbm, 60, rfl⟩
abbrev main_v48 : Ref sig .tc := ⟨.hbm, 61, rfl⟩
abbrev main_cst_9 : Ref sig .tc := ⟨.hbm, 62, rfl⟩
abbrev main_v49 : Ref sig .tc := ⟨.hbm, 63, rfl⟩
abbrev main_v50 : Ref sig .tc := ⟨.hbm, 64, rfl⟩
abbrev main_cst_10 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_cst_11 : Ref sig .tc := ⟨.hbm, 72, rfl⟩
abbrev main_v57 : Ref sig .tc := ⟨.hbm, 73, rfl⟩
abbrev main_cst_12 : Ref sig .tc := ⟨.hbm, 74, rfl⟩
abbrev main_v58 : Ref sig .tc := ⟨.hbm, 75, rfl⟩
abbrev main_v59 : Ref sig .tc := ⟨.hbm, 76, rfl⟩
abbrev main_cst_13 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_cst_14 : Ref sig .tc := ⟨.hbm, 81, rfl⟩
abbrev main_v63 : Ref sig .tc := ⟨.hbm, 82, rfl⟩
abbrev main_v64 : Ref sig .tc := ⟨.hbm, 83, rfl⟩

abbrev nD : Nat := 1
abbrev τ : Topo := Topo.v7x

variable {F : FTy → Type} [FloatOps F]
-- ==== Kernel27.lean ====
abbrev S2x1024x1408 : Shape := ⟨3, ![2, 1024, 1408]⟩
abbrev S1x1024x1408 : Shape := ⟨3, ![1, 1024, 1408]⟩
abbrev S1x256x1408 : Shape := ⟨3, ![1, 256, 1408]⟩
abbrev S256x1408 : Shape := ⟨2, ![256, 1408]⟩

abbrev nBuf : Space → Nat
  | .hbm => 11
  | .vmem => 22
  | .smem => 0
  | _ => 0

abbrev bufTy : (tb : Table) → Fin (tcTables nBuf tb) → BufTy
  | .hbm, ⟨0, _⟩ => ⟨S2x1024x1408, .f32⟩
  | .hbm, ⟨1, _⟩ => ⟨S2x1024x1408, .f32⟩
  | .hbm, ⟨2, _⟩ => ⟨S2x1024x1408, .f32⟩
  | .hbm, ⟨3, _⟩ => ⟨S1x1024x1408, .f32⟩
  | .hbm, ⟨4, _⟩ => ⟨S1x1024x1408, .f32⟩
  | .hbm, ⟨5, _⟩ => ⟨S1x1024x1408, .f32⟩
  | .hbm, ⟨6, _⟩ => ⟨S1x1024x1408, .f32⟩
  | .hbm, ⟨7, _⟩ => ⟨S2x1024x1408, .f32⟩
  | .hbm, ⟨8, _⟩ => ⟨S2x1024x1408, .f32⟩
  | .hbm, ⟨9, _⟩ => ⟨S2x1024x1408, .f32⟩
  | .hbm, ⟨10, _⟩ => ⟨S2x1024x1408, .f32⟩
  | .local _ .vmem, ⟨0, _⟩ => ⟨S1x256x1408, .f32⟩
  | .local _ .vmem, ⟨1, _⟩ => ⟨S1x256x1408, .f32⟩
  | .local _ .vmem, ⟨2, _⟩ => ⟨S1x256x1408, .f32⟩
  | .local _ .vmem, ⟨3, _⟩ => ⟨S1x256x1408, .f32⟩
  | .local _ .vmem, ⟨4, _⟩ => ⟨S1x256x1408, .f32⟩
  | .local _ .vmem, ⟨5, _⟩ => ⟨S1x256x1408, .f32⟩
  | .local _ .vmem, ⟨6, _⟩ => ⟨S1x256x1408, .f32⟩
  | .local _ .vmem, ⟨7, _⟩ => ⟨S1x256x1408, .f32⟩
  | .local _ .vmem, ⟨8, _⟩ => ⟨S1x256x1408, .f32⟩
  | .local _ .vmem, ⟨9, _⟩ => ⟨S1x256x1408, .f32⟩
  | .local _ .vmem, ⟨10, _⟩ => ⟨S1x256x1408, .f32⟩
  | .local _ .vmem, ⟨11, _⟩ => ⟨S1x256x1408, .f32⟩
  | .local _ .vmem, ⟨12, _⟩ => ⟨S1x256x1408, .f32⟩
  | .local _ .vmem, ⟨13, _⟩ => ⟨S1x256x1408, .f32⟩
  | .local _ .vmem, ⟨14, _⟩ => ⟨S1x256x1408, .f32⟩
  | .local _ .vmem, ⟨15, _⟩ => ⟨S1x256x1408, .f32⟩
  | .local _ .vmem, ⟨16, _⟩ => ⟨S1x256x1408, .f32⟩
  | .local _ .vmem, ⟨17, _⟩ => ⟨S1x256x1408, .f32⟩
  | .local _ .vmem, ⟨18, _⟩ => ⟨S1x256x1408, .f32⟩
  | .local _ .vmem, ⟨19, _⟩ => ⟨S1x256x1408, .f32⟩
  | .local _ .vmem, ⟨20, _⟩ => ⟨S1x256x1408, .f32⟩
  | .local _ .vmem, ⟨21, _⟩ => ⟨S1x256x1408, .f32⟩
  | _, _ => ⟨S2x1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .sgt arg0 c0_i32_0
  let c3_i32 : BitVec 32 := 3#32
  let c0_i32_1 : BitVec 32 := 0#32
  let v2 : BitVec 32 := Scalar.select v1 c3_i32 c0_i32_1
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .sgt arg0 c0_i32_0
  let c3_i32 : BitVec 32 := 3#32
  let c0_i32_1 : BitVec 32 := 0#32
  let v2 : BitVec 32 := Scalar.select v1 c3_i32 c0_i32_1
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .sgt arg0 c1_i32_0
  let c3_i32 : BitVec 32 := 3#32
  let c0_i32 : BitVec 32 := 0#32
  let v2 : BitVec 32 := Scalar.select v1 c3_i32 c0_i32
  let v3 : BitVec 32 := Scalar.select v0 arg1 v2
  let c0_i32_1 : BitVec 32 := 0#32
  let c0_i32_2 : BitVec 32 := 0#32
  let c0_i32_3 : BitVec 32 := 0#32
  ![c0_i32_1.toNat, v3.toNat, c0_i32_2.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .sgt arg0 c1_i32_0
  let c3_i32 : BitVec 32 := 3#32
  let c0_i32 : BitVec 32 := 0#32
  let v2 : BitVec 32 := Scalar.select v1 c3_i32 c0_i32
  let v3 : BitVec 32 := Scalar.select v0 arg1 v2
  let c0_i32_1 : BitVec 32 := 0#32
  let c0_i32_2 : BitVec 32 := 0#32
  let c0_i32_3 : BitVec 32 := 0#32
  ![c0_i32_1.toNat, v3.toNat, c0_i32_2.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x1408 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x1408 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Kernel27Ideal.lean ====
abbrev S2x1024x1408 : Shape := ⟨3, ![2, 1024, 1408]⟩
abbrev S1x1024x1408 : Shape := ⟨3, ![1, 1024, 1408]⟩
abbrev S1x256x1408 : Shape := ⟨3, ![1, 256, 1408]⟩
abbrev S256x1408 : Shape := ⟨2, ![256, 1408]⟩

abbrev nBuf : Space → Nat
  | .hbm => 11
  | .vmem => 22
  | .smem => 0
  | _ => 0

abbrev bufTy : (tb : Table) → Fin (tcTables nBuf tb) → BufTy
  | .hbm, ⟨0, _⟩ => ⟨S2x1024x1408, .f32⟩
  | .hbm, ⟨1, _⟩ => ⟨S2x1024x1408, .f32⟩
  | .hbm, ⟨2, _⟩ => ⟨S2x1024x1408, .f32⟩
  | .hbm, ⟨3, _⟩ => ⟨S1x1024x1408, .f32⟩
  | .hbm, ⟨4, _⟩ => ⟨S1x1024x1408, .f32⟩
  | .hbm, ⟨5, _⟩ => ⟨S1x1024x1408, .f32⟩
  | .hbm, ⟨6, _⟩ => ⟨S1x1024x1408, .f32⟩
  | .hbm, ⟨7, _⟩ => ⟨S2x1024x1408, .f32⟩
  | .hbm, ⟨8, _⟩ => ⟨S2x1024x1408, .f32⟩
  | .hbm, ⟨9, _⟩ => ⟨S2x1024x1408, .f32⟩
  | .hbm, ⟨10, _⟩ => ⟨S2x1024x1408, .f32⟩
  | .local _ .vmem, ⟨0, _⟩ => ⟨S1x256x1408, .f32⟩
  | .local _ .vmem, ⟨1, _⟩ => ⟨S1x256x1408, .f32⟩
  | .local _ .vmem, ⟨2, _⟩ => ⟨S1x256x1408, .f32⟩
  | .local _ .vmem, ⟨3, _⟩ => ⟨S1x256x1408, .f32⟩
  | .local _ .vmem, ⟨4, _⟩ => ⟨S1x256x1408, .f32⟩
  | .local _ .vmem, ⟨5, _⟩ => ⟨S1x256x1408, .f32⟩
  | .local _ .vmem, ⟨6, _⟩ => ⟨S1x256x1408, .f32⟩
  | .local _ .vmem, ⟨7, _⟩ => ⟨S1x256x1408, .f32⟩
  | .local _ .vmem, ⟨8, _⟩ => ⟨S1x256x1408, .f32⟩
  | .local _ .vmem, ⟨9, _⟩ => ⟨S1x256x1408, .f32⟩
  | .local _ .vmem, ⟨10, _⟩ => ⟨S1x256x1408, .f32⟩
  | .local _ .vmem, ⟨11, _⟩ => ⟨S1x256x1408, .f32⟩
  | .local _ .vmem, ⟨12, _⟩ => ⟨S1x256x1408, .f32⟩
  | .local _ .vmem, ⟨13, _⟩ => ⟨S1x256x1408, .f32⟩
  | .local _ .vmem, ⟨14, _⟩ => ⟨S1x256x1408, .f32⟩
  | .local _ .vmem, ⟨15, _⟩ => ⟨S1x256x1408, .f32⟩
  | .local _ .vmem, ⟨16, _⟩ => ⟨S1x256x1408, .f32⟩
  | .local _ .vmem, ⟨17, _⟩ => ⟨S1x256x1408, .f32⟩
  | .local _ .vmem, ⟨18, _⟩ => ⟨S1x256x1408, .f32⟩
  | .local _ .vmem, ⟨19, _⟩ => ⟨S1x256x1408, .f32⟩
  | .local _ .vmem, ⟨20, _⟩ => ⟨S1x256x1408, .f32⟩
  | .local _ .vmem, ⟨21, _⟩ => ⟨S1x256x1408, .f32⟩
  | _, _ => ⟨S2x1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .sgt arg0 c0_i32_0
  let c3_i32 : BitVec 32 := 3#32
  let c0_i32_1 : BitVec 32 := 0#32
  let v2 : BitVec 32 := Scalar.select v1 c3_i32 c0_i32_1
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .sgt arg0 c0_i32_0
  let c3_i32 : BitVec 32 := 3#32
  let c0_i32_1 : BitVec 32 := 0#32
  let v2 : BitVec 32 := Scalar.select v1 c3_i32 c0_i32_1
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .sgt arg0 c1_i32_0
  let c3_i32 : BitVec 32 := 3#32
  let c0_i32 : BitVec 32 := 0#32
  let v2 : BitVec 32 := Scalar.select v1 c3_i32 c0_i32
  let v3 : BitVec 32 := Scalar.select v0 arg1 v2
  let c0_i32_1 : BitVec 32 := 0#32
  let c0_i32_2 : BitVec 32 := 0#32
  let c0_i32_3 : BitVec 32 := 0#32
  ![c0_i32_1.toNat, v3.toNat, c0_i32_2.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .sgt arg0 c1_i32_0
  let c3_i32 : BitVec 32 := 3#32
  let c0_i32 : BitVec 32 := 0#32
  let v2 : BitVec 32 := Scalar.select v1 c3_i32 c0_i32
  let v3 : BitVec 32 := Scalar.select v0 arg1 v2
  let c0_i32_1 : BitVec 32 := 0#32
  let c0_i32_2 : BitVec 32 := 0#32
  let c0_i32_3 : BitVec 32 := 0#32
  ![c0_i32_1.toNat, v3.toNat, c0_i32_2.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x1408 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x1408 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference27Ideal.lean ====
abbrev S2x1024x1408 : Shape := ⟨3, ![2, 1024, 1408]⟩
abbrev S1x1024x1408 : Shape := ⟨3, ![1, 1024, 1408]⟩
abbrev S_ : Shape := ⟨0, ![]⟩

abbrev nBuf : Space → Nat
  | .hbm => 43
  | .vmem => 0
  | .smem => 0
  | _ => 0

abbrev bufTy : (tb : Table) → Fin (tcTables nBuf tb) → BufTy
  | .hbm, ⟨0, _⟩ => ⟨S2x1024x1408, .f32⟩
  | .hbm, ⟨1, _⟩ => ⟨S2x1024x1408, .f32⟩
  | .hbm, ⟨2, _⟩ => ⟨S2x1024x1408, .f32⟩
  | .hbm, ⟨3, _⟩ => ⟨S1x1024x1408, .f32⟩
  | .hbm, ⟨4, _⟩ => ⟨S1x1024x1408, .f32⟩
  | .hbm, ⟨5, _⟩ => ⟨S1x1024x1408, .f32⟩
  | .hbm, ⟨6, _⟩ => ⟨S1x1024x1408, .f32⟩
  | .hbm, ⟨7, _⟩ => ⟨S1x1024x1408, .f32⟩
  | .hbm, ⟨8, _⟩ => ⟨S1x1024x1408, .f32⟩
  | .hbm, ⟨9, _⟩ => ⟨S2x1024x1408, .f32⟩
  | .hbm, ⟨10, _⟩ => ⟨S_, .f32⟩
  | .hbm, ⟨11, _⟩ => ⟨S2x1024x1408, .f32⟩
  | .hbm, ⟨12, _⟩ => ⟨S2x1024x1408, .f32⟩
  | .hbm, ⟨13, _⟩ => ⟨S_, .f32⟩
  | .hbm, ⟨14, _⟩ => ⟨S2x1024x1408, .f32⟩
  | .hbm, ⟨15, _⟩ => ⟨S2x1024x1408, .f32⟩
  | .hbm, ⟨16, _⟩ => ⟨S2x1024x1408, .f32⟩
  | .hbm, ⟨17, _⟩ => ⟨S_, .f32⟩
  | .hbm, ⟨18, _⟩ => ⟨S2x1024x1408, .f32⟩
  | .hbm, ⟨19, _⟩ => ⟨S2x1024x1408, .f32⟩
  | .hbm, ⟨20, _⟩ => ⟨S2x1024x1408, .f32⟩
  | .hbm, ⟨21, _⟩ => ⟨S_, .f32⟩
  | .hbm, ⟨22, _⟩ => ⟨S2x1024x1408, .f32⟩
  | .hbm, ⟨23, _⟩ => ⟨S2x1024x1408, .f32⟩
  | .hbm, ⟨24, _⟩ => ⟨S2x1024x1408, .f32⟩
  | .hbm, ⟨25, _⟩ => ⟨S_, .f32⟩
  | .hbm, ⟨26, _⟩ => ⟨S2x1024x1408, .f32⟩
  | .hbm, ⟨27, _⟩ => ⟨S2x1024x1408, .f32⟩
  | .hbm, ⟨28, _⟩ => ⟨S_, .f32⟩
  | .hbm, ⟨29, _⟩ => ⟨S2x1024x1408, .f32⟩
  | .hbm, ⟨30, _⟩ => ⟨S2x1024x1408, .f32⟩
  | .hbm, ⟨31, _⟩ => ⟨S2x1024x1408, .f32⟩
  | .hbm, ⟨32, _⟩ => ⟨S_, .f32⟩
  | .hbm, ⟨33, _⟩ => ⟨S2x1024x1408, .f32⟩
  | .hbm, ⟨34, _⟩ => ⟨S2x1024x1408, .f32⟩
  | .hbm, ⟨35, _⟩ => ⟨S2x1024x1408, .f32⟩
  | .hbm, ⟨36, _⟩ => ⟨S_, .f32⟩
  | .hbm, ⟨37, _⟩ => ⟨S2x1024x1408, .f32⟩
  | .hbm, ⟨38, _⟩ => ⟨S2x1024x1408, .f32⟩
  | .hbm, ⟨39, _⟩ => ⟨S2x1024x1408, .f32⟩
  | .hbm, ⟨40, _⟩ => ⟨S_, .f32⟩
  | .hbm, ⟨41, _⟩ => ⟨S2x1024x1408, .f32⟩
  | .hbm, ⟨42, _⟩ => ⟨S2x1024x1408, .f32⟩
  | _, _ => ⟨S2x1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_cst_4 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_5 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_6 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_7 : Ref sig .tc := ⟨.hbm, 40, rfl⟩
abbrev main_v25 : Ref sig .tc := ⟨.hbm, 41, rfl⟩
abbrev main_v26 : Ref sig .tc := ⟨.hbm, 42, rfl⟩

abbrev nD : Nat := 1
abbrev τ : Topo := Topo.v7x

variable {F : FTy → Type} [FloatOps F]
-- ==== Kernel28.lean ====
abbrev S2x704x1024 : Shape := ⟨3, ![2, 704, 1024]⟩
abbrev S1x704x1024 : Shape := ⟨3, ![1, 704, 1024]⟩
abbrev S1x352x1024 : Shape := ⟨3, ![1, 352, 1024]⟩
abbrev S352x1024 : Shape := ⟨2, ![352, 1024]⟩

abbrev nBuf : Space → Nat
  | .hbm => 11
  | .vmem => 22
  | .smem => 0
  | _ => 0

abbrev bufTy : (tb : Table) → Fin (tcTables nBuf tb) → BufTy
  | .hbm, ⟨0, _⟩ => ⟨S2x704x1024, .f32⟩
  | .hbm, ⟨1, _⟩ => ⟨S2x704x1024, .f32⟩
  | .hbm, ⟨2, _⟩ => ⟨S2x704x1024, .f32⟩
  | .hbm, ⟨3, _⟩ => ⟨S1x704x1024, .f32⟩
  | .hbm, ⟨4, _⟩ => ⟨S1x704x1024, .f32⟩
  | .hbm, ⟨5, _⟩ => ⟨S1x704x1024, .f32⟩
  | .hbm, ⟨6, _⟩ => ⟨S1x704x1024, .f32⟩
  | .hbm, ⟨7, _⟩ => ⟨S2x704x1024, .f32⟩
  | .hbm, ⟨8, _⟩ => ⟨S2x704x1024, .f32⟩
  | .hbm, ⟨9, _⟩ => ⟨S2x704x1024, .f32⟩
  | .hbm, ⟨10, _⟩ => ⟨S2x704x1024, .f32⟩
  | .local _ .vmem, ⟨0, _⟩ => ⟨S1x352x1024, .f32⟩
  | .local _ .vmem, ⟨1, _⟩ => ⟨S1x352x1024, .f32⟩
  | .local _ .vmem, ⟨2, _⟩ => ⟨S1x352x1024, .f32⟩
  | .local _ .vmem, ⟨3, _⟩ => ⟨S1x352x1024, .f32⟩
  | .local _ .vmem, ⟨4, _⟩ => ⟨S1x352x1024, .f32⟩
  | .local _ .vmem, ⟨5, _⟩ => ⟨S1x352x1024, .f32⟩
  | .local _ .vmem, ⟨6, _⟩ => ⟨S1x352x1024, .f32⟩
  | .local _ .vmem, ⟨7, _⟩ => ⟨S1x352x1024, .f32⟩
  | .local _ .vmem, ⟨8, _⟩ => ⟨S1x352x1024, .f32⟩
  | .local _ .vmem, ⟨9, _⟩ => ⟨S1x352x1024, .f32⟩
  | .local _ .vmem, ⟨10, _⟩ => ⟨S1x352x1024, .f32⟩
  | .local _ .vmem, ⟨11, _⟩ => ⟨S1x352x1024, .f32⟩
  | .local _ .vmem, ⟨12, _⟩ => ⟨S1x352x1024, .f32⟩
  | .local _ .vmem, ⟨13, _⟩ => ⟨S1x352x1024, .f32⟩
  | .local _ .vmem, ⟨14, _⟩ => ⟨S1x352x1024, .f32⟩
  | .local _ .vmem, ⟨15, _⟩ => ⟨S1x352x1024, .f32⟩
  | .local _ .vmem, ⟨16, _⟩ => ⟨S1x352x1024, .f32⟩
  | .local _ .vmem, ⟨17, _⟩ => ⟨S1x352x1024, .f32⟩
  | .local _ .vmem, ⟨18, _⟩ => ⟨S1x352x1024, .f32⟩
  | .local _ .vmem, ⟨19, _⟩ => ⟨S1x352x1024, .f32⟩
  | .local _ .vmem, ⟨20, _⟩ => ⟨S1x352x1024, .f32⟩
  | .local _ .vmem, ⟨21, _⟩ => ⟨S1x352x1024, .f32⟩
  | _, _ => ⟨S2x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![2, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .sgt arg0 c0_i32_0
  let c1_i32 : BitVec 32 := 1#32
  let c0_i32_1 : BitVec 32 := 0#32
  let v2 : BitVec 32 := Scalar.select v1 c1_i32 c0_i32_1
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .sgt arg0 c0_i32_0
  let c1_i32 : BitVec 32 := 1#32
  let c0_i32_1 : BitVec 32 := 0#32
  let v2 : BitVec 32 := Scalar.select v1 c1_i32 c0_i32_1
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .sgt arg0 c1_i32_0
  let c1_i32_1 : BitVec 32 := 1#32
  let c0_i32 : BitVec 32 := 0#32
  let v2 : BitVec 32 := Scalar.select v1 c1_i32_1 c0_i32
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .sgt arg0 c1_i32_0
  let c1_i32_1 : BitVec 32 := 1#32
  let c0_i32 : BitVec 32 := 0#32
  let v2 : BitVec 32 := Scalar.select v1 c1_i32_1 c0_i32
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x352x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x352x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x352x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x352x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Kernel28Ideal.lean ====
abbrev S2x704x1024 : Shape := ⟨3, ![2, 704, 1024]⟩
abbrev S1x704x1024 : Shape := ⟨3, ![1, 704, 1024]⟩
abbrev S1x352x1024 : Shape := ⟨3, ![1, 352, 1024]⟩
abbrev S352x1024 : Shape := ⟨2, ![352, 1024]⟩

abbrev nBuf : Space → Nat
  | .hbm => 11
  | .vmem => 22
  | .smem => 0
  | _ => 0

abbrev bufTy : (tb : Table) → Fin (tcTables nBuf tb) → BufTy
  | .hbm, ⟨0, _⟩ => ⟨S2x704x1024, .f32⟩
  | .hbm, ⟨1, _⟩ => ⟨S2x704x1024, .f32⟩
  | .hbm, ⟨2, _⟩ => ⟨S2x704x1024, .f32⟩
  | .hbm, ⟨3, _⟩ => ⟨S1x704x1024, .f32⟩
  | .hbm, ⟨4, _⟩ => ⟨S1x704x1024, .f32⟩
  | .hbm, ⟨5, _⟩ => ⟨S1x704x1024, .f32⟩
  | .hbm, ⟨6, _⟩ => ⟨S1x704x1024, .f32⟩
  | .hbm, ⟨7, _⟩ => ⟨S2x704x1024, .f32⟩
  | .hbm, ⟨8, _⟩ => ⟨S2x704x1024, .f32⟩
  | .hbm, ⟨9, _⟩ => ⟨S2x704x1024, .f32⟩
  | .hbm, ⟨10, _⟩ => ⟨S2x704x1024, .f32⟩
  | .local _ .vmem, ⟨0, _⟩ => ⟨S1x352x1024, .f32⟩
  | .local _ .vmem, ⟨1, _⟩ => ⟨S1x352x1024, .f32⟩
  | .local _ .vmem, ⟨2, _⟩ => ⟨S1x352x1024, .f32⟩
  | .local _ .vmem, ⟨3, _⟩ => ⟨S1x352x1024, .f32⟩
  | .local _ .vmem, ⟨4, _⟩ => ⟨S1x352x1024, .f32⟩
  | .local _ .vmem, ⟨5, _⟩ => ⟨S1x352x1024, .f32⟩
  | .local _ .vmem, ⟨6, _⟩ => ⟨S1x352x1024, .f32⟩
  | .local _ .vmem, ⟨7, _⟩ => ⟨S1x352x1024, .f32⟩
  | .local _ .vmem, ⟨8, _⟩ => ⟨S1x352x1024, .f32⟩
  | .local _ .vmem, ⟨9, _⟩ => ⟨S1x352x1024, .f32⟩
  | .local _ .vmem, ⟨10, _⟩ => ⟨S1x352x1024, .f32⟩
  | .local _ .vmem, ⟨11, _⟩ => ⟨S1x352x1024, .f32⟩
  | .local _ .vmem, ⟨12, _⟩ => ⟨S1x352x1024, .f32⟩
  | .local _ .vmem, ⟨13, _⟩ => ⟨S1x352x1024, .f32⟩
  | .local _ .vmem, ⟨14, _⟩ => ⟨S1x352x1024, .f32⟩
  | .local _ .vmem, ⟨15, _⟩ => ⟨S1x352x1024, .f32⟩
  | .local _ .vmem, ⟨16, _⟩ => ⟨S1x352x1024, .f32⟩
  | .local _ .vmem, ⟨17, _⟩ => ⟨S1x352x1024, .f32⟩
  | .local _ .vmem, ⟨18, _⟩ => ⟨S1x352x1024, .f32⟩
  | .local _ .vmem, ⟨19, _⟩ => ⟨S1x352x1024, .f32⟩
  | .local _ .vmem, ⟨20, _⟩ => ⟨S1x352x1024, .f32⟩
  | .local _ .vmem, ⟨21, _⟩ => ⟨S1x352x1024, .f32⟩
  | _, _ => ⟨S2x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![2, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .sgt arg0 c0_i32_0
  let c1_i32 : BitVec 32 := 1#32
  let c0_i32_1 : BitVec 32 := 0#32
  let v2 : BitVec 32 := Scalar.select v1 c1_i32 c0_i32_1
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .sgt arg0 c0_i32_0
  let c1_i32 : BitVec 32 := 1#32
  let c0_i32_1 : BitVec 32 := 0#32
  let v2 : BitVec 32 := Scalar.select v1 c1_i32 c0_i32_1
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .sgt arg0 c1_i32_0
  let c1_i32_1 : BitVec 32 := 1#32
  let c0_i32 : BitVec 32 := 0#32
  let v2 : BitVec 32 := Scalar.select v1 c1_i32_1 c0_i32
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .sgt arg0 c1_i32_0
  let c1_i32_1 : BitVec 32 := 1#32
  let c0_i32 : BitVec 32 := 0#32
  let v2 : BitVec 32 := Scalar.select v1 c1_i32_1 c0_i32
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x352x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x352x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x352x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x352x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference28Ideal.lean ====
abbrev S2x704x1024 : Shape := ⟨3, ![2, 704, 1024]⟩
abbrev S1x704x1024 : Shape := ⟨3, ![1, 704, 1024]⟩
abbrev S_ : Shape := ⟨0, ![]⟩

abbrev nBuf : Space → Nat
  | .hbm => 43
  | .vmem => 0
  | .smem => 0
  | _ => 0

abbrev bufTy : (tb : Table) → Fin (tcTables nBuf tb) → BufTy
  | .hbm, ⟨0, _⟩ => ⟨S2x704x1024, .f32⟩
  | .hbm, ⟨1, _⟩ => ⟨S2x704x1024, .f32⟩
  | .hbm, ⟨2, _⟩ => ⟨S2x704x1024, .f32⟩
  | .hbm, ⟨3, _⟩ => ⟨S1x704x1024, .f32⟩
  | .hbm, ⟨4, _⟩ => ⟨S1x704x1024, .f32⟩
  | .hbm, ⟨5, _⟩ => ⟨S1x704x1024, .f32⟩
  | .hbm, ⟨6, _⟩ => ⟨S1x704x1024, .f32⟩
  | .hbm, ⟨7, _⟩ => ⟨S1x704x1024, .f32⟩
  | .hbm, ⟨8, _⟩ => ⟨S1x704x1024, .f32⟩
  | .hbm, ⟨9, _⟩ => ⟨S2x704x1024, .f32⟩
  | .hbm, ⟨10, _⟩ => ⟨S_, .f32⟩
  | .hbm, ⟨11, _⟩ => ⟨S2x704x1024, .f32⟩
  | .hbm, ⟨12, _⟩ => ⟨S2x704x1024, .f32⟩
  | .hbm, ⟨13, _⟩ => ⟨S_, .f32⟩
  | .hbm, ⟨14, _⟩ => ⟨S2x704x1024, .f32⟩
  | .hbm, ⟨15, _⟩ => ⟨S2x704x1024, .f32⟩
  | .hbm, ⟨16, _⟩ => ⟨S2x704x1024, .f32⟩
  | .hbm, ⟨17, _⟩ => ⟨S_, .f32⟩
  | .hbm, ⟨18, _⟩ => ⟨S2x704x1024, .f32⟩
  | .hbm, ⟨19, _⟩ => ⟨S2x704x1024, .f32⟩
  | .hbm, ⟨20, _⟩ => ⟨S2x704x1024, .f32⟩
  | .hbm, ⟨21, _⟩ => ⟨S_, .f32⟩
  | .hbm, ⟨22, _⟩ => ⟨S2x704x1024, .f32⟩
  | .hbm, ⟨23, _⟩ => ⟨S2x704x1024, .f32⟩
  | .hbm, ⟨24, _⟩ => ⟨S2x704x1024, .f32⟩
  | .hbm, ⟨25, _⟩ => ⟨S_, .f32⟩
  | .hbm, ⟨26, _⟩ => ⟨S2x704x1024, .f32⟩
  | .hbm, ⟨27, _⟩ => ⟨S2x704x1024, .f32⟩
  | .hbm, ⟨28, _⟩ => ⟨S_, .f32⟩
  | .hbm, ⟨29, _⟩ => ⟨S2x704x1024, .f32⟩
  | .hbm, ⟨30, _⟩ => ⟨S2x704x1024, .f32⟩
  | .hbm, ⟨31, _⟩ => ⟨S2x704x1024, .f32⟩
  | .hbm, ⟨32, _⟩ => ⟨S_, .f32⟩
  | .hbm, ⟨33, _⟩ => ⟨S2x704x1024, .f32⟩
  | .hbm, ⟨34, _⟩ => ⟨S2x704x1024, .f32⟩
  | .hbm, ⟨35, _⟩ => ⟨S2x704x1024, .f32⟩
  | .hbm, ⟨36, _⟩ => ⟨S_, .f32⟩
  | .hbm, ⟨37, _⟩ => ⟨S2x704x1024, .f32⟩
  | .hbm, ⟨38, _⟩ => ⟨S2x704x1024, .f32⟩
  | .hbm, ⟨39, _⟩ => ⟨S2x704x1024, .f32⟩
  | .hbm, ⟨40, _⟩ => ⟨S_, .f32⟩
  | .hbm, ⟨41, _⟩ => ⟨S2x704x1024, .f32⟩
  | .hbm, ⟨42, _⟩ => ⟨S2x704x1024, .f32⟩
  | _, _ => ⟨S2x704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_cst_4 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_5 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_6 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_7 : Ref sig .tc := ⟨.hbm, 40, rfl⟩
abbrev main_v25 : Ref sig .tc := ⟨.hbm, 41, rfl⟩
abbrev main_v26 : Ref sig .tc := ⟨.hbm, 42, rfl⟩

abbrev nD : Nat := 1
abbrev τ : Topo := Topo.v7x

variable {F : FTy → Type} [FloatOps F]
-- ==== Kernel29.lean ====
abbrev S2x256x1024 : Shape := ⟨3, ![2, 256, 1024]⟩
abbrev S1x256x1024 : Shape := ⟨3, ![1, 256, 1024]⟩
abbrev S256x1024 : Shape := ⟨2, ![256, 1024]⟩

abbrev nBuf : Space → Nat
  | .hbm => 11
  | .vmem => 22
  | .smem => 0
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S1x256x1024, .f32⟩
  | .hbm, ⟨4, _⟩ => ⟨S1x256x1024, .f32⟩
  | .hbm, ⟨5, _⟩ => ⟨S1x256x1024, .f32⟩
  | .hbm, ⟨6, _⟩ => ⟨S1x256x1024, .f32⟩
  | .hbm, ⟨7, _⟩ => ⟨S2x256x1024, .f32⟩
  | .hbm, ⟨8, _⟩ => ⟨S2x256x1024, .f32⟩
  | .hbm, ⟨9, _⟩ => ⟨S2x256x1024, .f32⟩
  | .hbm, ⟨10, _⟩ => ⟨S2x256x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | .local _ .vmem, ⟨14, _⟩ => ⟨S1x256x1024, .f32⟩
  | .local _ .vmem, ⟨15, _⟩ => ⟨S1x256x1024, .f32⟩
  | .local _ .vmem, ⟨16, _⟩ => ⟨S1x256x1024, .f32⟩
  | .local _ .vmem, ⟨17, _⟩ => ⟨S1x256x1024, .f32⟩
  | .local _ .vmem, ⟨18, _⟩ => ⟨S1x256x1024, .f32⟩
  | .local _ .vmem, ⟨19, _⟩ => ⟨S1x256x1024, .f32⟩
  | .local _ .vmem, ⟨20, _⟩ => ⟨S1x256x1024, .f32⟩
  | .local _ .vmem, ⟨21, _⟩ => ⟨S1x256x1024, .f32⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .sgt arg0 c0_i32_0
  let c0_i32_1 : BitVec 32 := 0#32
  let c0_i32_2 : BitVec 32 := 0#32
  let v2 : BitVec 32 := Scalar.select v1 c0_i32_1 c0_i32_2
  let v3 : BitVec 32 := Scalar.select v0 arg1 v2
  let c0_i32_3 : BitVec 32 := 0#32
  let c0_i32_4 : BitVec 32 := 0#32
  let c0_i32_5 : BitVec 32 := 0#32
  ![c0_i32_3.toNat, v3.toNat, c0_i32_4.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .sgt arg0 c0_i32_0
  let c0_i32_1 : BitVec 32 := 0#32
  let c0_i32_2 : BitVec 32 := 0#32
  let v2 : BitVec 32 := Scalar.select v1 c0_i32_1 c0_i32_2
  let v3 : BitVec 32 := Scalar.select v0 arg1 v2
  let c0_i32_3 : BitVec 32 := 0#32
  let c0_i32_4 : BitVec 32 := 0#32
  let c0_i32_5 : BitVec 32 := 0#32
  ![c0_i32_3.toNat, v3.toNat, c0_i32_4.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .sgt arg0 c1_i32_0
  let c0_i32 : BitVec 32 := 0#32
  let c0_i32_1 : BitVec 32 := 0#32
  let v2 : BitVec 32 := Scalar.select v1 c0_i32 c0_i32_1
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .sgt arg0 c1_i32_0
  let c0_i32 : BitVec 32 := 0#32
  let c0_i32_1 : BitVec 32 := 0#32
  let v2 : BitVec 32 := Scalar.select v1 c0_i32 c0_i32_1
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Kernel29Ideal.lean ====
abbrev S2x256x1024 : Shape := ⟨3, ![2, 256, 1024]⟩
abbrev S1x256x1024 : Shape := ⟨3, ![1, 256, 1024]⟩
abbrev S256x1024 : Shape := ⟨2, ![256, 1024]⟩

abbrev nBuf : Space → Nat
  | .hbm => 11
  | .vmem => 22
  | .smem => 0
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S1x256x1024, .f32⟩
  | .hbm, ⟨4, _⟩ => ⟨S1x256x1024, .f32⟩
  | .hbm, ⟨5, _⟩ => ⟨S1x256x1024, .f32⟩
  | .hbm, ⟨6, _⟩ => ⟨S1x256x1024, .f32⟩
  | .hbm, ⟨7, _⟩ => ⟨S2x256x1024, .f32⟩
  | .hbm, ⟨8, _⟩ => ⟨S2x256x1024, .f32⟩
  | .hbm, ⟨9, _⟩ => ⟨S2x256x1024, .f32⟩
  | .hbm, ⟨10, _⟩ => ⟨S2x256x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | .local _ .vmem, ⟨14, _⟩ => ⟨S1x256x1024, .f32⟩
  | .local _ .vmem, ⟨15, _⟩ => ⟨S1x256x1024, .f32⟩
  | .local _ .vmem, ⟨16, _⟩ => ⟨S1x256x1024, .f32⟩
  | .local _ .vmem, ⟨17, _⟩ => ⟨S1x256x1024, .f32⟩
  | .local _ .vmem, ⟨18, _⟩ => ⟨S1x256x1024, .f32⟩
  | .local _ .vmem, ⟨19, _⟩ => ⟨S1x256x1024, .f32⟩
  | .local _ .vmem, ⟨20, _⟩ => ⟨S1x256x1024, .f32⟩
  | .local _ .vmem, ⟨21, _⟩ => ⟨S1x256x1024, .f32⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .sgt arg0 c0_i32_0
  let c0_i32_1 : BitVec 32 := 0#32
  let c0_i32_2 : BitVec 32 := 0#32
  let v2 : BitVec 32 := Scalar.select v1 c0_i32_1 c0_i32_2
  let v3 : BitVec 32 := Scalar.select v0 arg1 v2
  let c0_i32_3 : BitVec 32 := 0#32
  let c0_i32_4 : BitVec 32 := 0#32
  let c0_i32_5 : BitVec 32 := 0#32
  ![c0_i32_3.toNat, v3.toNat, c0_i32_4.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .sgt arg0 c0_i32_0
  let c0_i32_1 : BitVec 32 := 0#32
  let c0_i32_2 : BitVec 32 := 0#32
  let v2 : BitVec 32 := Scalar.select v1 c0_i32_1 c0_i32_2
  let v3 : BitVec 32 := Scalar.select v0 arg1 v2
  let c0_i32_3 : BitVec 32 := 0#32
  let c0_i32_4 : BitVec 32 := 0#32
  let c0_i32_5 : BitVec 32 := 0#32
  ![c0_i32_3.toNat, v3.toNat, c0_i32_4.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .sgt arg0 c1_i32_0
  let c0_i32 : BitVec 32 := 0#32
  let c0_i32_1 : BitVec 32 := 0#32
  let v2 : BitVec 32 := Scalar.select v1 c0_i32 c0_i32_1
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .sgt arg0 c1_i32_0
  let c0_i32 : BitVec 32 := 0#32
  let c0_i32_1 : BitVec 32 := 0#32
  let v2 : BitVec 32 := Scalar.select v1 c0_i32 c0_i32_1
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference29Ideal.lean ====
abbrev S2x256x1024 : Shape := ⟨3, ![2, 256, 1024]⟩
abbrev S1x256x1024 : Shape := ⟨3, ![1, 256, 1024]⟩
abbrev S_ : Shape := ⟨0, ![]⟩

abbrev nBuf : Space → Nat
  | .hbm => 43
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S1x256x1024, .f32⟩
  | .hbm, ⟨4, _⟩ => ⟨S1x256x1024, .f32⟩
  | .hbm, ⟨5, _⟩ => ⟨S1x256x1024, .f32⟩
  | .hbm, ⟨6, _⟩ => ⟨S1x256x1024, .f32⟩
  | .hbm, ⟨7, _⟩ => ⟨S1x256x1024, .f32⟩
  | .hbm, ⟨8, _⟩ => ⟨S1x256x1024, .f32⟩
  | .hbm, ⟨9, _⟩ => ⟨S2x256x1024, .f32⟩
  | .hbm, ⟨10, _⟩ => ⟨S_, .f32⟩
  | .hbm, ⟨11, _⟩ => ⟨S2x256x1024, .f32⟩
  | .hbm, ⟨12, _⟩ => ⟨S2x256x1024, .f32⟩
  | .hbm, ⟨13, _⟩ => ⟨S_, .f32⟩
  | .hbm, ⟨14, _⟩ => ⟨S2x256x1024, .f32⟩
  | .hbm, ⟨15, _⟩ => ⟨S2x256x1024, .f32⟩
  | .hbm, ⟨16, _⟩ => ⟨S2x256x1024, .f32⟩
  | .hbm, ⟨17, _⟩ => ⟨S_, .f32⟩
  | .hbm, ⟨18, _⟩ => ⟨S2x256x1024, .f32⟩
  | .hbm, ⟨19, _⟩ => ⟨S2x256x1024, .f32⟩
  | .hbm, ⟨20, _⟩ => ⟨S2x256x1024, .f32⟩
  | .hbm, ⟨21, _⟩ => ⟨S_, .f32⟩
  | .hbm, ⟨22, _⟩ => ⟨S2x256x1024, .f32⟩
  | .hbm, ⟨23, _⟩ => ⟨S2x256x1024, .f32⟩
  | .hbm, ⟨24, _⟩ => ⟨S2x256x1024, .f32⟩
  | .hbm, ⟨25, _⟩ => ⟨S_, .f32⟩
  | .hbm, ⟨26, _⟩ => ⟨S2x256x1024, .f32⟩
  | .hbm, ⟨27, _⟩ => ⟨S2x256x1024, .f32⟩
  | .hbm, ⟨28, _⟩ => ⟨S_, .f32⟩
  | .hbm, ⟨29, _⟩ => ⟨S2x256x1024, .f32⟩
  | .hbm, ⟨30, _⟩ => ⟨S2x256x1024, .f32⟩
  | .hbm, ⟨31, _⟩ => ⟨S2x256x1024, .f32⟩
  | .hbm, ⟨32, _⟩ => ⟨S_, .f32⟩
  | .hbm, ⟨33, _⟩ => ⟨S2x256x1024, .f32⟩
  | .hbm, ⟨34, _⟩ => ⟨S2x256x1024, .f32⟩
  | .hbm, ⟨35, _⟩ => ⟨S2x256x1024, .f32⟩
  | .hbm, ⟨36, _⟩ => ⟨S_, .f32⟩
  | .hbm, ⟨37, _⟩ => ⟨S2x256x1024, .f32⟩
  | .hbm, ⟨38, _⟩ => ⟨S2x256x1024, .f32⟩
  | .hbm, ⟨39, _⟩ => ⟨S2x256x1024, .f32⟩
  | .hbm, ⟨40, _⟩ => ⟨S_, .f32⟩
  | .hbm, ⟨41, _⟩ => ⟨S2x256x1024, .f32⟩
  | .hbm, ⟨42, _⟩ => ⟨S2x256x1024, .f32⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_cst_4 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_5 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_6 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_7 : Ref sig .tc := ⟨.hbm, 40, rfl⟩
abbrev main_v25 : Ref sig .tc := ⟨.hbm, 41, rfl⟩
abbrev main_v26 : Ref sig .tc := ⟨.hbm, 42, rfl⟩

abbrev nD : Nat := 1
abbrev τ : Topo := Topo.v7x

variable {F : FTy → Type} [FloatOps F]
-- ==== Kernel30.lean ====
abbrev S2x1024x512 : Shape := ⟨3, ![2, 1024, 512]⟩
abbrev S1x1024x512 : Shape := ⟨3, ![1, 1024, 512]⟩
abbrev S1x512x512 : Shape := ⟨3, ![1, 512, 512]⟩
abbrev S512x512 : Shape := ⟨2, ![512, 512]⟩

abbrev nBuf : Space → Nat
  | .hbm => 11
  | .vmem => 22
  | .smem => 0
  | _ => 0

abbrev bufTy : (tb : Table) → Fin (tcTables nBuf tb) → BufTy
  | .hbm, ⟨0, _⟩ => ⟨S2x1024x512, .f32⟩
  | .hbm, ⟨1, _⟩ => ⟨S2x1024x512, .f32⟩
  | .hbm, ⟨2, _⟩ => ⟨S2x1024x512, .f32⟩
  | .hbm, ⟨3, _⟩ => ⟨S1x1024x512, .f32⟩
  | .hbm, ⟨4, _⟩ => ⟨S1x1024x512, .f32⟩
  | .hbm, ⟨5, _⟩ => ⟨S1x1024x512, .f32⟩
  | .hbm, ⟨6, _⟩ => ⟨S1x1024x512, .f32⟩
  | .hbm, ⟨7, _⟩ => ⟨S2x1024x512, .f32⟩
  | .hbm, ⟨8, _⟩ => ⟨S2x1024x512, .f32⟩
  | .hbm, ⟨9, _⟩ => ⟨S2x1024x512, .f32⟩
  | .hbm, ⟨10, _⟩ => ⟨S2x1024x512, .f32⟩
  | .local _ .vmem, ⟨0, _⟩ => ⟨S1x512x512, .f32⟩
  | .local _ .vmem, ⟨1, _⟩ => ⟨S1x512x512, .f32⟩
  | .local _ .vmem, ⟨2, _⟩ => ⟨S1x512x512, .f32⟩
  | .local _ .vmem, ⟨3, _⟩ => ⟨S1x512x512, .f32⟩
  | .local _ .vmem, ⟨4, _⟩ => ⟨S1x512x512, .f32⟩
  | .local _ .vmem, ⟨5, _⟩ => ⟨S1x512x512, .f32⟩
  | .local _ .vmem, ⟨6, _⟩ => ⟨S1x512x512, .f32⟩
  | .local _ .vmem, ⟨7, _⟩ => ⟨S1x512x512, .f32⟩
  | .local _ .vmem, ⟨8, _⟩ => ⟨S1x512x512, .f32⟩
  | .local _ .vmem, ⟨9, _⟩ => ⟨S1x512x512, .f32⟩
  | .local _ .vmem, ⟨10, _⟩ => ⟨S1x512x512, .f32⟩
  | .local _ .vmem, ⟨11, _⟩ => ⟨S1x512x512, .f32⟩
  | .local _ .vmem, ⟨12, _⟩ => ⟨S1x512x512, .f32⟩
  | .local _ .vmem, ⟨13, _⟩ => ⟨S1x512x512, .f32⟩
  | .local _ .vmem, ⟨14, _⟩ => ⟨S1x512x512, .f32⟩
  | .local _ .vmem, ⟨15, _⟩ => ⟨S1x512x512, .f32⟩
  | .local _ .vmem, ⟨16, _⟩ => ⟨S1x512x512, .f32⟩
  | .local _ .vmem, ⟨17, _⟩ => ⟨S1x512x512, .f32⟩
  | .local _ .vmem, ⟨18, _⟩ => ⟨S1x512x512, .f32⟩
  | .local _ .vmem, ⟨19, _⟩ => ⟨S1x512x512, .f32⟩
  | .local _ .vmem, ⟨20, _⟩ => ⟨S1x512x512, .f32⟩
  | .local _ .vmem, ⟨21, _⟩ => ⟨S1x512x512, .f32⟩
  | _, _ => ⟨S2x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![2, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .sgt arg0 c0_i32_0
  let c1_i32 : BitVec 32 := 1#32
  let c0_i32_1 : BitVec 32 := 0#32
  let v2 : BitVec 32 := Scalar.select v1 c1_i32 c0_i32_1
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .sgt arg0 c0_i32_0
  let c1_i32 : BitVec 32 := 1#32
  let c0_i32_1 : BitVec 32 := 0#32
  let v2 : BitVec 32 := Scalar.select v1 c1_i32 c0_i32_1
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .sgt arg0 c1_i32_0
  let c1_i32_1 : BitVec 32 := 1#32
  let c0_i32 : BitVec 32 := 0#32
  let v2 : BitVec 32 := Scalar.select v1 c1_i32_1 c0_i32
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .sgt arg0 c1_i32_0
  let c1_i32_1 : BitVec 32 := 1#32
  let c0_i32 : BitVec 32 := 0#32
  let v2 : BitVec 32 := Scalar.select v1 c1_i32_1 c0_i32
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference30Ideal.lean ====
abbrev S2x1024x512 : Shape := ⟨3, ![2, 1024, 512]⟩
abbrev S1x1024x512 : Shape := ⟨3, ![1, 1024, 512]⟩
abbrev S_ : Shape := ⟨0, ![]⟩

abbrev nBuf : Space → Nat
  | .hbm => 43
  | .vmem => 0
  | .smem => 0
  | _ => 0

abbrev bufTy : (tb : Table) → Fin (tcTables nBuf tb) → BufTy
  | .hbm, ⟨0, _⟩ => ⟨S2x1024x512, .f32⟩
  | .hbm, ⟨1, _⟩ => ⟨S2x1024x512, .f32⟩
  | .hbm, ⟨2, _⟩ => ⟨S2x1024x512, .f32⟩
  | .hbm, ⟨3, _⟩ => ⟨S1x1024x512, .f32⟩
  | .hbm, ⟨4, _⟩ => ⟨S1x1024x512, .f32⟩
  | .hbm, ⟨5, _⟩ => ⟨S1x1024x512, .f32⟩
  | .hbm, ⟨6, _⟩ => ⟨S1x1024x512, .f32⟩
  | .hbm, ⟨7, _⟩ => ⟨S1x1024x512, .f32⟩
  | .hbm, ⟨8, _⟩ => ⟨S1x1024x512, .f32⟩
  | .hbm, ⟨9, _⟩ => ⟨S2x1024x512, .f32⟩
  | .hbm, ⟨10, _⟩ => ⟨S_, .f32⟩
  | .hbm, ⟨11, _⟩ => ⟨S2x1024x512, .f32⟩
  | .hbm, ⟨12, _⟩ => ⟨S2x1024x512, .f32⟩
  | .hbm, ⟨13, _⟩ => ⟨S_, .f32⟩
  | .hbm, ⟨14, _⟩ => ⟨S2x1024x512, .f32⟩
  | .hbm, ⟨15, _⟩ => ⟨S2x1024x512, .f32⟩
  | .hbm, ⟨16, _⟩ => ⟨S2x1024x512, .f32⟩
  | .hbm, ⟨17, _⟩ => ⟨S_, .f32⟩
  | .hbm, ⟨18, _⟩ => ⟨S2x1024x512, .f32⟩
  | .hbm, ⟨19, _⟩ => ⟨S2x1024x512, .f32⟩
  | .hbm, ⟨20, _⟩ => ⟨S2x1024x512, .f32⟩
  | .hbm, ⟨21, _⟩ => ⟨S_, .f32⟩
  | .hbm, ⟨22, _⟩ => ⟨S2x1024x512, .f32⟩
  | .hbm, ⟨23, _⟩ => ⟨S2x1024x512, .f32⟩
  | .hbm, ⟨24, _⟩ => ⟨S2x1024x512, .f32⟩
  | .hbm, ⟨25, _⟩ => ⟨S_, .f32⟩
  | .hbm, ⟨26, _⟩ => ⟨S2x1024x512, .f32⟩
  | .hbm, ⟨27, _⟩ => ⟨S2x1024x512, .f32⟩
  | .hbm, ⟨28, _⟩ => ⟨S_, .f32⟩
  | .hbm, ⟨29, _⟩ => ⟨S2x1024x512, .f32⟩
  | .hbm, ⟨30, _⟩ => ⟨S2x1024x512, .f32⟩
  | .hbm, ⟨31, _⟩ => ⟨S2x1024x512, .f32⟩
  | .hbm, ⟨32, _⟩ => ⟨S_, .f32⟩
  | .hbm, ⟨33, _⟩ => ⟨S2x1024x512, .f32⟩
  | .hbm, ⟨34, _⟩ => ⟨S2x1024x512, .f32⟩
  | .hbm, ⟨35, _⟩ => ⟨S2x1024x512, .f32⟩
  | .hbm, ⟨36, _⟩ => ⟨S_, .f32⟩
  | .hbm, ⟨37, _⟩ => ⟨S2x1024x512, .f32⟩
  | .hbm, ⟨38, _⟩ => ⟨S2x1024x512, .f32⟩
  | .hbm, ⟨39, _⟩ => ⟨S2x1024x512, .f32⟩
  | .hbm, ⟨40, _⟩ => ⟨S_, .f32⟩
  | .hbm, ⟨41, _⟩ => ⟨S2x1024x512, .f32⟩
  | .hbm, ⟨42, _⟩ => ⟨S2x1024x512, .f32⟩
  | _, _ => ⟨S2x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_cst_4 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_5 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_6 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_7 : Ref sig .tc := ⟨.hbm, 40, rfl⟩
abbrev main_v25 : Ref sig .tc := ⟨.hbm, 41, rfl⟩
abbrev main_v26 : Ref sig .tc := ⟨.hbm, 42, rfl⟩

abbrev nD : Nat := 1
abbrev τ : Topo := Topo.v7x

variable {F : FTy → Type} [FloatOps F]
-- ==== Kernel31.lean ====
abbrev S1x1024x448 : Shape := ⟨3, ![1, 1024, 448]⟩
abbrev S1x512x448 : Shape := ⟨3, ![1, 512, 448]⟩
abbrev S512x448 : Shape := ⟨2, ![512, 448]⟩

abbrev nBuf : Space → Nat
  | .hbm => 9
  | .vmem => 18
  | .smem => 0
  | _ => 0

abbrev bufTy : (tb : Table) → Fin (tcTables nBuf tb) → BufTy
  | .hbm, ⟨0, _⟩ => ⟨S1x1024x448, .f32⟩
  | .hbm, ⟨1, _⟩ => ⟨S1x1024x448, .f32⟩
  | .hbm, ⟨2, _⟩ => ⟨S1x1024x448, .f32⟩
  | .hbm, ⟨3, _⟩ => ⟨S1x1024x448, .f32⟩
  | .hbm, ⟨4, _⟩ => ⟨S1x1024x448, .f32⟩
  | .hbm, ⟨5, _⟩ => ⟨S1x1024x448, .f32⟩
  | .hbm, ⟨6, _⟩ => ⟨S1x1024x448, .f32⟩
  | .hbm, ⟨7, _⟩ => ⟨S1x1024x448, .f32⟩
  | .hbm, ⟨8, _⟩ => ⟨S1x1024x448, .f32⟩
  | .local _ .vmem, ⟨0, _⟩ => ⟨S1x512x448, .f32⟩
  | .local _ .vmem, ⟨1, _⟩ => ⟨S1x512x448, .f32⟩
  | .local _ .vmem, ⟨2, _⟩ => ⟨S1x512x448, .f32⟩
  | .local _ .vmem, ⟨3, _⟩ => ⟨S1x512x448, .f32⟩
  | .local _ .vmem, ⟨4, _⟩ => ⟨S1x512x448, .f32⟩
  | .local _ .vmem, ⟨5, _⟩ => ⟨S1x512x448, .f32⟩
  | .local _ .vmem, ⟨6, _⟩ => ⟨S1x512x448, .f32⟩
  | .local _ .vmem, ⟨7, _⟩ => ⟨S1x512x448, .f32⟩
  | .local _ .vmem, ⟨8, _⟩ => ⟨S1x512x448, .f32⟩
  | .local _ .vmem, ⟨9, _⟩ => ⟨S1x512x448, .f32⟩
  | .local _ .vmem, ⟨10, _⟩ => ⟨S1x512x448, .f32⟩
  | .local _ .vmem, ⟨11, _⟩ => ⟨S1x512x448, .f32⟩
  | .local _ .vmem, ⟨12, _⟩ => ⟨S1x512x448, .f32⟩
  | .local _ .vmem, ⟨13, _⟩ => ⟨S1x512x448, .f32⟩
  | .local _ .vmem, ⟨14, _⟩ => ⟨S1x512x448, .f32⟩
  | .local _ .vmem, ⟨15, _⟩ => ⟨S1x512x448, .f32⟩
  | .local _ .vmem, ⟨16, _⟩ => ⟨S1x512x448, .f32⟩
  | .local _ .vmem, ⟨17, _⟩ => ⟨S1x512x448, .f32⟩
  | _, _ => ⟨S1x1024x448, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![1, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .sgt arg0 c0_i32_0
  let c1_i32 : BitVec 32 := 1#32
  let c0_i32_1 : BitVec 32 := 0#32
  let v2 : BitVec 32 := Scalar.select v1 c1_i32 c0_i32_1
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .sgt arg0 c0_i32_0
  let c1_i32 : BitVec 32 := 1#32
  let c0_i32_1 : BitVec 32 := 0#32
  let v2 : BitVec 32 := Scalar.select v1 c1_i32 c0_i32_1
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x448 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x448 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x448 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x448 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x448 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x448 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x448 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x448 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x448 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Kernel31Ideal.lean ====
abbrev S1x1024x448 : Shape := ⟨3, ![1, 1024, 448]⟩
abbrev S1x512x448 : Shape := ⟨3, ![1, 512, 448]⟩
abbrev S512x448 : Shape := ⟨2, ![512, 448]⟩

abbrev nBuf : Space → Nat
  | .hbm => 9
  | .vmem => 18
  | .smem => 0
  | _ => 0

abbrev bufTy : (tb : Table) → Fin (tcTables nBuf tb) → BufTy
  | .hbm, ⟨0, _⟩ => ⟨S1x1024x448, .f32⟩
  | .hbm, ⟨1, _⟩ => ⟨S1x1024x448, .f32⟩
  | .hbm, ⟨2, _⟩ => ⟨S1x1024x448, .f32⟩
  | .hbm, ⟨3, _⟩ => ⟨S1x1024x448, .f32⟩
  | .hbm, ⟨4, _⟩ => ⟨S1x1024x448, .f32⟩
  | .hbm, ⟨5, _⟩ => ⟨S1x1024x448, .f32⟩
  | .hbm, ⟨6, _⟩ => ⟨S1x1024x448, .f32⟩
  | .hbm, ⟨7, _⟩ => ⟨S1x1024x448, .f32⟩
  | .hbm, ⟨8, _⟩ => ⟨S1x1024x448, .f32⟩
  | .local _ .vmem, ⟨0, _⟩ => ⟨S1x512x448, .f32⟩
  | .local _ .vmem, ⟨1, _⟩ => ⟨S1x512x448, .f32⟩
  | .local _ .vmem, ⟨2, _⟩ => ⟨S1x512x448, .f32⟩
  | .local _ .vmem, ⟨3, _⟩ => ⟨S1x512x448, .f32⟩
  | .local _ .vmem, ⟨4, _⟩ => ⟨S1x512x448, .f32⟩
  | .local _ .vmem, ⟨5, _⟩ => ⟨S1x512x448, .f32⟩
  | .local _ .vmem, ⟨6, _⟩ => ⟨S1x512x448, .f32⟩
  | .local _ .vmem, ⟨7, _⟩ => ⟨S1x512x448, .f32⟩
  | .local _ .vmem, ⟨8, _⟩ => ⟨S1x512x448, .f32⟩
  | .local _ .vmem, ⟨9, _⟩ => ⟨S1x512x448, .f32⟩
  | .local _ .vmem, ⟨10, _⟩ => ⟨S1x512x448, .f32⟩
  | .local _ .vmem, ⟨11, _⟩ => ⟨S1x512x448, .f32⟩
  | .local _ .vmem, ⟨12, _⟩ => ⟨S1x512x448, .f32⟩
  | .local _ .vmem, ⟨13, _⟩ => ⟨S1x512x448, .f32⟩
  | .local _ .vmem, ⟨14, _⟩ => ⟨S1x512x448, .f32⟩
  | .local _ .vmem, ⟨15, _⟩ => ⟨S1x512x448, .f32⟩
  | .local _ .vmem, ⟨16, _⟩ => ⟨S1x512x448, .f32⟩
  | .local _ .vmem, ⟨17, _⟩ => ⟨S1x512x448, .f32⟩
  | _, _ => ⟨S1x1024x448, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![1, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .sgt arg0 c0_i32_0
  let c1_i32 : BitVec 32 := 1#32
  let c0_i32_1 : BitVec 32 := 0#32
  let v2 : BitVec 32 := Scalar.select v1 c1_i32 c0_i32_1
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .sgt arg0 c0_i32_0
  let c1_i32 : BitVec 32 := 1#32
  let c0_i32_1 : BitVec 32 := 0#32
  let v2 : BitVec 32 := Scalar.select v1 c1_i32 c0_i32_1
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x448 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x448 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x448 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x448 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x448 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x448 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x448 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x448 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x448 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference31Ideal.lean ====
abbrev S1x1024x448 : Shape := ⟨3, ![1, 1024, 448]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1x1024x448, .f32⟩
  | .hbm, ⟨1, _⟩ => ⟨S1x1024x448, .f32⟩
  | .hbm, ⟨2, _⟩ => ⟨S1x1024x448, .f32⟩
  | .hbm, ⟨3, _⟩ => ⟨S1x1024x448, .f32⟩
  | .hbm, ⟨4, _⟩ => ⟨S1x1024x448, .f32⟩
  | .hbm, ⟨5, _⟩ => ⟨S1x1024x448, .f32⟩
  | .hbm, ⟨6, _⟩ => ⟨S_, .f32⟩
  | .hbm, ⟨7, _⟩ => ⟨S1x1024x448, .f32⟩
  | .hbm, ⟨8, _⟩ => ⟨S1x1024x448, .f32⟩
  | .hbm, ⟨9, _⟩ => ⟨S_, .f32⟩
  | .hbm, ⟨10, _⟩ => ⟨S1x1024x448, .f32⟩
  | .hbm, ⟨11, _⟩ => ⟨S1x1024x448, .f32⟩
  | .hbm, ⟨12, _⟩ => ⟨S1x1024x448, .f32⟩
  | .hbm, ⟨13, _⟩ => ⟨S_, .f32⟩
  | .hbm, ⟨14, _⟩ => ⟨S1x1024x448, .f32⟩
  | .hbm, ⟨15, _⟩ => ⟨S1x1024x448, .f32⟩
  | .hbm, ⟨16, _⟩ => ⟨S1x1024x448, .f32⟩
  | .hbm, ⟨17, _⟩ => ⟨S_, .f32⟩
  | .hbm, ⟨18, _⟩ => ⟨S1x1024x448, .f32⟩
  | .hbm, ⟨19, _⟩ => ⟨S1x1024x448, .f32⟩
  | .hbm, ⟨20, _⟩ => ⟨S1x1024x448, .f32⟩
  | .hbm, ⟨21, _⟩ => ⟨S_, .f32⟩
  | .hbm, ⟨22, _⟩ => ⟨S1x1024x448, .f32⟩
  | .hbm, ⟨23, _⟩ => ⟨S1x1024x448, .f32⟩
  | .hbm, ⟨24, _⟩ => ⟨S_, .f32⟩
  | .hbm, ⟨25, _⟩ => ⟨S1x1024x448, .f32⟩
  | .hbm, ⟨26, _⟩ => ⟨S1x1024x448, .f32⟩
  | .hbm, ⟨27, _⟩ => ⟨S1x1024x448, .f32⟩
  | .hbm, ⟨28, _⟩ => ⟨S_, .f32⟩
  | .hbm, ⟨29, _⟩ => ⟨S1x1024x448, .f32⟩
  | .hbm, ⟨30, _⟩ => ⟨S1x1024x448, .f32⟩
  | .hbm, ⟨31, _⟩ => ⟨S1x1024x448, .f32⟩
  | .hbm, ⟨32, _⟩ => ⟨S_, .f32⟩
  | .hbm, ⟨33, _⟩ => ⟨S1x1024x448, .f32⟩
  | .hbm, ⟨34, _⟩ => ⟨S1x1024x448, .f32⟩
  | .hbm, ⟨35, _⟩ => ⟨S1x1024x448, .f32⟩
  | .hbm, ⟨36, _⟩ => ⟨S_, .f32⟩
  | .hbm, ⟨37, _⟩ => ⟨S1x1024x448, .f32⟩
  | .hbm, ⟨38, _⟩ => ⟨S1x1024x448, .f32⟩
  | _, _ => ⟨S1x1024x448, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel32.lean ====
abbrev S1x1024x768 : Shape := ⟨3, ![1, 1024, 768]⟩
abbrev S1x512x768 : Shape := ⟨3, ![1, 512, 768]⟩
abbrev S512x768 : Shape := ⟨2, ![512, 768]⟩

abbrev nBuf : Space → Nat
  | .hbm => 9
  | .vmem => 18
  | .smem => 0
  | _ => 0

abbrev bufTy : (tb : Table) → Fin (tcTables nBuf tb) → BufTy
  | .hbm, ⟨0, _⟩ => ⟨S1x1024x768, .f32⟩
  | .hbm, ⟨1, _⟩ => ⟨S1x1024x768, .f32⟩
  | .hbm, ⟨2, _⟩ => ⟨S1x1024x768, .f32⟩
  | .hbm, ⟨3, _⟩ => ⟨S1x1024x768, .f32⟩
  | .hbm, ⟨4, _⟩ => ⟨S1x1024x768, .f32⟩
  | .hbm, ⟨5, _⟩ => ⟨S1x1024x768, .f32⟩
  | .hbm, ⟨6, _⟩ => ⟨S1x1024x768, .f32⟩
  | .hbm, ⟨7, _⟩ => ⟨S1x1024x768, .f32⟩
  | .hbm, ⟨8, _⟩ => ⟨S1x1024x768, .f32⟩
  | .local _ .vmem, ⟨0, _⟩ => ⟨S1x512x768, .f32⟩
  | .local _ .vmem, ⟨1, _⟩ => ⟨S1x512x768, .f32⟩
  | .local _ .vmem, ⟨2, _⟩ => ⟨S1x512x768, .f32⟩
  | .local _ .vmem, ⟨3, _⟩ => ⟨S1x512x768, .f32⟩
  | .local _ .vmem, ⟨4, _⟩ => ⟨S1x512x768, .f32⟩
  | .local _ .vmem, ⟨5, _⟩ => ⟨S1x512x768, .f32⟩
  | .local _ .vmem, ⟨6, _⟩ => ⟨S1x512x768, .f32⟩
  | .local _ .vmem, ⟨7, _⟩ => ⟨S1x512x768, .f32⟩
  | .local _ .vmem, ⟨8, _⟩ => ⟨S1x512x768, .f32⟩
  | .local _ .vmem, ⟨9, _⟩ => ⟨S1x512x768, .f32⟩
  | .local _ .vmem, ⟨10, _⟩ => ⟨S1x512x768, .f32⟩
  | .local _ .vmem, ⟨11, _⟩ => ⟨S1x512x768, .f32⟩
  | .local _ .vmem, ⟨12, _⟩ => ⟨S1x512x768, .f32⟩
  | .local _ .vmem, ⟨13, _⟩ => ⟨S1x512x768, .f32⟩
  | .local _ .vmem, ⟨14, _⟩ => ⟨S1x512x768, .f32⟩
  | .local _ .vmem, ⟨15, _⟩ => ⟨S1x512x768, .f32⟩
  | .local _ .vmem, ⟨16, _⟩ => ⟨S1x512x768, .f32⟩
  | .local _ .vmem, ⟨17, _⟩ => ⟨S1x512x768, .f32⟩
  | _, _ => ⟨S1x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![1, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .sgt arg0 c0_i32_0
  let c1_i32 : BitVec 32 := 1#32
  let c0_i32_1 : BitVec 32 := 0#32
  let v2 : BitVec 32 := Scalar.select v1 c1_i32 c0_i32_1
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .sgt arg0 c0_i32_0
  let c1_i32 : BitVec 32 := 1#32
  let c0_i32_1 : BitVec 32 := 0#32
  let v2 : BitVec 32 := Scalar.select v1 c1_i32 c0_i32_1
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Kernel32Ideal.lean ====
abbrev S1x1024x768 : Shape := ⟨3, ![1, 1024, 768]⟩
abbrev S1x512x768 : Shape := ⟨3, ![1, 512, 768]⟩
abbrev S512x768 : Shape := ⟨2, ![512, 768]⟩

abbrev nBuf : Space → Nat
  | .hbm => 9
  | .vmem => 18
  | .smem => 0
  | _ => 0

abbrev bufTy : (tb : Table) → Fin (tcTables nBuf tb) → BufTy
  | .hbm, ⟨0, _⟩ => ⟨S1x1024x768, .f32⟩
  | .hbm, ⟨1, _⟩ => ⟨S1x1024x768, .f32⟩
  | .hbm, ⟨2, _⟩ => ⟨S1x1024x768, .f32⟩
  | .hbm, ⟨3, _⟩ => ⟨S1x1024x768, .f32⟩
  | .hbm, ⟨4, _⟩ => ⟨S1x1024x768, .f32⟩
  | .hbm, ⟨5, _⟩ => ⟨S1x1024x768, .f32⟩
  | .hbm, ⟨6, _⟩ => ⟨S1x1024x768, .f32⟩
  | .hbm, ⟨7, _⟩ => ⟨S1x1024x768, .f32⟩
  | .hbm, ⟨8, _⟩ => ⟨S1x1024x768, .f32⟩
  | .local _ .vmem, ⟨0, _⟩ => ⟨S1x512x768, .f32⟩
  | .local _ .vmem, ⟨1, _⟩ => ⟨S1x512x768, .f32⟩
  | .local _ .vmem, ⟨2, _⟩ => ⟨S1x512x768, .f32⟩
  | .local _ .vmem, ⟨3, _⟩ => ⟨S1x512x768, .f32⟩
  | .local _ .vmem, ⟨4, _⟩ => ⟨S1x512x768, .f32⟩
  | .local _ .vmem, ⟨5, _⟩ => ⟨S1x512x768, .f32⟩
  | .local _ .vmem, ⟨6, _⟩ => ⟨S1x512x768, .f32⟩
  | .local _ .vmem, ⟨7, _⟩ => ⟨S1x512x768, .f32⟩
  | .local _ .vmem, ⟨8, _⟩ => ⟨S1x512x768, .f32⟩
  | .local _ .vmem, ⟨9, _⟩ => ⟨S1x512x768, .f32⟩
  | .local _ .vmem, ⟨10, _⟩ => ⟨S1x512x768, .f32⟩
  | .local _ .vmem, ⟨11, _⟩ => ⟨S1x512x768, .f32⟩
  | .local _ .vmem, ⟨12, _⟩ => ⟨S1x512x768, .f32⟩
  | .local _ .vmem, ⟨13, _⟩ => ⟨S1x512x768, .f32⟩
  | .local _ .vmem, ⟨14, _⟩ => ⟨S1x512x768, .f32⟩
  | .local _ .vmem, ⟨15, _⟩ => ⟨S1x512x768, .f32⟩
  | .local _ .vmem, ⟨16, _⟩ => ⟨S1x512x768, .f32⟩
  | .local _ .vmem, ⟨17, _⟩ => ⟨S1x512x768, .f32⟩
  | _, _ => ⟨S1x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![1, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .sgt arg0 c0_i32_0
  let c1_i32 : BitVec 32 := 1#32
  let c0_i32_1 : BitVec 32 := 0#32
  let v2 : BitVec 32 := Scalar.select v1 c1_i32 c0_i32_1
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .sgt arg0 c0_i32_0
  let c1_i32 : BitVec 32 := 1#32
  let c0_i32_1 : BitVec 32 := 0#32
  let v2 : BitVec 32 := Scalar.select v1 c1_i32 c0_i32_1
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference32Ideal.lean ====
abbrev S1x1024x768 : Shape := ⟨3, ![1, 1024, 768]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1x1024x768, .f32⟩
  | .hbm, ⟨1, _⟩ => ⟨S1x1024x768, .f32⟩
  | .hbm, ⟨2, _⟩ => ⟨S1x1024x768, .f32⟩
  | .hbm, ⟨3, _⟩ => ⟨S1x1024x768, .f32⟩
  | .hbm, ⟨4, _⟩ => ⟨S1x1024x768, .f32⟩
  | .hbm, ⟨5, _⟩ => ⟨S1x1024x768, .f32⟩
  | .hbm, ⟨6, _⟩ => ⟨S_, .f32⟩
  | .hbm, ⟨7, _⟩ => ⟨S1x1024x768, .f32⟩
  | .hbm, ⟨8, _⟩ => ⟨S1x1024x768, .f32⟩
  | .hbm, ⟨9, _⟩ => ⟨S_, .f32⟩
  | .hbm, ⟨10, _⟩ => ⟨S1x1024x768, .f32⟩
  | .hbm, ⟨11, _⟩ => ⟨S1x1024x768, .f32⟩
  | .hbm, ⟨12, _⟩ => ⟨S1x1024x768, .f32⟩
  | .hbm, ⟨13, _⟩ => ⟨S_, .f32⟩
  | .hbm, ⟨14, _⟩ => ⟨S1x1024x768, .f32⟩
  | .hbm, ⟨15, _⟩ => ⟨S1x1024x768, .f32⟩
  | .hbm, ⟨16, _⟩ => ⟨S1x1024x768, .f32⟩
  | .hbm, ⟨17, _⟩ => ⟨S_, .f32⟩
  | .hbm, ⟨18, _⟩ => ⟨S1x1024x768, .f32⟩
  | .hbm, ⟨19, _⟩ => ⟨S1x1024x768, .f32⟩
  | .hbm, ⟨20, _⟩ => ⟨S1x1024x768, .f32⟩
  | .hbm, ⟨21, _⟩ => ⟨S_, .f32⟩
  | .hbm, ⟨22, _⟩ => ⟨S1x1024x768, .f32⟩
  | .hbm, ⟨23, _⟩ => ⟨S1x1024x768, .f32⟩
  | .hbm, ⟨24, _⟩ => ⟨S_, .f32⟩
  | .hbm, ⟨25, _⟩ => ⟨S1x1024x768, .f32⟩
  | .hbm, ⟨26, _⟩ => ⟨S1x1024x768, .f32⟩
  | .hbm, ⟨27, _⟩ => ⟨S1x1024x768, .f32⟩
  | .hbm, ⟨28, _⟩ => ⟨S_, .f32⟩
  | .hbm, ⟨29, _⟩ => ⟨S1x1024x768, .f32⟩
  | .hbm, ⟨30, _⟩ => ⟨S1x1024x768, .f32⟩
  | .hbm, ⟨31, _⟩ => ⟨S1x1024x768, .f32⟩
  | .hbm, ⟨32, _⟩ => ⟨S_, .f32⟩
  | .hbm, ⟨33, _⟩ => ⟨S1x1024x768, .f32⟩
  | .hbm, ⟨34, _⟩ => ⟨S1x1024x768, .f32⟩
  | .hbm, ⟨35, _⟩ => ⟨S1x1024x768, .f32⟩
  | .hbm, ⟨36, _⟩ => ⟨S_, .f32⟩
  | .hbm, ⟨37, _⟩ => ⟨S1x1024x768, .f32⟩
  | .hbm, ⟨38, _⟩ => ⟨S1x1024x768, .f32⟩
  | _, _ => ⟨S1x1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel33.lean ====
abbrev S1x256x1024 : Shape := ⟨3, ![1, 256, 1024]⟩
abbrev S256x1024 : Shape := ⟨2, ![256, 1024]⟩

abbrev nBuf : Space → Nat
  | .hbm => 9
  | .vmem => 9
  | .smem => 0
  | _ => 0

abbrev bufTy : (tb : Table) → Fin (tcTables nBuf tb) → BufTy
  | .hbm, ⟨0, _⟩ => ⟨S1x256x1024, .f32⟩
  | .hbm, ⟨1, _⟩ => ⟨S1x256x1024, .f32⟩
  | .hbm, ⟨2, _⟩ => ⟨S1x256x1024, .f32⟩
  | .hbm, ⟨3, _⟩ => ⟨S1x256x1024, .f32⟩
  | .hbm, ⟨4, _⟩ => ⟨S1x256x1024, .f32⟩
  | .hbm, ⟨5, _⟩ => ⟨S1x256x1024, .f32⟩
  | .hbm, ⟨6, _⟩ => ⟨S1x256x1024, .f32⟩
  | .hbm, ⟨7, _⟩ => ⟨S1x256x1024, .f32⟩
  | .hbm, ⟨8, _⟩ => ⟨S1x256x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | _, _ => ⟨S1x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .sgt arg0 c0_i32_0
  let c0_i32_1 : BitVec 32 := 0#32
  let c0_i32_2 : BitVec 32 := 0#32
  let v2 : BitVec 32 := Scalar.select v1 c0_i32_1 c0_i32_2
  let v3 : BitVec 32 := Scalar.select v0 arg1 v2
  let c0_i32_3 : BitVec 32 := 0#32
  let c0_i32_4 : BitVec 32 := 0#32
  let c0_i32_5 : BitVec 32 := 0#32
  ![c0_i32_3.toNat, v3.toNat, c0_i32_4.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .sgt arg0 c0_i32_0
  let c0_i32_1 : BitVec 32 := 0#32
  let c0_i32_2 : BitVec 32 := 0#32
  let v2 : BitVec 32 := Scalar.select v1 c0_i32_1 c0_i32_2
  let v3 : BitVec 32 := Scalar.select v0 arg1 v2
  let c0_i32_3 : BitVec 32 := 0#32
  let c0_i32_4 : BitVec 32 := 0#32
  let c0_i32_5 : BitVec 32 := 0#32
  ![c0_i32_3.toNat, v3.toNat, c0_i32_4.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]

abbrev stage0_8 : Fin 1 → Memref sig .tc .vmem S1x256x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, true]
-- ==== Kernel33Ideal.lean ====
abbrev S1x256x1024 : Shape := ⟨3, ![1, 256, 1024]⟩
abbrev S256x1024 : Shape := ⟨2, ![256, 1024]⟩

abbrev nBuf : Space → Nat
  | .hbm => 9
  | .vmem => 9
  | .smem => 0
  | _ => 0

abbrev bufTy : (tb : Table) → Fin (tcTables nBuf tb) → BufTy
  | .hbm, ⟨0, _⟩ => ⟨S1x256x1024, .f32⟩
  | .hbm, ⟨1, _⟩ => ⟨S1x256x1024, .f32⟩
  | .hbm, ⟨2, _⟩ => ⟨S1x256x1024, .f32⟩
  | .hbm, ⟨3, _⟩ => ⟨S1x256x1024, .f32⟩
  | .hbm, ⟨4, _⟩ => ⟨S1x256x1024, .f32⟩
  | .hbm, ⟨5, _⟩ => ⟨S1x256x1024, .f32⟩
  | .hbm, ⟨6, _⟩ => ⟨S1x256x1024, .f32⟩
  | .hbm, ⟨7, _⟩ => ⟨S1x256x1024, .f32⟩
  | .hbm, ⟨8, _⟩ => ⟨S1x256x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | _, _ => ⟨S1x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .sgt arg0 c0_i32_0
  let c0_i32_1 : BitVec 32 := 0#32
  let c0_i32_2 : BitVec 32 := 0#32
  let v2 : BitVec 32 := Scalar.select v1 c0_i32_1 c0_i32_2
  let v3 : BitVec 32 := Scalar.select v0 arg1 v2
  let c0_i32_3 : BitVec 32 := 0#32
  let c0_i32_4 : BitVec 32 := 0#32
  let c0_i32_5 : BitVec 32 := 0#32
  ![c0_i32_3.toNat, v3.toNat, c0_i32_4.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .sgt arg0 c0_i32_0
  let c0_i32_1 : BitVec 32 := 0#32
  let c0_i32_2 : BitVec 32 := 0#32
  let v2 : BitVec 32 := Scalar.select v1 c0_i32_1 c0_i32_2
  let v3 : BitVec 32 := Scalar.select v0 arg1 v2
  let c0_i32_3 : BitVec 32 := 0#32
  let c0_i32_4 : BitVec 32 := 0#32
  let c0_i32_5 : BitVec 32 := 0#32
  ![c0_i32_3.toNat, v3.toNat, c0_i32_4.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]

abbrev stage0_8 : Fin 1 → Memref sig .tc .vmem S1x256x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, true]
-- ==== Reference33Ideal.lean ====
abbrev S1x256x1024 : Shape := ⟨3, ![1, 256, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1x256x1024, .f32⟩
  | .hbm, ⟨1, _⟩ => ⟨S1x256x1024, .f32⟩
  | .hbm, ⟨2, _⟩ => ⟨S1x256x1024, .f32⟩
  | .hbm, ⟨3, _⟩ => ⟨S1x256x1024, .f32⟩
  | .hbm, ⟨4, _⟩ => ⟨S1x256x1024, .f32⟩
  | .hbm, ⟨5, _⟩ => ⟨S1x256x1024, .f32⟩
  | .hbm, ⟨6, _⟩ => ⟨S_, .f32⟩
  | .hbm, ⟨7, _⟩ => ⟨S1x256x1024, .f32⟩
  | .hbm, ⟨8, _⟩ => ⟨S1x256x1024, .f32⟩
  | .hbm, ⟨9, _⟩ => ⟨S_, .f32⟩
  | .hbm, ⟨10, _⟩ => ⟨S1x256x1024, .f32⟩
  | .hbm, ⟨11, _⟩ => ⟨S1x256x1024, .f32⟩
  | .hbm, ⟨12, _⟩ => ⟨S1x256x1024, .f32⟩
  | .hbm, ⟨13, _⟩ => ⟨S_, .f32⟩
  | .hbm, ⟨14, _⟩ => ⟨S1x256x1024, .f32⟩
  | .hbm, ⟨15, _⟩ => ⟨S1x256x1024, .f32⟩
  | .hbm, ⟨16, _⟩ => ⟨S1x256x1024, .f32⟩
  | .hbm, ⟨17, _⟩ => ⟨S_, .f32⟩
  | .hbm, ⟨18, _⟩ => ⟨S1x256x1024, .f32⟩
  | .hbm, ⟨19, _⟩ => ⟨S1x256x1024, .f32⟩
  | .hbm, ⟨20, _⟩ => ⟨S1x256x1024, .f32⟩
  | .hbm, ⟨21, _⟩ => ⟨S_, .f32⟩
  | .hbm, ⟨22, _⟩ => ⟨S1x256x1024, .f32⟩
  | .hbm, ⟨23, _⟩ => ⟨S1x256x1024, .f32⟩
  | .hbm, ⟨24, _⟩ => ⟨S_, .f32⟩
  | .hbm, ⟨25, _⟩ => ⟨S1x256x1024, .f32⟩
  | .hbm, ⟨26, _⟩ => ⟨S1x256x1024, .f32⟩
  | .hbm, ⟨27, _⟩ => ⟨S1x256x1024, .f32⟩
  | .hbm, ⟨28, _⟩ => ⟨S_, .f32⟩
  | .hbm, ⟨29, _⟩ => ⟨S1x256x1024, .f32⟩
  | .hbm, ⟨30, _⟩ => ⟨S1x256x1024, .f32⟩
  | .hbm, ⟨31, _⟩ => ⟨S1x256x1024, .f32⟩
  | .hbm, ⟨32, _⟩ => ⟨S_, .f32⟩
  | .hbm, ⟨33, _⟩ => ⟨S1x256x1024, .f32⟩
  | .hbm, ⟨34, _⟩ => ⟨S1x256x1024, .f32⟩
  | .hbm, ⟨35, _⟩ => ⟨S1x256x1024, .f32⟩
  | .hbm, ⟨36, _⟩ => ⟨S_, .f32⟩
  | .hbm, ⟨37, _⟩ => ⟨S1x256x1024, .f32⟩
  | .hbm, ⟨38, _⟩ => ⟨S1x256x1024, .f32⟩
  | _, _ => ⟨S1x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel34.lean ====
abbrev S1x48x128 : Shape := ⟨3, ![1, 48, 128]⟩
abbrev S48x128 : Shape := ⟨2, ![48, 128]⟩

abbrev nBuf : Space → Nat
  | .hbm => 9
  | .vmem => 9
  | .smem => 0
  | _ => 0

abbrev bufTy : (tb : Table) → Fin (tcTables nBuf tb) → BufTy
  | .hbm, ⟨0, _⟩ => ⟨S1x48x128, .f32⟩
  | .hbm, ⟨1, _⟩ => ⟨S1x48x128, .f32⟩
  | .hbm, ⟨2, _⟩ => ⟨S1x48x128, .f32⟩
  | .hbm, ⟨3, _⟩ => ⟨S1x48x128, .f32⟩
  | .hbm, ⟨4, _⟩ => ⟨S1x48x128, .f32⟩
  | .hbm, ⟨5, _⟩ => ⟨S1x48x128, .f32⟩
  | .hbm, ⟨6, _⟩ => ⟨S1x48x128, .f32⟩
  | .hbm, ⟨7, _⟩ => ⟨S1x48x128, .f32⟩
  | .hbm, ⟨8, _⟩ => ⟨S1x48x128, .f32⟩
  | .local _ .vmem, ⟨0, _⟩ => ⟨S1x48x128, .f32⟩
  | .local _ .vmem, ⟨1, _⟩ => ⟨S1x48x128, .f32⟩
  | .local _ .vmem, ⟨2, _⟩ => ⟨S1x48x128, .f32⟩
  | .local _ .vmem, ⟨3, _⟩ => ⟨S1x48x128, .f32⟩
  | .local _ .vmem, ⟨4, _⟩ => ⟨S1x48x128, .f32⟩
  | .local _ .vmem, ⟨5, _⟩ => ⟨S1x48x128, .f32⟩
  | .local _ .vmem, ⟨6, _⟩ => ⟨S1x48x128, .f32⟩
  | .local _ .vmem, ⟨7, _⟩ => ⟨S1x48x128, .f32⟩
  | .local _ .vmem, ⟨8, _⟩ => ⟨S1x48x128, .f32⟩
  | _, _ => ⟨S1x48x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .sgt arg0 c0_i32_0
  let c0_i32_1 : BitVec 32 := 0#32
  let c0_i32_2 : BitVec 32 := 0#32
  let v2 : BitVec 32 := Scalar.select v1 c0_i32_1 c0_i32_2
  let v3 : BitVec 32 := Scalar.select v0 arg1 v2
  let c0_i32_3 : BitVec 32 := 0#32
  let c0_i32_4 : BitVec 32 := 0#32
  let c0_i32_5 : BitVec 32 := 0#32
  ![c0_i32_3.toNat, v3.toNat, c0_i32_4.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .sgt arg0 c0_i32_0
  let c0_i32_1 : BitVec 32 := 0#32
  let c0_i32_2 : BitVec 32 := 0#32
  let v2 : BitVec 32 := Scalar.select v1 c0_i32_1 c0_i32_2
  let v3 : BitVec 32 := Scalar.select v0 arg1 v2
  let c0_i32_3 : BitVec 32 := 0#32
  let c0_i32_4 : BitVec 32 := 0#32
  let c0_i32_5 : BitVec 32 := 0#32
  ![c0_i32_3.toNat, v3.toNat, c0_i32_4.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x48x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x48x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x48x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x48x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x48x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x48x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x48x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x48x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]

abbrev stage0_8 : Fin 1 → Memref sig .tc .vmem S1x48x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, true]
-- ==== Reference34Ideal.lean ====
abbrev S1x48x128 : Shape := ⟨3, ![1, 48, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1x48x128, .f32⟩
  | .hbm, ⟨1, _⟩ => ⟨S1x48x128, .f32⟩
  | .hbm, ⟨2, _⟩ => ⟨S1x48x128, .f32⟩
  | .hbm, ⟨3, _⟩ => ⟨S1x48x128, .f32⟩
  | .hbm, ⟨4, _⟩ => ⟨S1x48x128, .f32⟩
  | .hbm, ⟨5, _⟩ => ⟨S1x48x128, .f32⟩
  | .hbm, ⟨6, _⟩ => ⟨S_, .f32⟩
  | .hbm, ⟨7, _⟩ => ⟨S1x48x128, .f32⟩
  | .hbm, ⟨8, _⟩ => ⟨S1x48x128, .f32⟩
  | .hbm, ⟨9, _⟩ => ⟨S_, .f32⟩
  | .hbm, ⟨10, _⟩ => ⟨S1x48x128, .f32⟩
  | .hbm, ⟨11, _⟩ => ⟨S1x48x128, .f32⟩
  | .hbm, ⟨12, _⟩ => ⟨S1x48x128, .f32⟩
  | .hbm, ⟨13, _⟩ => ⟨S_, .f32⟩
  | .hbm, ⟨14, _⟩ => ⟨S1x48x128, .f32⟩
  | .hbm, ⟨15, _⟩ => ⟨S1x48x128, .f32⟩
  | .hbm, ⟨16, _⟩ => ⟨S1x48x128, .f32⟩
  | .hbm, ⟨17, _⟩ => ⟨S_, .f32⟩
  | .hbm, ⟨18, _⟩ => ⟨S1x48x128, .f32⟩
  | .hbm, ⟨19, _⟩ => ⟨S1x48x128, .f32⟩
  | .hbm, ⟨20, _⟩ => ⟨S1x48x128, .f32⟩
  | .hbm, ⟨21, _⟩ => ⟨S_, .f32⟩
  | .hbm, ⟨22, _⟩ => ⟨S1x48x128, .f32⟩
  | .hbm, ⟨23, _⟩ => ⟨S1x48x128, .f32⟩
  | .hbm, ⟨24, _⟩ => ⟨S_, .f32⟩
  | .hbm, ⟨25, _⟩ => ⟨S1x48x128, .f32⟩
  | .hbm, ⟨26, _⟩ => ⟨S1x48x128, .f32⟩
  | .hbm, ⟨27, _⟩ => ⟨S1x48x128, .f32⟩
  | .hbm, ⟨28, _⟩ => ⟨S_, .f32⟩
  | .hbm, ⟨29, _⟩ => ⟨S1x48x128, .f32⟩
  | .hbm, ⟨30, _⟩ => ⟨S1x48x128, .f32⟩
  | .hbm, ⟨31, _⟩ => ⟨S1x48x128, .f32⟩
  | .hbm, ⟨32, _⟩ => ⟨S_, .f32⟩
  | .hbm, ⟨33, _⟩ => ⟨S1x48x128, .f32⟩
  | .hbm, ⟨34, _⟩ => ⟨S1x48x128, .f32⟩
  | .hbm, ⟨35, _⟩ => ⟨S1x48x128, .f32⟩
  | .hbm, ⟨36, _⟩ => ⟨S_, .f32⟩
  | .hbm, ⟨37, _⟩ => ⟨S1x48x128, .f32⟩
  | .hbm, ⟨38, _⟩ => ⟨S1x48x128, .f32⟩
  | _, _ => ⟨S1x48x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Proof.Spec.lean ====
/-
  The mathematics of one feed-forward block, one token at a time, on extended reals: the RMS norm of a row, the gate
  and up projections, the gated product and the down projection. The kernel programs and the reference programs
  are both read down to these functions.
-/
module

public import Idealize.ShloMosaic.PureOps.Ideal.Laws
public import Idealize.ShloMosaic.Lib.Pointwise
public import Idealize.ShloMosaic.Lib.Pipeline.ValueKit

@[expose] public section

noncomputable section

namespace Cert.Spec

open Idealize.ShloMosaic

/-- A literal of the programs, as the extended real it denotes. -/
abbrev lit (b : BitVec 32) : EReal := Ideal.ofBits .f32 b

/-- The reciprocal root mean square of a row. -/
def scale (x : Fin 1024 → EReal) : EReal :=
  Ideal.rsqrt (Ideal.div (∑ k, x k * x k) (lit 0x44800000#32) + lit 0x358637BD#32)

/-- The normalised row: the row times its scale times the gain. -/
def rms (x g : Fin 1024 → EReal) (k : Fin 1024) : EReal := x k * scale x * g k

/-- One column of a projection of the normalised row. -/
def proj (x g w : Fin 1024 → EReal) : EReal := ∑ k, rms x g k * w k

/-- The logistic function. -/
def sigm (y : EReal) : EReal := Ideal.div 1 (1 + Ideal.exp (-y))

/-- The gated product of a gate and an up value. -/
def gated (a b : EReal) : EReal := a * sigm a * b

/-! ## The block's arrays -/

abbrev SX : Shape := ⟨2, ![8192, 1024]⟩
abbrev SG : Shape := ⟨2, ![1, 1024]⟩
abbrev SWU : Shape := ⟨3, ![1, 1024, 5632]⟩
abbrev SWD : Shape := ⟨3, ![1, 2816, 1024]⟩
abbrev SF : Shape := ⟨2, ![8192, 2816]⟩

/-- Token `i`'s row of the hidden states. -/
abbrev row (h : SX.Idx → EReal) (i : Fin 8192) (k : Fin 1024) : EReal := h (ix2 i k)
/-- The gain as a row. -/
abbrev gain (g : SG.Idx → EReal) (k : Fin 1024) : EReal := g (ix2 0 k)

/-- The normalised hidden states. -/
def normed (h : SX.Idx → EReal) (g : SG.Idx → EReal) (i : SX.Idx) : EReal := rms (row h (i 0)) (gain g) (i 1)
/-- The gate projection, columns 0 to 2815 of the up-projection's weights, at token `t` and column `j`. -/
def gateAt (h : SX.Idx → EReal) (g : SG.Idx → EReal) (w : SWU.Idx → EReal) (t : Fin 8192) (j : Fin 2816) : EReal :=
  proj (row h t) (gain g) (fun k => w (ix3 0 k ⟨j.val, by omega⟩))
/-- The up projection, columns 2816 to 5631, at token `t` and column `j`. -/
def upAt (h : SX.Idx → EReal) (g : SG.Idx → EReal) (w : SWU.Idx → EReal) (t : Fin 8192) (j : Fin 2816) : EReal :=
  proj (row h t) (gain g) (fun k => w (ix3 0 k ⟨2816 + j.val, by omega⟩))
/-- The gated product at token `t` and column `j`. -/
def actAt (h : SX.Idx → EReal) (g : SG.Idx → EReal) (w : SWU.Idx → EReal) (t : Fin 8192) (j : Fin 2816) : EReal :=
  gated (gateAt h g w t j) (upAt h g w t j)
/-- The block's result: the hidden states plus half the down projection of the gated product. -/
def outAt (h : SX.Idx → EReal) (g : SG.Idx → EReal) (w : SWU.Idx → EReal) (wd : SWD.Idx → EReal)
    (t : Fin 8192) (k : Fin 1024) : EReal :=
  h (ix2 t k) + lit 0x3F000000#32 * ∑ j, actAt h g w t j * wd (ix3 0 j k)

theorem lit_zero : lit 0x00000000#32 = 0 := by
  simp [lit, Ideal.ofBits, Ideal.ieee]

/-- A sum over 2816 columns is the sum over the first 1408 and the second 1408. -/
theorem sum_halves (f : Fin 2816 → EReal) :
    ∑ j : Fin 2816, f j = (∑ j : Fin 1408, f ⟨j.val, by omega⟩) + ∑ j : Fin 1408, f ⟨1408 + j.val, by omega⟩ := by
  have h := Fin.sum_univ_add (M := EReal) (a := 1408) (b := 1408) f
  exact h

/-- The literal one half. -/
theorem lit_half : lit 0x3F000000#32 = ((1 / 2 : ℝ) : EReal) := by
  simp [lit, Ideal.ofBits, Ideal.ieee, -EReal.coe_mul]; norm_num

/-- Multiplying a sum by one half multiplies every term by one half, whatever the terms. -/
theorem sum_half {n : ℕ} (a d : Fin n → EReal) :
    (∑ t, a t * d t) * lit 0x3F000000#32 = ∑ t, lit 0x3F000000#32 * d t * a t := by
  have h0 : (0 : EReal) ≤ lit 0x3F000000#32 := by
    rw [lit_half]; exact_mod_cast (by norm_num : (0 : ℝ) ≤ 1 / 2)
  have h1 : lit 0x3F000000#32 ≠ ⊤ := by
    rw [lit_half]; exact EReal.coe_ne_top _
  have key : ∀ s : Finset (Fin n), (∑ t ∈ s, a t * d t) * lit 0x3F000000#32 = ∑ t ∈ s, lit 0x3F000000#32 * d t * a t := by
    intro s
    induction s using Finset.induction_on with
    | empty => simp
    | insert t s ht ih =>
      rw [Finset.sum_insert ht, Finset.sum_insert ht, EReal.right_distrib_of_nonneg_of_ne_top h0 h1, ih]
      congr 1
      rw [mul_comm (a t) (d t), mul_assoc, mul_comm, mul_comm (a t), mul_assoc, mul_assoc, mul_comm (a t)]
  exact key Finset.univ

/-! ## The weight gradient of the down projection -/

/-- The gradient of the down projection's weights at column `j` of the gated product and column `k` of the output:
half the sum over the tokens of the gated product times the cotangent. -/
def wdownAt (ga up : SF.Idx → EReal) (dh : SX.Idx → EReal) (j : Fin 2816) (k : Fin 1024) : EReal :=
  (∑ t : Fin 8192, gated (ga (ix2 t j)) (up (ix2 t j)) * dh (ix2 t k)) * lit 0x3F000000#32

/-! ## The weight gradients of the gate and up projections -/

/-- The gradient of a projection's weights at column `k` of the normalised hidden states and column `j` of the
projection: the sum over the tokens of the normalised value times the cotangent. -/
def wprojAt (h : SX.Idx → EReal) (g : SG.Idx → EReal) (d : SF.Idx → EReal) (k : Fin 1024) (j : Fin 2816) : EReal :=
  ∑ t : Fin 8192, normed h g (ix2 t k) * d (ix2 t j)

end Cert.Spec

end
-- ==== Proof.FwdRef.lean ====
/-
  What the forward reference computes, line by line, as the functions of `Spec`.
-/
module

public import proofs.«01_k».proof.Proof.Gen.Reference2Ideal.Read
public import proofs.«01_k».proof.Proof.Spec

@[expose] public section

set_option maxRecDepth 16384

noncomputable section

open Idealize.ShloMosaic Idealize.ShloMosaic.TcCoe Idealize.SL.Sem

namespace Cert.Reference2Ideal.Fwd

open Cert.Reference2Ideal Cert.Reference2Ideal.Gen Cert.Reference2Ideal.Read Cert.Spec

theorem v11_eq (x0 : FVec Ideal S8192x1024 .f32) (x1 : FVec Ideal S1x1024 .f32) :
    val_main_v11 (F := Ideal) x0 x1 = normed x0 x1 := by
  funext i
  pointwise [val_main_v11, val_main_v10, val_main_v9, val_main_v8, val_main_v7, val_main_v6, val_main_v5, val_main_cst_1,
    val_main_v4, val_main_v3, val_main_cst_0, val_main_v2, val_main_v1, val_main_cst, val_main_v0, normed, rms, scale, row, gain]

theorem v15_eq (x0 : FVec Ideal S8192x1024 .f32) (x1 : FVec Ideal S1x1024 .f32) (x2 : FVec Ideal S1x1024x5632 .bf16) :
    val_main_v15 (F := Ideal) x0 x1 x2 = fun i => gateAt x0 x1 x2 (i 0) (i 1) := by
  funext i
  pointwise [val_main_v15, val_main_v14, v11_eq, val_main_v13, val_main_v12, gateAt, proj, normed]

theorem v16_eq (x0 : FVec Ideal S8192x1024 .f32) (x1 : FVec Ideal S1x1024 .f32) (x2 : FVec Ideal S1x1024x5632 .bf16) :
    val_main_v16 (F := Ideal) x0 x1 x2 = fun i => upAt x0 x1 x2 (i 0) (i 1) := by
  funext i
  pointwise [val_main_v16, val_main_v14, v11_eq, val_main_v13, val_main_v12, upAt, proj, normed]

theorem v18_eq (x0 : FVec Ideal S8192x1024 .f32) (x1 : FVec Ideal S1x1024 .f32) (x2 : FVec Ideal S1x1024x5632 .bf16) :
    val_main_v18 (F := Ideal) x0 x1 x2 = fun i => actAt x0 x1 x2 (i 0) (i 1) := by
  funext i
  pointwise [val_main_v18, val_main_v17, val_main_call0_v5, val_main_call0_v4, val_main_call0_cst_0, val_main_call0_v3,
    val_main_call0_v2, val_main_call0_cst, val_main_call0_v1, val_main_call0_v0, v15_eq, v16_eq, actAt, gated, sigm]

theorem v24_eq (x0 : FVec Ideal S8192x1024 .f32) (x1 : FVec Ideal S1x1024 .f32) (x2 : FVec Ideal S1x1024x5632 .bf16)
    (x3 : FVec Ideal S1x2816x1024 .bf16) :
    val_main_v24 (F := Ideal) x0 x1 x2 x3 = fun i => outAt x0 x1 x2 x3 (i 0) (i 1) := by
  funext i
  pointwise [val_main_v24, val_main_v23, val_main_v22, val_main_cst_2, val_main_v21, val_main_v20, val_main_v19, v18_eq, outAt]

end Cert.Reference2Ideal.Fwd

end
-- ==== Proof.BwdSpec.lean ====
/-
  The backward pass of one feed-forward block, one token at a time, on extended reals: the gradients of the gated
  product, of the gate and up projections, of the normalised row, of the row and of the gain. The kernel's forms and the
  forms that differentiating the forward lines gives are both here, and `BwdReal` compares them.
-/
module

public import proofs.«01_k».proof.Proof.Spec

@[expose] public section

noncomputable section

namespace Cert.Spec

open Idealize.ShloMosaic

/-- The gradient of the gated product at column `j`: half the cotangent's row times a row of the down projection. -/
def actGrad (d : Fin 1024 → EReal) (w : Fin 1024 → EReal) : EReal := ∑ k, lit 0x3F000000#32 * d k * w k

/-- The gate's gradient as the kernel multiplies it. -/
def gateK (da up ga : EReal) : EReal := da * up * sigm ga * (1 + ga * (1 - sigm ga))
/-- The up projection's gradient as the kernel multiplies it. -/
def upK (da ga : EReal) : EReal := da * ga * sigm ga
/-- The gate's gradient as the derivative of `x * sigm x` by its two factors. -/
def gateR (da up ga : EReal) : EReal := da * up * sigm ga + ga * (da * up) * (sigm ga * (1 - sigm ga))
/-- The up projection's gradient, the activated gate first. -/
def upR (da ga : EReal) : EReal := ga * sigm ga * da

/-- The gradient of the normalised row at one column: the gate's and the up projection's gradients times that column's
weights. -/
def normGrad (dga dup wga wup : Fin 2816 → EReal) : EReal := (∑ j, dga j * wga j) + ∑ j, dup j * wup j

/-- The row's gradient as the kernel computes it. -/
def rowK (dh x g du : Fin 1024 → EReal) (k : Fin 1024) : EReal :=
  dh k + scale x * (du k * g k - x k * scale x * Ideal.div (∑ l, du l * g l * (x l * scale x)) (lit 0x44800000#32))
/-- The mean square of a row, with the small constant that keeps it from zero. -/
def meanSq (x : Fin 1024 → EReal) : EReal := Ideal.div (∑ k, x k * x k) (lit 0x44800000#32) + lit 0x358637BD#32
/-- The row's gradient through its scale, per unit of the row. -/
def rowCoef (x g du : Fin 1024 → EReal) : EReal :=
  Ideal.div ((∑ l, x l * (du l * g l)) * (lit 0xBF000000#32 * Ideal.div (scale x) (meanSq x))) (lit 0x44800000#32)
/-- The row's gradient as the derivative of the norm by its two uses of the row. -/
def rowR (dh x g du : Fin 1024 → EReal) (k : Fin 1024) : EReal :=
  dh k + du k * g k * scale x + x k * rowCoef x g du + rowCoef x g du * x k

/-! ## The block's arrays -/

section Arrays

variable (h : SX.Idx → EReal) (g : SG.Idx → EReal) (w : SWU.Idx → EReal) (wd : SWD.Idx → EReal) (dh : SX.Idx → EReal)

/-- The gradient of the gated product at token `t` and column `j`. -/
def actGradAt (t : Fin 8192) (j : Fin 2816) : EReal := actGrad (row dh t) (fun k => wd (ix3 0 j k))

def gateKAt (t : Fin 8192) (j : Fin 2816) : EReal := gateK (actGradAt wd dh t j) (upAt h g w t j) (gateAt h g w t j)
def upKAt (t : Fin 8192) (j : Fin 2816) : EReal := upK (actGradAt wd dh t j) (gateAt h g w t j)
def gateRAt (t : Fin 8192) (j : Fin 2816) : EReal := gateR (actGradAt wd dh t j) (upAt h g w t j) (gateAt h g w t j)
def upRAt (t : Fin 8192) (j : Fin 2816) : EReal := upR (actGradAt wd dh t j) (gateAt h g w t j)

/-- The gradient of the normalised row from the gate's and the up projection's gradients. -/
def normGradAt (dga dup : Fin 2816 → EReal) (k : Fin 1024) : EReal :=
  normGrad dga dup (fun j => w (ix3 0 k ⟨j.val, by omega⟩)) (fun j => w (ix3 0 k ⟨2816 + j.val, by omega⟩))

def duKAt (t : Fin 8192) (k : Fin 1024) : EReal := normGradAt w (gateKAt h g w wd dh t) (upKAt h g w wd dh t) k
def duRAt (t : Fin 8192) (k : Fin 1024) : EReal := normGradAt w (gateRAt h g w wd dh t) (upRAt h g w wd dh t) k

def rowKAt (t : Fin 8192) (k : Fin 1024) : EReal := rowK (row dh t) (row h t) (gain g) (duKAt h g w wd dh t) k
def rowRAt (t : Fin 8192) (k : Fin 1024) : EReal := rowR (row dh t) (row h t) (gain g) (duRAt h g w wd dh t) k

/-- One token's share of the gain's gradient, as the kernel multiplies it. -/
def gainKAt (t : Fin 8192) (k : Fin 1024) : EReal := duKAt h g w wd dh t k * (h (ix2 t k) * scale (row h t))
def gainRAt (t : Fin 8192) (k : Fin 1024) : EReal := h (ix2 t k) * scale (row h t) * duRAt h g w wd dh t k

end Arrays

/-- A sum over 2816 columns is the sum over pieces of 768, 768, 768 and 512. -/
theorem sum_pieces (f : Fin 2816 → EReal) :
    ∑ j : Fin 2816, f j = ((∑ j : Fin 768, f ⟨j.val, by omega⟩) + (∑ j : Fin 768, f ⟨768 + j.val, by omega⟩))
      + (∑ j : Fin 768, f ⟨1536 + j.val, by omega⟩) + ∑ j : Fin 512, f ⟨2304 + j.val, by omega⟩ := by
  have h1 := Fin.sum_univ_add (M := EReal) (a := 2304) (b := 512) f
  have h2 := Fin.sum_univ_add (M := EReal) (a := 1536) (b := 768) (fun j => f (Fin.castAdd 512 j))
  have h3 := Fin.sum_univ_add (M := EReal) (a := 768) (b := 768) (fun j => f (Fin.castAdd 512 (Fin.castAdd 768 j)))
  exact h1.trans (congrArg (· + _) (h2.trans (congrArg (· + _) h3)))

end Cert.Spec

end
-- ==== Proof.BwdPay.lean ====
/-
  What the backward kernel leaves in its arrays: the gradients of gate and up, block by block, the row's gradient, and
  the gain's gradient summed over the blocks.
-/
module

public import proofs.«01_k».proof.Proof.Gen.KernelIdeal.Value
public import proofs.«01_k».proof.Proof.FwdRef
public import proofs.«01_k».proof.Proof.BwdSpec
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.KernelIdeal.Bwd

open Cert.KernelIdeal Cert.KernelIdeal.Gen Cert.Spec

variable (m : (ℓ : Loc nD τ sig) → Buf (Elt Ideal) ℓ)

theorem idx : ∀ t : Fin cfg0.N, win0_0.index t = ![t.val, 0] ∧ win0_1.index t = ![t.val, 0] ∧ win0_2.index t = ![0, 0]
    ∧ win0_3.index t = ![t.val, 0] ∧ win0_4.index t = ![t.val, 0] ∧ win0_5.index t = ![0, 0, 0] ∧ win0_6.index t = ![0, 0, 0]
    ∧ win0_7.index t = ![t.val, 0] ∧ win0_8.index t = ![0, 0] ∧ win0_9.index t = ![t.val, 0] ∧ win0_10.index t = ![t.val, 0] :=
  (by decide +kernel : ∀ t : Fin grid0.N, _)

/-- The saved gate, which the host computes. -/
theorem V_gate (c : Dev nD) : V m c main_v17 = fun i => gateAt (m ((c : Thread nD τ).loc main_arg0))
    (m ((c : Thread nD τ).loc main_arg1)) (m ((c : Thread nD τ).loc main_arg2)) (i 0) (i 1) := by
  unfold V hostOps0
  after_results
  exact Cert.Reference2Ideal.Fwd.v15_eq (m ((c : Thread nD τ).loc main_arg0)) (m ((c : Thread nD τ).loc main_arg1))
    (m ((c : Thread nD τ).loc main_arg2))

/-- The saved up projection, which the host computes. -/
theorem V_up (c : Dev nD) : V m c main_v18 = fun i => upAt (m ((c : Thread nD τ).loc main_arg0))
    (m ((c : Thread nD τ).loc main_arg1)) (m ((c : Thread nD τ).loc main_arg2)) (i 0) (i 1) := by
  unfold V hostOps0
  after_results
  exact Cert.Reference2Ideal.Fwd.v16_eq (m ((c : Thread nD τ).loc main_arg0)) (m ((c : Thread nD τ).loc main_arg1))
    (m ((c : Thread nD τ).loc main_arg2))

theorem iblk_gate (c : Dev nD) (t : Fin cfg0.N) (x : S256x2816.Idx) : iblk m c 3 t x
    = gateAt (m ((c : Thread nD τ).loc main_arg0)) (m ((c : Thread nD τ).loc main_arg1)) (m ((c : Thread nD τ).loc main_arg2))
        ((win0_3.blk t).view.emb x 0) ((win0_3.blk t).view.emb x 1) := by
  show V m c main_v17 ((win0_3.blk t).view.emb x) = _
  rw [V_gate]

theorem iblk_up (c : Dev nD) (t : Fin cfg0.N) (x : S256x2816.Idx) : iblk m c 4 t x
    = upAt (m ((c : Thread nD τ).loc main_arg0)) (m ((c : Thread nD τ).loc main_arg1)) (m ((c : Thread nD τ).loc main_arg2))
        ((win0_4.blk t).view.emb x 0) ((win0_4.blk t).view.emb x 1) := by
  show V m c main_v18 ((win0_4.blk t).view.emb x) = _
  rw [V_up]

/-! ## One block of 256 tokens -/

section Block

variable (x0 : Vec Ideal S256x1024 .f32) (x1 : Vec Ideal S256x1024 .f32) (x2 : Vec Ideal S1x1024 .f32)
  (x3 : Vec Ideal S256x2816 .bf16) (x4 : Vec Ideal S256x2816 .bf16) (x5 : Vec Ideal S1x1024x5632 .bf16)
  (x6 : Vec Ideal S1x2816x1024 .bf16)

/-- The gate's gradient in a block, from the block's cotangent, gate and up projection. -/
def gateB (a : Fin 256) (j : Fin 2816) : EReal :=
  gateK (actGrad (fun k => x0 (ix2 a k)) (fun k => x6 (ix3 0 j k))) (x4 (ix2 a j)) (x3 (ix2 a j))
/-- The up projection's gradient in a block. -/
def upB (a : Fin 256) (j : Fin 2816) : EReal :=
  upK (actGrad (fun k => x0 (ix2 a k)) (fun k => x6 (ix3 0 j k))) (x3 (ix2 a j))

theorem gate_pieces (y : S256x2816.Idx) : View.canon (Val := Elt Ideal) (e := .bf16)
    [⟨Rect.unit ![0, 2304] ![256, 512] inb_S256x2816_S256x512_0_2304, k0_pay25 (k0_pay3 x0)
        (View.ld x6 (Rect.unit ![0, 2304, 0] ![1, 512, 1024] inb_S1x2816x1024_S1x512x1024_0_2304_0))
        (View.ld x3 (Rect.unit ![0, 2304] ![256, 512] inb_S256x2816_S256x512_0_2304))
        (View.ld x4 (Rect.unit ![0, 2304] ![256, 512] inb_S256x2816_S256x512_0_2304))⟩,
      ⟨Rect.unit ![0, 1536] ![256, 768] inb_S256x2816_S256x768_0_1536, k0_pay19 (k0_pay3 x0)
        (View.ld x6 (Rect.unit ![0, 1536, 0] ![1, 768, 1024] inb_S1x2816x1024_S1x768x1024_0_1536_0))
        (View.ld x3 (Rect.unit ![0, 1536] ![256, 768] inb_S256x2816_S256x768_0_1536))
        (View.ld x4 (Rect.unit ![0, 1536] ![256, 768] inb_S256x2816_S256x768_0_1536))⟩,
      ⟨Rect.unit ![0, 768] ![256, 768] inb_S256x2816_S256x768_0_768, k0_pay13 (k0_pay3 x0)
        (View.ld x6 (Rect.unit ![0, 768, 0] ![1, 768, 1024] inb_S1x2816x1024_S1x768x1024_0_768_0))
        (View.ld x3 (Rect.unit ![0, 768] ![256, 768] inb_S256x2816_S256x768_0_768))
        (View.ld x4 (Rect.unit ![0, 768] ![256, 768] inb_S256x2816_S256x768_0_768))⟩,
      ⟨Rect.unit ![0, 0] ![256, 768] inb_S256x2816_S256x768_0_0, k0_pay7 x0
        (View.ld x6 (Rect.unit ![0, 0, 0] ![1, 768, 1024] inb_S1x2816x1024_S1x768x1024_0_0_0))
        (View.ld x3 (Rect.unit ![0, 0] ![256, 768] inb_S256x2816_S256x768_0_0))
        (View.ld x4 (Rect.unit ![0, 0] ![256, 768] inb_S256x2816_S256x768_0_0))⟩] y
    = gateB x0 x3 x4 x6 (y 0) (y 1) := by
  canon_tiles x h using (View.cover_of_tiledBy _ ![256, 256] (by sl_kernel_rfl) y)
  all_goals
    rw [show y 0 = x 0 from Fin.ext h0, (Fin.eq_mk_iff_val_eq (hk := by rw [← h1]; exact (y 1).isLt)).mpr h1]
    pointwise [zero_sub, k0_pay25, k0_pay24, k0_pay23, k0_pay22, k0_pay19, k0_pay18, k0_pay17, k0_pay16, k0_pay13, k0_pay12,
      k0_pay11, k0_pay10, k0_pay7, k0_pay6, k0_pay5, k0_pay4, k0_pay3, gateB, gateK, actGrad, sigm]

theorem up_pieces (y : S256x2816.Idx) : View.canon (Val := Elt Ideal) (e := .bf16)
    [⟨Rect.unit ![0, 2304] ![256, 512] inb_S256x2816_S256x512_0_2304, k0_pay26 (k0_pay22 (k0_pay3 x0) (View.ld x6 (Rect.unit ![0, 2304, 0] ![1, 512, 1024] inb_S1x2816x1024_S1x512x1024_0_2304_0))) (k0_pay23 (View.ld x3 (Rect.unit ![0, 2304] ![256, 512] inb_S256x2816_S256x512_0_2304))) (k0_pay24 (View.ld x3 (Rect.unit ![0, 2304] ![256, 512] inb_S256x2816_S256x512_0_2304)))⟩,
      ⟨Rect.unit ![0, 1536] ![256, 768] inb_S256x2816_S256x768_0_1536, k0_pay20 (k0_pay3 x0) (View.ld x6 (Rect.unit ![0, 1536, 0] ![1, 768, 1024] inb_S1x2816x1024_S1x768x1024_0_1536_0)) (View.ld x3 (Rect.unit ![0, 1536] ![256, 768] inb_S256x2816_S256x768_0_1536))⟩,
      ⟨Rect.unit ![0, 768] ![256, 768] inb_S256x2816_S256x768_0_768, k0_pay14 (k0_pay3 x0) (View.ld x6 (Rect.unit ![0, 768, 0] ![1, 768, 1024] inb_S1x2816x1024_S1x768x1024_0_768_0)) (View.ld x3 (Rect.unit ![0, 768] ![256, 768] inb_S256x2816_S256x768_0_768))⟩,
      ⟨Rect.unit ![0, 0] ![256, 768] inb_S256x2816_S256x768_0_0, k0_pay8 x0 (View.ld x6 (Rect.unit ![0, 0, 0] ![1, 768, 1024] inb_S1x2816x1024_S1x768x1024_0_0_0)) (View.ld x3 (Rect.unit ![0, 0] ![256, 768] inb_S256x2816_S256x768_0_0))⟩] y
    = upB x0 x3 x6 (y 0) (y 1) := by
  canon_tiles x h using (View.cover_of_tiledBy _ ![256, 256] (by sl_kernel_rfl) y)
  all_goals
    rw [show y 0 = x 0 from Fin.ext h0, (Fin.eq_mk_iff_val_eq (hk := by rw [← h1]; exact (y 1).isLt)).mpr h1]
    pointwise [zero_sub, k0_pay26, k0_pay24, k0_pay23, k0_pay22, k0_pay20, k0_pay18, k0_pay17, k0_pay16, k0_pay14, k0_pay12,
      k0_pay11, k0_pay10, k0_pay8, k0_pay6, k0_pay5, k0_pay4, k0_pay3, upB, upK, actGrad, sigm]

/-- The gradient of the normalised row in a block. -/
def duB (a : Fin 256) (k : Fin 1024) : EReal :=
  normGrad (gateB x0 x3 x4 x6 a) (upB x0 x3 x6 a) (fun j => x5 (ix3 0 k ⟨j.val, by omega⟩))
    (fun j => x5 (ix3 0 k ⟨2816 + j.val, by omega⟩))

theorem du_first (i : S256x1024.Idx) : k0_pay9 (k0_pay7 x0 (View.ld x6 (Rect.unit ![0, 0, 0] ![1, 768, 1024] inb_S1x2816x1024_S1x768x1024_0_0_0)) (View.ld x3 (Rect.unit ![0, 0] ![256, 768] inb_S256x2816_S256x768_0_0)) (View.ld x4 (Rect.unit ![0, 0] ![256, 768] inb_S256x2816_S256x768_0_0))) (k0_pay8 x0 (View.ld x6 (Rect.unit ![0, 0, 0] ![1, 768, 1024] inb_S1x2816x1024_S1x768x1024_0_0_0)) (View.ld x3 (Rect.unit ![0, 0] ![256, 768] inb_S256x2816_S256x768_0_0)))
      (View.ld x5 (Rect.unit ![0, 0, 0] ![1, 1024, 768] inb_S1x1024x5632_S1x1024x768_0_0_0)) (View.ld x5 (Rect.unit ![0, 0, 2816] ![1, 1024, 768] inb_S1x1024x5632_S1x1024x768_0_0_2816)) i
    = (∑ j : Fin 768, gateB x0 x3 x4 x6 (i 0) ⟨j.val, by omega⟩ * x5 (ix3 0 (i 1) ⟨j.val, by omega⟩))
      + ∑ j : Fin 768, upB x0 x3 x6 (i 0) ⟨j.val, by omega⟩ * x5 (ix3 0 (i 1) ⟨2816 + j.val, by omega⟩) := by
  pointwise [zero_sub, k0_pay27, k0_pay26, k0_pay25, k0_pay24, k0_pay23, k0_pay22, k0_pay21, k0_pay20, k0_pay19, k0_pay18, k0_pay17, k0_pay16, k0_pay15, k0_pay14, k0_pay13,
    k0_pay12, k0_pay11, k0_pay10, k0_pay9, k0_pay8, k0_pay7, k0_pay6, k0_pay5, k0_pay4, k0_pay3, gateB, gateK, upB, upK, actGrad, sigm]

theorem du_second (v : FVec Ideal S256x1024 .f32) (i : S256x1024.Idx) : k0_pay15 v
      (k0_pay13 (k0_pay3 x0) (View.ld x6 (Rect.unit ![0, 768, 0] ![1, 768, 1024] inb_S1x2816x1024_S1x768x1024_0_768_0)) (View.ld x3 (Rect.unit ![0, 768] ![256, 768] inb_S256x2816_S256x768_0_768)) (View.ld x4 (Rect.unit ![0, 768] ![256, 768] inb_S256x2816_S256x768_0_768)))
      (k0_pay14 (k0_pay3 x0) (View.ld x6 (Rect.unit ![0, 768, 0] ![1, 768, 1024] inb_S1x2816x1024_S1x768x1024_0_768_0)) (View.ld x3 (Rect.unit ![0, 768] ![256, 768] inb_S256x2816_S256x768_0_768)))
      (View.ld x5 (Rect.unit ![0, 0, 768] ![1, 1024, 768] inb_S1x1024x5632_S1x1024x768_0_0_768)) (View.ld x5 (Rect.unit ![0, 0, 3584] ![1, 1024, 768] inb_S1x1024x5632_S1x1024x768_0_0_3584)) i
    = v i + ((∑ j : Fin 768, gateB x0 x3 x4 x6 (i 0) ⟨768 + j.val, by omega⟩ * x5 (ix3 0 (i 1) ⟨768 + j.val, by omega⟩))
      + ∑ j : Fin 768, upB x0 x3 x6 (i 0) ⟨768 + j.val, by omega⟩ * x5 (ix3 0 (i 1) ⟨3584 + j.val, by omega⟩)) := by
  pointwise [zero_sub, k0_pay27, k0_pay26, k0_pay25, k0_pay24, k0_pay23, k0_pay22, k0_pay21, k0_pay20, k0_pay19, k0_pay18, k0_pay17, k0_pay16, k0_pay15, k0_pay14, k0_pay13,
    k0_pay12, k0_pay11, k0_pay10, k0_pay9, k0_pay8, k0_pay7, k0_pay6, k0_pay5, k0_pay4, k0_pay3, gateB, gateK, upB, upK, actGrad, sigm]

theorem du_third (v : FVec Ideal S256x1024 .f32) (i : S256x1024.Idx) : k0_pay21 v
      (k0_pay19 (k0_pay3 x0) (View.ld x6 (Rect.unit ![0, 1536, 0] ![1, 768, 1024] inb_S1x2816x1024_S1x768x1024_0_1536_0)) (View.ld x3 (Rect.unit ![0, 1536] ![256, 768] inb_S256x2816_S256x768_0_1536)) (View.ld x4 (Rect.unit ![0, 1536] ![256, 768] inb_S256x2816_S256x768_0_1536)))
      (k0_pay20 (k0_pay3 x0) (View.ld x6 (Rect.unit ![0, 1536, 0] ![1, 768, 1024] inb_S1x2816x1024_S1x768x1024_0_1536_0)) (View.ld x3 (Rect.unit ![0, 1536] ![256, 768] inb_S256x2816_S256x768_0_1536)))
      (View.ld x5 (Rect.unit ![0, 0, 1536] ![1, 1024, 768] inb_S1x1024x5632_S1x1024x768_0_0_1536)) (View.ld x5 (Rect.unit ![0, 0, 4352] ![1, 1024, 768] inb_S1x1024x5632_S1x1024x768_0_0_4352)) i
    = v i + ((∑ j : Fin 768, gateB x0 x3 x4 x6 (i 0) ⟨1536 + j.val, by omega⟩ * x5 (ix3 0 (i 1) ⟨1536 + j.val, by omega⟩))
      + ∑ j : Fin 768, upB x0 x3 x6 (i 0) ⟨1536 + j.val, by omega⟩ * x5 (ix3 0 (i 1) ⟨4352 + j.val, by omega⟩)) := by
  pointwise [zero_sub, k0_pay27, k0_pay26, k0_pay25, k0_pay24, k0_pay23, k0_pay22, k0_pay21, k0_pay20, k0_pay19, k0_pay18, k0_pay17, k0_pay16, k0_pay15, k0_pay14, k0_pay13,
    k0_pay12, k0_pay11, k0_pay10, k0_pay9, k0_pay8, k0_pay7, k0_pay6, k0_pay5, k0_pay4, k0_pay3, gateB, gateK, upB, upK, actGrad, sigm]

theorem du_fourth (v : FVec Ideal S256x1024 .f32) (i : S256x1024.Idx) : k0_pay27 v
      (k0_pay22 (k0_pay3 x0) (View.ld x6 (Rect.unit ![0, 2304, 0] ![1, 512, 1024] inb_S1x2816x1024_S1x512x1024_0_2304_0)))
      (k0_pay23 (View.ld x3 (Rect.unit ![0, 2304] ![256, 512] inb_S256x2816_S256x512_0_2304))) (k0_pay24 (View.ld x3 (Rect.unit ![0, 2304] ![256, 512] inb_S256x2816_S256x512_0_2304)))
      (k0_pay25 (k0_pay3 x0) (View.ld x6 (Rect.unit ![0, 2304, 0] ![1, 512, 1024] inb_S1x2816x1024_S1x512x1024_0_2304_0)) (View.ld x3 (Rect.unit ![0, 2304] ![256, 512] inb_S256x2816_S256x512_0_2304)) (View.ld x4 (Rect.unit ![0, 2304] ![256, 512] inb_S256x2816_S256x512_0_2304)))
      (View.ld x5 (Rect.unit ![0, 0, 2304] ![1, 1024, 512] inb_S1x1024x5632_S1x1024x512_0_0_2304)) (View.ld x5 (Rect.unit ![0, 0, 5120] ![1, 1024, 512] inb_S1x1024x5632_S1x1024x512_0_0_5120)) i
    = v i + ((∑ j : Fin 512, gateB x0 x3 x4 x6 (i 0) ⟨2304 + j.val, by omega⟩ * x5 (ix3 0 (i 1) ⟨2304 + j.val, by omega⟩))
      + ∑ j : Fin 512, upB x0 x3 x6 (i 0) ⟨2304 + j.val, by omega⟩ * x5 (ix3 0 (i 1) ⟨5120 + j.val, by omega⟩)) := by
  pointwise [zero_sub, k0_pay27, k0_pay26, k0_pay25, k0_pay24, k0_pay23, k0_pay22, k0_pay21, k0_pay20, k0_pay19, k0_pay18, k0_pay17, k0_pay16, k0_pay15, k0_pay14, k0_pay13,
    k0_pay12, k0_pay11, k0_pay10, k0_pay9, k0_pay8, k0_pay7, k0_pay6, k0_pay5, k0_pay4, k0_pay3, gateB, gateK, upB, upK, actGrad, sigm]

theorem regroup (a b c d a' b' c' d' : EReal) : a + a' + (b + b') + (c + c') + (d + d')
    = (a + b + c + d) + (a' + b' + c' + d') := by abel

theorem du_eq (i : S256x1024.Idx) : k0_pay27 (k0_pay21 (k0_pay15 (k0_pay9 (k0_pay7 x0 (View.ld x6 (Rect.unit ![0, 0, 0] ![1, 768, 1024] inb_S1x2816x1024_S1x768x1024_0_0_0)) (View.ld x3 (Rect.unit ![0, 0] ![256, 768] inb_S256x2816_S256x768_0_0)) (View.ld x4 (Rect.unit ![0, 0] ![256, 768] inb_S256x2816_S256x768_0_0))) (k0_pay8 x0 (View.ld x6 (Rect.unit ![0, 0, 0] ![1, 768, 1024] inb_S1x2816x1024_S1x768x1024_0_0_0)) (View.ld x3 (Rect.unit ![0, 0] ![256, 768] inb_S256x2816_S256x768_0_0)))
      (View.ld x5 (Rect.unit ![0, 0, 0] ![1, 1024, 768] inb_S1x1024x5632_S1x1024x768_0_0_0)) (View.ld x5 (Rect.unit ![0, 0, 2816] ![1, 1024, 768] inb_S1x1024x5632_S1x1024x768_0_0_2816)))
      (k0_pay13 (k0_pay3 x0) (View.ld x6 (Rect.unit ![0, 768, 0] ![1, 768, 1024] inb_S1x2816x1024_S1x768x1024_0_768_0)) (View.ld x3 (Rect.unit ![0, 768] ![256, 768] inb_S256x2816_S256x768_0_768)) (View.ld x4 (Rect.unit ![0, 768] ![256, 768] inb_S256x2816_S256x768_0_768)))
      (k0_pay14 (k0_pay3 x0) (View.ld x6 (Rect.unit ![0, 768, 0] ![1, 768, 1024] inb_S1x2816x1024_S1x768x1024_0_768_0)) (View.ld x3 (Rect.unit ![0, 768] ![256, 768] inb_S256x2816_S256x768_0_768)))
      (View.ld x5 (Rect.unit ![0, 0, 768] ![1, 1024, 768] inb_S1x1024x5632_S1x1024x768_0_0_768)) (View.ld x5 (Rect.unit ![0, 0, 3584] ![1, 1024, 768] inb_S1x1024x5632_S1x1024x768_0_0_3584)))
      (k0_pay19 (k0_pay3 x0) (View.ld x6 (Rect.unit ![0, 1536, 0] ![1, 768, 1024] inb_S1x2816x1024_S1x768x1024_0_1536_0)) (View.ld x3 (Rect.unit ![0, 1536] ![256, 768] inb_S256x2816_S256x768_0_1536)) (View.ld x4 (Rect.unit ![0, 1536] ![256, 768] inb_S256x2816_S256x768_0_1536)))
      (k0_pay20 (k0_pay3 x0) (View.ld x6 (Rect.unit ![0, 1536, 0] ![1, 768, 1024] inb_S1x2816x1024_S1x768x1024_0_1536_0)) (View.ld x3 (Rect.unit ![0, 1536] ![256, 768] inb_S256x2816_S256x768_0_1536)))
      (View.ld x5 (Rect.unit ![0, 0, 1536] ![1, 1024, 768] inb_S1x1024x5632_S1x1024x768_0_0_1536)) (View.ld x5 (Rect.unit ![0, 0, 4352] ![1, 1024, 768] inb_S1x1024x5632_S1x1024x768_0_0_4352)))
      (k0_pay22 (k0_pay3 x0) (View.ld x6 (Rect.unit ![0, 2304, 0] ![1, 512, 1024] inb_S1x2816x1024_S1x512x1024_0_2304_0)))
      (k0_pay23 (View.ld x3 (Rect.unit ![0, 2304] ![256, 512] inb_S256x2816_S256x512_0_2304))) (k0_pay24 (View.ld x3 (Rect.unit ![0, 2304] ![256, 512] inb_S256x2816_S256x512_0_2304)))
      (k0_pay25 (k0_pay3 x0) (View.ld x6 (Rect.unit ![0, 2304, 0] ![1, 512, 1024] inb_S1x2816x1024_S1x512x1024_0_2304_0)) (View.ld x3 (Rect.unit ![0, 2304] ![256, 512] inb_S256x2816_S256x512_0_2304)) (View.ld x4 (Rect.unit ![0, 2304] ![256, 512] inb_S256x2816_S256x512_0_2304)))
      (View.ld x5 (Rect.unit ![0, 0, 2304] ![1, 1024, 512] inb_S1x1024x5632_S1x1024x512_0_0_2304)) (View.ld x5 (Rect.unit ![0, 0, 5120] ![1, 1024, 512] inb_S1x1024x5632_S1x1024x512_0_0_5120)) i
    = duB x0 x3 x4 x5 x6 (i 0) (i 1) := by
  rw [du_fourth, du_third, du_second, du_first]
  unfold duB normGrad
  rw [sum_pieces, sum_pieces, regroup]
  simp only [← Nat.add_assoc, Nat.reduceAdd]

theorem row_eq (i : S256x1024.Idx) : k0_pay1 x0 (k0_pay28 x1) (k0_pay29 x1)
    (k0_pay31 (k0_pay21 (k0_pay15 (k0_pay9 (k0_pay7 x0 (View.ld x6 (Rect.unit ![0, 0, 0] ![1, 768, 1024] inb_S1x2816x1024_S1x768x1024_0_0_0)) (View.ld x3 (Rect.unit ![0, 0] ![256, 768] inb_S256x2816_S256x768_0_0)) (View.ld x4 (Rect.unit ![0, 0] ![256, 768] inb_S256x2816_S256x768_0_0))) (k0_pay8 x0 (View.ld x6 (Rect.unit ![0, 0, 0] ![1, 768, 1024] inb_S1x2816x1024_S1x768x1024_0_0_0)) (View.ld x3 (Rect.unit ![0, 0] ![256, 768] inb_S256x2816_S256x768_0_0)))
      (View.ld x5 (Rect.unit ![0, 0, 0] ![1, 1024, 768] inb_S1x1024x5632_S1x1024x768_0_0_0)) (View.ld x5 (Rect.unit ![0, 0, 2816] ![1, 1024, 768] inb_S1x1024x5632_S1x1024x768_0_0_2816)))
      (k0_pay13 (k0_pay3 x0) (View.ld x6 (Rect.unit ![0, 768, 0] ![1, 768, 1024] inb_S1x2816x1024_S1x768x1024_0_768_0)) (View.ld x3 (Rect.unit ![0, 768] ![256, 768] inb_S256x2816_S256x768_0_768)) (View.ld x4 (Rect.unit ![0, 768] ![256, 768] inb_S256x2816_S256x768_0_768)))
      (k0_pay14 (k0_pay3 x0) (View.ld x6 (Rect.unit ![0, 768, 0] ![1, 768, 1024] inb_S1x2816x1024_S1x768x1024_0_768_0)) (View.ld x3 (Rect.unit ![0, 768] ![256, 768] inb_S256x2816_S256x768_0_768)))
      (View.ld x5 (Rect.unit ![0, 0, 768] ![1, 1024, 768] inb_S1x1024x5632_S1x1024x768_0_0_768)) (View.ld x5 (Rect.unit ![0, 0, 3584] ![1, 1024, 768] inb_S1x1024x5632_S1x1024x768_0_0_3584)))
      (k0_pay19 (k0_pay3 x0) (View.ld x6 (Rect.unit ![0, 1536, 0] ![1, 768, 1024] inb_S1x2816x1024_S1x768x1024_0_1536_0)) (View.ld x3 (Rect.unit ![0, 1536] ![256, 768] inb_S256x2816_S256x768_0_1536)) (View.ld x4 (Rect.unit ![0, 1536] ![256, 768] inb_S256x2816_S256x768_0_1536)))
      (k0_pay20 (k0_pay3 x0) (View.ld x6 (Rect.unit ![0, 1536, 0] ![1, 768, 1024] inb_S1x2816x1024_S1x768x1024_0_1536_0)) (View.ld x3 (Rect.unit ![0, 1536] ![256, 768] inb_S256x2816_S256x768_0_1536)))
      (View.ld x5 (Rect.unit ![0, 0, 1536] ![1, 1024, 768] inb_S1x1024x5632_S1x1024x768_0_0_1536)) (View.ld x5 (Rect.unit ![0, 0, 4352] ![1, 1024, 768] inb_S1x1024x5632_S1x1024x768_0_0_4352)))
      (k0_pay22 (k0_pay3 x0) (View.ld x6 (Rect.unit ![0, 2304, 0] ![1, 512, 1024] inb_S1x2816x1024_S1x512x1024_0_2304_0)))
      (k0_pay23 (View.ld x3 (Rect.unit ![0, 2304] ![256, 512] inb_S256x2816_S256x512_0_2304))) (k0_pay24 (View.ld x3 (Rect.unit ![0, 2304] ![256, 512] inb_S256x2816_S256x512_0_2304)))
      (k0_pay25 (k0_pay3 x0) (View.ld x6 (Rect.unit ![0, 2304, 0] ![1, 512, 1024] inb_S1x2816x1024_S1x512x1024_0_2304_0)) (View.ld x3 (Rect.unit ![0, 2304] ![256, 512] inb_S256x2816_S256x512_0_2304)) (View.ld x4 (Rect.unit ![0, 2304] ![256, 512] inb_S256x2816_S256x512_0_2304)))
      (View.ld x5 (Rect.unit ![0, 0, 2304] ![1, 1024, 512] inb_S1x1024x5632_S1x1024x512_0_0_2304)) (View.ld x5 (Rect.unit ![0, 0, 5120] ![1, 1024, 512] inb_S1x1024x5632_S1x1024x512_0_0_5120)) x2)
    (k0_pay32 (k0_pay21 (k0_pay15 (k0_pay9 (k0_pay7 x0 (View.ld x6 (Rect.unit ![0, 0, 0] ![1, 768, 1024] inb_S1x2816x1024_S1x768x1024_0_0_0)) (View.ld x3 (Rect.unit ![0, 0] ![256, 768] inb_S256x2816_S256x768_0_0)) (View.ld x4 (Rect.unit ![0, 0] ![256, 768] inb_S256x2816_S256x768_0_0))) (k0_pay8 x0 (View.ld x6 (Rect.unit ![0, 0, 0] ![1, 768, 1024] inb_S1x2816x1024_S1x768x1024_0_0_0)) (View.ld x3 (Rect.unit ![0, 0] ![256, 768] inb_S256x2816_S256x768_0_0)))
      (View.ld x5 (Rect.unit ![0, 0, 0] ![1, 1024, 768] inb_S1x1024x5632_S1x1024x768_0_0_0)) (View.ld x5 (Rect.unit ![0, 0, 2816] ![1, 1024, 768] inb_S1x1024x5632_S1x1024x768_0_0_2816)))
      (k0_pay13 (k0_pay3 x0) (View.ld x6 (Rect.unit ![0, 768, 0] ![1, 768, 1024] inb_S1x2816x1024_S1x768x1024_0_768_0)) (View.ld x3 (Rect.unit ![0, 768] ![256, 768] inb_S256x2816_S256x768_0_768)) (View.ld x4 (Rect.unit ![0, 768] ![256, 768] inb_S256x2816_S256x768_0_768)))
      (k0_pay14 (k0_pay3 x0) (View.ld x6 (Rect.unit ![0, 768, 0] ![1, 768, 1024] inb_S1x2816x1024_S1x768x1024_0_768_0)) (View.ld x3 (Rect.unit ![0, 768] ![256, 768] inb_S256x2816_S256x768_0_768)))
      (View.ld x5 (Rect.unit ![0, 0, 768] ![1, 1024, 768] inb_S1x1024x5632_S1x1024x768_0_0_768)) (View.ld x5 (Rect.unit ![0, 0, 3584] ![1, 1024, 768] inb_S1x1024x5632_S1x1024x768_0_0_3584)))
      (k0_pay19 (k0_pay3 x0) (View.ld x6 (Rect.unit ![0, 1536, 0] ![1, 768, 1024] inb_S1x2816x1024_S1x768x1024_0_1536_0)) (View.ld x3 (Rect.unit ![0, 1536] ![256, 768] inb_S256x2816_S256x768_0_1536)) (View.ld x4 (Rect.unit ![0, 1536] ![256, 768] inb_S256x2816_S256x768_0_1536)))
      (k0_pay20 (k0_pay3 x0) (View.ld x6 (Rect.unit ![0, 1536, 0] ![1, 768, 1024] inb_S1x2816x1024_S1x768x1024_0_1536_0)) (View.ld x3 (Rect.unit ![0, 1536] ![256, 768] inb_S256x2816_S256x768_0_1536)))
      (View.ld x5 (Rect.unit ![0, 0, 1536] ![1, 1024, 768] inb_S1x1024x5632_S1x1024x768_0_0_1536)) (View.ld x5 (Rect.unit ![0, 0, 4352] ![1, 1024, 768] inb_S1x1024x5632_S1x1024x768_0_0_4352)))
      (k0_pay22 (k0_pay3 x0) (View.ld x6 (Rect.unit ![0, 2304, 0] ![1, 512, 1024] inb_S1x2816x1024_S1x512x1024_0_2304_0)))
      (k0_pay23 (View.ld x3 (Rect.unit ![0, 2304] ![256, 512] inb_S256x2816_S256x512_0_2304))) (k0_pay24 (View.ld x3 (Rect.unit ![0, 2304] ![256, 512] inb_S256x2816_S256x512_0_2304)))
      (k0_pay25 (k0_pay3 x0) (View.ld x6 (Rect.unit ![0, 2304, 0] ![1, 512, 1024] inb_S1x2816x1024_S1x512x1024_0_2304_0)) (View.ld x3 (Rect.unit ![0, 2304] ![256, 512] inb_S256x2816_S256x512_0_2304)) (View.ld x4 (Rect.unit ![0, 2304] ![256, 512] inb_S256x2816_S256x512_0_2304)))
      (View.ld x5 (Rect.unit ![0, 0, 2304] ![1, 1024, 512] inb_S1x1024x5632_S1x1024x512_0_0_2304)) (View.ld x5 (Rect.unit ![0, 0, 5120] ![1, 1024, 512] inb_S1x1024x5632_S1x1024x512_0_0_5120)) x1 x2) i
    = rowK (fun k => x0 (ix2 (i 0) k)) (fun k => x1 (ix2 (i 0) k)) (fun k => x2 (ix2 0 k)) (duB x0 x3 x4 x5 x6 (i 0)) (i 1) := by
  pointwise [k0_pay1, k0_pay32, k0_pay31, k0_pay29, k0_pay28, du_eq, rowK, scale]

/-- One token's share of the gain's gradient. -/
def gainPt (a : Fin 256) (k : Fin 1024) : EReal :=
  duB x0 x3 x4 x5 x6 a k * (x1 (ix2 a k) * scale (fun l => x1 (ix2 a l)))

/-- A block's share of the gain's gradient: the sum over its tokens. -/
def gainB (k : Fin 1024) : EReal := ∑ a : Fin 256, gainPt x0 x1 x3 x4 x5 x6 a k

theorem gain_eq (i : S1x1024.Idx) : k0_pay30 (k0_pay21 (k0_pay15 (k0_pay9 (k0_pay7 x0 (View.ld x6 (Rect.unit ![0, 0, 0] ![1, 768, 1024] inb_S1x2816x1024_S1x768x1024_0_0_0)) (View.ld x3 (Rect.unit ![0, 0] ![256, 768] inb_S256x2816_S256x768_0_0)) (View.ld x4 (Rect.unit ![0, 0] ![256, 768] inb_S256x2816_S256x768_0_0))) (k0_pay8 x0 (View.ld x6 (Rect.unit ![0, 0, 0] ![1, 768, 1024] inb_S1x2816x1024_S1x768x1024_0_0_0)) (View.ld x3 (Rect.unit ![0, 0] ![256, 768] inb_S256x2816_S256x768_0_0)))
      (View.ld x5 (Rect.unit ![0, 0, 0] ![1, 1024, 768] inb_S1x1024x5632_S1x1024x768_0_0_0)) (View.ld x5 (Rect.unit ![0, 0, 2816] ![1, 1024, 768] inb_S1x1024x5632_S1x1024x768_0_0_2816)))
      (k0_pay13 (k0_pay3 x0) (View.ld x6 (Rect.unit ![0, 768, 0] ![1, 768, 1024] inb_S1x2816x1024_S1x768x1024_0_768_0)) (View.ld x3 (Rect.unit ![0, 768] ![256, 768] inb_S256x2816_S256x768_0_768)) (View.ld x4 (Rect.unit ![0, 768] ![256, 768] inb_S256x2816_S256x768_0_768)))
      (k0_pay14 (k0_pay3 x0) (View.ld x6 (Rect.unit ![0, 768, 0] ![1, 768, 1024] inb_S1x2816x1024_S1x768x1024_0_768_0)) (View.ld x3 (Rect.unit ![0, 768] ![256, 768] inb_S256x2816_S256x768_0_768)))
      (View.ld x5 (Rect.unit ![0, 0, 768] ![1, 1024, 768] inb_S1x1024x5632_S1x1024x768_0_0_768)) (View.ld x5 (Rect.unit ![0, 0, 3584] ![1, 1024, 768] inb_S1x1024x5632_S1x1024x768_0_0_3584)))
      (k0_pay19 (k0_pay3 x0) (View.ld x6 (Rect.unit ![0, 1536, 0] ![1, 768, 1024] inb_S1x2816x1024_S1x768x1024_0_1536_0)) (View.ld x3 (Rect.unit ![0, 1536] ![256, 768] inb_S256x2816_S256x768_0_1536)) (View.ld x4 (Rect.unit ![0, 1536] ![256, 768] inb_S256x2816_S256x768_0_1536)))
      (k0_pay20 (k0_pay3 x0) (View.ld x6 (Rect.unit ![0, 1536, 0] ![1, 768, 1024] inb_S1x2816x1024_S1x768x1024_0_1536_0)) (View.ld x3 (Rect.unit ![0, 1536] ![256, 768] inb_S256x2816_S256x768_0_1536)))
      (View.ld x5 (Rect.unit ![0, 0, 1536] ![1, 1024, 768] inb_S1x1024x5632_S1x1024x768_0_0_1536)) (View.ld x5 (Rect.unit ![0, 0, 4352] ![1, 1024, 768] inb_S1x1024x5632_S1x1024x768_0_0_4352)))
      (k0_pay22 (k0_pay3 x0) (View.ld x6 (Rect.unit ![0, 2304, 0] ![1, 512, 1024] inb_S1x2816x1024_S1x512x1024_0_2304_0)))
      (k0_pay23 (View.ld x3 (Rect.unit ![0, 2304] ![256, 512] inb_S256x2816_S256x512_0_2304))) (k0_pay24 (View.ld x3 (Rect.unit ![0, 2304] ![256, 512] inb_S256x2816_S256x512_0_2304)))
      (k0_pay25 (k0_pay3 x0) (View.ld x6 (Rect.unit ![0, 2304, 0] ![1, 512, 1024] inb_S1x2816x1024_S1x512x1024_0_2304_0)) (View.ld x3 (Rect.unit ![0, 2304] ![256, 512] inb_S256x2816_S256x512_0_2304)) (View.ld x4 (Rect.unit ![0, 2304] ![256, 512] inb_S256x2816_S256x512_0_2304)))
      (View.ld x5 (Rect.unit ![0, 0, 2304] ![1, 1024, 512] inb_S1x1024x5632_S1x1024x512_0_0_2304)) (View.ld x5 (Rect.unit ![0, 0, 5120] ![1, 1024, 512] inb_S1x1024x5632_S1x1024x512_0_0_5120)) x1 i
    = gainB x0 x1 x3 x4 x5 x6 (i 1) := by
  pointwise [k0_pay30, k0_pay29, k0_pay28, du_eq, gainB, gainPt, scale]

theorem gain_step (v w : FVec Ideal S1x1024 .f32) (i : S1x1024.Idx) : k0_pay2 v w i = w i + v i := by
  pointwise [k0_pay2]

end Block

/-! ## The blocks read from the arrays -/

/-- Token `a` of block `t`. -/
abbrev tok (t : Fin cfg0.N) (a : Fin 256) : Fin 8192 :=
  ⟨t.val * 256 + a.val, by have := lt_of_lt_of_eq t.isLt N_0; omega⟩

theorem blk_gate (c : Dev nD) (t : Fin cfg0.N) (a : Fin 256) (j : Fin 2816) :
    iblk m c 3 t (ix2 a j) = gateAt (m ((c : Thread nD τ).loc main_arg0)) (m ((c : Thread nD τ).loc main_arg1)) (m ((c : Thread nD τ).loc main_arg2)) (tok t a) j := by
  rw [iblk_gate]
  exact congrArg (fun i : S8192x2816.Idx => gateAt (m ((c : Thread nD τ).loc main_arg0)) (m ((c : Thread nD τ).loc main_arg1)) (m ((c : Thread nD τ).loc main_arg2)) (i 0) (i 1))
    (show (win0_3.blk t).view.emb (ix2 a j) = ix2 (tok t a) j by blk_ext [idx t])

theorem blk_up (c : Dev nD) (t : Fin cfg0.N) (a : Fin 256) (j : Fin 2816) :
    iblk m c 4 t (ix2 a j) = upAt (m ((c : Thread nD τ).loc main_arg0)) (m ((c : Thread nD τ).loc main_arg1)) (m ((c : Thread nD τ).loc main_arg2)) (tok t a) j := by
  rw [iblk_up]
  exact congrArg (fun i : S8192x2816.Idx => upAt (m ((c : Thread nD τ).loc main_arg0)) (m ((c : Thread nD τ).loc main_arg1)) (m ((c : Thread nD τ).loc main_arg2)) (i 0) (i 1))
    (show (win0_4.blk t).view.emb (ix2 a j) = ix2 (tok t a) j by blk_ext [idx t])

theorem blk_dh (c : Dev nD) (t : Fin cfg0.N) (a : Fin 256) (k : Fin 1024) :
    iblk m c 0 t (ix2 a k) = (m ((c : Thread nD τ).loc main_arg4)) (ix2 (tok t a) k) := by
  blk_ext [iblk, V, idx t]

theorem blk_h (c : Dev nD) (t : Fin cfg0.N) (a : Fin 256) (k : Fin 1024) :
    iblk m c 1 t (ix2 a k) = (m ((c : Thread nD τ).loc main_arg0)) (ix2 (tok t a) k) := by
  blk_ext [iblk, V, idx t]

theorem blk_g (c : Dev nD) (t : Fin cfg0.N) (k : Fin 1024) :
    iblk m c 2 t (ix2 0 k) = (m ((c : Thread nD τ).loc main_arg1)) (ix2 0 k) := by
  blk_ext [iblk, V, idx t]

theorem blk_w (c : Dev nD) (t : Fin cfg0.N) (k : Fin 1024) (j : Fin 5632) :
    iblk m c 5 t (ix3 0 k j) = (m ((c : Thread nD τ).loc main_arg2)) (ix3 0 k j) := by
  blk_ext [iblk, V, idx t]

theorem blk_wd (c : Dev nD) (t : Fin cfg0.N) (j : Fin 2816) (k : Fin 1024) :
    iblk m c 6 t (ix3 0 j k) = (m ((c : Thread nD τ).loc main_arg3)) (ix3 0 j k) := by
  blk_ext [iblk, V, idx t]

theorem gateB_iblk (c : Dev nD) (t : Fin cfg0.N) (a : Fin 256) (j : Fin 2816) :
    gateB (iblk m c 0 t) (iblk m c 3 t) (iblk m c 4 t) (iblk m c 6 t) a j = gateKAt (m ((c : Thread nD τ).loc main_arg0)) (m ((c : Thread nD τ).loc main_arg1)) (m ((c : Thread nD τ).loc main_arg2)) (m ((c : Thread nD τ).loc main_arg3)) (m ((c : Thread nD τ).loc main_arg4)) (tok t a) j := by
  unfold gateB gateKAt actGradAt
  simp only [blk_gate, blk_up, blk_dh, blk_wd]

theorem upB_iblk (c : Dev nD) (t : Fin cfg0.N) (a : Fin 256) (j : Fin 2816) :
    upB (iblk m c 0 t) (iblk m c 3 t) (iblk m c 6 t) a j = upKAt (m ((c : Thread nD τ).loc main_arg0)) (m ((c : Thread nD τ).loc main_arg1)) (m ((c : Thread nD τ).loc main_arg2)) (m ((c : Thread nD τ).loc main_arg3)) (m ((c : Thread nD τ).loc main_arg4)) (tok t a) j := by
  unfold upB upKAt actGradAt
  simp only [blk_gate, blk_dh, blk_wd]

theorem duB_iblk (c : Dev nD) (t : Fin cfg0.N) (a : Fin 256) (k : Fin 1024) :
    duB (iblk m c 0 t) (iblk m c 3 t) (iblk m c 4 t) (iblk m c 5 t) (iblk m c 6 t) a k = duKAt (m ((c : Thread nD τ).loc main_arg0)) (m ((c : Thread nD τ).loc main_arg1)) (m ((c : Thread nD τ).loc main_arg2)) (m ((c : Thread nD τ).loc main_arg3)) (m ((c : Thread nD τ).loc main_arg4)) (tok t a) k := by
  unfold duB duKAt normGradAt normGrad
  simp only [gateB_iblk, upB_iblk, blk_w]

theorem rowB_iblk (c : Dev nD) (t : Fin cfg0.N) (a : Fin 256) (k : Fin 1024) :
    rowK (fun k => iblk m c 0 t (ix2 a k)) (fun k => iblk m c 1 t (ix2 a k)) (fun k => iblk m c 2 t (ix2 0 k))
      (duB (iblk m c 0 t) (iblk m c 3 t) (iblk m c 4 t) (iblk m c 5 t) (iblk m c 6 t) a) k = rowKAt (m ((c : Thread nD τ).loc main_arg0)) (m ((c : Thread nD τ).loc main_arg1)) (m ((c : Thread nD τ).loc main_arg2)) (m ((c : Thread nD τ).loc main_arg3)) (m ((c : Thread nD τ).loc main_arg4)) (tok t a) k := by
  rw [show (duB (iblk m c 0 t) (iblk m c 3 t) (iblk m c 4 t) (iblk m c 5 t) (iblk m c 6 t) a)
    = duKAt (m ((c : Thread nD τ).loc main_arg0)) (m ((c : Thread nD τ).loc main_arg1)) (m ((c : Thread nD τ).loc main_arg2)) (m ((c : Thread nD τ).loc main_arg3)) (m ((c : Thread nD τ).loc main_arg4)) (tok t a) from funext fun k => duB_iblk m c t a k]
  simp only [blk_dh, blk_h, blk_g]
  rfl

theorem gainB_pt (c : Dev nD) (t : Fin cfg0.N) (a : Fin 256) (k : Fin 1024) :
    gainPt (iblk m c 0 t) (iblk m c 1 t) (iblk m c 3 t) (iblk m c 4 t) (iblk m c 5 t) (iblk m c 6 t) a k
      = gainKAt (m ((c : Thread nD τ).loc main_arg0)) (m ((c : Thread nD τ).loc main_arg1)) (m ((c : Thread nD τ).loc main_arg2)) (m ((c : Thread nD τ).loc main_arg3)) (m ((c : Thread nD τ).loc main_arg4)) (tok t a) k := by
  unfold gainPt gainKAt
  simp only [duB_iblk, blk_h]

/-! ## The arrays the kernel leaves -/

theorem final9 (c : Dev nD) : (dats m 0 c).arrAt 9 cfg0.N = fun i => gateKAt (m ((c : Thread nD τ).loc main_arg0)) (m ((c : Thread nD τ).loc main_arg1)) (m ((c : Thread nD τ).loc main_arg2)) (m ((c : Thread nD τ).loc main_arg3)) (m ((c : Thread nD τ).loc main_arg4)) (i 0) (i 1) := by
  refine (dats m 0 c).arrAt_eq_of_covers 9 _ (by decide +kernel) fun t hf y => ?_
  blk_simp
  rw [after0_9]
  refine Eq.trans (b := gateB (iblk m c 0 t) (iblk m c 3 t) (iblk m c 4 t) (iblk m c 6 t) (y 0) (y 1)) ?_ ?_
  · by_cases e0 : t.val % 32 = 0
    · rw [outsAt0_A m c t e0 (by have := lt_of_lt_of_eq t.isLt N_0; omega)]
      frame_out
      exact gate_pieces _ _ _ _ _
    · rw [outsAt0_B m c t e0 (by omega)]
      frame_out
      exact gate_pieces _ _ _ _ _
  · have e : (win0_9.blk t).view.emb y = ix2 (tok t (y 0)) (y 1) := by blk_ext [idx t]
    rw [e]
    exact gateB_iblk m c t (y 0) (y 1)

theorem final10 (c : Dev nD) : (dats m 0 c).arrAt 10 cfg0.N = fun i => upKAt (m ((c : Thread nD τ).loc main_arg0)) (m ((c : Thread nD τ).loc main_arg1)) (m ((c : Thread nD τ).loc main_arg2)) (m ((c : Thread nD τ).loc main_arg3)) (m ((c : Thread nD τ).loc main_arg4)) (i 0) (i 1) := by
  refine (dats m 0 c).arrAt_eq_of_covers 10 _ (by decide +kernel) fun t hf y => ?_
  blk_simp
  rw [after0_10]
  refine Eq.trans (b := upB (iblk m c 0 t) (iblk m c 3 t) (iblk m c 6 t) (y 0) (y 1)) ?_ ?_
  · by_cases e0 : t.val % 32 = 0
    · rw [outsAt0_A m c t e0 (by have := lt_of_lt_of_eq t.isLt N_0; omega)]
      frame_out
      exact up_pieces _ _ _ _
    · rw [outsAt0_B m c t e0 (by omega)]
      frame_out
      exact up_pieces _ _ _ _
  · have e : (win0_10.blk t).view.emb y = ix2 (tok t (y 0)) (y 1) := by blk_ext [idx t]
    rw [e]
    exact upB_iblk m c t (y 0) (y 1)

theorem final7 (c : Dev nD) : (dats m 0 c).arrAt 7 cfg0.N = fun i => rowKAt (m ((c : Thread nD τ).loc main_arg0)) (m ((c : Thread nD τ).loc main_arg1)) (m ((c : Thread nD τ).loc main_arg2)) (m ((c : Thread nD τ).loc main_arg3)) (m ((c : Thread nD τ).loc main_arg4)) (i 0) (i 1) := by
  refine (dats m 0 c).arrAt_eq_of_covers 7 _ (by decide +kernel) fun t hf y => ?_
  blk_simp
  rw [after0_7]
  refine Eq.trans (b := rowK (fun k => iblk m c 0 t (ix2 (y 0) k)) (fun k => iblk m c 1 t (ix2 (y 0) k))
    (fun k => iblk m c 2 t (ix2 0 k)) (duB (iblk m c 0 t) (iblk m c 3 t) (iblk m c 4 t) (iblk m c 5 t) (iblk m c 6 t) (y 0)) (y 1)) ?_ ?_
  · by_cases e0 : t.val % 32 = 0
    · rw [outsAt0_A m c t e0 (by have := lt_of_lt_of_eq t.isLt N_0; omega)]
      frame_out
      exact row_eq _ _ _ _ _ _ _ _
    · rw [outsAt0_B m c t e0 (by omega)]
      frame_out
      exact row_eq _ _ _ _ _ _ _ _
  · refine (rowB_iblk m c t (y 0) (y 1)).trans ?_
    exact congrArg (fun i : S8192x1024.Idx => rowKAt (m ((c : Thread nD τ).loc main_arg0)) (m ((c : Thread nD τ).loc main_arg1)) (m ((c : Thread nD τ).loc main_arg2)) (m ((c : Thread nD τ).loc main_arg3)) (m ((c : Thread nD τ).loc main_arg4)) (i 0) (i 1))
      (show ix2 (tok t (y 0)) (y 1) = (win0_7.blk t).view.emb y by blk_ext [idx t])

/-- The gain's accumulator after point `t`: the sum over the blocks so far. -/
theorem acc_eq (c : Dev nD) (t : Fin cfg0.N) (hf : t.val % 32 = 32 - 1) (j : S1x1024.Idx) :
    (outsAt0 m c t.val t.isLt).2.1 j
      = ∑ s : Fin 32, (fun t : Fin cfg0.N => gainB (iblk m c 0 t) (iblk m c 1 t) (iblk m c 3 t) (iblk m c 4 t) (iblk m c 5 t) (iblk m c 6 t) (j 1))
          ⟨32 * (t.val / 32) + s.val, Pipeline.run_point_lt_of_flush t hf s⟩ := by
  rw [Pipeline.eq_sum_fin_of_reset_step_apply_of_flush (fun n h => (outsAt0 m c n h).2.1) 32 (fun _ => (0 : EReal))
    (fun t j => gainB (iblk m c 0 t) (iblk m c 1 t) (iblk m c 3 t) (iblk m c 4 t) (iblk m c 5 t) (iblk m c 6 t) (j 1))
    (fun t h j => by
      rw [outsAt0_A m c t h (by have := lt_of_lt_of_eq t.isLt N_0; omega)]
      frame_out
      rw [zero_add]
      exact gain_eq _ _ _ _ _ _ _)
    (fun t h j => by
      rw [outsAt0_B m c t h (by omega)]
      frame_out
      rw [gain_step]
      exact congrArg _ (gain_eq _ _ _ _ _ _ _)) t hf j, zero_add]

theorem final8 (c : Dev nD) : (dats m 0 c).arrAt 8 cfg0.N = fun i => ∑ t : Fin 8192, gainKAt (m ((c : Thread nD τ).loc main_arg0)) (m ((c : Thread nD τ).loc main_arg1)) (m ((c : Thread nD τ).loc main_arg2)) (m ((c : Thread nD τ).loc main_arg3)) (m ((c : Thread nD τ).loc main_arg4)) t (i 1) := by
  refine (dats m 0 c).arrAt_eq_of_covers 8 _ (by decide +kernel) fun t hf y => ?_
  blk_simp
  have hf' := (flush0_8 t).mp hf
  rw [after0_8, acc_eq m c t hf']
  have h0 : t.val / 32 = 0 := by have := lt_of_lt_of_eq t.isLt N_0; omega
  refine Eq.trans (b := ∑ t : Fin 8192, gainKAt (m ((c : Thread nD τ).loc main_arg0)) (m ((c : Thread nD τ).loc main_arg1)) (m ((c : Thread nD τ).loc main_arg2)) (m ((c : Thread nD τ).loc main_arg3)) (m ((c : Thread nD τ).loc main_arg4)) t (y 1)) ?_ ?_
  · unfold gainB
    refine Fin.sum_mul_add_congr fun s k hl => ?_
    have e : (⟨32 * (t.val / 32) + s.val, Pipeline.run_point_lt_of_flush t hf' s⟩ : Fin cfg0.N)
      = ⟨s.val, lt_of_lt_of_eq s.isLt N_0.symm⟩ := Fin.ext (by show 32 * (t.val / 32) + s.val = s.val; omega)
    rw [e]
    refine Eq.trans ?_ (gainB_pt m c ⟨s.val, lt_of_lt_of_eq s.isLt N_0.symm⟩ k (y 1))
    rfl
  · have e : (win0_8.blk t).view.emb y = ix2 (y 0) (y 1) := by blk_ext [idx t]
    rw [e]
    rfl

end Cert.KernelIdeal.Bwd

end
-- ==== Proof.BwdRef.lean ====
/-
  What the reference program computes: the derivative of the forward lines, read off as the gradients of gate and up,
  the row's gradient and the gain's gradient.
-/
module

public import proofs.«01_k».proof.Proof.Gen.ReferenceIdeal.Read
public import proofs.«01_k».proof.Proof.Gen.Pre_finite
public import proofs.«01_k».proof.Proof.BwdSpec
public import Idealize.ShloMosaic.Lib.KernelVsHost

@[expose] public section

set_option maxRecDepth 16384

noncomputable section

open Idealize.ShloMosaic Idealize.ShloMosaic.TcCoe Idealize.SL.Sem

namespace Cert.ReferenceIdeal.Bwd

open Cert.ReferenceIdeal Cert.ReferenceIdeal.Gen Cert.ReferenceIdeal.Read Cert.Spec

theorem v11_eq (x0 : FVec Ideal S8192x1024 .f32) : val_main_v11 (F := Ideal) x0 = fun i => scale (row x0 (i 0)) := by
  funext i
  pointwise [val_main_v11, val_main_v10, val_main_v9, val_main_cst_1, val_main_v8, val_main_v7, val_main_cst_0, val_main_v6,
    val_main_v5, val_main_cst, val_main_v4, scale, row]

theorem v18_eq (x0 : FVec Ideal S8192x1024 .f32) (x1 : FVec Ideal S1x1024 .f32) : val_main_v18 (F := Ideal) x0 x1 = normed x0 x1 := by
  funext i
  pointwise [val_main_v18, val_main_v17, val_main_v16, val_main_v15, v11_eq, normed, rms, row, gain]

theorem v20_eq (x0 : FVec Ideal S8192x1024 .f32) (x1 : FVec Ideal S1x1024 .f32) (x2 : FVec Ideal S1x1024x5632 .bf16) : val_main_v20 (F := Ideal) x0 x1 x2 = fun i => gateAt x0 x1 x2 (i 0) (i 1) := by
  funext i
  pointwise [val_main_v20, val_main_v19, v18_eq, val_main_v1, val_main_v0, gateAt, proj, normed]

theorem v21_eq (x0 : FVec Ideal S8192x1024 .f32) (x1 : FVec Ideal S1x1024 .f32) (x2 : FVec Ideal S1x1024x5632 .bf16) : val_main_v21 (F := Ideal) x0 x1 x2 = fun i => upAt x0 x1 x2 (i 0) (i 1) := by
  funext i
  pointwise [val_main_v21, val_main_v19, v18_eq, val_main_v1, val_main_v0, upAt, proj, normed]

theorem v31_eq (x3 : FVec Ideal S1x2816x1024 .bf16) (x4 : FVec Ideal S8192x1024 .f32) :
    val_main_v31 (F := Ideal) x3 x4 = fun i => actGradAt x3 x4 (i 0) (i 1) := by
  funext i
  pointwise [val_main_v31, val_main_v30, val_main_v29, val_main_cst_4, val_main_v28, val_main_v3, val_main_v2, actGradAt, actGrad, row]

theorem v32_eq (x0 : FVec Ideal S8192x1024 .f32) (x1 : FVec Ideal S1x1024 .f32) (x2 : FVec Ideal S1x1024x5632 .bf16)
    (x3 : FVec Ideal S1x2816x1024 .bf16) (x4 : FVec Ideal S8192x1024 .f32) : val_main_v32 (F := Ideal) x0 x1 x2 x3 x4 = fun i => upRAt x0 x1 x2 x3 x4 (i 0) (i 1) := by
  funext i
  pointwise [val_main_v32, val_main_v22_2, val_main_v22_1, val_main_v22_0, val_main_call0_v7, val_main_call0_v6, val_main_call0_cst_1, val_main_call0_v4, val_main_call0_cst_0, val_main_call0_v3,
    val_main_call0_v2, val_main_call0_cst, val_main_call0_v1, val_main_call0_v0,
    v20_eq, v31_eq, upRAt, upR, sigm]

theorem v34_eq (x0 : FVec Ideal S8192x1024 .f32) (x1 : FVec Ideal S1x1024 .f32) (x2 : FVec Ideal S1x1024x5632 .bf16)
    (x3 : FVec Ideal S1x2816x1024 .bf16) (x4 : FVec Ideal S8192x1024 .f32) : val_main_v34 (F := Ideal) x0 x1 x2 x3 x4 = fun i => gateRAt x0 x1 x2 x3 x4 (i 0) (i 1) := by
  funext i
  pointwise [val_main_v34, val_main_call1_v2, val_main_call1_v1, val_main_call1_v0, val_main_v33, val_main_v22_2, val_main_v22_1, val_main_v22_0, val_main_call0_v7, val_main_call0_v6, val_main_call0_cst_1, val_main_call0_v4, val_main_call0_cst_0, val_main_call0_v3,
    val_main_call0_v2, val_main_call0_cst, val_main_call0_v1, val_main_call0_v0,
    v20_eq, v21_eq, v31_eq, gateRAt, gateR, sigm]

theorem v37_low (x0 : FVec Ideal S8192x1024 .f32) (x1 : FVec Ideal S1x1024 .f32) (x2 : FVec Ideal S1x1024x5632 .bf16)
    (x3 : FVec Ideal S1x2816x1024 .bf16) (x4 : FVec Ideal S8192x1024 .f32) (t : Fin 8192) (j : Fin 2816) :
    val_main_v37 (F := Ideal) x0 x1 x2 x3 x4 (ix2 t ⟨j.val, by omega⟩) = gateRAt x0 x1 x2 x3 x4 t j := by
  pointwise [val_main_v37, val_main_v36, val_main_v35, val_main_cst_5, val_main_cst_6, v32_eq, v34_eq]
  rw [dif_neg (fun h => h.1), zero_add]

theorem v37_high (x0 : FVec Ideal S8192x1024 .f32) (x1 : FVec Ideal S1x1024 .f32) (x2 : FVec Ideal S1x1024x5632 .bf16)
    (x3 : FVec Ideal S1x2816x1024 .bf16) (x4 : FVec Ideal S8192x1024 .f32) (t : Fin 8192) (j : Fin 2816) :
    val_main_v37 (F := Ideal) x0 x1 x2 x3 x4 (ix2 t ⟨2816 + j.val, by omega⟩) = upRAt x0 x1 x2 x3 x4 t j := by
  pointwise [val_main_v37, val_main_v36, val_main_v35, val_main_cst_5, val_main_cst_6, v32_eq, v34_eq]

/-- A sum over 5632 columns is the sum over the first 2816 and the second 2816. -/
theorem sum_both (f : Fin 5632 → EReal) :
    ∑ j : Fin 5632, f j = (∑ j : Fin 2816, f ⟨j.val, by omega⟩) + ∑ j : Fin 2816, f ⟨2816 + j.val, by omega⟩ :=
  Fin.sum_univ_add (M := EReal) (a := 2816) (b := 2816) f

theorem v38_eq (x0 : FVec Ideal S8192x1024 .f32) (x1 : FVec Ideal S1x1024 .f32) (x2 : FVec Ideal S1x1024x5632 .bf16)
    (x3 : FVec Ideal S1x2816x1024 .bf16) (x4 : FVec Ideal S8192x1024 .f32) : val_main_v38 (F := Ideal) x0 x1 x2 x3 x4 = fun i => duRAt x0 x1 x2 x3 x4 (i 0) (i 1) := by
  funext i
  pointwise [val_main_v38, val_main_v1, val_main_v0, sum_both, v37_low, v37_high, duRAt, normGradAt, normGrad]

theorem v41_eq (x0 : FVec Ideal S8192x1024 .f32) (x1 : FVec Ideal S1x1024 .f32) (x2 : FVec Ideal S1x1024x5632 .bf16)
    (x3 : FVec Ideal S1x2816x1024 .bf16) (x4 : FVec Ideal S8192x1024 .f32) : val_main_v41 (F := Ideal) x0 x1 x2 x3 x4 = fun i => ∑ t : Fin 8192, gainRAt x0 x1 x2 x3 x4 t (i 1) := by
  funext i
  pointwise [val_main_v41, val_main_v40, val_main_cst_7, val_main_v39, v38_eq, val_main_v16, val_main_v15, v11_eq, gainRAt]

theorem v54_eq (x0 : FVec Ideal S8192x1024 .f32) (x1 : FVec Ideal S1x1024 .f32) (x2 : FVec Ideal S1x1024x5632 .bf16)
    (x3 : FVec Ideal S1x2816x1024 .bf16) (x4 : FVec Ideal S8192x1024 .f32) : val_main_v54 (F := Ideal) x0 x1 x2 x3 x4
      = fun i => rowCoef (row x0 (i 0)) (gain x1) (duRAt x0 x1 x2 x3 x4 (i 0)) := by
  funext i
  pointwise [val_main_v54, val_main_v53, val_main_cst_10, val_main_v52, val_main_v51, val_main_cst_9, val_main_v50, val_main_v46, val_main_v45,
    val_main_cst_8, val_main_v44, val_main_v43, val_main_v42, v38_eq, val_main_v14, val_main_v13, val_main_cst_2, val_main_v12, v11_eq,
    val_main_v10, val_main_v9, val_main_cst_1, val_main_v8, val_main_v7, val_main_cst_0, val_main_v6, val_main_v5, val_main_cst, val_main_v4,
    rowCoef, meanSq, row, gain]
  exact Fin.sum_univ_one _

theorem v58_eq (x0 : FVec Ideal S8192x1024 .f32) (x1 : FVec Ideal S1x1024 .f32) (x2 : FVec Ideal S1x1024x5632 .bf16)
    (x3 : FVec Ideal S1x2816x1024 .bf16) (x4 : FVec Ideal S8192x1024 .f32) : val_main_v58 (F := Ideal) x0 x1 x2 x3 x4 = fun i => rowRAt x0 x1 x2 x3 x4 (i 0) (i 1) := by
  funext i
  pointwise [val_main_v58, val_main_v57, val_main_v56, val_main_v55, v54_eq, val_main_v49, val_main_v48, val_main_v47, v11_eq, val_main_v43,
    val_main_v42, v38_eq, rowRAt, rowR, row, gain]

/-! ## The second derivative in the program, of the two projections -/

theorem v66_eq (x0 : FVec Ideal S8192x1024 .f32) : val_main_v66 (F := Ideal) x0 = fun i => scale (row x0 (i 0)) := by
  funext i
  pointwise [val_main_v66, val_main_v65, val_main_v64, val_main_cst_13, val_main_v63, val_main_v62, val_main_cst_12, val_main_v61,
    val_main_v60, val_main_cst_11, val_main_v59, scale, row]

theorem v70_eq (x0 : FVec Ideal S8192x1024 .f32) (x1 : FVec Ideal S1x1024 .f32) : val_main_v70 (F := Ideal) x0 x1 = normed x0 x1 := by
  funext i
  pointwise [val_main_v70, val_main_v69, val_main_v68, val_main_v67, v66_eq, normed, rms, row, gain]

theorem v72_eq (x0 : FVec Ideal S8192x1024 .f32) (x1 : FVec Ideal S1x1024 .f32) (x2 : FVec Ideal S1x1024x5632 .bf16) : val_main_v72 (F := Ideal) x0 x1 x2 = fun i => gateAt x0 x1 x2 (i 0) (i 1) := by
  funext i
  pointwise [val_main_v72, val_main_v71, v70_eq, val_main_v1, val_main_v0, gateAt, proj, normed]

theorem v73_eq (x0 : FVec Ideal S8192x1024 .f32) (x1 : FVec Ideal S1x1024 .f32) (x2 : FVec Ideal S1x1024x5632 .bf16) : val_main_v73 (F := Ideal) x0 x1 x2 = fun i => upAt x0 x1 x2 (i 0) (i 1) := by
  funext i
  pointwise [val_main_v73, val_main_v71, v70_eq, val_main_v1, val_main_v0, upAt, proj, normed]

theorem v81_eq (x3 : FVec Ideal S1x2816x1024 .bf16) (x4 : FVec Ideal S8192x1024 .f32) :
    val_main_v81 (F := Ideal) x3 x4 = fun i => actGradAt x3 x4 (i 0) (i 1) := by
  funext i
  pointwise [val_main_v81, val_main_v80, val_main_v79, val_main_cst_15, val_main_v3, val_main_v2, actGradAt, actGrad, row]

theorem v86_eq (x0 : FVec Ideal S8192x1024 .f32) (x1 : FVec Ideal S1x1024 .f32) (x2 : FVec Ideal S1x1024x5632 .bf16)
    (x3 : FVec Ideal S1x2816x1024 .bf16) (x4 : FVec Ideal S8192x1024 .f32) : val_main_v86 (F := Ideal) x0 x1 x2 x3 x4 = fun i => upRAt x0 x1 x2 x3 x4 (i 0) (i 1) := by
  funext i
  pointwise [val_main_v86, val_main_v82, val_main_v74_2, val_main_v74_1, val_main_v74_0, val_main_call2_v7, val_main_call2_v6, val_main_call2_cst_1, val_main_call2_v4, val_main_call2_cst_0, val_main_call2_v3,
    val_main_call2_v2, val_main_call2_cst, val_main_call2_v1, val_main_call2_v0,
    v72_eq, v81_eq, upRAt, upR, sigm]

theorem v85_eq (x0 : FVec Ideal S8192x1024 .f32) (x1 : FVec Ideal S1x1024 .f32) (x2 : FVec Ideal S1x1024x5632 .bf16)
    (x3 : FVec Ideal S1x2816x1024 .bf16) (x4 : FVec Ideal S8192x1024 .f32) : val_main_v85 (F := Ideal) x0 x1 x2 x3 x4 = fun i => gateRAt x0 x1 x2 x3 x4 (i 0) (i 1) := by
  funext i
  pointwise [val_main_v85, val_main_v84, val_main_call3_v2, val_main_call3_v1, val_main_call3_v0, val_main_v83, val_main_v74_2, val_main_v74_1, val_main_v74_0, val_main_call2_v7, val_main_call2_v6, val_main_call2_cst_1, val_main_call2_v4, val_main_call2_cst_0, val_main_call2_v3,
    val_main_call2_v2, val_main_call2_cst, val_main_call2_v1, val_main_call2_v0,
    v72_eq, v73_eq, v81_eq, gateRAt, gateR, sigm]

/-- The reference program's run: its four results are the gradients. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v58) = (fun i => rowRAt (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (i 0) (i 1))
      ∧ r.2.mem ((c.tc : Thread nD τ).loc main_v41) = (fun i => ∑ t : Fin 8192, gainRAt (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) t (i 1))
      ∧ r.2.mem ((c.tc : Thread nD τ).loc main_v85) = (fun i => gateRAt (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (i 0) (i 1))
      ∧ r.2.mem ((c.tc : Thread nD τ).loc main_v86) = (fun i => upRAt (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans ((val_main_v58_eq m c).trans (v58_eq _ _ _ _ _)),
    (h c).2.1.trans ((val_main_v41_eq m c).trans (v41_eq _ _ _ _ _)),
    (h c).2.2.1.trans ((val_main_v85_eq m c).trans (v85_eq _ _ _ _ _)),
    (h c).2.2.2.1.trans ((val_main_v86_eq _ _ _ _ _).trans (v86_eq _ _ _ _ _)),
    (h c).2.2.2.2⟩) (Cert.ReferenceIdeal.Value.run m ρ)

end Cert.ReferenceIdeal.Bwd

end
-- ==== Proof.BwdReal.lean ====
/-
  On real numbers the kernel's forms of the backward pass and the derivative's forms agree. The extended reals do not
  distribute, so this is where the arrays have to hold real numbers: every quantity of the backward pass is then a real
  number, and the two forms are compared there.
-/
module

public import proofs.«01_k».proof.Proof.BwdSpec

@[expose] public section

noncomputable section

namespace Cert.Spec

open Idealize.ShloMosaic

/-- An extended real that is a real number. -/
def IsReal (x : EReal) : Prop := ∃ r : ℝ, x = (r : EReal)

/-- A value whose absolute value is below plus infinity is a real number. -/
theorem isReal_of_abs_lt (x : EReal) (h : Ideal.cmp .olt (max x (-x)) (Ideal.ofBits .f32 0x7F800000#32) = 1#1) : IsReal x := by
  have hinf : Ideal.ofBits .f32 0x7F800000#32 = ⊤ := by simp [Ideal.ofBits, Ideal.ieee]
  rw [hinf] at h
  have h' : max x (-x) < ⊤ := by
    by_contra hn
    simp [Ideal.cmp, hn] at h
  have h1 : x < ⊤ := lt_of_le_of_lt (le_max_left _ _) h'
  have h2 : -x < ⊤ := lt_of_le_of_lt (le_max_right _ _) h'
  have h3 : x ≠ ⊥ := by rintro rfl; simp at h2
  exact ⟨x.toReal, (EReal.coe_toReal h1.ne h3).symm⟩

theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩

theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

theorem isReal_sum {n : ℕ} (f : Fin n → EReal) (hf : ∀ i, IsReal (f i)) : IsReal (∑ i, f i) := by
  choose g hg using hf
  refine ⟨∑ i, g i, ?_⟩
  rw [← coe_sum]
  exact Finset.sum_congr rfl fun i _ => hg i

theorem isReal_one : IsReal 1 := ⟨1, rfl⟩
theorem isReal_half : IsReal (lit 0x3F000000#32) := ⟨_, lit_half⟩

/-- The literal minus one half. -/
theorem lit_neg_half : lit 0xBF000000#32 = ((-1 / 2 : ℝ) : EReal) := by
  simp [lit, Ideal.ofBits, Ideal.ieee, -EReal.coe_mul]; norm_num
/-- The row's length. -/
theorem lit_len : lit 0x44800000#32 = ((1024 : ℝ) : EReal) := by
  simp [lit, Ideal.ofBits, Ideal.ieee, -EReal.coe_mul]; norm_num
/-- The small constant under the root is a positive real number. -/
theorem lit_eps : ∃ e : ℝ, 0 < e ∧ lit 0x358637BD#32 = (e : EReal) := by
  refine ⟨_, ?_, by simp [lit, Ideal.ofBits, Ideal.ieee, -EReal.coe_mul]; rfl⟩
  norm_num

theorem sigm_coe (y : ℝ) : sigm y = ((1 / (1 + Real.exp (-y)) : ℝ) : EReal) := by
  unfold sigm
  rw [← EReal.coe_neg, Ideal.exp_coe, ← EReal.coe_one, ← EReal.coe_add,
    Ideal.div_coe (by have := Real.exp_pos (-y); positivity), ← EReal.coe_mul, one_mul]

theorem isReal_sigm {y : EReal} (hy : IsReal y) : IsReal (sigm y) := by
  obtain ⟨a, rfl⟩ := hy; exact ⟨_, sigm_coe a⟩

/-- The mean square of a real row is a positive real number, and the scale is one over its root. -/
theorem scale_coe (x : Fin 1024 → ℝ) : ∃ q : ℝ, 0 < q ∧ meanSq (fun k => (x k : EReal)) = (q : EReal)
    ∧ scale (fun k => (x k : EReal)) = (((√q)⁻¹ : ℝ) : EReal) := by
  obtain ⟨e, he, hl⟩ := lit_eps
  have hs : Ideal.div (∑ k, (x k : EReal) * (x k : EReal)) (lit 0x44800000#32) + lit 0x358637BD#32
      = (((∑ k, x k * x k) * (1 / 1024) + e : ℝ) : EReal) := by
    rw [lit_len, Ideal.div_coe (by norm_num), hl]
    simp only [← EReal.coe_mul]
    rw [coe_sum, ← EReal.coe_mul, ← EReal.coe_add]
  have hq : 0 < (∑ k, x k * x k) * (1 / 1024) + e := by
    have : 0 ≤ ∑ k, x k * x k := Finset.sum_nonneg fun k _ => mul_self_nonneg _
    positivity
  refine ⟨_, hq, hs, ?_⟩
  unfold scale
  rw [hs, Ideal.rsqrt_coe, if_neg (not_lt.2 hq.le), if_neg hq.ne']

theorem isReal_scale {x : Fin 1024 → EReal} (hx : ∀ k, IsReal (x k)) : IsReal (scale x) := by
  choose a ha using hx
  obtain rfl : x = fun k => (a k : EReal) := funext ha
  obtain ⟨q, _, _, h⟩ := scale_coe a
  exact ⟨_, h⟩

/-- A row with an infinite element has the mean square infinity and the scale zero. -/
theorem meanSq_inf {x : Fin 1024 → EReal} {k : Fin 1024} (h : x k * x k = ⊤) : meanSq x = ⊤ := by
  obtain ⟨e, he, hl⟩ := lit_eps
  have h0 : ∀ y : EReal, 0 ≤ y * y := fun y => by
    rcases le_total 0 y with hy | hy
    · exact mul_nonneg hy hy
    · rw [← neg_mul_neg]
      exact mul_nonneg (EReal.neg_nonneg.2 hy) (EReal.neg_nonneg.2 hy)
  have hr : (∑ l ∈ Finset.univ.erase k, x l * x l) ≠ ⊥ := ne_bot_of_le_ne_bot (by simp) (Finset.sum_nonneg fun l _ => h0 (x l))
  have hs : (∑ l, x l * x l) = ⊤ := by
    rw [← Finset.add_sum_erase _ _ (Finset.mem_univ k), h, EReal.top_add_of_ne_bot hr]
  unfold meanSq
  rw [hs, lit_len, Ideal.div_coe (by norm_num), EReal.top_mul_coe_of_pos (by norm_num), hl, EReal.top_add_coe]
theorem scale_inf {x : Fin 1024 → EReal} {k : Fin 1024} (h : x k * x k = ⊤) : scale x = 0 := by
  show Ideal.rsqrt (meanSq x) = 0
  rw [meanSq_inf h]
  rfl
/-- Where a row is not all real, one of its squares is infinite. -/
theorem sq_inf {x : Fin 1024 → EReal} (hx : ¬ ∀ l, IsReal (x l)) : ∃ l, x l * x l = ⊤ := by
  obtain ⟨l, hl⟩ := not_forall.1 hx
  refine ⟨l, ?_⟩
  induction hv : x l using EReal.rec with
  | bot => rfl
  | top => rfl
  | coe a => exact absurd ⟨a, hv⟩ hl

/-- A normalised row is real, whatever the row. -/
theorem isReal_normal (x : Fin 1024 → EReal) (k : Fin 1024) : IsReal (x k * scale x) := by
  by_cases hx : ∀ l, IsReal (x l)
  · exact (hx k).mul (isReal_scale hx)
  · obtain ⟨l, h⟩ := sq_inf hx
    rw [scale_inf h, mul_zero]
    exact ⟨0, rfl⟩

/-- So is a projection of it with a real gain and real weights. -/
theorem isReal_proj {x g w : Fin 1024 → EReal} (hg : ∀ k, IsReal (g k)) (hw : ∀ k, IsReal (w k)) : IsReal (proj x g w) :=
  isReal_sum _ fun k => ((isReal_normal x k).mul (hg k)).mul (hw k)

theorem isReal_actGrad {d w : Fin 1024 → EReal} (hd : ∀ k, IsReal (d k)) (hw : ∀ k, IsReal (w k)) : IsReal (actGrad d w) :=
  isReal_sum _ fun k => (isReal_half.mul (hd k)).mul (hw k)

theorem isReal_gateK {da up ga : EReal} (hd : IsReal da) (hu : IsReal up) (hg : IsReal ga) : IsReal (gateK da up ga) :=
  ((hd.mul hu).mul (isReal_sigm hg)).mul (isReal_one.add (hg.mul (isReal_one.sub (isReal_sigm hg))))

theorem isReal_upK {da ga : EReal} (hd : IsReal da) (hg : IsReal ga) : IsReal (upK da ga) := (hd.mul hg).mul (isReal_sigm hg)

/-- The gate's gradient: the product of the kernel is the sum of the derivative. -/
theorem gateK_eq {da up ga : EReal} (hd : IsReal da) (hu : IsReal up) (hg : IsReal ga) : gateK da up ga = gateR da up ga := by
  obtain ⟨d, rfl⟩ := hd; obtain ⟨u, rfl⟩ := hu; obtain ⟨a, rfl⟩ := hg
  unfold gateK gateR
  rw [sigm_coe, ← EReal.coe_one]
  simp only [← EReal.coe_mul, ← EReal.coe_sub, ← EReal.coe_add]
  congr 1
  ring

/-- The up projection's gradient is the same product in another order. -/
theorem upK_eq (da ga : EReal) : upK da ga = upR da ga := by
  unfold upK upR
  rw [mul_assoc, mul_comm]

/-- A sum of products times a real number that is not negative, whatever the terms. -/
theorem sum_scaled {n : ℕ} {c : EReal} (h0 : 0 ≤ c) (h1 : c ≠ ⊤) (a d : Fin n → EReal) : (∑ t, a t * d t) * c = ∑ t, d t * (a t * c) := by
  have key : ∀ s : Finset (Fin n), (∑ t ∈ s, a t * d t) * c = ∑ t ∈ s, d t * (a t * c) := by
    intro s
    induction s using Finset.induction_on with
    | empty => simp
    | insert t s ht ih =>
      rw [Finset.sum_insert ht, Finset.sum_insert ht, EReal.right_distrib_of_nonneg_of_ne_top h0 h1, ih]
      congr 1
      rw [mul_comm (a t) (d t), mul_assoc]
  exact key Finset.univ

/-- A number twice. -/
theorem add_self (y : EReal) : y + y = y * ((2 : ℝ) : EReal) := by
  induction y using EReal.rec with
  | bot => rw [EReal.bot_mul_coe_of_pos (by norm_num)]; rfl
  | top => rw [EReal.top_mul_coe_of_pos (by norm_num)]; rfl
  | coe a => rw [← EReal.coe_add, ← EReal.coe_mul, mul_two]

/-- The row's gradient: the two uses of the row in the derivative add up to the kernel's one term, whatever the row, the
gain and the gradients. -/
theorem rowK_eq (dh x g du : Fin 1024 → EReal) (k : Fin 1024) : rowK dh x g du k = rowR dh x g du k := by
  by_cases hx : ∀ l, IsReal (x l)
  · choose X hX using hx
    obtain rfl : x = fun k => (X k : EReal) := funext hX
    obtain ⟨q, hq, hm, hs⟩ := scale_coe X
    have hr : 0 < (√q)⁻¹ := inv_pos.2 (Real.sqrt_pos.2 hq)
    unfold rowK rowR rowCoef
    rw [hm, hs, lit_len, lit_neg_half]
    rw [Ideal.div_coe (by norm_num), Ideal.div_coe (by norm_num), Ideal.div_coe hq.ne']
    have h1 : ∑ l, du l * g l * ((X l : EReal) * (((√q)⁻¹ : ℝ) : EReal)) = (∑ l, (X l : EReal) * (du l * g l)) * (((√q)⁻¹ : ℝ) : EReal) :=
      (sum_scaled (by exact_mod_cast hr.le) (EReal.coe_ne_top _) (fun l => (X l : EReal)) (fun l => du l * g l)).symm
    rw [h1]
    generalize (∑ l, (X l : EReal) * (du l * g l)) = S
    generalize du k * g k = a
    have h2 : 1 / q = (√q)⁻¹ * (√q)⁻¹ := by rw [← mul_inv, Real.mul_self_sqrt hq.le, one_div]
    rw [h2]
    generalize (√q)⁻¹ = r at hr
    have e1 : (r : EReal) * (a - (X k : EReal) * r * (S * r * ((1 / 1024 : ℝ) : EReal)))
        = a * r + S * ((-(X k * r * r * r * (1 / 1024)) : ℝ) : EReal) := by
      rw [sub_eq_add_neg, EReal.left_distrib_of_nonneg_of_ne_top (by exact_mod_cast hr.le) (EReal.coe_ne_top _), mul_comm (r : EReal) a,
        mul_neg, EReal.coe_neg, mul_neg]
      simp only [EReal.coe_mul]
      congr 2
      ac_rfl
    have e2 : (X k : EReal) * (S * (((-1 / 2 : ℝ) : EReal) * ((r : EReal) * ((r * r : ℝ) : EReal))) * ((1 / 1024 : ℝ) : EReal))
        = S * ((X k * (-1 / 2) * r * r * r * (1 / 1024) : ℝ) : EReal) := by
      simp only [EReal.coe_mul]
      ac_rfl
    rw [e1, mul_comm _ (X k : EReal), e2, add_assoc (dh k + a * r), add_self, mul_assoc S, ← EReal.coe_mul, add_assoc]
    congr 4
    ring
  · obtain ⟨l, h⟩ := sq_inf hx
    have hd : ∀ y : EReal, y ≠ 0 → Ideal.div 0 y = 0 := fun y hy => by
      unfold Ideal.div
      rw [if_neg hy, zero_mul]
    unfold rowK rowR rowCoef
    rw [scale_inf h, meanSq_inf h, lit_len, hd ⊤ (by simp)]
    simp only [mul_zero, zero_mul, add_zero]
    rw [hd _ (by simp)]
    simp

/-! ## The block's arrays -/

section Arrays

variable {h : SX.Idx → EReal} {g : SG.Idx → EReal} {w : SWU.Idx → EReal} {wd : SWD.Idx → EReal} {dh : SX.Idx → EReal}
  (hg : ∀ i, IsReal (g i)) (hw : ∀ i, IsReal (w i)) (hwd : ∀ i, IsReal (wd i)) (hdh : ∀ i, IsReal (dh i))

include hg hw in
theorem isReal_gateAt (t : Fin 8192) (j : Fin 2816) : IsReal (gateAt h g w t j) :=
  isReal_proj (fun _ => hg _) (fun _ => hw _)
include hg hw in
theorem isReal_upAt (t : Fin 8192) (j : Fin 2816) : IsReal (upAt h g w t j) :=
  isReal_proj (fun _ => hg _) (fun _ => hw _)
include hwd hdh in
theorem isReal_actGradAt (t : Fin 8192) (j : Fin 2816) : IsReal (actGradAt wd dh t j) :=
  isReal_actGrad (fun _ => hdh _) (fun _ => hwd _)

include hg hw hwd hdh in
theorem gateKAt_eq (t : Fin 8192) (j : Fin 2816) : gateKAt h g w wd dh t j = gateRAt h g w wd dh t j :=
  gateK_eq (isReal_actGradAt hwd hdh t j) (isReal_upAt hg hw t j) (isReal_gateAt hg hw t j)

theorem upKAt_eq (t : Fin 8192) (j : Fin 2816) : upKAt h g w wd dh t j = upRAt h g w wd dh t j := upK_eq _ _

include hg hw hwd hdh in
theorem isReal_duKAt (t : Fin 8192) (k : Fin 1024) : IsReal (duKAt h g w wd dh t k) :=
  (isReal_sum _ fun j => (isReal_gateK (isReal_actGradAt hwd hdh t j) (isReal_upAt hg hw t j) (isReal_gateAt hg hw t j)).mul (hw _)).add
    (isReal_sum _ fun j => (isReal_upK (isReal_actGradAt hwd hdh t j) (isReal_gateAt hg hw t j)).mul (hw _))

include hg hw hwd hdh in
theorem duKAt_eq (t : Fin 8192) : duKAt h g w wd dh t = duRAt h g w wd dh t := by
  funext k
  unfold duKAt duRAt
  rw [show gateKAt h g w wd dh t = gateRAt h g w wd dh t from funext (gateKAt_eq hg hw hwd hdh t),
    show upKAt h g w wd dh t = upRAt h g w wd dh t from funext (upKAt_eq t)]

include hg hw hwd hdh in
theorem rowKAt_eq (t : Fin 8192) (k : Fin 1024) : rowKAt h g w wd dh t k = rowRAt h g w wd dh t k := by
  unfold rowKAt rowRAt
  rw [rowK_eq, duKAt_eq hg hw hwd hdh]

include hg hw hwd hdh in
theorem gainKAt_eq (t : Fin 8192) (k : Fin 1024) : gainKAt h g w wd dh t k = gainRAt h g w wd dh t k := by
  unfold gainKAt gainRAt
  rw [duKAt_eq hg hw hwd hdh, mul_comm]

end Arrays

end Cert.Spec

end
-- ==== Proof.Bwd.lean ====
/-
  The backward kernel's claim: where the gain, the weights and the cotangent hold real numbers, the kernel leaves the row's gradient, the gain's
  gradient and the gradients of gate and up that differentiating the forward lines gives.
-/
module

public import proofs.«01_k».proof.Defs
public import proofs.«01_k».proof.Proof.BwdPay
public import proofs.«01_k».proof.Proof.BwdRef
public import proofs.«01_k».proof.Proof.BwdReal
public import Idealize.ShloMosaic.Lib.Claim
public import Idealize.ShloMosaic.Lib.ReduceAll

@[expose] public section

set_option maxRecDepth 16384

noncomputable section

open Idealize.ShloMosaic Idealize.ShloMosaic.TcCoe Idealize.SL.Sem

namespace Cert.Proof.Bwd

open Cert.Spec

theorem and_one {a b : IVec Cert.Pre_finite.S_ 1} {j : Cert.Pre_finite.S_.Idx} (h : andi a b j = 1#1) : a j = 1#1 ∧ b j = 1#1 :=
  IntOp.andi_eq_one.1 h

/-- The precondition says that every element of the gain, the weights and the cotangent is a real number. -/
theorem finite_iff (x0 : FVec Ideal SX .f32) (x1 : FVec Ideal SG .f32) (x2 : FVec Ideal SWU .bf16) (x3 : FVec Ideal SWD .bf16)
    (x4 : FVec Ideal SX .f32) (h : Cert.Pre_finite.fn (F := Ideal) x0 x1 x2 x3 x4 = fun _ => 1#1) :
    (∀ i, IsReal (x1 i)) ∧ (∀ i, IsReal (x2 i)) ∧ (∀ i, IsReal (x3 i)) ∧ (∀ i, IsReal (x4 i)) := by
  haveI : Subsingleton Cert.Pre_finite.S_.Idx := ⟨fun a b => funext fun k => k.elim0⟩
  have e := congrFun h (fun k => k.elim0)
  obtain ⟨e, e4⟩ := and_one e
  obtain ⟨e, e3⟩ := and_one e
  obtain ⟨e1, e2⟩ := and_one e
  exact ⟨fun i => isReal_of_abs_lt _ (Host.reduce_andi_all _ _ _ _ _ e1 i),
    fun i => isReal_of_abs_lt _ (Host.reduce_andi_all _ _ _ _ _ e2 i),
    fun i => isReal_of_abs_lt _ (Host.reduce_andi_all _ _ _ _ _ e3 i),
    fun i => isReal_of_abs_lt _ (Host.reduce_andi_all _ _ _ _ _ e4 i)⟩

/-- The kernel's five arrays. -/
def Same (m : (ℓ : Loc Cert.KernelIdeal.nD Cert.KernelIdeal.τ Cert.KernelIdeal.sig) → Buf (Elt Ideal) ℓ) (c : Dev Cert.KernelIdeal.nD)
    (x0 : FVec Ideal SX .f32) (x1 : FVec Ideal SG .f32) (x2 : FVec Ideal SWU .bf16) (x3 : FVec Ideal SWD .bf16) (x4 : FVec Ideal SX .f32) : Prop :=
  x0 = m ((c.tc : Thread Cert.KernelIdeal.nD Cert.KernelIdeal.τ).loc Cert.KernelIdeal.main_arg0) ∧ x1 = m ((c.tc : Thread Cert.KernelIdeal.nD Cert.KernelIdeal.τ).loc Cert.KernelIdeal.main_arg1) ∧ x2 = m ((c.tc : Thread Cert.KernelIdeal.nD Cert.KernelIdeal.τ).loc Cert.KernelIdeal.main_arg2) ∧ x3 = m ((c.tc : Thread Cert.KernelIdeal.nD Cert.KernelIdeal.τ).loc Cert.KernelIdeal.main_arg3) ∧ x4 = m ((c.tc : Thread Cert.KernelIdeal.nD Cert.KernelIdeal.τ).loc Cert.KernelIdeal.main_arg4)

section Results

variable {m : (ℓ : Loc Cert.KernelIdeal.nD Cert.KernelIdeal.τ Cert.KernelIdeal.sig) → Buf (Elt Ideal) ℓ}
  {x0 : FVec Ideal SX .f32} {x1 : FVec Ideal SG .f32} {x2 : FVec Ideal SWU .bf16} {x3 : FVec Ideal SWD .bf16} {x4 : FVec Ideal SX .f32}

theorem row {c : Dev Cert.KernelIdeal.nD} (hp : Cert.Pre_finite.fn (F := Ideal) x0 x1 x2 x3 x4 = fun _ => 1#1)
    (h : Same m c x0 x1 x2 x3 x4) : (fun i => rowRAt x0 x1 x2 x3 x4 (i 0) (i 1)) = (Cert.KernelIdeal.Gen.dats m 0 c).arrAt 7 Cert.KernelIdeal.cfg0.N := by
  obtain ⟨h1, h2, h3, h4⟩ := finite_iff _ _ _ _ _ hp
  obtain ⟨rfl, rfl, rfl, rfl, rfl⟩ := h
  refine Eq.trans (funext fun i => ?_) (Cert.KernelIdeal.Bwd.final7 m c).symm
  exact (rowKAt_eq h1 h2 h3 h4 (i 0) (i 1)).symm

theorem gain {c : Dev Cert.KernelIdeal.nD} (hp : Cert.Pre_finite.fn (F := Ideal) x0 x1 x2 x3 x4 = fun _ => 1#1)
    (h : Same m c x0 x1 x2 x3 x4) : (fun i => ∑ t : Fin 8192, gainRAt x0 x1 x2 x3 x4 t (i 1)) = (Cert.KernelIdeal.Gen.dats m 0 c).arrAt 8 Cert.KernelIdeal.cfg0.N := by
  obtain ⟨h1, h2, h3, h4⟩ := finite_iff _ _ _ _ _ hp
  obtain ⟨rfl, rfl, rfl, rfl, rfl⟩ := h
  refine Eq.trans (funext fun i => ?_) (Cert.KernelIdeal.Bwd.final8 m c).symm
  exact Fin.sum_fin_congr fun t => (gainKAt_eq h1 h2 h3 h4 t (i 1)).symm

theorem gate {c : Dev Cert.KernelIdeal.nD} (hp : Cert.Pre_finite.fn (F := Ideal) x0 x1 x2 x3 x4 = fun _ => 1#1)
    (h : Same m c x0 x1 x2 x3 x4) : (fun i => gateRAt x0 x1 x2 x3 x4 (i 0) (i 1)) = (Cert.KernelIdeal.Gen.dats m 0 c).arrAt 9 Cert.KernelIdeal.cfg0.N := by
  obtain ⟨h1, h2, h3, h4⟩ := finite_iff _ _ _ _ _ hp
  obtain ⟨rfl, rfl, rfl, rfl, rfl⟩ := h
  refine Eq.trans (funext fun i => ?_) (Cert.KernelIdeal.Bwd.final9 m c).symm
  exact (gateKAt_eq h1 h2 h3 h4 (i 0) (i 1)).symm

theorem up {c : Dev Cert.KernelIdeal.nD} (hp : Cert.Pre_finite.fn (F := Ideal) x0 x1 x2 x3 x4 = fun _ => 1#1)
    (h : Same m c x0 x1 x2 x3 x4) : (fun i => upRAt x0 x1 x2 x3 x4 (i 0) (i 1)) = (Cert.KernelIdeal.Gen.dats m 0 c).arrAt 10 Cert.KernelIdeal.cfg0.N := by
  obtain ⟨h1, h2, h3, h4⟩ := finite_iff _ _ _ _ _ hp
  obtain ⟨rfl, rfl, rfl, rfl, rfl⟩ := h
  refine Eq.trans (funext fun i => ?_) (Cert.KernelIdeal.Bwd.final10 m c).symm
  exact (upKAt_eq (i 0) (i 1)).symm

end Results

theorem algebraic : Cert.algebraic_KernelIdeal_ReferenceIdeal_pre_finite := by
  intro m g m' g' hpre hagree
  refine ⟨_, _, _, _, Cert.KernelIdeal.Value.run_blocks m g, ?_⟩
  refine θ_run_mono (Cert.ReferenceIdeal.Bwd.run m' g') fun r h c => ?_
  have e : Same m c _ _ _ _ _ := hagree c
  have hp := hpre c
  rw [← (hagree c).1, ← (hagree c).2.1, ← (hagree c).2.2.1, ← (hagree c).2.2.2.1, ← (hagree c).2.2.2.2] at hp
  exact ⟨(h c).1.trans (row hp e), (h c).2.1.trans (gain hp e), (h c).2.2.1.trans (gate hp e), (h c).2.2.2.1.trans (up hp e),
    (h c).2.2.2.2⟩

end Cert.Proof.Bwd

end
-- ==== Proof.FwdPay.lean ====
/-
  What the forward kernel leaves in its five arrays, block by block: the normalised rows, gate, up, the gated product and
  the block's result.
-/
module

public import proofs.«01_k».proof.Proof.Gen.Kernel2Ideal.Value
public import proofs.«01_k».proof.Proof.Spec

@[expose] public section

set_option maxRecDepth 16384

noncomputable section

open Idealize.ShloMosaic Idealize.ShloMosaic.TcCoe Idealize.SL.Sem
open Idealize.ShloMosaic.Pipeline (Dat)

namespace Cert.Kernel2Ideal.Fwd

open Cert.Kernel2Ideal Cert.Kernel2Ideal.Gen Cert.Spec

variable (m : (ℓ : Loc nD τ sig) → Buf (Elt Ideal) ℓ)

/-! ## Blocks -/

theorem idx_val : ∀ t : Fin cfg0.N, win0_0.index t = ![t.val, 0] ∧ win0_1.index t = ![0, 0] ∧ win0_2.index t = ![0, 0, 0]
    ∧ win0_3.index t = ![0, 0, 0] ∧ win0_4.index t = ![t.val, 0] ∧ win0_5.index t = ![t.val, 0] ∧ win0_6.index t = ![t.val, 0]
    ∧ win0_7.index t = ![t.val, 0] ∧ win0_8.index t = ![t.val, 0] :=
  (by decide +kernel : ∀ t : Fin grid0.N, _)

theorem final5 (c : Dev nD) : (dats m 0 c).arrAt 5 cfg0.N
    = normed (m ((c : Thread nD τ).loc main_arg0)) (m ((c : Thread nD τ).loc main_arg1)) := by
  refine (dats m 0 c).arrAt_eq_of_covers 5 _ (by decide +kernel) fun t hf y => ?_
  blk_simp
  rw [after0_5]
  frame_out
  pointwise [k0_pay2, normed, rms, scale, row, gain]
  blk_point [iblk, V, idx_val t]

theorem final6 (c : Dev nD) : (dats m 0 c).arrAt 6 cfg0.N
    = fun i => gateAt (m ((c : Thread nD τ).loc main_arg0)) (m ((c : Thread nD τ).loc main_arg1)) (m ((c : Thread nD τ).loc main_arg2)) (i 0) (i 1) := by
  refine (dats m 0 c).arrAt_eq_of_covers 6 _ (by decide +kernel) fun t hf y => ?_
  blk_simp
  rw [after0_6]
  unfold_out out0_6
  canon_tiles x h
  all_goals
    pointwise [k0_pay13, k0_pay11, k0_pay5, k0_pay3, k0_pay2, gateAt, proj, rms, scale, row, gain]
    blk_point [iblk, V, idx_val t]

theorem final7 (c : Dev nD) : (dats m 0 c).arrAt 7 cfg0.N
    = fun i => upAt (m ((c : Thread nD τ).loc main_arg0)) (m ((c : Thread nD τ).loc main_arg1)) (m ((c : Thread nD τ).loc main_arg2)) (i 0) (i 1) := by
  refine (dats m 0 c).arrAt_eq_of_covers 7 _ (by decide +kernel) fun t hf y => ?_
  blk_simp
  rw [after0_7]
  unfold_out out0_7
  canon_tiles x h
  all_goals
    pointwise [k0_pay14, k0_pay12, k0_pay6, k0_pay4, k0_pay2, upAt, proj, rms, scale, row, gain]
    blk_point [iblk, V, idx_val t]

theorem final8 (c : Dev nD) : (dats m 0 c).arrAt 8 cfg0.N
    = fun i => actAt (m ((c : Thread nD τ).loc main_arg0)) (m ((c : Thread nD τ).loc main_arg1)) (m ((c : Thread nD τ).loc main_arg2)) (i 0) (i 1) := by
  refine (dats m 0 c).arrAt_eq_of_covers 8 _ (by decide +kernel) fun t hf y => ?_
  blk_simp
  rw [after0_8]
  unfold_out out0_8
  canon_tiles x h
  all_goals
    pointwise [zero_sub, k0_pay15, k0_pay9, k0_pay8, k0_pay7, k0_pay12, k0_pay11, k0_pay4, k0_pay3, k0_pay2, actAt, gated, sigm, gateAt, upAt, proj, rms, scale, row, gain]
    blk_point [iblk, V, idx_val t]

theorem final4 (c : Dev nD) : (dats m 0 c).arrAt 4 cfg0.N
    = fun i => outAt (m ((c : Thread nD τ).loc main_arg0)) (m ((c : Thread nD τ).loc main_arg1)) (m ((c : Thread nD τ).loc main_arg2)) (m ((c : Thread nD τ).loc main_arg3)) (i 0) (i 1) := by
  refine (dats m 0 c).arrAt_eq_of_covers 4 _ (by decide +kernel) fun t hf y => ?_
  blk_simp
  rw [after0_4]
  unfold_out out0_4
  frame_out
  pointwise [zero_sub, k0_pay1, k0_pay10, k0_pay15, k0_pay9, k0_pay8, k0_pay7, k0_pay12, k0_pay11, k0_pay4, k0_pay3, k0_pay2, outAt, sum_halves, actAt, gated, sigm, gateAt, upAt, proj, rms, scale, row, gain]
  blk_point [iblk, V, idx_val t]

end Cert.Kernel2Ideal.Fwd

end
-- ==== Proof.FwdClaim.lean ====
/-
  The forward block's claim: each of the kernel's five arrays is the reference's.
-/
module

public import proofs.«01_k».proof.Defs
public import proofs.«01_k».proof.Proof.FwdPay
public import proofs.«01_k».proof.Proof.FwdRef
public import Idealize.ShloMosaic.Lib.Claim

@[expose] public section

set_option maxRecDepth 16384

noncomputable section

open Idealize.ShloMosaic Idealize.ShloMosaic.TcCoe Idealize.SL.Sem

namespace Cert.Proof.Fwd

open Cert.Spec

theorem algebraic : Cert.algebraic_Kernel2Ideal_Reference2Ideal := by
  pair_intro
  · run_from Cert.Kernel2Ideal.Gen.run_main m g
  · run_from Cert.Reference2Ideal.Value.run m' g'
    · rw [Cert.Kernel2Ideal.Fwd.final4]
      exact Cert.Reference2Ideal.Fwd.v24_eq _ _ _ _
    · rw [Cert.Kernel2Ideal.Fwd.final5]
      exact Cert.Reference2Ideal.Fwd.v11_eq _ _
    · rw [Cert.Kernel2Ideal.Fwd.final6]
      exact Cert.Reference2Ideal.Fwd.v15_eq _ _ _
    · rw [Cert.Kernel2Ideal.Fwd.final7]
      exact Cert.Reference2Ideal.Fwd.v16_eq _ _ _
    · rw [Cert.Kernel2Ideal.Fwd.final8]
      exact Cert.Reference2Ideal.Fwd.v18_eq _ _ _

end Cert.Proof.Fwd

end
-- ==== Proof.WDown.lean ====
/-
  The weight gradient of the down projection: the kernel's array after the run, the reference's result, and the
  claim that they agree.
-/
module

public import proofs.«01_k».proof.Defs
public import proofs.«01_k».proof.Proof.Gen.Kernel3Ideal.Value
public import proofs.«01_k».proof.Proof.Gen.Reference3Ideal.Read
public import proofs.«01_k».proof.Proof.Spec
public import Idealize.ShloMosaic.Lib.Claim
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Reference3Ideal.WDown

open Cert.Reference3Ideal Cert.Reference3Ideal.Gen Cert.Reference3Ideal.Read Cert.Spec

theorem act_eq (x0 x1 : FVec Ideal S8192x2816 .bf16) : val_main_v5 (F := Ideal) x0 x1 = fun i => gated (x0 i) (x1 i) := by
  funext i
  pointwise [val_main_v5, val_main_v4,
    val_main_call0_v5, val_main_call0_v4, val_main_call0_cst_0, val_main_call0_v3, val_main_call0_v2, val_main_call0_cst,
    val_main_call0_v1, val_main_call0_v0, val_main_v0, val_main_v1, gated, sigm]

theorem v13_eq (x0 x1 : FVec Ideal S8192x2816 .bf16) (x3 : FVec Ideal S8192x1024 .f32) :
    val_main_v13 (F := Ideal) x0 x1 x3 = fun i => wdownAt x0 x1 x3 (i 0) (i 1) := by
  funext i
  pointwise [val_main_v13, val_main_v12, val_main_v11, val_main_v10, val_main_v9, val_main_cst_0, act_eq, wdownAt, sum_half]

end Cert.Reference3Ideal.WDown

namespace Cert.Kernel3Ideal.WDown

open Cert.Kernel3Ideal Cert.Kernel3Ideal.Gen Cert.Spec

variable (m : (ℓ : Loc nD τ sig) → Buf (Elt Ideal) ℓ)

theorem idx : ∀ t : Fin cfg0.N, win0_0.index t = ![t.val % 8, t.val / 8] ∧ win0_1.index t = ![t.val % 8, 0]
    ∧ win0_2.index t = ![t.val / 8, 0] :=
  (by decide +kernel : ∀ t : Fin grid0.N, _)

/-- One block's share of the product: the sum over the block's tokens. -/
def part (v0 : Vec Ideal S1024x1408 .bf16) (v2 : Vec Ideal S1024x1024 .f32) (j : S1408x1024.Idx) : EReal :=
  ∑ k : Fin 1024, v0 (ix2 k (j 0)) * v2 (ix2 k (j 1))

theorem pay_reset (v0 : Vec Ideal S1024x1408 .bf16) (v2 : Vec Ideal S1024x1024 .f32) (j : S1408x1024.Idx) :
    k0_pay2 v0 v2 j = part v0 v2 j := by
  pointwise [k0_pay2, k0_pay1, part]

theorem pay_step (v0 : Vec Ideal S1024x1408 .bf16) (v2 : Vec Ideal S1024x1024 .f32) (acc : Vec Ideal S1408x1024 .f32)
    (j : S1408x1024.Idx) :
    k0_pay3 v0 v2 acc j = acc j + part v0 v2 j := by
  pointwise [k0_pay3, k0_pay1, part]

/-- The accumulator after the last point of a run holds the run's whole sum. -/
theorem acc_eq (c : Dev nD) (t : Fin cfg0.N) (hf : t.val % 8 = 8 - 1) (j : S1408x1024.Idx) :
    (outsAt0 m c t.val t.isLt).2 j
      = ∑ s : Fin 8, part (iblk m c 0 ⟨8 * (t.val / 8) + s.val, Pipeline.run_point_lt_of_flush t hf s⟩)
          (iblk m c 1 ⟨8 * (t.val / 8) + s.val, Pipeline.run_point_lt_of_flush t hf s⟩) j := by
  rw [Pipeline.eq_sum_fin_of_reset_step_apply_of_flush (fun n h => (outsAt0 m c n h).2) 8 (fun _ => (0 : EReal))
    (fun t j => part (iblk m c 0 t) (iblk m c 1 t) j)
    (fun t h j => by
      rw [outsAt0_A m c t h (by omega) (by omega)]
      frame_out
      rw [pay_reset, zero_add])
    (fun t h j => by
      by_cases h2 : t.val % 8 = 7
      · rw [outsAt0_C m c t h (by omega) h2]
        frame_out
        rw [pay_step, read_unread_whole]
      · rw [outsAt0_B m c t h (by omega) h2]
        frame_out
        rw [pay_step, read_unread_whole]) t hf j, zero_add]

/-- What a run's last point stores: the accumulator times one half. -/
theorem out_eq (c : Dev nD) (t : Fin cfg0.N) (hf : t.val % 8 = 7) :
    (outsAt0 m c t.val t.isLt).1 = k0_pay4 ((outsAt0 m c t.val t.isLt).2) := by
  rw [outsAt0_C m c t (by omega) (by omega) hf]
  frame_out

/-- The product's first operand, which the host computes: the gated product. -/
theorem V_act (c : Dev nD) : V m c main_v4
    = fun i => gated (m ((c : Thread nD τ).loc main_arg0) i) (m ((c : Thread nD τ).loc main_arg1) i) := by
  unfold V hostOps0 hostOps0_1 hostOps0_2
  simp only [List.flatten_cons, List.flatten_nil, List.cons_append, List.nil_append, List.append_nil]
  after_results
  exact Cert.Reference3Ideal.WDown.act_eq (m ((c : Thread nD τ).loc main_arg0)) (m ((c : Thread nD τ).loc main_arg1))

theorem iblk_act (c : Dev nD) (t : Fin cfg0.N) (x : S1024x1408.Idx) : iblk m c 0 t x
    = gated (m ((c : Thread nD τ).loc main_arg0) ((win0_0.blk t).view.emb x))
        (m ((c : Thread nD τ).loc main_arg1) ((win0_0.blk t).view.emb x)) := by
  show V m c main_v4 ((win0_0.blk t).view.emb x) = _
  rw [V_act]

theorem final2 (c : Dev nD) : (dats m 0 c).arrAt 2 cfg0.N
    = fun i => wdownAt (m ((c : Thread nD τ).loc main_arg0)) (m ((c : Thread nD τ).loc main_arg1)) (m ((c : Thread nD τ).loc main_arg3)) (i 0) (i 1) := by
  refine (dats m 0 c).arrAt_eq_of_covers 2 _ (by decide +kernel) fun t hf y => ?_
  blk_simp
  have hf' := (flush0_2 t).mp hf
  rw [after0_2, out_eq m c t hf']
  pointwise [k0_pay4, wdownAt]
  rw [acc_eq m c t hf']
  unfold lit part
  congr 1
  refine Fin.sum_mul_add_congr fun s k hl => ?_
  have hi := idx ⟨_, Pipeline.run_point_lt_of_flush t hf' s⟩
  rw [iblk_act]
  blk_point [iblk, V, hi, idx t]

end Cert.Kernel3Ideal.WDown

namespace Cert.Proof.WDown

theorem algebraic : Cert.algebraic_Kernel3Ideal_Reference3Ideal := by
  pair_intro
  · run_from Cert.Kernel3Ideal.Value.run_blocks m g
  · run_from Cert.Reference3Ideal.Value.run m' g'
    rw [Cert.Kernel3Ideal.WDown.final2]
    exact Cert.Reference3Ideal.WDown.v13_eq _ _ _

end Cert.Proof.WDown

end
-- ==== Proof.WGate.lean ====
/-
  The weight gradient of the gate projection: the kernel writes it into the first half of a new stack, which the host
  takes.
-/
module

public import proofs.«01_k».proof.Defs
public import proofs.«01_k».proof.Proof.Gen.Kernel4Ideal.Frame
public import proofs.«01_k».proof.Proof.Gen.Reference4Ideal.Read
public import proofs.«01_k».proof.Proof.Spec
public import Idealize.ShloMosaic.Lib.Claim
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Reference4Ideal.WGate

open Cert.Reference4Ideal Cert.Reference4Ideal.Gen Cert.Reference4Ideal.Read Cert.Spec

theorem v11_eq (x0 : FVec Ideal S8192x1024 .f32) (x1 : FVec Ideal S1x1024 .f32) :
    val_main_v11 (F := Ideal) x0 x1 = normed x0 x1 := by
  funext i
  pointwise [val_main_v11, val_main_v10, val_main_v9, val_main_v8, val_main_v7, val_main_v6, val_main_v5, val_main_cst_1,
    val_main_v4, val_main_v3, val_main_cst_0, val_main_v2, val_main_v1, val_main_cst, val_main_v0, normed, rms, scale, row, gain]

theorem v23_eq (x0 : FVec Ideal S8192x1024 .f32) (x1 : FVec Ideal S1x1024 .f32)
    (x3 : FVec Ideal S8192x2816 .bf16) : val_main_v23 (F := Ideal) x0 x1 x3
      = fun i => wprojAt x0 x1 x3 (i 1) (i 2) := by
  funext i
  pointwise [val_main_v23, val_main_v22, val_main_v21, val_main_v20, val_main_v19, val_main_v18, val_main_cst_2, val_main_v17,
    v11_eq, wprojAt]
  refine Fin.sum_fin_congr fun t => ?_
  rw [mul_comm]

end Cert.Reference4Ideal.WGate

namespace Cert.Kernel4Ideal.WGate

open Cert.Kernel4Ideal Cert.Kernel4Ideal.Gen Cert.Spec

variable (m : (ℓ : Loc nD τ sig) → Buf (Elt Ideal) ℓ)

theorem idx : ∀ t : Fin cfg0.N, win0_0.index t = ![t.val % 4, 0] ∧ win0_1.index t = ![t.val % 4, t.val / 4]
    ∧ win0_2.index t = ![0, 0, t.val / 4] :=
  (by decide +kernel : ∀ t : Fin grid0.N, _)

/-- One block's share of the product: the sum over the block's tokens. -/
def part (v0 : Vec Ideal S2048x1024 .bf16) (v2 : Vec Ideal S2048x1408 .bf16) (a : Fin 1024) (b : Fin 1408) : EReal :=
  ∑ k : Fin 2048, v0 (ix2 k a) * v2 (ix2 k b)

theorem pay_reset (v0 : Vec Ideal S2048x1024 .bf16) (v2 : Vec Ideal S2048x1408 .bf16) (j : S1024x1408.Idx) :
    k0_pay2 v0 v2 j = part v0 v2 (j 0) (j 1) := by
  pointwise [k0_pay2, k0_pay1, part]

theorem pay_step (v0 : Vec Ideal S2048x1024 .bf16) (v2 : Vec Ideal S2048x1408 .bf16) (acc : Vec Ideal S1024x1408 .f32)
    (j : S1024x1408.Idx) : k0_pay3 v0 v2 acc j = acc j + part v0 v2 (j 0) (j 1) := by
  pointwise [k0_pay3, k0_pay1, part]

/-- The accumulator after the last point of a run holds the run's whole sum. -/
theorem acc_eq (c : Dev nD) (t : Fin cfg0.N) (hf : t.val % 4 = 4 - 1) (j : S1024x1408.Idx) :
    (outsAt0 m c t.val t.isLt).2 j
      = ∑ s : Fin 4, part (iblk m c 0 ⟨4 * (t.val / 4) + s.val, Pipeline.run_point_lt_of_flush t hf s⟩)
          (iblk m c 1 ⟨4 * (t.val / 4) + s.val, Pipeline.run_point_lt_of_flush t hf s⟩) (j 0) (j 1) := by
  rw [Pipeline.eq_sum_fin_of_reset_step_apply_of_flush (fun n h => (outsAt0 m c n h).2) 4 (fun _ => (0 : EReal))
    (fun t j => part (iblk m c 0 t) (iblk m c 1 t) (j 0) (j 1))
    (fun t h j => by
      rw [outsAt0_A m c t h (by omega) (by omega)]
      frame_out
      rw [pay_reset, zero_add])
    (fun t h j => by
      by_cases h2 : t.val % 4 = 3
      · rw [outsAt0_C m c t h (by omega) h2]
        frame_out
        rw [pay_step, read_unread_whole]
      · rw [outsAt0_B m c t h (by omega) h2]
        frame_out
        rw [pay_step, read_unread_whole]) t hf j, zero_add]

theorem acc_ix (c : Dev nD) (t : Fin cfg0.N) (hf : t.val % 4 = 4 - 1) (a : Fin 1024) (b : Fin 1408) :
    (outsAt0 m c t.val t.isLt).2 (ix2 a b)
      = ∑ s : Fin 4, part (iblk m c 0 ⟨4 * (t.val / 4) + s.val, Pipeline.run_point_lt_of_flush t hf s⟩)
          (iblk m c 1 ⟨4 * (t.val / 4) + s.val, Pipeline.run_point_lt_of_flush t hf s⟩) a b :=
  acc_eq m c t hf (ix2 a b)

/-- What a run's last point stores: the accumulator, times one. -/
theorem out_eq (c : Dev nD) (t : Fin cfg0.N) (hf : t.val % 4 = 3) :
    (outsAt0 m c t.val t.isLt).1 = k0_pay4 ((outsAt0 m c t.val t.isLt).2) := by
  rw [outsAt0_C m c t (by omega) (by omega) hf]
  frame_out

/-- The product's first operand, which the host computes: the normalised hidden states. -/
theorem V_normed (c : Dev nD) : V m c main_v12
    = normed (m ((c : Thread nD τ).loc main_arg0)) (m ((c : Thread nD τ).loc main_arg1)) := by
  unfold V V0 hostOps0
  after_results
  exact Cert.Reference4Ideal.WGate.v11_eq (m ((c : Thread nD τ).loc main_arg0)) (m ((c : Thread nD τ).loc main_arg1))

theorem iblk_normed (c : Dev nD) (t : Fin cfg0.N) (x : S2048x1024.Idx) : iblk m c 0 t x
    = normed (m ((c : Thread nD τ).loc main_arg0)) (m ((c : Thread nD τ).loc main_arg1)) ((win0_0.blk t).view.emb x) := by
  show V m c main_v12 ((win0_0.blk t).view.emb x) = _
  rw [V_normed]

theorem final2 (c : Dev nD) : (dats m 0 c).arrAt 2 cfg0.N
    = fun i => if (i 2 : ℕ) / 1408 < 2 then (if hi : (i 2 : ℕ) < 2816 then wprojAt (m ((c : Thread nD τ).loc main_arg0))
        (m ((c : Thread nD τ).loc main_arg1)) (m ((c : Thread nD τ).loc main_arg3)) (i 1) ⟨(i 2 : ℕ), hi⟩ else 0)
      else V m c main_v13 i := by
  refine (dats m 0 c).arrAt_eq_of_coversWhere 2 _ (fun β => β (2 : Fin _) < 2) (by decide +kernel) (fun t hf y => ?_) (fun j => Iff.rfl)
  blk_simp
  have hf' := (flush0_2 t).mp hf
  rw [after0_2, out_eq m c t hf']
  pointwise [k0_pay4, wprojAt]
  have ht : t.val < 8 := lt_of_lt_of_eq t.isLt N_0
  have hy : (y 2).val < 1408 := (y 2).isLt
  have h2 : win0_2.index t 2 = t.val / 4 := by rw [(idx t).2.2]; rfl
  rw [dif_pos (show win0_2.index t 2 * 1408 + (y 2).val < 2816 by rw [h2]; omega)]
  refine (acc_ix m c t hf' _ _).trans ?_
  unfold part
  refine Fin.sum_mul_add_congr fun s k hl => ?_
  have hi := idx ⟨_, Pipeline.run_point_lt_of_flush t hf' s⟩
  rw [iblk_normed]
  refine congr (congrArg HMul.hMul (congrArg (normed _ _) ?_)) ?_
  · blk_ext [hi, idx t]
  · blk_ext [iblk, V, hi, idx t]

/-- The half that the host takes. -/
theorem half_eq (c : Dev nD) : extractStridedSlice S1x1024x2816 ![0, 0, 0] ((dats m 0 c).arrAt 2 cfg0.N) slices_S1x1024x5632_S1x1024x2816_0_0_0
    = fun i => wprojAt (m ((c : Thread nD τ).loc main_arg0)) (m ((c : Thread nD τ).loc main_arg1))
        (m ((c : Thread nD τ).loc main_arg3)) (i 1) (i 2) := by
  rw [final2]
  funext i
  pointwise []
  have h2 : (i 2).val < 2816 := (i 2).isLt
  split
  · rfl
  · omega

/-- What the host's slice after the region leaves in the result's buffer. -/
theorem tail_result (c : Dev nD) : Pipeline.afterTail₀ cfgs (dats m) 0 (V0 m) [hostOps1] c main_v14
    = extractStridedSlice S1x1024x2816 ![0, 0, 0] ((dats m 0 c).arrAt 2 cfg0.N) slices_S1x1024x5632_S1x1024x2816_0_0_0 := by
  unfold Pipeline.afterTail₀ hostOps1
  simp only [List.flatten_cons, List.flatten_nil, List.append_nil]
  after_results
  exact congrArg (fun A => extractStridedSlice S1x1024x2816 ![0, 0, 0] A slices_S1x1024x5632_S1x1024x2816_0_0_0)
    (Pipeline.withArrays_arr spec0 (by decide) c (V0 m c) (fun w => (dats m 0 c).arrAt w cfg0.N) 2)

/-- The run with the result's buffer named and the arguments as launched. -/
theorem run_named (g : Dev nD → PrngReg) : θ_run defs (onTc (τ := τ) (main (F := Ideal))) ⟨m, fun _ => 0, g⟩ fun r => ∀ c : Dev nD,
      r.2.mem ((c : Thread nD τ).loc main_v14)
        = extractStridedSlice S1x1024x2816 ![0, 0, 0] ((dats m 0 c).arrAt 2 cfg0.N) slices_S1x1024x5632_S1x1024x2816_0_0_0
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run_and (run_main m g) (unchanged m g)) |> fun k => (θ_run defs _ _).mono (fun r h c =>
    ⟨((h.1 c).2 main_v14 (Pipeline.mem_restRefs_of main_v14 (by decide) (by decide))).trans (tail_result m c), h.2 c⟩) k

end Cert.Kernel4Ideal.WGate

namespace Cert.Proof.WGate

theorem algebraic : Cert.algebraic_Kernel4Ideal_Reference4Ideal := by
  pair_intro
  · run_from Cert.Kernel4Ideal.WGate.run_named m g
  · run_from Cert.Reference4Ideal.Value.run m' g'
    rw [Cert.Kernel4Ideal.WGate.half_eq]
    exact Cert.Reference4Ideal.WGate.v23_eq _ _ _

end Cert.Proof.WGate

end
-- ==== Proof.WUp.lean ====
/-
  The weight gradient of the up projection: the kernel writes it into the second half of the stack whose first half
  holds the gate's gradient already.
-/
module

public import proofs.«01_k».proof.Defs
public import proofs.«01_k».proof.Proof.Gen.Kernel5Ideal.Value
public import proofs.«01_k».proof.Proof.Gen.Reference5Ideal.Read
public import proofs.«01_k».proof.Proof.Spec
public import Idealize.ShloMosaic.Lib.Claim
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Reference5Ideal.WUp

open Cert.Reference5Ideal Cert.Reference5Ideal.Gen Cert.Reference5Ideal.Read Cert.Spec

theorem v11_eq (x0 : FVec Ideal S8192x1024 .f32) (x1 : FVec Ideal S1x1024 .f32) :
    val_main_v11 (F := Ideal) x0 x1 = normed x0 x1 := by
  funext i
  pointwise [val_main_v11, val_main_v10, val_main_v9, val_main_v8, val_main_v7, val_main_v6, val_main_v5, val_main_cst_1,
    val_main_v4, val_main_v3, val_main_cst_0, val_main_v2, val_main_v1, val_main_cst, val_main_v0, normed, rms, scale, row, gain]

/-- The stack after the call: the argument's first half, the up projection's gradient in the second. -/
def stack (h : SX.Idx → EReal) (g : SG.Idx → EReal) (half : SWU.Idx → EReal) (d : SF.Idx → EReal) (i : SWU.Idx) : EReal :=
  if hi : 2816 ≤ (i 2).val then wprojAt h g d (i 1) ⟨(i 2).val - 2816, by have : (i 2).val < 5632 := (i 2).isLt; omega⟩ else half i

theorem v25_eq (x0 : FVec Ideal S8192x1024 .f32) (x1 : FVec Ideal S1x1024 .f32) (x3 : FVec Ideal S1x1024x5632 .bf16)
    (x4 : FVec Ideal S8192x2816 .bf16) : val_main_v25 (F := Ideal) x0 x1 x3 x4 = stack x0 x1 x3 x4 := by
  funext i
  pointwise [val_main_v25, val_main_v24, val_main_v23, val_main_v22, val_main_v21, val_main_v20, val_main_v19, val_main_v18,
    val_main_cst_2, val_main_v17, v11_eq, stack, wprojAt]
  have h2 : (i 2).val < 5632 := (i 2).isLt
  split_ifs
  · omega
  · exact congrArg x3 (by blk_ext)
  · split
    · refine Fin.sum_fin_congr fun t => ?_
      rw [mul_comm]
    · omega
  all_goals omega

end Cert.Reference5Ideal.WUp

namespace Cert.Kernel5Ideal.WUp

open Cert.Kernel5Ideal Cert.Kernel5Ideal.Gen Cert.Spec

variable (m : (ℓ : Loc nD τ sig) → Buf (Elt Ideal) ℓ)

theorem idx : ∀ t : Fin cfg0.N, win0_0.index t = ![t.val % 4, 0] ∧ win0_1.index t = ![t.val % 4, t.val / 4]
    ∧ win0_2.index t = ![0, 0, 2 + t.val / 4] :=
  (by decide +kernel : ∀ t : Fin grid0.N, _)

/-- One block's share of the product: the sum over the block's tokens. -/
def part (v0 : Vec Ideal S2048x1024 .bf16) (v2 : Vec Ideal S2048x1408 .bf16) (a : Fin 1024) (b : Fin 1408) : EReal :=
  ∑ k : Fin 2048, v0 (ix2 k a) * v2 (ix2 k b)

theorem pay_reset (v0 : Vec Ideal S2048x1024 .bf16) (v2 : Vec Ideal S2048x1408 .bf16) (j : S1024x1408.Idx) :
    k0_pay2 v0 v2 j = part v0 v2 (j 0) (j 1) := by
  pointwise [k0_pay2, k0_pay1, part]

theorem pay_step (v0 : Vec Ideal S2048x1024 .bf16) (v2 : Vec Ideal S2048x1408 .bf16) (acc : Vec Ideal S1024x1408 .f32)
    (j : S1024x1408.Idx) : k0_pay3 v0 v2 acc j = acc j + part v0 v2 (j 0) (j 1) := by
  pointwise [k0_pay3, k0_pay1, part]

/-- The accumulator after the last point of a run holds the run's whole sum. -/
theorem acc_eq (c : Dev nD) (t : Fin cfg0.N) (hf : t.val % 4 = 4 - 1) (j : S1024x1408.Idx) :
    (outsAt0 m c t.val t.isLt).2 j
      = ∑ s : Fin 4, part (iblk m c 0 ⟨4 * (t.val / 4) + s.val, Pipeline.run_point_lt_of_flush t hf s⟩)
          (iblk m c 1 ⟨4 * (t.val / 4) + s.val, Pipeline.run_point_lt_of_flush t hf s⟩) (j 0) (j 1) := by
  rw [Pipeline.eq_sum_fin_of_reset_step_apply_of_flush (fun n h => (outsAt0 m c n h).2) 4 (fun _ => (0 : EReal))
    (fun t j => part (iblk m c 0 t) (iblk m c 1 t) (j 0) (j 1))
    (fun t h j => by
      rw [outsAt0_A m c t h (by omega) (by omega)]
      frame_out
      rw [pay_reset, zero_add])
    (fun t h j => by
      by_cases h2 : t.val % 4 = 3
      · rw [outsAt0_C m c t h (by omega) h2]
        frame_out
        rw [pay_step, read_unread_whole]
      · rw [outsAt0_B m c t h (by omega) h2]
        frame_out
        rw [pay_step, read_unread_whole]) t hf j, zero_add]

theorem acc_ix (c : Dev nD) (t : Fin cfg0.N) (hf : t.val % 4 = 4 - 1) (a : Fin 1024) (b : Fin 1408) :
    (outsAt0 m c t.val t.isLt).2 (ix2 a b)
      = ∑ s : Fin 4, part (iblk m c 0 ⟨4 * (t.val / 4) + s.val, Pipeline.run_point_lt_of_flush t hf s⟩)
          (iblk m c 1 ⟨4 * (t.val / 4) + s.val, Pipeline.run_point_lt_of_flush t hf s⟩) a b :=
  acc_eq m c t hf (ix2 a b)

/-- What a run's last point stores: the accumulator, times one. -/
theorem out_eq (c : Dev nD) (t : Fin cfg0.N) (hf : t.val % 4 = 3) :
    (outsAt0 m c t.val t.isLt).1 = k0_pay4 ((outsAt0 m c t.val t.isLt).2) := by
  rw [outsAt0_C m c t (by omega) (by omega) hf]
  frame_out

/-- The product's first operand, which the host computes: the normalised hidden states. -/
theorem V_normed (c : Dev nD) : V m c main_v12
    = normed (m ((c : Thread nD τ).loc main_arg0)) (m ((c : Thread nD τ).loc main_arg1)) := by
  unfold V hostOps0
  after_results
  exact Cert.Reference5Ideal.WUp.v11_eq (m ((c : Thread nD τ).loc main_arg0)) (m ((c : Thread nD τ).loc main_arg1))

theorem iblk_normed (c : Dev nD) (t : Fin cfg0.N) (x : S2048x1024.Idx) : iblk m c 0 t x
    = normed (m ((c : Thread nD τ).loc main_arg0)) (m ((c : Thread nD τ).loc main_arg1)) ((win0_0.blk t).view.emb x) := by
  show V m c main_v12 ((win0_0.blk t).view.emb x) = _
  rw [V_normed]

theorem final2 (c : Dev nD) : (dats m 0 c).arrAt 2 cfg0.N
    = fun i => if 2 ≤ (i 2 : ℕ) / 1408 then Cert.Reference5Ideal.WUp.stack (m ((c : Thread nD τ).loc main_arg0))
        (m ((c : Thread nD τ).loc main_arg1)) (m ((c : Thread nD τ).loc main_arg3)) (m ((c : Thread nD τ).loc main_arg4)) i
      else V m c main_v13 i := by
  refine (dats m 0 c).arrAt_eq_of_coversWhere 2 _ (fun β => 2 ≤ β (2 : Fin _)) (by decide +kernel) (fun t hf y => ?_) (fun j => Iff.rfl)
  blk_simp
  have hf' := (flush0_2 t).mp hf
  rw [after0_2, out_eq m c t hf']
  pointwise [k0_pay4, Cert.Reference5Ideal.WUp.stack, wprojAt]
  have hge : 2816 ≤ (((View.whole main_v13).slice (win0_2.rect t)).emb y 2).val := by
    blk_simp [idx t]
    omega
  rw [dif_pos hge]
  refine (acc_ix m c t hf' _ _).trans ?_
  unfold part
  refine Fin.sum_mul_add_congr fun s k hl => ?_
  have hi := idx ⟨_, Pipeline.run_point_lt_of_flush t hf' s⟩
  rw [iblk_normed]
  refine congr (congrArg HMul.hMul (congrArg (normed _ _) ?_)) ?_
  · blk_ext [hi, idx t]
  · blk_ext [iblk, V, hi, idx t]

/-- The stack's buffer at the region's entry holds the argument. -/
theorem V_half (c : Dev nD) : V m c main_v13 = m ((c : Thread nD τ).loc main_arg3) := by
  unfold V hostOps0
  after_results
  rfl

theorem final2_stack (c : Dev nD) : (dats m 0 c).arrAt 2 cfg0.N
    = Cert.Reference5Ideal.WUp.stack (m ((c : Thread nD τ).loc main_arg0))
        (m ((c : Thread nD τ).loc main_arg1)) (m ((c : Thread nD τ).loc main_arg3)) (m ((c : Thread nD τ).loc main_arg4)) := by
  rw [final2]
  funext i
  split_ifs with h
  · rfl
  · rw [V_half]
    unfold Cert.Reference5Ideal.WUp.stack
    rw [dif_neg (by omega)]

end Cert.Kernel5Ideal.WUp

namespace Cert.Proof.WUp

theorem algebraic : Cert.algebraic_Kernel5Ideal_Reference5Ideal := by
  pair_intro
  · run_from Cert.Kernel5Ideal.Value.run_blocks m g
  · run_from Cert.Reference5Ideal.Value.run m' g'
    rw [Cert.Kernel5Ideal.WUp.final2_stack]
    refine (Cert.Reference5Ideal.WUp.v25_eq (m ((c.tc : Thread _ _).loc Cert.Kernel5Ideal.main_arg0))
      (m ((c.tc : Thread _ _).loc Cert.Kernel5Ideal.main_arg1)) (m' ((c.tc : Thread _ _).loc Cert.Reference5Ideal.main_arg3))
      (m' ((c.tc : Thread _ _).loc Cert.Reference5Ideal.main_arg4))).trans ?_
    rw [(hagree c).2.2.2.1, (hagree c).2.2.2.2]

end Cert.Proof.WUp

end
-- ==== Proof.XaSpec.lean ====
/-
  The mathematics of the backward pass of the attention to the memory, one token and one head at a time, on extended
  reals: scores, the softmax and the gradients, in the kernel's form and in the derivative's.
-/
module

public import proofs.«01_k».proof.Proof.Spec

@[expose] public section

noncomputable section

namespace Cert.Spec.Xa

open Idealize.ShloMosaic Cert.Spec

/-! ## One token and one head: `q` the query, `k` and `v` the memory's 256 keys and values, `g` the cotangent -/

/-- The scaled score of a key. -/
def score (q : Fin 256 → EReal) (k : Fin 256 → Fin 256 → EReal) (s : Fin 256) : EReal := (∑ d, q d * k s d) * lit 0x3D800000#32
/-- The largest score. -/
def top (q : Fin 256 → EReal) (k : Fin 256 → Fin 256 → EReal) : EReal := Finset.fold max (lit 0xFF800000#32) (score q k) Finset.univ
/-- The exponential of a score less the largest. -/
def ex (q : Fin 256 → EReal) (k : Fin 256 → Fin 256 → EReal) (s : Fin 256) : EReal := Ideal.exp (score q k s - top q k)
/-- The sum of the exponentials. -/
def mass (q : Fin 256 → EReal) (k : Fin 256 → Fin 256 → EReal) : EReal := ∑ s, ex q k s
/-- The gradient of a probability. -/
def dprob (g : Fin 256 → EReal) (v : Fin 256 → Fin 256 → EReal) (s : Fin 256) : EReal := ∑ d, g d * v s d

/-- A probability as the kernel forms it: times the reciprocal. -/
def probK (q : Fin 256 → EReal) (k : Fin 256 → Fin 256 → EReal) (s : Fin 256) : EReal := ex q k s * Ideal.div 1 (mass q k)
/-- A probability as the forward lines form it: a quotient. -/
def probR (q : Fin 256 → EReal) (k : Fin 256 → Fin 256 → EReal) (s : Fin 256) : EReal := Ideal.div (ex q k s) (mass q k)

/-- The unscaled gradient of a score in the kernel. -/
def dscK (q : Fin 256 → EReal) (k v : Fin 256 → Fin 256 → EReal) (g : Fin 256 → EReal) (s : Fin 256) : EReal :=
  probK q k s * (dprob g v s - ∑ s', probK q k s' * dprob g v s')
/-- The gradient of a score, scaled, as the derivative of the forward lines forms it. -/
def dscR (q : Fin 256 → EReal) (k v : Fin 256 → Fin 256 → EReal) (g : Fin 256 → EReal) (s : Fin 256) : EReal :=
  (Ideal.div (dprob g v s) (mass q k) + -(∑ s', dprob g v s' * Ideal.div 1 (mass q k * mass q k) * ex q k s')) * ex q k s
    * lit 0x3D800000#32

/-! ## Columns of the four heads -/

/-- The column at place `d` of the head that column `j` lies in. -/
def hcol (j : Fin 1024) (d : Fin 256) : Fin 1024 := ⟨j.val / 256 * 256 + d.val, by omega⟩
/-- The part of a row in the head that column `j` lies in. -/
def head (f : Fin 1024 → EReal) (j : Fin 1024) (d : Fin 256) : EReal := f (hcol j d)

theorem head_at (f : Fin 1024 → EReal) (o : ℕ) (ho : o % 256 = 0) (d : Fin 256) (h : o + d.val < 1024) (h' : o + 256 ≤ 1024) :
    head f ⟨o + d.val, h⟩ = fun d' => f ⟨o + d'.val, by omega⟩ := by
  funext d'
  unfold head hcol
  congr 1
  apply Fin.ext
  show (o + d.val) / 256 * 256 + d'.val = o + d'.val
  omega

/-- A token's gradient of a query's column in the kernel. -/
def dqK (q : Fin 1024 → EReal) (k v : Fin 256 → Fin 1024 → EReal) (g : Fin 1024 → EReal) (j : Fin 1024) : EReal :=
  (∑ s, dscK (head q j) (fun s => head (k s) j) (fun s => head (v s) j) (head g j) s * k s j) * lit 0x3D800000#32
/-- A token's gradient of a query's column in the derivative. -/
def dqR (q : Fin 1024 → EReal) (k v : Fin 256 → Fin 1024 → EReal) (g : Fin 1024 → EReal) (j : Fin 1024) : EReal :=
  ∑ s, dscR (head q j) (fun s => head (k s) j) (fun s => head (v s) j) (head g j) s * k s j
/-- A token's unscaled share of the gradient of a key's column in the kernel. -/
def dkK (q : Fin 1024 → EReal) (k v : Fin 256 → Fin 1024 → EReal) (g : Fin 1024 → EReal) (s : Fin 256) (j : Fin 1024) : EReal :=
  dscK (head q j) (fun s => head (k s) j) (fun s => head (v s) j) (head g j) s * q j
/-- A token's share of the gradient of a key's column in the derivative. -/
def dkR (q : Fin 1024 → EReal) (k v : Fin 256 → Fin 1024 → EReal) (g : Fin 1024 → EReal) (s : Fin 256) (j : Fin 1024) : EReal :=
  dscR (head q j) (fun s => head (k s) j) (fun s => head (v s) j) (head g j) s * q j
/-- A token's share of the gradient of a value's column in the kernel. -/
def dvK (q : Fin 1024 → EReal) (k : Fin 256 → Fin 1024 → EReal) (g : Fin 1024 → EReal) (s : Fin 256) (j : Fin 1024) : EReal :=
  probK (head q j) (fun s => head (k s) j) s * g j
/-- A token's share of the gradient of a value's column in the derivative. -/
def dvR (q : Fin 1024 → EReal) (k : Fin 256 → Fin 1024 → EReal) (g : Fin 1024 → EReal) (s : Fin 256) (j : Fin 1024) : EReal :=
  g j * probR (head q j) (fun s => head (k s) j) s

/-! ## The whole arrays -/

abbrev SM : Shape := ⟨2, ![256, 2048]⟩

/-- The memory's keys: the first 1024 columns. -/
def keys (kv : SM.Idx → EReal) (s : Fin 256) (j : Fin 1024) : EReal := kv (ix2 s ⟨j.val, by omega⟩)
/-- The memory's values: the last 1024 columns. -/
def vals (kv : SM.Idx → EReal) (s : Fin 256) (j : Fin 1024) : EReal := kv (ix2 s ⟨1024 + j.val, by omega⟩)

/-- Token `a` of block `n` of 512. -/
def tokOf (n : Fin 16) (a : Fin 512) : Fin 8192 := ⟨512 * n.val + a.val, by omega⟩

/-- The queries' gradient in the kernel. -/
def dqKAt (q : SX.Idx → EReal) (kv : SM.Idx → EReal) (g : SX.Idx → EReal) (t : Fin 8192) (j : Fin 1024) : EReal :=
  dqK (row q t) (keys kv) (vals kv) (row g t) j
/-- The queries' gradient in the derivative. -/
def dqRAt (q : SX.Idx → EReal) (kv : SM.Idx → EReal) (g : SX.Idx → EReal) (t : Fin 8192) (j : Fin 1024) : EReal :=
  dqR (row q t) (keys kv) (vals kv) (row g t) j
/-- A block's share of the gradients of keys and values in the kernel. -/
def shareKAt (q : SX.Idx → EReal) (kv : SM.Idx → EReal) (g : SX.Idx → EReal) (n : Fin 16) (s : Fin 256) (j : Fin 2048) : EReal :=
  if h : j.val < 1024 then
    (∑ a : Fin 512, dkK (row q (tokOf n a)) (keys kv) (vals kv) (row g (tokOf n a)) s ⟨j.val, h⟩) * lit 0x3D800000#32
  else ∑ a : Fin 512, dvK (row q (tokOf n a)) (keys kv) (row g (tokOf n a)) s ⟨j.val - 1024, by omega⟩
/-- The gradients of keys and values, side by side, in the kernel. -/
def dkvKAt (q : SX.Idx → EReal) (kv : SM.Idx → EReal) (g : SX.Idx → EReal) (s : Fin 256) (j : Fin 2048) : EReal :=
  ∑ n : Fin 16, shareKAt q kv g n s j
/-- The gradients of keys and values, side by side, in the derivative. -/
def dkvRAt (q : SX.Idx → EReal) (kv : SM.Idx → EReal) (g : SX.Idx → EReal) (s : Fin 256) (j : Fin 2048) : EReal :=
  if h : j.val < 1024 then ∑ t : Fin 8192, dkR (row q t) (keys kv) (vals kv) (row g t) s ⟨j.val, h⟩
  else ∑ t : Fin 8192, dvR (row q t) (keys kv) (row g t) s ⟨j.val - 1024, by omega⟩

end Cert.Spec.Xa

end
-- ==== Proof.XaPay.lean ====
/-
  What the attention's backward kernel leaves in its two arrays: the queries' gradient block by block, and the gradients
  of keys and values summed over the blocks.
-/
module

public import proofs.«01_k».proof.Proof.Gen.Kernel6Ideal.Value
public import proofs.«01_k».proof.Proof.XaSpec
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel6Ideal.Xa

open Cert.Kernel6Ideal Cert.Kernel6Ideal.Gen Cert.Spec Cert.Spec.Xa

/-! ## One head of one block: the kernel's expressions -/

section Head

variable (q g : Vec Ideal S512x256 .bf16) (k v : Vec Ideal S256x256 .bf16) (p : Vec Ideal S256x256 .f32)

abbrev rowH (x : Vec Ideal S512x256 .bf16) (a : Fin 512) (d : Fin 256) : EReal := x (ix2 a d)
abbrev matH (x : Vec Ideal S256x256 .bf16) (s d : Fin 256) : EReal := x (ix2 s d)

theorem dq0 (i : S512x256.Idx) : k0_pay5 (F := Ideal) q k v g i
    = (∑ s, dscK (rowH q (i 0)) (matH k) (matH v) (rowH g (i 0)) s * k (ix2 s (i 1))) * lit 0x3D800000#32 := by
  pointwise [k0_pay5, k0_pay4, k0_pay3, dscK, probK, dprob, mass, ex, top, score]
theorem dq1 (i : S512x256.Idx) : k0_pay12 (F := Ideal) k (k0_pay8 q k) (k0_pay9 v g) (k0_pay10 q k v g) i
    = (∑ s, dscK (rowH q (i 0)) (matH k) (matH v) (rowH g (i 0)) s * k (ix2 s (i 1))) * lit 0x3D800000#32 := by
  pointwise [k0_pay12, k0_pay11, k0_pay10, k0_pay9, k0_pay8, dscK, probK, dprob, mass, ex, top, score]
theorem dq2 (i : S512x256.Idx) : k0_pay19 (F := Ideal) k v g (k0_pay15 q k) (k0_pay16 q k) i
    = (∑ s, dscK (rowH q (i 0)) (matH k) (matH v) (rowH g (i 0)) s * k (ix2 s (i 1))) * lit 0x3D800000#32 := by
  pointwise [k0_pay19, k0_pay18, k0_pay17, k0_pay16, k0_pay15, dscK, probK, dprob, mass, ex, top, score]
theorem dq3 (i : S512x256.Idx) : k0_pay24 (F := Ideal) q k v g i
    = (∑ s, dscK (rowH q (i 0)) (matH k) (matH v) (rowH g (i 0)) s * k (ix2 s (i 1))) * lit 0x3D800000#32 := by
  pointwise [k0_pay24, k0_pay23, k0_pay22, dscK, probK, dprob, mass, ex, top, score]

theorem dk0 (i : S256x256.Idx) : k0_pay6 (F := Ideal) q (k0_pay4 q k v g) p i
    = p i + (∑ a : Fin 512, dscK (rowH q a) (matH k) (matH v) (rowH g a) (i 0) * q (ix2 a (i 1))) * lit 0x3D800000#32 := by
  pointwise [k0_pay6, k0_pay4, k0_pay3, dscK, probK, dprob, mass, ex, top, score]
theorem dk1 (i : S256x256.Idx) : k0_pay13 (F := Ideal) q (k0_pay8 q k) (k0_pay9 v g) (k0_pay10 q k v g) p i
    = p i + (∑ a : Fin 512, dscK (rowH q a) (matH k) (matH v) (rowH g a) (i 0) * q (ix2 a (i 1))) * lit 0x3D800000#32 := by
  pointwise [k0_pay13, k0_pay11, k0_pay10, k0_pay9, k0_pay8, dscK, probK, dprob, mass, ex, top, score]
theorem dk2 (i : S256x256.Idx) : k0_pay20 (F := Ideal) q v g (k0_pay15 q k) (k0_pay16 q k) p i
    = p i + (∑ a : Fin 512, dscK (rowH q a) (matH k) (matH v) (rowH g a) (i 0) * q (ix2 a (i 1))) * lit 0x3D800000#32 := by
  pointwise [k0_pay20, k0_pay18, k0_pay17, k0_pay16, k0_pay15, dscK, probK, dprob, mass, ex, top, score]
theorem dk3 (i : S256x256.Idx) : k0_pay25 (F := Ideal) q k v g p i
    = p i + (∑ a : Fin 512, dscK (rowH q a) (matH k) (matH v) (rowH g a) (i 0) * q (ix2 a (i 1))) * lit 0x3D800000#32 := by
  pointwise [k0_pay25, k0_pay23, k0_pay22, dscK, probK, dprob, mass, ex, top, score]

theorem dv0 (i : S256x256.Idx) : k0_pay7 (F := Ideal) g (k0_pay3 q k) p i
    = p i + ∑ a : Fin 512, probK (rowH q a) (matH k) (i 0) * g (ix2 a (i 1)) := by
  pointwise [k0_pay7, k0_pay3, probK, mass, ex, top, score]
theorem dv1 (i : S256x256.Idx) : k0_pay14 (F := Ideal) g (k0_pay8 q k) p i
    = p i + ∑ a : Fin 512, probK (rowH q a) (matH k) (i 0) * g (ix2 a (i 1)) := by
  pointwise [k0_pay14, k0_pay8, probK, mass, ex, top, score]
theorem dv2 (i : S256x256.Idx) : k0_pay21 (F := Ideal) g (k0_pay15 q k) (k0_pay16 q k) p i
    = p i + ∑ a : Fin 512, probK (rowH q a) (matH k) (i 0) * g (ix2 a (i 1)) := by
  pointwise [k0_pay21, k0_pay17, k0_pay16, k0_pay15, probK, mass, ex, top, score]
theorem dv3 (i : S256x256.Idx) : k0_pay1 (F := Ideal) g (k0_pay22 q k) p i
    = p i + ∑ a : Fin 512, probK (rowH q a) (matH k) (i 0) * g (ix2 a (i 1)) := by
  pointwise [k0_pay1, k0_pay22, probK, mass, ex, top, score]

end Head

/-! ## One block of 512 tokens -/

section Block

variable (x0 : Vec Ideal S512x1024 .bf16) (x1 x2 : Vec Ideal S256x1024 .bf16) (x3 : Vec Ideal S512x1024 .bf16)
  (p : Vec Ideal S256x2048 .f32)

abbrev rowB (x : Vec Ideal S512x1024 .bf16) (a : Fin 512) (j : Fin 1024) : EReal := x (ix2 a j)
abbrev matB (x : Vec Ideal S256x1024 .bf16) (s : Fin 256) (j : Fin 1024) : EReal := x (ix2 s j)

theorem ld_row (x : Vec Ideal S512x1024 .bf16) (o : ℕ) (inb : ∀ a, ![0, o] a + ![512, 256] a ≤ S512x1024.size a) (a : Fin 512) (d : Fin 256)
    (h : o + d.val < 1024) : View.ld x (Rect.unit ![0, o] ![512, 256] inb) (ix2 a d) = x (ix2 a ⟨o + d.val, h⟩) := by
  pointwise

theorem ld_mat (x : Vec Ideal S256x1024 .bf16) (o : ℕ) (inb : ∀ a, ![0, o] a + ![256, 256] a ≤ S256x1024.size a) (a : Fin 256) (d : Fin 256)
    (h : o + d.val < 1024) : View.ld x (Rect.unit ![0, o] ![256, 256] inb) (ix2 a d) = x (ix2 a ⟨o + d.val, h⟩) := by
  pointwise

/-- A block's gradient of a query's column. -/
def dqB (a : Fin 512) (j : Fin 1024) : EReal := dqK (rowB x0 a) (matB x1) (matB x2) (rowB x3 a) j
/-- A block's share of the gradient of a key's column. -/
def dkB (s : Fin 256) (j : Fin 1024) : EReal := (∑ a, dkK (rowB x0 a) (matB x1) (matB x2) (rowB x3 a) s j) * lit 0x3D800000#32
/-- A block's share of the gradient of a value's column. -/
def dvB (s : Fin 256) (j : Fin 1024) : EReal := ∑ a, dvK (rowB x0 a) (matB x1) (rowB x3 a) s j
/-- A block's share of the gradients of keys and values, side by side. -/
def shareB (s : Fin 256) (j : Fin 2048) : EReal :=
  if h : j.val < 1024 then dkB x0 x1 x2 x3 s ⟨j.val, h⟩ else dvB x0 x1 x3 s ⟨j.val - 1024, by omega⟩

theorem shareB_low (s : Fin 256) (n : ℕ) (h : n < 1024) (h' : n < 2048) : shareB x0 x1 x2 x3 s ⟨n, h'⟩ = dkB x0 x1 x2 x3 s ⟨n, h⟩ :=
  dif_pos h
theorem shareB_high (s : Fin 256) (o d : ℕ) (ho : 1024 ≤ o) (h' : o + d < 2048) (h : o - 1024 + d < 1024) :
    shareB x0 x1 x2 x3 s ⟨o + d, h'⟩ = dvB x0 x1 x3 s ⟨o - 1024 + d, h⟩ := by
  unfold shareB
  rw [dif_neg (show ¬ o + d < 1024 by omega)]
  exact congrArg (dvB x0 x1 x3 s) (Fin.ext (show o + d - 1024 = o - 1024 + d by omega))

theorem rowH_ld (x : Vec Ideal S512x1024 .bf16) (o : ℕ) (inb : ∀ a, ![0, o] a + ![512, 256] a ≤ S512x1024.size a) (h' : o + 256 ≤ 1024)
    (a : Fin 512) : rowH (View.ld x (Rect.unit ![0, o] ![512, 256] inb)) a = fun d => x (ix2 a ⟨o + d.val, by omega⟩) :=
  funext fun d => ld_row x o inb a d (by omega)
theorem matH_ld (x : Vec Ideal S256x1024 .bf16) (o : ℕ) (inb : ∀ a, ![0, o] a + ![256, 256] a ≤ S256x1024.size a) (h' : o + 256 ≤ 1024) :
    matH (View.ld x (Rect.unit ![0, o] ![256, 256] inb)) = fun s d => x (ix2 s ⟨o + d.val, by omega⟩) :=
  funext fun s => funext fun d => ld_mat x o inb s d (by omega)

/-- One head's gradient of its queries is the block's there. -/
theorem dq_head (o : ℕ) (i0 : ∀ a, ![0, o] a + ![512, 256] a ≤ S512x1024.size a) (i1 : ∀ a, ![0, o] a + ![256, 256] a ≤ S256x1024.size a)
    (ho : o % 256 = 0) (h' : o + 256 ≤ 1024) (a : Fin 512) (d : Fin 256) :
    (∑ s, dscK (rowH (View.ld x0 (Rect.unit ![0, o] ![512, 256] i0)) a) (matH (View.ld x1 (Rect.unit ![0, o] ![256, 256] i1)))
      (matH (View.ld x2 (Rect.unit ![0, o] ![256, 256] i1))) (rowH (View.ld x3 (Rect.unit ![0, o] ![512, 256] i0)) a) s
        * View.ld x1 (Rect.unit ![0, o] ![256, 256] i1) (ix2 s d)) * lit 0x3D800000#32
    = dqB x0 x1 x2 x3 a ⟨o + d.val, by omega⟩ := by
  unfold dqB dqK
  rw [rowH_ld x0 o i0 h', rowH_ld x3 o i0 h', matH_ld x1 o i1 h', matH_ld x2 o i1 h']
  simp only [ld_mat x1 o i1 _ d (by omega), head_at _ o ho d _ h', rowB, matB]

theorem dk_head (o : ℕ) (i0 : ∀ a, ![0, o] a + ![512, 256] a ≤ S512x1024.size a) (i1 : ∀ a, ![0, o] a + ![256, 256] a ≤ S256x1024.size a)
    (ho : o % 256 = 0) (h' : o + 256 ≤ 1024) (s : Fin 256) (d : Fin 256) :
    (∑ a : Fin 512, dscK (rowH (View.ld x0 (Rect.unit ![0, o] ![512, 256] i0)) a) (matH (View.ld x1 (Rect.unit ![0, o] ![256, 256] i1)))
      (matH (View.ld x2 (Rect.unit ![0, o] ![256, 256] i1))) (rowH (View.ld x3 (Rect.unit ![0, o] ![512, 256] i0)) a) s
        * View.ld x0 (Rect.unit ![0, o] ![512, 256] i0) (ix2 a d)) * lit 0x3D800000#32
    = dkB x0 x1 x2 x3 s ⟨o + d.val, by omega⟩ := by
  unfold dkB dkK
  simp only [rowH_ld x0 o i0 h', rowH_ld x3 o i0 h', matH_ld x1 o i1 h', matH_ld x2 o i1 h', ld_row x0 o i0 _ d (by omega),
    head_at _ o ho d _ h', rowB, matB]

theorem dv_head (o : ℕ) (i0 : ∀ a, ![0, o] a + ![512, 256] a ≤ S512x1024.size a) (i1 : ∀ a, ![0, o] a + ![256, 256] a ≤ S256x1024.size a)
    (ho : o % 256 = 0) (h' : o + 256 ≤ 1024) (s : Fin 256) (d : Fin 256) :
    (∑ a : Fin 512, probK (rowH (View.ld x0 (Rect.unit ![0, o] ![512, 256] i0)) a) (matH (View.ld x1 (Rect.unit ![0, o] ![256, 256] i1))) s
        * View.ld x3 (Rect.unit ![0, o] ![512, 256] i0) (ix2 a d))
    = dvB x0 x1 x3 s ⟨o + d.val, by omega⟩ := by
  unfold dvB dvK
  simp only [rowH_ld x0 o i0 h', rowH_ld x3 o i0 h', matH_ld x1 o i1 h', ld_row x3 o i0 _ d (by omega),
    head_at _ o ho d _ h', rowB, matB]

theorem dq_pieces (y : S512x1024.Idx) : View.canon (Val := Elt Ideal) (e := .bf16)
    [⟨Rect.unit ![0, 768] ![512, 256] inb_S512x1024_S512x256_0_768, k0_pay24 (View.ld x0 (Rect.unit ![0, 768] ![512, 256] inb_S512x1024_S512x256_0_768)) (View.ld x1 (Rect.unit ![0, 768] ![256, 256] inb_S256x1024_S256x256_0_768)) (View.ld x2 (Rect.unit ![0, 768] ![256, 256] inb_S256x1024_S256x256_0_768)) (View.ld x3 (Rect.unit ![0, 768] ![512, 256] inb_S512x1024_S512x256_0_768))⟩,
      ⟨Rect.unit ![0, 512] ![512, 256] inb_S512x1024_S512x256_0_512, k0_pay19 (View.ld x1 (Rect.unit ![0, 512] ![256, 256] inb_S256x1024_S256x256_0_512)) (View.ld x2 (Rect.unit ![0, 512] ![256, 256] inb_S256x1024_S256x256_0_512)) (View.ld x3 (Rect.unit ![0, 512] ![512, 256] inb_S512x1024_S512x256_0_512)) (k0_pay15 (View.ld x0 (Rect.unit ![0, 512] ![512, 256] inb_S512x1024_S512x256_0_512)) (View.ld x1 (Rect.unit ![0, 512] ![256, 256] inb_S256x1024_S256x256_0_512))) (k0_pay16 (View.ld x0 (Rect.unit ![0, 512] ![512, 256] inb_S512x1024_S512x256_0_512)) (View.ld x1 (Rect.unit ![0, 512] ![256, 256] inb_S256x1024_S256x256_0_512)))⟩,
      ⟨Rect.unit ![0, 256] ![512, 256] inb_S512x1024_S512x256_0_256, k0_pay12 (View.ld x1 (Rect.unit ![0, 256] ![256, 256] inb_S256x1024_S256x256_0_256)) (k0_pay8 (View.ld x0 (Rect.unit ![0, 256] ![512, 256] inb_S512x1024_S512x256_0_256)) (View.ld x1 (Rect.unit ![0, 256] ![256, 256] inb_S256x1024_S256x256_0_256))) (k0_pay9 (View.ld x2 (Rect.unit ![0, 256] ![256, 256] inb_S256x1024_S256x256_0_256)) (View.ld x3 (Rect.unit ![0, 256] ![512, 256] inb_S512x1024_S512x256_0_256))) (k0_pay10 (View.ld x0 (Rect.unit ![0, 256] ![512, 256] inb_S512x1024_S512x256_0_256)) (View.ld x1 (Rect.unit ![0, 256] ![256, 256] inb_S256x1024_S256x256_0_256)) (View.ld x2 (Rect.unit ![0, 256] ![256, 256] inb_S256x1024_S256x256_0_256)) (View.ld x3 (Rect.unit ![0, 256] ![512, 256] inb_S512x1024_S512x256_0_256)))⟩,
      ⟨Rect.unit ![0, 0] ![512, 256] inb_S512x1024_S512x256_0_0, k0_pay5 (View.ld x0 (Rect.unit ![0, 0] ![512, 256] inb_S512x1024_S512x256_0_0)) (View.ld x1 (Rect.unit ![0, 0] ![256, 256] inb_S256x1024_S256x256_0_0)) (View.ld x2 (Rect.unit ![0, 0] ![256, 256] inb_S256x1024_S256x256_0_0)) (View.ld x3 (Rect.unit ![0, 0] ![512, 256] inb_S512x1024_S512x256_0_0))⟩] y = dqB x0 x1 x2 x3 (y 0) (y 1) := by
  canon_tiles x h using (View.cover_of_tiledBy _ ![512, 256] (by sl_kernel_rfl) y)
  all_goals rw [show y 0 = x 0 from Fin.ext h0, (Fin.eq_mk_iff_val_eq (hk := by rw [← h1]; exact (y 1).isLt)).mpr h1]
  · exact (dq3 _ _ _ _ x).trans (dq_head x0 x1 x2 x3 768 _ _ (by decide) (by decide) (x 0) (x 1))
  · exact (dq2 _ _ _ _ x).trans (dq_head x0 x1 x2 x3 512 _ _ (by decide) (by decide) (x 0) (x 1))
  · exact (dq1 _ _ _ _ x).trans (dq_head x0 x1 x2 x3 256 _ _ (by decide) (by decide) (x 0) (x 1))
  · exact ((dq0 _ _ _ _ x).trans (dq_head x0 x1 x2 x3 0 _ _ (by decide) (by decide) (x 0) (x 1))).trans
      (congrArg (dqB x0 x1 x2 x3 (x 0)) (Fin.ext (Nat.zero_add _)))

/-- What a block leaves of the gradients of keys and values: what was there and the block's share. -/
def accB (y : S256x2048.Idx) : EReal := p y + shareB x0 x1 x2 x3 (y 0) (y 1)

theorem emb_eq (o : ℕ) (i2 : ∀ a, ![0, o] a + ![256, 256] a ≤ S256x2048.size a) (h : o + 256 ≤ 2048) (x : S256x256.Idx) :
    (Rect.unit (s := S256x2048) ![0, o] ![256, 256] i2).emb x = ix2 (x 0) ⟨o + (x 1).val, by have : (x 1).val < 256 := (x 1).isLt; omega⟩ := by
  blk_ext

theorem acc_low (o : ℕ) (i2 : ∀ a, ![0, o] a + ![256, 256] a ≤ S256x2048.size a) (h : o + 256 ≤ 1024) (x : S256x256.Idx) :
    View.ld p (Rect.unit ![0, o] ![256, 256] i2) x + dkB x0 x1 x2 x3 (x 0) ⟨o + (x 1).val, by have : (x 1).val < 256 := (x 1).isLt; omega⟩
    = accB x0 x1 x2 x3 p ((Rect.unit (s := S256x2048) ![0, o] ![256, 256] i2).emb x) := by
  unfold accB
  have e := emb_eq o i2 (by omega) x
  show p ((Rect.unit (s := S256x2048) ![0, o] ![256, 256] i2).emb x) + _ = _
  rw [e]
  exact congrArg (_ + ·) (shareB_low x0 x1 x2 x3 (x 0) _ _ _).symm

theorem acc_high (o : ℕ) (i2 : ∀ a, ![0, o] a + ![256, 256] a ≤ S256x2048.size a) (h : o + 256 ≤ 2048) (h1 : 1024 ≤ o) (x : S256x256.Idx) :
    View.ld p (Rect.unit ![0, o] ![256, 256] i2) x + dvB x0 x1 x3 (x 0) ⟨o - 1024 + (x 1).val, by have : (x 1).val < 256 := (x 1).isLt; omega⟩
    = accB x0 x1 x2 x3 p ((Rect.unit (s := S256x2048) ![0, o] ![256, 256] i2).emb x) := by
  unfold accB
  have e := emb_eq o i2 h x
  show p ((Rect.unit (s := S256x2048) ![0, o] ![256, 256] i2).emb x) + _ = _
  rw [e]
  exact congrArg (_ + ·) (shareB_high x0 x1 x2 x3 (x 0) o (x 1).val h1 _ _).symm

theorem dkv_pieces : View.PiecesOf (Val := Elt Ideal) (e := .f32) (accB x0 x1 x2 x3 p)
    [⟨Rect.unit ![0, 1792] ![256, 256] inb_S256x2048_S256x256_0_1792, k0_pay1 (View.ld x3 (Rect.unit ![0, 768] ![512, 256] inb_S512x1024_S512x256_0_768)) (k0_pay22 (View.ld x0 (Rect.unit ![0, 768] ![512, 256] inb_S512x1024_S512x256_0_768)) (View.ld x1 (Rect.unit ![0, 768] ![256, 256] inb_S256x1024_S256x256_0_768))) (View.ld p (Rect.unit ![0, 1792] ![256, 256] inb_S256x2048_S256x256_0_1792))⟩,
      ⟨Rect.unit ![0, 768] ![256, 256] inb_S256x2048_S256x256_0_768, k0_pay25 (View.ld x0 (Rect.unit ![0, 768] ![512, 256] inb_S512x1024_S512x256_0_768)) (View.ld x1 (Rect.unit ![0, 768] ![256, 256] inb_S256x1024_S256x256_0_768)) (View.ld x2 (Rect.unit ![0, 768] ![256, 256] inb_S256x1024_S256x256_0_768)) (View.ld x3 (Rect.unit ![0, 768] ![512, 256] inb_S512x1024_S512x256_0_768)) (View.ld p (Rect.unit ![0, 768] ![256, 256] inb_S256x2048_S256x256_0_768))⟩,
      ⟨Rect.unit ![0, 1536] ![256, 256] inb_S256x2048_S256x256_0_1536, k0_pay21 (View.ld x3 (Rect.unit ![0, 512] ![512, 256] inb_S512x1024_S512x256_0_512)) (k0_pay15 (View.ld x0 (Rect.unit ![0, 512] ![512, 256] inb_S512x1024_S512x256_0_512)) (View.ld x1 (Rect.unit ![0, 512] ![256, 256] inb_S256x1024_S256x256_0_512))) (k0_pay16 (View.ld x0 (Rect.unit ![0, 512] ![512, 256] inb_S512x1024_S512x256_0_512)) (View.ld x1 (Rect.unit ![0, 512] ![256, 256] inb_S256x1024_S256x256_0_512))) (View.ld p (Rect.unit ![0, 1536] ![256, 256] inb_S256x2048_S256x256_0_1536))⟩,
      ⟨Rect.unit ![0, 512] ![256, 256] inb_S256x2048_S256x256_0_512, k0_pay20 (View.ld x0 (Rect.unit ![0, 512] ![512, 256] inb_S512x1024_S512x256_0_512)) (View.ld x2 (Rect.unit ![0, 512] ![256, 256] inb_S256x1024_S256x256_0_512)) (View.ld x3 (Rect.unit ![0, 512] ![512, 256] inb_S512x1024_S512x256_0_512)) (k0_pay15 (View.ld x0 (Rect.unit ![0, 512] ![512, 256] inb_S512x1024_S512x256_0_512)) (View.ld x1 (Rect.unit ![0, 512] ![256, 256] inb_S256x1024_S256x256_0_512))) (k0_pay16 (View.ld x0 (Rect.unit ![0, 512] ![512, 256] inb_S512x1024_S512x256_0_512)) (View.ld x1 (Rect.unit ![0, 512] ![256, 256] inb_S256x1024_S256x256_0_512))) (View.ld p (Rect.unit ![0, 512] ![256, 256] inb_S256x2048_S256x256_0_512))⟩,
      ⟨Rect.unit ![0, 1280] ![256, 256] inb_S256x2048_S256x256_0_1280, k0_pay14 (View.ld x3 (Rect.unit ![0, 256] ![512, 256] inb_S512x1024_S512x256_0_256)) (k0_pay8 (View.ld x0 (Rect.unit ![0, 256] ![512, 256] inb_S512x1024_S512x256_0_256)) (View.ld x1 (Rect.unit ![0, 256] ![256, 256] inb_S256x1024_S256x256_0_256))) (View.ld p (Rect.unit ![0, 1280] ![256, 256] inb_S256x2048_S256x256_0_1280))⟩,
      ⟨Rect.unit ![0, 256] ![256, 256] inb_S256x2048_S256x256_0_256, k0_pay13 (View.ld x0 (Rect.unit ![0, 256] ![512, 256] inb_S512x1024_S512x256_0_256)) (k0_pay8 (View.ld x0 (Rect.unit ![0, 256] ![512, 256] inb_S512x1024_S512x256_0_256)) (View.ld x1 (Rect.unit ![0, 256] ![256, 256] inb_S256x1024_S256x256_0_256))) (k0_pay9 (View.ld x2 (Rect.unit ![0, 256] ![256, 256] inb_S256x1024_S256x256_0_256)) (View.ld x3 (Rect.unit ![0, 256] ![512, 256] inb_S512x1024_S512x256_0_256))) (k0_pay10 (View.ld x0 (Rect.unit ![0, 256] ![512, 256] inb_S512x1024_S512x256_0_256)) (View.ld x1 (Rect.unit ![0, 256] ![256, 256] inb_S256x1024_S256x256_0_256)) (View.ld x2 (Rect.unit ![0, 256] ![256, 256] inb_S256x1024_S256x256_0_256)) (View.ld x3 (Rect.unit ![0, 256] ![512, 256] inb_S512x1024_S512x256_0_256))) (View.ld p (Rect.unit ![0, 256] ![256, 256] inb_S256x2048_S256x256_0_256))⟩,
      ⟨Rect.unit ![0, 1024] ![256, 256] inb_S256x2048_S256x256_0_1024, k0_pay7 (View.ld x3 (Rect.unit ![0, 0] ![512, 256] inb_S512x1024_S512x256_0_0)) (k0_pay3 (View.ld x0 (Rect.unit ![0, 0] ![512, 256] inb_S512x1024_S512x256_0_0)) (View.ld x1 (Rect.unit ![0, 0] ![256, 256] inb_S256x1024_S256x256_0_0))) (View.ld p (Rect.unit ![0, 1024] ![256, 256] inb_S256x2048_S256x256_0_1024))⟩,
      ⟨Rect.unit ![0, 0] ![256, 256] inb_S256x2048_S256x256_0_0, k0_pay6 (View.ld x0 (Rect.unit ![0, 0] ![512, 256] inb_S512x1024_S512x256_0_0)) (k0_pay4 (View.ld x0 (Rect.unit ![0, 0] ![512, 256] inb_S512x1024_S512x256_0_0)) (View.ld x1 (Rect.unit ![0, 0] ![256, 256] inb_S256x1024_S256x256_0_0)) (View.ld x2 (Rect.unit ![0, 0] ![256, 256] inb_S256x1024_S256x256_0_0)) (View.ld x3 (Rect.unit ![0, 0] ![512, 256] inb_S512x1024_S512x256_0_0))) (View.ld p (Rect.unit ![0, 0] ![256, 256] inb_S256x2048_S256x256_0_0))⟩] := by
  refine ⟨?_, ?_, ?_, ?_, ?_, ?_, ?_, ?_, trivial⟩
  all_goals intro x
  · exact ((dv3 _ _ _ _ x).trans (congrArg (_ + ·) (dv_head x0 x1 x3 768 _ _ (by decide) (by decide) (x 0) (x 1)))).trans (acc_high x0 x1 x2 x3 p 1792 _ (by decide) (by decide) x)
  · exact ((dk3 _ _ _ _ _ x).trans (congrArg (_ + ·) (dk_head x0 x1 x2 x3 768 _ _ (by decide) (by decide) (x 0) (x 1)))).trans (acc_low x0 x1 x2 x3 p 768 _ (by decide) x)
  · exact ((dv2 _ _ _ _ x).trans (congrArg (_ + ·) (dv_head x0 x1 x3 512 _ _ (by decide) (by decide) (x 0) (x 1)))).trans (acc_high x0 x1 x2 x3 p 1536 _ (by decide) (by decide) x)
  · exact ((dk2 _ _ _ _ _ x).trans (congrArg (_ + ·) (dk_head x0 x1 x2 x3 512 _ _ (by decide) (by decide) (x 0) (x 1)))).trans (acc_low x0 x1 x2 x3 p 512 _ (by decide) x)
  · exact ((dv1 _ _ _ _ x).trans (congrArg (_ + ·) (dv_head x0 x1 x3 256 _ _ (by decide) (by decide) (x 0) (x 1)))).trans (acc_high x0 x1 x2 x3 p 1280 _ (by decide) (by decide) x)
  · exact ((dk1 _ _ _ _ _ x).trans (congrArg (_ + ·) (dk_head x0 x1 x2 x3 256 _ _ (by decide) (by decide) (x 0) (x 1)))).trans (acc_low x0 x1 x2 x3 p 256 _ (by decide) x)
  · exact ((dv0 _ _ _ _ x).trans (congrArg (_ + ·) (dv_head x0 x1 x3 0 _ _ (by decide) (by decide) (x 0) (x 1)))).trans (acc_high x0 x1 x2 x3 p 1024 _ (by decide) (by decide) x)
  · exact ((dk0 _ _ _ _ _ x).trans (congrArg (_ + ·) (dk_head x0 x1 x2 x3 0 _ _ (by decide) (by decide) (x 0) (x 1)))).trans (acc_low x0 x1 x2 x3 p 0 _ (by decide) x)

end Block

/-! ## The whole arrays -/

variable (m : (ℓ : Loc nD τ sig) → Buf (Elt Ideal) ℓ)

theorem idx : ∀ t : Fin cfg0.N, win0_0.index t = ![t.val, 0] ∧ win0_1.index t = ![0, 0] ∧ win0_2.index t = ![0, 1]
    ∧ win0_3.index t = ![t.val, 0] ∧ win0_4.index t = ![t.val, 0] ∧ win0_5.index t = ![0, 0] :=
  (by decide +kernel : ∀ t : Fin grid0.N, _)

/-- The grid's point as the number of a block. -/
def blkOf (t : Fin cfg0.N) : Fin 16 := ⟨t.val, lt_of_lt_of_eq t.isLt N_0⟩

theorem blk_q (c : Dev nD) (t : Fin cfg0.N) (a : Fin 512) (j : Fin 1024) :
    iblk m c 0 t (ix2 a j) = (m ((c : Thread nD τ).loc main_arg0)) (ix2 (tokOf (blkOf t) a) j) := by
  blk_ext [iblk, V, idx t]
  show t.val * 512 + a.val = 512 * t.val + a.val
  omega
theorem blk_k (c : Dev nD) (t : Fin cfg0.N) (s : Fin 256) (j : Fin 1024) :
    iblk m c 1 t (ix2 s j) = (m ((c : Thread nD τ).loc main_arg1)) (ix2 s ⟨j.val, by omega⟩) := by
  blk_ext [iblk, V, idx t]
theorem blk_v (c : Dev nD) (t : Fin cfg0.N) (s : Fin 256) (j : Fin 1024) :
    iblk m c 2 t (ix2 s j) = (m ((c : Thread nD τ).loc main_arg1)) (ix2 s ⟨1024 + j.val, by omega⟩) := by
  blk_ext [iblk, V, idx t]
theorem blk_do (c : Dev nD) (t : Fin cfg0.N) (a : Fin 512) (j : Fin 1024) :
    iblk m c 3 t (ix2 a j) = (m ((c : Thread nD τ).loc main_arg2)) (ix2 (tokOf (blkOf t) a) j) := by
  blk_ext [iblk, V, idx t]
  show t.val * 512 + a.val = 512 * t.val + a.val
  omega

theorem rowB_q (c : Dev nD) (t : Fin cfg0.N) (a : Fin 512) : rowB (iblk m c 0 t) a = row (m ((c : Thread nD τ).loc main_arg0)) (tokOf (blkOf t) a) :=
  funext fun j => blk_q m c t a j
theorem rowB_do (c : Dev nD) (t : Fin cfg0.N) (a : Fin 512) : rowB (iblk m c 3 t) a = row (m ((c : Thread nD τ).loc main_arg2)) (tokOf (blkOf t) a) :=
  funext fun j => blk_do m c t a j
theorem matB_k (c : Dev nD) (t : Fin cfg0.N) : matB (iblk m c 1 t) = keys (m ((c : Thread nD τ).loc main_arg1)) :=
  funext fun s => funext fun j => blk_k m c t s j
theorem matB_v (c : Dev nD) (t : Fin cfg0.N) : matB (iblk m c 2 t) = vals (m ((c : Thread nD τ).loc main_arg1)) :=
  funext fun s => funext fun j => blk_v m c t s j

theorem dqB_iblk (c : Dev nD) (t : Fin cfg0.N) (a : Fin 512) (j : Fin 1024) : dqB (iblk m c 0 t) (iblk m c 1 t) (iblk m c 2 t) (iblk m c 3 t) a j
    = dqKAt (m ((c : Thread nD τ).loc main_arg0)) (m ((c : Thread nD τ).loc main_arg1)) (m ((c : Thread nD τ).loc main_arg2)) (tokOf (blkOf t) a) j := by
  unfold dqB dqKAt
  rw [rowB_q, rowB_do, matB_k, matB_v]

theorem shareB_iblk (c : Dev nD) (t : Fin cfg0.N) (s : Fin 256) (j : Fin 2048) :
    shareB (iblk m c 0 t) (iblk m c 1 t) (iblk m c 2 t) (iblk m c 3 t) s j = shareKAt (m ((c : Thread nD τ).loc main_arg0)) (m ((c : Thread nD τ).loc main_arg1)) (m ((c : Thread nD τ).loc main_arg2)) (blkOf t) s j := by
  unfold shareB shareKAt dkB dvB
  simp only [rowB_q, rowB_do, matB_k, matB_v]

/-- The queries' gradient, as the kernel leaves it. -/
theorem final4 (c : Dev nD) : (dats m 0 c).arrAt 4 cfg0.N = fun i => dqKAt (m ((c : Thread nD τ).loc main_arg0)) (m ((c : Thread nD τ).loc main_arg1)) (m ((c : Thread nD τ).loc main_arg2)) (i 0) (i 1) := by
  refine (dats m 0 c).arrAt_eq_of_covers 4 _ (by decide +kernel) fun t hf y => ?_
  blk_simp
  rw [after0_4]
  refine Eq.trans (b := dqB (iblk m c 0 t) (iblk m c 1 t) (iblk m c 2 t) (iblk m c 3 t) (y 0) (y 1)) ?_ ?_
  · by_cases e0 : t.val % 16 = 0
    · rw [outsAt0_A m c t e0]
      frame_out
      exact dq_pieces _ _ _ _ _
    · rw [outsAt0_B m c t e0]
      frame_out
      exact dq_pieces _ _ _ _ _
  · have e : (win0_4.blk t).view.emb y = ix2 (tokOf (blkOf t) (y 0)) (y 1) := by
      blk_ext [idx t]
      show t.val * 512 + (y 0).val = 512 * t.val + (y 0).val
      omega
    rw [e]
    exact dqB_iblk m c t (y 0) (y 1)

/-- The first block starts the gradients of keys and values from zero. -/
theorem acc_reset (c : Dev nD) (t : Fin cfg0.N) (h : t.val % 16 = 0) (y : S256x2048.Idx) :
    (outsAt0 m c t.val t.isLt).2 y = 0 + shareB (iblk m c 0 t) (iblk m c 1 t) (iblk m c 2 t) (iblk m c 3 t) (y 0) (y 1) := by
  rw [outsAt0_A m c t h]
  frame_out
  simp (discharger := decide) only [↓View.readCov_skip, ↓View.readCov_fill]
  have h := View.canon_append_of_piecesOf (Val := Elt Ideal) (e := .f32) _ [⟨Rect.unit ![0, 0] ![256, 2048] inb_S256x2048_S256x2048_0_0, k0_pay2 (F := Ideal)⟩] _
    (dkv_pieces (iblk m c 0 t) (iblk m c 1 t) (iblk m c 2 t) (iblk m c 3 t) (k0_pay2 (F := Ideal))) y (View.cover_of_tiledBy _ ![256, 256] (by sl_kernel_rfl) y)
  simp only [List.cons_append, List.nil_append] at h
  refine h.trans ?_
  unfold accB
  congr 1
  pointwise [k0_pay2]

/-- Every other block adds its share to what was there. -/
theorem acc_step (c : Dev nD) (t : Fin cfg0.N) (h : ¬ t.val % 16 = 0) (y : S256x2048.Idx) :
    (outsAt0 m c t.val t.isLt).2 y = (outsAt0 m c (t.val - 1) (Nat.lt_of_le_of_lt (Nat.sub_le _ _) t.isLt)).2 y
      + shareB (iblk m c 0 t) (iblk m c 1 t) (iblk m c 2 t) (iblk m c 3 t) (y 0) (y 1) := by
  rw [outsAt0_B m c t h]
  frame_out
  exact View.canon_append_of_piecesOf _ [] [_, _, _, _, _, _, _, _]
    (dkv_pieces _ _ _ _ _) y (View.cover_of_tiledBy _ ![256, 256] (by sl_kernel_rfl) y)

/-- The sum after the last block. -/
theorem acc_eq (c : Dev nD) (t : Fin cfg0.N) (hf : t.val % 16 = 16 - 1) (y : S256x2048.Idx) :
    (outsAt0 m c t.val t.isLt).2 y
      = ∑ s : Fin 16, (fun t : Fin cfg0.N => shareB (iblk m c 0 t) (iblk m c 1 t) (iblk m c 2 t) (iblk m c 3 t) (y 0) (y 1))
          ⟨16 * (t.val / 16) + s.val, Pipeline.run_point_lt_of_flush t hf s⟩ := by
  rw [Pipeline.eq_sum_fin_of_reset_step_apply_of_flush (fun n h => (outsAt0 m c n h).2) 16 (fun _ => (0 : EReal))
    (fun t y => shareB (iblk m c 0 t) (iblk m c 1 t) (iblk m c 2 t) (iblk m c 3 t) (y 0) (y 1))
    (fun t h y => acc_reset m c t h y) (fun t h y => acc_step m c t h y) t hf y, zero_add]

/-- The gradients of keys and values, as the kernel leaves them. -/
theorem final5 (c : Dev nD) : (dats m 0 c).arrAt 5 cfg0.N = fun i => dkvKAt (m ((c : Thread nD τ).loc main_arg0)) (m ((c : Thread nD τ).loc main_arg1)) (m ((c : Thread nD τ).loc main_arg2)) (i 0) (i 1) := by
  refine (dats m 0 c).arrAt_eq_of_covers 5 _ (by decide +kernel) fun t hf y => ?_
  blk_simp
  have hf' := (flush0_5 t).mp hf
  rw [after0_5, acc_eq m c t hf']
  have h0 : t.val / 16 = 0 := by have := lt_of_lt_of_eq t.isLt N_0; omega
  refine Eq.trans (b := dkvKAt (m ((c : Thread nD τ).loc main_arg0)) (m ((c : Thread nD τ).loc main_arg1)) (m ((c : Thread nD τ).loc main_arg2)) (y 0) (y 1)) ?_ ?_
  · unfold dkvKAt
    refine Fin.sum_fin_congr fun s => ?_
    refine (shareB_iblk m c _ (y 0) (y 1)).trans ?_
    exact congrArg (fun n => shareKAt (m ((c : Thread nD τ).loc main_arg0)) (m ((c : Thread nD τ).loc main_arg1)) (m ((c : Thread nD τ).loc main_arg2)) n (y 0) (y 1)) (Fin.ext (by show 16 * (t.val / 16) + s.val = s.val; omega))
  · have e : (win0_5.blk t).view.emb y = ix2 (y 0) (y 1) := by blk_ext [idx t]
    rw [e]
    rfl

end Cert.Kernel6Ideal.Xa

end
-- ==== Proof.XaRef.lean ====
/-
  What the reference program of the attention to the memory computes: the gradients of the queries and of keys and values.
-/
module

public import proofs.«01_k».proof.Proof.Gen.Reference6Ideal.Read
public import proofs.«01_k».proof.Proof.XaSpec
public import Idealize.ShloMosaic.Lib.KernelVsHost

@[expose] public section

set_option maxRecDepth 16384

noncomputable section

open Idealize.ShloMosaic Idealize.ShloMosaic.TcCoe Idealize.SL.Sem

namespace Cert.Reference6Ideal.Xa

open Cert.Reference6Ideal Cert.Reference6Ideal.Gen Cert.Reference6Ideal.Read Cert.Spec Cert.Spec.Xa

/-- The column of head `h` at place `d`. -/
def hj (h : Fin 4) (d : Fin 256) : Fin 1024 := ⟨h.val * 256 + d.val, by omega⟩
/-- A head's part of a row. -/
def part (f : Fin 1024 → EReal) (h : Fin 4) (d : Fin 256) : EReal := f (hj h d)

theorem head_hj (f : Fin 1024 → EReal) (h : Fin 4) (d : Fin 256) : head f (hj h d) = part f h := by
  funext d'
  unfold head hcol part hj
  congr 1
  apply Fin.ext
  show (h.val * 256 + d.val) / 256 * 256 + d'.val = h.val * 256 + d'.val
  omega

variable (x0 : FVec Ideal S8192x1024 .bf16) (x1 : FVec Ideal S256x2048 .bf16) (x2 : FVec Ideal S8192x1024 .bf16)

theorem v5_eq : val_main_v5 (F := Ideal) x0 = fun i => part (row x0 (i 1)) (i 2) (i 3) := by
  funext i
  pointwise [val_main_v5, val_main_v0, part, row, hj]

theorem v42_eq : val_main_v42 (F := Ideal) x2 = fun i => part (row x2 (i 1)) (i 2) (i 3) := by
  funext i
  pointwise [val_main_v42, val_main_v2, part, row, hj]

theorem v6_eq : val_main_v6 (F := Ideal) x1 = fun i => part (keys x1 (i 1)) (i 2) (i 3) := by
  funext i
  pointwise [val_main_v6, val_main_v3, val_main_v1, part, keys, hj]

theorem v7_eq : val_main_v7 (F := Ideal) x1 = fun i => part (vals x1 (i 1)) (i 2) (i 3) := by
  funext i
  pointwise [val_main_v7, val_main_v4, val_main_v1, part, vals, hj]

theorem v10_eq : val_main_v10 (F := Ideal) x0 x1 = fun i => score (part (row x0 (i 2)) (i 1)) (fun s => part (keys x1 s) (i 1)) (i 3) := by
  funext i
  pointwise [val_main_v10, val_main_v9, val_main_v8, v5_eq, v6_eq, score, val_main_cst]

theorem v11_eq : val_main_v11 (F := Ideal) x0 x1 = fun i => top (part (row x0 (i 2)) (i 1)) (fun s => part (keys x1 s) (i 1)) := by
  funext i
  pointwise [val_main_v11, v10_eq, top, val_main_cst_0]

/-- Starting a maximum from the constant again changes nothing. -/
theorem max_top (q : Fin 256 → EReal) (k : Fin 256 → Fin 256 → EReal) : max (lit 0xFF800000#32) (top q k) = top q k :=
  max_eq_right ((Finset.le_fold_max _).2 (Or.inl le_rfl))

theorem v18_eq : val_main_v18 (F := Ideal) x0 x1 = fun i => top (part (row x0 (i 2)) (i 1)) (fun s => part (keys x1 s) (i 1)) := by
  funext i
  pointwise [val_main_v18, val_main_v17, val_main_cst_2, v11_eq]
  exact max_top _ _

theorem v31_eq : val_main_v31 (F := Ideal) x0 x1 = fun i => ex (part (row x0 (i 2)) (i 1)) (fun s => part (keys x1 s) (i 1)) (i 3) := by
  funext i
  pointwise [val_main_v31, val_main_v30, val_main_v29, val_main_v28, v18_eq, v10_eq, ex]

theorem v33_eq : val_main_v33 (F := Ideal) x0 x1 = fun i => mass (part (row x0 (i 2)) (i 1)) (fun s => part (keys x1 s) (i 1)) := by
  funext i
  pointwise [val_main_v33, val_main_v32, val_main_cst_8, v31_eq, mass]

theorem v35_eq : val_main_v35 (F := Ideal) x0 x1 = fun i => probR (part (row x0 (i 2)) (i 1)) (fun s => part (keys x1 s) (i 1)) (i 3) := by
  funext i
  pointwise [val_main_v35, val_main_v34, v33_eq, v31_eq, probR]

theorem v44_eq : val_main_v44 (F := Ideal) x1 x2 = fun i => dprob (part (row x2 (i 2)) (i 1)) (fun s => part (vals x1 s) (i 1)) (i 3) := by
  funext i
  pointwise [val_main_v44, val_main_v43, v42_eq, v7_eq, dprob]

theorem v52_eq : val_main_v52 (F := Ideal) x0 x1 x2 = fun i => -(∑ s', dprob (part (row x2 (i 2)) (i 1)) (fun s => part (vals x1 s) (i 1)) s' * Ideal.div 1 (mass (part (row x0 (i 2)) (i 1)) (fun s => part (keys x1 s) (i 1)) * mass (part (row x0 (i 2)) (i 1)) (fun s => part (keys x1 s) (i 1))) * ex (part (row x0 (i 2)) (i 1)) (fun s => part (keys x1 s) (i 1)) s') := by
  funext i
  pointwise [val_main_v52, val_main_v51, val_main_v50, val_main_cst_10, val_main_v49, val_main_v48, val_main_v47, val_main_v38, val_main_v37, val_main_cst_9,
    val_main_v36, v33_eq, v44_eq, v31_eq]

theorem v55_eq : val_main_v55 (F := Ideal) x0 x1 x2 = fun i => val_main_v52 (F := Ideal) x0 x1 x2 (ix4 0 (i 0) (i 1) 0) := by
  funext i
  pointwise [val_main_v55, val_main_cst_11]
  unfold Ideal.hostReduceAdd
  rw [zero_add, show (Finset.univ.filter fun k => reducesTo_S1x4x8192x1_S4x8192_d0_3.drop k = i) = {(ix4 0 (i 0) (i 1) 0 : S1x4x8192x1.Idx)} from ?_]
  · exact Finset.sum_singleton _ _
  ext k
  rw [Finset.mem_filter, Finset.mem_singleton]
  constructor
  · rintro ⟨_, rfl⟩
    funext a
    apply Fin.ext
    match a with
    | ⟨0, _⟩ => exact Nat.lt_one_iff.1 (k 0).isLt
    | ⟨1, _⟩ => rfl
    | ⟨2, _⟩ => rfl
    | ⟨3, _⟩ => exact Nat.lt_one_iff.1 (k 3).isLt
  · rintro rfl
    refine ⟨Finset.mem_univ _, funext fun a => Fin.ext ?_⟩
    match a with
    | ⟨0, _⟩ => rfl
    | ⟨1, _⟩ => rfl

theorem v61_eq : val_main_v61 (F := Ideal) x0 x1 x2 = fun i => dscR (part (row x0 (i 2)) (i 1)) (fun s => part (keys x1 s) (i 1)) (fun s => part (vals x1 s) (i 1)) (part (row x2 (i 2)) (i 1)) (i 3) := by
  funext i
  pointwise [val_main_v61, val_main_v60, val_main_cst_12, val_main_v59, val_main_v58, val_main_v57, val_main_v56, v55_eq, v52_eq, val_main_v54, val_main_v53,
    v33_eq, v44_eq, v31_eq, dscR]

theorem v65_eq : val_main_v65 (F := Ideal) x0 x1 x2 = fun i => dqRAt x0 x1 x2 (i 1) (hj (i 2) (i 3)) := by
  funext i
  pointwise [val_main_v65, val_main_v64, v61_eq, v6_eq, dqRAt, dqR, head_hj]
  rfl

theorem v63_eq : val_main_v63 (F := Ideal) x0 x1 x2 = fun i => ∑ t : Fin 8192, dkR (row x0 t) (keys x1) (vals x1) (row x2 t) (i 1) (hj (i 2) (i 3)) := by
  funext i
  pointwise [val_main_v63, val_main_v62, v61_eq, v5_eq, dkR, head_hj]
  rfl

theorem v46_eq : val_main_v46 (F := Ideal) x0 x1 x2 = fun i => ∑ t : Fin 8192, dvR (row x0 t) (keys x1) (row x2 t) (i 1) (hj (i 2) (i 3)) := by
  funext i
  pointwise [val_main_v46, val_main_v45, val_main_v43, v42_eq, v35_eq, dvR, head_hj]
  rfl

theorem hj_div (j : ℕ) (h : j < 1024) (h1 : j / 256 < 4) (h2 : j % 256 < 256) : hj ⟨j / 256, h1⟩ ⟨j % 256, h2⟩ = ⟨j, h⟩ :=
  Fin.ext (by show j / 256 * 256 + j % 256 = j; omega)

/-- The queries' gradient. -/
theorem v69_eq : val_main_v69 (F := Ideal) x0 x1 x2 = fun i => dqRAt x0 x1 x2 (i 0) (i 1) := by
  funext i
  pointwise [val_main_v69, val_main_v68, v65_eq, hj_div]

/-- The gradients of keys and values. -/
theorem v70_eq : val_main_v70 (F := Ideal) x0 x1 x2 = fun i => dkvRAt x0 x1 x2 (i 0) (i 1) := by
  funext i
  unfold dkvRAt
  pointwise [val_main_v70, val_main_v67, val_main_v66, v63_eq, v46_eq]
  by_cases h : (i 1).val < 1024
  · simp only [dif_pos h, hj_div _ h]
  · simp only [dif_neg h]
    exact Finset.sum_congr rfl fun t _ => congrArg _ (hj_div _ (by have : (i 1).val < 2048 := (i 1).isLt; omega) _ _)

/-- The reference program's run: its two results are the gradients. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v69) = (fun i => dqRAt (m ((c.tc : Thread nD τ).loc main_arg0)) (m ((c.tc : Thread nD τ).loc main_arg1)) (m ((c.tc : Thread nD τ).loc main_arg2)) (i 0) (i 1))
      ∧ r.2.mem ((c.tc : Thread nD τ).loc main_v70) = (fun i => dkvRAt (m ((c.tc : Thread nD τ).loc main_arg0)) (m ((c.tc : Thread nD τ).loc main_arg1)) (m ((c.tc : Thread nD τ).loc main_arg2)) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans ((val_main_v69_eq m c).trans (v69_eq _ _ _)),
    (h c).2.1.trans ((val_main_v70_eq m c).trans (v70_eq _ _ _)),
    (h c).2.2⟩) (Cert.Reference6Ideal.Value.run m ρ)

end Cert.Reference6Ideal.Xa

end
-- ==== Proof.XaReal.lean ====
/-
  On real numbers the kernel's gradients of the attention to the memory are the derivative's.
-/
module

public import proofs.«01_k».proof.Proof.XaSpec
public import proofs.«01_k».proof.Proof.BwdReal

@[expose] public section

set_option maxRecDepth 16384

noncomputable section

namespace Cert.Spec.Xa

open Idealize.ShloMosaic Cert.Spec

/-- The literal one sixteenth. -/
theorem lit_scale : lit 0x3D800000#32 = ((1 / 16 : ℝ) : EReal) := by
  simp [lit, Ideal.ofBits, Ideal.ieee, -EReal.coe_mul]; norm_num

/-- The literal minus infinity. -/
theorem lit_bot : lit 0xFF800000#32 = ⊥ := by
  simp [lit, Ideal.ofBits, Ideal.ieee]

/-- The largest of real numbers, at least one of them, is a real number. -/
theorem isReal_foldmax {n : ℕ} (f : Fin (n + 1) → ℝ) : IsReal (Finset.fold max (⊥ : EReal) (fun i => (f i : EReal)) Finset.univ) := by
  have h1 : Finset.fold max (⊥ : EReal) (fun i => (f i : EReal)) Finset.univ < ⊤ :=
    (Finset.fold_max_lt _).2 ⟨bot_lt_top, fun i _ => EReal.coe_lt_top _⟩
  have h2 : ⊥ < Finset.fold max (⊥ : EReal) (fun i => (f i : EReal)) Finset.univ :=
    (Finset.lt_fold_max _).2 (Or.inr ⟨0, Finset.mem_univ _, EReal.bot_lt_coe _⟩)
  exact ⟨_, (EReal.coe_toReal h1.ne h2.ne').symm⟩

section Real

variable (q : Fin 256 → ℝ) (k v : Fin 256 → Fin 256 → ℝ) (g : Fin 256 → ℝ)

theorem score_coe : ∃ S : Fin 256 → ℝ, score (fun d => (q d : EReal)) (fun s d => (k s d : EReal)) = fun s => (S s : EReal) := by
  refine ⟨fun s => (∑ d, q d * k s d) * (1 / 16), funext fun s => ?_⟩
  unfold score
  rw [lit_scale]
  simp only [← EReal.coe_mul, coe_sum]

theorem ex_coe : ∃ E : Fin 256 → ℝ, (∀ s, 0 < E s) ∧ ex (fun d => (q d : EReal)) (fun s d => (k s d : EReal)) = fun s => (E s : EReal) := by
  obtain ⟨S, hS⟩ := score_coe q k
  have hT : IsReal (top (fun d => (q d : EReal)) (fun s d => (k s d : EReal))) := by
    unfold top
    rw [hS, lit_bot]
    exact isReal_foldmax S
  obtain ⟨T, hT⟩ := hT
  refine ⟨fun s => Real.exp (S s - T), fun s => Real.exp_pos _, funext fun s => ?_⟩
  unfold ex
  rw [hS, hT, ← EReal.coe_sub, Ideal.exp_coe]

/-- The probabilities and the scores' gradients of the two forms agree, and are real numbers. -/
theorem dsc_eq : ∃ P D : Fin 256 → ℝ,
    (∀ s, probK (fun d => (q d : EReal)) (fun s d => (k s d : EReal)) s = (P s : EReal))
    ∧ (∀ s, probR (fun d => (q d : EReal)) (fun s d => (k s d : EReal)) s = (P s : EReal))
    ∧ (∀ s, dscK (fun d => (q d : EReal)) (fun s d => (k s d : EReal)) (fun s d => (v s d : EReal)) (fun d => (g d : EReal)) s = (D s : EReal))
    ∧ ∀ s, dscR (fun d => (q d : EReal)) (fun s d => (k s d : EReal)) (fun s d => (v s d : EReal)) (fun d => (g d : EReal)) s = ((D s * (1 / 16) : ℝ) : EReal) := by
  obtain ⟨E, hE, he⟩ := ex_coe q k
  have hm : mass (fun d => (q d : EReal)) (fun s d => (k s d : EReal)) = ((∑ s, E s : ℝ) : EReal) := by
    unfold mass
    rw [he, coe_sum]
  have hM : 0 < ∑ s, E s := Finset.sum_pos (fun s _ => hE s) ⟨0, Finset.mem_univ _⟩
  have hp : dprob (fun d => (g d : EReal)) (fun s d => (v s d : EReal)) = fun s => ((∑ d, g d * v s d : ℝ) : EReal) := by
    funext s
    unfold dprob
    simp only [← EReal.coe_mul, coe_sum]
  generalize hMe : ∑ s, E s = M at hm hM
  generalize hQ : (fun s => ∑ d, g d * v s d) = Q at hp
  replace hp : dprob (fun d => (g d : EReal)) (fun s d => (v s d : EReal)) = fun s => (Q s : EReal) := by rw [hp, ← hQ]
  have hK : ∀ s, probK (fun d => (q d : EReal)) (fun s d => (k s d : EReal)) s = ((E s * (1 / M) : ℝ) : EReal) := by
    intro s
    unfold probK
    rw [he, hm, Ideal.div_coe hM.ne', one_mul, EReal.coe_mul]
  refine ⟨fun s => E s * (1 / M), fun s => E s * (1 / M) * (Q s - ∑ s', E s' * (1 / M) * Q s'), hK, fun s => ?_, fun s => ?_, fun s => ?_⟩
  · unfold probR
    rw [he, hm, Ideal.div_coe hM.ne', EReal.coe_mul]
  · unfold dscK
    rw [hp]
    simp only [hK, ← EReal.coe_mul, coe_sum, ← EReal.coe_sub]
  · unfold dscR
    rw [hp, he, hm, lit_scale, ← EReal.coe_mul M M, Ideal.div_coe hM.ne', Ideal.div_coe (mul_pos hM hM).ne', one_mul]
    simp only [← EReal.coe_mul, coe_sum, ← EReal.coe_neg, ← EReal.coe_add]
    refine EReal.coe_eq_coe_iff.2 ?_
    have h1 : 1 / (M * M) = 1 / M * (1 / M) := by rw [one_div_mul_one_div]
    rw [h1]
    generalize 1 / M = w
    have h : ∑ s', Q s' * (w * w) * E s' = w * ∑ s', E s' * w * Q s' := by
      rw [Finset.mul_sum]
      exact Finset.sum_congr rfl fun s' _ => by ring
    rw [h]
    ring

end Real

/-! ## The shares of a token -/

section Token

variable {q g : Fin 1024 → EReal} {k v : Fin 256 → Fin 1024 → EReal}
  (hq : ∀ j, IsReal (q j)) (hk : ∀ s j, IsReal (k s j)) (hv : ∀ s j, IsReal (v s j)) (hg : ∀ j, IsReal (g j))

include hq hk hv hg

theorem dq_eq (j : Fin 1024) : dqK q k v g j = dqR q k v g j := by
  choose q' hq' using hq
  choose k' hk' using hk
  choose v' hv' using hv
  choose g' hg' using hg
  obtain rfl : q = fun j => (q' j : EReal) := funext hq'
  obtain rfl : k = fun s j => (k' s j : EReal) := funext fun s => funext (hk' s)
  obtain rfl : v = fun s j => (v' s j : EReal) := funext fun s => funext (hv' s)
  obtain rfl : g = fun j => (g' j : EReal) := funext hg'
  obtain ⟨P, D, hP, hP', hD, hD'⟩ := dsc_eq (fun d => q' (hcol j d)) (fun s d => k' s (hcol j d)) (fun s d => v' s (hcol j d)) (fun d => g' (hcol j d))
  unfold dqK dqR head
  simp only [hD, hD', lit_scale, ← EReal.coe_mul, coe_sum]
  congr 1
  rw [Finset.sum_mul]
  exact Finset.sum_congr rfl fun s _ => by ring

theorem dk_eq (s : Fin 256) (j : Fin 1024) : ∃ r : ℝ, dkK q k v g s j = (r : EReal) ∧ dkR q k v g s j = ((r * (1 / 16) : ℝ) : EReal) := by
  choose q' hq' using hq
  choose k' hk' using hk
  choose v' hv' using hv
  choose g' hg' using hg
  obtain rfl : q = fun j => (q' j : EReal) := funext hq'
  obtain rfl : k = fun s j => (k' s j : EReal) := funext fun s => funext (hk' s)
  obtain rfl : v = fun s j => (v' s j : EReal) := funext fun s => funext (hv' s)
  obtain rfl : g = fun j => (g' j : EReal) := funext hg'
  obtain ⟨P, D, hP, hP', hD, hD'⟩ := dsc_eq (fun d => q' (hcol j d)) (fun s d => k' s (hcol j d)) (fun s d => v' s (hcol j d)) (fun d => g' (hcol j d))
  unfold dkK dkR head
  refine ⟨D s * q' j, ?_, ?_⟩
  · rw [hD, ← EReal.coe_mul]
  · rw [hD', ← EReal.coe_mul]
    congr 1
    ring

omit hv hg in
theorem dv_eq (s : Fin 256) (j : Fin 1024) : dvK q k g s j = dvR q k g s j := by
  choose q' hq' using hq
  choose k' hk' using hk
  obtain rfl : q = fun j => (q' j : EReal) := funext hq'
  obtain rfl : k = fun s j => (k' s j : EReal) := funext fun s => funext (hk' s)
  obtain ⟨P, D, hP, hP', hD, hD'⟩ := dsc_eq (fun d => q' (hcol j d)) (fun s d => k' s (hcol j d)) (fun _ _ => 0) (fun _ => 0)
  unfold dvK dvR head
  rw [hP, hP', mul_comm]

end Token

/-! ## The whole arrays -/

theorem tokOf_eq (n : Fin 16) (a : Fin 512) (h : n.val * 512 + a.val < 8192) : tokOf n a = ⟨n.val * 512 + a.val, h⟩ :=
  Fin.ext (congrArg (· + a.val) (Nat.mul_comm 512 n.val))

section Arrays

variable {q : SX.Idx → EReal} {kv : SM.Idx → EReal} {g : SX.Idx → EReal}
  (hq : ∀ i, IsReal (q i)) (hkv : ∀ i, IsReal (kv i)) (hg : ∀ i, IsReal (g i))

include hq hkv hg

theorem dqAt_eq (t : Fin 8192) (j : Fin 1024) : dqKAt q kv g t j = dqRAt q kv g t j :=
  dq_eq (fun _ => hq _) (fun _ _ => hkv _) (fun _ _ => hkv _) (fun _ => hg _) j

theorem dkvAt_eq (s : Fin 256) (j : Fin 2048) : dkvKAt q kv g s j = dkvRAt q kv g s j := by
  unfold dkvKAt dkvRAt shareKAt
  by_cases h : j.val < 1024
  · simp only [dif_pos h]
    have e := fun t : Fin 8192 => dk_eq (q := row q t) (k := keys kv) (v := vals kv) (g := row g t) (fun _ => hq _) (fun _ _ => hkv _) (fun _ _ => hkv _) (fun _ => hg _) s ⟨j.val, h⟩
    choose r hr hr' using e
    simp only [hr, hr', lit_scale, ← EReal.coe_mul, coe_sum]
    refine EReal.coe_eq_coe_iff.2 ?_
    simp only [← Finset.sum_mul]
    refine congrArg (· * (1 / 16 : ℝ)) ?_
    exact Fin.sum_mul_add_congr fun n a hl => congrArg r (tokOf_eq n a hl)
  · simp only [dif_neg h]
    refine Fin.sum_mul_add_congr fun n a hl => ?_
    rw [tokOf_eq n a hl]
    exact dv_eq (q := row q _) (k := keys kv) (g := row g _) (fun _ => hq _) (fun _ _ => hkv _) s _

end Arrays

end Cert.Spec.Xa

end
-- ==== Proof.XaBwd.lean ====
/-
  The claim of the attention to the memory, backward: where the three arrays hold real numbers, the kernel leaves the
  gradients of the queries and of keys and values that differentiating the forward lines gives.
-/
module

public import proofs.«01_k».proof.Defs
public import proofs.«01_k».proof.Proof.XaPay
public import proofs.«01_k».proof.Proof.XaRef
public import proofs.«01_k».proof.Proof.XaReal
public import proofs.«01_k».proof.Proof.Gen.Pre_finite6
public import Idealize.ShloMosaic.Lib.Claim
public import Idealize.ShloMosaic.Lib.ReduceAll

@[expose] public section

set_option maxRecDepth 16384

noncomputable section

open Idealize.ShloMosaic Idealize.ShloMosaic.TcCoe Idealize.SL.Sem

namespace Cert.Proof.XaBwd

open Cert.Spec Cert.Spec.Xa

theorem and_one {a b : IVec Cert.Pre_finite6.S_ 1} {j : Cert.Pre_finite6.S_.Idx} (h : andi a b j = 1#1) : a j = 1#1 ∧ b j = 1#1 :=
  IntOp.andi_eq_one.1 h

/-- The precondition says that every element of the three arrays is a real number. -/
theorem finite_iff (x0 : FVec Ideal SX .bf16) (x1 : FVec Ideal SM .bf16) (x2 : FVec Ideal SX .bf16)
    (h : Cert.Pre_finite6.fn (F := Ideal) x0 x1 x2 = fun _ => 1#1) :
    (∀ i, IsReal (x0 i)) ∧ (∀ i, IsReal (x1 i)) ∧ (∀ i, IsReal (x2 i)) := by
  haveI : Subsingleton Cert.Pre_finite6.S_.Idx := ⟨fun a b => funext fun k => k.elim0⟩
  have e := congrFun h (fun k => k.elim0)
  obtain ⟨e, e2⟩ := and_one e
  obtain ⟨e0, e1⟩ := and_one e
  exact ⟨fun i => isReal_of_abs_lt _ (Host.reduce_andi_all _ _ _ _ _ e0 i),
    fun i => isReal_of_abs_lt _ (Host.reduce_andi_all _ _ _ _ _ e1 i),
    fun i => isReal_of_abs_lt _ (Host.reduce_andi_all _ _ _ _ _ e2 i)⟩

/-- The kernel's three arrays. -/
def Same (m : (ℓ : Loc Cert.Kernel6Ideal.nD Cert.Kernel6Ideal.τ Cert.Kernel6Ideal.sig) → Buf (Elt Ideal) ℓ) (c : Dev Cert.Kernel6Ideal.nD)
    (x0 : FVec Ideal SX .bf16) (x1 : FVec Ideal SM .bf16) (x2 : FVec Ideal SX .bf16) : Prop :=
  x0 = m ((c.tc : Thread Cert.Kernel6Ideal.nD Cert.Kernel6Ideal.τ).loc Cert.Kernel6Ideal.main_arg0)
  ∧ x1 = m ((c.tc : Thread Cert.Kernel6Ideal.nD Cert.Kernel6Ideal.τ).loc Cert.Kernel6Ideal.main_arg1)
  ∧ x2 = m ((c.tc : Thread Cert.Kernel6Ideal.nD Cert.Kernel6Ideal.τ).loc Cert.Kernel6Ideal.main_arg2)

section Results

variable {m : (ℓ : Loc Cert.Kernel6Ideal.nD Cert.Kernel6Ideal.τ Cert.Kernel6Ideal.sig) → Buf (Elt Ideal) ℓ}
  {x0 : FVec Ideal SX .bf16} {x1 : FVec Ideal SM .bf16} {x2 : FVec Ideal SX .bf16}

theorem queries {c : Dev Cert.Kernel6Ideal.nD} (hp : Cert.Pre_finite6.fn (F := Ideal) x0 x1 x2 = fun _ => 1#1)
    (h : Same m c x0 x1 x2) : (fun i => dqRAt x0 x1 x2 (i 0) (i 1)) = (Cert.Kernel6Ideal.Gen.dats m 0 c).arrAt 4 Cert.Kernel6Ideal.cfg0.N := by
  obtain ⟨h0, h1, h2⟩ := finite_iff _ _ _ hp
  obtain ⟨rfl, rfl, rfl⟩ := h
  refine Eq.trans (funext fun i => ?_) (Cert.Kernel6Ideal.Xa.final4 m c).symm
  exact (dqAt_eq h0 h1 h2 (i 0) (i 1)).symm

theorem memory {c : Dev Cert.Kernel6Ideal.nD} (hp : Cert.Pre_finite6.fn (F := Ideal) x0 x1 x2 = fun _ => 1#1)
    (h : Same m c x0 x1 x2) : (fun i => dkvRAt x0 x1 x2 (i 0) (i 1)) = (Cert.Kernel6Ideal.Gen.dats m 0 c).arrAt 5 Cert.Kernel6Ideal.cfg0.N := by
  obtain ⟨h0, h1, h2⟩ := finite_iff _ _ _ hp
  obtain ⟨rfl, rfl, rfl⟩ := h
  refine Eq.trans (funext fun i => ?_) (Cert.Kernel6Ideal.Xa.final5 m c).symm
  exact (dkvAt_eq h0 h1 h2 (i 0) (i 1)).symm

end Results

theorem algebraic : Cert.algebraic_Kernel6Ideal_Reference6Ideal_pre_finite6 := by
  intro m g m' g' hpre hagree
  refine ⟨_, _, Cert.Kernel6Ideal.Value.run_blocks m g, ?_⟩
  refine θ_run_mono (Cert.Reference6Ideal.Xa.run m' g') fun r h c => ?_
  have e : Same m c _ _ _ := hagree c
  have hp := hpre c
  rw [← (hagree c).1, ← (hagree c).2.1, ← (hagree c).2.2] at hp
  exact ⟨(h c).1.trans (queries hp e), (h c).2.1.trans (memory hp e), (h c).2.2⟩

end Cert.Proof.XaBwd

end
-- ==== Proof.Prods.lean ====
/-
  The plain products of the step: the gradients of the output projection in its input and in its weights, of the
  projections after the norm in their weights, and the output projection itself.  For each program: the kernel's
  array after the run, the reference's result, and the claim that they agree.
-/
module

public import proofs.«01_k».proof.Defs
public import proofs.«01_k».proof.Proof.Gen.Kernel7Ideal.Value
public import proofs.«01_k».proof.Proof.Gen.Reference7Ideal.Read
public import proofs.«01_k».proof.Proof.Gen.Kernel8Ideal.Value
public import proofs.«01_k».proof.Proof.Gen.Reference8Ideal.Read
public import proofs.«01_k».proof.Proof.Gen.Kernel9Ideal.Value
public import proofs.«01_k».proof.Proof.Gen.Reference9Ideal.Read
public import proofs.«01_k».proof.Proof.Gen.Kernel10Ideal.Value
public import proofs.«01_k».proof.Proof.Gen.Reference10Ideal.Read
public import proofs.«01_k».proof.Proof.Gen.Kernel11Ideal.Value
public import proofs.«01_k».proof.Proof.Gen.Reference11Ideal.Read
public import proofs.«01_k».proof.Proof.Gen.Kernel12Ideal.Value
public import proofs.«01_k».proof.Proof.Gen.Reference12Ideal.Read
public import proofs.«01_k».proof.Proof.Spec
public import Idealize.ShloMosaic.Lib.Claim
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Spec

/-- The weights of a square projection. -/
abbrev SWS : Shape := ⟨3, ![1, 1024, 1024]⟩

/-- The gradient of a projection in its input, at token `i` and column `j` of the input. -/
def prodTAt (w : SWS.Idx → EReal) (d : SX.Idx → EReal) (i : Fin 8192) (j : Fin 1024) : EReal :=
  ∑ k : Fin 1024, d (ix2 i k) * w (ix3 0 j k)

/-- The gradient of a projection in its weights, at column `k` of the input and column `j` of the output. -/
def gradAt {n : ℕ} (u : SX.Idx → EReal) (d : (⟨2, ![8192, n]⟩ : Shape).Idx → EReal) (k : Fin 1024) (j : Fin n) : EReal :=
  ∑ t : Fin 8192, u (ix2 t k) * d (ix2 t j)

/-- The residual plus the projection, at token `i` and column `j`. -/
def projResAt (y : SX.Idx → EReal) (w : SWS.Idx → EReal) (h : SX.Idx → EReal) (i : Fin 8192) (j : Fin 1024) : EReal :=
  h (ix2 i j) + ∑ k : Fin 1024, y (ix2 i k) * w (ix3 0 k j)

end Cert.Spec

/-! ## The gradient of the output projection in its input -/

namespace Cert.Reference7Ideal.ProdT

open Cert.Reference7Ideal Cert.Reference7Ideal.Gen Cert.Reference7Ideal.Read Cert.Spec

theorem v5_eq (x1 : FVec Ideal S1x1024x1024 .bf16) (x2 : FVec Ideal S8192x1024 .f32) :
    val_main_v5 (F := Ideal) x1 x2 = fun i => prodTAt x1 x2 (i 0) (i 1) := by
  funext i
  pointwise [val_main_v5, val_main_v4, val_main_v1, val_main_v0, prodTAt]

end Cert.Reference7Ideal.ProdT

namespace Cert.Kernel7Ideal.ProdT

open Cert.Kernel7Ideal Cert.Kernel7Ideal.Gen Cert.Spec

variable (m : (ℓ : Loc nD τ sig) → Buf (Elt Ideal) ℓ)

theorem idx : ∀ t : Fin cfg0.N, win0_0.index t = ![t.val, 0] ∧ win0_1.index t = ![0, 0, 0]
    ∧ win0_2.index t = ![t.val, 0] :=
  (by decide +kernel : ∀ t : Fin grid0.N, _)

/-- What one point stores: the product of its two blocks. -/
theorem out_eq (c : Dev nD) (t : Fin cfg0.N) : outsAt0 m c t = k0_pay4 (k0_pay2 (iblk m c 0 t) (iblk m c 1 t)) := by
  unfold outsAt0
  frame_out

theorem final2 (c : Dev nD) : (dats m 0 c).arrAt 2 cfg0.N
    = fun i => prodTAt (m ((c : Thread nD τ).loc main_arg1)) (m ((c : Thread nD τ).loc main_arg2)) (i 0) (i 1) := by
  refine (dats m 0 c).arrAt_eq_of_covers 2 _ (by decide +kernel) fun t hf y => ?_
  blk_simp
  rw [after0_2, out_eq m c t]
  pointwise [k0_pay4, k0_pay2, k0_pay1, prodTAt]
  refine Fin.sum_fin_congr fun k => ?_
  refine congr (congrArg HMul.hMul ?_) ?_
  · blk_point [iblk, V, idx t]
  · blk_point [iblk, V, idx t]

end Cert.Kernel7Ideal.ProdT

namespace Cert.Proof.ProdT

theorem algebraic : Cert.algebraic_Kernel7Ideal_Reference7Ideal := by
  pair_intro
  · run_from Cert.Kernel7Ideal.Value.run_blocks m g
  · run_from Cert.Reference7Ideal.Value.run m' g'
    rw [Cert.Kernel7Ideal.ProdT.final2]
    exact Cert.Reference7Ideal.ProdT.v5_eq _ _

end Cert.Proof.ProdT

/-! ## The gradient of the output projection in its weights -/

namespace Cert.Reference8Ideal.GradO

open Cert.Reference8Ideal Cert.Reference8Ideal.Gen Cert.Reference8Ideal.Read Cert.Spec

theorem v6_eq (x0 : FVec Ideal S8192x1024 .bf16) (x2 : FVec Ideal S8192x1024 .f32) :
    val_main_v6 (F := Ideal) x0 x2 = fun i => gradAt x0 x2 (i 0) (i 1) := by
  funext i
  pointwise [val_main_v6, val_main_v5, val_main_v4, val_main_v0, gradAt]
  refine Fin.sum_fin_congr fun t => ?_
  rw [mul_comm]

end Cert.Reference8Ideal.GradO

namespace Cert.Kernel8Ideal.GradO

open Cert.Kernel8Ideal Cert.Kernel8Ideal.Gen Cert.Spec

variable (m : (ℓ : Loc nD τ sig) → Buf (Elt Ideal) ℓ)

theorem idx : ∀ t : Fin cfg0.N, win0_0.index t = ![t.val % 8, 0] ∧ win0_1.index t = ![t.val % 8, 0]
    ∧ win0_2.index t = ![0, 0] :=
  (by decide +kernel : ∀ t : Fin grid0.N, _)

/-- One block's share of the product: the sum over the block's tokens. -/
def part (v0 : Vec Ideal S1024x1024 .bf16) (v2 : Vec Ideal S1024x1024 .f32) (j : S1024x1024.Idx) : EReal :=
  ∑ k : Fin 1024, v0 (ix2 k (j 0)) * v2 (ix2 k (j 1))

theorem pay_reset (v0 : Vec Ideal S1024x1024 .bf16) (v2 : Vec Ideal S1024x1024 .f32) (j : S1024x1024.Idx) :
    k0_pay2 v0 v2 j = part v0 v2 j := by
  pointwise [k0_pay2, k0_pay1, part]

theorem pay_step (v0 : Vec Ideal S1024x1024 .bf16) (v2 : Vec Ideal S1024x1024 .f32) (acc : Vec Ideal S1024x1024 .f32)
    (j : S1024x1024.Idx) : k0_pay3 v0 v2 acc j = acc j + part v0 v2 j := by
  pointwise [k0_pay3, k0_pay1, part]

/-- The accumulator after the last point of a run holds the run's whole sum. -/
theorem acc_eq (c : Dev nD) (t : Fin cfg0.N) (hf : t.val % 8 = 8 - 1) (j : S1024x1024.Idx) :
    (outsAt0 m c t.val t.isLt).2 j
      = ∑ s : Fin 8, part (iblk m c 0 ⟨8 * (t.val / 8) + s.val, Pipeline.run_point_lt_of_flush t hf s⟩)
          (iblk m c 1 ⟨8 * (t.val / 8) + s.val, Pipeline.run_point_lt_of_flush t hf s⟩) j := by
  rw [Pipeline.eq_sum_fin_of_reset_step_apply_of_flush (fun n h => (outsAt0 m c n h).2) 8 (fun _ => (0 : EReal))
    (fun t j => part (iblk m c 0 t) (iblk m c 1 t) j)
    (fun t h j => by
      rw [outsAt0_A m c t h (by have := lt_of_lt_of_eq t.isLt N_0; omega) (by omega)]
      frame_out
      rw [pay_reset, zero_add])
    (fun t h j => by
      by_cases h2 : t.val % 8 = 7
      · rw [outsAt0_C m c t h (by omega) h2]
        frame_out
        rw [pay_step, read_unread_whole]
      · rw [outsAt0_B m c t h (by omega) h2]
        frame_out
        rw [pay_step, read_unread_whole]) t hf j, zero_add]

/-- What a run's last point stores: the accumulator, times one. -/
theorem out_eq (c : Dev nD) (t : Fin cfg0.N) (hf : t.val % 8 = 7) :
    (outsAt0 m c t.val t.isLt).1 = k0_pay4 ((outsAt0 m c t.val t.isLt).2) := by
  rw [outsAt0_C m c t (by omega) (by omega) hf]
  frame_out

theorem final2 (c : Dev nD) : (dats m 0 c).arrAt 2 cfg0.N
    = fun i => gradAt (m ((c : Thread nD τ).loc main_arg0)) (m ((c : Thread nD τ).loc main_arg2)) (i 0) (i 1) := by
  refine (dats m 0 c).arrAt_eq_of_covers 2 _ (by decide +kernel) fun t hf y => ?_
  blk_simp
  have hf' := (flush0_2 t).mp hf
  rw [after0_2, out_eq m c t hf']
  pointwise [k0_pay4, gradAt]
  rw [acc_eq m c t hf']
  unfold part
  refine Fin.sum_mul_add_congr fun s k hl => ?_
  have hi := idx ⟨_, Pipeline.run_point_lt_of_flush t hf' s⟩
  refine congr (congrArg HMul.hMul ?_) ?_
  · blk_point [iblk, V, hi, idx t]
  · blk_point [iblk, V, hi, idx t]

end Cert.Kernel8Ideal.GradO

namespace Cert.Proof.GradO

theorem algebraic : Cert.algebraic_Kernel8Ideal_Reference8Ideal := by
  pair_intro
  · run_from Cert.Kernel8Ideal.Value.run_blocks m g
  · run_from Cert.Reference8Ideal.Value.run m' g'
    rw [Cert.Kernel8Ideal.GradO.final2]
    exact Cert.Reference8Ideal.GradO.v6_eq _ _

end Cert.Proof.GradO

/-! ## The gradient of the query projection in its weights -/

namespace Cert.Reference9Ideal.GradQ

open Cert.Reference9Ideal Cert.Reference9Ideal.Gen Cert.Reference9Ideal.Read Cert.Spec

theorem v7_eq (x0 : FVec Ideal S8192x1024 .bf16) (x2 : FVec Ideal S8192x1024 .bf16) :
    val_main_v7 (F := Ideal) x0 x2 = fun i => gradAt x0 x2 (i 0) (i 1) := by
  funext i
  pointwise [val_main_v7, val_main_v6, val_main_v5, val_main_v4, val_main_v0, gradAt]
  refine Fin.sum_fin_congr fun t => ?_
  rw [mul_comm]

end Cert.Reference9Ideal.GradQ

namespace Cert.Kernel9Ideal.GradQ

open Cert.Kernel9Ideal Cert.Kernel9Ideal.Gen Cert.Spec

variable (m : (ℓ : Loc nD τ sig) → Buf (Elt Ideal) ℓ)

theorem idx : ∀ t : Fin cfg0.N, win0_0.index t = ![t.val % 8, 0] ∧ win0_1.index t = ![t.val % 8, 0]
    ∧ win0_2.index t = ![0, 0] :=
  (by decide +kernel : ∀ t : Fin grid0.N, _)

/-- One block's share of the product: the sum over the block's tokens. -/
def part (v0 : Vec Ideal S1024x1024 .bf16) (v2 : Vec Ideal S1024x1024 .bf16) (j : S1024x1024.Idx) : EReal :=
  ∑ k : Fin 1024, v0 (ix2 k (j 0)) * v2 (ix2 k (j 1))

theorem pay_reset (v0 : Vec Ideal S1024x1024 .bf16) (v2 : Vec Ideal S1024x1024 .bf16) (j : S1024x1024.Idx) :
    k0_pay2 v0 v2 j = part v0 v2 j := by
  pointwise [k0_pay2, k0_pay1, part]

theorem pay_step (v0 : Vec Ideal S1024x1024 .bf16) (v2 : Vec Ideal S1024x1024 .bf16) (acc : Vec Ideal S1024x1024 .f32)
    (j : S1024x1024.Idx) : k0_pay3 v0 v2 acc j = acc j + part v0 v2 j := by
  pointwise [k0_pay3, k0_pay1, part]

/-- The accumulator after the last point of a run holds the run's whole sum. -/
theorem acc_eq (c : Dev nD) (t : Fin cfg0.N) (hf : t.val % 8 = 8 - 1) (j : S1024x1024.Idx) :
    (outsAt0 m c t.val t.isLt).2 j
      = ∑ s : Fin 8, part (iblk m c 0 ⟨8 * (t.val / 8) + s.val, Pipeline.run_point_lt_of_flush t hf s⟩)
          (iblk m c 1 ⟨8 * (t.val / 8) + s.val, Pipeline.run_point_lt_of_flush t hf s⟩) j := by
  rw [Pipeline.eq_sum_fin_of_reset_step_apply_of_flush (fun n h => (outsAt0 m c n h).2) 8 (fun _ => (0 : EReal))
    (fun t j => part (iblk m c 0 t) (iblk m c 1 t) j)
    (fun t h j => by
      rw [outsAt0_A m c t h (by have := lt_of_lt_of_eq t.isLt N_0; omega) (by omega)]
      frame_out
      rw [pay_reset, zero_add])
    (fun t h j => by
      by_cases h2 : t.val % 8 = 7
      · rw [outsAt0_C m c t h (by omega) h2]
        frame_out
        rw [pay_step, read_unread_whole]
      · rw [outsAt0_B m c t h (by omega) h2]
        frame_out
        rw [pay_step, read_unread_whole]) t hf j, zero_add]

/-- What a run's last point stores: the accumulator, times one. -/
theorem out_eq (c : Dev nD) (t : Fin cfg0.N) (hf : t.val % 8 = 7) :
    (outsAt0 m c t.val t.isLt).1 = k0_pay4 ((outsAt0 m c t.val t.isLt).2) := by
  rw [outsAt0_C m c t (by omega) (by omega) hf]
  frame_out

theorem final2 (c : Dev nD) : (dats m 0 c).arrAt 2 cfg0.N
    = fun i => gradAt (m ((c : Thread nD τ).loc main_arg0)) (m ((c : Thread nD τ).loc main_arg2)) (i 0) (i 1) := by
  refine (dats m 0 c).arrAt_eq_of_covers 2 _ (by decide +kernel) fun t hf y => ?_
  blk_simp
  have hf' := (flush0_2 t).mp hf
  rw [after0_2, out_eq m c t hf']
  pointwise [k0_pay4, gradAt]
  rw [acc_eq m c t hf']
  unfold part
  refine Fin.sum_mul_add_congr fun s k hl => ?_
  have hi := idx ⟨_, Pipeline.run_point_lt_of_flush t hf' s⟩
  refine congr (congrArg HMul.hMul ?_) ?_
  · blk_point [iblk, V, hi, idx t]
  · blk_point [iblk, V, hi, idx t]

end Cert.Kernel9Ideal.GradQ

namespace Cert.Proof.GradQ

theorem algebraic : Cert.algebraic_Kernel9Ideal_Reference9Ideal := by
  pair_intro
  · run_from Cert.Kernel9Ideal.Value.run_blocks m g
  · run_from Cert.Reference9Ideal.Value.run m' g'
    rw [Cert.Kernel9Ideal.GradQ.final2]
    exact Cert.Reference9Ideal.GradQ.v7_eq _ _

end Cert.Proof.GradQ

/-! ## The gradient of the wide input projection in its weights -/

namespace Cert.Reference10Ideal.GradOdd

open Cert.Reference10Ideal Cert.Reference10Ideal.Gen Cert.Reference10Ideal.Read Cert.Spec

theorem v7_eq (x0 : FVec Ideal S8192x1024 .bf16) (x2 : FVec Ideal S8192x3072 .bf16) :
    val_main_v7 (F := Ideal) x0 x2 = fun i => gradAt x0 x2 (i 0) (i 1) := by
  funext i
  pointwise [val_main_v7, val_main_v6, val_main_v5, val_main_v4, val_main_v0, gradAt]
  refine Fin.sum_fin_congr fun t => ?_
  rw [mul_comm]

end Cert.Reference10Ideal.GradOdd

namespace Cert.Kernel10Ideal.GradOdd

open Cert.Kernel10Ideal Cert.Kernel10Ideal.Gen Cert.Spec

variable (m : (ℓ : Loc nD τ sig) → Buf (Elt Ideal) ℓ)

theorem idx : ∀ t : Fin cfg0.N, win0_0.index t = ![t.val % 8, 0] ∧ win0_1.index t = ![t.val % 8, t.val / 8]
    ∧ win0_2.index t = ![0, t.val / 8] :=
  (by decide +kernel : ∀ t : Fin grid0.N, _)

/-- One block's share of the product: the sum over the block's tokens. -/
def part (v0 : Vec Ideal S1024x1024 .bf16) (v2 : Vec Ideal S1024x1024 .bf16) (j : S1024x1024.Idx) : EReal :=
  ∑ k : Fin 1024, v0 (ix2 k (j 0)) * v2 (ix2 k (j 1))

theorem pay_reset (v0 : Vec Ideal S1024x1024 .bf16) (v2 : Vec Ideal S1024x1024 .bf16) (j : S1024x1024.Idx) :
    k0_pay2 v0 v2 j = part v0 v2 j := by
  pointwise [k0_pay2, k0_pay1, part]

theorem pay_step (v0 : Vec Ideal S1024x1024 .bf16) (v2 : Vec Ideal S1024x1024 .bf16) (acc : Vec Ideal S1024x1024 .f32)
    (j : S1024x1024.Idx) : k0_pay3 v0 v2 acc j = acc j + part v0 v2 j := by
  pointwise [k0_pay3, k0_pay1, part]

/-- The accumulator after the last point of a run holds the run's whole sum. -/
theorem acc_eq (c : Dev nD) (t : Fin cfg0.N) (hf : t.val % 8 = 8 - 1) (j : S1024x1024.Idx) :
    (outsAt0 m c t.val t.isLt).2 j
      = ∑ s : Fin 8, part (iblk m c 0 ⟨8 * (t.val / 8) + s.val, Pipeline.run_point_lt_of_flush t hf s⟩)
          (iblk m c 1 ⟨8 * (t.val / 8) + s.val, Pipeline.run_point_lt_of_flush t hf s⟩) j := by
  rw [Pipeline.eq_sum_fin_of_reset_step_apply_of_flush (fun n h => (outsAt0 m c n h).2) 8 (fun _ => (0 : EReal))
    (fun t j => part (iblk m c 0 t) (iblk m c 1 t) j)
    (fun t h j => by
      rw [outsAt0_A m c t h (by omega) (by omega)]
      frame_out
      rw [pay_reset, zero_add])
    (fun t h j => by
      by_cases h2 : t.val % 8 = 7
      · rw [outsAt0_C m c t h (by omega) h2]
        frame_out
        rw [pay_step, read_unread_whole]
      · rw [outsAt0_B m c t h (by omega) h2]
        frame_out
        rw [pay_step, read_unread_whole]) t hf j, zero_add]

/-- What a run's last point stores: the accumulator, times one. -/
theorem out_eq (c : Dev nD) (t : Fin cfg0.N) (hf : t.val % 8 = 7) :
    (outsAt0 m c t.val t.isLt).1 = k0_pay4 ((outsAt0 m c t.val t.isLt).2) := by
  rw [outsAt0_C m c t (by omega) (by omega) hf]
  frame_out

theorem final2 (c : Dev nD) : (dats m 0 c).arrAt 2 cfg0.N
    = fun i => gradAt (m ((c : Thread nD τ).loc main_arg0)) (m ((c : Thread nD τ).loc main_arg2)) (i 0) (i 1) := by
  refine (dats m 0 c).arrAt_eq_of_covers 2 _ (by decide +kernel) fun t hf y => ?_
  blk_simp
  have hf' := (flush0_2 t).mp hf
  rw [after0_2, out_eq m c t hf']
  pointwise [k0_pay4, gradAt]
  rw [acc_eq m c t hf']
  unfold part
  refine Fin.sum_mul_add_congr fun s k hl => ?_
  have hi := idx ⟨_, Pipeline.run_point_lt_of_flush t hf' s⟩
  refine congr (congrArg HMul.hMul ?_) ?_
  · blk_point [iblk, V, hi, idx t]
  · blk_point [iblk, V, hi, idx t]

end Cert.Kernel10Ideal.GradOdd

namespace Cert.Proof.GradOdd

theorem algebraic : Cert.algebraic_Kernel10Ideal_Reference10Ideal := by
  pair_intro
  · run_from Cert.Kernel10Ideal.Value.run_blocks m g
  · run_from Cert.Reference10Ideal.Value.run m' g'
    rw [Cert.Kernel10Ideal.GradOdd.final2]
    exact Cert.Reference10Ideal.GradOdd.v7_eq _ _

end Cert.Proof.GradOdd

/-! ## The gradient of the narrow input projection in its weights -/

namespace Cert.Reference11Ideal.GradEven

open Cert.Reference11Ideal Cert.Reference11Ideal.Gen Cert.Reference11Ideal.Read Cert.Spec

theorem v7_eq (x0 : FVec Ideal S8192x1024 .bf16) (x2 : FVec Ideal S8192x1792 .bf16) :
    val_main_v7 (F := Ideal) x0 x2 = fun i => gradAt x0 x2 (i 0) (i 1) := by
  funext i
  pointwise [val_main_v7, val_main_v6, val_main_v5, val_main_v4, val_main_v0, gradAt]
  refine Fin.sum_fin_congr fun t => ?_
  rw [mul_comm]

end Cert.Reference11Ideal.GradEven

namespace Cert.Kernel11Ideal.GradEven

open Cert.Kernel11Ideal Cert.Kernel11Ideal.Gen Cert.Spec

variable (m : (ℓ : Loc nD τ sig) → Buf (Elt Ideal) ℓ)

theorem idx : ∀ t : Fin cfg0.N, win0_0.index t = ![t.val % 8, 0] ∧ win0_1.index t = ![t.val % 8, 0]
    ∧ win0_2.index t = ![0, 0] :=
  (by decide +kernel : ∀ t : Fin grid0.N, _)

/-- One block's share of the product: the sum over the block's tokens. -/
def part (v0 : Vec Ideal S1024x1024 .bf16) (v2 : Vec Ideal S1024x1792 .bf16) (j : S1024x1792.Idx) : EReal :=
  ∑ k : Fin 1024, v0 (ix2 k (j 0)) * v2 (ix2 k (j 1))

theorem pay_reset (v0 : Vec Ideal S1024x1024 .bf16) (v2 : Vec Ideal S1024x1792 .bf16) (j : S1024x1792.Idx) :
    k0_pay2 v0 v2 j = part v0 v2 j := by
  pointwise [k0_pay2, k0_pay1, part]

theorem pay_step (v0 : Vec Ideal S1024x1024 .bf16) (v2 : Vec Ideal S1024x1792 .bf16) (acc : Vec Ideal S1024x1792 .f32)
    (j : S1024x1792.Idx) : k0_pay3 v0 v2 acc j = acc j + part v0 v2 j := by
  pointwise [k0_pay3, k0_pay1, part]

/-- The accumulator after the last point of a run holds the run's whole sum. -/
theorem acc_eq (c : Dev nD) (t : Fin cfg0.N) (hf : t.val % 8 = 8 - 1) (j : S1024x1792.Idx) :
    (outsAt0 m c t.val t.isLt).2 j
      = ∑ s : Fin 8, part (iblk m c 0 ⟨8 * (t.val / 8) + s.val, Pipeline.run_point_lt_of_flush t hf s⟩)
          (iblk m c 1 ⟨8 * (t.val / 8) + s.val, Pipeline.run_point_lt_of_flush t hf s⟩) j := by
  rw [Pipeline.eq_sum_fin_of_reset_step_apply_of_flush (fun n h => (outsAt0 m c n h).2) 8 (fun _ => (0 : EReal))
    (fun t j => part (iblk m c 0 t) (iblk m c 1 t) j)
    (fun t h j => by
      rw [outsAt0_A m c t h (by have := lt_of_lt_of_eq t.isLt N_0; omega) (by omega)]
      frame_out
      rw [pay_reset, zero_add])
    (fun t h j => by
      by_cases h2 : t.val % 8 = 7
      · rw [outsAt0_C m c t h (by omega) h2]
        frame_out
        rw [pay_step, read_unread_whole]
      · rw [outsAt0_B m c t h (by omega) h2]
        frame_out
        rw [pay_step, read_unread_whole]) t hf j, zero_add]

/-- What a run's last point stores: the accumulator, times one. -/
theorem out_eq (c : Dev nD) (t : Fin cfg0.N) (hf : t.val % 8 = 7) :
    (outsAt0 m c t.val t.isLt).1 = k0_pay4 ((outsAt0 m c t.val t.isLt).2) := by
  rw [outsAt0_C m c t (by omega) (by omega) hf]
  frame_out

theorem final2 (c : Dev nD) : (dats m 0 c).arrAt 2 cfg0.N
    = fun i => gradAt (m ((c : Thread nD τ).loc main_arg0)) (m ((c : Thread nD τ).loc main_arg2)) (i 0) (i 1) := by
  refine (dats m 0 c).arrAt_eq_of_covers 2 _ (by decide +kernel) fun t hf y => ?_
  blk_simp
  have hf' := (flush0_2 t).mp hf
  rw [after0_2, out_eq m c t hf']
  pointwise [k0_pay4, gradAt]
  rw [acc_eq m c t hf']
  unfold part
  refine Fin.sum_mul_add_congr fun s k hl => ?_
  have hi := idx ⟨_, Pipeline.run_point_lt_of_flush t hf' s⟩
  refine congr (congrArg HMul.hMul ?_) ?_
  · blk_point [iblk, V, hi, idx t]
  · blk_point [iblk, V, hi, idx t]

end Cert.Kernel11Ideal.GradEven

namespace Cert.Proof.GradEven

theorem algebraic : Cert.algebraic_Kernel11Ideal_Reference11Ideal := by
  pair_intro
  · run_from Cert.Kernel11Ideal.Value.run_blocks m g
  · run_from Cert.Reference11Ideal.Value.run m' g'
    rw [Cert.Kernel11Ideal.GradEven.final2]
    exact Cert.Reference11Ideal.GradEven.v7_eq _ _

end Cert.Proof.GradEven

/-! ## The output projection -/

namespace Cert.Reference12Ideal.ProdOut

open Cert.Reference12Ideal Cert.Reference12Ideal.Gen Cert.Reference12Ideal.Read Cert.Spec

theorem v4_eq (x0 : FVec Ideal S8192x1024 .bf16) (x1 : FVec Ideal S1x1024x1024 .bf16) (x2 : FVec Ideal S8192x1024 .f32) :
    val_main_v4 (F := Ideal) x0 x1 x2 = fun i => projResAt x0 x1 x2 (i 0) (i 1) := by
  funext i
  pointwise [val_main_v4, val_main_v3, val_main_v2, val_main_v1, val_main_v0, projResAt]

end Cert.Reference12Ideal.ProdOut

namespace Cert.Kernel12Ideal.ProdOut

open Cert.Kernel12Ideal Cert.Kernel12Ideal.Gen Cert.Spec

variable (m : (ℓ : Loc nD τ sig) → Buf (Elt Ideal) ℓ)

theorem idx : ∀ t : Fin cfg0.N, win0_0.index t = ![t.val, 0] ∧ win0_1.index t = ![0, 0, 0]
    ∧ win0_2.index t = ![t.val, 0] ∧ win0_3.index t = ![t.val, 0] :=
  (by decide +kernel : ∀ t : Fin grid0.N, _)

/-- What one point stores: the residual's block plus the product of the other two. -/
theorem out_eq (c : Dev nD) (t : Fin cfg0.N) :
    outsAt0 m c t = k0_pay4 (k0_pay2 (iblk m c 0 t) (iblk m c 1 t)) (iblk m c 2 t) := by
  unfold outsAt0
  frame_out

theorem final3 (c : Dev nD) : (dats m 0 c).arrAt 3 cfg0.N
    = fun i => projResAt (m ((c : Thread nD τ).loc main_arg0)) (m ((c : Thread nD τ).loc main_arg1)) (m ((c : Thread nD τ).loc main_arg2)) (i 0) (i 1) := by
  refine (dats m 0 c).arrAt_eq_of_covers 3 _ (by decide +kernel) fun t hf y => ?_
  blk_simp
  rw [after0_3, out_eq m c t]
  pointwise [k0_pay4, k0_pay2, k0_pay1, projResAt]
  refine congr (congrArg HAdd.hAdd ?_) (Finset.sum_congr rfl fun k _ => congr (congrArg HMul.hMul ?_) ?_)
  · blk_point [iblk, V, idx t]
  · blk_point [iblk, V, idx t]
  · blk_point [iblk, V, idx t]

end Cert.Kernel12Ideal.ProdOut

namespace Cert.Proof.ProdOut

theorem algebraic : Cert.algebraic_Kernel12Ideal_Reference12Ideal := by
  pair_intro
  · run_from Cert.Kernel12Ideal.Value.run_blocks m g
  · run_from Cert.Reference12Ideal.Value.run m' g'
    rw [Cert.Kernel12Ideal.ProdOut.final3]
    exact Cert.Reference12Ideal.ProdOut.v4_eq _ _ _

end Cert.Proof.ProdOut

end
-- ==== Proof.NormSpec.lean ====
/-
  The backward of the norm and the projection after it, as the kernel and as the reference write it, over a
  projection to any number of columns, and the equality of the two.
-/
module

public import proofs.«01_k».proof.Proof.BwdReal

@[expose] public section

set_option maxRecDepth 16384

noncomputable section

namespace Cert.Spec.Norm

open Idealize.ShloMosaic

/-- The rows of a projection's result and its weights. -/
abbrev SZ (n : ℕ) : Shape := ⟨2, ![8192, n]⟩
abbrev SW (n : ℕ) : Shape := ⟨3, ![1, 1024, n]⟩

section Arrays

variable {n : ℕ} (dz : (SZ n).Idx → EReal) (w : (SW n).Idx → EReal) (h : SX.Idx → EReal) (g : SG.Idx → EReal) (dr : SX.Idx → EReal)

/-- The gradient of the normalised row: the cotangent's row times a row of the weights. -/
def duAt (t : Fin 8192) (k : Fin 1024) : EReal := ∑ j : Fin n, dz (ix2 t j) * w (ix3 0 k j)
def rowKN (t : Fin 8192) (k : Fin 1024) : EReal := rowK (row dr t) (row h t) (gain g) (duAt dz w t) k
def rowRN (t : Fin 8192) (k : Fin 1024) : EReal := rowR (row dr t) (row h t) (gain g) (duAt dz w t) k
/-- One token's share of the gain's gradient. -/
def gainKN (t : Fin 8192) (k : Fin 1024) : EReal := duAt dz w t k * (h (ix2 t k) * scale (row h t))
def gainRN (t : Fin 8192) (k : Fin 1024) : EReal := h (ix2 t k) * scale (row h t) * duAt dz w t k

theorem gainKN_eq (t : Fin 8192) (k : Fin 1024) : gainKN dz w h t k = gainRN dz w h t k := mul_comm _ _

theorem rowKN_eq (t : Fin 8192) (k : Fin 1024) : rowKN dz w h g dr t k = rowRN dz w h g dr t k := rowK_eq _ _ _ _ k

end Arrays

/-- A sum over 1024 rows is the sum over four slabs of 256 rows. -/
theorem sum_slabs (f : Fin 1024 → EReal) :
    ∑ j : Fin 1024, f j = ((∑ j : Fin 256, f ⟨j.val, by omega⟩) + (∑ j : Fin 256, f ⟨256 + j.val, by omega⟩))
      + (∑ j : Fin 256, f ⟨512 + j.val, by omega⟩) + ∑ j : Fin 256, f ⟨768 + j.val, by omega⟩ := by
  have h1 := Fin.sum_univ_add (M := EReal) (a := 768) (b := 256) f
  have h2 := Fin.sum_univ_add (M := EReal) (a := 512) (b := 256) (fun j => f (Fin.castAdd 256 j))
  have h3 := Fin.sum_univ_add (M := EReal) (a := 256) (b := 256) (fun j => f (Fin.castAdd 256 (Fin.castAdd 256 j)))
  exact h1.trans (congrArg (· + _) (h2.trans (congrArg (· + _) h3)))

end Cert.Spec.Norm

end
-- ==== Proof.NormBwd.lean ====
/-
  The backward of the norm and the projection after it, to 1024 columns: what the kernel leaves, what differentiating
  the forward lines gives, and the claim that the two agree.
-/
module

public import proofs.«01_k».proof.Defs
public import proofs.«01_k».proof.Proof.Gen.Kernel13Ideal.Value
public import proofs.«01_k».proof.Proof.Gen.Reference13Ideal.Read
public import proofs.«01_k».proof.Proof.NormSpec
public import Idealize.ShloMosaic.Lib.Pipeline.ReadBack
public import Idealize.ShloMosaic.Lib.KernelVsHost
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Reference13Ideal.Norm

open Cert.Reference13Ideal Cert.Reference13Ideal.Gen Cert.Reference13Ideal.Read Cert.Spec Cert.Spec.Norm

section Lines

variable (x0 : FVec Ideal S8192x1024 .bf16) (x1 : FVec Ideal S1x1024x1024 .bf16) (x2 : FVec Ideal S8192x1024 .f32) (x3 : FVec Ideal S1x1024 .f32) (x4 : FVec Ideal S8192x1024 .f32)

theorem v9_eq : val_main_v9 (F := Ideal) x2 = fun i => scale (row x2 (i 0)) := by
  funext i
  pointwise [val_main_v9, val_main_v8, val_main_v7, val_main_cst_1, val_main_v6, val_main_v5, val_main_cst_0, val_main_v4,
    val_main_v3, val_main_cst, val_main_v2, scale, row]

theorem v19_eq : val_main_v19 (F := Ideal) x0 x1 = fun i => duAt x0 x1 (i 0) (i 1) := by
  funext i
  pointwise [val_main_v19, val_main_v18, val_main_v1, val_main_v0, duAt]

theorem v22_eq : val_main_v22 (F := Ideal) x0 x1 x2 = fun i => ∑ t : Fin 8192, gainRN x0 x1 x2 t (i 1) := by
  funext i
  pointwise [val_main_v22, val_main_v21, val_main_cst_3, val_main_v20, v19_eq, val_main_v14, val_main_v13, v9_eq, gainRN]

theorem v34_eq : val_main_v34 (F := Ideal) x0 x1 x2 x3 = fun i => rowCoef (row x2 (i 0)) (gain x3) (duAt x0 x1 (i 0)) := by
  funext i
  pointwise [val_main_v34, val_main_v33, val_main_cst_6, val_main_v32, val_main_v31, val_main_cst_5, val_main_v27, val_main_v26,
    val_main_cst_4, val_main_v25, val_main_v24, val_main_v23, v19_eq, val_main_v12, val_main_v11, val_main_cst_2, val_main_v10, v9_eq,
    val_main_v8, val_main_v7, val_main_cst_1, val_main_v6, val_main_v5, val_main_cst_0, val_main_v4, val_main_v3, val_main_cst, val_main_v2,
    rowCoef, meanSq, row, gain]
  exact Fin.sum_univ_one _

theorem v39_eq : val_main_v39 (F := Ideal) x0 x1 x2 x3 x4 = fun i => rowRN x0 x1 x2 x3 x4 (i 0) (i 1) := by
  funext i
  pointwise [val_main_v39, val_main_v38, val_main_v37, val_main_v36, val_main_v35, v34_eq, val_main_v30, val_main_v29, val_main_v28, v9_eq,
    val_main_v24, val_main_v23, v19_eq, rowRN, rowR, row, gain]

end Lines

/-- The reference program's run: its two results are the row's gradient and the gain's gradient. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v39) = (fun i => rowRN (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (i 0) (i 1))
      ∧ r.2.mem ((c.tc : Thread nD τ).loc main_v22) = (fun i => ∑ t : Fin 8192, gainRN (m ((c.tc : Thread nD τ).loc main_arg0)) (m ((c.tc : Thread nD τ).loc main_arg1)) (m ((c.tc : Thread nD τ).loc main_arg2)) t (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans ((val_main_v39_eq m c).trans (v39_eq _ _ _ _ _)),
    (h c).2.1.trans ((val_main_v22_eq _ _ _).trans (v22_eq _ _ _)), (h c).2.2⟩) (Cert.Reference13Ideal.Value.run m ρ)

end Cert.Reference13Ideal.Norm

namespace Cert.Kernel13Ideal.Norm

open Cert.Kernel13Ideal Cert.Kernel13Ideal.Gen Cert.Spec Cert.Spec.Norm

variable (m : (ℓ : Loc nD τ sig) → Buf (Elt Ideal) ℓ)

theorem idx : ∀ t : Fin cfg0.N, win0_0.index t = ![t.val, 0] ∧ win0_1.index t = ![0, 0, 0] ∧ win0_2.index t = ![t.val, 0]
    ∧ win0_3.index t = ![0, 0] ∧ win0_4.index t = ![t.val, 0] ∧ win0_5.index t = ![t.val, 0] ∧ win0_6.index t = ![0, 0] :=
  (by decide +kernel : ∀ t : Fin grid0.N, _)

section Block

variable (x0 : Vec Ideal S1024x1024 .bf16) (x1 : Vec Ideal S1x1024x1024 .bf16) (x2 : Vec Ideal S1024x1024 .f32)
  (x3 : Vec Ideal S1x1024 .f32) (x4 : Vec Ideal S1024x1024 .f32)

/-- The gradient of the normalised row in a block of 1024 tokens. -/
def duB (a : Fin 1024) (k : Fin 1024) : EReal := ∑ j : Fin 1024, x0 (ix2 a j) * x1 (ix3 0 k j)
def rowB (a : Fin 1024) (k : Fin 1024) : EReal :=
  rowK (fun k => x4 (ix2 a k)) (fun k => x2 (ix2 a k)) (fun k => x3 (ix2 0 k)) (duB x0 x1 a) k
def gainPt (a : Fin 1024) (k : Fin 1024) : EReal := duB x0 x1 a k * (x2 (ix2 a k) * scale (fun l => x2 (ix2 a l)))
def gainB (k : Fin 1024) : EReal := ∑ a : Fin 1024, gainPt x0 x1 x2 a k

theorem row_pieces (y : S1024x1024.Idx) : View.canon (Val := Elt Ideal) (e := .f32)
    [⟨Rect.unit ![768, 0] ![256, 1024] inb_S1024x1024_S256x1024_768_0, k0_pay21 (View.ld x0 (Rect.unit ![768, 0] ![256, 1024] inb_S1024x1024_S256x1024_768_0)) (k0_pay16 x1) (View.ld x2 (Rect.unit ![768, 0] ![256, 1024] inb_S1024x1024_S256x1024_768_0)) x3 (View.ld x4 (Rect.unit ![768, 0] ![256, 1024] inb_S1024x1024_S256x1024_768_0))⟩,
      ⟨Rect.unit ![512, 0] ![256, 1024] inb_S1024x1024_S256x1024_512_0, k0_pay15 (View.ld x0 (Rect.unit ![512, 0] ![256, 1024] inb_S1024x1024_S256x1024_512_0)) x1 (View.ld x2 (Rect.unit ![512, 0] ![256, 1024] inb_S1024x1024_S256x1024_512_0)) x3 (View.ld x4 (Rect.unit ![512, 0] ![256, 1024] inb_S1024x1024_S256x1024_512_0))⟩,
      ⟨Rect.unit ![256, 0] ![256, 1024] inb_S1024x1024_S256x1024_256_0, k0_pay10 (View.ld x0 (Rect.unit ![256, 0] ![256, 1024] inb_S1024x1024_S256x1024_256_0)) x1 (View.ld x2 (Rect.unit ![256, 0] ![256, 1024] inb_S1024x1024_S256x1024_256_0)) x3 (View.ld x4 (Rect.unit ![256, 0] ![256, 1024] inb_S1024x1024_S256x1024_256_0))⟩,
      ⟨Rect.unit ![0, 0] ![256, 1024] inb_S1024x1024_S256x1024_0_0, k0_pay5 (View.ld x0 (Rect.unit ![0, 0] ![256, 1024] inb_S1024x1024_S256x1024_0_0)) x1 (View.ld x2 (Rect.unit ![0, 0] ![256, 1024] inb_S1024x1024_S256x1024_0_0)) x3 (View.ld x4 (Rect.unit ![0, 0] ![256, 1024] inb_S1024x1024_S256x1024_0_0))⟩] y
    = rowB x0 x1 x2 x3 x4 (y 0) (y 1) := by
  canon_tiles x h using (View.cover_of_tiledBy _ ![256, 256] (by sl_kernel_rfl) y)
  all_goals
    rw [show y 1 = x 1 from Fin.ext h1, (Fin.eq_mk_iff_val_eq (hk := by rw [← h0]; exact (y 0).isLt)).mpr h0]
    pointwise [k0_pay21, k0_pay19, k0_pay18, k0_pay17, k0_pay16, k0_pay15, k0_pay13, k0_pay12, k0_pay11, k0_pay10, k0_pay8, k0_pay7, k0_pay6,
      k0_pay5, k0_pay3, k0_pay2, k0_pay1, rowB, rowK, duB, scale]

theorem gain_eq (i : S1x1024.Idx) : k0_pay20 (k0_pay14 (k0_pay9 (k0_pay4 (View.ld x0 (Rect.unit ![0, 0] ![256, 1024] inb_S1024x1024_S256x1024_0_0)) x1 (View.ld x2 (Rect.unit ![0, 0] ![256, 1024] inb_S1024x1024_S256x1024_0_0)))
      (View.ld x0 (Rect.unit ![256, 0] ![256, 1024] inb_S1024x1024_S256x1024_256_0)) x1 (View.ld x2 (Rect.unit ![256, 0] ![256, 1024] inb_S1024x1024_S256x1024_256_0)))
      (View.ld x0 (Rect.unit ![512, 0] ![256, 1024] inb_S1024x1024_S256x1024_512_0)) x1 (View.ld x2 (Rect.unit ![512, 0] ![256, 1024] inb_S1024x1024_S256x1024_512_0)))
      (View.ld x0 (Rect.unit ![768, 0] ![256, 1024] inb_S1024x1024_S256x1024_768_0)) (k0_pay16 x1) (View.ld x2 (Rect.unit ![768, 0] ![256, 1024] inb_S1024x1024_S256x1024_768_0)) i
    = gainB x0 x1 x2 (i 1) := by
  unfold gainB
  rw [sum_slabs]
  pointwise [zero_add, k0_pay20, k0_pay19, k0_pay18, k0_pay17, k0_pay16, k0_pay14, k0_pay13, k0_pay12, k0_pay11, k0_pay9, k0_pay8, k0_pay7, k0_pay6,
    k0_pay4, k0_pay3, k0_pay2, k0_pay1, gainPt, duB, scale]

theorem gain_step (v89 : FVec Ideal S1x1024 .f32) (v106 : Vec Ideal S256x1024 .bf16) (v108 : FVec Ideal S1024x1024 .bf16) (v110 : Vec Ideal S256x1024 .f32) (v147 : Vec Ideal S1x1024 .f32)
    (i : S1x1024.Idx) : k0_pay22 v89 v106 v108 v110 v147 i = v147 i + k0_pay20 v89 v106 v108 v110 i := by
  pointwise [k0_pay22]

end Block

/-- The token of row `a` of block `t`. -/
def tok (t : Fin cfg0.N) (a : Fin 1024) : Fin 8192 := ⟨t.val * 1024 + a.val, by have := lt_of_lt_of_eq t.isLt N_0; omega⟩

theorem blk_dz (c : Dev nD) (t : Fin cfg0.N) (a : Fin 1024) (j : Fin 1024) :
    iblk m c 0 t (ix2 a j) = (m ((c : Thread nD τ).loc main_arg0)) (ix2 (tok t a) j) := by
  blk_ext [iblk, V, idx t, tok]

theorem blk_w (c : Dev nD) (t : Fin cfg0.N) (k : Fin 1024) (j : Fin 1024) :
    iblk m c 1 t (ix3 0 k j) = (m ((c : Thread nD τ).loc main_arg1)) (ix3 0 k j) := by
  blk_ext [iblk, V, idx t, tok]

theorem blk_h (c : Dev nD) (t : Fin cfg0.N) (a : Fin 1024) (k : Fin 1024) :
    iblk m c 2 t (ix2 a k) = (m ((c : Thread nD τ).loc main_arg2)) (ix2 (tok t a) k) := by
  blk_ext [iblk, V, idx t, tok]

theorem blk_g (c : Dev nD) (t : Fin cfg0.N) (k : Fin 1024) :
    iblk m c 3 t (ix2 0 k) = (m ((c : Thread nD τ).loc main_arg3)) (ix2 0 k) := by
  blk_ext [iblk, V, idx t, tok]

theorem blk_dr (c : Dev nD) (t : Fin cfg0.N) (a : Fin 1024) (k : Fin 1024) :
    iblk m c 4 t (ix2 a k) = (m ((c : Thread nD τ).loc main_arg4)) (ix2 (tok t a) k) := by
  blk_ext [iblk, V, idx t, tok]

theorem duB_iblk (c : Dev nD) (t : Fin cfg0.N) (a : Fin 1024) (k : Fin 1024) :
    duB (iblk m c 0 t) (iblk m c 1 t) a k = duAt (m ((c : Thread nD τ).loc main_arg0)) (m ((c : Thread nD τ).loc main_arg1)) (tok t a) k := by
  unfold duB duAt
  simp only [blk_dz, blk_w]

theorem rowB_iblk (c : Dev nD) (t : Fin cfg0.N) (a : Fin 1024) (k : Fin 1024) :
    rowB (iblk m c 0 t) (iblk m c 1 t) (iblk m c 2 t) (iblk m c 3 t) (iblk m c 4 t) a k = rowKN (m ((c : Thread nD τ).loc main_arg0)) (m ((c : Thread nD τ).loc main_arg1)) (m ((c : Thread nD τ).loc main_arg2)) (m ((c : Thread nD τ).loc main_arg3)) (m ((c : Thread nD τ).loc main_arg4)) (tok t a) k := by
  unfold rowB
  rw [show (duB (iblk m c 0 t) (iblk m c 1 t) a) = duAt (m ((c : Thread nD τ).loc main_arg0)) (m ((c : Thread nD τ).loc main_arg1)) (tok t a) from funext fun k => duB_iblk m c t a k]
  simp only [blk_h, blk_g, blk_dr]
  rfl

theorem gainPt_iblk (c : Dev nD) (t : Fin cfg0.N) (a : Fin 1024) (k : Fin 1024) :
    gainPt (iblk m c 0 t) (iblk m c 1 t) (iblk m c 2 t) a k = gainKN (m ((c : Thread nD τ).loc main_arg0)) (m ((c : Thread nD τ).loc main_arg1)) (m ((c : Thread nD τ).loc main_arg2)) (tok t a) k := by
  unfold gainPt gainKN
  simp only [duB_iblk, blk_h]

theorem final5 (c : Dev nD) : (dats m 0 c).arrAt 5 cfg0.N = fun i => rowKN (m ((c : Thread nD τ).loc main_arg0)) (m ((c : Thread nD τ).loc main_arg1)) (m ((c : Thread nD τ).loc main_arg2)) (m ((c : Thread nD τ).loc main_arg3)) (m ((c : Thread nD τ).loc main_arg4)) (i 0) (i 1) := by
  refine (dats m 0 c).arrAt_eq_of_covers 5 _ (by decide +kernel) fun t hf y => ?_
  blk_simp
  rw [after0_5]
  refine Eq.trans (b := rowB (iblk m c 0 t) (iblk m c 1 t) (iblk m c 2 t) (iblk m c 3 t) (iblk m c 4 t) (y 0) (y 1)) ?_ ?_
  · by_cases e0 : t.val % 8 = 0
    · rw [outsAt0_A m c t e0 (by have := lt_of_lt_of_eq t.isLt N_0; omega)]
      frame_out
      exact row_pieces _ _ _ _ _ _
    · rw [outsAt0_B m c t e0 (by omega)]
      frame_out
      exact row_pieces _ _ _ _ _ _
  · refine (rowB_iblk m c t (y 0) (y 1)).trans ?_
    exact congrArg (fun i : S8192x1024.Idx => rowKN (m ((c : Thread nD τ).loc main_arg0)) (m ((c : Thread nD τ).loc main_arg1)) (m ((c : Thread nD τ).loc main_arg2)) (m ((c : Thread nD τ).loc main_arg3)) (m ((c : Thread nD τ).loc main_arg4)) (i 0) (i 1))
      (show ix2 (tok t (y 0)) (y 1) = (win0_5.blk t).view.emb y by blk_ext [idx t, tok])

/-- The gain's accumulator after point `t`: the sum over the blocks so far. -/
theorem acc_eq (c : Dev nD) (t : Fin cfg0.N) (hf : t.val % 8 = 8 - 1) (j : S1x1024.Idx) :
    (outsAt0 m c t.val t.isLt).2 j
      = ∑ s : Fin 8, (fun t : Fin cfg0.N => gainB (iblk m c 0 t) (iblk m c 1 t) (iblk m c 2 t) (j 1))
          ⟨8 * (t.val / 8) + s.val, Pipeline.run_point_lt_of_flush t hf s⟩ := by
  rw [Pipeline.eq_sum_fin_of_reset_step_apply_of_flush (fun n h => (outsAt0 m c n h).2) 8 (fun _ => (0 : EReal))
    (fun t j => gainB (iblk m c 0 t) (iblk m c 1 t) (iblk m c 2 t) (j 1))
    (fun t h j => by
      rw [outsAt0_A m c t h (by have := lt_of_lt_of_eq t.isLt N_0; omega)]
      frame_out
      rw [zero_add]
      exact gain_eq _ _ _ _)
    (fun t h j => by
      rw [outsAt0_B m c t h (by omega)]
      frame_out
      rw [gain_step]
      exact congrArg _ (gain_eq _ _ _ _)) t hf j, zero_add]

theorem final6 (c : Dev nD) : (dats m 0 c).arrAt 6 cfg0.N = fun i => ∑ t : Fin 8192, gainKN (m ((c : Thread nD τ).loc main_arg0)) (m ((c : Thread nD τ).loc main_arg1)) (m ((c : Thread nD τ).loc main_arg2)) t (i 1) := by
  refine (dats m 0 c).arrAt_eq_of_covers 6 _ (by decide +kernel) fun t hf y => ?_
  blk_simp
  have hf' := (flush0_6 t).mp hf
  rw [after0_6, acc_eq m c t hf']
  have h0 : t.val / 8 = 0 := by have := lt_of_lt_of_eq t.isLt N_0; omega
  refine Eq.trans (b := ∑ t : Fin 8192, gainKN (m ((c : Thread nD τ).loc main_arg0)) (m ((c : Thread nD τ).loc main_arg1)) (m ((c : Thread nD τ).loc main_arg2)) t (y 1)) ?_ ?_
  · unfold gainB
    refine Fin.sum_mul_add_congr fun s k hl => ?_
    have e : (⟨8 * (t.val / 8) + s.val, Pipeline.run_point_lt_of_flush t hf' s⟩ : Fin cfg0.N)
      = ⟨s.val, lt_of_lt_of_eq s.isLt N_0.symm⟩ := Fin.ext (by show 8 * (t.val / 8) + s.val = s.val; omega)
    rw [e]
    refine Eq.trans ?_ (gainPt_iblk m c ⟨s.val, lt_of_lt_of_eq s.isLt N_0.symm⟩ k (y 1))
    rfl
  · have e : (win0_6.blk t).view.emb y = ix2 (y 0) (y 1) := by blk_ext [idx t]
    rw [e]
    rfl

end Cert.Kernel13Ideal.Norm

namespace Cert.Proof.NormBwd13

open Cert.Spec Cert.Spec.Norm

/-- The kernel's five arrays. -/
def Same (m : (ℓ : Loc Cert.Kernel13Ideal.nD Cert.Kernel13Ideal.τ Cert.Kernel13Ideal.sig) → Buf (Elt Ideal) ℓ) (c : Dev Cert.Kernel13Ideal.nD)
    (x0 : FVec Ideal (SZ 1024) .bf16) (x1 : FVec Ideal (SW 1024) .bf16) (x2 : FVec Ideal SX .f32) (x3 : FVec Ideal SG .f32) (x4 : FVec Ideal SX .f32) : Prop :=
  x0 = m ((c.tc : Thread Cert.Kernel13Ideal.nD Cert.Kernel13Ideal.τ).loc Cert.Kernel13Ideal.main_arg0) ∧ x1 = m ((c.tc : Thread Cert.Kernel13Ideal.nD Cert.Kernel13Ideal.τ).loc Cert.Kernel13Ideal.main_arg1) ∧ x2 = m ((c.tc : Thread Cert.Kernel13Ideal.nD Cert.Kernel13Ideal.τ).loc Cert.Kernel13Ideal.main_arg2) ∧ x3 = m ((c.tc : Thread Cert.Kernel13Ideal.nD Cert.Kernel13Ideal.τ).loc Cert.Kernel13Ideal.main_arg3) ∧ x4 = m ((c.tc : Thread Cert.Kernel13Ideal.nD Cert.Kernel13Ideal.τ).loc Cert.Kernel13Ideal.main_arg4)

section Results

variable {m : (ℓ : Loc Cert.Kernel13Ideal.nD Cert.Kernel13Ideal.τ Cert.Kernel13Ideal.sig) → Buf (Elt Ideal) ℓ}
  {x0 : FVec Ideal (SZ 1024) .bf16} {x1 : FVec Ideal (SW 1024) .bf16} {x2 : FVec Ideal SX .f32} {x3 : FVec Ideal SG .f32} {x4 : FVec Ideal SX .f32}

theorem row {c : Dev Cert.Kernel13Ideal.nD} (h : Same m c x0 x1 x2 x3 x4) : (fun i => rowRN x0 x1 x2 x3 x4 (i 0) (i 1)) = (Cert.Kernel13Ideal.Gen.dats m 0 c).arrAt 5 Cert.Kernel13Ideal.cfg0.N := by
  obtain ⟨rfl, rfl, rfl, rfl, rfl⟩ := h
  refine Eq.trans (funext fun i => ?_) (Cert.Kernel13Ideal.Norm.final5 m c).symm
  exact (rowKN_eq _ _ _ _ _ (i 0) (i 1)).symm

theorem gain {c : Dev Cert.Kernel13Ideal.nD} (h : Same m c x0 x1 x2 x3 x4) :
    (fun i => ∑ t : Fin 8192, gainRN x0 x1 x2 t (i 1)) = (Cert.Kernel13Ideal.Gen.dats m 0 c).arrAt 6 Cert.Kernel13Ideal.cfg0.N := by
  obtain ⟨rfl, rfl, rfl, rfl, rfl⟩ := h
  refine Eq.trans (funext fun i => ?_) (Cert.Kernel13Ideal.Norm.final6 m c).symm
  exact Fin.sum_fin_congr fun t => (gainKN_eq _ _ _ t (i 1)).symm

end Results

theorem algebraic : Cert.algebraic_Kernel13Ideal_Reference13Ideal := by
  intro m g m' g' _ hagree
  refine ⟨_, _, Cert.Kernel13Ideal.Value.run_blocks m g, ?_⟩
  refine θ_run_mono (Cert.Reference13Ideal.Norm.run m' g') fun r h c => ?_
  have e : Same m c _ _ _ _ _ := hagree c
  exact ⟨(h c).1.trans (row e), (h c).2.1.trans (gain e), (h c).2.2⟩

end Cert.Proof.NormBwd13

end
-- ==== Proof.NormBwd14.lean ====
/-
  The backward of the norm and the projection after it, to 1792 columns: what the kernel leaves, what differentiating
  the forward lines gives, and the claim that the two agree.
-/
module

public import proofs.«01_k».proof.Defs
public import proofs.«01_k».proof.Proof.Gen.Kernel14Ideal.Value
public import proofs.«01_k».proof.Proof.Gen.Reference14Ideal.Read
public import proofs.«01_k».proof.Proof.NormSpec
public import Idealize.ShloMosaic.Lib.Pipeline.ReadBack
public import Idealize.ShloMosaic.Lib.KernelVsHost
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Reference14Ideal.Norm

open Cert.Reference14Ideal Cert.Reference14Ideal.Gen Cert.Reference14Ideal.Read Cert.Spec Cert.Spec.Norm

section Lines

variable (x0 : FVec Ideal S8192x1792 .bf16) (x1 : FVec Ideal S1x1024x1792 .bf16) (x2 : FVec Ideal S8192x1024 .f32) (x3 : FVec Ideal S1x1024 .f32) (x4 : FVec Ideal S8192x1024 .f32)

theorem v9_eq : val_main_v9 (F := Ideal) x2 = fun i => scale (row x2 (i 0)) := by
  funext i
  pointwise [val_main_v9, val_main_v8, val_main_v7, val_main_cst_1, val_main_v6, val_main_v5, val_main_cst_0, val_main_v4,
    val_main_v3, val_main_cst, val_main_v2, scale, row]

theorem v19_eq : val_main_v19 (F := Ideal) x0 x1 = fun i => duAt x0 x1 (i 0) (i 1) := by
  funext i
  pointwise [val_main_v19, val_main_v18, val_main_v1, val_main_v0, duAt]

theorem v22_eq : val_main_v22 (F := Ideal) x0 x1 x2 = fun i => ∑ t : Fin 8192, gainRN x0 x1 x2 t (i 1) := by
  funext i
  pointwise [val_main_v22, val_main_v21, val_main_cst_3, val_main_v20, v19_eq, val_main_v14, val_main_v13, v9_eq, gainRN]

theorem v34_eq : val_main_v34 (F := Ideal) x0 x1 x2 x3 = fun i => rowCoef (row x2 (i 0)) (gain x3) (duAt x0 x1 (i 0)) := by
  funext i
  pointwise [val_main_v34, val_main_v33, val_main_cst_6, val_main_v32, val_main_v31, val_main_cst_5, val_main_v27, val_main_v26,
    val_main_cst_4, val_main_v25, val_main_v24, val_main_v23, v19_eq, val_main_v12, val_main_v11, val_main_cst_2, val_main_v10, v9_eq,
    val_main_v8, val_main_v7, val_main_cst_1, val_main_v6, val_main_v5, val_main_cst_0, val_main_v4, val_main_v3, val_main_cst, val_main_v2,
    rowCoef, meanSq, row, gain]
  exact Fin.sum_univ_one _

theorem v39_eq : val_main_v39 (F := Ideal) x0 x1 x2 x3 x4 = fun i => rowRN x0 x1 x2 x3 x4 (i 0) (i 1) := by
  funext i
  pointwise [val_main_v39, val_main_v38, val_main_v37, val_main_v36, val_main_v35, v34_eq, val_main_v30, val_main_v29, val_main_v28, v9_eq,
    val_main_v24, val_main_v23, v19_eq, rowRN, rowR, row, gain]

end Lines

/-- The reference program's run: its two results are the row's gradient and the gain's gradient. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v39) = (fun i => rowRN (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (i 0) (i 1))
      ∧ r.2.mem ((c.tc : Thread nD τ).loc main_v22) = (fun i => ∑ t : Fin 8192, gainRN (m ((c.tc : Thread nD τ).loc main_arg0)) (m ((c.tc : Thread nD τ).loc main_arg1)) (m ((c.tc : Thread nD τ).loc main_arg2)) t (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans ((val_main_v39_eq m c).trans (v39_eq _ _ _ _ _)),
    (h c).2.1.trans ((val_main_v22_eq _ _ _).trans (v22_eq _ _ _)), (h c).2.2⟩) (Cert.Reference14Ideal.Value.run m ρ)

end Cert.Reference14Ideal.Norm

namespace Cert.Kernel14Ideal.Norm

open Cert.Kernel14Ideal Cert.Kernel14Ideal.Gen Cert.Spec Cert.Spec.Norm

variable (m : (ℓ : Loc nD τ sig) → Buf (Elt Ideal) ℓ)

theorem idx : ∀ t : Fin cfg0.N, win0_0.index t = ![t.val, 0] ∧ win0_1.index t = ![0, 0, 0] ∧ win0_2.index t = ![t.val, 0]
    ∧ win0_3.index t = ![0, 0] ∧ win0_4.index t = ![t.val, 0] ∧ win0_5.index t = ![t.val, 0] ∧ win0_6.index t = ![0, 0] :=
  (by decide +kernel : ∀ t : Fin grid0.N, _)

section Block

variable (x0 : Vec Ideal S1024x1792 .bf16) (x1 : Vec Ideal S1x1024x1792 .bf16) (x2 : Vec Ideal S1024x1024 .f32)
  (x3 : Vec Ideal S1x1024 .f32) (x4 : Vec Ideal S1024x1024 .f32)

/-- The gradient of the normalised row in a block of 1024 tokens. -/
def duB (a : Fin 1024) (k : Fin 1024) : EReal := ∑ j : Fin 1792, x0 (ix2 a j) * x1 (ix3 0 k j)
def rowB (a : Fin 1024) (k : Fin 1024) : EReal :=
  rowK (fun k => x4 (ix2 a k)) (fun k => x2 (ix2 a k)) (fun k => x3 (ix2 0 k)) (duB x0 x1 a) k
def gainPt (a : Fin 1024) (k : Fin 1024) : EReal := duB x0 x1 a k * (x2 (ix2 a k) * scale (fun l => x2 (ix2 a l)))
def gainB (k : Fin 1024) : EReal := ∑ a : Fin 1024, gainPt x0 x1 x2 a k

theorem row_pieces (y : S1024x1024.Idx) : View.canon (Val := Elt Ideal) (e := .f32)
    [⟨Rect.unit ![768, 0] ![256, 1024] inb_S1024x1024_S256x1024_768_0, k0_pay21 (View.ld x0 (Rect.unit ![768, 0] ![256, 1792] inb_S1024x1792_S256x1792_768_0)) (k0_pay16 x1) (View.ld x2 (Rect.unit ![768, 0] ![256, 1024] inb_S1024x1024_S256x1024_768_0)) x3 (View.ld x4 (Rect.unit ![768, 0] ![256, 1024] inb_S1024x1024_S256x1024_768_0))⟩,
      ⟨Rect.unit ![512, 0] ![256, 1024] inb_S1024x1024_S256x1024_512_0, k0_pay15 (View.ld x0 (Rect.unit ![512, 0] ![256, 1792] inb_S1024x1792_S256x1792_512_0)) x1 (View.ld x2 (Rect.unit ![512, 0] ![256, 1024] inb_S1024x1024_S256x1024_512_0)) x3 (View.ld x4 (Rect.unit ![512, 0] ![256, 1024] inb_S1024x1024_S256x1024_512_0))⟩,
      ⟨Rect.unit ![256, 0] ![256, 1024] inb_S1024x1024_S256x1024_256_0, k0_pay10 (View.ld x0 (Rect.unit ![256, 0] ![256, 1792] inb_S1024x1792_S256x1792_256_0)) x1 (View.ld x2 (Rect.unit ![256, 0] ![256, 1024] inb_S1024x1024_S256x1024_256_0)) x3 (View.ld x4 (Rect.unit ![256, 0] ![256, 1024] inb_S1024x1024_S256x1024_256_0))⟩,
      ⟨Rect.unit ![0, 0] ![256, 1024] inb_S1024x1024_S256x1024_0_0, k0_pay5 (View.ld x0 (Rect.unit ![0, 0] ![256, 1792] inb_S1024x1792_S256x1792_0_0)) x1 (View.ld x2 (Rect.unit ![0, 0] ![256, 1024] inb_S1024x1024_S256x1024_0_0)) x3 (View.ld x4 (Rect.unit ![0, 0] ![256, 1024] inb_S1024x1024_S256x1024_0_0))⟩] y
    = rowB x0 x1 x2 x3 x4 (y 0) (y 1) := by
  canon_tiles x h using (View.cover_of_tiledBy _ ![256, 256] (by sl_kernel_rfl) y)
  all_goals
    rw [show y 1 = x 1 from Fin.ext h1, (Fin.eq_mk_iff_val_eq (hk := by rw [← h0]; exact (y 0).isLt)).mpr h0]
    pointwise [k0_pay21, k0_pay19, k0_pay18, k0_pay17, k0_pay16, k0_pay15, k0_pay13, k0_pay12, k0_pay11, k0_pay10, k0_pay8, k0_pay7, k0_pay6,
      k0_pay5, k0_pay3, k0_pay2, k0_pay1, rowB, rowK, duB, scale]

theorem gain_eq (i : S1x1024.Idx) : k0_pay20 (k0_pay14 (k0_pay9 (k0_pay4 (View.ld x0 (Rect.unit ![0, 0] ![256, 1792] inb_S1024x1792_S256x1792_0_0)) x1 (View.ld x2 (Rect.unit ![0, 0] ![256, 1024] inb_S1024x1024_S256x1024_0_0)))
      (View.ld x0 (Rect.unit ![256, 0] ![256, 1792] inb_S1024x1792_S256x1792_256_0)) x1 (View.ld x2 (Rect.unit ![256, 0] ![256, 1024] inb_S1024x1024_S256x1024_256_0)))
      (View.ld x0 (Rect.unit ![512, 0] ![256, 1792] inb_S1024x1792_S256x1792_512_0)) x1 (View.ld x2 (Rect.unit ![512, 0] ![256, 1024] inb_S1024x1024_S256x1024_512_0)))
      (View.ld x0 (Rect.unit ![768, 0] ![256, 1792] inb_S1024x1792_S256x1792_768_0)) (k0_pay16 x1) (View.ld x2 (Rect.unit ![768, 0] ![256, 1024] inb_S1024x1024_S256x1024_768_0)) i
    = gainB x0 x1 x2 (i 1) := by
  unfold gainB
  rw [sum_slabs]
  pointwise [zero_add, k0_pay20, k0_pay19, k0_pay18, k0_pay17, k0_pay16, k0_pay14, k0_pay13, k0_pay12, k0_pay11, k0_pay9, k0_pay8, k0_pay7, k0_pay6,
    k0_pay4, k0_pay3, k0_pay2, k0_pay1, gainPt, duB, scale]

theorem gain_step (v89 : FVec Ideal S1x1024 .f32) (v106 : Vec Ideal S256x1792 .bf16) (v108 : FVec Ideal S1024x1792 .bf16) (v110 : Vec Ideal S256x1024 .f32) (v147 : Vec Ideal S1x1024 .f32)
    (i : S1x1024.Idx) : k0_pay22 v89 v106 v108 v110 v147 i = v147 i + k0_pay20 v89 v106 v108 v110 i := by
  pointwise [k0_pay22]

end Block

/-- The token of row `a` of block `t`. -/
def tok (t : Fin cfg0.N) (a : Fin 1024) : Fin 8192 := ⟨t.val * 1024 + a.val, by have := lt_of_lt_of_eq t.isLt N_0; omega⟩

theorem blk_dz (c : Dev nD) (t : Fin cfg0.N) (a : Fin 1024) (j : Fin 1792) :
    iblk m c 0 t (ix2 a j) = (m ((c : Thread nD τ).loc main_arg0)) (ix2 (tok t a) j) := by
  blk_ext [iblk, V, idx t, tok]

theorem blk_w (c : Dev nD) (t : Fin cfg0.N) (k : Fin 1024) (j : Fin 1792) :
    iblk m c 1 t (ix3 0 k j) = (m ((c : Thread nD τ).loc main_arg1)) (ix3 0 k j) := by
  blk_ext [iblk, V, idx t, tok]

theorem blk_h (c : Dev nD) (t : Fin cfg0.N) (a : Fin 1024) (k : Fin 1024) :
    iblk m c 2 t (ix2 a k) = (m ((c : Thread nD τ).loc main_arg2)) (ix2 (tok t a) k) := by
  blk_ext [iblk, V, idx t, tok]

theorem blk_g (c : Dev nD) (t : Fin cfg0.N) (k : Fin 1024) :
    iblk m c 3 t (ix2 0 k) = (m ((c : Thread nD τ).loc main_arg3)) (ix2 0 k) := by
  blk_ext [iblk, V, idx t, tok]

theorem blk_dr (c : Dev nD) (t : Fin cfg0.N) (a : Fin 1024) (k : Fin 1024) :
    iblk m c 4 t (ix2 a k) = (m ((c : Thread nD τ).loc main_arg4)) (ix2 (tok t a) k) := by
  blk_ext [iblk, V, idx t, tok]

theorem duB_iblk (c : Dev nD) (t : Fin cfg0.N) (a : Fin 1024) (k : Fin 1024) :
    duB (iblk m c 0 t) (iblk m c 1 t) a k = duAt (m ((c : Thread nD τ).loc main_arg0)) (m ((c : Thread nD τ).loc main_arg1)) (tok t a) k := by
  unfold duB duAt
  simp only [blk_dz, blk_w]

theorem rowB_iblk (c : Dev nD) (t : Fin cfg0.N) (a : Fin 1024) (k : Fin 1024) :
    rowB (iblk m c 0 t) (iblk m c 1 t) (iblk m c 2 t) (iblk m c 3 t) (iblk m c 4 t) a k = rowKN (m ((c : Thread nD τ).loc main_arg0)) (m ((c : Thread nD τ).loc main_arg1)) (m ((c : Thread nD τ).loc main_arg2)) (m ((c : Thread nD τ).loc main_arg3)) (m ((c : Thread nD τ).loc main_arg4)) (tok t a) k := by
  unfold rowB
  rw [show (duB (iblk m c 0 t) (iblk m c 1 t) a) = duAt (m ((c : Thread nD τ).loc main_arg0)) (m ((c : Thread nD τ).loc main_arg1)) (tok t a) from funext fun k => duB_iblk m c t a k]
  simp only [blk_h, blk_g, blk_dr]
  rfl

theorem gainPt_iblk (c : Dev nD) (t : Fin cfg0.N) (a : Fin 1024) (k : Fin 1024) :
    gainPt (iblk m c 0 t) (iblk m c 1 t) (iblk m c 2 t) a k = gainKN (m ((c : Thread nD τ).loc main_arg0)) (m ((c : Thread nD τ).loc main_arg1)) (m ((c : Thread nD τ).loc main_arg2)) (tok t a) k := by
  unfold gainPt gainKN
  simp only [duB_iblk, blk_h]

theorem final5 (c : Dev nD) : (dats m 0 c).arrAt 5 cfg0.N = fun i => rowKN (m ((c : Thread nD τ).loc main_arg0)) (m ((c : Thread nD τ).loc main_arg1)) (m ((c : Thread nD τ).loc main_arg2)) (m ((c : Thread nD τ).loc main_arg3)) (m ((c : Thread nD τ).loc main_arg4)) (i 0) (i 1) := by
  refine (dats m 0 c).arrAt_eq_of_covers 5 _ (by decide +kernel) fun t hf y => ?_
  blk_simp
  rw [after0_5]
  refine Eq.trans (b := rowB (iblk m c 0 t) (iblk m c 1 t) (iblk m c 2 t) (iblk m c 3 t) (iblk m c 4 t) (y 0) (y 1)) ?_ ?_
  · by_cases e0 : t.val % 8 = 0
    · rw [outsAt0_A m c t e0 (by have := lt_of_lt_of_eq t.isLt N_0; omega)]
      frame_out
      exact row_pieces _ _ _ _ _ _
    · rw [outsAt0_B m c t e0 (by omega)]
      frame_out
      exact row_pieces _ _ _ _ _ _
  · refine (rowB_iblk m c t (y 0) (y 1)).trans ?_
    exact congrArg (fun i : S8192x1024.Idx => rowKN (m ((c : Thread nD τ).loc main_arg0)) (m ((c : Thread nD τ).loc main_arg1)) (m ((c : Thread nD τ).loc main_arg2)) (m ((c : Thread nD τ).loc main_arg3)) (m ((c : Thread nD τ).loc main_arg4)) (i 0) (i 1))
      (show ix2 (tok t (y 0)) (y 1) = (win0_5.blk t).view.emb y by blk_ext [idx t, tok])

/-- The gain's accumulator after point `t`: the sum over the blocks so far. -/
theorem acc_eq (c : Dev nD) (t : Fin cfg0.N) (hf : t.val % 8 = 8 - 1) (j : S1x1024.Idx) :
    (outsAt0 m c t.val t.isLt).2 j
      = ∑ s : Fin 8, (fun t : Fin cfg0.N => gainB (iblk m c 0 t) (iblk m c 1 t) (iblk m c 2 t) (j 1))
          ⟨8 * (t.val / 8) + s.val, Pipeline.run_point_lt_of_flush t hf s⟩ := by
  rw [Pipeline.eq_sum_fin_of_reset_step_apply_of_flush (fun n h => (outsAt0 m c n h).2) 8 (fun _ => (0 : EReal))
    (fun t j => gainB (iblk m c 0 t) (iblk m c 1 t) (iblk m c 2 t) (j 1))
    (fun t h j => by
      rw [outsAt0_A m c t h (by have := lt_of_lt_of_eq t.isLt N_0; omega)]
      frame_out
      rw [zero_add]
      exact gain_eq _ _ _ _)
    (fun t h j => by
      rw [outsAt0_B m c t h (by omega)]
      frame_out
      rw [gain_step]
      exact congrArg _ (gain_eq _ _ _ _)) t hf j, zero_add]

theorem final6 (c : Dev nD) : (dats m 0 c).arrAt 6 cfg0.N = fun i => ∑ t : Fin 8192, gainKN (m ((c : Thread nD τ).loc main_arg0)) (m ((c : Thread nD τ).loc main_arg1)) (m ((c : Thread nD τ).loc main_arg2)) t (i 1) := by
  refine (dats m 0 c).arrAt_eq_of_covers 6 _ (by decide +kernel) fun t hf y => ?_
  blk_simp
  have hf' := (flush0_6 t).mp hf
  rw [after0_6, acc_eq m c t hf']
  have h0 : t.val / 8 = 0 := by have := lt_of_lt_of_eq t.isLt N_0; omega
  refine Eq.trans (b := ∑ t : Fin 8192, gainKN (m ((c : Thread nD τ).loc main_arg0)) (m ((c : Thread nD τ).loc main_arg1)) (m ((c : Thread nD τ).loc main_arg2)) t (y 1)) ?_ ?_
  · unfold gainB
    refine Fin.sum_mul_add_congr fun s k hl => ?_
    have e : (⟨8 * (t.val / 8) + s.val, Pipeline.run_point_lt_of_flush t hf' s⟩ : Fin cfg0.N)
      = ⟨s.val, lt_of_lt_of_eq s.isLt N_0.symm⟩ := Fin.ext (by show 8 * (t.val / 8) + s.val = s.val; omega)
    rw [e]
    refine Eq.trans ?_ (gainPt_iblk m c ⟨s.val, lt_of_lt_of_eq s.isLt N_0.symm⟩ k (y 1))
    rfl
  · have e : (win0_6.blk t).view.emb y = ix2 (y 0) (y 1) := by blk_ext [idx t]
    rw [e]
    rfl

end Cert.Kernel14Ideal.Norm

namespace Cert.Proof.NormBwd14

open Cert.Spec Cert.Spec.Norm

/-- The kernel's five arrays. -/
def Same (m : (ℓ : Loc Cert.Kernel14Ideal.nD Cert.Kernel14Ideal.τ Cert.Kernel14Ideal.sig) → Buf (Elt Ideal) ℓ) (c : Dev Cert.Kernel14Ideal.nD)
    (x0 : FVec Ideal (SZ 1792) .bf16) (x1 : FVec Ideal (SW 1792) .bf16) (x2 : FVec Ideal SX .f32) (x3 : FVec Ideal SG .f32) (x4 : FVec Ideal SX .f32) : Prop :=
  x0 = m ((c.tc : Thread Cert.Kernel14Ideal.nD Cert.Kernel14Ideal.τ).loc Cert.Kernel14Ideal.main_arg0) ∧ x1 = m ((c.tc : Thread Cert.Kernel14Ideal.nD Cert.Kernel14Ideal.τ).loc Cert.Kernel14Ideal.main_arg1) ∧ x2 = m ((c.tc : Thread Cert.Kernel14Ideal.nD Cert.Kernel14Ideal.τ).loc Cert.Kernel14Ideal.main_arg2) ∧ x3 = m ((c.tc : Thread Cert.Kernel14Ideal.nD Cert.Kernel14Ideal.τ).loc Cert.Kernel14Ideal.main_arg3) ∧ x4 = m ((c.tc : Thread Cert.Kernel14Ideal.nD Cert.Kernel14Ideal.τ).loc Cert.Kernel14Ideal.main_arg4)

section Results

variable {m : (ℓ : Loc Cert.Kernel14Ideal.nD Cert.Kernel14Ideal.τ Cert.Kernel14Ideal.sig) → Buf (Elt Ideal) ℓ}
  {x0 : FVec Ideal (SZ 1792) .bf16} {x1 : FVec Ideal (SW 1792) .bf16} {x2 : FVec Ideal SX .f32} {x3 : FVec Ideal SG .f32} {x4 : FVec Ideal SX .f32}

theorem row {c : Dev Cert.Kernel14Ideal.nD} (h : Same m c x0 x1 x2 x3 x4) : (fun i => rowRN x0 x1 x2 x3 x4 (i 0) (i 1)) = (Cert.Kernel14Ideal.Gen.dats m 0 c).arrAt 5 Cert.Kernel14Ideal.cfg0.N := by
  obtain ⟨rfl, rfl, rfl, rfl, rfl⟩ := h
  refine Eq.trans (funext fun i => ?_) (Cert.Kernel14Ideal.Norm.final5 m c).symm
  exact (rowKN_eq _ _ _ _ _ (i 0) (i 1)).symm

theorem gain {c : Dev Cert.Kernel14Ideal.nD} (h : Same m c x0 x1 x2 x3 x4) :
    (fun i => ∑ t : Fin 8192, gainRN x0 x1 x2 t (i 1)) = (Cert.Kernel14Ideal.Gen.dats m 0 c).arrAt 6 Cert.Kernel14Ideal.cfg0.N := by
  obtain ⟨rfl, rfl, rfl, rfl, rfl⟩ := h
  refine Eq.trans (funext fun i => ?_) (Cert.Kernel14Ideal.Norm.final6 m c).symm
  exact Fin.sum_fin_congr fun t => (gainKN_eq _ _ _ t (i 1)).symm

end Results

theorem algebraic : Cert.algebraic_Kernel14Ideal_Reference14Ideal := by
  intro m g m' g' _ hagree
  refine ⟨_, _, Cert.Kernel14Ideal.Value.run_blocks m g, ?_⟩
  refine θ_run_mono (Cert.Reference14Ideal.Norm.run m' g') fun r h c => ?_
  have e : Same m c _ _ _ _ _ := hagree c
  exact ⟨(h c).1.trans (row e), (h c).2.1.trans (gain e), (h c).2.2⟩

end Cert.Proof.NormBwd14

end
-- ==== Proof.NormBwd15.lean ====
/-
  The backward of the norm and the projection after it, to 3072 columns: what the kernel leaves, what differentiating
  the forward lines gives, and the claim that the two agree.
-/
module

public import proofs.«01_k».proof.Defs
public import proofs.«01_k».proof.Proof.Gen.Kernel15Ideal.Value
public import proofs.«01_k».proof.Proof.Gen.Reference15Ideal.Read
public import proofs.«01_k».proof.Proof.NormSpec
public import Idealize.ShloMosaic.Lib.Pipeline.ReadBack
public import Idealize.ShloMosaic.Lib.KernelVsHost
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Reference15Ideal.Norm

open Cert.Reference15Ideal Cert.Reference15Ideal.Gen Cert.Reference15Ideal.Read Cert.Spec Cert.Spec.Norm

section Lines

variable (x0 : FVec Ideal S8192x3072 .bf16) (x1 : FVec Ideal S1x1024x3072 .bf16) (x2 : FVec Ideal S8192x1024 .f32) (x3 : FVec Ideal S1x1024 .f32) (x4 : FVec Ideal S8192x1024 .f32)

theorem v9_eq : val_main_v9 (F := Ideal) x2 = fun i => scale (row x2 (i 0)) := by
  funext i
  pointwise [val_main_v9, val_main_v8, val_main_v7, val_main_cst_1, val_main_v6, val_main_v5, val_main_cst_0, val_main_v4,
    val_main_v3, val_main_cst, val_main_v2, scale, row]

theorem v19_eq : val_main_v19 (F := Ideal) x0 x1 = fun i => duAt x0 x1 (i 0) (i 1) := by
  funext i
  pointwise [val_main_v19, val_main_v18, val_main_v1, val_main_v0, duAt]

theorem v22_eq : val_main_v22 (F := Ideal) x0 x1 x2 = fun i => ∑ t : Fin 8192, gainRN x0 x1 x2 t (i 1) := by
  funext i
  pointwise [val_main_v22, val_main_v21, val_main_cst_3, val_main_v20, v19_eq, val_main_v14, val_main_v13, v9_eq, gainRN]

theorem v34_eq : val_main_v34 (F := Ideal) x0 x1 x2 x3 = fun i => rowCoef (row x2 (i 0)) (gain x3) (duAt x0 x1 (i 0)) := by
  funext i
  pointwise [val_main_v34, val_main_v33, val_main_cst_6, val_main_v32, val_main_v31, val_main_cst_5, val_main_v27, val_main_v26,
    val_main_cst_4, val_main_v25, val_main_v24, val_main_v23, v19_eq, val_main_v12, val_main_v11, val_main_cst_2, val_main_v10, v9_eq,
    val_main_v8, val_main_v7, val_main_cst_1, val_main_v6, val_main_v5, val_main_cst_0, val_main_v4, val_main_v3, val_main_cst, val_main_v2,
    rowCoef, meanSq, row, gain]
  exact Fin.sum_univ_one _

theorem v39_eq : val_main_v39 (F := Ideal) x0 x1 x2 x3 x4 = fun i => rowRN x0 x1 x2 x3 x4 (i 0) (i 1) := by
  funext i
  pointwise [val_main_v39, val_main_v38, val_main_v37, val_main_v36, val_main_v35, v34_eq, val_main_v30, val_main_v29, val_main_v28, v9_eq,
    val_main_v24, val_main_v23, v19_eq, rowRN, rowR, row, gain]

end Lines

/-- The reference program's run: its two results are the row's gradient and the gain's gradient. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v39) = (fun i => rowRN (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (i 0) (i 1))
      ∧ r.2.mem ((c.tc : Thread nD τ).loc main_v22) = (fun i => ∑ t : Fin 8192, gainRN (m ((c.tc : Thread nD τ).loc main_arg0)) (m ((c.tc : Thread nD τ).loc main_arg1)) (m ((c.tc : Thread nD τ).loc main_arg2)) t (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans ((val_main_v39_eq m c).trans (v39_eq _ _ _ _ _)),
    (h c).2.1.trans ((val_main_v22_eq _ _ _).trans (v22_eq _ _ _)), (h c).2.2⟩) (Cert.Reference15Ideal.Value.run m ρ)

end Cert.Reference15Ideal.Norm

namespace Cert.Kernel15Ideal.Norm

open Cert.Kernel15Ideal Cert.Kernel15Ideal.Gen Cert.Spec Cert.Spec.Norm

variable (m : (ℓ : Loc nD τ sig) → Buf (Elt Ideal) ℓ)

theorem idx : ∀ t : Fin cfg0.N, win0_0.index t = ![t.val / 3, t.val % 3] ∧ win0_1.index t = ![0, 0, t.val % 3] ∧ win0_2.index t = ![t.val / 3, 0]
    ∧ win0_3.index t = ![0, 0] ∧ win0_4.index t = ![t.val / 3, 0] ∧ win0_5.index t = ![t.val / 3, 0] ∧ win0_6.index t = ![0, 0] :=
  (by decide +kernel : ∀ t : Fin grid0.N, _)

section Block

variable (v : Vec Ideal S1024x1024 .f32) (x2 : Vec Ideal S1024x1024 .f32) (x3 : Vec Ideal S1x1024 .f32) (x4 : Vec Ideal S1024x1024 .f32)

/-- The row's gradient in a block of 1024 tokens, from the gradient of the normalised rows. -/
def rowB (a : Fin 1024) (k : Fin 1024) : EReal :=
  rowK (fun k => x4 (ix2 a k)) (fun k => x2 (ix2 a k)) (fun k => x3 (ix2 0 k)) (fun k => v (ix2 a k)) k
def gainPt (a : Fin 1024) (k : Fin 1024) : EReal := v (ix2 a k) * (x2 (ix2 a k) * scale (fun l => x2 (ix2 a l)))
def gainB (k : Fin 1024) : EReal := ∑ a : Fin 1024, gainPt v x2 a k

theorem row_pieces (y : S1024x1024.Idx) : View.canon (Val := Elt Ideal) (e := .f32)
    [⟨Rect.unit ![768, 0] ![256, 1024] inb_S1024x1024_S256x1024_768_0, k0_pay4 (k0_pay19 (View.ld x2 (Rect.unit ![768, 0] ![256, 1024] inb_S1024x1024_S256x1024_768_0))) (k0_pay20 (View.ld x2 (Rect.unit ![768, 0] ![256, 1024] inb_S1024x1024_S256x1024_768_0))) (k0_pay22 (View.ld v (Rect.unit ![768, 0] ![256, 1024] inb_S1024x1024_S256x1024_768_0)) x3) (View.ld x4 (Rect.unit ![768, 0] ![256, 1024] inb_S1024x1024_S256x1024_768_0))⟩,
      ⟨Rect.unit ![512, 0] ![256, 1024] inb_S1024x1024_S256x1024_512_0, k0_pay18 (View.ld v (Rect.unit ![512, 0] ![256, 1024] inb_S1024x1024_S256x1024_512_0)) (k0_pay15 (View.ld x2 (Rect.unit ![512, 0] ![256, 1024] inb_S1024x1024_S256x1024_512_0))) (k0_pay16 (View.ld x2 (Rect.unit ![512, 0] ![256, 1024] inb_S1024x1024_S256x1024_512_0))) x3 (View.ld x4 (Rect.unit ![512, 0] ![256, 1024] inb_S1024x1024_S256x1024_512_0))⟩,
      ⟨Rect.unit ![256, 0] ![256, 1024] inb_S1024x1024_S256x1024_256_0, k0_pay14 (View.ld v (Rect.unit ![256, 0] ![256, 1024] inb_S1024x1024_S256x1024_256_0)) (View.ld x2 (Rect.unit ![256, 0] ![256, 1024] inb_S1024x1024_S256x1024_256_0)) (k0_pay10 (View.ld x2 (Rect.unit ![256, 0] ![256, 1024] inb_S1024x1024_S256x1024_256_0))) x3 (View.ld x4 (Rect.unit ![256, 0] ![256, 1024] inb_S1024x1024_S256x1024_256_0))⟩,
      ⟨Rect.unit ![0, 0] ![256, 1024] inb_S1024x1024_S256x1024_0_0, k0_pay9 (View.ld v (Rect.unit ![0, 0] ![256, 1024] inb_S1024x1024_S256x1024_0_0)) (View.ld x2 (Rect.unit ![0, 0] ![256, 1024] inb_S1024x1024_S256x1024_0_0)) x3 (View.ld x4 (Rect.unit ![0, 0] ![256, 1024] inb_S1024x1024_S256x1024_0_0))⟩] y
    = rowB v x2 x3 x4 (y 0) (y 1) := by
  canon_tiles x h using (View.cover_of_tiledBy _ ![256, 256] (by sl_kernel_rfl) y)
  all_goals
    rw [show y 1 = x 1 from Fin.ext h1, (Fin.eq_mk_iff_val_eq (hk := by rw [← h0]; exact (y 0).isLt)).mpr h0]
    pointwise [k0_pay22, k0_pay20, k0_pay19, k0_pay18, k0_pay16, k0_pay15, k0_pay14, k0_pay12, k0_pay11, k0_pay10, k0_pay9, k0_pay7, k0_pay6,
      k0_pay4, rowB, rowK, scale]

theorem gain_eq (i : S1x1024.Idx) : k0_pay21 (k0_pay13 (k0_pay8 (View.ld v (Rect.unit ![0, 0] ![256, 1024] inb_S1024x1024_S256x1024_0_0)) (View.ld x2 (Rect.unit ![0, 0] ![256, 1024] inb_S1024x1024_S256x1024_0_0))) (View.ld v (Rect.unit ![256, 0] ![256, 1024] inb_S1024x1024_S256x1024_256_0)) (View.ld x2 (Rect.unit ![256, 0] ![256, 1024] inb_S1024x1024_S256x1024_256_0)) (k0_pay10 (View.ld x2 (Rect.unit ![256, 0] ![256, 1024] inb_S1024x1024_S256x1024_256_0))))
      (k0_pay17 (View.ld v (Rect.unit ![512, 0] ![256, 1024] inb_S1024x1024_S256x1024_512_0)) (View.ld x2 (Rect.unit ![512, 0] ![256, 1024] inb_S1024x1024_S256x1024_512_0))) (View.ld v (Rect.unit ![768, 0] ![256, 1024] inb_S1024x1024_S256x1024_768_0)) (View.ld x2 (Rect.unit ![768, 0] ![256, 1024] inb_S1024x1024_S256x1024_768_0)) i
    = gainB v x2 (i 1) := by
  unfold gainB
  rw [sum_slabs]
  pointwise [zero_add, k0_pay21, k0_pay20, k0_pay19, k0_pay17, k0_pay16, k0_pay15, k0_pay13, k0_pay12, k0_pay11, k0_pay10, k0_pay8, k0_pay7, k0_pay6,
    gainPt, scale]

theorem gain_step (u : FVec Ideal S1x1024 .f32) (w : Vec Ideal S1x1024 .f32) (i : S1x1024.Idx) : k0_pay5 u w i = w i + u i := by
  pointwise [k0_pay5]

/-- One block of columns' share of the gradient of the normalised rows. -/
def part (x0 : Vec Ideal S1024x1024 .bf16) (x1 : Vec Ideal S1x1024x1024 .bf16) (i : S1024x1024.Idx) : EReal :=
  ∑ j : Fin 1024, x0 (ix2 (i 0) j) * x1 (ix3 0 (i 1) j)

theorem pay_first (x0 : Vec Ideal S1024x1024 .bf16) (x1 : Vec Ideal S1x1024x1024 .bf16) (i : S1024x1024.Idx) :
    k0_pay2 x0 x1 i = part x0 x1 i := by
  pointwise [k0_pay2, k0_pay1, part]

theorem pay_step (x0 : Vec Ideal S1024x1024 .bf16) (x1 : Vec Ideal S1x1024x1024 .bf16) (i : S1024x1024.Idx) :
    k0_pay3 x0 x1 v i = v i + part x0 x1 i := by
  pointwise [k0_pay3, k0_pay1, part]

end Block

/-- The token of row `a` of the block point `t` works on. -/
def tok (t : Fin cfg0.N) (a : Fin 1024) : Fin 8192 := ⟨t.val / 3 * 1024 + a.val, by have := lt_of_lt_of_eq t.isLt N_0; omega⟩

/-- The column `j` of the block of columns point `t` works on. -/
def col (t : Fin cfg0.N) (j : Fin 1024) : Fin 3072 := ⟨t.val % 3 * 1024 + j.val, by omega⟩

theorem blk_dz (c : Dev nD) (t : Fin cfg0.N) (a : Fin 1024) (j : Fin 1024) :
    iblk m c 0 t (ix2 a j) = (m ((c : Thread nD τ).loc main_arg0)) (ix2 (tok t a) (col t j)) := by
  blk_ext [iblk, V, idx t, tok, col]

theorem blk_w (c : Dev nD) (t : Fin cfg0.N) (k : Fin 1024) (j : Fin 1024) :
    iblk m c 1 t (ix3 0 k j) = (m ((c : Thread nD τ).loc main_arg1)) (ix3 0 k (col t j)) := by
  blk_ext [iblk, V, idx t, col]

theorem blk_h (c : Dev nD) (t : Fin cfg0.N) (a : Fin 1024) (k : Fin 1024) :
    iblk m c 2 t (ix2 a k) = (m ((c : Thread nD τ).loc main_arg2)) (ix2 (tok t a) k) := by
  blk_ext [iblk, V, idx t, tok]

theorem blk_g (c : Dev nD) (t : Fin cfg0.N) (k : Fin 1024) :
    iblk m c 3 t (ix2 0 k) = (m ((c : Thread nD τ).loc main_arg3)) (ix2 0 k) := by
  blk_ext [iblk, V, idx t]

theorem blk_dr (c : Dev nD) (t : Fin cfg0.N) (a : Fin 1024) (k : Fin 1024) :
    iblk m c 4 t (ix2 a k) = (m ((c : Thread nD τ).loc main_arg4)) (ix2 (tok t a) k) := by
  blk_ext [iblk, V, idx t, tok]

/-! ## The accumulator of the normalised row's gradient, over the three blocks of columns -/

/-- The last step of a run of three: the accumulator before it and the third block's product. -/
theorem scr_eq (c : Dev nD) (t : Fin cfg0.N) (h : t.val % 3 = 2) : (outsAt0 m c t.val t.isLt).2.2
    = k0_pay3 (iblk m c 0 t) (iblk m c 1 t) (outsAt0 m c (t.val - 1) (Nat.lt_of_le_of_lt (Nat.sub_le _ _) t.isLt)).2.2 := by
  by_cases h3 : t.val < 3
  · rw [outsAt0_C m c t (by omega) (by omega) h h3 (by omega)]
    frame_out
    rw [read_unread_whole]
  · rw [outsAt0_D m c t (by omega) (by omega) h h3 (by omega)]
    frame_out
    rw [read_unread_whole]

theorem scr_sum (c : Dev nD) (t : Fin cfg0.N) (hf : t.val % 3 = 3 - 1) (y : S1024x1024.Idx) : (outsAt0 m c t.val t.isLt).2.2 y
    = ∑ s : Fin 3, (fun t : Fin cfg0.N => part (iblk m c 0 t) (iblk m c 1 t) y)
        ⟨3 * (t.val / 3) + s.val, Pipeline.run_point_lt_of_flush t hf s⟩ := by
  rw [Pipeline.eq_sum_fin_of_reset_step_apply_of_flush (fun n h => (outsAt0 m c n h).2.2) 3 (fun _ => (0 : EReal))
    (fun t y => part (iblk m c 0 t) (iblk m c 1 t) y)
    (fun t h y => by
      rw [outsAt0_A m c t h (by omega) (by omega)]
      frame_out
      rw [pay_first, zero_add])
    (fun t h y => by
      by_cases h2 : t.val % 3 = 2
      · rw [scr_eq m c t h2, pay_step]
      · rw [outsAt0_B m c t h (by omega) h2]
        frame_out
        rw [pay_step, read_unread_whole]) t hf y, zero_add]

theorem du_eq (c : Dev nD) (t : Fin cfg0.N) (hf : t.val % 3 = 2) (a : Fin 1024) (k : Fin 1024) :
    (outsAt0 m c t.val t.isLt).2.2 (ix2 a k) = duAt (m ((c : Thread nD τ).loc main_arg0)) (m ((c : Thread nD τ).loc main_arg1)) (tok t a) k := by
  rw [scr_sum m c t hf]
  unfold duAt part
  refine Fin.sum_mul_add_congr fun s j hl => ?_
  have e1 : tok ⟨3 * (t.val / 3) + s.val, Pipeline.run_point_lt_of_flush t hf s⟩ a = tok t a :=
    Fin.ext (by show (3 * (t.val / 3) + s.val) / 3 * 1024 + a.val = t.val / 3 * 1024 + a.val; omega)
  have e2 : col ⟨3 * (t.val / 3) + s.val, Pipeline.run_point_lt_of_flush t hf s⟩ j = ⟨s.val * 1024 + j.val, hl⟩ :=
    Fin.ext (by show (3 * (t.val / 3) + s.val) % 3 * 1024 + j.val = s.val * 1024 + j.val; omega)
  refine congr (congrArg HMul.hMul ?_) ?_
  · exact (blk_dz m c ⟨3 * (t.val / 3) + s.val, Pipeline.run_point_lt_of_flush t hf s⟩ a j).trans (by rw [e1, e2])
  · exact (blk_w m c ⟨3 * (t.val / 3) + s.val, Pipeline.run_point_lt_of_flush t hf s⟩ k j).trans (by rw [e2])

theorem rowB_iblk (c : Dev nD) (t : Fin cfg0.N) (hf : t.val % 3 = 2) (a : Fin 1024) (k : Fin 1024) :
    rowB (outsAt0 m c t.val t.isLt).2.2 (iblk m c 2 t) (iblk m c 3 t) (iblk m c 4 t) a k = rowKN (m ((c : Thread nD τ).loc main_arg0)) (m ((c : Thread nD τ).loc main_arg1)) (m ((c : Thread nD τ).loc main_arg2)) (m ((c : Thread nD τ).loc main_arg3)) (m ((c : Thread nD τ).loc main_arg4)) (tok t a) k := by
  unfold rowB
  simp only [du_eq m c t hf, blk_h, blk_g, blk_dr]
  rfl

theorem gainPt_iblk (c : Dev nD) (t : Fin cfg0.N) (hf : t.val % 3 = 2) (a : Fin 1024) (k : Fin 1024) :
    gainPt (outsAt0 m c t.val t.isLt).2.2 (iblk m c 2 t) a k = gainKN (m ((c : Thread nD τ).loc main_arg0)) (m ((c : Thread nD τ).loc main_arg1)) (m ((c : Thread nD τ).loc main_arg2)) (tok t a) k := by
  unfold gainPt gainKN
  simp only [du_eq m c t hf, blk_h]

theorem final5 (c : Dev nD) : (dats m 0 c).arrAt 5 cfg0.N = fun i => rowKN (m ((c : Thread nD τ).loc main_arg0)) (m ((c : Thread nD τ).loc main_arg1)) (m ((c : Thread nD τ).loc main_arg2)) (m ((c : Thread nD τ).loc main_arg3)) (m ((c : Thread nD τ).loc main_arg4)) (i 0) (i 1) := by
  refine (dats m 0 c).arrAt_eq_of_covers 5 _ (by decide +kernel) fun t hf y => ?_
  blk_simp
  have hf' := (flush0_5 t).mp hf
  rw [after0_5]
  refine Eq.trans (b := rowB (outsAt0 m c t.val t.isLt).2.2 (iblk m c 2 t) (iblk m c 3 t) (iblk m c 4 t) (y 0) (y 1)) ?_ ?_
  · rw [scr_eq m c t hf']
    by_cases h3 : t.val < 3
    · rw [outsAt0_C m c t (by omega) (by omega) hf' h3 (by omega)]
      frame_out
      rw [read_unread_whole]
      simp (discharger := decide) only [↓View.readCov_fill]
      exact row_pieces _ _ _ _ _
    · rw [outsAt0_D m c t (by omega) (by omega) hf' h3 (by omega)]
      frame_out
      rw [read_unread_whole]
      simp (discharger := decide) only [↓View.readCov_fill]
      exact row_pieces _ _ _ _ _
  · refine (rowB_iblk m c t hf' (y 0) (y 1)).trans ?_
    exact congrArg (fun i : S8192x1024.Idx => rowKN (m ((c : Thread nD τ).loc main_arg0)) (m ((c : Thread nD τ).loc main_arg1)) (m ((c : Thread nD τ).loc main_arg2)) (m ((c : Thread nD τ).loc main_arg3)) (m ((c : Thread nD τ).loc main_arg4)) (i 0) (i 1))
      (show ix2 (tok t (y 0)) (y 1) = (win0_5.blk t).view.emb y by blk_ext [idx t, tok])

/-! ## The gain's accumulator, written at the last step of each run of three -/

theorem dg_first (c : Dev nD) (t : Fin cfg0.N) (h : t.val % 3 = 2) (h3 : t.val < 3) (j : S1x1024.Idx) :
    (outsAt0 m c t.val t.isLt).2.1 j = gainB (outsAt0 m c t.val t.isLt).2.2 (iblk m c 2 t) (j 1) := by
  rw [scr_eq m c t h, outsAt0_C m c t (by omega) (by omega) h h3 (by omega)]
  frame_out
  rw [read_unread_whole]
  simp (discharger := decide) only [↓View.readCov_fill]
  exact gain_eq _ _ _

theorem dg_step (c : Dev nD) (t : Fin cfg0.N) (h : t.val % 3 = 2) (h3 : ¬t.val < 3) (j : S1x1024.Idx) :
    (outsAt0 m c t.val t.isLt).2.1 j = (outsAt0 m c (t.val - 1) (Nat.lt_of_le_of_lt (Nat.sub_le _ _) t.isLt)).2.1 j
      + gainB (outsAt0 m c t.val t.isLt).2.2 (iblk m c 2 t) (j 1) := by
  rw [scr_eq m c t h, outsAt0_D m c t (by omega) (by omega) h h3 (by omega)]
  frame_out
  rw [gain_step, read_unread_whole]
  simp (discharger := decide) only [↓View.readCov_fill]
  exact congrArg _ (gain_eq _ _ _)

theorem dg_keep (c : Dev nD) (t : Fin cfg0.N) (h : ¬t.val % 3 = 2) :
    (outsAt0 m c t.val t.isLt).2.1 = (outsAt0 m c (t.val - 1) (Nat.lt_of_le_of_lt (Nat.sub_le _ _) t.isLt)).2.1 := by
  by_cases h0 : t.val % 3 = 0
  · rw [outsAt0_A m c t h0 (by omega) h]
    dsimp only [out0_A_6]
  · rw [outsAt0_B m c t h0 (by omega) h]
    dsimp only [out0_B_6]

theorem outs_at (c : Dev nD) {n k : ℕ} (e : n = k) (hn : n < cfg0.N) (hk : k < cfg0.N) : outsAt0 m c n hn = outsAt0 m c k hk := by
  subst e
  rfl

/-- The last point of the run that works on block `b`. -/
theorem last_lt (b : ℕ) (hb : b < 8) : 3 * b + 2 < cfg0.N := lt_of_lt_of_eq (show 3 * b + 2 < 24 by omega) N_0.symm

theorem dg_run (c : Dev nD) (b : ℕ) (hb : b < 8) (h0 : ¬b = 0) (j : S1x1024.Idx) :
    (outsAt0 m c (3 * b + 2) (last_lt b hb)).2.1 j = (outsAt0 m c (3 * (b - 1) + 2) (last_lt (b - 1) (by omega))).2.1 j
      + gainB (outsAt0 m c (3 * b + 2) (last_lt b hb)).2.2 (iblk m c 2 ⟨3 * b + 2, last_lt b hb⟩) (j 1) := by
  have hN := last_lt b hb
  have e2 := dg_step m c ⟨3 * b + 2, last_lt b hb⟩ (by show (3 * b + 2) % 3 = 2; omega) (by show ¬3 * b + 2 < 3; omega) j
  have e1 := dg_keep m c ⟨3 * b + 1, by omega⟩ (by show ¬(3 * b + 1) % 3 = 2; omega)
  have e0 := dg_keep m c ⟨3 * b, by omega⟩ (by show ¬(3 * b) % 3 = 2; omega)
  rw [outs_at m c (show 3 * b + 2 - 1 = 3 * b + 1 by omega) _ (by omega)] at e2
  rw [outs_at m c (show 3 * b + 1 - 1 = 3 * b by omega) _ (by omega)] at e1
  rw [outs_at m c (show 3 * b - 1 = 3 * (b - 1) + 2 by omega) _ (by omega)] at e0
  refine e2.trans ?_
  exact congrArg (· + _) (congrFun (e1.trans e0) j)

theorem acc_eq (c : Dev nD) (b : Fin 8) (hf : b.val % 8 = 8 - 1) (j : S1x1024.Idx) :
    (outsAt0 m c (3 * b.val + 2) (last_lt b.val b.isLt)).2.1 j
      = ∑ s : Fin 8, (fun b : Fin 8 => gainB (outsAt0 m c (3 * b.val + 2) (last_lt b.val b.isLt)).2.2 (iblk m c 2 ⟨3 * b.val + 2, last_lt b.val b.isLt⟩) (j 1))
          ⟨8 * (b.val / 8) + s.val, Pipeline.run_point_lt_of_flush b hf s⟩ := by
  have e := Pipeline.eq_sum_fin_of_reset_step_apply_of_flush (N := 8) (fun n h => (outsAt0 m c (3 * n + 2) (last_lt n h)).2.1) 8 (fun _ => (0 : EReal))
    (fun b j => gainB (outsAt0 m c (3 * b.val + 2) (last_lt b.val b.isLt)).2.2 (iblk m c 2 ⟨3 * b.val + 2, last_lt b.val b.isLt⟩) (j 1))
    (fun b h j => by
      rw [zero_add]
      exact dg_first m c ⟨3 * b.val + 2, last_lt b.val b.isLt⟩ (by show (3 * b.val + 2) % 3 = 2; omega) (by show 3 * b.val + 2 < 3; omega) j)
    (fun b h j => dg_run m c b.val b.isLt (fun e => h (by omega)) j) b hf j
  rw [zero_add] at e
  exact e

theorem final6 (c : Dev nD) : (dats m 0 c).arrAt 6 cfg0.N = fun i => ∑ t : Fin 8192, gainKN (m ((c : Thread nD τ).loc main_arg0)) (m ((c : Thread nD τ).loc main_arg1)) (m ((c : Thread nD τ).loc main_arg2)) t (i 1) := by
  refine (dats m 0 c).arrAt_eq_of_covers 6 _ (by decide +kernel) fun t hf y => ?_
  blk_simp
  have hf' := (flush0_6 t).mp hf
  have ht : t.val = 3 * (7 : Fin 8).val + 2 := by have := lt_of_lt_of_eq t.isLt N_0; show t.val = 3 * 7 + 2; omega
  rw [after0_6, outs_at m c ht _ (last_lt _ (7 : Fin 8).isLt), acc_eq m c 7 (by decide)]
  refine Eq.trans (b := ∑ t : Fin 8192, gainKN (m ((c : Thread nD τ).loc main_arg0)) (m ((c : Thread nD τ).loc main_arg1)) (m ((c : Thread nD τ).loc main_arg2)) t (y 1)) ?_ ?_
  · unfold gainB
    refine Fin.sum_mul_add_congr fun s k hl => ?_
    have e : (⟨8 * ((7 : Fin 8).val / 8) + s.val, Pipeline.run_point_lt_of_flush (7 : Fin 8) (by decide) s⟩ : Fin 8) = s :=
      Fin.ext (by show 8 * (7 / 8) + s.val = s.val; omega)
    rw [e]
    refine Eq.trans (gainPt_iblk m c ⟨3 * s.val + 2, last_lt s.val s.isLt⟩ (by show (3 * s.val + 2) % 3 = 2; omega) k (y 1)) ?_
    exact congrArg (fun t => gainKN (m ((c : Thread nD τ).loc main_arg0)) (m ((c : Thread nD τ).loc main_arg1)) (m ((c : Thread nD τ).loc main_arg2)) t (y 1))
      (Fin.ext (by show (3 * s.val + 2) / 3 * 1024 + k.val = s.val * 1024 + k.val; omega))
  · have e : (win0_6.blk t).view.emb y = ix2 (y 0) (y 1) := by blk_ext [idx t]
    rw [e]
    rfl

end Cert.Kernel15Ideal.Norm

namespace Cert.Proof.NormBwd15

open Cert.Spec Cert.Spec.Norm

/-- The kernel's five arrays. -/
def Same (m : (ℓ : Loc Cert.Kernel15Ideal.nD Cert.Kernel15Ideal.τ Cert.Kernel15Ideal.sig) → Buf (Elt Ideal) ℓ) (c : Dev Cert.Kernel15Ideal.nD)
    (x0 : FVec Ideal (SZ 3072) .bf16) (x1 : FVec Ideal (SW 3072) .bf16) (x2 : FVec Ideal SX .f32) (x3 : FVec Ideal SG .f32) (x4 : FVec Ideal SX .f32) : Prop :=
  x0 = m ((c.tc : Thread Cert.Kernel15Ideal.nD Cert.Kernel15Ideal.τ).loc Cert.Kernel15Ideal.main_arg0) ∧ x1 = m ((c.tc : Thread Cert.Kernel15Ideal.nD Cert.Kernel15Ideal.τ).loc Cert.Kernel15Ideal.main_arg1) ∧ x2 = m ((c.tc : Thread Cert.Kernel15Ideal.nD Cert.Kernel15Ideal.τ).loc Cert.Kernel15Ideal.main_arg2) ∧ x3 = m ((c.tc : Thread Cert.Kernel15Ideal.nD Cert.Kernel15Ideal.τ).loc Cert.Kernel15Ideal.main_arg3) ∧ x4 = m ((c.tc : Thread Cert.Kernel15Ideal.nD Cert.Kernel15Ideal.τ).loc Cert.Kernel15Ideal.main_arg4)

section Results

variable {m : (ℓ : Loc Cert.Kernel15Ideal.nD Cert.Kernel15Ideal.τ Cert.Kernel15Ideal.sig) → Buf (Elt Ideal) ℓ}
  {x0 : FVec Ideal (SZ 3072) .bf16} {x1 : FVec Ideal (SW 3072) .bf16} {x2 : FVec Ideal SX .f32} {x3 : FVec Ideal SG .f32} {x4 : FVec Ideal SX .f32}

theorem row {c : Dev Cert.Kernel15Ideal.nD} (h : Same m c x0 x1 x2 x3 x4) : (fun i => rowRN x0 x1 x2 x3 x4 (i 0) (i 1)) = (Cert.Kernel15Ideal.Gen.dats m 0 c).arrAt 5 Cert.Kernel15Ideal.cfg0.N := by
  obtain ⟨rfl, rfl, rfl, rfl, rfl⟩ := h
  refine Eq.trans (funext fun i => ?_) (Cert.Kernel15Ideal.Norm.final5 m c).symm
  exact (rowKN_eq _ _ _ _ _ (i 0) (i 1)).symm

theorem gain {c : Dev Cert.Kernel15Ideal.nD} (h : Same m c x0 x1 x2 x3 x4) :
    (fun i => ∑ t : Fin 8192, gainRN x0 x1 x2 t (i 1)) = (Cert.Kernel15Ideal.Gen.dats m 0 c).arrAt 6 Cert.Kernel15Ideal.cfg0.N := by
  obtain ⟨rfl, rfl, rfl, rfl, rfl⟩ := h
  refine Eq.trans (funext fun i => ?_) (Cert.Kernel15Ideal.Norm.final6 m c).symm
  exact Fin.sum_fin_congr fun t => (gainKN_eq _ _ _ t (i 1)).symm

end Results

theorem algebraic : Cert.algebraic_Kernel15Ideal_Reference15Ideal := by
  intro m g m' g' _ hagree
  refine ⟨_, _, Cert.Kernel15Ideal.Value.run_blocks m g, ?_⟩
  refine θ_run_mono (Cert.Reference15Ideal.Norm.run m' g') fun r h c => ?_
  have e : Same m c _ _ _ _ _ := hagree c
  exact ⟨(h c).1.trans (row e), (h c).2.1.trans (gain e), (h c).2.2⟩

end Cert.Proof.NormBwd15

end
-- ==== Proof.NormFwd.lean ====
/-
  The norm and the projection after it, forwards, at 3072 and at 1792 columns: what the kernel leaves in its two arrays,
  what the reference computes, and that the two are the same.
-/
module

public import proofs.«01_k».proof.Defs
public import proofs.«01_k».proof.Proof.Gen.Kernel16Ideal.Value
public import proofs.«01_k».proof.Proof.Gen.Reference16Ideal.Read
public import proofs.«01_k».proof.Proof.Gen.Reference16Ideal.Run
public import proofs.«01_k».proof.Proof.Gen.Kernel17Ideal.Value
public import proofs.«01_k».proof.Proof.Gen.Reference17Ideal.Read
public import proofs.«01_k».proof.Proof.Gen.Reference17Ideal.Run
public import proofs.«01_k».proof.Proof.Spec
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Spec.NormFwd

open Cert.Spec

/-- The normalised rows times the weights, at token `t` and column `j`. -/
def zAt {n : ℕ} (h : SX.Idx → EReal) (g : SG.Idx → EReal) (w : (⟨3, ![1, 1024, n]⟩ : Shape).Idx → EReal) (t : Fin 8192) (j : Fin n) : EReal :=
  proj (row h t) (gain g) (fun k => w (ix3 0 k j))

end Cert.Spec.NormFwd

namespace Cert.Kernel16Ideal.NormFwd

open Cert.Kernel16Ideal Cert.Kernel16Ideal.Gen Cert.Spec Cert.Spec.NormFwd

section Block

variable (x0 : Vec Ideal S1024x1024 .f32) (x1 : Vec Ideal S1x1024 .f32) (x2 : Vec Ideal S1x1024x3072 .bf16)

/-- A block's normalised rows, and their products with the weights. -/
def uB (i k : Fin 1024) : EReal := rms (fun l => x0 (ix2 i l)) (fun l => x1 (ix2 0 l)) k
def zB (i : Fin 1024) (j : Fin 3072) : EReal := proj (fun l => x0 (ix2 i l)) (fun l => x1 (ix2 0 l)) (fun l => x2 (ix3 0 l j))

theorem u_eq (y : S1024x1024.Idx) : out0_3 x0 x1 x2 y = uB x0 x1 (y 0) (y 1) := by
  unfold_out out0_3
  canon_tiles x h
  all_goals
    rw [show y 1 = x 1 from Fin.ext h1, (Fin.eq_mk_iff_val_eq (hk := by rw [← h0]; exact (y 0).isLt)).mpr h0]
    pointwise [k0_pay10, k0_pay8, k0_pay6, k0_pay5, k0_pay3, k0_pay1, uB, rms, scale]

theorem z_eq (y : S1024x3072.Idx) : out0_4 x0 x1 x2 y = zB x0 x1 x2 (y 0) (y 1) := by
  unfold_out out0_4
  canon_tiles x h
  all_goals
    rw [show y 1 = x 1 from Fin.ext h1, (Fin.eq_mk_iff_val_eq (hk := by rw [← h0]; exact (y 0).isLt)).mpr h0]
    pointwise [k0_pay10, k0_pay9, k0_pay8, k0_pay7, k0_pay6, k0_pay5, k0_pay4, k0_pay3, k0_pay2, k0_pay1, zB, proj, rms, scale]

end Block

variable (m : (ℓ : Loc nD τ sig) → Buf (Elt Ideal) ℓ)

theorem idx_val : ∀ t : Fin cfg0.N, win0_0.index t = ![t.val, 0] ∧ win0_1.index t = ![0, 0] ∧ win0_2.index t = ![0, 0, 0]
    ∧ win0_3.index t = ![t.val, 0] ∧ win0_4.index t = ![t.val, 0] :=
  (by decide +kernel : ∀ t : Fin grid0.N, _)

theorem final3 (c : Dev nD) : (dats m 0 c).arrAt 3 cfg0.N
    = normed (m ((c : Thread nD τ).loc main_arg0)) (m ((c : Thread nD τ).loc main_arg1)) := by
  refine (dats m 0 c).arrAt_eq_of_covers 3 _ (by decide +kernel) fun t hf y => ?_
  blk_simp
  rw [after0_3, u_eq]
  pointwise [uB, normed, rms, scale, row, gain]
  blk_point [iblk, V, idx_val t]

theorem final4 (c : Dev nD) : (dats m 0 c).arrAt 4 cfg0.N
    = fun i => zAt (m ((c : Thread nD τ).loc main_arg0)) (m ((c : Thread nD τ).loc main_arg1)) (m ((c : Thread nD τ).loc main_arg2)) (i 0) (i 1) := by
  refine (dats m 0 c).arrAt_eq_of_covers 4 _ (by decide +kernel) fun t hf y => ?_
  blk_simp
  rw [after0_4, z_eq]
  pointwise [zB, zAt, proj, rms, scale, row, gain]
  blk_point [iblk, V, idx_val t]

end Cert.Kernel16Ideal.NormFwd

namespace Cert.Reference16Ideal.NormFwd

open Cert.Reference16Ideal Cert.Reference16Ideal.Gen Cert.Reference16Ideal.Read Cert.Spec Cert.Spec.NormFwd

theorem v11_eq (x0 : FVec Ideal S8192x1024 .f32) (x1 : FVec Ideal S1x1024 .f32) :
    val_main_v11 (F := Ideal) x0 x1 = normed x0 x1 := by
  funext i
  pointwise [val_main_v11, val_main_v10, val_main_v9, val_main_v8, val_main_v7, val_main_v6, val_main_v5, val_main_cst_1,
    val_main_v4, val_main_v3, val_main_cst_0, val_main_v2, val_main_v1, val_main_cst, val_main_v0, normed, rms, scale, row, gain]

theorem v12_eq (x0 : FVec Ideal S8192x1024 .f32) (x1 : FVec Ideal S1x1024 .f32) :
    val_main_v12 (F := Ideal) x0 x1 = normed x0 x1 := by
  funext i
  pointwise [val_main_v12, v11_eq]

theorem v16_eq (x0 : FVec Ideal S8192x1024 .f32) (x1 : FVec Ideal S1x1024 .f32) (x2 : FVec Ideal S1x1024x3072 .bf16) :
    val_main_v16 (F := Ideal) x0 x1 x2 = fun i => zAt x0 x1 x2 (i 0) (i 1) := by
  funext i
  pointwise [val_main_v16, val_main_v15, v11_eq, val_main_v14, val_main_v13, zAt, proj, normed]

end Cert.Reference16Ideal.NormFwd

namespace Cert.Proof.NormFwd16

theorem algebraic : Cert.algebraic_Kernel16Ideal_Reference16Ideal := by
  pair_intro
  · run_from Cert.Kernel16Ideal.Gen.run_main m g
  · run_from Cert.Reference16Ideal.Value.run m' g'
    · rw [Cert.Kernel16Ideal.NormFwd.final3]
      exact Cert.Reference16Ideal.NormFwd.v12_eq _ _
    · rw [Cert.Kernel16Ideal.NormFwd.final4]
      exact Cert.Reference16Ideal.NormFwd.v16_eq _ _ _

end Cert.Proof.NormFwd16

namespace Cert.Kernel17Ideal.NormFwd

open Cert.Kernel17Ideal Cert.Kernel17Ideal.Gen Cert.Spec Cert.Spec.NormFwd

section Block

variable (x0 : Vec Ideal S1024x1024 .f32) (x1 : Vec Ideal S1x1024 .f32) (x2 : Vec Ideal S1x1024x1792 .bf16)

/-- A block's normalised rows, and their products with the weights. -/
def uB (i k : Fin 1024) : EReal := rms (fun l => x0 (ix2 i l)) (fun l => x1 (ix2 0 l)) k
def zB (i : Fin 1024) (j : Fin 1792) : EReal := proj (fun l => x0 (ix2 i l)) (fun l => x1 (ix2 0 l)) (fun l => x2 (ix3 0 l j))

theorem u_eq (y : S1024x1024.Idx) : out0_3 x0 x1 x2 y = uB x0 x1 (y 0) (y 1) := by
  unfold_out out0_3
  canon_tiles x h
  all_goals
    rw [show y 1 = x 1 from Fin.ext h1, (Fin.eq_mk_iff_val_eq (hk := by rw [← h0]; exact (y 0).isLt)).mpr h0]
    pointwise [k0_pay10, k0_pay8, k0_pay6, k0_pay5, k0_pay3, k0_pay1, uB, rms, scale]

theorem z_eq (y : S1024x1792.Idx) : out0_4 x0 x1 x2 y = zB x0 x1 x2 (y 0) (y 1) := by
  unfold_out out0_4
  canon_tiles x h
  all_goals
    rw [show y 1 = x 1 from Fin.ext h1, (Fin.eq_mk_iff_val_eq (hk := by rw [← h0]; exact (y 0).isLt)).mpr h0]
    pointwise [k0_pay10, k0_pay9, k0_pay8, k0_pay7, k0_pay6, k0_pay5, k0_pay4, k0_pay3, k0_pay2, k0_pay1, zB, proj, rms, scale]

end Block

variable (m : (ℓ : Loc nD τ sig) → Buf (Elt Ideal) ℓ)

theorem idx_val : ∀ t : Fin cfg0.N, win0_0.index t = ![t.val, 0] ∧ win0_1.index t = ![0, 0] ∧ win0_2.index t = ![0, 0, 0]
    ∧ win0_3.index t = ![t.val, 0] ∧ win0_4.index t = ![t.val, 0] :=
  (by decide +kernel : ∀ t : Fin grid0.N, _)

theorem final3 (c : Dev nD) : (dats m 0 c).arrAt 3 cfg0.N
    = normed (m ((c : Thread nD τ).loc main_arg0)) (m ((c : Thread nD τ).loc main_arg1)) := by
  refine (dats m 0 c).arrAt_eq_of_covers 3 _ (by decide +kernel) fun t hf y => ?_
  blk_simp
  rw [after0_3, u_eq]
  pointwise [uB, normed, rms, scale, row, gain]
  blk_point [iblk, V, idx_val t]

theorem final4 (c : Dev nD) : (dats m 0 c).arrAt 4 cfg0.N
    = fun i => zAt (m ((c : Thread nD τ).loc main_arg0)) (m ((c : Thread nD τ).loc main_arg1)) (m ((c : Thread nD τ).loc main_arg2)) (i 0) (i 1) := by
  refine (dats m 0 c).arrAt_eq_of_covers 4 _ (by decide +kernel) fun t hf y => ?_
  blk_simp
  rw [after0_4, z_eq]
  pointwise [zB, zAt, proj, rms, scale, row, gain]
  blk_point [iblk, V, idx_val t]

end Cert.Kernel17Ideal.NormFwd

namespace Cert.Reference17Ideal.NormFwd

open Cert.Reference17Ideal Cert.Reference17Ideal.Gen Cert.Reference17Ideal.Read Cert.Spec Cert.Spec.NormFwd

theorem v11_eq (x0 : FVec Ideal S8192x1024 .f32) (x1 : FVec Ideal S1x1024 .f32) :
    val_main_v11 (F := Ideal) x0 x1 = normed x0 x1 := by
  funext i
  pointwise [val_main_v11, val_main_v10, val_main_v9, val_main_v8, val_main_v7, val_main_v6, val_main_v5, val_main_cst_1,
    val_main_v4, val_main_v3, val_main_cst_0, val_main_v2, val_main_v1, val_main_cst, val_main_v0, normed, rms, scale, row, gain]

theorem v12_eq (x0 : FVec Ideal S8192x1024 .f32) (x1 : FVec Ideal S1x1024 .f32) :
    val_main_v12 (F := Ideal) x0 x1 = normed x0 x1 := by
  funext i
  pointwise [val_main_v12, v11_eq]

theorem v16_eq (x0 : FVec Ideal S8192x1024 .f32) (x1 : FVec Ideal S1x1024 .f32) (x2 : FVec Ideal S1x1024x1792 .bf16) :
    val_main_v16 (F := Ideal) x0 x1 x2 = fun i => zAt x0 x1 x2 (i 0) (i 1) := by
  funext i
  pointwise [val_main_v16, val_main_v15, v11_eq, val_main_v14, val_main_v13, zAt, proj, normed]

end Cert.Reference17Ideal.NormFwd

namespace Cert.Proof.NormFwd17

theorem algebraic : Cert.algebraic_Kernel17Ideal_Reference17Ideal := by
  pair_intro
  · run_from Cert.Kernel17Ideal.Gen.run_main m g
  · run_from Cert.Reference17Ideal.Value.run m' g'
    · rw [Cert.Kernel17Ideal.NormFwd.final3]
      exact Cert.Reference17Ideal.NormFwd.v12_eq _ _
    · rw [Cert.Kernel17Ideal.NormFwd.final4]
      exact Cert.Reference17Ideal.NormFwd.v16_eq _ _ _

end Cert.Proof.NormFwd17

end
-- ==== Proof.XaFwd.lean ====
/-
  The attention to the memory, forwards: what the kernel leaves in its four arrays (the block's result, the normalised
  rows, the queries and the heads' results), what the reference computes, and that on real numbers the two agree.
-/
module

public import proofs.«01_k».proof.Defs
public import proofs.«01_k».proof.Proof.Gen.Kernel18Ideal.Value
public import proofs.«01_k».proof.Proof.Gen.Reference18Ideal.Read
public import proofs.«01_k».proof.Proof.Gen.Reference18Ideal.Run
public import proofs.«01_k».proof.Proof.Gen.Pre_finite18
public import proofs.«01_k».proof.Proof.XaReal
public import proofs.«01_k».proof.Proof.XaRef
public import Idealize.ShloMosaic.Lib.Claim
public import Idealize.ShloMosaic.Lib.ReduceAll
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Spec.Xa

open Cert.Spec

/-- One head's result at a column: the kernel divides the weighted sum of the values. -/
def attnHK (q : Fin 256 → EReal) (k v : Fin 256 → Fin 256 → EReal) (d : Fin 256) : EReal := Ideal.div (∑ s, ex q k s * v s d) (mass q k)
/-- A token's result at a column of the four heads, as the kernel forms it. -/
def attnK (q : Fin 1024 → EReal) (k v : Fin 256 → Fin 1024 → EReal) (j : Fin 1024) : EReal :=
  Ideal.div (∑ s, ex (head q j) (fun s => head (k s) j) s * v s j) (mass (head q j) (fun s => head (k s) j))
/-- A token's result at a column: the values weighted with the probabilities. -/
def attnR (q : Fin 1024 → EReal) (k v : Fin 256 → Fin 1024 → EReal) (j : Fin 1024) : EReal :=
  ∑ s, v s j * probR (head q j) (fun s => head (k s) j) s

/-- With real queries and keys the two forms agree, whatever the values. -/
theorem attn_eq {q : Fin 1024 → EReal} {k v : Fin 256 → Fin 1024 → EReal} (hq : ∀ j, IsReal (q j)) (hk : ∀ s j, IsReal (k s j)) (j : Fin 1024) :
    attnK q k v j = attnR q k v j := by
  choose q' hq' using hq
  choose k' hk' using hk
  obtain rfl : q = fun j => (q' j : EReal) := funext hq'
  obtain rfl : k = fun s j => (k' s j : EReal) := funext fun s => funext (hk' s)
  obtain ⟨E, hE, he⟩ := ex_coe (fun d => q' (hcol j d)) (fun s d => k' s (hcol j d))
  have hm : mass (fun d => (q' (hcol j d) : EReal)) (fun s d => (k' s (hcol j d) : EReal)) = ((∑ s, E s : ℝ) : EReal) := by
    unfold mass
    rw [he, coe_sum]
  have hM : 0 < ∑ s, E s := Finset.sum_pos (fun s _ => hE s) ⟨0, Finset.mem_univ _⟩
  unfold attnK attnR probR head
  rw [hm, Ideal.div_coe hM.ne', sum_scaled (by exact_mod_cast (one_div_pos.2 hM).le) (EReal.coe_ne_top _)]
  exact Finset.sum_congr rfl fun s _ => by rw [Ideal.div_coe hM.ne']

abbrev SQ : Shape := ⟨3, ![1, 1024, 1024]⟩

/-- The query of token `t` at column `j`. -/
def qAt (h : SX.Idx → EReal) (g : SG.Idx → EReal) (w : SQ.Idx → EReal) (t : Fin 8192) (j : Fin 1024) : EReal :=
  proj (row h t) (gain g) (fun k => w (ix3 0 k j))
/-- The heads' results in the kernel and in the reference. -/
def oKAt (h : SX.Idx → EReal) (g : SG.Idx → EReal) (w : SQ.Idx → EReal) (kv : SM.Idx → EReal) (t : Fin 8192) (j : Fin 1024) : EReal :=
  attnK (qAt h g w t) (keys kv) (vals kv) j
def oRAt (h : SX.Idx → EReal) (g : SG.Idx → EReal) (w : SQ.Idx → EReal) (kv : SM.Idx → EReal) (t : Fin 8192) (j : Fin 1024) : EReal :=
  attnR (qAt h g w t) (keys kv) (vals kv) j
/-- The block's results: the hidden states plus the projection of the heads' results. -/
def hKAt (h : SX.Idx → EReal) (g : SG.Idx → EReal) (w wo : SQ.Idx → EReal) (kv : SM.Idx → EReal) (t : Fin 8192) (j : Fin 1024) : EReal :=
  h (ix2 t j) + ∑ l, oKAt h g w kv t l * wo (ix3 0 l j)
def hRAt (h : SX.Idx → EReal) (g : SG.Idx → EReal) (w wo : SQ.Idx → EReal) (kv : SM.Idx → EReal) (t : Fin 8192) (j : Fin 1024) : EReal :=
  h (ix2 t j) + ∑ l, oRAt h g w kv t l * wo (ix3 0 l j)

section Arrays

variable {h : SX.Idx → EReal} {g : SG.Idx → EReal} {w wo : SQ.Idx → EReal} {kv : SM.Idx → EReal}
  (hg : ∀ i, IsReal (g i)) (hw : ∀ i, IsReal (w i)) (hk : ∀ s j, IsReal (keys kv s j))

include hg hw hk

theorem oAt_eq (t : Fin 8192) (j : Fin 1024) : oKAt h g w kv t j = oRAt h g w kv t j :=
  attn_eq (fun _ => isReal_proj (fun _ => hg _) (fun _ => hw _)) hk j
theorem hAt_eq (t : Fin 8192) (j : Fin 1024) : hKAt h g w wo kv t j = hRAt h g w wo kv t j := by
  unfold hKAt hRAt
  simp only [oAt_eq hg hw hk]

end Arrays

end Cert.Spec.Xa

namespace Cert.Kernel18Ideal.XaFwd

open Cert.Kernel18Ideal Cert.Kernel18Ideal.Gen Cert.Spec Cert.Spec.Xa

/-! ## One head of one slab: the kernel's expressions -/

section Head

variable (q k v : Vec Ideal S256x256 .bf16)

abbrev matH (x : Vec Ideal S256x256 .bf16) (s d : Fin 256) : EReal := x (ix2 s d)

theorem o0 (i : S256x256.Idx) : k0_pay7 (F := Ideal) (k0_pay5 q k) (k0_pay6 q k) v i
    = attnHK (matH q (i 0)) (matH k) (matH v) (i 1) := by
  pointwise [k0_pay7, k0_pay6, k0_pay5, attnHK, mass, ex, top, score]
theorem o1 (i : S256x256.Idx) : k0_pay8 (F := Ideal) q k v i
    = attnHK (matH q (i 0)) (matH k) (matH v) (i 1) := by
  pointwise [k0_pay8, attnHK, mass, ex, top, score]
theorem o2 (i : S256x256.Idx) : k0_pay10 (F := Ideal) (k0_pay9 q k) v i
    = attnHK (matH q (i 0)) (matH k) (matH v) (i 1) := by
  pointwise [k0_pay10, k0_pay9, attnHK, mass, ex, top, score]
theorem o3 (i : S256x256.Idx) : k0_pay11 (F := Ideal) q k v i
    = attnHK (matH q (i 0)) (matH k) (matH v) (i 1) := by
  pointwise [k0_pay11, attnHK, mass, ex, top, score]
theorem o4 (i : S256x256.Idx) : k0_pay18 (F := Ideal) (k0_pay16 q k) k0_pay17 v i
    = attnHK (matH q (i 0)) (matH k) (matH v) (i 1) := by
  pointwise [k0_pay18, k0_pay17, k0_pay16, attnHK, mass, ex, top, score]
theorem o5 (i : S256x256.Idx) : k0_pay19 (F := Ideal) q k v i
    = attnHK (matH q (i 0)) (matH k) (matH v) (i 1) := by
  pointwise [k0_pay19, attnHK, mass, ex, top, score]
theorem o6 (i : S256x256.Idx) : k0_pay20 (F := Ideal) q k v i
    = attnHK (matH q (i 0)) (matH k) (matH v) (i 1) := by
  pointwise [k0_pay20, attnHK, mass, ex, top, score]
theorem o7 (i : S256x256.Idx) : k0_pay1 (F := Ideal) (k0_pay21 q k v) i
    = attnHK (matH q (i 0)) (matH k) (matH v) (i 1) := by
  pointwise [k0_pay1, k0_pay21, attnHK, mass, ex, top, score]

end Head

/-! ## One block of 512 tokens -/

/-- A load, after stores that are blocks of `G` and cover it, reads `G`. -/
theorem read_pieces {sig : RefSig} {κ : Kind} {sp : Space} {s : Shape} {e : EltTy} (v : View sig κ sp s e) (G : s.Idx → Elt Ideal e)
    (L : List (View.Piece (Elt Ideal) s e)) (h : View.PiecesOf G L) (B : Rect s) (hc : ∀ x : B.shape.Idx, ∃ p ∈ L, B.emb x ∈ p.1.set) :
    v.readCov L B.toLoadRect = fun x => G (B.emb x) := by
  rw [View.readCov_eq_canon']
  funext x
  exact View.canon_apply_of_pieces G L h.mem _ (hc x)

theorem slab_emb (r : ℕ) (i : ∀ a, ![r, 0] a + ![256, 1024] a ≤ S512x1024.size a) (h : r + 256 ≤ 512) (x : (⟨2, ![256, 1024]⟩ : Shape).Idx) :
    (Rect.unit (s := S512x1024) ![r, 0] ![256, 1024] i).emb x = ix2 ⟨r + (x 0).val, by have : (x 0).val < 256 := (x 0).isLt; omega⟩ (x 1) := by
  blk_ext
theorem tile_emb (r o : ℕ) (i : ∀ a, ![r, o] a + ![256, 256] a ≤ S512x1024.size a) (h : r + 256 ≤ 512) (h' : o + 256 ≤ 1024) (x : S256x256.Idx) :
    (Rect.unit (s := S512x1024) ![r, o] ![256, 256] i).emb x
      = ix2 ⟨r + (x 0).val, by have : (x 0).val < 256 := (x 0).isLt; omega⟩ ⟨o + (x 1).val, by have : (x 1).val < 256 := (x 1).isLt; omega⟩ := by
  blk_ext

/-- A tile lies in its slab. -/
theorem tile_mem (r o : ℕ) (i : ∀ a, ![r, o] a + ![256, 256] a ≤ S512x1024.size a) (i' : ∀ a, ![r, 0] a + ![256, 1024] a ≤ S512x1024.size a)
    (h : r + 256 ≤ 512) (h' : o + 256 ≤ 1024) (x : S256x256.Idx) :
    (Rect.unit (s := S512x1024) ![r, o] ![256, 256] i).emb x ∈ (Rect.unit (s := S512x1024) ![r, 0] ![256, 1024] i').set := by
  rw [tile_emb r o i h h' x, Rect.mem_set_unit]
  have h0 : (x 0).val < 256 := (x 0).isLt
  have h1 : (x 1).val < 256 := (x 1).isLt
  intro a
  match a with
  | ⟨0, _⟩ => exact ⟨Nat.le_add_right _ _, Nat.add_lt_add_left h0 r⟩
  | ⟨1, _⟩ => exact ⟨Nat.zero_le _, by show o + (x 1).val < 0 + 1024; omega⟩

/-- An index of a slab lies in the tile of its column. -/
theorem slab_mem (r o : ℕ) (i : ∀ a, ![r, o] a + ![256, 256] a ≤ S512x1024.size a) (i' : ∀ a, ![r, 0] a + ![256, 1024] a ≤ S512x1024.size a)
    (h : r + 256 ≤ 512) (x : (⟨2, ![256, 1024]⟩ : Shape).Idx) (h1 : o ≤ (x 1).val) (h2 : (x 1).val < o + 256) :
    (Rect.unit (s := S512x1024) ![r, 0] ![256, 1024] i').emb x ∈ (Rect.unit (s := S512x1024) ![r, o] ![256, 256] i).set := by
  rw [slab_emb r i' h x]
  refine Rect.mem_set_unit.2 ?_
  have h0 : (x 0).val < 256 := (x 0).isLt
  intro a
  match a with
  | ⟨0, _⟩ => exact ⟨Nat.le_add_right _ _, Nat.add_lt_add_left h0 r⟩
  | ⟨1, _⟩ => exact ⟨h1, h2⟩

section Block

variable (x0 : Vec Ideal S512x1024 .f32) (x1 : Vec Ideal S1x1024 .f32) (x2 x3 : Vec Ideal S1x1024x1024 .bf16) (x4 x5 : Vec Ideal S256x1024 .bf16)

abbrev matB (x : Vec Ideal S256x1024 .bf16) (s : Fin 256) (j : Fin 1024) : EReal := x (ix2 s j)

/-- A block's normalised rows, queries, heads' results and results. -/
def uB (i : Fin 512) (k : Fin 1024) : EReal := rms (fun l => x0 (ix2 i l)) (fun l => x1 (ix2 0 l)) k
def qB (i : Fin 512) (j : Fin 1024) : EReal := proj (fun l => x0 (ix2 i l)) (fun l => x1 (ix2 0 l)) (fun l => x2 (ix3 0 l j))
def oB (i : Fin 512) (j : Fin 1024) : EReal := attnK (qB x0 x1 x2 i) (matB x4) (matB x5) j
def hB (i : Fin 512) (j : Fin 1024) : EReal := x0 (ix2 i j) + ∑ l, oB x0 x1 x2 x4 x5 i l * x3 (ix3 0 l j)

theorem u_eq (y : S512x1024.Idx) : View.canon (Val := Elt Ideal) (e := .bf16)
    [⟨Rect.unit ![256, 0] ![256, 1024] inb_S512x1024_S256x1024_256_0, k0_pay14 (View.ld x0 (Rect.unit ![256, 0] ![256, 1024] inb_S512x1024_S256x1024_256_0)) x1⟩,
      ⟨Rect.unit ![0, 0] ![256, 1024] inb_S512x1024_S256x1024_0_0, k0_pay3 (View.ld x0 (Rect.unit ![0, 0] ![256, 1024] inb_S512x1024_S256x1024_0_0)) x1⟩] y
    = uB x0 x1 (y 0) (y 1) := by
  canon_tiles x h using (View.cover_of_tiledBy _ ![256, 256] (by sl_kernel_rfl) y)
  all_goals
    rw [show y 1 = x 1 from Fin.ext h1, (Fin.eq_mk_iff_val_eq (hk := by rw [← h0]; exact (y 0).isLt)).mpr h0]
    pointwise [k0_pay14, k0_pay3, uB, rms, scale]

/-- The stores of the queries. -/
abbrev qP0 : View.Piece (Elt Ideal) S512x1024 .bf16 := ⟨Rect.unit ![0, 0] ![256, 1024] inb_S512x1024_S256x1024_0_0, k0_pay4 (View.ld x0 (Rect.unit ![0, 0] ![256, 1024] inb_S512x1024_S256x1024_0_0)) x1 x2⟩
abbrev qP1 : View.Piece (Elt Ideal) S512x1024 .bf16 := ⟨Rect.unit ![256, 0] ![256, 1024] inb_S512x1024_S256x1024_256_0, k0_pay15 (View.ld x0 (Rect.unit ![256, 0] ![256, 1024] inb_S512x1024_S256x1024_256_0)) x1 x2⟩

theorem q0_pieces : View.PiecesOf (fun y => qB x0 x1 x2 (y 0) (y 1)) [qP0 x0 x1 x2] := by
  refine ⟨fun x => ?_, trivial⟩
  rw [slab_emb 0 _ (by decide) x]
  pointwise [k0_pay4, k0_pay3, qB, proj, rms, scale]
theorem q1_pieces : View.PiecesOf (fun y => qB x0 x1 x2 (y 0) (y 1)) [qP1 x0 x1 x2, qP0 x0 x1 x2] := by
  refine ⟨fun x => ?_, q0_pieces x0 x1 x2⟩
  rw [slab_emb 256 _ (by decide) x]
  pointwise [k0_pay15, k0_pay14, qB, proj, rms, scale]

theorem q_eq (y : S512x1024.Idx) : View.canon (Val := Elt Ideal) (e := .bf16) [qP1 x0 x1 x2, qP0 x0 x1 x2] y = qB x0 x1 x2 (y 0) (y 1) :=
  View.canon_apply_of_pieces (fun y : S512x1024.Idx => qB x0 x1 x2 (y 0) (y 1)) [qP1 x0 x1 x2, qP0 x0 x1 x2] (q1_pieces x0 x1 x2).mem y
    (View.cover_of_tiledBy [qP1 x0 x1 x2, qP0 x0 x1 x2] ![256, 256] (by sl_kernel_rfl) y)

theorem ld_mat (x : Vec Ideal S256x1024 .bf16) (o : ℕ) (inb : ∀ a, ![0, o] a + ![256, 256] a ≤ S256x1024.size a) (a : Fin 256) (d : Fin 256)
    (h : o + d.val < 1024) : View.ld x (Rect.unit ![0, o] ![256, 256] inb) (ix2 a d) = x (ix2 a ⟨o + d.val, h⟩) := by
  pointwise
theorem matH_ld (x : Vec Ideal S256x1024 .bf16) (o : ℕ) (inb : ∀ a, ![0, o] a + ![256, 256] a ≤ S256x1024.size a) (h' : o + 256 ≤ 1024) :
    matH (View.ld x (Rect.unit ![0, o] ![256, 256] inb)) = fun s d => x (ix2 s ⟨o + d.val, by omega⟩) :=
  funext fun s => funext fun d => ld_mat x o inb s d (by omega)

/-- One head's result on one slab is the block's there. -/
theorem o_head (r o : ℕ) (i0 : ∀ a, ![r, o] a + ![256, 256] a ≤ S512x1024.size a) (i1 : ∀ a, ![0, o] a + ![256, 256] a ≤ S256x1024.size a)
    (ho : o % 256 = 0) (h : r + 256 ≤ 512) (h' : o + 256 ≤ 1024) (q : Vec Ideal S256x256 .bf16)
    (hq : q = fun x => (fun y : S512x1024.Idx => qB x0 x1 x2 (y 0) (y 1)) ((Rect.unit (s := S512x1024) ![r, o] ![256, 256] i0).emb x)) (x : S256x256.Idx) :
    attnHK (matH q (x 0)) (matH (View.ld x4 (Rect.unit ![0, o] ![256, 256] i1))) (matH (View.ld x5 (Rect.unit ![0, o] ![256, 256] i1))) (x 1)
    = (fun y : S512x1024.Idx => oB x0 x1 x2 x4 x5 (y 0) (y 1)) ((Rect.unit (s := S512x1024) ![r, o] ![256, 256] i0).emb x) := by
  have e : matH q (x 0) = fun d => qB x0 x1 x2 ⟨r + (x 0).val, by have : (x 0).val < 256 := (x 0).isLt; omega⟩ ⟨o + d.val, by omega⟩ := by
    funext d
    unfold matH
    rw [hq]
    beta_reduce
    rw [tile_emb r o i0 h h' (ix2 (x 0) d)]
    rfl
  rw [e, matH_ld x4 o i1 h', matH_ld x5 o i1 h', tile_emb r o i0 h h' x]
  show _ = oB x0 x1 x2 x4 x5 ⟨r + (x 0).val, _⟩ ⟨o + (x 1).val, _⟩
  unfold oB attnK attnHK
  simp only [head_at _ o ho (x 1) _ h', matB]

section Stores

variable {sg : RefSig} {κ : Kind} {sp : Space} (v : View sg κ sp S512x1024 .bf16)

/-- A head's queries, read back on the first and on the second slab. -/
abbrev rq0 (o : ℕ) (i0 : ∀ a, ![0, o] a + ![256, 256] a ≤ S512x1024.size a) : Vec Ideal S256x256 .bf16 :=
  v.readCov [qP0 x0 x1 x2] (Rect.unit (s := S512x1024) ![0, o] ![256, 256] i0).toLoadRect
abbrev rq1 (o : ℕ) (i0 : ∀ a, ![256, o] a + ![256, 256] a ≤ S512x1024.size a) : Vec Ideal S256x256 .bf16 :=
  v.readCov [qP1 x0 x1 x2, qP0 x0 x1 x2] (Rect.unit (s := S512x1024) ![256, o] ![256, 256] i0).toLoadRect

theorem rq0_eq (o : ℕ) (i0 : ∀ a, ![0, o] a + ![256, 256] a ≤ S512x1024.size a) (h' : o + 256 ≤ 1024) :
    rq0 x0 x1 x2 v o i0 = fun x => (fun y : S512x1024.Idx => qB x0 x1 x2 (y 0) (y 1)) ((Rect.unit (s := S512x1024) ![0, o] ![256, 256] i0).emb x) :=
  read_pieces v _ _ (q0_pieces x0 x1 x2) _ fun x => ⟨_, List.mem_cons_self, tile_mem 0 o i0 inb_S512x1024_S256x1024_0_0 (by decide) h' x⟩
theorem rq1_eq (o : ℕ) (i0 : ∀ a, ![256, o] a + ![256, 256] a ≤ S512x1024.size a) (h' : o + 256 ≤ 1024) :
    rq1 x0 x1 x2 v o i0 = fun x => (fun y : S512x1024.Idx => qB x0 x1 x2 (y 0) (y 1)) ((Rect.unit (s := S512x1024) ![256, o] ![256, 256] i0).emb x) :=
  read_pieces v _ _ (q1_pieces x0 x1 x2) _ fun x => ⟨_, List.mem_cons_self, tile_mem 256 o i0 inb_S512x1024_S256x1024_256_0 (by decide) h' x⟩

/-- The stores of the heads' results: the first slab's, and all. -/
abbrev oL0 : List (View.Piece (Elt Ideal) S512x1024 .bf16) :=
  [⟨Rect.unit ![0, 768] ![256, 256] inb_S512x1024_S256x256_0_768, k0_pay11 (rq0 x0 x1 x2 v 768 inb_S512x1024_S256x256_0_768) (View.ld x4 (Rect.unit ![0, 768] ![256, 256] inb_S256x1024_S256x256_0_768)) (View.ld x5 (Rect.unit ![0, 768] ![256, 256] inb_S256x1024_S256x256_0_768))⟩,
    ⟨Rect.unit ![0, 512] ![256, 256] inb_S512x1024_S256x256_0_512, k0_pay10 (k0_pay9 (rq0 x0 x1 x2 v 512 inb_S512x1024_S256x256_0_512) (View.ld x4 (Rect.unit ![0, 512] ![256, 256] inb_S256x1024_S256x256_0_512))) (View.ld x5 (Rect.unit ![0, 512] ![256, 256] inb_S256x1024_S256x256_0_512))⟩,
    ⟨Rect.unit ![0, 256] ![256, 256] inb_S512x1024_S256x256_0_256, k0_pay8 (rq0 x0 x1 x2 v 256 inb_S512x1024_S256x256_0_256) (View.ld x4 (Rect.unit ![0, 256] ![256, 256] inb_S256x1024_S256x256_0_256)) (View.ld x5 (Rect.unit ![0, 256] ![256, 256] inb_S256x1024_S256x256_0_256))⟩,
    ⟨Rect.unit ![0, 0] ![256, 256] inb_S512x1024_S256x256_0_0, k0_pay7 (k0_pay5 (rq0 x0 x1 x2 v 0 inb_S512x1024_S256x256_0_0) (View.ld x4 (Rect.unit ![0, 0] ![256, 256] inb_S256x1024_S256x256_0_0))) (k0_pay6 (rq0 x0 x1 x2 v 0 inb_S512x1024_S256x256_0_0) (View.ld x4 (Rect.unit ![0, 0] ![256, 256] inb_S256x1024_S256x256_0_0))) (View.ld x5 (Rect.unit ![0, 0] ![256, 256] inb_S256x1024_S256x256_0_0))⟩]
abbrev oL1 : List (View.Piece (Elt Ideal) S512x1024 .bf16) :=
  ⟨Rect.unit ![256, 768] ![256, 256] inb_S512x1024_S256x256_256_768, k0_pay1 (k0_pay21 (rq1 x0 x1 x2 v 768 inb_S512x1024_S256x256_256_768) (View.ld x4 (Rect.unit ![0, 768] ![256, 256] inb_S256x1024_S256x256_0_768)) (View.ld x5 (Rect.unit ![0, 768] ![256, 256] inb_S256x1024_S256x256_0_768)))⟩ ::
    ⟨Rect.unit ![256, 512] ![256, 256] inb_S512x1024_S256x256_256_512, k0_pay20 (rq1 x0 x1 x2 v 512 inb_S512x1024_S256x256_256_512) (View.ld x4 (Rect.unit ![0, 512] ![256, 256] inb_S256x1024_S256x256_0_512)) (View.ld x5 (Rect.unit ![0, 512] ![256, 256] inb_S256x1024_S256x256_0_512))⟩ ::
    ⟨Rect.unit ![256, 256] ![256, 256] inb_S512x1024_S256x256_256_256, k0_pay19 (rq1 x0 x1 x2 v 256 inb_S512x1024_S256x256_256_256) (View.ld x4 (Rect.unit ![0, 256] ![256, 256] inb_S256x1024_S256x256_0_256)) (View.ld x5 (Rect.unit ![0, 256] ![256, 256] inb_S256x1024_S256x256_0_256))⟩ ::
    ⟨Rect.unit ![256, 0] ![256, 256] inb_S512x1024_S256x256_256_0, k0_pay18 (k0_pay16 (rq1 x0 x1 x2 v 0 inb_S512x1024_S256x256_256_0) (View.ld x4 (Rect.unit ![0, 0] ![256, 256] inb_S256x1024_S256x256_0_0))) k0_pay17 (View.ld x5 (Rect.unit ![0, 0] ![256, 256] inb_S256x1024_S256x256_0_0))⟩ ::
    oL0 x0 x1 x2 x4 x5 v

theorem o0_pieces : View.PiecesOf (fun y => oB x0 x1 x2 x4 x5 (y 0) (y 1)) (oL0 x0 x1 x2 x4 x5 v) :=
  ⟨fun x => (o3 _ _ _ x).trans (o_head x0 x1 x2 x4 x5 0 768 _ _ (by decide) (by decide) (by decide) _ (rq0_eq x0 x1 x2 v 768 _ (by decide)) x),
    fun x => (o2 _ _ _ x).trans (o_head x0 x1 x2 x4 x5 0 512 _ _ (by decide) (by decide) (by decide) _ (rq0_eq x0 x1 x2 v 512 _ (by decide)) x),
    fun x => (o1 _ _ _ x).trans (o_head x0 x1 x2 x4 x5 0 256 _ _ (by decide) (by decide) (by decide) _ (rq0_eq x0 x1 x2 v 256 _ (by decide)) x),
    fun x => (o0 _ _ _ x).trans (o_head x0 x1 x2 x4 x5 0 0 _ _ (by decide) (by decide) (by decide) _ (rq0_eq x0 x1 x2 v 0 _ (by decide)) x), trivial⟩
theorem o1_pieces : View.PiecesOf (fun y => oB x0 x1 x2 x4 x5 (y 0) (y 1)) (oL1 x0 x1 x2 x4 x5 v) :=
  ⟨fun x => (o7 _ _ _ x).trans (o_head x0 x1 x2 x4 x5 256 768 _ _ (by decide) (by decide) (by decide) _ (rq1_eq x0 x1 x2 v 768 _ (by decide)) x),
    fun x => (o6 _ _ _ x).trans (o_head x0 x1 x2 x4 x5 256 512 _ _ (by decide) (by decide) (by decide) _ (rq1_eq x0 x1 x2 v 512 _ (by decide)) x),
    fun x => (o5 _ _ _ x).trans (o_head x0 x1 x2 x4 x5 256 256 _ _ (by decide) (by decide) (by decide) _ (rq1_eq x0 x1 x2 v 256 _ (by decide)) x),
    fun x => (o4 _ _ _ x).trans (o_head x0 x1 x2 x4 x5 256 0 _ _ (by decide) (by decide) (by decide) _ (rq1_eq x0 x1 x2 v 0 _ (by decide)) x), o0_pieces x0 x1 x2 x4 x5 v⟩

theorem o_eq (y : S512x1024.Idx) : View.canon (Val := Elt Ideal) (e := .bf16) (oL1 x0 x1 x2 x4 x5 v) y = oB x0 x1 x2 x4 x5 (y 0) (y 1) :=
  View.canon_apply_of_pieces (fun y : S512x1024.Idx => oB x0 x1 x2 x4 x5 (y 0) (y 1)) (oL1 x0 x1 x2 x4 x5 v) (o1_pieces x0 x1 x2 x4 x5 v).mem y
    (View.cover_of_tiledBy (oL1 x0 x1 x2 x4 x5 v) ![256, 256] (by sl_kernel_rfl) y)

theorem cols (n : ℕ) (h : n < 1024) : (768 ≤ n ∧ n < 768 + 256) ∨ (512 ≤ n ∧ n < 512 + 256) ∨ (256 ≤ n ∧ n < 256 + 256) ∨ (0 ≤ n ∧ n < 0 + 256) := by omega

variable (v' : View sg κ sp S512x1024 .bf16)

/-- The heads' results of a slab, read back. -/
abbrev ro0 : Vec Ideal S256x1024 .bf16 := v'.readCov (oL0 x0 x1 x2 x4 x5 v) (Rect.unit (s := S512x1024) ![0, 0] ![256, 1024] inb_S512x1024_S256x1024_0_0).toLoadRect
abbrev ro1 : Vec Ideal S256x1024 .bf16 := v'.readCov (oL1 x0 x1 x2 x4 x5 v) (Rect.unit (s := S512x1024) ![256, 0] ![256, 1024] inb_S512x1024_S256x1024_256_0).toLoadRect

theorem ro0_eq : ro0 x0 x1 x2 x4 x5 v v'
    = fun x => oB x0 x1 x2 x4 x5 ⟨0 + (x 0).val, by have : (x 0).val < 256 := (x 0).isLt; omega⟩ (x 1) := by
  refine (read_pieces v' _ _ (o0_pieces x0 x1 x2 x4 x5 v) _ ?_).trans ?_
  rotate_left
  · funext x
    beta_reduce
    rw [slab_emb 0 _ (by decide) x]
    rfl
  · intro x
    rcases cols (x 1).val (x 1).isLt with ⟨h1, h2⟩ | ⟨h1, h2⟩ | ⟨h1, h2⟩ | ⟨h1, h2⟩
    · exact ⟨_, List.mem_cons_self, slab_mem 0 768 inb_S512x1024_S256x256_0_768 inb_S512x1024_S256x1024_0_0 (by decide) x h1 h2⟩
    · exact ⟨_, List.mem_cons_of_mem _ List.mem_cons_self, slab_mem 0 512 inb_S512x1024_S256x256_0_512 inb_S512x1024_S256x1024_0_0 (by decide) x h1 h2⟩
    · exact ⟨_, List.mem_cons_of_mem _ (List.mem_cons_of_mem _ List.mem_cons_self), slab_mem 0 256 inb_S512x1024_S256x256_0_256 inb_S512x1024_S256x1024_0_0 (by decide) x h1 h2⟩
    · exact ⟨_, List.mem_cons_of_mem _ (List.mem_cons_of_mem _ (List.mem_cons_of_mem _ List.mem_cons_self)), slab_mem 0 0 inb_S512x1024_S256x256_0_0 inb_S512x1024_S256x1024_0_0 (by decide) x h1 h2⟩
theorem ro1_eq : ro1 x0 x1 x2 x4 x5 v v'
    = fun x => oB x0 x1 x2 x4 x5 ⟨256 + (x 0).val, by have : (x 0).val < 256 := (x 0).isLt; omega⟩ (x 1) := by
  refine (read_pieces v' _ _ (o1_pieces x0 x1 x2 x4 x5 v) _ ?_).trans ?_
  rotate_left
  · funext x
    beta_reduce
    rw [slab_emb 256 _ (by decide) x]
    rfl
  · intro x
    rcases cols (x 1).val (x 1).isLt with ⟨h1, h2⟩ | ⟨h1, h2⟩ | ⟨h1, h2⟩ | ⟨h1, h2⟩
    · exact ⟨_, List.mem_cons_self, slab_mem 256 768 inb_S512x1024_S256x256_256_768 inb_S512x1024_S256x1024_256_0 (by decide) x h1 h2⟩
    · exact ⟨_, List.mem_cons_of_mem _ List.mem_cons_self, slab_mem 256 512 inb_S512x1024_S256x256_256_512 inb_S512x1024_S256x1024_256_0 (by decide) x h1 h2⟩
    · exact ⟨_, List.mem_cons_of_mem _ (List.mem_cons_of_mem _ List.mem_cons_self), slab_mem 256 256 inb_S512x1024_S256x256_256_256 inb_S512x1024_S256x1024_256_0 (by decide) x h1 h2⟩
    · exact ⟨_, List.mem_cons_of_mem _ (List.mem_cons_of_mem _ (List.mem_cons_of_mem _ List.mem_cons_self)), slab_mem 256 0 inb_S512x1024_S256x256_256_0 inb_S512x1024_S256x1024_256_0 (by decide) x h1 h2⟩

theorem h_eq (y : S512x1024.Idx) : View.canon (Val := Elt Ideal) (e := .f32)
    [⟨Rect.unit ![256, 0] ![256, 1024] inb_S512x1024_S256x1024_256_0, k0_pay2 (View.ld x0 (Rect.unit ![256, 0] ![256, 1024] inb_S512x1024_S256x1024_256_0)) (ro1 x0 x1 x2 x4 x5 v v') x3⟩,
      ⟨Rect.unit ![0, 0] ![256, 1024] inb_S512x1024_S256x1024_0_0, k0_pay13 (View.ld x0 (Rect.unit ![0, 0] ![256, 1024] inb_S512x1024_S256x1024_0_0)) (k0_pay12 (ro0 x0 x1 x2 x4 x5 v v')) x3⟩] y
    = hB x0 x1 x2 x3 x4 x5 (y 0) (y 1) := by
  rw [ro0_eq x0 x1 x2 x4 x5 v v', ro1_eq x0 x1 x2 x4 x5 v v']
  canon_tiles x h using (View.cover_of_tiledBy _ ![256, 256] (by sl_kernel_rfl) y)
  all_goals
    rw [show y 1 = x 1 from Fin.ext h1, (Fin.eq_mk_iff_val_eq (hk := by rw [← h0]; exact (y 0).isLt)).mpr h0]
    pointwise [k0_pay13, k0_pay12, k0_pay2, hB]

end Stores

end Block

/-! ## The whole arrays -/

variable (m : (ℓ : Loc nD τ sig) → Buf (Elt Ideal) ℓ)

theorem idx : ∀ t : Fin cfg0.N, win0_0.index t = ![t.val, 0] ∧ win0_1.index t = ![0, 0] ∧ win0_2.index t = ![0, 0, 0] ∧ win0_3.index t = ![0, 0, 0]
    ∧ win0_4.index t = ![0, 0] ∧ win0_5.index t = ![0, 1] ∧ win0_6.index t = ![t.val, 0] ∧ win0_7.index t = ![t.val, 0]
    ∧ win0_8.index t = ![t.val, 0] ∧ win0_9.index t = ![t.val, 0] :=
  (by decide +kernel : ∀ t : Fin grid0.N, _)

/-- Token `a` of the grid's point `t`. -/
def tok (t : Fin cfg0.N) (a : Fin 512) : Fin 8192 := ⟨t.val * 512 + a.val, by have := lt_of_lt_of_eq t.isLt N_0; omega⟩

variable (c : Dev nD) (t : Fin cfg0.N)

theorem blk_h (a : Fin 512) (j : Fin 1024) : iblk m c 0 t (ix2 a j) = (m ((c : Thread nD τ).loc main_arg0)) (ix2 (tok t a) j) := by
  blk_ext [iblk, V, idx t, tok]
theorem blk_g (j : Fin 1024) : iblk m c 1 t (ix2 0 j) = (m ((c : Thread nD τ).loc main_arg1)) (ix2 0 j) := by
  blk_ext [iblk, V, idx t, tok]
theorem blk_wq (l j : Fin 1024) : iblk m c 2 t (ix3 0 l j) = (m ((c : Thread nD τ).loc main_arg2)) (ix3 0 l j) := by
  blk_ext [iblk, V, idx t, tok]
theorem blk_wo (l j : Fin 1024) : iblk m c 3 t (ix3 0 l j) = (m ((c : Thread nD τ).loc main_arg3)) (ix3 0 l j) := by
  blk_ext [iblk, V, idx t, tok]
theorem blk_k (s : Fin 256) (j : Fin 1024) : iblk m c 4 t (ix2 s j) = (m ((c : Thread nD τ).loc main_arg4)) (ix2 s ⟨j.val, by omega⟩) := by
  blk_ext [iblk, V, idx t]
theorem blk_v (s : Fin 256) (j : Fin 1024) : iblk m c 5 t (ix2 s j) = (m ((c : Thread nD τ).loc main_arg4)) (ix2 s ⟨1024 + j.val, by omega⟩) := by
  blk_ext [iblk, V, idx t]

theorem uB_iblk (a : Fin 512) (j : Fin 1024) : uB (iblk m c 0 t) (iblk m c 1 t) a j
    = rms (row (m ((c : Thread nD τ).loc main_arg0)) (tok t a)) (gain (m ((c : Thread nD τ).loc main_arg1))) j := by
  unfold uB row gain
  simp only [blk_h, blk_g]
theorem qB_iblk (a : Fin 512) : qB (iblk m c 0 t) (iblk m c 1 t) (iblk m c 2 t) a
    = qAt (m ((c : Thread nD τ).loc main_arg0)) (m ((c : Thread nD τ).loc main_arg1)) (m ((c : Thread nD τ).loc main_arg2)) (tok t a) := by
  funext j
  unfold qB qAt row gain
  simp only [blk_h, blk_g, blk_wq]
theorem oB_iblk (a : Fin 512) (j : Fin 1024) : oB (iblk m c 0 t) (iblk m c 1 t) (iblk m c 2 t) (iblk m c 4 t) (iblk m c 5 t) a j
    = oKAt (m ((c : Thread nD τ).loc main_arg0)) (m ((c : Thread nD τ).loc main_arg1)) (m ((c : Thread nD τ).loc main_arg2)) (m ((c : Thread nD τ).loc main_arg4)) (tok t a) j := by
  have ek : matB (iblk m c 4 t) = keys (m ((c : Thread nD τ).loc main_arg4)) := funext fun s => funext fun j => blk_k m c t s j
  have ev : matB (iblk m c 5 t) = vals (m ((c : Thread nD τ).loc main_arg4)) := funext fun s => funext fun j => blk_v m c t s j
  unfold oB oKAt
  rw [qB_iblk, ek, ev]
theorem hB_iblk (a : Fin 512) (j : Fin 1024) : hB (iblk m c 0 t) (iblk m c 1 t) (iblk m c 2 t) (iblk m c 3 t) (iblk m c 4 t) (iblk m c 5 t) a j
    = hKAt (m ((c : Thread nD τ).loc main_arg0)) (m ((c : Thread nD τ).loc main_arg1)) (m ((c : Thread nD τ).loc main_arg2)) (m ((c : Thread nD τ).loc main_arg3)) (m ((c : Thread nD τ).loc main_arg4)) (tok t a) j := by
  unfold hB hKAt
  simp only [oB_iblk, blk_h, blk_wo]

theorem final6 (c : Dev nD) : (dats m 0 c).arrAt 6 cfg0.N = fun i => hKAt (m ((c : Thread nD τ).loc main_arg0)) (m ((c : Thread nD τ).loc main_arg1)) (m ((c : Thread nD τ).loc main_arg2)) (m ((c : Thread nD τ).loc main_arg3)) (m ((c : Thread nD τ).loc main_arg4)) (i 0) (i 1) := by
  refine (dats m 0 c).arrAt_eq_of_covers 6 _ (by decide +kernel) fun t hf y => ?_
  blk_simp
  rw [after0_6]
  refine Eq.trans (b := hB (iblk m c 0 t) (iblk m c 1 t) (iblk m c 2 t) (iblk m c 3 t) (iblk m c 4 t) (iblk m c 5 t) (y 0) (y 1)) ?_ ?_
  · unfold outsAt0
    frame_out
    exact h_eq _ _ _ _ _ _ _ _ y
  · have e : (win0_6.blk t).view.emb y = ix2 (tok t (y 0)) (y 1) := by blk_ext [idx t, tok]
    rw [e]
    exact hB_iblk m c t (y 0) (y 1)

theorem final7 (c : Dev nD) : (dats m 0 c).arrAt 7 cfg0.N = normed (m ((c : Thread nD τ).loc main_arg0)) (m ((c : Thread nD τ).loc main_arg1)) := by
  refine (dats m 0 c).arrAt_eq_of_covers 7 _ (by decide +kernel) fun t hf y => ?_
  blk_simp
  rw [after0_7]
  refine Eq.trans (b := uB (iblk m c 0 t) (iblk m c 1 t) (y 0) (y 1)) ?_ ?_
  · unfold outsAt0
    frame_out
    exact u_eq _ _ y
  · have e : (win0_7.blk t).view.emb y = ix2 (tok t (y 0)) (y 1) := by blk_ext [idx t, tok]
    rw [e]
    exact uB_iblk m c t (y 0) (y 1)

theorem final8 (c : Dev nD) : (dats m 0 c).arrAt 8 cfg0.N = fun i => qAt (m ((c : Thread nD τ).loc main_arg0)) (m ((c : Thread nD τ).loc main_arg1)) (m ((c : Thread nD τ).loc main_arg2)) (i 0) (i 1) := by
  refine (dats m 0 c).arrAt_eq_of_covers 8 _ (by decide +kernel) fun t hf y => ?_
  blk_simp
  rw [after0_8]
  refine Eq.trans (b := qB (iblk m c 0 t) (iblk m c 1 t) (iblk m c 2 t) (y 0) (y 1)) ?_ ?_
  · unfold outsAt0
    frame_out
    exact q_eq _ _ _ y
  · have e : (win0_8.blk t).view.emb y = ix2 (tok t (y 0)) (y 1) := by blk_ext [idx t, tok]
    rw [e]
    exact congrFun (qB_iblk m c t (y 0)) (y 1)

theorem final9 (c : Dev nD) : (dats m 0 c).arrAt 9 cfg0.N = fun i => oKAt (m ((c : Thread nD τ).loc main_arg0)) (m ((c : Thread nD τ).loc main_arg1)) (m ((c : Thread nD τ).loc main_arg2)) (m ((c : Thread nD τ).loc main_arg4)) (i 0) (i 1) := by
  refine (dats m 0 c).arrAt_eq_of_covers 9 _ (by decide +kernel) fun t hf y => ?_
  blk_simp
  rw [after0_9]
  refine Eq.trans (b := oB (iblk m c 0 t) (iblk m c 1 t) (iblk m c 2 t) (iblk m c 4 t) (iblk m c 5 t) (y 0) (y 1)) ?_ ?_
  · unfold outsAt0
    frame_out
    exact o_eq _ _ _ _ _ _ y
  · have e : (win0_9.blk t).view.emb y = ix2 (tok t (y 0)) (y 1) := by blk_ext [idx t, tok]
    rw [e]
    exact oB_iblk m c t (y 0) (y 1)

end Cert.Kernel18Ideal.XaFwd

namespace Cert.Reference18Ideal.XaFwd

open Cert.Reference18Ideal Cert.Reference18Ideal.Gen Cert.Reference18Ideal.Read Cert.Spec Cert.Spec.Xa
open Cert.Reference6Ideal.Xa (hj part head_hj max_top hj_div)

variable (x0 : FVec Ideal S8192x1024 .f32) (x1 : FVec Ideal S1x1024 .f32) (x2 x3 : FVec Ideal S1x1024x1024 .bf16) (x4 : FVec Ideal S256x2048 .bf16)

theorem v11_eq : val_main_v11 (F := Ideal) x0 x1 = normed x0 x1 := by
  funext i
  pointwise [val_main_v11, val_main_v10, val_main_v9, val_main_v8, val_main_v7, val_main_v6, val_main_v5, val_main_cst_1,
    val_main_v4, val_main_v3, val_main_cst_0, val_main_v2, val_main_v1, val_main_cst, val_main_v0, normed, rms, scale, row, gain]
theorem v14_eq : val_main_v14 (F := Ideal) x0 x1 x2 = fun i => qAt x0 x1 x2 (i 0) (i 1) := by
  funext i
  pointwise [val_main_v14, v11_eq, val_main_v13, val_main_v12, qAt, proj, normed]
theorem v19_eq : val_main_v19 (F := Ideal) x0 x1 x2 = fun i => part (qAt x0 x1 x2 (i 1)) (i 2) (i 3) := by
  funext i
  pointwise [val_main_v19, v14_eq, part, hj]
theorem v20_eq : val_main_v20 (F := Ideal) x4 = fun i => part (keys x4 (i 1)) (i 2) (i 3) := by
  funext i
  pointwise [val_main_v20, val_main_v16, val_main_v15, part, keys, hj]
theorem v21_eq : val_main_v21 (F := Ideal) x4 = fun i => part (vals x4 (i 1)) (i 2) (i 3) := by
  funext i
  pointwise [val_main_v21, val_main_v18, val_main_v17, part, vals, hj]
theorem v24_eq : val_main_v24 (F := Ideal) x0 x1 x2 x4 = fun i => score (part (qAt x0 x1 x2 (i 2)) (i 1)) (fun s => part (keys x4 s) (i 1)) (i 3) := by
  funext i
  pointwise [val_main_v24, val_main_v23, val_main_v22, v19_eq, v20_eq, score, val_main_cst_2]
theorem v25_eq : val_main_v25 (F := Ideal) x0 x1 x2 x4 = fun i => top (part (qAt x0 x1 x2 (i 2)) (i 1)) (fun s => part (keys x4 s) (i 1)) := by
  funext i
  pointwise [val_main_v25, v24_eq, top, val_main_cst_3]
theorem v27_eq : val_main_v27 (F := Ideal) x0 x1 x2 x4 = fun i => top (part (qAt x0 x1 x2 (i 2)) (i 1)) (fun s => part (keys x4 s) (i 1)) := by
  funext i
  pointwise [val_main_v27, val_main_v26, val_main_cst_4, v25_eq]
  exact max_top _ _
theorem v31_eq : val_main_v31 (F := Ideal) x0 x1 x2 x4 = fun i => ex (part (qAt x0 x1 x2 (i 2)) (i 1)) (fun s => part (keys x4 s) (i 1)) (i 3) := by
  funext i
  pointwise [val_main_v31, val_main_v30, val_main_v29, val_main_v28, v27_eq, v24_eq, ex]
theorem v33_eq : val_main_v33 (F := Ideal) x0 x1 x2 x4 = fun i => mass (part (qAt x0 x1 x2 (i 2)) (i 1)) (fun s => part (keys x4 s) (i 1)) := by
  funext i
  pointwise [val_main_v33, val_main_v32, val_main_cst_5, v31_eq, mass]
theorem v35_eq : val_main_v35 (F := Ideal) x0 x1 x2 x4 = fun i => probR (part (qAt x0 x1 x2 (i 2)) (i 1)) (fun s => part (keys x4 s) (i 1)) (i 3) := by
  funext i
  pointwise [val_main_v35, val_main_v34, v33_eq, v31_eq, probR]
theorem v37_eq : val_main_v37 (F := Ideal) x0 x1 x2 x4 = fun i => oRAt x0 x1 x2 x4 (i 1) (hj (i 2) (i 3)) := by
  funext i
  pointwise [val_main_v37, val_main_v36, v35_eq, v21_eq, oRAt, attnR, head_hj]
  rfl
theorem v38_eq : val_main_v38 (F := Ideal) x0 x1 x2 x4 = fun i => oRAt x0 x1 x2 x4 (i 0) (i 1) := by
  funext i
  pointwise [val_main_v38, v37_eq, hj_div]
theorem v42_eq : val_main_v42 (F := Ideal) x0 x1 x2 x3 x4 = fun i => hRAt x0 x1 x2 x3 x4 (i 0) (i 1) := by
  funext i
  pointwise [val_main_v42, val_main_v41, val_main_v40, val_main_v39, v38_eq, hRAt]
theorem v43_eq : val_main_v43 (F := Ideal) x0 x1 = normed x0 x1 := by
  funext i
  pointwise [val_main_v43, v11_eq]
theorem v44_eq : val_main_v44 (F := Ideal) x0 x1 x2 = fun i => qAt x0 x1 x2 (i 0) (i 1) := by
  funext i
  pointwise [val_main_v44, v14_eq]
theorem v45_eq : val_main_v45 (F := Ideal) x0 x1 x2 x4 = fun i => oRAt x0 x1 x2 x4 (i 0) (i 1) := by
  funext i
  pointwise [val_main_v45, v38_eq]

/-- The reference program's run. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v42) = (fun i => hRAt (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (i 0) (i 1))
      ∧ r.2.mem ((c.tc : Thread nD τ).loc main_v43) = normed (m ((c.tc : Thread nD τ).loc main_arg0)) (m ((c.tc : Thread nD τ).loc main_arg1))
      ∧ r.2.mem ((c.tc : Thread nD τ).loc main_v44) = (fun i => qAt (m ((c.tc : Thread nD τ).loc main_arg0)) (m ((c.tc : Thread nD τ).loc main_arg1)) (m ((c.tc : Thread nD τ).loc main_arg2)) (i 0) (i 1))
      ∧ r.2.mem ((c.tc : Thread nD τ).loc main_v45) = (fun i => oRAt (m ((c.tc : Thread nD τ).loc main_arg0)) (m ((c.tc : Thread nD τ).loc main_arg1)) (m ((c.tc : Thread nD τ).loc main_arg2)) (m ((c.tc : Thread nD τ).loc main_arg4)) (i 0) (i 1))
      ∧ r.2.mem ((c.tc : Thread nD τ).loc main_arg0) = (m ((c.tc : Thread nD τ).loc main_arg0))
      ∧ r.2.mem ((c.tc : Thread nD τ).loc main_arg1) = (m ((c.tc : Thread nD τ).loc main_arg1))
      ∧ r.2.mem ((c.tc : Thread nD τ).loc main_arg2) = (m ((c.tc : Thread nD τ).loc main_arg2))
      ∧ r.2.mem ((c.tc : Thread nD τ).loc main_arg3) = (m ((c.tc : Thread nD τ).loc main_arg3))
      ∧ r.2.mem ((c.tc : Thread nD τ).loc main_arg4) = (m ((c.tc : Thread nD τ).loc main_arg4)) :=
  (θ_run defs _ _).mono (fun _ h c => ⟨(h c).1.trans ((val_main_v42_eq m c).trans (v42_eq _ _ _ _ _)),
    (h c).2.1.trans ((val_main_v43_eq _ _).trans (v43_eq _ _)),
    (h c).2.2.1.trans ((val_main_v44_eq _ _ _).trans (v44_eq _ _ _)),
    (h c).2.2.2.1.trans ((val_main_v45_eq m c).trans (v45_eq _ _ _ _)),
    (h c).2.2.2.2⟩) (Cert.Reference18Ideal.Value.run m ρ)

end Cert.Reference18Ideal.XaFwd

namespace Cert.Proof.XaFwd

open Cert.Spec Cert.Spec.Xa

theorem and_one {a b : IVec Cert.Pre_finite18.S_ 1} {j : Cert.Pre_finite18.S_.Idx} (h : andi a b j = 1#1) : a j = 1#1 ∧ b j = 1#1 :=
  IntOp.andi_eq_one.1 h

/-- The precondition says that the gain, the weights of the queries and the keys are real numbers. -/
theorem finite_iff (x0 : FVec Ideal SX .f32) (x1 : FVec Ideal SG .f32) (x2 x3 : FVec Ideal SQ .bf16) (x4 : FVec Ideal SM .bf16)
    (h : Cert.Pre_finite18.fn (F := Ideal) x0 x1 x2 x3 x4 = fun _ => 1#1) :
    (∀ i, IsReal (x1 i)) ∧ (∀ i, IsReal (x2 i)) ∧ (∀ s j, IsReal (keys x4 s j)) := by
  haveI : Subsingleton Cert.Pre_finite18.S_.Idx := ⟨fun a b => funext fun k => k.elim0⟩
  have e := congrFun h (fun k => k.elim0)
  obtain ⟨e, e3⟩ := and_one e
  obtain ⟨e1, e2⟩ := and_one e
  refine ⟨fun i => isReal_of_abs_lt _ (Host.reduce_andi_all _ _ _ _ _ e1 i),
    fun i => isReal_of_abs_lt _ (Host.reduce_andi_all _ _ _ _ _ e2 i), fun s j => ?_⟩
  have k := isReal_of_abs_lt _ (Host.reduce_andi_all _ _ _ _ _ e3 (ix2 s j))
  have ek : keys x4 s j = extractStridedSlice Cert.Pre_finite18.S256x1024 ![0, 0] x4 Cert.Pre_finite18.Facts.slices_S256x2048_S256x1024_0_0 (ix2 s j) := by
    pointwise [keys]
  rw [ek]
  exact k

/-- The kernel's five arrays. -/
def Same (m : (ℓ : Loc Cert.Kernel18Ideal.nD Cert.Kernel18Ideal.τ Cert.Kernel18Ideal.sig) → Buf (Elt Ideal) ℓ) (c : Dev Cert.Kernel18Ideal.nD)
    (x0 : FVec Ideal SX .f32) (x1 : FVec Ideal SG .f32) (x2 x3 : FVec Ideal SQ .bf16) (x4 : FVec Ideal SM .bf16) : Prop :=
  x0 = m ((c.tc : Thread Cert.Kernel18Ideal.nD Cert.Kernel18Ideal.τ).loc Cert.Kernel18Ideal.main_arg0) ∧ x1 = m ((c.tc : Thread Cert.Kernel18Ideal.nD Cert.Kernel18Ideal.τ).loc Cert.Kernel18Ideal.main_arg1) ∧ x2 = m ((c.tc : Thread Cert.Kernel18Ideal.nD Cert.Kernel18Ideal.τ).loc Cert.Kernel18Ideal.main_arg2) ∧ x3 = m ((c.tc : Thread Cert.Kernel18Ideal.nD Cert.Kernel18Ideal.τ).loc Cert.Kernel18Ideal.main_arg3) ∧ x4 = m ((c.tc : Thread Cert.Kernel18Ideal.nD Cert.Kernel18Ideal.τ).loc Cert.Kernel18Ideal.main_arg4)

section Results

variable {m : (ℓ : Loc Cert.Kernel18Ideal.nD Cert.Kernel18Ideal.τ Cert.Kernel18Ideal.sig) → Buf (Elt Ideal) ℓ}
  {x0 : FVec Ideal SX .f32} {x1 : FVec Ideal SG .f32} {x2 x3 : FVec Ideal SQ .bf16} {x4 : FVec Ideal SM .bf16} {c : Dev Cert.Kernel18Ideal.nD}
  (h : Same m c x0 x1 x2 x3 x4)

include h

theorem res (hp : Cert.Pre_finite18.fn (F := Ideal) x0 x1 x2 x3 x4 = fun _ => 1#1) :
    (fun i => hRAt x0 x1 x2 x3 x4 (i 0) (i 1)) = (Cert.Kernel18Ideal.Gen.dats m 0 c).arrAt 6 Cert.Kernel18Ideal.cfg0.N := by
  obtain ⟨h1, h2, h3⟩ := finite_iff _ _ _ _ _ hp
  obtain ⟨rfl, rfl, rfl, rfl, rfl⟩ := h
  refine Eq.trans (funext fun i => ?_) (Cert.Kernel18Ideal.XaFwd.final6 m c).symm
  exact (hAt_eq h1 h2 h3 (i 0) (i 1)).symm
theorem normedRows : normed x0 x1 = (Cert.Kernel18Ideal.Gen.dats m 0 c).arrAt 7 Cert.Kernel18Ideal.cfg0.N := by
  obtain ⟨rfl, rfl, rfl, rfl, rfl⟩ := h
  exact (Cert.Kernel18Ideal.XaFwd.final7 m c).symm
theorem queries : (fun i => qAt x0 x1 x2 (i 0) (i 1)) = (Cert.Kernel18Ideal.Gen.dats m 0 c).arrAt 8 Cert.Kernel18Ideal.cfg0.N := by
  obtain ⟨rfl, rfl, rfl, rfl, rfl⟩ := h
  exact (Cert.Kernel18Ideal.XaFwd.final8 m c).symm
theorem heads (hp : Cert.Pre_finite18.fn (F := Ideal) x0 x1 x2 x3 x4 = fun _ => 1#1) :
    (fun i => oRAt x0 x1 x2 x4 (i 0) (i 1)) = (Cert.Kernel18Ideal.Gen.dats m 0 c).arrAt 9 Cert.Kernel18Ideal.cfg0.N := by
  obtain ⟨h1, h2, h3⟩ := finite_iff _ _ _ _ _ hp
  obtain ⟨rfl, rfl, rfl, rfl, rfl⟩ := h
  refine Eq.trans (funext fun i => ?_) (Cert.Kernel18Ideal.XaFwd.final9 m c).symm
  exact (oAt_eq h1 h2 h3 (i 0) (i 1)).symm

end Results

theorem algebraic : Cert.algebraic_Kernel18Ideal_Reference18Ideal_pre_finite18 := by
  intro m g m' g' hpre hagree
  refine ⟨_, _, _, _, Cert.Kernel18Ideal.Value.run_blocks m g, ?_⟩
  refine θ_run_mono (Cert.Reference18Ideal.XaFwd.run m' g') fun r h c => ?_
  have e : Same m c _ _ _ _ _ := hagree c
  have hp := hpre c
  rw [← (hagree c).1, ← (hagree c).2.1, ← (hagree c).2.2.1, ← (hagree c).2.2.2.1, ← (hagree c).2.2.2.2] at hp
  exact ⟨(h c).1.trans (res e hp), (h c).2.1.trans (normedRows e), (h c).2.2.1.trans (queries e), (h c).2.2.2.1.trans (heads e hp), (h c).2.2.2.2⟩

end Cert.Proof.XaFwd

end
-- ==== Proof.Memory.lean ====
/-
  The keys and values of the memory: the norm of its rows, their projection, the gradient of that projection in its
  weights and in the normalised rows.  For each program: the kernel's array after the run, the reference's result, and
  the claim that they agree.
-/
module

public import proofs.«01_k».proof.Defs
public import proofs.«01_k».proof.Proof.Gen.Kernel19Ideal.Value
public import proofs.«01_k».proof.Proof.Gen.Reference19Ideal.Read
public import proofs.«01_k».proof.Proof.Gen.Kernel20Ideal.Value
public import proofs.«01_k».proof.Proof.Gen.Reference20Ideal.Read
public import proofs.«01_k».proof.Proof.Gen.Kernel21Ideal.Value
public import proofs.«01_k».proof.Proof.Gen.Reference21Ideal.Read
public import proofs.«01_k».proof.Proof.Gen.Kernel22Ideal.Value
public import proofs.«01_k».proof.Proof.Gen.Reference22Ideal.Read
public import proofs.«01_k».proof.Proof.Spec
public import Idealize.ShloMosaic.Lib.Claim
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Spec

/-- The memory's rows, the weights of its keys and values, and the keys beside the values. -/
abbrev SM : Shape := ⟨2, ![256, 1024]⟩
abbrev SWKV : Shape := ⟨3, ![1, 1024, 2048]⟩
abbrev SKV : Shape := ⟨2, ![256, 2048]⟩

/-- The memory's normalised rows. -/
def memNormed (x : SM.Idx → EReal) (g : SG.Idx → EReal) (i : SM.Idx) : EReal := rms (fun k => x (ix2 (i 0) k)) (gain g) (i 1)

/-- Keys and values, at row `i` and column `j`. -/
def kvAt (x : SM.Idx → EReal) (w : SWKV.Idx → EReal) (i : Fin 256) (j : Fin 2048) : EReal :=
  ∑ k : Fin 1024, x (ix2 i k) * w (ix3 0 k j)

/-- The gradient of the weights of keys and values. -/
def kvGradAt (x : SM.Idx → EReal) (d : SKV.Idx → EReal) (k : Fin 1024) (j : Fin 2048) : EReal :=
  ∑ t : Fin 256, x (ix2 t k) * d (ix2 t j)

/-- The gradient of the memory's normalised rows. -/
def memGradAt (w : SWKV.Idx → EReal) (d : SKV.Idx → EReal) (i : Fin 256) (k : Fin 1024) : EReal :=
  ∑ j : Fin 2048, d (ix2 i j) * w (ix3 0 k j)

end Cert.Spec

/-! ## The norm of the memory's rows -/

namespace Cert.Reference19Ideal.MemNorm

open Cert.Reference19Ideal Cert.Reference19Ideal.Gen Cert.Reference19Ideal.Read Cert.Spec

theorem v12_eq (x0 : FVec Ideal S256x1024 .f32) (x1 : FVec Ideal S1x1024 .f32) :
    val_main_v12 (F := Ideal) x0 x1 = memNormed x0 x1 := by
  funext i
  pointwise [val_main_v12, val_main_v11, val_main_v10, val_main_v9, val_main_v8, val_main_v7, val_main_v6, val_main_v5, val_main_cst_1,
    val_main_v4, val_main_v3, val_main_cst_0, val_main_v2, val_main_v1, val_main_cst, val_main_v0, memNormed, rms, scale, gain]

end Cert.Reference19Ideal.MemNorm

namespace Cert.Kernel19Ideal.MemNorm

open Cert.Kernel19Ideal Cert.Kernel19Ideal.Gen Cert.Spec

variable (m : (ℓ : Loc nD τ sig) → Buf (Elt Ideal) ℓ)

theorem idx : ∀ t : Fin cfg0.N, win0_0.index t = ![0, 0] ∧ win0_1.index t = ![0, 0] ∧ win0_2.index t = ![0, 0] :=
  (by decide +kernel : ∀ t : Fin grid0.N, _)

theorem final2 (c : Dev nD) : (dats m 0 c).arrAt 2 cfg0.N
    = memNormed (m ((c : Thread nD τ).loc main_arg0)) (m ((c : Thread nD τ).loc main_arg1)) := by
  refine (dats m 0 c).arrAt_eq_of_covers 2 _ (by decide +kernel) fun t hf y => ?_
  blk_simp
  rw [after0_2]
  unfold out0_2
  frame_out
  pointwise [k0_pay1, memNormed, rms, scale, gain]
  blk_point [iblk, V, idx t]

end Cert.Kernel19Ideal.MemNorm

namespace Cert.Proof.MemNorm

theorem algebraic : Cert.algebraic_Kernel19Ideal_Reference19Ideal := by
  pair_intro
  · run_from Cert.Kernel19Ideal.Value.run_blocks m g
  · run_from Cert.Reference19Ideal.Value.run m' g'
    rw [Cert.Kernel19Ideal.MemNorm.final2]
    exact Cert.Reference19Ideal.MemNorm.v12_eq _ _

end Cert.Proof.MemNorm

/-! ## Keys and values -/

namespace Cert.Reference20Ideal.MemKv

open Cert.Reference20Ideal Cert.Reference20Ideal.Gen Cert.Reference20Ideal.Read Cert.Spec

theorem v4_eq (x0 : FVec Ideal S256x1024 .bf16) (x1 : FVec Ideal S1x1024x2048 .bf16) :
    val_main_v4 (F := Ideal) x0 x1 = fun i => kvAt x0 x1 (i 0) (i 1) := by
  funext i
  pointwise [val_main_v4, val_main_v3, val_main_v2, val_main_v1, val_main_v0, kvAt]

end Cert.Reference20Ideal.MemKv

namespace Cert.Kernel20Ideal.MemKv

open Cert.Kernel20Ideal Cert.Kernel20Ideal.Gen Cert.Spec

variable (m : (ℓ : Loc nD τ sig) → Buf (Elt Ideal) ℓ)

theorem idx : ∀ t : Fin cfg0.N, win0_0.index t = ![0, 0] ∧ win0_1.index t = ![0, 0, t.val]
    ∧ win0_2.index t = ![0, t.val] :=
  (by decide +kernel : ∀ t : Fin grid0.N, _)

/-- What one point stores: the product of its two blocks. -/
theorem out_eq (c : Dev nD) (t : Fin cfg0.N) : outsAt0 m c t = k0_pay4 (k0_pay2 (iblk m c 0 t) (iblk m c 1 t)) := by
  unfold outsAt0
  frame_out

theorem final2 (c : Dev nD) : (dats m 0 c).arrAt 2 cfg0.N
    = fun i => kvAt (m ((c : Thread nD τ).loc main_arg0)) (m ((c : Thread nD τ).loc main_arg1)) (i 0) (i 1) := by
  refine (dats m 0 c).arrAt_eq_of_covers 2 _ (by decide +kernel) fun t hf y => ?_
  blk_simp
  rw [after0_2, out_eq m c t]
  pointwise [k0_pay4, k0_pay2, k0_pay1, kvAt]
  refine Fin.sum_fin_congr fun k => ?_
  refine congr (congrArg HMul.hMul ?_) ?_
  · blk_point [iblk, V, idx t]
  · blk_point [iblk, V, idx t]

end Cert.Kernel20Ideal.MemKv

namespace Cert.Proof.MemKv

theorem algebraic : Cert.algebraic_Kernel20Ideal_Reference20Ideal := by
  pair_intro
  · run_from Cert.Kernel20Ideal.Value.run_blocks m g
  · run_from Cert.Reference20Ideal.Value.run m' g'
    rw [Cert.Kernel20Ideal.MemKv.final2]
    exact Cert.Reference20Ideal.MemKv.v4_eq _ _

end Cert.Proof.MemKv

/-! ## The gradient of the weights of keys and values -/

namespace Cert.Reference21Ideal.MemGrad

open Cert.Reference21Ideal Cert.Reference21Ideal.Gen Cert.Reference21Ideal.Read Cert.Spec

theorem v6_eq (x0 : FVec Ideal S256x1024 .bf16) (x2 : FVec Ideal S256x2048 .f32) :
    val_main_v6 (F := Ideal) x0 x2 = fun i => kvGradAt x0 x2 (i 0) (i 1) := by
  funext i
  pointwise [val_main_v6, val_main_v5, val_main_v4, val_main_v0, kvGradAt]
  refine Fin.sum_fin_congr fun t => ?_
  rw [mul_comm]

end Cert.Reference21Ideal.MemGrad

namespace Cert.Kernel21Ideal.MemGrad

open Cert.Kernel21Ideal Cert.Kernel21Ideal.Gen Cert.Spec

variable (m : (ℓ : Loc nD τ sig) → Buf (Elt Ideal) ℓ)

theorem idx : ∀ t : Fin cfg0.N, win0_0.index t = ![0, 0] ∧ win0_1.index t = ![0, t.val]
    ∧ win0_2.index t = ![0, t.val] :=
  (by decide +kernel : ∀ t : Fin grid0.N, _)

/-- What one point stores: the product of its two blocks. -/
theorem out_eq (c : Dev nD) (t : Fin cfg0.N) : outsAt0 m c t = k0_pay4 (k0_pay2 (iblk m c 0 t) (iblk m c 1 t)) := by
  unfold outsAt0
  frame_out

theorem final2 (c : Dev nD) : (dats m 0 c).arrAt 2 cfg0.N
    = fun i => kvGradAt (m ((c : Thread nD τ).loc main_arg0)) (m ((c : Thread nD τ).loc main_arg2)) (i 0) (i 1) := by
  refine (dats m 0 c).arrAt_eq_of_covers 2 _ (by decide +kernel) fun t hf y => ?_
  blk_simp
  rw [after0_2, out_eq m c t]
  pointwise [k0_pay4, k0_pay2, k0_pay1, kvGradAt]
  refine Fin.sum_fin_congr fun k => ?_
  refine congr (congrArg HMul.hMul ?_) ?_
  · blk_point [iblk, V, idx t]
  · blk_point [iblk, V, idx t]

end Cert.Kernel21Ideal.MemGrad

namespace Cert.Proof.MemGrad

theorem algebraic : Cert.algebraic_Kernel21Ideal_Reference21Ideal := by
  pair_intro
  · run_from Cert.Kernel21Ideal.Value.run_blocks m g
  · run_from Cert.Reference21Ideal.Value.run m' g'
    rw [Cert.Kernel21Ideal.MemGrad.final2]
    exact Cert.Reference21Ideal.MemGrad.v6_eq _ _

end Cert.Proof.MemGrad

/-! ## The gradient of the memory's normalised rows -/

namespace Cert.Reference22Ideal.MemProdT

open Cert.Reference22Ideal Cert.Reference22Ideal.Gen Cert.Reference22Ideal.Read Cert.Spec

theorem v4_eq (x1 : FVec Ideal S1x1024x2048 .bf16) (x2 : FVec Ideal S256x2048 .f32) :
    val_main_v4 (F := Ideal) x1 x2 = fun i => memGradAt x1 x2 (i 0) (i 1) := by
  funext i
  pointwise [val_main_v4, val_main_v1, val_main_v0, memGradAt]

end Cert.Reference22Ideal.MemProdT

namespace Cert.Kernel22Ideal.MemProdT

open Cert.Kernel22Ideal Cert.Kernel22Ideal.Gen Cert.Spec

variable (m : (ℓ : Loc nD τ sig) → Buf (Elt Ideal) ℓ)

theorem idx : ∀ t : Fin cfg0.N, win0_0.index t = ![0, t.val % 2] ∧ win0_1.index t = ![0, 0, t.val % 2]
    ∧ win0_2.index t = ![0, 0] :=
  (by decide +kernel : ∀ t : Fin grid0.N, _)

/-- One block's share of the product: the sum over the block's columns. -/
def part (v0 : Vec Ideal S256x1024 .f32) (v2 : Vec Ideal S1x1024x1024 .bf16) (j : S256x1024.Idx) : EReal :=
  ∑ k : Fin 1024, v0 (ix2 (j 0) k) * v2 (ix3 0 (j 1) k)

theorem pay_reset (v0 : Vec Ideal S256x1024 .f32) (v2 : Vec Ideal S1x1024x1024 .bf16) (j : S256x1024.Idx) :
    k0_pay2 v0 v2 j = part v0 v2 j := by
  pointwise [k0_pay2, k0_pay1, part]

theorem pay_step (v0 : Vec Ideal S256x1024 .f32) (v2 : Vec Ideal S1x1024x1024 .bf16) (acc : Vec Ideal S256x1024 .f32)
    (j : S256x1024.Idx) : k0_pay3 v0 v2 acc j = acc j + part v0 v2 j := by
  pointwise [k0_pay3, k0_pay1, part]

/-- The accumulator after the last point of a run holds the run's whole sum. -/
theorem acc_eq (c : Dev nD) (t : Fin cfg0.N) (hf : t.val % 2 = 2 - 1) (j : S256x1024.Idx) :
    (outsAt0 m c t.val t.isLt).2 j
      = ∑ s : Fin 2, part (iblk m c 0 ⟨2 * (t.val / 2) + s.val, Pipeline.run_point_lt_of_flush t hf s⟩)
          (iblk m c 1 ⟨2 * (t.val / 2) + s.val, Pipeline.run_point_lt_of_flush t hf s⟩) j := by
  rw [Pipeline.eq_sum_fin_of_reset_step_apply_of_flush (fun n h => (outsAt0 m c n h).2) 2 (fun _ => (0 : EReal))
    (fun t j => part (iblk m c 0 t) (iblk m c 1 t) j)
    (fun t h j => by
      rw [outsAt0_A m c t h (by omega) (by omega)]
      frame_out
      rw [pay_reset, zero_add])
    (fun t h j => by
      rw [outsAt0_B m c t h (by omega) (by omega)]
      frame_out
      rw [pay_step, read_unread_whole]) t hf j, zero_add]

/-- What a run's last point stores: the accumulator, times one. -/
theorem out_eq (c : Dev nD) (t : Fin cfg0.N) (hf : t.val % 2 = 1) :
    (outsAt0 m c t.val t.isLt).1 = k0_pay4 ((outsAt0 m c t.val t.isLt).2) := by
  rw [outsAt0_B m c t (by omega) hf hf]
  frame_out

theorem final2 (c : Dev nD) : (dats m 0 c).arrAt 2 cfg0.N
    = fun i => memGradAt (m ((c : Thread nD τ).loc main_arg1)) (m ((c : Thread nD τ).loc main_arg2)) (i 0) (i 1) := by
  refine (dats m 0 c).arrAt_eq_of_covers 2 _ (by decide +kernel) fun t hf y => ?_
  blk_simp
  have hf' := (flush0_2 t).mp hf
  rw [after0_2, out_eq m c t hf']
  pointwise [k0_pay4, memGradAt]
  rw [acc_eq m c t hf']
  unfold part
  refine Fin.sum_mul_add_congr fun s k hl => ?_
  have hi := idx ⟨_, Pipeline.run_point_lt_of_flush t hf' s⟩
  refine congr (congrArg HMul.hMul ?_) ?_
  · blk_point [iblk, V, hi, idx t]
  · blk_point [iblk, V, hi, idx t]

end Cert.Kernel22Ideal.MemProdT

namespace Cert.Proof.MemProdT

theorem algebraic : Cert.algebraic_Kernel22Ideal_Reference22Ideal := by
  pair_intro
  · run_from Cert.Kernel22Ideal.Value.run_blocks m g
  · run_from Cert.Reference22Ideal.Value.run m' g'
    rw [Cert.Kernel22Ideal.MemProdT.final2]
    exact Cert.Reference22Ideal.MemProdT.v4_eq _ _

end Cert.Proof.MemProdT

end
-- ==== Proof.MemBwd.lean ====
/-
  The gradient of the memory norm's gain: what the kernel leaves in its array, what the reference computes, and that the
  two are the same.
-/
module

public import proofs.«01_k».proof.Defs
public import proofs.«01_k».proof.Proof.Gen.Kernel23Ideal.Value
public import proofs.«01_k».proof.Proof.Gen.Reference23Ideal.Read
public import proofs.«01_k».proof.Proof.Spec
public import Idealize.ShloMosaic.Lib.Claim
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Spec

/-- The gain's gradient at column `k`: the cotangent times the normalised rows, summed over the memory's rows. -/
def memGainAt (x d : (⟨2, ![256, 1024]⟩ : Shape).Idx → EReal) (k : Fin 1024) : EReal :=
  ∑ t : Fin 256, d (ix2 t k) * (x (ix2 t k) * scale (fun l => x (ix2 t l)))

end Cert.Spec

namespace Cert.Reference23Ideal.MemGain

open Cert.Reference23Ideal Cert.Reference23Ideal.Gen Cert.Reference23Ideal.Read Cert.Spec

theorem v14_eq (x0 : FVec Ideal S256x1024 .f32) (x2 : FVec Ideal S256x1024 .f32) :
    val_main_v14 (F := Ideal) x0 x2 = fun i => memGainAt x0 x2 (i 1) := by
  funext i
  pointwise [val_main_v14, val_main_v13, val_main_cst_2, val_main_v12, val_main_v9, val_main_v8, val_main_v7, val_main_v6, val_main_v5, val_main_cst_1,
    val_main_v4, val_main_v3, val_main_cst_0, val_main_v2, val_main_v1, val_main_cst, val_main_v0, memGainAt, scale]
  refine Fin.sum_fin_congr fun t => ?_
  rw [mul_comm]

end Cert.Reference23Ideal.MemGain

namespace Cert.Kernel23Ideal.MemGain

open Cert.Kernel23Ideal Cert.Kernel23Ideal.Gen Cert.Spec

variable (m : (ℓ : Loc nD τ sig) → Buf (Elt Ideal) ℓ)

theorem idx : ∀ t : Fin cfg0.N, win0_0.index t = ![0, 0] ∧ win0_1.index t = ![0, 0] ∧ win0_2.index t = ![0, 0]
    ∧ win0_3.index t = ![0, 0] :=
  (by decide +kernel : ∀ t : Fin grid0.N, _)

/-- What the one point stores. -/
theorem out_eq (c : Dev nD) (t : Fin cfg0.N) : outsAt0 m c t = k0_pay1 (iblk m c 0 t) (iblk m c 2 t) := by
  unfold outsAt0
  frame_out

theorem final3 (c : Dev nD) : (dats m 0 c).arrAt 3 cfg0.N
    = fun i => memGainAt (m ((c : Thread nD τ).loc main_arg0)) (m ((c : Thread nD τ).loc main_arg2)) (i 1) := by
  refine (dats m 0 c).arrAt_eq_of_covers 3 _ (by decide +kernel) fun t hf y => ?_
  blk_simp
  rw [after0_3, out_eq m c t]
  pointwise [k0_pay1, memGainAt, scale]
  blk_point [iblk, V, idx t]

end Cert.Kernel23Ideal.MemGain

namespace Cert.Reference23Ideal.MemGain

open Cert.Reference23Ideal Cert.Reference23Ideal.Gen Cert.Reference23Ideal.Read Cert.Spec

/-- The reference program's run: its result is the gain's gradient. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v14) = (fun i => memGainAt (m ((c.tc : Thread nD τ).loc main_arg0)) (m ((c.tc : Thread nD τ).loc main_arg2)) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans ((val_main_v14_eq _ _).trans (v14_eq _ _)), (h c).2⟩)
    (Cert.Reference23Ideal.Value.run m ρ)

end Cert.Reference23Ideal.MemGain

namespace Cert.Proof.MemGain

open Cert.Spec

/-- The kernel's two arrays. -/
def Same (m : (ℓ : Loc Cert.Kernel23Ideal.nD Cert.Kernel23Ideal.τ Cert.Kernel23Ideal.sig) → Buf (Elt Ideal) ℓ) (c : Dev Cert.Kernel23Ideal.nD)
    (x0 x2 : FVec Ideal ⟨2, ![256, 1024]⟩ .f32) : Prop :=
  x0 = m ((c.tc : Thread Cert.Kernel23Ideal.nD Cert.Kernel23Ideal.τ).loc Cert.Kernel23Ideal.main_arg0) ∧ x2 = m ((c.tc : Thread Cert.Kernel23Ideal.nD Cert.Kernel23Ideal.τ).loc Cert.Kernel23Ideal.main_arg2)

theorem result {m : (ℓ : Loc Cert.Kernel23Ideal.nD Cert.Kernel23Ideal.τ Cert.Kernel23Ideal.sig) → Buf (Elt Ideal) ℓ} {c : Dev Cert.Kernel23Ideal.nD}
    {x0 x2 : FVec Ideal ⟨2, ![256, 1024]⟩ .f32} (h : Same m c x0 x2) :
    (fun i => memGainAt x0 x2 (i 1)) = (Cert.Kernel23Ideal.Gen.dats m 0 c).arrAt 3 Cert.Kernel23Ideal.cfg0.N := by
  obtain ⟨rfl, rfl⟩ := h
  exact (Cert.Kernel23Ideal.MemGain.final3 m c).symm

theorem algebraic : Cert.algebraic_Kernel23Ideal_Reference23Ideal := by
  intro m g m' g' _ hagree
  refine ⟨_, Cert.Kernel23Ideal.Value.run_blocks m g, ?_⟩
  refine θ_run_mono (Cert.Reference23Ideal.MemGain.run m' g') fun r h c => ?_
  have e : Same m c _ _ := ⟨(hagree c).1, (hagree c).2.2⟩
  exact ⟨(h c).1.trans (result e), (h c).2⟩

end Cert.Proof.MemGain

end
-- ==== Proof.Loss.lean ====
/-
  The final norm and the loss: the loss, the gradient of the rows and of the norm's gain.  What the kernel leaves in its
  three arrays, what the reference computes, and that the two are the same.
-/
module

public import proofs.«01_k».proof.Defs
public import proofs.«01_k».proof.Proof.Gen.Kernel24Ideal.Value
public import proofs.«01_k».proof.Proof.Gen.Reference24Ideal.Read
public import proofs.«01_k».proof.Proof.BwdReal
public import Idealize.ShloMosaic.Lib.Claim
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Spec.Loss

open Cert.Spec

/-- A token's error, its mean square, and the gradient of the normalised row as the kernel and as the reference scale it. -/
def err (x g y : Fin 1024 → EReal) (k : Fin 1024) : EReal := x k * scale x * g k - y k
def errSq (x g y : Fin 1024 → EReal) : EReal := Ideal.div (∑ k, err x g y k * err x g y k) (lit 0x44800000#32)
def dyK (x g y : Fin 1024 → EReal) (k : Fin 1024) : EReal := err x g y k * lit 0x3A800000#32
def dyR (x g y : Fin 1024 → EReal) (k : Fin 1024) : EReal :=
  Ideal.div (lit 0x3F000000#32 * lit 0x3F800000#32) (lit 0x44800000#32) * (lit 0x40000000#32 * err x g y k)

theorem lit_inv : lit 0x3A800000#32 = ((1 / 1024 : ℝ) : EReal) := by
  simp [lit, Ideal.ofBits, Ideal.ieee, -EReal.coe_mul]; norm_num

theorem lit_one : lit 0x3F800000#32 = ((1 : ℝ) : EReal) := by
  simp [lit, Ideal.ofBits, Ideal.ieee, -EReal.coe_mul]; norm_num

theorem lit_two : lit 0x40000000#32 = ((2 : ℝ) : EReal) := by
  simp [lit, Ideal.ofBits, Ideal.ieee, -EReal.coe_mul]; norm_num

theorem coef_eq : Ideal.div (lit 0x3F000000#32 * lit 0x3F800000#32) (lit 0x44800000#32) * lit 0x40000000#32 = lit 0x3A800000#32 := by
  rw [lit_half, lit_one, lit_len, lit_two, lit_inv]
  have h : ((1024 : ℝ) : EReal) ≠ 0 := by exact_mod_cast (by norm_num : (1024 : ℝ) ≠ 0)
  rw [Ideal.div, if_neg h, ← EReal.coe_inv, ← EReal.coe_mul, ← EReal.coe_mul, ← EReal.coe_mul]
  norm_num

theorem dyR_eq (x g y : Fin 1024 → EReal) : dyR x g y = dyK x g y := by
  funext k
  unfold dyR dyK
  rw [← mul_assoc, coef_eq, mul_comm]

/-- Half a sum is the sum of the halves. -/
theorem half_sum {n : ℕ} (f : Fin n → EReal) : ∑ s, lit 0x3F000000#32 * f s = lit 0x3F000000#32 * ∑ s, f s := by
  have h := sum_scaled (c := lit 0x3F000000#32) (by rw [lit_half]; exact_mod_cast (by norm_num : (0 : ℝ) ≤ 1 / 2))
    (by rw [lit_half]; exact EReal.coe_ne_top _) f (fun _ => 1)
  simp only [mul_one, one_mul] at h
  rw [mul_comm, h]
  exact Finset.sum_congr rfl fun s _ => mul_comm _ _

section Arrays

variable (h : SX.Idx → EReal) (g : SG.Idx → EReal) (y : SX.Idx → EReal)

def rowLK (t : Fin 8192) (k : Fin 1024) : EReal := rowK (fun _ => 0) (row h t) (gain g) (dyK (row h t) (gain g) (row y t)) k
def rowLR (t : Fin 8192) (k : Fin 1024) : EReal := rowR (fun _ => 0) (row h t) (gain g) (dyR (row h t) (gain g) (row y t)) k
def gainLK (t : Fin 8192) (k : Fin 1024) : EReal := dyK (row h t) (gain g) (row y t) k * (h (ix2 t k) * scale (row h t))
def gainLR (t : Fin 8192) (k : Fin 1024) : EReal := h (ix2 t k) * scale (row h t) * dyR (row h t) (gain g) (row y t) k
/-- The loss: half the sum over the tokens of the mean square error. -/
def lossAt : EReal := lit 0x3F000000#32 * ∑ t : Fin 8192, errSq (row h t) (gain g) (row y t)

theorem rowLK_eq (t : Fin 8192) (k : Fin 1024) : rowLK h g y t k = rowLR h g y t k := by
  unfold rowLK rowLR
  rw [dyR_eq]
  exact rowK_eq _ _ _ _ k

theorem gainLK_eq (t : Fin 8192) (k : Fin 1024) : gainLK h g y t k = gainLR h g y t k := by
  unfold gainLK gainLR
  rw [dyR_eq]
  exact mul_comm _ _

end Arrays

end Cert.Spec.Loss

namespace Cert.Reference24Ideal.Loss

open Cert.Reference24Ideal Cert.Reference24Ideal.Gen Cert.Reference24Ideal.Read Cert.Spec Cert.Spec.Loss

variable (x0 : FVec Ideal S8192x1024 .f32) (x1 : FVec Ideal S1x1024 .f32) (x2 : FVec Ideal S8192x1024 .f32)

theorem v7_eq : val_main_v7 (F := Ideal) x0 = fun i => scale (row x0 (i 0)) := by
  funext i
  pointwise [val_main_v7, val_main_v6, val_main_v5, val_main_cst_1, val_main_v4, val_main_v3, val_main_cst_0, val_main_v2,
    val_main_v1, val_main_cst, val_main_v0, scale, row]

theorem v15_eq : val_main_v15 (F := Ideal) x0 x1 x2 = fun i => err (row x0 (i 0)) (gain x1) (row x2 (i 0)) (i 1) := by
  funext i
  pointwise [val_main_v15, val_main_v14, val_main_v13, val_main_v12, val_main_v11, v7_eq, err, row, gain]

theorem v29_eq : val_main_v29 (F := Ideal) x0 x1 x2 = fun i => dyR (row x0 (i 0)) (gain x1) (row x2 (i 0)) (i 1) := by
  funext i
  pointwise [val_main_v29, val_main_v28, val_main_v27, val_main_v26, val_main_cst_10, val_main_v25, val_main_v24, val_main_cst_9,
    val_main_cst_8, val_main_v18, val_main_v17, val_main_cst_3, v15_eq, dyR]

theorem v49_eq : val_main_v49 (F := Ideal) x0 x1 x2 = fun _ => lossAt x0 x1 x2 := by
  funext i
  pointwise [val_main_v49, val_main_v23, val_main_cst_7, val_main_v22, val_main_cst_6, val_main_v21, val_main_v20, val_main_cst_5,
    val_main_v19, val_main_cst_4, val_main_v16, v15_eq, lossAt, errSq]

theorem v32_eq : val_main_v32 (F := Ideal) x0 x1 x2 = fun i => ∑ t : Fin 8192, gainLR x0 x1 x2 t (i 1) := by
  funext i
  pointwise [val_main_v32, val_main_v31, val_main_cst_11, val_main_v30, val_main_v12, val_main_v11, v7_eq, v29_eq, gainLR]

theorem v44_eq : val_main_v44 (F := Ideal) x0 x1 x2
    = fun i => rowCoef (row x0 (i 0)) (gain x1) (dyR (row x0 (i 0)) (gain x1) (row x2 (i 0))) := by
  funext i
  pointwise [val_main_v44, val_main_v43, val_main_cst_14, val_main_v42, val_main_v41, val_main_cst_13, val_main_v40, val_main_v37, val_main_v36,
    val_main_cst_12, val_main_v35, val_main_v34, val_main_v33, v29_eq, val_main_v10, val_main_v9, val_main_cst_2, val_main_v8, v7_eq,
    val_main_v6, val_main_v5, val_main_cst_1, val_main_v4, val_main_v3, val_main_cst_0, val_main_v2, val_main_v1, val_main_cst, val_main_v0,
    rowCoef, meanSq, row, gain]
  exact Fin.sum_univ_one _

theorem v48_eq : val_main_v48 (F := Ideal) x0 x1 x2 = fun i => rowLR x0 x1 x2 (i 0) (i 1) := by
  funext i
  pointwise [val_main_v48, val_main_v47, val_main_v46, val_main_v45, v44_eq, val_main_v39, val_main_v38, v7_eq, val_main_v34, val_main_v33,
    v29_eq, rowLR, rowR, row, gain, zero_add]

/-- The reference program's run: its three results are the loss, the row's gradient and the gain's gradient. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v49) = (fun _ => lossAt (m ((c.tc : Thread nD τ).loc main_arg0)) (m ((c.tc : Thread nD τ).loc main_arg1)) (m ((c.tc : Thread nD τ).loc main_arg2)))
      ∧ r.2.mem ((c.tc : Thread nD τ).loc main_v48) = (fun i => rowLR (m ((c.tc : Thread nD τ).loc main_arg0)) (m ((c.tc : Thread nD τ).loc main_arg1)) (m ((c.tc : Thread nD τ).loc main_arg2)) (i 0) (i 1))
      ∧ r.2.mem ((c.tc : Thread nD τ).loc main_v32) = (fun i => ∑ t : Fin 8192, gainLR (m ((c.tc : Thread nD τ).loc main_arg0)) (m ((c.tc : Thread nD τ).loc main_arg1)) (m ((c.tc : Thread nD τ).loc main_arg2)) t (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans ((val_main_v49_eq _ _ _).trans (v49_eq _ _ _)),
    (h c).2.1.trans ((val_main_v48_eq m c).trans (v48_eq _ _ _)),
    (h c).2.2.1.trans ((val_main_v32_eq _ _ _).trans (v32_eq _ _ _)), (h c).2.2.2⟩) (Cert.Reference24Ideal.Value.run m ρ)

end Cert.Reference24Ideal.Loss

namespace Cert.Kernel24Ideal.Loss

open Cert.Kernel24Ideal Cert.Kernel24Ideal.Gen Cert.Spec Cert.Spec.Loss

variable (m : (ℓ : Loc nD τ sig) → Buf (Elt Ideal) ℓ)

theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![0, 0] :=
  (by decide +kernel : ∀ t : Fin grid0.N, _)

section Block

variable (x0 : Vec Ideal S512x1024 .f32) (x1 : Vec Ideal S1x1024 .f32) (x2 : Vec Ideal S512x1024 .f32)

/-- A block's rows, the gain, and the block's targets. -/
def hB (a : Fin 512) (k : Fin 1024) : EReal := x0 (ix2 a k)
def gB (k : Fin 1024) : EReal := x1 (ix2 0 k)

def rowB (a : Fin 512) (k : Fin 1024) : EReal := rowK (fun _ => 0) (hB x0 a) (gB x1) (dyK (hB x0 a) (gB x1) (hB x2 a)) k
def gainPt (a : Fin 512) (k : Fin 1024) : EReal := dyK (hB x0 a) (gB x1) (hB x2 a) k * (x0 (ix2 a k) * scale (hB x0 a))
def gainB (k : Fin 1024) : EReal := ∑ a : Fin 512, gainPt x0 x1 x2 a k
def lossB : EReal := ∑ a : Fin 512, errSq (hB x0 a) (gB x1) (hB x2 a)

theorem row_eq (y : S512x1024.Idx) : k0_pay1 (k0_pay2 x0) (k0_pay3 x0) (k0_pay11 x0 x1 x2) y = rowB x0 x1 x2 (y 0) (y 1) := by
  pointwise [k0_pay1, k0_pay2, k0_pay3, k0_pay4, k0_pay6, k0_pay11, rowB, rowK, dyK, err, hB, gB, scale, zero_add]

theorem gain_eq (i : S1x1024.Idx) : k0_pay7 x0 x1 x2 i = gainB x0 x1 x2 (i 1) := by
  pointwise [k0_pay7, k0_pay6, k0_pay4, k0_pay3, k0_pay2, gainB, gainPt, dyK, err, hB, gB, scale]

theorem gain_step (acc : Vec Ideal S1x1024 .f32) (i : S1x1024.Idx) : k0_pay10 x0 x1 x2 acc i = acc i + k0_pay7 x0 x1 x2 i := by
  pointwise [k0_pay10]

theorem loss_eq (i : S8x128.Idx) : k0_pay8 x0 x1 x2 i = lit 0x3F000000#32 * lossB x0 x1 x2 := by
  pointwise [k0_pay8, k0_pay5, k0_pay4, k0_pay3, k0_pay2, lossB, errSq, err, hB, gB, scale]

theorem loss_step (acc : Vec Ideal S8x128 .f32) (i : S8x128.Idx) : k0_pay9 x0 x1 x2 acc i = acc i + k0_pay8 x0 x1 x2 i := by
  pointwise [k0_pay9, k0_pay8]

end Block

/-- The token of row `a` of block `t`. -/
def tok (t : Fin cfg0.N) (a : Fin 512) : Fin 8192 := ⟨t.val * 512 + a.val, by have := lt_of_lt_of_eq t.isLt N_0; omega⟩

theorem blk_h (c : Dev nD) (t : Fin cfg0.N) (a : Fin 512) (k : Fin 1024) :
    iblk m c 0 t (ix2 a k) = (m ((c : Thread nD τ).loc main_arg0)) (ix2 (tok t a) k) := by
  blk_ext [iblk, V, idx t, tok]

theorem blk_g (c : Dev nD) (t : Fin cfg0.N) (k : Fin 1024) :
    iblk m c 1 t (ix2 0 k) = (m ((c : Thread nD τ).loc main_arg1)) (ix2 0 k) := by
  blk_ext [iblk, V, idx t, tok]

theorem blk_y (c : Dev nD) (t : Fin cfg0.N) (a : Fin 512) (k : Fin 1024) :
    iblk m c 2 t (ix2 a k) = (m ((c : Thread nD τ).loc main_arg2)) (ix2 (tok t a) k) := by
  blk_ext [iblk, V, idx t, tok]

theorem row_h (c : Dev nD) (t : Fin cfg0.N) (a : Fin 512) : hB (iblk m c 0 t) a = row (m ((c : Thread nD τ).loc main_arg0)) (tok t a) :=
  funext fun k => blk_h m c t a k

theorem row_g (c : Dev nD) (t : Fin cfg0.N) : gB (iblk m c 1 t) = gain (m ((c : Thread nD τ).loc main_arg1)) :=
  funext fun k => blk_g m c t k

theorem row_y (c : Dev nD) (t : Fin cfg0.N) (a : Fin 512) : hB (iblk m c 2 t) a = row (m ((c : Thread nD τ).loc main_arg2)) (tok t a) :=
  funext fun k => blk_y m c t a k

theorem rowB_iblk (c : Dev nD) (t : Fin cfg0.N) (a : Fin 512) (k : Fin 1024) :
    rowB (iblk m c 0 t) (iblk m c 1 t) (iblk m c 2 t) a k = rowLK (m ((c : Thread nD τ).loc main_arg0)) (m ((c : Thread nD τ).loc main_arg1)) (m ((c : Thread nD τ).loc main_arg2)) (tok t a) k := by
  unfold rowB rowLK
  rw [row_h, row_g, row_y]

theorem gainPt_iblk (c : Dev nD) (t : Fin cfg0.N) (a : Fin 512) (k : Fin 1024) :
    gainPt (iblk m c 0 t) (iblk m c 1 t) (iblk m c 2 t) a k = gainLK (m ((c : Thread nD τ).loc main_arg0)) (m ((c : Thread nD τ).loc main_arg1)) (m ((c : Thread nD τ).loc main_arg2)) (tok t a) k := by
  unfold gainPt gainLK
  rw [row_h, row_g, row_y, blk_h]

theorem final4 (c : Dev nD) : (dats m 0 c).arrAt 4 cfg0.N = fun i => rowLK (m ((c : Thread nD τ).loc main_arg0)) (m ((c : Thread nD τ).loc main_arg1)) (m ((c : Thread nD τ).loc main_arg2)) (i 0) (i 1) := by
  refine (dats m 0 c).arrAt_eq_of_covers 4 _ (by decide +kernel) fun t hf y => ?_
  blk_simp
  rw [after0_4]
  refine Eq.trans (b := rowB (iblk m c 0 t) (iblk m c 1 t) (iblk m c 2 t) (y 0) (y 1)) ?_ ?_
  · by_cases e0 : t.val % 16 = 0
    · rw [outsAt0_A m c t e0 (by have := lt_of_lt_of_eq t.isLt N_0; omega)]
      frame_out
      exact row_eq _ _ _ _
    · rw [outsAt0_B m c t e0 (by omega)]
      frame_out
      exact row_eq _ _ _ _
  · refine (rowB_iblk m c t (y 0) (y 1)).trans ?_
    have e : (win0_4.blk t).view.emb y = ix2 (tok t (y 0)) (y 1) := by blk_ext [idx t, tok]
    rw [e]
    rfl

/-- The gain's accumulator after the last point: the sum over the blocks. -/
theorem acc_gain (c : Dev nD) (t : Fin cfg0.N) (hf : t.val % 16 = 16 - 1) (j : S1x1024.Idx) :
    (outsAt0 m c t.val t.isLt).2.2 j
      = ∑ s : Fin 16, (fun t : Fin cfg0.N => gainB (iblk m c 0 t) (iblk m c 1 t) (iblk m c 2 t) (j 1))
          ⟨16 * (t.val / 16) + s.val, Pipeline.run_point_lt_of_flush t hf s⟩ := by
  rw [Pipeline.eq_sum_fin_of_reset_step_apply_of_flush (fun n h => (outsAt0 m c n h).2.2) 16 (fun _ => (0 : EReal))
    (fun t j => gainB (iblk m c 0 t) (iblk m c 1 t) (iblk m c 2 t) (j 1))
    (fun t h j => by
      rw [outsAt0_A m c t h (by have := lt_of_lt_of_eq t.isLt N_0; omega)]
      frame_out
      rw [zero_add]
      exact gain_eq _ _ _ _)
    (fun t h j => by
      rw [outsAt0_B m c t h (by omega)]
      frame_out
      rw [gain_step]
      exact congrArg _ (gain_eq _ _ _ _)) t hf j, zero_add]

/-- The loss's accumulator after the last point: the sum over the blocks of half their errors. -/
theorem acc_loss (c : Dev nD) (t : Fin cfg0.N) (hf : t.val % 16 = 16 - 1) (j : S8x128.Idx) :
    (outsAt0 m c t.val t.isLt).1 j
      = ∑ s : Fin 16, (fun t : Fin cfg0.N => lit 0x3F000000#32 * lossB (iblk m c 0 t) (iblk m c 1 t) (iblk m c 2 t))
          ⟨16 * (t.val / 16) + s.val, Pipeline.run_point_lt_of_flush t hf s⟩ := by
  rw [Pipeline.eq_sum_fin_of_reset_step_apply_of_flush (fun n h => (outsAt0 m c n h).1) 16 (fun _ => (0 : EReal))
    (fun t j => lit 0x3F000000#32 * lossB (iblk m c 0 t) (iblk m c 1 t) (iblk m c 2 t))
    (fun t h j => by
      rw [outsAt0_A m c t h (by have := lt_of_lt_of_eq t.isLt N_0; omega)]
      frame_out
      rw [zero_add]
      exact loss_eq _ _ _ _)
    (fun t h j => by
      rw [outsAt0_B m c t h (by omega)]
      frame_out
      rw [loss_step]
      exact congrArg _ (loss_eq _ _ _ _)) t hf j, zero_add]

theorem final5 (c : Dev nD) : (dats m 0 c).arrAt 5 cfg0.N = fun i => ∑ t : Fin 8192, gainLK (m ((c : Thread nD τ).loc main_arg0)) (m ((c : Thread nD τ).loc main_arg1)) (m ((c : Thread nD τ).loc main_arg2)) t (i 1) := by
  refine (dats m 0 c).arrAt_eq_of_covers 5 _ (by decide +kernel) fun t hf y => ?_
  blk_simp
  have hf' := (flush0_5 t).mp hf
  rw [after0_5, acc_gain m c t hf']
  have h0 : t.val / 16 = 0 := by have := lt_of_lt_of_eq t.isLt N_0; omega
  refine Eq.trans (b := ∑ t : Fin 8192, gainLK (m ((c : Thread nD τ).loc main_arg0)) (m ((c : Thread nD τ).loc main_arg1)) (m ((c : Thread nD τ).loc main_arg2)) t (y 1)) ?_ ?_
  · unfold gainB
    refine Fin.sum_mul_add_congr fun s k hl => ?_
    have e : (⟨16 * (t.val / 16) + s.val, Pipeline.run_point_lt_of_flush t hf' s⟩ : Fin cfg0.N)
      = ⟨s.val, lt_of_lt_of_eq s.isLt N_0.symm⟩ := Fin.ext (by show 16 * (t.val / 16) + s.val = s.val; omega)
    rw [e]
    refine Eq.trans ?_ (gainPt_iblk m c ⟨s.val, lt_of_lt_of_eq s.isLt N_0.symm⟩ k (y 1))
    rfl
  · have e : (win0_5.blk t).view.emb y = ix2 (y 0) (y 1) := by blk_ext [idx t]
    rw [e]
    rfl

theorem final3 (c : Dev nD) : (dats m 0 c).arrAt 3 cfg0.N = fun _ => lossAt (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  have hf' := (flush0_3 t).mp hf
  rw [after0_3, acc_loss m c t hf', half_sum]
  have h0 : t.val / 16 = 0 := by have := lt_of_lt_of_eq t.isLt N_0; omega
  unfold lossAt lossB
  refine congrArg _ ?_
  refine Fin.sum_mul_add_congr fun s k hl => ?_
  have e : (⟨16 * (t.val / 16) + s.val, Pipeline.run_point_lt_of_flush t hf' s⟩ : Fin cfg0.N)
    = ⟨s.val, lt_of_lt_of_eq s.isLt N_0.symm⟩ := Fin.ext (by show 16 * (t.val / 16) + s.val = s.val; omega)
  rw [e, row_h, row_g, row_y]
  rfl

end Cert.Kernel24Ideal.Loss

namespace Cert.Proof.Loss

open Cert.Spec Cert.Spec.Loss

/-- The kernel's three arrays. -/
def Same (m : (ℓ : Loc Cert.Kernel24Ideal.nD Cert.Kernel24Ideal.τ Cert.Kernel24Ideal.sig) → Buf (Elt Ideal) ℓ) (c : Dev Cert.Kernel24Ideal.nD)
    (x0 : FVec Ideal SX .f32) (x1 : FVec Ideal SG .f32) (x2 : FVec Ideal SX .f32) : Prop :=
  x0 = m ((c.tc : Thread Cert.Kernel24Ideal.nD Cert.Kernel24Ideal.τ).loc Cert.Kernel24Ideal.main_arg0) ∧ x1 = m ((c.tc : Thread Cert.Kernel24Ideal.nD Cert.Kernel24Ideal.τ).loc Cert.Kernel24Ideal.main_arg1) ∧ x2 = m ((c.tc : Thread Cert.Kernel24Ideal.nD Cert.Kernel24Ideal.τ).loc Cert.Kernel24Ideal.main_arg2)

section Results

variable {m : (ℓ : Loc Cert.Kernel24Ideal.nD Cert.Kernel24Ideal.τ Cert.Kernel24Ideal.sig) → Buf (Elt Ideal) ℓ}
  {x0 : FVec Ideal SX .f32} {x1 : FVec Ideal SG .f32} {x2 : FVec Ideal SX .f32}

theorem loss {c : Dev Cert.Kernel24Ideal.nD} (h : Same m c x0 x1 x2) :
    (fun _ => lossAt x0 x1 x2) = (Cert.Kernel24Ideal.Gen.dats m 0 c).arrAt 3 Cert.Kernel24Ideal.cfg0.N := by
  obtain ⟨rfl, rfl, rfl⟩ := h
  exact (Cert.Kernel24Ideal.Loss.final3 m c).symm

theorem row {c : Dev Cert.Kernel24Ideal.nD} (h : Same m c x0 x1 x2) :
    (fun i => rowLR x0 x1 x2 (i 0) (i 1)) = (Cert.Kernel24Ideal.Gen.dats m 0 c).arrAt 4 Cert.Kernel24Ideal.cfg0.N := by
  obtain ⟨rfl, rfl, rfl⟩ := h
  refine Eq.trans (funext fun i => ?_) (Cert.Kernel24Ideal.Loss.final4 m c).symm
  exact (rowLK_eq _ _ _ (i 0) (i 1)).symm

theorem gain {c : Dev Cert.Kernel24Ideal.nD} (h : Same m c x0 x1 x2) :
    (fun i => ∑ t : Fin 8192, gainLR x0 x1 x2 t (i 1)) = (Cert.Kernel24Ideal.Gen.dats m 0 c).arrAt 5 Cert.Kernel24Ideal.cfg0.N := by
  obtain ⟨rfl, rfl, rfl⟩ := h
  refine Eq.trans (funext fun i => ?_) (Cert.Kernel24Ideal.Loss.final5 m c).symm
  exact Fin.sum_fin_congr fun t => (gainLK_eq _ _ _ t (i 1)).symm

end Results

theorem algebraic : Cert.algebraic_Kernel24Ideal_Reference24Ideal := by
  intro m g m' g' _ hagree
  refine ⟨_, _, _, Cert.Kernel24Ideal.Value.run_blocks m g, ?_⟩
  refine θ_run_mono (Cert.Reference24Ideal.Loss.run m' g') fun r h c => ?_
  have e : Same m c _ _ _ := hagree c
  exact ⟨(h c).1.trans (loss e), (h c).2.1.trans (row e), (h c).2.2.1.trans (gain e), (h c).2.2.2⟩

end Cert.Proof.Loss

end
-- ==== Proof.SconvFwd.lean ====
/-
  The gated short convolution, forward: three taps over the tokens, with zeros before the first, and the gate.  What the
  kernel leaves in its two arrays, what the reference computes, and that the two are the same.
-/
module

public import proofs.«01_k».proof.Defs
public import proofs.«01_k».proof.Proof.Gen.Kernel25Ideal.Value
public import proofs.«01_k».proof.Proof.Gen.Reference25Ideal.Read
public import proofs.«01_k».proof.Proof.Spec
public import Idealize.ShloMosaic.Lib.Claim
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Spec

abbrev SC : Shape := ⟨2, ![8192, 3072]⟩
abbrev ST : Shape := ⟨2, ![3, 1024]⟩

/-- The tokens' values after two zeros. -/
def padded (f : Fin 8192 → EReal) (n : ℕ) : EReal := if h : n - 2 < 8192 then (if n < 2 then 0 else f ⟨n - 2, h⟩) else 0

variable (z : FVec Ideal SC .bf16) (w : FVec Ideal ST .f32)

/-- A token's three parts: the output's gate, the input's gate and the value. -/
def gateB (t : Fin 8192) (k : Fin 1024) : EReal := z (ix2 t ⟨k.val, by omega⟩)
def gateC (t : Fin 8192) (k : Fin 1024) : EReal := z (ix2 t ⟨1024 + k.val, by omega⟩)
def valZ (t : Fin 8192) (k : Fin 1024) : EReal := z (ix2 t ⟨2048 + k.val, by omega⟩)
def inp (k : Fin 1024) (t : Fin 8192) : EReal := gateC z t k * valZ z t k

/-- The convolution and the layer's result. -/
def convAt (t : Fin 8192) (k : Fin 1024) : EReal :=
  w (ix2 0 k) * padded (inp z k) t.val + w (ix2 1 k) * padded (inp z k) (1 + t.val) + w (ix2 2 k) * padded (inp z k) (2 + t.val)
def gatedAt (t : Fin 8192) (k : Fin 1024) : EReal := gateB z t k * convAt z w t k

end Cert.Spec

namespace Cert.Reference25Ideal.SconvFwd

open Cert.Reference25Ideal Cert.Reference25Ideal.Gen Cert.Reference25Ideal.Read Cert.Spec

variable (x0 : FVec Ideal SC .bf16) (x1 : FVec Ideal ST .f32)

theorem v6_eq (i : S8194x1024.Idx) : val_main_v6 (F := Ideal) x0 i = padded (inp x0 (i 1)) (i 0).val := by
  have h : (i 0).val - 2 < 8192 := by have := (i 0).isLt; simp at this; omega
  unfold padded
  rw [dif_pos h]
  pointwise [val_main_v6, val_main_v5, val_main_cst, val_main_v4, val_main_v3, val_main_v2, val_main_v0, inp, gateC, valZ]
  split_ifs <;> rfl

theorem v22_eq (i : S8192x1024.Idx) : val_main_v22 (F := Ideal) x0 x1 i = convAt x0 x1 (i 0) (i 1) := by
  pointwise [val_main_v22, val_main_v21, val_main_v20, val_main_v19, val_main_v18, val_main_v17, val_main_v16, val_main_v15, val_main_v14, val_main_v13, val_main_v12, val_main_v11, val_main_cst_0, val_main_v10, val_main_v9, val_main_v8, val_main_v7, convAt]
  exact congrArg₂ (· + ·) (congrArg₂ (· + ·) (congrArg (x1 (ix2 0 (i 1)) * ·) (v6_eq x0 _)) (congrArg (x1 (ix2 1 (i 1)) * ·) (v6_eq x0 _)))
    (congrArg (x1 (ix2 2 (i 1)) * ·) (v6_eq x0 _))

theorem v25_eq : val_main_v25 (F := Ideal) x0 x1 = fun i => convAt x0 x1 (i 0) (i 1) :=
  funext fun i => v22_eq x0 x1 i

theorem v24_eq : val_main_v24 (F := Ideal) x0 x1 = fun i => gatedAt x0 x1 (i 0) (i 1) := by
  funext i
  pointwise [val_main_v24, val_main_v23, val_main_v1, val_main_v0, gatedAt, gateB]
  rw [v22_eq]

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v24) = (fun i => gatedAt (m ((c.tc : Thread nD τ).loc main_arg0)) (m ((c.tc : Thread nD τ).loc main_arg1)) (i 0) (i 1))
      ∧ r.2.mem ((c.tc : Thread nD τ).loc main_v25) = (fun i => convAt (m ((c.tc : Thread nD τ).loc main_arg0)) (m ((c.tc : Thread nD τ).loc main_arg1)) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans ((val_main_v24_eq _ _).trans (v24_eq _ _)),
    (h c).2.1.trans ((val_main_v25_eq _ _).trans (v25_eq _ _)), (h c).2.2⟩) (Cert.Reference25Ideal.Value.run m ρ)

end Cert.Reference25Ideal.SconvFwd

namespace Cert.Kernel25Ideal.SconvFwd

open Cert.Kernel25Ideal Cert.Kernel25Ideal.Gen Cert.Spec

variable (m : (ℓ : Loc nD τ sig) → Buf (Elt Ideal) ℓ)

theorem idx : ∀ t : Fin cfg0.N, win0_0.index t = ![t.val, 0] ∧ win0_1.index t = ![t.val, 1] ∧ win0_2.index t = ![t.val, 2]
    ∧ win0_3.index t = ![0, 0] ∧ win0_4.index t = ![t.val, 0] ∧ win0_5.index t = ![t.val, 0] :=
  (by decide +kernel : ∀ t : Fin grid0.N, _)

/-- The token of a block's row. -/
def tok (t : Fin cfg0.N) (a : Fin 256) : Fin 8192 := ⟨t.val * 256 + a.val, by have := lt_of_lt_of_eq t.isLt N_0; omega⟩

theorem blk_b (c : Dev nD) (t : Fin cfg0.N) (a : Fin 256) (k : Fin 1024) :
    iblk m c 0 t (ix2 a k) = gateB (m ((c : Thread nD τ).loc main_arg0)) (tok t a) k := by
  unfold gateB
  blk_ext [iblk, V, idx t, tok]

theorem blk_c (c : Dev nD) (t : Fin cfg0.N) (a : Fin 256) (k : Fin 1024) :
    iblk m c 1 t (ix2 a k) = gateC (m ((c : Thread nD τ).loc main_arg0)) (tok t a) k := by
  unfold gateC
  blk_ext [iblk, V, idx t, tok]

theorem blk_v (c : Dev nD) (t : Fin cfg0.N) (a : Fin 256) (k : Fin 1024) :
    iblk m c 2 t (ix2 a k) = valZ (m ((c : Thread nD τ).loc main_arg0)) (tok t a) k := by
  unfold valZ
  blk_ext [iblk, V, idx t, tok]

theorem pad_eq (w : FVec Ideal ST .f32) (v : FVec Ideal S_ .f32) (j : Fin 3) (k : Fin 1024) :
    pad S8x1024 ![0, 0] ![5, 0] ![0, 0] w v pads_S3x1024_S8x1024_050_000 h_S_ (ix2 ⟨j.val, by omega⟩ k) = w (ix2 j k) := by
  pointwise

/-- The taps, which the host pads to eight rows. -/
theorem V_taps (c : Dev nD) (j : Fin 3) (k : Fin 1024) : V m c main_v0 (ix2 ⟨j.val, by omega⟩ k)
    = (m ((c : Thread nD τ).loc main_arg1)) (ix2 j k) := by
  unfold V hostOps0 hostOps0_1
  simp only [List.flatten_cons, List.flatten_nil, List.cons_append, List.nil_append, List.append_nil]
  after_results
  exact pad_eq _ _ j k

theorem blk_w (c : Dev nD) (t : Fin cfg0.N) (j : Fin 3) (k : Fin 1024) :
    iblk m c 3 t (ix2 ⟨j.val, by omega⟩ k) = (m ((c : Thread nD τ).loc main_arg1)) (ix2 j k) := by
  have e : (win0_3.blk t).view.emb (ix2 ⟨j.val, by omega⟩ k) = ix2 ⟨j.val, by omega⟩ k := by blk_ext [idx t]
  show V m c main_v0 ((win0_3.blk t).view.emb (ix2 ⟨j.val, by omega⟩ k)) = _
  rw [e, V_taps]

/-- A row of a block of 264 rows. -/
theorem slab_emb (r n : ℕ) (i : ∀ a, ![r, 0] a + ![n, 1024] a ≤ S264x1024.size a) (h : r + n ≤ 264) (x : (⟨2, ![n, 1024]⟩ : Shape).Idx) :
    (Rect.unit (s := S264x1024) ![r, 0] ![n, 1024] i).emb x = ix2 ⟨r + (x 0).val, by have : (x 0).val < n := (x 0).isLt; omega⟩ (x 1) := by
  blk_ext

/-- The window at a block: the block's inputs after the eight before them. -/
def win (z : FVec Ideal SC .bf16) (n : ℕ) (y : S264x1024.Idx) : EReal := padded (inp z (y 1)) (n * 256 + (y 0).val - 6)

theorem new_eq (c : Dev nD) (t : Fin cfg0.N) (x : S256x1024.Idx) : k0_pay5 (F := Ideal) (iblk m c 1 t) (iblk m c 2 t) x
    = inp (m ((c : Thread nD τ).loc main_arg0)) (x 1) (tok t (x 0)) := by
  have e : x = ix2 (x 0) (x 1) := by blk_ext
  pointwise [k0_pay5]
  exact congrArg₂ (· * ·) ((congrArg (iblk m c 1 t) e).trans (blk_c m c t (x 0) (x 1))) ((congrArg (iblk m c 2 t) e).trans (blk_v m c t (x 0) (x 1)))

/-- The stores to the window, over what the block before left. -/
abbrev pN (c : Dev nD) (t : Fin cfg0.N) : View.Piece (Elt Ideal) S264x1024 .f32 :=
  ⟨Rect.unit ![8, 0] ![256, 1024] inb_S264x1024_S256x1024_8_0, k0_pay5 (iblk m c 1 t) (iblk m c 2 t)⟩
abbrev pZ : View.Piece (Elt Ideal) S264x1024 .f32 :=
  ⟨Rect.unit ![0, 0] ![8, 1024] inb_S264x1024_S8x1024_0_0, k0_pay3 (F := Ideal)⟩
abbrev pO (X : Vec Ideal S264x1024 .f32) : View.Piece (Elt Ideal) S264x1024 .f32 :=
  ⟨Rect.unit ![0, 0] ![8, 1024] inb_S264x1024_S8x1024_0_0, k0_pay4 (View.ld X (Rect.unit ![256, 0] ![8, 1024] inb_S264x1024_S8x1024_256_0))⟩

theorem new_at (c : Dev nD) (t : Fin cfg0.N) (x : S256x1024.Idx) : k0_pay5 (F := Ideal) (iblk m c 1 t) (iblk m c 2 t) x
    = win (m ((c : Thread nD τ).loc main_arg0)) t.val ((Rect.unit (s := S264x1024) ![8, 0] ![256, 1024] inb_S264x1024_S256x1024_8_0).emb x) := by
  rw [new_eq, slab_emb 8 256 _ (by decide) x]
  have h0 : (x 0).val < 256 := (x 0).isLt
  have ht := lt_of_lt_of_eq t.isLt N_0
  show _ = padded _ (t.val * 256 + (8 + (x 0).val) - 6)
  unfold padded
  rw [dif_pos (by omega), if_neg (by omega)]
  refine congrArg (inp _ _) (Fin.ext ?_)
  show t.val * 256 + (x 0).val = t.val * 256 + (8 + (x 0).val) - 6 - 2
  omega

theorem pieces_A (c : Dev nD) (t : Fin cfg0.N) (h : t.val = 0) :
    View.PiecesOf (win (m ((c : Thread nD τ).loc main_arg0)) t.val) [pN m c t, pZ] := by
  refine ⟨fun x => new_at m c t x, fun x => ?_, trivial⟩
  have h0 : (x 0).val < 8 := (x 0).isLt
  rw [slab_emb 0 8 _ (by decide) x, h]
  show _ = padded _ (0 * 256 + (0 + (x 0).val) - 6)
  unfold padded
  rw [dif_pos (by omega), if_pos (by omega)]
  pointwise [k0_pay3]

theorem pieces_B (c : Dev nD) (t : Fin cfg0.N) (h : 1 ≤ t.val) (X : Vec Ideal S264x1024 .f32)
    (hX : X = win (m ((c : Thread nD τ).loc main_arg0)) (t.val - 1)) :
    View.PiecesOf (win (m ((c : Thread nD τ).loc main_arg0)) t.val) [pN m c t, pO X] := by
  refine ⟨fun x => new_at m c t x, fun x => ?_, trivial⟩
  have h0 : (x 0).val < 8 := (x 0).isLt
  rw [slab_emb 0 8 _ (by decide) x, hX]
  refine Eq.trans (b := win (m ((c : Thread nD τ).loc main_arg0)) (t.val - 1) (ix2 ⟨256 + (x 0).val, by omega⟩ (x 1))) ?_ ?_
  · pointwise [k0_pay4]
  · show padded _ ((t.val - 1) * 256 + (256 + (x 0).val) - 6) = padded _ (t.val * 256 + (0 + (x 0).val) - 6)
    congr 1
    omega

theorem cover (u : FVec Ideal S256x1024 .f32) (v : FVec Ideal S8x1024 .f32) (y : S264x1024.Idx) :
    ∃ p ∈ ([⟨Rect.unit ![8, 0] ![256, 1024] inb_S264x1024_S256x1024_8_0, u⟩, ⟨Rect.unit ![0, 0] ![8, 1024] inb_S264x1024_S8x1024_0_0, v⟩] :
      List (View.Piece (Elt Ideal) S264x1024 .f32)), y ∈ p.1.set := by
  have h0 : (y 0).val < 264 := (y 0).isLt
  have h1 : (y 1).val < 1024 := (y 1).isLt
  by_cases h : (y 0).val < 8
  · have e : y ∈ (Rect.unit (s := S264x1024) ![0, 0] ![8, 1024] inb_S264x1024_S8x1024_0_0).set := Rect.mem_set_unit.2 fun a => by
      match a with
      | ⟨0, _⟩ => exact ⟨Nat.zero_le _, by show (y 0).val < 0 + 8; omega⟩
      | ⟨1, _⟩ => exact ⟨Nat.zero_le _, by show (y 1).val < 0 + 1024; omega⟩
    exact ⟨_, List.mem_cons_of_mem _ (List.mem_singleton.2 rfl), e⟩
  · have e : y ∈ (Rect.unit (s := S264x1024) ![8, 0] ![256, 1024] inb_S264x1024_S256x1024_8_0).set := Rect.mem_set_unit.2 fun a => by
      match a with
      | ⟨0, _⟩ => exact ⟨by show 8 ≤ (y 0).val; omega, by show (y 0).val < 8 + 256; omega⟩
      | ⟨1, _⟩ => exact ⟨Nat.zero_le _, by show (y 1).val < 0 + 1024; omega⟩
    exact ⟨_, List.mem_cons_self .., e⟩

theorem canon_A (c : Dev nD) (t : Fin cfg0.N) (h : t.val = 0) (y : S264x1024.Idx) :
    View.canon (Val := Elt Ideal) (e := .f32) [pN m c t, pZ] y = win (m ((c : Thread nD τ).loc main_arg0)) t.val y :=
  View.canon_apply_of_pieces _ _ (pieces_A m c t h).mem y (cover _ _ y)

theorem canon_B (c : Dev nD) (t : Fin cfg0.N) (h : 1 ≤ t.val) (X : Vec Ideal S264x1024 .f32)
    (hX : X = win (m ((c : Thread nD τ).loc main_arg0)) (t.val - 1)) (y : S264x1024.Idx) :
    View.canon (Val := Elt Ideal) (e := .f32) [pN m c t, pO X] y = win (m ((c : Thread nD τ).loc main_arg0)) t.val y :=
  View.canon_apply_of_pieces _ _ (pieces_B m c t h X hX).mem y (cover _ _ y)

/-- The window after a block's stores. -/
theorem win_eq (c : Dev nD) : ∀ (n : ℕ) (h : n < cfg0.N),
    (outsAt0 m c n h).2.2 = win (m ((c : Thread nD τ).loc main_arg0)) n := by
  intro n
  induction n with
  | zero =>
    intro h
    funext y
    rw [outsAt0_A m c ⟨0, h⟩ rfl (by show ¬ 1 ≤ 0; omega)]
    frame_out
    exact canon_A m c ⟨0, h⟩ rfl y
  | succ n ih =>
    intro h
    have hN := lt_of_lt_of_eq h N_0
    funext y
    rw [outsAt0_B m c ⟨n + 1, h⟩ (by show ¬ (n + 1) % 32 = 0; omega) (by show 1 ≤ n + 1; omega)]
    frame_out
    rw [read_unread_whole]
    exact canon_B m c ⟨n + 1, h⟩ (by show 1 ≤ n + 1; omega) _ (ih _) y

/-- A load, after stores that are blocks of `G` and cover it, reads `G`. -/
theorem read_rows {sg : RefSig} {κ : Kind} {sp : Space} (v : View sg κ sp S264x1024 .f32) (G : S264x1024.Idx → EReal)
    (L : List (View.Piece (Elt Ideal) S264x1024 .f32)) (h : View.PiecesOf G L) (hc : ∀ y, ∃ p ∈ L, y ∈ p.1.set)
    (r : ℕ) (i : ∀ a, ![r, 0] a + ![256, 1024] a ≤ S264x1024.size a) (hr : r + 256 ≤ 264) (x : S256x1024.Idx) :
    v.readCov L (Rect.unit (s := S264x1024) ![r, 0] ![256, 1024] i).toLoadRect x
      = G (ix2 ⟨r + (x 0).val, by have : (x 0).val < 256 := (x 0).isLt; omega⟩ (x 1)) := by
  rw [View.readCov_eq_canon']
  refine (View.canon_apply_of_pieces G L h.mem _ (hc _)).trans (congrArg G ?_)
  exact slab_emb r 256 i hr x

section Rows

variable {sg : RefSig} {κ : Kind} {sp : Space} (v : View sg κ sp S264x1024 .f32)

/-- The three products' sum. -/
theorem pay6_eq (w : Vec Ideal S8x1024 .f32) (r0 r1 r2 : Vec Ideal S256x1024 .f32) (x : S256x1024.Idx) :
    k0_pay6 (F := Ideal) (View.ld w (Rect.unit ![0, 0] ![1, 1024] inb_S8x1024_S1x1024_0_0)) r0
      (View.ld w (Rect.unit ![1, 0] ![1, 1024] inb_S8x1024_S1x1024_1_0)) r1
      (View.ld w (Rect.unit ![2, 0] ![1, 1024] inb_S8x1024_S1x1024_2_0)) r2 x
    = w (ix2 0 (x 1)) * r0 x + w (ix2 1 (x 1)) * r1 x + w (ix2 2 (x 1)) * r2 x := by
  pointwise [k0_pay6]

theorem pay1_eq (u : Vec Ideal S256x1024 .f32) (x : S256x1024.Idx) : k0_pay1 (F := Ideal) u x = u x := by
  pointwise [k0_pay1]

theorem pay2_eq (u : Vec Ideal S256x1024 .f32) (b : Vec Ideal S256x1024 .bf16) (x : S256x1024.Idx) : k0_pay2 (F := Ideal) u b x = b x * u x := by
  pointwise [k0_pay2]

theorem conv_eq (c : Dev nD) (t : Fin cfg0.N) (L : List (View.Piece (Elt Ideal) S264x1024 .f32))
    (hL : View.PiecesOf (win (m ((c : Thread nD τ).loc main_arg0)) t.val) L) (hc : ∀ y, ∃ p ∈ L, y ∈ p.1.set) (x : S256x1024.Idx) :
    k0_pay6 (F := Ideal) (View.ld (iblk m c 3 t) (Rect.unit ![0, 0] ![1, 1024] inb_S8x1024_S1x1024_0_0))
      (v.readCov L (Rect.unit (s := S264x1024) ![6, 0] ![256, 1024] inb_S264x1024_S256x1024_6_0).toLoadRect)
      (View.ld (iblk m c 3 t) (Rect.unit ![1, 0] ![1, 1024] inb_S8x1024_S1x1024_1_0))
      (v.readCov L (Rect.unit (s := S264x1024) ![7, 0] ![256, 1024] inb_S264x1024_S256x1024_7_0).toLoadRect)
      (View.ld (iblk m c 3 t) (Rect.unit ![2, 0] ![1, 1024] inb_S8x1024_S1x1024_2_0))
      (v.readCov L (Rect.unit (s := S264x1024) ![8, 0] ![256, 1024] inb_S264x1024_S256x1024_8_0).toLoadRect) x
    = convAt (m ((c : Thread nD τ).loc main_arg0)) (m ((c : Thread nD τ).loc main_arg1)) (tok t (x 0)) (x 1) := by
  refine (pay6_eq (iblk m c 3 t) _ _ _ x).trans ?_
  have hw (j : Fin 3) := blk_w m c t j (x 1)
  have hr (r : ℕ) (hr : 6 ≤ r) (h : r + 256 ≤ 264) (i : ∀ a, ![r, 0] a + ![256, 1024] a ≤ S264x1024.size a) :
      v.readCov L (Rect.unit (s := S264x1024) ![r, 0] ![256, 1024] i).toLoadRect x
        = padded (inp (m ((c : Thread nD τ).loc main_arg0)) (x 1)) ((r - 6) + (tok t (x 0)).val) := by
    rw [read_rows v _ L hL hc r i h x]
    show padded _ (t.val * 256 + (r + (x 0).val) - 6) = padded _ ((r - 6) + (t.val * 256 + (x 0).val))
    congr 1
    omega
  rw [hr 6 (by omega) (by omega), hr 7 (by omega) (by omega), hr 8 (by omega) (by omega)]
  unfold convAt
  refine congrArg₂ (· + ·) (congrArg₂ (· + ·) (congrArg₂ (· * ·) (hw 0) ?_) (congrArg₂ (· * ·) (hw 1) ?_)) (congrArg₂ (· * ·) (hw 2) ?_)
  · rw [show 6 - 6 + (tok t (x 0)).val = (tok t (x 0)).val by omega]
  · rfl
  · rfl

end Rows

/-- A block's convolution and result. -/
theorem out_conv (c : Dev nD) (t : Fin cfg0.N) (x : S256x1024.Idx) : (outsAt0 m c t.val t.isLt).2.1 x
    = convAt (m ((c : Thread nD τ).loc main_arg0)) (m ((c : Thread nD τ).loc main_arg1)) (tok t (x 0)) (x 1) := by
  have hN := lt_of_lt_of_eq t.isLt N_0
  by_cases h : t.val = 0
  · rw [outsAt0_A m c t (by omega) (by omega)]
    frame_out
    exact (pay1_eq _ x).trans (conv_eq m (View.whole cc0_scratch0) c t [pN m c t, pZ] (pieces_A m c t h) (cover _ _) x)
  · have h1 : 1 ≤ t.val := by omega
    rw [outsAt0_B m c t (by omega) h1]
    frame_out
    rw [read_unread_whole]
    exact (pay1_eq _ x).trans (conv_eq m (View.whole cc0_scratch0) c t [pN m c t, pO _] (pieces_B m c t h1 _ (win_eq m c _ _)) (cover _ _) x)

theorem out_gated (c : Dev nD) (t : Fin cfg0.N) (x : S256x1024.Idx) : (outsAt0 m c t.val t.isLt).1 x
    = gatedAt (m ((c : Thread nD τ).loc main_arg0)) (m ((c : Thread nD τ).loc main_arg1)) (tok t (x 0)) (x 1) := by
  have hN := lt_of_lt_of_eq t.isLt N_0
  have hb : iblk m c 0 t x = gateB (m ((c : Thread nD τ).loc main_arg0)) (tok t (x 0)) (x 1) :=
    (congrArg (iblk m c 0 t) (by blk_ext : x = ix2 (x 0) (x 1))).trans (blk_b m c t (x 0) (x 1))
  by_cases h : t.val = 0
  · rw [outsAt0_A m c t (by omega) (by omega)]
    frame_out
    exact (pay2_eq _ _ x).trans (congrArg₂ (· * ·) hb (conv_eq m (View.whole cc0_scratch0) c t [pN m c t, pZ] (pieces_A m c t h) (cover _ _) x))
  · have h1 : 1 ≤ t.val := by omega
    rw [outsAt0_B m c t (by omega) h1]
    frame_out
    rw [read_unread_whole]
    exact (pay2_eq _ _ x).trans (congrArg₂ (· * ·) hb
      (conv_eq m (View.whole cc0_scratch0) c t [pN m c t, pO _] (pieces_B m c t h1 _ (win_eq m c _ _)) (cover _ _) x))

theorem final4 (c : Dev nD) : (dats m 0 c).arrAt 4 cfg0.N
    = fun i => gatedAt (m ((c : Thread nD τ).loc main_arg0)) (m ((c : Thread nD τ).loc main_arg1)) (i 0) (i 1) := by
  refine (dats m 0 c).arrAt_eq_of_covers 4 _ (by decide +kernel) fun t hf y => ?_
  blk_simp
  rw [after0_4]
  refine (out_gated m c t y).trans ?_
  have e : (win0_4.blk t).view.emb y = ix2 (tok t (y 0)) (y 1) := by blk_ext [idx t, tok]
  rw [e]
  rfl

theorem final5 (c : Dev nD) : (dats m 0 c).arrAt 5 cfg0.N
    = fun i => convAt (m ((c : Thread nD τ).loc main_arg0)) (m ((c : Thread nD τ).loc main_arg1)) (i 0) (i 1) := by
  refine (dats m 0 c).arrAt_eq_of_covers 5 _ (by decide +kernel) fun t hf y => ?_
  blk_simp
  rw [after0_5]
  refine (out_conv m c t y).trans ?_
  have e : (win0_5.blk t).view.emb y = ix2 (tok t (y 0)) (y 1) := by blk_ext [idx t, tok]
  rw [e]
  rfl

end Cert.Kernel25Ideal.SconvFwd

namespace Cert.Proof.SconvFwd

open Cert.Spec

/-- The kernel's two arrays. -/
def Same (m : (ℓ : Loc Cert.Kernel25Ideal.nD Cert.Kernel25Ideal.τ Cert.Kernel25Ideal.sig) → Buf (Elt Ideal) ℓ) (c : Dev Cert.Kernel25Ideal.nD)
    (x0 : FVec Ideal SC .bf16) (x1 : FVec Ideal ST .f32) : Prop :=
  x0 = m ((c.tc : Thread Cert.Kernel25Ideal.nD Cert.Kernel25Ideal.τ).loc Cert.Kernel25Ideal.main_arg0)
    ∧ x1 = m ((c.tc : Thread Cert.Kernel25Ideal.nD Cert.Kernel25Ideal.τ).loc Cert.Kernel25Ideal.main_arg1)

section Results

variable {m : (ℓ : Loc Cert.Kernel25Ideal.nD Cert.Kernel25Ideal.τ Cert.Kernel25Ideal.sig) → Buf (Elt Ideal) ℓ}
  {x0 : FVec Ideal SC .bf16} {x1 : FVec Ideal ST .f32}

theorem gated {c : Dev Cert.Kernel25Ideal.nD} (h : Same m c x0 x1) :
    (fun i => gatedAt x0 x1 (i 0) (i 1)) = (Cert.Kernel25Ideal.Gen.dats m 0 c).arrAt 4 Cert.Kernel25Ideal.cfg0.N := by
  obtain ⟨rfl, rfl⟩ := h
  exact (Cert.Kernel25Ideal.SconvFwd.final4 m c).symm

theorem conv {c : Dev Cert.Kernel25Ideal.nD} (h : Same m c x0 x1) :
    (fun i => convAt x0 x1 (i 0) (i 1)) = (Cert.Kernel25Ideal.Gen.dats m 0 c).arrAt 5 Cert.Kernel25Ideal.cfg0.N := by
  obtain ⟨rfl, rfl⟩ := h
  exact (Cert.Kernel25Ideal.SconvFwd.final5 m c).symm

end Results

theorem algebraic : Cert.algebraic_Kernel25Ideal_Reference25Ideal := by
  intro m g m' g' _ hagree
  refine ⟨_, _, Cert.Kernel25Ideal.Value.run_blocks m g, ?_⟩
  refine θ_run_mono (Cert.Reference25Ideal.SconvFwd.run m' g') fun r h c => ?_
  have e : Same m c _ _ := hagree c
  exact ⟨(h c).1.trans (gated e), (h c).2.1.trans (conv e), (h c).2.2⟩

end Cert.Proof.SconvFwd

end
-- ==== Proof.SconvBwd.lean ====
/-
  The gated short convolution, backward: the gradients of the three parts and of the taps.  What the kernel leaves in its
  two arrays, what the reference computes, and that the two are the same.
-/
module

public import proofs.«01_k».proof.Defs
public import proofs.«01_k».proof.Proof.Gen.Kernel26Ideal.Value
public import proofs.«01_k».proof.Proof.Gen.Reference26Ideal.Read
public import proofs.«01_k».proof.Proof.SconvFwd
public import Idealize.ShloMosaic.Lib.Claim
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Spec

/-- The tokens' values, then zeros. -/
def later (f : Fin 8192 → EReal) (n : ℕ) : EReal := if h : n < 8192 then f ⟨n, h⟩ else 0

/-- A sum over the tokens of a value times one `s` tokens later is the sum of that value times one `s` tokens earlier. -/
theorem sum_shift (f g : Fin 8192 → EReal) (s j : ℕ) (h : s + j = 2) :
    ∑ t : Fin 8192, f t * later g (s + t.val) = ∑ t : Fin 8192, g t * padded f (j + t.val) := by
  have e1 : ∑ t : Fin 8192, f t * later g (s + t.val) = ∑ x ∈ Finset.range 8192, padded f (j + (s + x)) * later g (s + x) := by
    rw [Finset.sum_range]
    refine Finset.sum_congr rfl fun t _ => ?_
    have ht := t.isLt
    unfold padded
    rw [dif_pos (by omega), if_neg (by omega)]
    exact congrArg (f · * _) (Fin.ext (by show t.val = j + (s + t.val) - 2; omega))
  have e2 : ∑ t : Fin 8192, g t * padded f (j + t.val) = ∑ x ∈ Finset.range 8192, padded f (j + x) * later g x := by
    rw [Finset.sum_range]
    refine Finset.sum_congr rfl fun t _ => ?_
    unfold later
    rw [dif_pos t.isLt, mul_comm]
  have e3 := Finset.sum_range_add (fun x => padded f (j + x) * later g x) s 8192
  have e4 := Finset.sum_range_add (fun x => padded f (j + x) * later g x) 8192 s
  have z1 : ∑ x ∈ Finset.range s, padded f (j + x) * later g x = 0 := Finset.sum_eq_zero fun x hx => by
    have hx' := Finset.mem_range.1 hx
    unfold padded
    rw [dif_pos (by omega), if_pos (by omega), zero_mul]
  have z2 : ∑ x ∈ Finset.range s, padded f (j + (8192 + x)) * later g (8192 + x) = 0 := Finset.sum_eq_zero fun x hx => by
    unfold later
    rw [dif_neg (by omega), mul_zero]
  rw [z1, zero_add] at e3
  rw [z2, add_zero] at e4
  rw [e1, e2, ← e3, ← e4, Nat.add_comm]

variable (z : FVec Ideal SC .bf16) (w : FVec Ideal ST .f32) (dy : FVec Ideal SX .bf16)

/-- The gradients of the convolution's result and of its input, and of the three parts. -/
def dcv (k : Fin 1024) (t : Fin 8192) : EReal := gateB z t k * dy (ix2 t k)
def dinp (t : Fin 8192) (k : Fin 1024) : EReal :=
  w (ix2 2 k) * dcv z dy k t + w (ix2 1 k) * later (dcv z dy k) (1 + t.val) + w (ix2 0 k) * later (dcv z dy k) (2 + t.val)
def dzAt (t : Fin 8192) (j : Fin 3072) : EReal :=
  if h : j.val < 1024 then dy (ix2 t ⟨j.val, h⟩) * convAt z w t ⟨j.val, h⟩
  else if h' : j.val < 2048 then dinp z w dy t ⟨j.val - 1024, by omega⟩ * valZ z t ⟨j.val - 1024, by omega⟩
  else gateC z t ⟨j.val - 2048, by omega⟩ * dinp z w dy t ⟨j.val - 2048, by omega⟩
/-- The gradient of the taps, with five rows of zeros after them. -/
def dwAt (j : Fin 8) (k : Fin 1024) : EReal :=
  if j.val < 3 then ∑ t : Fin 8192, dcv z dy k t * padded (inp z k) (j.val + t.val) else 0

end Cert.Spec

namespace Cert.Reference26Ideal.SconvBwd

open Cert.Reference26Ideal Cert.Reference26Ideal.Gen Cert.Reference26Ideal.Read Cert.Spec

variable (x0 : FVec Ideal SC .bf16) (x1 : FVec Ideal ST .f32) (x2 : FVec Ideal SX .bf16)

theorem v6_eq (i : S8194x1024.Idx) : val_main_v6 (F := Ideal) x0 i = padded (inp x0 (i 1)) (i 0).val := by
  have h : (i 0).val - 2 < 8192 := by have := (i 0).isLt; simp at this; omega
  unfold padded
  rw [dif_pos h]
  pointwise [val_main_v6, val_main_v5, val_main_cst, val_main_v4, val_main_v3, val_main_v2, val_main_v0, inp, gateC, valZ]
  split_ifs <;> rfl

theorem v23_eq (i : S8192x1024.Idx) : val_main_v23 (F := Ideal) x0 x1 i = convAt x0 x1 (i 0) (i 1) := by
  pointwise [val_main_v23, val_main_v22, val_main_v21, val_main_v20, val_main_v19, val_main_v18, val_main_v17, val_main_v16, val_main_v15, val_main_v14, val_main_v13, val_main_v12, val_main_v11, val_main_cst_1, val_main_v10, val_main_v9, val_main_v8, convAt]
  exact congrArg₂ (· + ·) (congrArg₂ (· + ·) (congrArg (x1 (ix2 0 (i 1)) * ·) (v6_eq x0 _)) (congrArg (x1 (ix2 1 (i 1)) * ·) (v6_eq x0 _)))
    (congrArg (x1 (ix2 2 (i 1)) * ·) (v6_eq x0 _))

theorem v26_eq (i : S8192x1024.Idx) : val_main_v26 (F := Ideal) x0 x2 i = dcv x0 x2 (i 1) (i 0) := by
  pointwise [val_main_v26, val_main_v25, val_main_v1, val_main_v0, dcv, gateB]

theorem v26_at (t : Fin 8192) (k : Fin 1024) : val_main_v26 (F := Ideal) x0 x2 (ix2 t k) = dcv x0 x2 k t := v26_eq x0 x2 (ix2 t k)

theorem v33_at (t : Fin 8192) (k : Fin 1024) : val_main_v33 (F := Ideal) x0 x1 x2 (ix2 ⟨2 + t.val, by omega⟩ k) = x1 (ix2 2 k) * dcv x0 x2 k t := by
  pointwise [val_main_v33, val_main_v29, val_main_v28, val_main_v19]
  rw [v26_at]

theorem zero6 (i : S_.Idx) : val_main_cst_6 (F := Ideal) i = 0 := by pointwise [val_main_cst_6]
theorem zero9 (i : S_.Idx) : val_main_cst_9 (F := Ideal) i = 0 := by pointwise [val_main_cst_9]

theorem v40_at (t : Fin 8192) (k : Fin 1024) : val_main_v40 (F := Ideal) x0 x1 x2 (ix2 ⟨2 + t.val, by omega⟩ k) = x1 (ix2 1 k) * later (dcv x0 x2 k) (1 + t.val) := by
  unfold later
  pointwise [val_main_v40, val_main_v36, val_main_v35, val_main_v14]
  by_cases h : 1 + t.val < 8192
  · rw [dif_pos h, dif_pos (by omega), v26_at]
    exact congrArg (fun n => _ * dcv x0 x2 k n) (Fin.ext (by show 2 + t.val - 1 = 1 + t.val; omega))
  · rw [dif_neg h, dif_neg (by omega), zero6, mul_zero]

theorem v49_at (t : Fin 8192) (k : Fin 1024) : val_main_v49 (F := Ideal) x0 x1 x2 (ix2 ⟨2 + t.val, by omega⟩ k) = x1 (ix2 0 k) * later (dcv x0 x2 k) (2 + t.val) := by
  unfold later
  pointwise [val_main_v49, val_main_v45, val_main_v44, val_main_v8]
  by_cases h : 2 + t.val < 8192
  · rw [dif_pos h, dif_pos h, v26_at]
  · rw [dif_neg h, dif_neg h, zero9, mul_zero]

theorem v54_at (t : Fin 8192) (k : Fin 1024) : val_main_v54 (F := Ideal) x0 x1 x2 (ix2 t k) = dinp x0 x1 x2 t k := by
  pointwise [val_main_v54, val_main_v50, val_main_v41]
  unfold dinp
  rw [v33_at, v40_at, v49_at]

theorem v23_at (t : Fin 8192) (k : Fin 1024) : val_main_v23 (F := Ideal) x0 x1 (ix2 t k) = convAt x0 x1 t k := v23_eq x0 x1 (ix2 t k)

theorem v62_at (t : Fin 8192) (j : Fin 3072) : val_main_v62 (F := Ideal) x0 x1 x2 (ix2 t j) = dzAt x0 x1 x2 t j := by
  unfold dzAt
  pointwise [val_main_v62, val_main_v61, val_main_v60, val_main_cst_13, val_main_v59, val_main_v58, val_main_cst_12, val_main_v57, val_main_cst_11, val_main_v56, val_main_v55, val_main_v27, val_main_v25, val_main_v3, val_main_v2, val_main_v0, gateC, valZ]
  by_cases h : j.val < 1024
  · rw [dif_neg (by omega), dif_neg (by omega), dif_pos h, dif_pos h, v23_at, zero_add, zero_add]
  · by_cases h' : j.val < 2048
    · rw [dif_neg (by omega), dif_pos (by omega), dif_neg h, dif_neg h, dif_pos h', v54_at, zero_add, add_zero]
    · rw [dif_pos (by omega), dif_neg (by omega), dif_neg h, dif_neg h, dif_neg h', v54_at, add_zero, add_zero]

theorem v6_at (t : Fin 8194) (k : Fin 1024) : val_main_v6 (F := Ideal) x0 (ix2 t k) = padded (inp x0 k) t.val := v6_eq x0 (ix2 t k)

theorem sum31 (k : Fin 1024) : val_main_v31 (F := Ideal) x0 x2 (ix1 k) = ∑ t : Fin 8192, dcv x0 x2 k t * padded (inp x0 k) (2 + t.val) := by
  pointwise [val_main_v31, val_main_cst_2, val_main_v30, val_main_v20]
  exact Finset.sum_congr rfl fun t _ => congrArg₂ (· * ·) (v26_at x0 x2 t k) (v6_at x0 _ k)

theorem sum38 (k : Fin 1024) : val_main_v38 (F := Ideal) x0 x2 (ix1 k) = ∑ t : Fin 8192, dcv x0 x2 k t * padded (inp x0 k) (1 + t.val) := by
  pointwise [val_main_v38, val_main_cst_5, val_main_v37, val_main_v15]
  exact Finset.sum_congr rfl fun t _ => congrArg₂ (· * ·) (v26_at x0 x2 t k) (v6_at x0 _ k)

theorem sum47 (k : Fin 1024) : val_main_v47 (F := Ideal) x0 x2 (ix1 k) = ∑ t : Fin 8192, dcv x0 x2 k t * padded (inp x0 k) (0 + t.val) := by
  pointwise [val_main_v47, val_main_cst_8, val_main_v46, val_main_v9]
  exact Finset.sum_congr rfl fun t _ => congrArg₂ (· * ·) (v26_at x0 x2 t k) (v6_at x0 ⟨t.val, by omega⟩ k)

theorem v64_at (j : Fin 8) (k : Fin 1024) : val_main_v64 (F := Ideal) x0 x2 (ix2 j k) = dwAt x0 x2 j k := by
  unfold dwAt
  pointwise [val_main_v64, val_main_v63, val_main_cst_14, val_main_v52, val_main_v51, val_main_cst_10, val_main_v43, val_main_v42, val_main_cst_7, val_main_v34, val_main_cst_4, val_main_v32, val_main_v39, val_main_v48]
  by_cases h : j.val < 3
  · rw [dif_pos h, if_pos h]
    rcases (by omega : j.val = 0 ∨ j.val = 1 ∨ j.val = 2) with e | e | e
    · rw [dif_neg (by omega), dif_neg (by omega), dif_pos (by omega), sum47, zero_add, zero_add, e]
    · rw [dif_neg (by omega), dif_pos (by omega), dif_neg (by omega), sum38, zero_add, add_zero, e]
    · rw [dif_pos (by omega), dif_neg (by omega), dif_neg (by omega), sum31, add_zero, add_zero, e]
  · rw [dif_neg h, if_neg h]

theorem v62_eq : val_main_v62 (F := Ideal) x0 x1 x2 = fun i => dzAt x0 x1 x2 (i 0) (i 1) := funext fun i =>
  (congrArg (val_main_v62 (F := Ideal) x0 x1 x2) (by blk_ext : i = ix2 (i 0) (i 1))).trans (v62_at x0 x1 x2 (i 0) (i 1))

theorem v64_eq : val_main_v64 (F := Ideal) x0 x2 = fun i => dwAt x0 x2 (i 0) (i 1) := funext fun i =>
  (congrArg (val_main_v64 (F := Ideal) x0 x2) (by blk_ext : i = ix2 (i 0) (i 1))).trans (v64_at x0 x2 (i 0) (i 1))

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v62) = (fun i => dzAt (m ((c.tc : Thread nD τ).loc main_arg0)) (m ((c.tc : Thread nD τ).loc main_arg1)) (m ((c.tc : Thread nD τ).loc main_arg2)) (i 0) (i 1))
      ∧ r.2.mem ((c.tc : Thread nD τ).loc main_v64) = (fun i => dwAt (m ((c.tc : Thread nD τ).loc main_arg0)) (m ((c.tc : Thread nD τ).loc main_arg2)) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans ((val_main_v62_eq m c).trans (v62_eq _ _ _)),
    (h c).2.1.trans ((val_main_v64_eq _ _).trans (v64_eq _ _)), (h c).2.2⟩) (Cert.Reference26Ideal.Value.run m ρ)

end Cert.Reference26Ideal.SconvBwd

namespace Cert.Kernel26Ideal.SconvBwd

open Cert.Kernel26Ideal Cert.Kernel26Ideal.Gen Cert.Spec

variable (m : (ℓ : Loc nD τ sig) → Buf (Elt Ideal) ℓ)

theorem idx : ∀ t : Fin cfg0.N, win0_0.index t = ![31 - t.val, 0] ∧ win0_1.index t = ![31 - t.val, 1] ∧ win0_2.index t = ![31 - t.val, 2]
    ∧ win0_3.index t = ![31 - t.val, 0] ∧ win0_4.index t = ![31 - t.val, 0] ∧ win0_5.index t = ![0, 0] ∧ win0_6.index t = ![31 - t.val, 0]
    ∧ win0_7.index t = ![0, 0] :=
  (by decide +kernel : ∀ t : Fin grid0.N, _)

/-- The token of a block's row: the blocks come last first. -/
def tok (t : Fin cfg0.N) (a : Fin 256) : Fin 8192 := ⟨(31 - t.val) * 256 + a.val, by have := lt_of_lt_of_eq t.isLt N_0; omega⟩

theorem blk_b (c : Dev nD) (t : Fin cfg0.N) (a : Fin 256) (k : Fin 1024) :
    iblk m c 0 t (ix2 a k) = gateB (m ((c : Thread nD τ).loc main_arg0)) (tok t a) k := by
  unfold gateB
  blk_ext [iblk, V, idx t, tok]

theorem blk_c (c : Dev nD) (t : Fin cfg0.N) (a : Fin 256) (k : Fin 1024) :
    iblk m c 1 t (ix2 a k) = gateC (m ((c : Thread nD τ).loc main_arg0)) (tok t a) k := by
  unfold gateC
  blk_ext [iblk, V, idx t, tok]

theorem blk_v (c : Dev nD) (t : Fin cfg0.N) (a : Fin 256) (k : Fin 1024) :
    iblk m c 2 t (ix2 a k) = valZ (m ((c : Thread nD τ).loc main_arg0)) (tok t a) k := by
  unfold valZ
  blk_ext [iblk, V, idx t, tok]

theorem blk_y (c : Dev nD) (t : Fin cfg0.N) (a : Fin 256) (k : Fin 1024) :
    iblk m c 4 t (ix2 a k) = (m ((c : Thread nD τ).loc main_arg2)) (ix2 (tok t a) k) := by
  blk_ext [iblk, V, idx t, tok]

/-- The saved convolution, which the host computes. -/
theorem V_conv (c : Dev nD) : V m c main_v24
    = fun i => convAt (m ((c : Thread nD τ).loc main_arg0)) (m ((c : Thread nD τ).loc main_arg1)) (i 0) (i 1) := by
  unfold V hostOps0 hostOps0_1
  simp only [List.flatten_cons, List.flatten_nil, List.cons_append, List.nil_append, List.append_nil]
  after_results
  exact funext fun i => Cert.Reference26Ideal.SconvBwd.v23_eq (m ((c : Thread nD τ).loc main_arg0)) (m ((c : Thread nD τ).loc main_arg1)) i

theorem blk_s (c : Dev nD) (t : Fin cfg0.N) (a : Fin 256) (k : Fin 1024) :
    iblk m c 3 t (ix2 a k) = convAt (m ((c : Thread nD τ).loc main_arg0)) (m ((c : Thread nD τ).loc main_arg1)) (tok t a) k := by
  have e : (win0_3.blk t).view.emb (ix2 a k) = ix2 (tok t a) k := by blk_ext [idx t, tok]
  show V m c main_v24 ((win0_3.blk t).view.emb (ix2 a k)) = _
  rw [e, V_conv]
  rfl

theorem pad_eq (w : FVec Ideal ST .f32) (v : FVec Ideal S_ .f32) (j : Fin 3) (k : Fin 1024) :
    pad S8x1024 ![0, 0] ![5, 0] ![0, 0] w v pads_S3x1024_S8x1024_050_000 h_S_ (ix2 ⟨j.val, by omega⟩ k) = w (ix2 j k) := by
  pointwise

/-- The taps, which the host pads to eight rows. -/
theorem V_taps (c : Dev nD) (j : Fin 3) (k : Fin 1024) : V m c main_v25 (ix2 ⟨j.val, by omega⟩ k)
    = (m ((c : Thread nD τ).loc main_arg1)) (ix2 j k) := by
  unfold V hostOps0 hostOps0_1
  simp only [List.flatten_cons, List.flatten_nil, List.cons_append, List.nil_append, List.append_nil]
  after_results
  exact pad_eq _ _ j k

theorem blk_w (c : Dev nD) (t : Fin cfg0.N) (j : Fin 3) (k : Fin 1024) :
    iblk m c 5 t (ix2 ⟨j.val, by omega⟩ k) = (m ((c : Thread nD τ).loc main_arg1)) (ix2 j k) := by
  have e : (win0_5.blk t).view.emb (ix2 ⟨j.val, by omega⟩ k) = ix2 ⟨j.val, by omega⟩ k := by blk_ext [idx t]
  show V m c main_v25 ((win0_5.blk t).view.emb (ix2 ⟨j.val, by omega⟩ k)) = _
  rw [e, V_taps]

/-- The rows of a block of 264 rows. -/
theorem slab_emb (r n : ℕ) (i : ∀ a, ![r, 0] a + ![n, 1024] a ≤ S264x1024.size a) (h : r + n ≤ 264) (x : (⟨2, ![n, 1024]⟩ : Shape).Idx) :
    (Rect.unit (s := S264x1024) ![r, 0] ![n, 1024] i).emb x = ix2 ⟨r + (x 0).val, by have : (x 0).val < n := (x 0).isLt; omega⟩ (x 1) := by
  blk_ext

/-- The window at a point: the block's gradients before the eight after them. -/
def win (z : FVec Ideal SC .bf16) (dy : FVec Ideal SX .bf16) (n : ℕ) (y : S264x1024.Idx) : EReal :=
  later (dcv z dy (y 1)) ((31 - n) * 256 + (y 0).val)

theorem new_eq (c : Dev nD) (t : Fin cfg0.N) (x : S256x1024.Idx) : k0_pay10 (F := Ideal) (iblk m c 4 t) (iblk m c 0 t) x
    = dcv (m ((c : Thread nD τ).loc main_arg0)) (m ((c : Thread nD τ).loc main_arg2)) (x 1) (tok t (x 0)) := by
  unfold dcv
  have e : x = ix2 (x 0) (x 1) := by blk_ext
  pointwise [k0_pay10, k0_pay6]
  rw [mul_comm]
  exact congrArg₂ (· * ·) ((congrArg (iblk m c 0 t) e).trans (blk_b m c t (x 0) (x 1))) ((congrArg (iblk m c 4 t) e).trans (blk_y m c t (x 0) (x 1)))

/-- The stores to the window, over what the point before left. -/
abbrev pN (c : Dev nD) (t : Fin cfg0.N) : View.Piece (Elt Ideal) S264x1024 .f32 :=
  ⟨Rect.unit ![0, 0] ![256, 1024] inb_S264x1024_S256x1024_0_0, k0_pay10 (iblk m c 4 t) (iblk m c 0 t)⟩
abbrev pZ : View.Piece (Elt Ideal) S264x1024 .f32 :=
  ⟨Rect.unit ![256, 0] ![8, 1024] inb_S264x1024_S8x1024_256_0, k0_pay3 (F := Ideal)⟩
abbrev pO (X : Vec Ideal S264x1024 .f32) : View.Piece (Elt Ideal) S264x1024 .f32 :=
  ⟨Rect.unit ![256, 0] ![8, 1024] inb_S264x1024_S8x1024_256_0, k0_pay5 (View.ld X (Rect.unit ![0, 0] ![8, 1024] inb_S264x1024_S8x1024_0_0))⟩

theorem new_at (c : Dev nD) (t : Fin cfg0.N) (x : S256x1024.Idx) : k0_pay10 (F := Ideal) (iblk m c 4 t) (iblk m c 0 t) x
    = win (m ((c : Thread nD τ).loc main_arg0)) (m ((c : Thread nD τ).loc main_arg2)) t.val ((Rect.unit (s := S264x1024) ![0, 0] ![256, 1024] inb_S264x1024_S256x1024_0_0).emb x) := by
  rw [new_eq, slab_emb 0 256 _ (by decide) x]
  have h0 : (x 0).val < 256 := (x 0).isLt
  have ht := lt_of_lt_of_eq t.isLt N_0
  show _ = later _ ((31 - t.val) * 256 + (0 + (x 0).val))
  unfold later
  rw [dif_pos (by omega)]
  refine congrArg (dcv _ _ _) (Fin.ext ?_)
  show (31 - t.val) * 256 + (x 0).val = (31 - t.val) * 256 + (0 + (x 0).val)
  omega

theorem pieces_A (c : Dev nD) (t : Fin cfg0.N) (h : t.val = 0) :
    View.PiecesOf (win (m ((c : Thread nD τ).loc main_arg0)) (m ((c : Thread nD τ).loc main_arg2)) t.val) [pN m c t, pZ] := by
  refine ⟨fun x => new_at m c t x, fun x => ?_, trivial⟩
  have h0 : (x 0).val < 8 := (x 0).isLt
  rw [slab_emb 256 8 _ (by decide) x, h]
  show _ = later _ ((31 - 0) * 256 + (256 + (x 0).val))
  unfold later
  rw [dif_neg (by omega)]
  pointwise [k0_pay3]

theorem pieces_B (c : Dev nD) (t : Fin cfg0.N) (h : 1 ≤ t.val) (X : Vec Ideal S264x1024 .f32)
    (hX : X = win (m ((c : Thread nD τ).loc main_arg0)) (m ((c : Thread nD τ).loc main_arg2)) (t.val - 1)) :
    View.PiecesOf (win (m ((c : Thread nD τ).loc main_arg0)) (m ((c : Thread nD τ).loc main_arg2)) t.val) [pN m c t, pO X] := by
  refine ⟨fun x => new_at m c t x, fun x => ?_, trivial⟩
  have h0 : (x 0).val < 8 := (x 0).isLt
  have ht := lt_of_lt_of_eq t.isLt N_0
  rw [slab_emb 256 8 _ (by decide) x, hX]
  refine Eq.trans (b := win (m ((c : Thread nD τ).loc main_arg0)) (m ((c : Thread nD τ).loc main_arg2)) (t.val - 1) (ix2 ⟨(x 0).val, by omega⟩ (x 1))) ?_ ?_
  · pointwise [k0_pay5]
  · show later _ ((31 - (t.val - 1)) * 256 + (x 0).val) = later _ ((31 - t.val) * 256 + (256 + (x 0).val))
    congr 1
    omega

theorem cover (u : FVec Ideal S256x1024 .f32) (v : FVec Ideal S8x1024 .f32) (y : S264x1024.Idx) :
    ∃ p ∈ ([⟨Rect.unit ![0, 0] ![256, 1024] inb_S264x1024_S256x1024_0_0, u⟩, ⟨Rect.unit ![256, 0] ![8, 1024] inb_S264x1024_S8x1024_256_0, v⟩] :
      List (View.Piece (Elt Ideal) S264x1024 .f32)), y ∈ p.1.set := by
  have h0 : (y 0).val < 264 := (y 0).isLt
  have h1 : (y 1).val < 1024 := (y 1).isLt
  by_cases h : (y 0).val < 256
  · have e : y ∈ (Rect.unit (s := S264x1024) ![0, 0] ![256, 1024] inb_S264x1024_S256x1024_0_0).set := Rect.mem_set_unit.2 fun a => by
      match a with
      | ⟨0, _⟩ => exact ⟨Nat.zero_le _, by show (y 0).val < 0 + 256; omega⟩
      | ⟨1, _⟩ => exact ⟨Nat.zero_le _, by show (y 1).val < 0 + 1024; omega⟩
    exact ⟨_, List.mem_cons_self .., e⟩
  · have e : y ∈ (Rect.unit (s := S264x1024) ![256, 0] ![8, 1024] inb_S264x1024_S8x1024_256_0).set := Rect.mem_set_unit.2 fun a => by
      match a with
      | ⟨0, _⟩ => exact ⟨by show 256 ≤ (y 0).val; omega, by show (y 0).val < 256 + 8; omega⟩
      | ⟨1, _⟩ => exact ⟨Nat.zero_le _, by show (y 1).val < 0 + 1024; omega⟩
    exact ⟨_, List.mem_cons_of_mem _ (List.mem_singleton.2 rfl), e⟩

theorem canon_A (c : Dev nD) (t : Fin cfg0.N) (h : t.val = 0) (y : S264x1024.Idx) :
    View.canon (Val := Elt Ideal) (e := .f32) [pN m c t, pZ] y
      = win (m ((c : Thread nD τ).loc main_arg0)) (m ((c : Thread nD τ).loc main_arg2)) t.val y :=
  View.canon_apply_of_pieces _ _ (pieces_A m c t h).mem y (cover _ _ y)

theorem canon_B (c : Dev nD) (t : Fin cfg0.N) (h : 1 ≤ t.val) (X : Vec Ideal S264x1024 .f32)
    (hX : X = win (m ((c : Thread nD τ).loc main_arg0)) (m ((c : Thread nD τ).loc main_arg2)) (t.val - 1)) (y : S264x1024.Idx) :
    View.canon (Val := Elt Ideal) (e := .f32) [pN m c t, pO X] y
      = win (m ((c : Thread nD τ).loc main_arg0)) (m ((c : Thread nD τ).loc main_arg2)) t.val y :=
  View.canon_apply_of_pieces _ _ (pieces_B m c t h X hX).mem y (cover _ _ y)

/-- The window after a point's stores. -/
theorem win_eq (c : Dev nD) : ∀ (n : ℕ) (h : n < cfg0.N),
    (outsAt0 m c n h).2.2 = win (m ((c : Thread nD τ).loc main_arg0)) (m ((c : Thread nD τ).loc main_arg2)) n := by
  intro n
  induction n with
  | zero =>
    intro h
    funext y
    rw [outsAt0_A m c ⟨0, h⟩ rfl (by show ¬ 1 ≤ 0; omega)]
    frame_out
    exact canon_A m c ⟨0, h⟩ rfl y
  | succ n ih =>
    intro h
    have hN := lt_of_lt_of_eq h N_0
    funext y
    rw [outsAt0_B m c ⟨n + 1, h⟩ (by show ¬ (n + 1) % 32 = 0; omega) (by show 1 ≤ n + 1; omega)]
    frame_out
    rw [read_unread_whole]
    exact canon_B m c ⟨n + 1, h⟩ (by show 1 ≤ n + 1; omega) _ (ih _) y

/-- A load, after stores that are blocks of `G` and cover it, reads `G`. -/
theorem read_rows {sg : RefSig} {κ : Kind} {sp : Space} (v : View sg κ sp S264x1024 .f32) (G : S264x1024.Idx → EReal)
    (L : List (View.Piece (Elt Ideal) S264x1024 .f32)) (h : View.PiecesOf G L) (hc : ∀ y, ∃ p ∈ L, y ∈ p.1.set)
    (r : ℕ) (i : ∀ a, ![r, 0] a + ![256, 1024] a ≤ S264x1024.size a) (hr : r + 256 ≤ 264) (x : S256x1024.Idx) :
    v.readCov L (Rect.unit (s := S264x1024) ![r, 0] ![256, 1024] i).toLoadRect x
      = G (ix2 ⟨r + (x 0).val, by have : (x 0).val < 256 := (x 0).isLt; omega⟩ (x 1)) := by
  rw [View.readCov_eq_canon']
  refine (View.canon_apply_of_pieces G L h.mem _ (hc _)).trans (congrArg G ?_)
  exact slab_emb r 256 i hr x

section Pays

variable {sg : RefSig} {κ : Kind} {sp : Space} (v : View sg κ sp S264x1024 .f32)

/-- The three products' sum, and a row of the taps' gradient. -/
theorem pay15_eq (w : Vec Ideal S8x1024 .f32) (r2 r1 r0 : Vec Ideal S256x1024 .f32) (x : S256x1024.Idx) :
    k0_pay15 (F := Ideal) (k0_pay12 r2 (View.ld w (Rect.unit ![0, 0] ![1, 1024] inb_S8x1024_S1x1024_0_0))) r1
      (View.ld w (Rect.unit ![1, 0] ![1, 1024] inb_S8x1024_S1x1024_1_0)) r0
      (View.ld w (Rect.unit ![2, 0] ![1, 1024] inb_S8x1024_S1x1024_2_0)) x
    = w (ix2 0 (x 1)) * r2 x + w (ix2 1 (x 1)) * r1 x + w (ix2 2 (x 1)) * r0 x := by
  pointwise [k0_pay15, k0_pay12]
theorem pay17_eq (b : Vec Ideal S256x1024 .f32) (u : Vec Ideal S256x1024 .f32) (r1 : Vec Ideal S256x1024 .f32) (w1 : Vec Ideal S1x1024 .f32)
    (r0 : Vec Ideal S256x1024 .f32) (w0 : Vec Ideal S1x1024 .f32) (x : S256x1024.Idx) :
    k0_pay1 (F := Ideal) (k0_pay17 b u r1 w1 r0 w0) x = k0_pay15 u r1 w1 r0 w0 x * b x := by
  pointwise [k0_pay1, k0_pay17]
theorem pay2_eq (b u : Vec Ideal S256x1024 .f32) (x : S256x1024.Idx) : k0_pay2 (F := Ideal) b u x = u x * b x := by
  pointwise [k0_pay2]
theorem pay7_eq (b : Vec Ideal S256x1024 .bf16) (x : S256x1024.Idx) : k0_pay7 (F := Ideal) b x = b x := by
  pointwise [k0_pay7]
theorem pay8_eq (b : Vec Ideal S256x1024 .bf16) (x : S256x1024.Idx) : k0_pay8 (F := Ideal) b x = b x := by
  pointwise [k0_pay8]
theorem pay9_eq (y c : Vec Ideal S256x1024 .bf16) (x : S256x1024.Idx) : k0_pay9 (F := Ideal) y c x = y x * c x := by
  pointwise [k0_pay9, k0_pay6]
theorem pay11_eq (a b : Vec Ideal S256x1024 .bf16) (x : S256x1024.Idx) : k0_pay11 (F := Ideal) a b x = a x * b x := by
  pointwise [k0_pay11, k0_pay7, k0_pay8]
theorem pay13_eq (f u : Vec Ideal S256x1024 .f32) (p : Vec Ideal S1x1024 .f32) (k : Fin 1024) :
    k0_pay13 (F := Ideal) f u p (ix2 0 k) = p (ix2 0 k) + ∑ a : Fin 256, f (ix2 a k) * u (ix2 a k) := by
  pointwise [k0_pay13]
theorem pay14_eq (f u : Vec Ideal S256x1024 .f32) (p : Vec Ideal S1x1024 .f32) (k : Fin 1024) :
    k0_pay14 (F := Ideal) f u p (ix2 0 k) = p (ix2 0 k) + ∑ a : Fin 256, f (ix2 a k) * u (ix2 a k) := by
  pointwise [k0_pay14]
theorem pay16_eq (f u : Vec Ideal S256x1024 .f32) (p : Vec Ideal S1x1024 .f32) (k : Fin 1024) :
    k0_pay16 (F := Ideal) f u p (ix2 0 k) = p (ix2 0 k) + ∑ a : Fin 256, f (ix2 a k) * u (ix2 a k) := by
  pointwise [k0_pay16]

/-- The window's rows from `r` on are the gradients `r` tokens later. -/
theorem row_eq (z : FVec Ideal SC .bf16) (dy : FVec Ideal SX .bf16) (t : Fin cfg0.N) (L : List (View.Piece (Elt Ideal) S264x1024 .f32))
    (hL : View.PiecesOf (win z dy t.val) L) (hc : ∀ y, ∃ p ∈ L, y ∈ p.1.set)
    (r : ℕ) (i : ∀ a, ![r, 0] a + ![256, 1024] a ≤ S264x1024.size a) (h : r + 256 ≤ 264) (x : S256x1024.Idx) :
    v.readCov L (Rect.unit (s := S264x1024) ![r, 0] ![256, 1024] i).toLoadRect x = later (dcv z dy (x 1)) (r + (tok t (x 0)).val) := by
  rw [read_rows v _ L hL hc r i h x]
  show later _ ((31 - t.val) * 256 + (r + (x 0).val)) = later _ (r + ((31 - t.val) * 256 + (x 0).val))
  congr 1
  omega

/-- The gradient of the convolution's input. -/
theorem dinp_eq (c : Dev nD) (t : Fin cfg0.N) (L : List (View.Piece (Elt Ideal) S264x1024 .f32))
    (hL : View.PiecesOf (win (m ((c : Thread nD τ).loc main_arg0)) (m ((c : Thread nD τ).loc main_arg2)) t.val) L) (hc : ∀ y, ∃ p ∈ L, y ∈ p.1.set) (x : S256x1024.Idx) :
    k0_pay15 (F := Ideal) (k0_pay12 (v.readCov L (Rect.unit (s := S264x1024) ![2, 0] ![256, 1024] inb_S264x1024_S256x1024_2_0).toLoadRect)
        (View.ld (iblk m c 5 t) (Rect.unit ![0, 0] ![1, 1024] inb_S8x1024_S1x1024_0_0)))
      (v.readCov L (Rect.unit (s := S264x1024) ![1, 0] ![256, 1024] inb_S264x1024_S256x1024_1_0).toLoadRect)
      (View.ld (iblk m c 5 t) (Rect.unit ![1, 0] ![1, 1024] inb_S8x1024_S1x1024_1_0))
      (v.readCov L (Rect.unit (s := S264x1024) ![0, 0] ![256, 1024] inb_S264x1024_S256x1024_0_0).toLoadRect)
      (View.ld (iblk m c 5 t) (Rect.unit ![2, 0] ![1, 1024] inb_S8x1024_S1x1024_2_0)) x
    = dinp (m ((c : Thread nD τ).loc main_arg0)) (m ((c : Thread nD τ).loc main_arg1)) (m ((c : Thread nD τ).loc main_arg2)) (tok t (x 0)) (x 1) := by
  refine (pay15_eq (iblk m c 5 t) _ _ _ x).trans ?_
  have hw (j : Fin 3) := blk_w m c t j (x 1)
  have ht : (tok t (x 0)).val < 8192 := (tok t (x 0)).isLt
  rw [row_eq v _ _ t L hL hc 2 _ (by omega), row_eq v _ _ t L hL hc 1 _ (by omega), row_eq v _ _ t L hL hc 0 _ (by omega)]
  unfold dinp
  rw [add_comm, add_comm (_ * _) (_ * later _ (1 + _)), ← add_assoc]
  refine congrArg₂ (· + ·) (congrArg₂ (· + ·) (congrArg₂ (· * ·) (hw 2) ?_) (congrArg (· * _) (hw 1))) (congrArg (· * _) (hw 0))
  rw [Nat.zero_add]
  unfold later
  rw [dif_pos ht]

/-- A block's part of a row of the taps' gradient. -/
theorem part_eq (c : Dev nD) (t : Fin cfg0.N) (L : List (View.Piece (Elt Ideal) S264x1024 .f32))
    (hL : View.PiecesOf (win (m ((c : Thread nD τ).loc main_arg0)) (m ((c : Thread nD τ).loc main_arg2)) t.val) L) (hc : ∀ y, ∃ p ∈ L, y ∈ p.1.set)
    (r : ℕ) (i : ∀ a, ![r, 0] a + ![256, 1024] a ≤ S264x1024.size a) (h : r + 256 ≤ 264) (k : Fin 1024) :
    ∑ a : Fin 256, k0_pay11 (F := Ideal) (iblk m c 1 t) (iblk m c 2 t) (ix2 a k) * v.readCov L (Rect.unit (s := S264x1024) ![r, 0] ![256, 1024] i).toLoadRect (ix2 a k)
      = ∑ a : Fin 256, inp (m ((c : Thread nD τ).loc main_arg0)) k (tok t a)
          * later (dcv (m ((c : Thread nD τ).loc main_arg0)) (m ((c : Thread nD τ).loc main_arg2)) k) (r + (tok t a).val) :=
  Finset.sum_congr rfl fun a _ => congrArg₂ (· * ·)
    ((pay11_eq _ _ (ix2 a k)).trans (congrArg₂ (· * ·) (blk_c m c t a k) (blk_v m c t a k)))
    (row_eq v _ _ t L hL hc r i h (ix2 a k))

end Pays

/-! ## The gradients of the three parts -/

section Columns

theorem col_emb (o : ℕ) (i : ∀ a, ![0, o] a + ![256, 1024] a ≤ S256x3072.size a) (h : o + 1024 ≤ 3072) (x : S256x1024.Idx) :
    (Rect.unit (s := S256x3072) ![0, o] ![256, 1024] i).emb x = ix2 (x 0) ⟨o + (x 1).val, by have : (x 1).val < 1024 := (x 1).isLt; omega⟩ := by
  blk_ext

theorem col_mem (o : ℕ) (i : ∀ a, ![0, o] a + ![256, 1024] a ≤ S256x3072.size a) (y : S256x3072.Idx) (h : o ≤ (y 1).val) (h' : (y 1).val < o + 1024) :
    y ∈ (Rect.unit (s := S256x3072) ![0, o] ![256, 1024] i).set := Rect.mem_set_unit.2 fun a => by
  have h0 : (y 0).val < 256 := (y 0).isLt
  match a with
  | ⟨0, _⟩ => exact ⟨Nat.zero_le _, by show (y 0).val < 0 + 256; omega⟩
  | ⟨1, _⟩ => exact ⟨h, h'⟩

variable (z : FVec Ideal SC .bf16) (w : FVec Ideal ST .f32) (dy : FVec Ideal SX .bf16)

abbrev cHi (u : FVec Ideal S256x1024 .bf16) : View.Piece (Elt Ideal) S256x3072 .bf16 := ⟨Rect.unit ![0, 2048] ![256, 1024] inb_S256x3072_S256x1024_0_2048, u⟩
abbrev cMid (u : FVec Ideal S256x1024 .bf16) : View.Piece (Elt Ideal) S256x3072 .bf16 := ⟨Rect.unit ![0, 1024] ![256, 1024] inb_S256x3072_S256x1024_0_1024, u⟩
abbrev cLo (u : FVec Ideal S256x1024 .bf16) : View.Piece (Elt Ideal) S256x3072 .bf16 := ⟨Rect.unit ![0, 0] ![256, 1024] inb_S256x3072_S256x1024_0_0, u⟩

theorem dz_cols (t : Fin 256 → Fin 8192) (a b d : FVec Ideal S256x1024 .bf16)
    (hd : ∀ x, d x = dy (ix2 (t (x 0)) (x 1)) * convAt z w (t (x 0)) (x 1))
    (hb : ∀ x, b x = dinp z w dy (t (x 0)) (x 1) * valZ z (t (x 0)) (x 1))
    (ha : ∀ x, a x = gateC z (t (x 0)) (x 1) * dinp z w dy (t (x 0)) (x 1)) (y : S256x3072.Idx) :
    View.canon [cHi a, cMid b, cLo d] y = dzAt z w dy (t (y 0)) (y 1) := by
  have hp : View.PiecesOf (fun y : S256x3072.Idx => dzAt z w dy (t (y 0)) (y 1)) [cHi a, cMid b, cLo d] := by
    refine ⟨fun x => ?_, fun x => ?_, fun x => ?_, trivial⟩
    · have h1 : (x 1).val < 1024 := (x 1).isLt
      rw [col_emb 2048 _ (by decide) x]
      refine (ha x).trans ?_
      show _ = dzAt z w dy (t (x 0)) ⟨2048 + (x 1).val, _⟩
      unfold dzAt
      rw [dif_neg (by show ¬ 2048 + (x 1).val < 1024; omega), dif_neg (by show ¬ 2048 + (x 1).val < 2048; omega)]
      have e : (⟨2048 + (x 1).val - 2048, by omega⟩ : Fin 1024) = x 1 := Fin.ext (by show 2048 + (x 1).val - 2048 = (x 1).val; omega)
      exact congrArg (fun k => gateC z (t (x 0)) k * dinp z w dy (t (x 0)) k) e.symm
    · have h1 : (x 1).val < 1024 := (x 1).isLt
      rw [col_emb 1024 _ (by decide) x]
      refine (hb x).trans ?_
      show _ = dzAt z w dy (t (x 0)) ⟨1024 + (x 1).val, _⟩
      unfold dzAt
      rw [dif_neg (by show ¬ 1024 + (x 1).val < 1024; omega), dif_pos (by show 1024 + (x 1).val < 2048; omega)]
      have e : (⟨1024 + (x 1).val - 1024, by omega⟩ : Fin 1024) = x 1 := Fin.ext (by show 1024 + (x 1).val - 1024 = (x 1).val; omega)
      exact congrArg (fun k => dinp z w dy (t (x 0)) k * valZ z (t (x 0)) k) e.symm
    · have h1 : (x 1).val < 1024 := (x 1).isLt
      rw [col_emb 0 _ (by decide) x]
      refine (hd x).trans ?_
      show _ = dzAt z w dy (t (x 0)) ⟨0 + (x 1).val, _⟩
      unfold dzAt
      rw [dif_pos (by show 0 + (x 1).val < 1024; omega)]
      have e : (⟨0 + (x 1).val, by omega⟩ : Fin 1024) = x 1 := Fin.ext (by show 0 + (x 1).val = (x 1).val; omega)
      exact congrArg (fun k => dy (ix2 (t (x 0)) k) * convAt z w (t (x 0)) k) e.symm
  refine View.canon_apply_of_pieces (fun y : S256x3072.Idx => dzAt z w dy (t (y 0)) (y 1)) [cHi a, cMid b, cLo d] hp.mem y ?_
  have h1 : (y 1).val < 3072 := (y 1).isLt
  by_cases h : (y 1).val < 1024
  · exact ⟨cLo d, List.mem_cons_of_mem _ (List.mem_cons_of_mem _ (List.mem_singleton.2 rfl)), col_mem 0 inb_S256x3072_S256x1024_0_0 y (by omega) (by omega)⟩
  · by_cases h' : (y 1).val < 2048
    · exact ⟨cMid b, List.mem_cons_of_mem _ (List.mem_cons_self ..), col_mem 1024 inb_S256x3072_S256x1024_0_1024 y (by omega) (by omega)⟩
    · exact ⟨cHi a, List.mem_cons_self .., col_mem 2048 inb_S256x3072_S256x1024_0_2048 y (by omega) (by omega)⟩

end Columns

theorem dz_eq {sg : RefSig} {κ : Kind} {sp : Space} (v : View sg κ sp S264x1024 .f32) (c : Dev nD) (t : Fin cfg0.N) (L : List (View.Piece (Elt Ideal) S264x1024 .f32))
    (hL : View.PiecesOf (win (m ((c : Thread nD τ).loc main_arg0)) (m ((c : Thread nD τ).loc main_arg2)) t.val) L) (hc : ∀ y, ∃ p ∈ L, y ∈ p.1.set) (y : S256x3072.Idx) :
    View.canon [cHi
        (k0_pay2 (k0_pay7 (iblk m c 1 t)) (k0_pay15 (k0_pay12 (v.readCov L (Rect.unit (s := S264x1024) ![2, 0] ![256, 1024] inb_S264x1024_S256x1024_2_0).toLoadRect)
            (View.ld (iblk m c 5 t) (Rect.unit ![0, 0] ![1, 1024] inb_S8x1024_S1x1024_0_0)))
          (v.readCov L (Rect.unit (s := S264x1024) ![1, 0] ![256, 1024] inb_S264x1024_S256x1024_1_0).toLoadRect)
          (View.ld (iblk m c 5 t) (Rect.unit ![1, 0] ![1, 1024] inb_S8x1024_S1x1024_1_0))
          (v.readCov L (Rect.unit (s := S264x1024) ![0, 0] ![256, 1024] inb_S264x1024_S256x1024_0_0).toLoadRect)
          (View.ld (iblk m c 5 t) (Rect.unit ![2, 0] ![1, 1024] inb_S8x1024_S1x1024_2_0)))),
      cMid
        (k0_pay1 (k0_pay17 (k0_pay8 (iblk m c 2 t)) (k0_pay12 (v.readCov L (Rect.unit (s := S264x1024) ![2, 0] ![256, 1024] inb_S264x1024_S256x1024_2_0).toLoadRect)
            (View.ld (iblk m c 5 t) (Rect.unit ![0, 0] ![1, 1024] inb_S8x1024_S1x1024_0_0)))
          (v.readCov L (Rect.unit (s := S264x1024) ![1, 0] ![256, 1024] inb_S264x1024_S256x1024_1_0).toLoadRect)
          (View.ld (iblk m c 5 t) (Rect.unit ![1, 0] ![1, 1024] inb_S8x1024_S1x1024_1_0))
          (v.readCov L (Rect.unit (s := S264x1024) ![0, 0] ![256, 1024] inb_S264x1024_S256x1024_0_0).toLoadRect)
          (View.ld (iblk m c 5 t) (Rect.unit ![2, 0] ![1, 1024] inb_S8x1024_S1x1024_2_0)))),
      cLo (k0_pay9 (iblk m c 4 t) (iblk m c 3 t))] y
    = dzAt (m ((c : Thread nD τ).loc main_arg0)) (m ((c : Thread nD τ).loc main_arg1)) (m ((c : Thread nD τ).loc main_arg2)) (tok t (y 0)) (y 1) := by
  have e (x : S256x1024.Idx) : x = ix2 (x 0) (x 1) := by blk_ext
  refine dz_cols _ _ _ (tok t) _ _ _ (fun x => ?_) (fun x => ?_) (fun x => ?_) y
  · exact (pay9_eq _ _ x).trans (congrArg₂ (· * ·) ((congrArg (iblk m c 4 t) (e x)).trans (blk_y m c t (x 0) (x 1)))
      ((congrArg (iblk m c 3 t) (e x)).trans (blk_s m c t (x 0) (x 1))))
  · exact (pay17_eq _ _ _ _ _ _ x).trans (congrArg₂ (· * ·) (dinp_eq m v c t L hL hc x)
      ((pay8_eq _ x).trans ((congrArg (iblk m c 2 t) (e x)).trans (blk_v m c t (x 0) (x 1)))))
  · exact (pay2_eq _ _ x).trans ((congrArg₂ (· * ·) (dinp_eq m v c t L hL hc x)
      ((pay7_eq _ x).trans ((congrArg (iblk m c 1 t) (e x)).trans (blk_c m c t (x 0) (x 1))))).trans (mul_comm _ _))

theorem out_dz (c : Dev nD) (t : Fin cfg0.N) (y : S256x3072.Idx) : (outsAt0 m c t.val t.isLt).1 y
    = dzAt (m ((c : Thread nD τ).loc main_arg0)) (m ((c : Thread nD τ).loc main_arg1)) (m ((c : Thread nD τ).loc main_arg2)) (tok t (y 0)) (y 1) := by
  have hN := lt_of_lt_of_eq t.isLt N_0
  by_cases h : t.val = 0
  · rw [outsAt0_A m c t (by omega) (by omega)]
    frame_out
    exact dz_eq m (View.whole cc0_scratch0) c t [pN m c t, pZ] (pieces_A m c t h) (cover _ _) y
  · have h1 : 1 ≤ t.val := by omega
    rw [outsAt0_B m c t (by omega) h1]
    frame_out
    rw [read_unread_whole]
    exact dz_eq m (View.whole cc0_scratch0) c t [pN m c t, pO _] (pieces_B m c t h1 _ (win_eq m c _ _)) (cover _ _) y

theorem final6 (c : Dev nD) : (dats m 0 c).arrAt 6 cfg0.N
    = fun i => dzAt (m ((c : Thread nD τ).loc main_arg0)) (m ((c : Thread nD τ).loc main_arg1)) (m ((c : Thread nD τ).loc main_arg2)) (i 0) (i 1) := by
  refine (dats m 0 c).arrAt_eq_of_covers 6 _ (by decide +kernel) fun t hf y => ?_
  blk_simp
  rw [after0_6]
  refine (out_dz m c t y).trans ?_
  have e : (win0_6.blk t).view.emb y = ix2 (tok t (y 0)) (y 1) := by blk_ext [idx t, tok]
  rw [e]
  rfl

/-! ## The gradient of the taps -/

section Rows

variable {sg : RefSig} {κ : Kind} {sp : Space} (v : View sg κ sp S8x1024 .f32)

abbrev pRow0 (u : FVec Ideal S1x1024 .f32) : View.Piece (Elt Ideal) S8x1024 .f32 := ⟨Rect.unit ![0, 0] ![1, 1024] inb_S8x1024_S1x1024_0_0, u⟩
abbrev pRow1 (u : FVec Ideal S1x1024 .f32) : View.Piece (Elt Ideal) S8x1024 .f32 := ⟨Rect.unit ![1, 0] ![1, 1024] inb_S8x1024_S1x1024_1_0, u⟩
abbrev pRow2 (u : FVec Ideal S1x1024 .f32) : View.Piece (Elt Ideal) S8x1024 .f32 := ⟨Rect.unit ![2, 0] ![1, 1024] inb_S8x1024_S1x1024_2_0, u⟩
abbrev pFill : View.Piece (Elt Ideal) S8x1024 .f32 := ⟨Rect.unit ![0, 0] ![8, 1024] inb_S8x1024_S8x1024_0_0, k0_pay4 (F := Ideal)⟩

theorem fill_zero (y : S8x1024.Idx) : View.canon [pFill] y = 0 := by
  have e : y = (Rect.unit (s := S8x1024) ![0, 0] ![8, 1024] inb_S8x1024_S8x1024_0_0).emb y := by blk_ext
  rw [e]
  refine (View.canon_cons_emb (Val := Elt Ideal) (e := .f32) (Rect.unit (s := S8x1024) ![0, 0] ![8, 1024] inb_S8x1024_S8x1024_0_0) (k0_pay4 (F := Ideal)) [] y).trans ?_
  pointwise [k0_pay4]

/-- A place that a row's store does not touch. -/
theorem row_miss (j : ℕ) (i : ∀ a, ![j, 0] a + ![1, 1024] a ≤ S8x1024.size a) (y : S8x1024.Idx) (h : (y 0).val ≠ j) :
    y ∉ (Rect.unit (s := S8x1024) ![j, 0] ![1, 1024] i).set := fun hy => by
  have h0 := Rect.mem_set_unit.1 hy 0
  have h1 : j ≤ (y 0).val := h0.1
  have h2 : (y 0).val < j + 1 := h0.2
  omega

theorem row_emb (j : ℕ) (i : ∀ a, ![j, 0] a + ![1, 1024] a ≤ S8x1024.size a) (h : j < 8) (k : Fin 1024) :
    (Rect.unit (s := S8x1024) ![j, 0] ![1, 1024] i).emb (ix2 0 k) = ix2 ⟨j, h⟩ k := by
  blk_ext

theorem row_hit (f : v.ty.Contents (Elt Ideal)) (j : ℕ) (i : ∀ a, ![j, 0] a + ![1, 1024] a ≤ S8x1024.size a) (h : j < 8) (u : FVec Ideal S1x1024 .f32)
    (L : List (View.Piece (Elt Ideal) S8x1024 .f32)) (y : S8x1024.Idx) (hy : (y 0).val = j) :
    v.read (Elt Ideal) (v.writes (Elt Ideal) f (⟨Rect.unit ![j, 0] ![1, 1024] i, u⟩ :: L)) y = u (ix2 0 (y 1)) :=
  View.read_writes_cons_hit v f (Rect.unit (s := S8x1024) ![j, 0] ![1, 1024] i) u L (ix2 0 (y 1)) y
    ((row_emb j i h (y 1)).trans (by blk_ext [hy]))

theorem row_pass (f : v.ty.Contents (Elt Ideal)) (j : ℕ) (i : ∀ a, ![j, 0] a + ![1, 1024] a ≤ S8x1024.size a) (u : FVec Ideal S1x1024 .f32)
    (L : List (View.Piece (Elt Ideal) S8x1024 .f32)) (y : S8x1024.Idx) (hy : (y 0).val ≠ j) :
    v.read (Elt Ideal) (v.writes (Elt Ideal) f (⟨Rect.unit ![j, 0] ![1, 1024] i, u⟩ :: L)) y = v.read (Elt Ideal) (v.writes (Elt Ideal) f L) y :=
  View.read_writes_cons_miss v f ⟨Rect.unit (s := S8x1024) ![j, 0] ![1, 1024] i, u⟩ L y (row_miss j i y hy)

theorem canon_pass (p : View.Piece (Elt Ideal) S8x1024 .f32) (L : List (View.Piece (Elt Ideal) S8x1024 .f32)) (y : S8x1024.Idx) (hy : y ∉ p.1.set) :
    View.canon (p :: L) y = View.canon L y := View.canon_cons_of_not_mem p L hy

/-- Three rows stored over what was there. -/
theorem rows_read (f : v.ty.Contents (Elt Ideal)) (u2 u1 u0 : FVec Ideal S1x1024 .f32) (G : S8x1024.Idx → EReal) (y : S8x1024.Idx)
    (h2 : (y 0).val = 2 → u2 (ix2 0 (y 1)) = G y) (h1 : (y 0).val = 1 → u1 (ix2 0 (y 1)) = G y) (h0 : (y 0).val = 0 → u0 (ix2 0 (y 1)) = G y)
    (hf : 3 ≤ (y 0).val → v.read (Elt Ideal) f y = G y) :
    v.read (Elt Ideal) (v.writes (Elt Ideal) f [pRow2 u2, pRow1 u1, pRow0 u0]) y = G y := by
  by_cases e2 : (y 0).val = 2
  · exact (row_hit v f 2 _ (by decide) u2 _ y e2).trans (h2 e2)
  refine (row_pass v f 2 _ u2 _ y e2).trans ?_
  by_cases e1 : (y 0).val = 1
  · exact (row_hit v f 1 _ (by decide) u1 _ y e1).trans (h1 e1)
  refine (row_pass v f 1 _ u1 _ y e1).trans ?_
  by_cases e0 : (y 0).val = 0
  · exact (row_hit v f 0 _ (by decide) u0 _ y e0).trans (h0 e0)
  exact (row_pass v f 0 _ u0 _ y e0).trans (hf (by omega))

/-- What the three loads read of the zeros. -/
theorem read0 : v.readCov [pFill] (Rect.unit (s := S8x1024) ![0, 0] ![1, 1024] inb_S8x1024_S1x1024_0_0).toLoadRect = fun _ => 0 := by
  rw [View.readCov_eq_canon']
  exact funext fun x => fill_zero _
theorem read1 (u0 : FVec Ideal S1x1024 .f32) :
    v.readCov [pRow0 u0, pFill] (Rect.unit (s := S8x1024) ![1, 0] ![1, 1024] inb_S8x1024_S1x1024_1_0).toLoadRect = fun _ => 0 := by
  rw [View.readCov_eq_canon']
  refine funext fun x => ?_
  exact (canon_pass (pRow0 u0) [pFill] _ (row_miss 0 inb_S8x1024_S1x1024_0_0 _ (by show 1 + 1 * (x 0).val ≠ 0; omega))).trans (fill_zero _)
theorem read2 (u1 u0 : FVec Ideal S1x1024 .f32) :
    v.readCov [pRow1 u1, pRow0 u0, pFill] (Rect.unit (s := S8x1024) ![2, 0] ![1, 1024] inb_S8x1024_S1x1024_2_0).toLoadRect = fun _ => 0 := by
  rw [View.readCov_eq_canon']
  refine funext fun x => ?_
  have hx : (x 0).val < 1 := (x 0).isLt
  exact (canon_pass (pRow1 u1) [pRow0 u0, pFill] _ (row_miss 1 inb_S8x1024_S1x1024_1_0 _ (by show 2 + 1 * (x 0).val ≠ 1; omega))).trans
    ((canon_pass (pRow0 u0) [pFill] _ (row_miss 0 inb_S8x1024_S1x1024_0_0 _ (by show 2 + 1 * (x 0).val ≠ 0; omega))).trans (fill_zero _))

end Rows

/-- What one block of tokens adds to the taps' gradient. -/
def part (z : FVec Ideal SC .bf16) (dy : FVec Ideal SX .bf16) (t : Fin cfg0.N) (y : S8x1024.Idx) : EReal :=
  if (y 0).val < 3 then ∑ a : Fin 256, inp z (y 1) (tok t a) * later (dcv z dy (y 1)) (2 - (y 0).val + (tok t a).val) else 0

theorem rows_step {sg : RefSig} {κ : Kind} {sp : Space} (v : View sg κ sp S264x1024 .f32) {sg' : RefSig} {κ' : Kind} {sp' : Space} (v' : View sg' κ' sp' S8x1024 .f32)
    (c : Dev nD) (t : Fin cfg0.N) (L : List (View.Piece (Elt Ideal) S264x1024 .f32))
    (hL : View.PiecesOf (win (m ((c : Thread nD τ).loc main_arg0)) (m ((c : Thread nD τ).loc main_arg2)) t.val) L) (hc : ∀ y, ∃ p ∈ L, y ∈ p.1.set)
    (f : v'.ty.Contents (Elt Ideal)) (X : S8x1024.Idx → EReal) (p2 p1 p0 : FVec Ideal S1x1024 .f32)
    (h2 : ∀ y : S8x1024.Idx, (y 0).val = 2 → p2 (ix2 0 (y 1)) = X y) (h1 : ∀ y : S8x1024.Idx, (y 0).val = 1 → p1 (ix2 0 (y 1)) = X y)
    (h0 : ∀ y : S8x1024.Idx, (y 0).val = 0 → p0 (ix2 0 (y 1)) = X y) (hf : ∀ y, v'.read (Elt Ideal) f y = X y) (y : S8x1024.Idx) :
    v'.read (Elt Ideal) (v'.writes (Elt Ideal) f [
      pRow2 (k0_pay16 (k0_pay11 (iblk m c 1 t) (iblk m c 2 t)) (v.readCov L (Rect.unit (s := S264x1024) ![0, 0] ![256, 1024] inb_S264x1024_S256x1024_0_0).toLoadRect) p2),
      pRow1 (k0_pay14 (k0_pay11 (iblk m c 1 t) (iblk m c 2 t)) (v.readCov L (Rect.unit (s := S264x1024) ![1, 0] ![256, 1024] inb_S264x1024_S256x1024_1_0).toLoadRect) p1),
      pRow0 (k0_pay13 (k0_pay11 (iblk m c 1 t) (iblk m c 2 t)) (v.readCov L (Rect.unit (s := S264x1024) ![2, 0] ![256, 1024] inb_S264x1024_S256x1024_2_0).toLoadRect) p0)]) y
    = X y + part (m ((c : Thread nD τ).loc main_arg0)) (m ((c : Thread nD τ).loc main_arg2)) t y := by
  refine rows_read v' f _ _ _ (fun y => X y + part (m ((c : Thread nD τ).loc main_arg0)) (m ((c : Thread nD τ).loc main_arg2)) t y) y
    (fun e => ?_) (fun e => ?_) (fun e => ?_) fun e => ?_
  · refine (pay16_eq _ _ _ (y 1)).trans (congrArg₂ (· + ·) (h2 y e) ((part_eq m v c t L hL hc 0 _ (by decide) (y 1)).trans ?_))
    unfold part
    rw [if_pos (by omega), e]
  · refine (pay14_eq _ _ _ (y 1)).trans (congrArg₂ (· + ·) (h1 y e) ((part_eq m v c t L hL hc 1 _ (by decide) (y 1)).trans ?_))
    unfold part
    rw [if_pos (by omega), e]
  · refine (pay13_eq _ _ _ (y 1)).trans (congrArg₂ (· + ·) (h0 y e) ((part_eq m v c t L hL hc 2 _ (by decide) (y 1)).trans ?_))
    unfold part
    rw [if_pos (by omega), e]
  · refine (hf y).trans ?_
    show X y = X y + part _ _ t y
    unfold part
    rw [if_neg (by omega), add_zero]

theorem ld_row (X : FVec Ideal S8x1024 .f32) (j : ℕ) (i : ∀ a, ![j, 0] a + ![1, 1024] a ≤ S8x1024.size a) (h : j < 8) (y : S8x1024.Idx) (e : (y 0).val = j) :
    View.ld (Val := Elt Ideal) (e' := .f32) X (Rect.unit ![j, 0] ![1, 1024] i) (ix2 0 (y 1)) = X y :=
  congrArg X ((row_emb j i h (y 1)).trans (by blk_ext [e]))

theorem step_B (c : Dev nD) (t : Fin cfg0.N) (h : 1 ≤ t.val) (y : S8x1024.Idx) : (outsAt0 m c t.val t.isLt).2.1 y
    = (outsAt0 m c (t.val - 1) (lt_of_le_of_lt (Nat.sub_le _ _) t.isLt)).2.1 y
      + part (m ((c : Thread nD τ).loc main_arg0)) (m ((c : Thread nD τ).loc main_arg2)) t y := by
  have hN := lt_of_lt_of_eq t.isLt N_0
  rw [outsAt0_B m c t (by omega) h]
  frame_out
  rw [read_unread_whole]
  refine rows_step m (View.whole cc0_scratch0) (ms0_7 t).view c t [pN m c t, pO _] (pieces_B m c t h _ (win_eq m c _ _)) (cover _ _) _ _ _ _ _
    (fun y e => ?_) (fun y e => ?_) (fun y e => ?_) (fun y => ?_) y
  · exact ld_row _ 2 _ (by decide) y e
  · exact ld_row _ 1 _ (by decide) y e
  · exact ld_row _ 0 _ (by decide) y e
  · exact congrFun (Memref.IsWhole.read_unread _ _) y

theorem rows_fill {sg' : RefSig} {κ' : Kind} {sp' : Space} (v' : View sg' κ' sp' S8x1024 .f32) (u2 u1 u0 : FVec Ideal S1x1024 .f32) (y : S8x1024.Idx) :
    View.canon [pRow2 u2, pRow1 u1, pRow0 u0, pFill] y
      = v'.read (Elt Ideal) (v'.writes (Elt Ideal) (v'.writes (Elt Ideal) v'.junk [pFill]) [pRow2 u2, pRow1 u1, pRow0 u0]) y :=
  (View.read_writes_junk_apply_eq_canon v' y [pRow2 u2, pRow1 u1, pRow0 u0, pFill]).symm

theorem step_A (c : Dev nD) (t : Fin cfg0.N) (h : t.val = 0) (y : S8x1024.Idx) : (outsAt0 m c t.val t.isLt).2.1 y
    = 0 + part (m ((c : Thread nD τ).loc main_arg0)) (m ((c : Thread nD τ).loc main_arg2)) t y := by
  have hN := lt_of_lt_of_eq t.isLt N_0
  rw [outsAt0_A m c t (by omega) (by omega)]
  frame_out
  rw [read0, read1, read2]
  refine (rows_fill (ms0_7 t).view _ _ _ y).trans ?_
  exact rows_step m (View.whole cc0_scratch0) _ c t [pN m c t, pZ] (pieces_A m c t h) (cover _ _) _ (fun _ => 0) (fun _ => 0) (fun _ => 0) (fun _ => 0)
    (fun y e => rfl) (fun y e => rfl) (fun y e => rfl) (fun y => (View.read_writes_junk_apply_eq_canon _ y [pFill]).trans (fill_zero y)) y

/-- The taps' gradient after the last point: the sum over the blocks. -/
theorem acc_dw (c : Dev nD) (t : Fin cfg0.N) (hf : t.val % 32 = 32 - 1) (y : S8x1024.Idx) : (outsAt0 m c t.val t.isLt).2.1 y
    = ∑ s : Fin 32, (fun t : Fin cfg0.N => part (m ((c : Thread nD τ).loc main_arg0)) (m ((c : Thread nD τ).loc main_arg2)) t y)
        ⟨32 * (t.val / 32) + s.val, Pipeline.run_point_lt_of_flush t hf s⟩ := by
  rw [Pipeline.eq_sum_fin_of_reset_step_apply_of_flush (fun n h => (outsAt0 m c n h).2.1) 32 (fun _ => (0 : EReal))
    (fun t y => part (m ((c : Thread nD τ).loc main_arg0)) (m ((c : Thread nD τ).loc main_arg2)) t y)
    (fun t h y => step_A m c t (by have := lt_of_lt_of_eq t.isLt N_0; omega) y)
    (fun t h y => step_B m c t (by omega) y) t hf y, zero_add]

/-- The blocks come last token first, and cover the tokens. -/
theorem tok_sum (F : Fin 8192 → EReal) : ∑ s : Fin 32, ∑ a : Fin 256, F (tok ⟨s.val, lt_of_lt_of_eq s.isLt N_0.symm⟩ a) = ∑ t : Fin 8192, F t := by
  refine Eq.trans (b := ∑ s : Fin 32, ∑ a : Fin 256, F ⟨s.val * 256 + a.val, by have := s.isLt; have := a.isLt; omega⟩) ?_ ?_
  · refine (Equiv.sum_comp Fin.revPerm (fun s : Fin 32 => ∑ a : Fin 256, F (tok ⟨s.val, lt_of_lt_of_eq s.isLt N_0.symm⟩ a))).symm.trans ?_
    refine Finset.sum_congr rfl fun s _ => Finset.sum_congr rfl fun a _ => congrArg F (Fin.ext ?_)
    have hs := s.isLt
    show (31 - (32 - (s.val + 1))) * 256 + a.val = s.val * 256 + a.val
    have e : 31 - (32 - (s.val + 1)) = s.val := by omega
    rw [e]
  · exact Fin.sum_mul_add_congr (F := fun (s : Fin 32) (a : Fin 256) => F ⟨s.val * 256 + a.val, by have := s.isLt; have := a.isLt; omega⟩) (fun s k hl => rfl)

theorem part_sum (z : FVec Ideal SC .bf16) (dy : FVec Ideal SX .bf16) (y : S8x1024.Idx) :
    ∑ s : Fin 32, part z dy ⟨s.val, lt_of_lt_of_eq s.isLt N_0.symm⟩ y = dwAt z dy (y 0) (y 1) := by
  unfold part dwAt
  by_cases h : (y 0).val < 3
  · rw [if_pos h]
    refine (Finset.sum_congr rfl fun s _ => if_pos h).trans ?_
    refine (tok_sum fun t => inp z (y 1) t * later (dcv z dy (y 1)) (2 - (y 0).val + t.val)).trans ?_
    exact sum_shift (inp z (y 1)) (dcv z dy (y 1)) (2 - (y 0).val) (y 0).val (by omega)
  · rw [if_neg h]
    exact Finset.sum_eq_zero fun s _ => if_neg h

theorem out_dw (c : Dev nD) (t : Fin cfg0.N) (hf : t.val % 32 = 32 - 1) (y : S8x1024.Idx) : (outsAt0 m c t.val t.isLt).2.1 y
    = dwAt (m ((c : Thread nD τ).loc main_arg0)) (m ((c : Thread nD τ).loc main_arg2)) (y 0) (y 1) := by
  refine (acc_dw m c t hf y).trans ((Finset.sum_congr rfl fun s _ => ?_).trans (part_sum _ _ y))
  have hN := lt_of_lt_of_eq t.isLt N_0
  have e : (⟨32 * (t.val / 32) + s.val, Pipeline.run_point_lt_of_flush t hf s⟩ : Fin cfg0.N)
    = ⟨s.val, lt_of_lt_of_eq s.isLt N_0.symm⟩ := Fin.ext (by show 32 * (t.val / 32) + s.val = s.val; omega)
  exact congrArg (fun t => part _ _ t y) e

theorem final7 (c : Dev nD) : (dats m 0 c).arrAt 7 cfg0.N
    = fun i => dwAt (m ((c : Thread nD τ).loc main_arg0)) (m ((c : Thread nD τ).loc main_arg2)) (i 0) (i 1) := by
  refine (dats m 0 c).arrAt_eq_of_covers 7 _ (by decide +kernel) fun t hf y => ?_
  blk_simp
  rw [after0_7]
  refine (out_dw m c t ((flush0_7 t).mp hf) y).trans ?_
  have e : (win0_7.blk t).view.emb y = ix2 (y 0) (y 1) := by blk_ext [idx t]
  rw [e]
  rfl

end Cert.Kernel26Ideal.SconvBwd

namespace Cert.Proof.SconvBwd

open Cert.Spec

/-- The kernel's three arrays. -/
def Same (m : (ℓ : Loc Cert.Kernel26Ideal.nD Cert.Kernel26Ideal.τ Cert.Kernel26Ideal.sig) → Buf (Elt Ideal) ℓ) (c : Dev Cert.Kernel26Ideal.nD)
    (x0 : FVec Ideal SC .bf16) (x1 : FVec Ideal ST .f32) (x2 : FVec Ideal SX .bf16) : Prop :=
  x0 = m ((c.tc : Thread Cert.Kernel26Ideal.nD Cert.Kernel26Ideal.τ).loc Cert.Kernel26Ideal.main_arg0)
    ∧ x1 = m ((c.tc : Thread Cert.Kernel26Ideal.nD Cert.Kernel26Ideal.τ).loc Cert.Kernel26Ideal.main_arg1)
    ∧ x2 = m ((c.tc : Thread Cert.Kernel26Ideal.nD Cert.Kernel26Ideal.τ).loc Cert.Kernel26Ideal.main_arg2)

section Results

variable {m : (ℓ : Loc Cert.Kernel26Ideal.nD Cert.Kernel26Ideal.τ Cert.Kernel26Ideal.sig) → Buf (Elt Ideal) ℓ}
  {x0 : FVec Ideal SC .bf16} {x1 : FVec Ideal ST .f32} {x2 : FVec Ideal SX .bf16}

theorem dz {c : Dev Cert.Kernel26Ideal.nD} (h : Same m c x0 x1 x2) :
    (fun i => dzAt x0 x1 x2 (i 0) (i 1)) = (Cert.Kernel26Ideal.Gen.dats m 0 c).arrAt 6 Cert.Kernel26Ideal.cfg0.N := by
  obtain ⟨rfl, rfl, rfl⟩ := h
  exact (Cert.Kernel26Ideal.SconvBwd.final6 m c).symm

theorem dw {c : Dev Cert.Kernel26Ideal.nD} (h : Same m c x0 x1 x2) :
    (fun i => dwAt x0 x2 (i 0) (i 1)) = (Cert.Kernel26Ideal.Gen.dats m 0 c).arrAt 7 Cert.Kernel26Ideal.cfg0.N := by
  obtain ⟨rfl, rfl, rfl⟩ := h
  exact (Cert.Kernel26Ideal.SconvBwd.final7 m c).symm

end Results

theorem algebraic : Cert.algebraic_Kernel26Ideal_Reference26Ideal := by
  intro m g m' g' _ hagree
  refine ⟨_, _, Cert.Kernel26Ideal.Value.run_blocks m g, ?_⟩
  refine θ_run_mono (Cert.Reference26Ideal.SconvBwd.run m' g') fun r h c => ?_
  have e : Same m c _ _ _ := hagree c
  exact ⟨(h c).1.trans (dz e), (h c).2.1.trans (dw e), (h c).2.2⟩

end Cert.Proof.SconvBwd

end
-- ==== Proof.Adam.lean ====
/-
  One step of the optimiser on one element: the new moments and the step, and the gradient as the sum of two parts.
-/
module

public import proofs.«01_k».proof.Proof.Spec
public import Idealize.ShloMosaic.Lib.Claim

@[expose] public section

noncomputable section

namespace Cert.Spec.Adam

open Idealize.ShloMosaic Cert.Spec

/-- The new first moment. -/
def newM (g m : EReal) : EReal := lit 0x3F666666#32 * m + lit 0x3DCCCCCD#32 * g
/-- The new second moment. -/
def newV (g v : EReal) : EReal := lit 0x3F7FBE77#32 * v + lit 0x3A83126F#32 * (g * g)
/-- The step: the learning rate times the first moment over the root of the second, each without its bias, and the decay. -/
def delta (w g m v : EReal) : EReal :=
  lit 0xBA83126F#32 * (Ideal.div (Ideal.div (newM g m) (lit 0x3F26BD02#32))
      (Ideal.sqrt (Ideal.div (newV g v) (lit 0x3C231ACC#32)) + lit 0x322BCC77#32) + lit 0x3C23D70A#32 * w)

/-- The gradient of a weight of one layer: the sum of its two parts. -/
def grad1 {S : Shape} (a b : S.Idx → EReal) (i : S.Idx) : EReal := a i + b i

/-- The gradient of a weight of two layers: in each, the sum of its two parts. -/
def grad2 {A B : ℕ} (a0 b0 a1 b1 : (⟨3, ![1, A, B]⟩ : Shape).Idx → EReal) (i : (⟨3, ![2, A, B]⟩ : Shape).Idx) : EReal :=
  if (i 0).val = 0 then a0 (ix3 0 (i 1) (i 2)) + b0 (ix3 0 (i 1) (i 2)) else a1 (ix3 0 (i 1) (i 2)) + b1 (ix3 0 (i 1) (i 2))

end Cert.Spec.Adam

end
-- ==== Proof.Adam27.lean ====
/-
  The optimiser's call for the gate and up weights: what the kernel leaves in its four arrays, what the reference computes, and that
  the two are the same.
-/
module

public import proofs.«01_k».proof.Defs
public import proofs.«01_k».proof.Proof.Gen.Kernel27Ideal.Value
public import proofs.«01_k».proof.Proof.Gen.Reference27Ideal.Read
public import proofs.«01_k».proof.Proof.Adam
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Reference27Ideal.Adam

open Cert.Reference27Ideal Cert.Reference27Ideal.Gen Cert.Reference27Ideal.Read Cert.Spec Cert.Spec.Adam

variable (x0 : FVec Ideal S2x1024x1408 .f32) (x1 : FVec Ideal S2x1024x1408 .f32) (x2 : FVec Ideal S2x1024x1408 .f32) (x3 : FVec Ideal S1x1024x1408 .f32) (x4 : FVec Ideal S1x1024x1408 .f32) (x5 : FVec Ideal S1x1024x1408 .f32) (x6 : FVec Ideal S1x1024x1408 .f32)

theorem g_eq (i : S2x1024x1408.Idx) : val_main_v2 (F := Ideal) x3 x4 x5 x6 i = grad2 (A := 1024) (B := 1408) x3 x4 x5 x6 i := by
  unfold grad2
  pointwise [val_main_v0, val_main_v1, val_main_v2]
  by_cases h : (i 0).val < 1
  · rw [dif_pos h, if_pos (Nat.lt_one_iff.mp h)]
    have z : (⟨(i 0).val, h⟩ : Fin 1) = 0 := Subsingleton.elim _ _
    exact congrArg (fun k : Fin 1 => x3 (ix3 k (i 1) (i 2)) + x4 (ix3 k (i 1) (i 2))) z
  · rw [dif_neg h, if_neg (fun e => h (Nat.lt_one_iff.mpr e))]
    exact congrArg (fun k : Fin 1 => x5 (ix3 k (i 1) (i 2)) + x6 (ix3 k (i 1) (i 2))) (Subsingleton.elim _ 0)

theorem newM_eq (i : S2x1024x1408.Idx) : val_main_v7 (F := Ideal) x1 x3 x4 x5 x6 i = newM (grad2 (A := 1024) (B := 1408) x3 x4 x5 x6 i) (x1 i) := by
  rw [← g_eq x3 x4 x5 x6]
  pointwise [val_main_v0, val_main_v1, val_main_cst, val_main_v3, val_main_v4, val_main_cst_0, val_main_v5, val_main_v6, val_main_v7, val_main_cst_1, val_main_v8, val_main_v9, val_main_v10, val_main_cst_2, val_main_v11, val_main_v12, val_main_v13, val_main_cst_3, val_main_v14, val_main_v15, val_main_cst_4, val_main_v16, val_main_v17, val_main_v18, val_main_cst_5, val_main_v19, val_main_v20, val_main_v21, val_main_cst_6, val_main_v22, val_main_v23, val_main_v24, val_main_cst_7, val_main_v25, val_main_v26, newM, newV, delta]

theorem newV_eq (i : S2x1024x1408.Idx) : val_main_v13 (F := Ideal) x2 x3 x4 x5 x6 i = newV (grad2 (A := 1024) (B := 1408) x3 x4 x5 x6 i) (x2 i) := by
  rw [← g_eq x3 x4 x5 x6]
  pointwise [val_main_v0, val_main_v1, val_main_cst, val_main_v3, val_main_v4, val_main_cst_0, val_main_v5, val_main_v6, val_main_v7, val_main_cst_1, val_main_v8, val_main_v9, val_main_v10, val_main_cst_2, val_main_v11, val_main_v12, val_main_v13, val_main_cst_3, val_main_v14, val_main_v15, val_main_cst_4, val_main_v16, val_main_v17, val_main_v18, val_main_cst_5, val_main_v19, val_main_v20, val_main_v21, val_main_cst_6, val_main_v22, val_main_v23, val_main_v24, val_main_cst_7, val_main_v25, val_main_v26, newM, newV, delta]

theorem delta_eq (i : S2x1024x1408.Idx) : val_main_v26 (F := Ideal) x0 x1 x2 x3 x4 x5 x6 i = delta (x0 i) (grad2 (A := 1024) (B := 1408) x3 x4 x5 x6 i) (x1 i) (x2 i) := by
  rw [← g_eq x3 x4 x5 x6]
  pointwise [val_main_v0, val_main_v1, val_main_cst, val_main_v3, val_main_v4, val_main_cst_0, val_main_v5, val_main_v6, val_main_v7, val_main_cst_1, val_main_v8, val_main_v9, val_main_v10, val_main_cst_2, val_main_v11, val_main_v12, val_main_v13, val_main_cst_3, val_main_v14, val_main_v15, val_main_cst_4, val_main_v16, val_main_v17, val_main_v18, val_main_cst_5, val_main_v19, val_main_v20, val_main_v21, val_main_cst_6, val_main_v22, val_main_v23, val_main_v24, val_main_cst_7, val_main_v25, val_main_v26, newM, newV, delta]

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v2) = (fun i => grad2 (A := 1024) (B := 1408) (m ((c.tc : Thread nD τ).loc main_arg3)) (m ((c.tc : Thread nD τ).loc main_arg4)) (m ((c.tc : Thread nD τ).loc main_arg5)) (m ((c.tc : Thread nD τ).loc main_arg6)) i)
      ∧ r.2.mem ((c.tc : Thread nD τ).loc main_v26) = (fun i => delta ((m ((c.tc : Thread nD τ).loc main_arg0)) i) (grad2 (A := 1024) (B := 1408) (m ((c.tc : Thread nD τ).loc main_arg3)) (m ((c.tc : Thread nD τ).loc main_arg4)) (m ((c.tc : Thread nD τ).loc main_arg5)) (m ((c.tc : Thread nD τ).loc main_arg6)) i) ((m ((c.tc : Thread nD τ).loc main_arg1)) i) ((m ((c.tc : Thread nD τ).loc main_arg2)) i))
      ∧ r.2.mem ((c.tc : Thread nD τ).loc main_v7) = (fun i => newM (grad2 (A := 1024) (B := 1408) (m ((c.tc : Thread nD τ).loc main_arg3)) (m ((c.tc : Thread nD τ).loc main_arg4)) (m ((c.tc : Thread nD τ).loc main_arg5)) (m ((c.tc : Thread nD τ).loc main_arg6)) i) ((m ((c.tc : Thread nD τ).loc main_arg1)) i))
      ∧ r.2.mem ((c.tc : Thread nD τ).loc main_v13) = (fun i => newV (grad2 (A := 1024) (B := 1408) (m ((c.tc : Thread nD τ).loc main_arg3)) (m ((c.tc : Thread nD τ).loc main_arg4)) (m ((c.tc : Thread nD τ).loc main_arg5)) (m ((c.tc : Thread nD τ).loc main_arg6)) i) ((m ((c.tc : Thread nD τ).loc main_arg2)) i))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c).1.trans ((val_main_v2_eq _ _ _ _).trans (funext fun i => g_eq _ _ _ _ i)),
    (h c).2.1.trans ((val_main_v26_eq _ _ _ _ _ _ _).trans (funext fun i => delta_eq _ _ _ _ _ _ _ i)),
    (h c).2.2.1.trans ((val_main_v7_eq _ _ _ _ _).trans (funext fun i => newM_eq _ _ _ _ _ i)),
    (h c).2.2.2.1.trans ((val_main_v13_eq _ _ _ _ _).trans (funext fun i => newV_eq _ _ _ _ _ i)), (h c).2.2.2.2⟩) (Cert.Reference27Ideal.Value.run m ρ)

end Cert.Reference27Ideal.Adam

namespace Cert.Kernel27Ideal.Adam

open Cert.Kernel27Ideal Cert.Kernel27Ideal.Gen Cert.Spec Cert.Spec.Adam

section Block

variable (i : grid0.Coords) (x0 : Vec Ideal S1x256x1408 .f32) (x1 : Vec Ideal S1x256x1408 .f32) (x2 : Vec Ideal S1x256x1408 .f32) (x3 : Vec Ideal S1x256x1408 .f32) (x4 : Vec Ideal S1x256x1408 .f32) (x5 : Vec Ideal S1x256x1408 .f32) (x6 : Vec Ideal S1x256x1408 .f32)

/-- The block's gradient. -/
def gB (y : S1x256x1408.Idx) : EReal := if (i 0).val = 0 then x3 y + x4 y else x5 y + x6 y

theorem pay5_eq (y : S256x1408.Idx) : k0_pay5 (F := Ideal) i x3 x4 x5 x6 y = gB i x3 x4 x5 x6 (ix3 0 (y 0) (y 1)) := by
  have h0 : (i 0).val < 2 := (i 0).isLt
  unfold gB
  by_cases h : (i 0).val = 0
  · have e : Scalar.cmpi .eq (BitVec.ofNat 32 (i 0).val) 1#32 = 0#1 := by rw [h]; rfl
    rw [if_pos h]
    unfold k0_pay5
    simp only [e]
    pointwise
  · have e : Scalar.cmpi .eq (BitVec.ofNat 32 (i 0).val) 1#32 = 1#1 := by rw [show (i 0).val = 1 by omega]; rfl
    rw [if_neg h]
    unfold k0_pay5
    simp only [e]
    pointwise

theorem g_at (p : Fin 256) (q : Fin 1408) : out0_7 i x0 x1 x2 x3 x4 x5 x6 (ix3 0 p q) = gB i x3 x4 x5 x6 (ix3 0 p q) := by
  unfold_out out0_7
  rw [View.canon_unit_zero (by decide)]
  simp only [View.ld_unit_zero (S := S1x256x1408) (by decide : (![0, 0, 0] : Fin 3 → ℕ) = fun _ => 0)]
  pointwise [k0_pay1, k0_pay2, k0_pay3, k0_pay4, k0_pay6, k0_pay7, k0_pay8, k0_pay9, pay5_eq, newM, newV, delta]
  try rfl

theorem g_out (y : S1x256x1408.Idx) : out0_7 i x0 x1 x2 x3 x4 x5 x6 y = gB i x3 x4 x5 x6 y := by
  have h0 : y = ix3 0 (y 1) (y 2) := by blk_ext
  rw [h0]
  exact g_at i x0 x1 x2 x3 x4 x5 x6 (y 1) (y 2)

theorem newM_at (p : Fin 256) (q : Fin 1408) : out0_9 i x0 x1 x2 x3 x4 x5 x6 (ix3 0 p q) = newM (gB i x3 x4 x5 x6 (ix3 0 p q)) (x1 (ix3 0 p q)) := by
  unfold_out out0_9
  rw [View.canon_unit_zero (by decide)]
  simp only [View.ld_unit_zero (S := S1x256x1408) (by decide : (![0, 0, 0] : Fin 3 → ℕ) = fun _ => 0)]
  pointwise [k0_pay1, k0_pay2, k0_pay3, k0_pay4, k0_pay6, k0_pay7, k0_pay8, k0_pay9, pay5_eq, newM, newV, delta]
  try rfl

theorem newM_out (y : S1x256x1408.Idx) : out0_9 i x0 x1 x2 x3 x4 x5 x6 y = newM (gB i x3 x4 x5 x6 y) (x1 y) := by
  have h0 : y = ix3 0 (y 1) (y 2) := by blk_ext
  rw [h0]
  exact newM_at i x0 x1 x2 x3 x4 x5 x6 (y 1) (y 2)

theorem newV_at (p : Fin 256) (q : Fin 1408) : out0_10 i x0 x1 x2 x3 x4 x5 x6 (ix3 0 p q) = newV (gB i x3 x4 x5 x6 (ix3 0 p q)) (x2 (ix3 0 p q)) := by
  unfold_out out0_10
  rw [View.canon_unit_zero (by decide)]
  simp only [View.ld_unit_zero (S := S1x256x1408) (by decide : (![0, 0, 0] : Fin 3 → ℕ) = fun _ => 0)]
  pointwise [k0_pay1, k0_pay2, k0_pay3, k0_pay4, k0_pay6, k0_pay7, k0_pay8, k0_pay9, pay5_eq, newM, newV, delta]
  try rfl

theorem newV_out (y : S1x256x1408.Idx) : out0_10 i x0 x1 x2 x3 x4 x5 x6 y = newV (gB i x3 x4 x5 x6 y) (x2 y) := by
  have h0 : y = ix3 0 (y 1) (y 2) := by blk_ext
  rw [h0]
  exact newV_at i x0 x1 x2 x3 x4 x5 x6 (y 1) (y 2)

theorem delta_at (p : Fin 256) (q : Fin 1408) : out0_8 i x0 x1 x2 x3 x4 x5 x6 (ix3 0 p q) = delta (x0 (ix3 0 p q)) (gB i x3 x4 x5 x6 (ix3 0 p q)) (x1 (ix3 0 p q)) (x2 (ix3 0 p q)) := by
  unfold_out out0_8
  rw [View.canon_unit_zero (by decide)]
  simp only [View.ld_unit_zero (S := S1x256x1408) (by decide : (![0, 0, 0] : Fin 3 → ℕ) = fun _ => 0)]
  pointwise [k0_pay1, k0_pay2, k0_pay3, k0_pay4, k0_pay6, k0_pay7, k0_pay8, k0_pay9, pay5_eq, newM, newV, delta]
  try rfl

theorem delta_out (y : S1x256x1408.Idx) : out0_8 i x0 x1 x2 x3 x4 x5 x6 y = delta (x0 y) (gB i x3 x4 x5 x6 y) (x1 y) (x2 y) := by
  have h0 : y = ix3 0 (y 1) (y 2) := by blk_ext
  rw [h0]
  exact delta_at i x0 x1 x2 x3 x4 x5 x6 (y 1) (y 2)

end Block

variable (m : (ℓ : Loc nD τ sig) → Buf (Elt Ideal) ℓ)

theorem idx : ∀ t : Fin cfg0.N, win0_0.index t = ![t.val / 4, t.val % 4, 0] ∧ win0_1.index t = ![t.val / 4, t.val % 4, 0] ∧ win0_2.index t = ![t.val / 4, t.val % 4, 0] ∧ win0_7.index t = ![t.val / 4, t.val % 4, 0] ∧ win0_8.index t = ![t.val / 4, t.val % 4, 0] ∧ win0_9.index t = ![t.val / 4, t.val % 4, 0] ∧ win0_10.index t = ![t.val / 4, t.val % 4, 0] :=
  (by decide +kernel : ∀ t : Fin grid0.N, _)

theorem idxA : ∀ t : Fin cfg0.N, t.val / 4 = 0 → win0_3.index t = ![0, t.val % 4, 0] ∧ win0_4.index t = ![0, t.val % 4, 0] :=
  (by decide +kernel : ∀ t : Fin grid0.N, _)

theorem idxB : ∀ t : Fin cfg0.N, ¬ t.val / 4 = 0 → win0_5.index t = ![0, t.val % 4, 0] ∧ win0_6.index t = ![0, t.val % 4, 0] :=
  (by decide +kernel : ∀ t : Fin grid0.N, _)

theorem layer : ∀ t : Fin cfg0.N, (grid0.coords t 0).val = t.val / 4 :=
  (by decide +kernel : ∀ t : Fin grid0.N, _)

/-- The place of a block's element in the array. -/
def pos (t : Fin cfg0.N) (y : S1x256x1408.Idx) : S2x1024x1408.Idx :=
  ix3 ⟨t.val / 4, by have := lt_of_lt_of_eq t.isLt N_0; omega⟩ ⟨t.val % 4 * 256 + (y 1).val, by have := lt_of_lt_of_eq t.isLt N_0; have : (y 1).val < 256 := (y 1).isLt; omega⟩ (y 2)

theorem blk0 (c : Dev nD) (t : Fin cfg0.N) (y : S1x256x1408.Idx) : iblk m c 0 t y = (m ((c : Thread nD τ).loc main_arg0)) (pos t y) := by
  have h0 : (y 0).val < 1 := (y 0).isLt
  blk_ext [iblk, V, idx t, pos]

theorem blk1 (c : Dev nD) (t : Fin cfg0.N) (y : S1x256x1408.Idx) : iblk m c 1 t y = (m ((c : Thread nD τ).loc main_arg1)) (pos t y) := by
  have h0 : (y 0).val < 1 := (y 0).isLt
  blk_ext [iblk, V, idx t, pos]

theorem blk2 (c : Dev nD) (t : Fin cfg0.N) (y : S1x256x1408.Idx) : iblk m c 2 t y = (m ((c : Thread nD τ).loc main_arg2)) (pos t y) := by
  have h0 : (y 0).val < 1 := (y 0).isLt
  blk_ext [iblk, V, idx t, pos]

theorem blk3 (c : Dev nD) (t : Fin cfg0.N) (h : t.val / 4 = 0) (y : S1x256x1408.Idx) : iblk m c 3 t y = (m ((c : Thread nD τ).loc main_arg3)) (ix3 0 (pos t y 1) (pos t y 2)) := by
  have h0 : (y 0).val < 1 := (y 0).isLt
  blk_ext [iblk, V, idxA t h, pos]

theorem blk4 (c : Dev nD) (t : Fin cfg0.N) (h : t.val / 4 = 0) (y : S1x256x1408.Idx) : iblk m c 4 t y = (m ((c : Thread nD τ).loc main_arg4)) (ix3 0 (pos t y 1) (pos t y 2)) := by
  have h0 : (y 0).val < 1 := (y 0).isLt
  blk_ext [iblk, V, idxA t h, pos]

theorem blk5 (c : Dev nD) (t : Fin cfg0.N) (h : ¬ t.val / 4 = 0) (y : S1x256x1408.Idx) : iblk m c 5 t y = (m ((c : Thread nD τ).loc main_arg5)) (ix3 0 (pos t y 1) (pos t y 2)) := by
  have h0 : (y 0).val < 1 := (y 0).isLt
  blk_ext [iblk, V, idxB t h, pos]

theorem blk6 (c : Dev nD) (t : Fin cfg0.N) (h : ¬ t.val / 4 = 0) (y : S1x256x1408.Idx) : iblk m c 6 t y = (m ((c : Thread nD τ).loc main_arg6)) (ix3 0 (pos t y 1) (pos t y 2)) := by
  have h0 : (y 0).val < 1 := (y 0).isLt
  blk_ext [iblk, V, idxB t h, pos]

theorem grad_blk (c : Dev nD) (t : Fin cfg0.N) (y : S1x256x1408.Idx) : gB (grid0.coords t) (iblk m c 3 t) (iblk m c 4 t) (iblk m c 5 t) (iblk m c 6 t) y
    = grad2 (A := 1024) (B := 1408) (m ((c : Thread nD τ).loc main_arg3)) (m ((c : Thread nD τ).loc main_arg4)) (m ((c : Thread nD τ).loc main_arg5)) (m ((c : Thread nD τ).loc main_arg6)) (pos t y) := by
  unfold gB grad2
  have e : (pos t y 0).val = t.val / 4 := rfl
  rw [layer t, e]
  by_cases h : t.val / 4 = 0
  · rw [if_pos h, if_pos h, blk3 m c t h, blk4 m c t h]
  · rw [if_neg h, if_neg h, blk5 m c t h, blk6 m c t h]

theorem final7 (c : Dev nD) : (dats m 0 c).arrAt 7 cfg0.N = fun i => grad2 (A := 1024) (B := 1408) (m ((c : Thread nD τ).loc main_arg3)) (m ((c : Thread nD τ).loc main_arg4)) (m ((c : Thread nD τ).loc main_arg5)) (m ((c : Thread nD τ).loc main_arg6)) i := by
  refine (dats m 0 c).arrAt_eq_of_covers 7 _ (by decide +kernel) fun t hf y => ?_
  blk_simp
  rw [after0_7]
  refine (g_out (grid0.coords t) _ _ _ _ _ _ _ y).trans ?_
  have e : (win0_7.blk t).view.emb y = pos t y := by
    have h0 : (y 0).val < 1 := (y 0).isLt
    blk_ext [idx t, pos]
  rw [e]
  rw [grad_blk m c t]

theorem final9 (c : Dev nD) : (dats m 0 c).arrAt 9 cfg0.N = fun i => newM (grad2 (A := 1024) (B := 1408) (m ((c : Thread nD τ).loc main_arg3)) (m ((c : Thread nD τ).loc main_arg4)) (m ((c : Thread nD τ).loc main_arg5)) (m ((c : Thread nD τ).loc main_arg6)) i) ((m ((c : Thread nD τ).loc main_arg1)) i) := by
  refine (dats m 0 c).arrAt_eq_of_covers 9 _ (by decide +kernel) fun t hf y => ?_
  blk_simp
  rw [after0_9]
  refine (newM_out (grid0.coords t) _ _ _ _ _ _ _ y).trans ?_
  have e : (win0_9.blk t).view.emb y = pos t y := by
    have h0 : (y 0).val < 1 := (y 0).isLt
    blk_ext [idx t, pos]
  rw [e]
  rw [blk1 m c t, grad_blk m c t]

theorem final10 (c : Dev nD) : (dats m 0 c).arrAt 10 cfg0.N = fun i => newV (grad2 (A := 1024) (B := 1408) (m ((c : Thread nD τ).loc main_arg3)) (m ((c : Thread nD τ).loc main_arg4)) (m ((c : Thread nD τ).loc main_arg5)) (m ((c : Thread nD τ).loc main_arg6)) i) ((m ((c : Thread nD τ).loc main_arg2)) i) := by
  refine (dats m 0 c).arrAt_eq_of_covers 10 _ (by decide +kernel) fun t hf y => ?_
  blk_simp
  rw [after0_10]
  refine (newV_out (grid0.coords t) _ _ _ _ _ _ _ y).trans ?_
  have e : (win0_10.blk t).view.emb y = pos t y := by
    have h0 : (y 0).val < 1 := (y 0).isLt
    blk_ext [idx t, pos]
  rw [e]
  rw [blk2 m c t, grad_blk m c t]

theorem final8 (c : Dev nD) : (dats m 0 c).arrAt 8 cfg0.N = fun i => delta ((m ((c : Thread nD τ).loc main_arg0)) i) (grad2 (A := 1024) (B := 1408) (m ((c : Thread nD τ).loc main_arg3)) (m ((c : Thread nD τ).loc main_arg4)) (m ((c : Thread nD τ).loc main_arg5)) (m ((c : Thread nD τ).loc main_arg6)) i) ((m ((c : Thread nD τ).loc main_arg1)) i) ((m ((c : Thread nD τ).loc main_arg2)) i) := by
  refine (dats m 0 c).arrAt_eq_of_covers 8 _ (by decide +kernel) fun t hf y => ?_
  blk_simp
  rw [after0_8]
  refine (delta_out (grid0.coords t) _ _ _ _ _ _ _ y).trans ?_
  have e : (win0_8.blk t).view.emb y = pos t y := by
    have h0 : (y 0).val < 1 := (y 0).isLt
    blk_ext [idx t, pos]
  rw [e]
  rw [blk0 m c t, blk1 m c t, blk2 m c t, grad_blk m c t]

end Cert.Kernel27Ideal.Adam

namespace Cert.Proof.Adam27

open Cert.Spec Cert.Spec.Adam

theorem algebraic : Cert.algebraic_Kernel27Ideal_Reference27Ideal := by
  intro m g m' g' _ hagree
  refine ⟨_, _, _, _, Cert.Kernel27Ideal.Value.run_blocks m g, ?_⟩
  refine θ_run_mono (Cert.Reference27Ideal.Adam.run m' g') fun r h c => ?_
  obtain ⟨e0, e1, e2, e3, e4, e5, e6⟩ := hagree c
  exact ⟨(h c).1.trans (by rw [e3, e4, e5, e6]; exact (Cert.Kernel27Ideal.Adam.final7 m c).symm),
    (h c).2.1.trans (by rw [e0, e1, e2, e3, e4, e5, e6]; exact (Cert.Kernel27Ideal.Adam.final8 m c).symm),
    (h c).2.2.1.trans (by rw [e1, e3, e4, e5, e6]; exact (Cert.Kernel27Ideal.Adam.final9 m c).symm),
    (h c).2.2.2.1.trans (by rw [e2, e3, e4, e5, e6]; exact (Cert.Kernel27Ideal.Adam.final10 m c).symm), (h c).2.2.2.2⟩

end Cert.Proof.Adam27

end
-- ==== Proof.Adam28.lean ====
/-
  The optimiser's call for the down weights: what the kernel leaves in its four arrays, what the reference computes, and that
  the two are the same.
-/
module

public import proofs.«01_k».proof.Defs
public import proofs.«01_k».proof.Proof.Gen.Kernel28Ideal.Value
public import proofs.«01_k».proof.Proof.Gen.Reference28Ideal.Read
public import proofs.«01_k».proof.Proof.Adam
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Reference28Ideal.Adam

open Cert.Reference28Ideal Cert.Reference28Ideal.Gen Cert.Reference28Ideal.Read Cert.Spec Cert.Spec.Adam

variable (x0 : FVec Ideal S2x704x1024 .f32) (x1 : FVec Ideal S2x704x1024 .f32) (x2 : FVec Ideal S2x704x1024 .f32) (x3 : FVec Ideal S1x704x1024 .f32) (x4 : FVec Ideal S1x704x1024 .f32) (x5 : FVec Ideal S1x704x1024 .f32) (x6 : FVec Ideal S1x704x1024 .f32)

theorem g_eq (i : S2x704x1024.Idx) : val_main_v2 (F := Ideal) x3 x4 x5 x6 i = grad2 (A := 704) (B := 1024) x3 x4 x5 x6 i := by
  unfold grad2
  pointwise [val_main_v0, val_main_v1, val_main_v2]
  by_cases h : (i 0).val < 1
  · rw [dif_pos h, if_pos (Nat.lt_one_iff.mp h)]
    have z : (⟨(i 0).val, h⟩ : Fin 1) = 0 := Subsingleton.elim _ _
    exact congrArg (fun k : Fin 1 => x3 (ix3 k (i 1) (i 2)) + x4 (ix3 k (i 1) (i 2))) z
  · rw [dif_neg h, if_neg (fun e => h (Nat.lt_one_iff.mpr e))]
    exact congrArg (fun k : Fin 1 => x5 (ix3 k (i 1) (i 2)) + x6 (ix3 k (i 1) (i 2))) (Subsingleton.elim _ 0)

theorem newM_eq (i : S2x704x1024.Idx) : val_main_v7 (F := Ideal) x1 x3 x4 x5 x6 i = newM (grad2 (A := 704) (B := 1024) x3 x4 x5 x6 i) (x1 i) := by
  rw [← g_eq x3 x4 x5 x6]
  pointwise [val_main_v0, val_main_v1, val_main_cst, val_main_v3, val_main_v4, val_main_cst_0, val_main_v5, val_main_v6, val_main_v7, val_main_cst_1, val_main_v8, val_main_v9, val_main_v10, val_main_cst_2, val_main_v11, val_main_v12, val_main_v13, val_main_cst_3, val_main_v14, val_main_v15, val_main_cst_4, val_main_v16, val_main_v17, val_main_v18, val_main_cst_5, val_main_v19, val_main_v20, val_main_v21, val_main_cst_6, val_main_v22, val_main_v23, val_main_v24, val_main_cst_7, val_main_v25, val_main_v26, newM, newV, delta]

theorem newV_eq (i : S2x704x1024.Idx) : val_main_v13 (F := Ideal) x2 x3 x4 x5 x6 i = newV (grad2 (A := 704) (B := 1024) x3 x4 x5 x6 i) (x2 i) := by
  rw [← g_eq x3 x4 x5 x6]
  pointwise [val_main_v0, val_main_v1, val_main_cst, val_main_v3, val_main_v4, val_main_cst_0, val_main_v5, val_main_v6, val_main_v7, val_main_cst_1, val_main_v8, val_main_v9, val_main_v10, val_main_cst_2, val_main_v11, val_main_v12, val_main_v13, val_main_cst_3, val_main_v14, val_main_v15, val_main_cst_4, val_main_v16, val_main_v17, val_main_v18, val_main_cst_5, val_main_v19, val_main_v20, val_main_v21, val_main_cst_6, val_main_v22, val_main_v23, val_main_v24, val_main_cst_7, val_main_v25, val_main_v26, newM, newV, delta]

theorem delta_eq (i : S2x704x1024.Idx) : val_main_v26 (F := Ideal) x0 x1 x2 x3 x4 x5 x6 i = delta (x0 i) (grad2 (A := 704) (B := 1024) x3 x4 x5 x6 i) (x1 i) (x2 i) := by
  rw [← g_eq x3 x4 x5 x6]
  pointwise [val_main_v0, val_main_v1, val_main_cst, val_main_v3, val_main_v4, val_main_cst_0, val_main_v5, val_main_v6, val_main_v7, val_main_cst_1, val_main_v8, val_main_v9, val_main_v10, val_main_cst_2, val_main_v11, val_main_v12, val_main_v13, val_main_cst_3, val_main_v14, val_main_v15, val_main_cst_4, val_main_v16, val_main_v17, val_main_v18, val_main_cst_5, val_main_v19, val_main_v20, val_main_v21, val_main_cst_6, val_main_v22, val_main_v23, val_main_v24, val_main_cst_7, val_main_v25, val_main_v26, newM, newV, delta]

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v2) = (fun i => grad2 (A := 704) (B := 1024) (m ((c.tc : Thread nD τ).loc main_arg3)) (m ((c.tc : Thread nD τ).loc main_arg4)) (m ((c.tc : Thread nD τ).loc main_arg5)) (m ((c.tc : Thread nD τ).loc main_arg6)) i)
      ∧ r.2.mem ((c.tc : Thread nD τ).loc main_v26) = (fun i => delta ((m ((c.tc : Thread nD τ).loc main_arg0)) i) (grad2 (A := 704) (B := 1024) (m ((c.tc : Thread nD τ).loc main_arg3)) (m ((c.tc : Thread nD τ).loc main_arg4)) (m ((c.tc : Thread nD τ).loc main_arg5)) (m ((c.tc : Thread nD τ).loc main_arg6)) i) ((m ((c.tc : Thread nD τ).loc main_arg1)) i) ((m ((c.tc : Thread nD τ).loc main_arg2)) i))
      ∧ r.2.mem ((c.tc : Thread nD τ).loc main_v7) = (fun i => newM (grad2 (A := 704) (B := 1024) (m ((c.tc : Thread nD τ).loc main_arg3)) (m ((c.tc : Thread nD τ).loc main_arg4)) (m ((c.tc : Thread nD τ).loc main_arg5)) (m ((c.tc : Thread nD τ).loc main_arg6)) i) ((m ((c.tc : Thread nD τ).loc main_arg1)) i))
      ∧ r.2.mem ((c.tc : Thread nD τ).loc main_v13) = (fun i => newV (grad2 (A := 704) (B := 1024) (m ((c.tc : Thread nD τ).loc main_arg3)) (m ((c.tc : Thread nD τ).loc main_arg4)) (m ((c.tc : Thread nD τ).loc main_arg5)) (m ((c.tc : Thread nD τ).loc main_arg6)) i) ((m ((c.tc : Thread nD τ).loc main_arg2)) i))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c).1.trans ((val_main_v2_eq _ _ _ _).trans (funext fun i => g_eq _ _ _ _ i)),
    (h c).2.1.trans ((val_main_v26_eq _ _ _ _ _ _ _).trans (funext fun i => delta_eq _ _ _ _ _ _ _ i)),
    (h c).2.2.1.trans ((val_main_v7_eq _ _ _ _ _).trans (funext fun i => newM_eq _ _ _ _ _ i)),
    (h c).2.2.2.1.trans ((val_main_v13_eq _ _ _ _ _).trans (funext fun i => newV_eq _ _ _ _ _ i)), (h c).2.2.2.2⟩) (Cert.Reference28Ideal.Value.run m ρ)

end Cert.Reference28Ideal.Adam

namespace Cert.Kernel28Ideal.Adam

open Cert.Kernel28Ideal Cert.Kernel28Ideal.Gen Cert.Spec Cert.Spec.Adam

section Block

variable (i : grid0.Coords) (x0 : Vec Ideal S1x352x1024 .f32) (x1 : Vec Ideal S1x352x1024 .f32) (x2 : Vec Ideal S1x352x1024 .f32) (x3 : Vec Ideal S1x352x1024 .f32) (x4 : Vec Ideal S1x352x1024 .f32) (x5 : Vec Ideal S1x352x1024 .f32) (x6 : Vec Ideal S1x352x1024 .f32)

/-- The block's gradient. -/
def gB (y : S1x352x1024.Idx) : EReal := if (i 0).val = 0 then x3 y + x4 y else x5 y + x6 y

theorem pay5_eq (y : S352x1024.Idx) : k0_pay5 (F := Ideal) i x3 x4 x5 x6 y = gB i x3 x4 x5 x6 (ix3 0 (y 0) (y 1)) := by
  have h0 : (i 0).val < 2 := (i 0).isLt
  unfold gB
  by_cases h : (i 0).val = 0
  · have e : Scalar.cmpi .eq (BitVec.ofNat 32 (i 0).val) 1#32 = 0#1 := by rw [h]; rfl
    rw [if_pos h]
    unfold k0_pay5
    simp only [e]
    pointwise
  · have e : Scalar.cmpi .eq (BitVec.ofNat 32 (i 0).val) 1#32 = 1#1 := by rw [show (i 0).val = 1 by omega]; rfl
    rw [if_neg h]
    unfold k0_pay5
    simp only [e]
    pointwise

theorem g_at (p : Fin 352) (q : Fin 1024) : out0_7 i x0 x1 x2 x3 x4 x5 x6 (ix3 0 p q) = gB i x3 x4 x5 x6 (ix3 0 p q) := by
  unfold_out out0_7
  rw [View.canon_unit_zero (by decide)]
  simp only [View.ld_unit_zero (S := S1x352x1024) (by decide : (![0, 0, 0] : Fin 3 → ℕ) = fun _ => 0)]
  pointwise [k0_pay1, k0_pay2, k0_pay3, k0_pay4, k0_pay6, k0_pay7, k0_pay8, k0_pay9, pay5_eq, newM, newV, delta]
  try rfl

theorem g_out (y : S1x352x1024.Idx) : out0_7 i x0 x1 x2 x3 x4 x5 x6 y = gB i x3 x4 x5 x6 y := by
  have h0 : y = ix3 0 (y 1) (y 2) := by blk_ext
  rw [h0]
  exact g_at i x0 x1 x2 x3 x4 x5 x6 (y 1) (y 2)

theorem newM_at (p : Fin 352) (q : Fin 1024) : out0_9 i x0 x1 x2 x3 x4 x5 x6 (ix3 0 p q) = newM (gB i x3 x4 x5 x6 (ix3 0 p q)) (x1 (ix3 0 p q)) := by
  unfold_out out0_9
  rw [View.canon_unit_zero (by decide)]
  simp only [View.ld_unit_zero (S := S1x352x1024) (by decide : (![0, 0, 0] : Fin 3 → ℕ) = fun _ => 0)]
  pointwise [k0_pay1, k0_pay2, k0_pay3, k0_pay4, k0_pay6, k0_pay7, k0_pay8, k0_pay9, pay5_eq, newM, newV, delta]
  try rfl

theorem newM_out (y : S1x352x1024.Idx) : out0_9 i x0 x1 x2 x3 x4 x5 x6 y = newM (gB i x3 x4 x5 x6 y) (x1 y) := by
  have h0 : y = ix3 0 (y 1) (y 2) := by blk_ext
  rw [h0]
  exact newM_at i x0 x1 x2 x3 x4 x5 x6 (y 1) (y 2)

theorem newV_at (p : Fin 352) (q : Fin 1024) : out0_10 i x0 x1 x2 x3 x4 x5 x6 (ix3 0 p q) = newV (gB i x3 x4 x5 x6 (ix3 0 p q)) (x2 (ix3 0 p q)) := by
  unfold_out out0_10
  rw [View.canon_unit_zero (by decide)]
  simp only [View.ld_unit_zero (S := S1x352x1024) (by decide : (![0, 0, 0] : Fin 3 → ℕ) = fun _ => 0)]
  pointwise [k0_pay1, k0_pay2, k0_pay3, k0_pay4, k0_pay6, k0_pay7, k0_pay8, k0_pay9, pay5_eq, newM, newV, delta]
  try rfl

theorem newV_out (y : S1x352x1024.Idx) : out0_10 i x0 x1 x2 x3 x4 x5 x6 y = newV (gB i x3 x4 x5 x6 y) (x2 y) := by
  have h0 : y = ix3 0 (y 1) (y 2) := by blk_ext
  rw [h0]
  exact newV_at i x0 x1 x2 x3 x4 x5 x6 (y 1) (y 2)

theorem delta_at (p : Fin 352) (q : Fin 1024) : out0_8 i x0 x1 x2 x3 x4 x5 x6 (ix3 0 p q) = delta (x0 (ix3 0 p q)) (gB i x3 x4 x5 x6 (ix3 0 p q)) (x1 (ix3 0 p q)) (x2 (ix3 0 p q)) := by
  unfold_out out0_8
  rw [View.canon_unit_zero (by decide)]
  simp only [View.ld_unit_zero (S := S1x352x1024) (by decide : (![0, 0, 0] : Fin 3 → ℕ) = fun _ => 0)]
  pointwise [k0_pay1, k0_pay2, k0_pay3, k0_pay4, k0_pay6, k0_pay7, k0_pay8, k0_pay9, pay5_eq, newM, newV, delta]
  try rfl

theorem delta_out (y : S1x352x1024.Idx) : out0_8 i x0 x1 x2 x3 x4 x5 x6 y = delta (x0 y) (gB i x3 x4 x5 x6 y) (x1 y) (x2 y) := by
  have h0 : y = ix3 0 (y 1) (y 2) := by blk_ext
  rw [h0]
  exact delta_at i x0 x1 x2 x3 x4 x5 x6 (y 1) (y 2)

end Block

variable (m : (ℓ : Loc nD τ sig) → Buf (Elt Ideal) ℓ)

theorem idx : ∀ t : Fin cfg0.N, win0_0.index t = ![t.val / 2, t.val % 2, 0] ∧ win0_1.index t = ![t.val / 2, t.val % 2, 0] ∧ win0_2.index t = ![t.val / 2, t.val % 2, 0] ∧ win0_7.index t = ![t.val / 2, t.val % 2, 0] ∧ win0_8.index t = ![t.val / 2, t.val % 2, 0] ∧ win0_9.index t = ![t.val / 2, t.val % 2, 0] ∧ win0_10.index t = ![t.val / 2, t.val % 2, 0] :=
  (by decide +kernel : ∀ t : Fin grid0.N, _)

theorem idxA : ∀ t : Fin cfg0.N, t.val / 2 = 0 → win0_3.index t = ![0, t.val % 2, 0] ∧ win0_4.index t = ![0, t.val % 2, 0] :=
  (by decide +kernel : ∀ t : Fin grid0.N, _)

theorem idxB : ∀ t : Fin cfg0.N, ¬ t.val / 2 = 0 → win0_5.index t = ![0, t.val % 2, 0] ∧ win0_6.index t = ![0, t.val % 2, 0] :=
  (by decide +kernel : ∀ t : Fin grid0.N, _)

theorem layer : ∀ t : Fin cfg0.N, (grid0.coords t 0).val = t.val / 2 :=
  (by decide +kernel : ∀ t : Fin grid0.N, _)

/-- The place of a block's element in the array. -/
def pos (t : Fin cfg0.N) (y : S1x352x1024.Idx) : S2x704x1024.Idx :=
  ix3 ⟨t.val / 2, by have := lt_of_lt_of_eq t.isLt N_0; omega⟩ ⟨t.val % 2 * 352 + (y 1).val, by have := lt_of_lt_of_eq t.isLt N_0; have : (y 1).val < 352 := (y 1).isLt; omega⟩ (y 2)

theorem blk0 (c : Dev nD) (t : Fin cfg0.N) (y : S1x352x1024.Idx) : iblk m c 0 t y = (m ((c : Thread nD τ).loc main_arg0)) (pos t y) := by
  have h0 : (y 0).val < 1 := (y 0).isLt
  blk_ext [iblk, V, idx t, pos]

theorem blk1 (c : Dev nD) (t : Fin cfg0.N) (y : S1x352x1024.Idx) : iblk m c 1 t y = (m ((c : Thread nD τ).loc main_arg1)) (pos t y) := by
  have h0 : (y 0).val < 1 := (y 0).isLt
  blk_ext [iblk, V, idx t, pos]

theorem blk2 (c : Dev nD) (t : Fin cfg0.N) (y : S1x352x1024.Idx) : iblk m c 2 t y = (m ((c : Thread nD τ).loc main_arg2)) (pos t y) := by
  have h0 : (y 0).val < 1 := (y 0).isLt
  blk_ext [iblk, V, idx t, pos]

theorem blk3 (c : Dev nD) (t : Fin cfg0.N) (h : t.val / 2 = 0) (y : S1x352x1024.Idx) : iblk m c 3 t y = (m ((c : Thread nD τ).loc main_arg3)) (ix3 0 (pos t y 1) (pos t y 2)) := by
  have h0 : (y 0).val < 1 := (y 0).isLt
  blk_ext [iblk, V, idxA t h, pos]

theorem blk4 (c : Dev nD) (t : Fin cfg0.N) (h : t.val / 2 = 0) (y : S1x352x1024.Idx) : iblk m c 4 t y = (m ((c : Thread nD τ).loc main_arg4)) (ix3 0 (pos t y 1) (pos t y 2)) := by
  have h0 : (y 0).val < 1 := (y 0).isLt
  blk_ext [iblk, V, idxA t h, pos]

theorem blk5 (c : Dev nD) (t : Fin cfg0.N) (h : ¬ t.val / 2 = 0) (y : S1x352x1024.Idx) : iblk m c 5 t y = (m ((c : Thread nD τ).loc main_arg5)) (ix3 0 (pos t y 1) (pos t y 2)) := by
  have h0 : (y 0).val < 1 := (y 0).isLt
  blk_ext [iblk, V, idxB t h, pos]

theorem blk6 (c : Dev nD) (t : Fin cfg0.N) (h : ¬ t.val / 2 = 0) (y : S1x352x1024.Idx) : iblk m c 6 t y = (m ((c : Thread nD τ).loc main_arg6)) (ix3 0 (pos t y 1) (pos t y 2)) := by
  have h0 : (y 0).val < 1 := (y 0).isLt
  blk_ext [iblk, V, idxB t h, pos]

theorem grad_blk (c : Dev nD) (t : Fin cfg0.N) (y : S1x352x1024.Idx) : gB (grid0.coords t) (iblk m c 3 t) (iblk m c 4 t) (iblk m c 5 t) (iblk m c 6 t) y
    = grad2 (A := 704) (B := 1024) (m ((c : Thread nD τ).loc main_arg3)) (m ((c : Thread nD τ).loc main_arg4)) (m ((c : Thread nD τ).loc main_arg5)) (m ((c : Thread nD τ).loc main_arg6)) (pos t y) := by
  unfold gB grad2
  have e : (pos t y 0).val = t.val / 2 := rfl
  rw [layer t, e]
  by_cases h : t.val / 2 = 0
  · rw [if_pos h, if_pos h, blk3 m c t h, blk4 m c t h]
  · rw [if_neg h, if_neg h, blk5 m c t h, blk6 m c t h]

theorem final7 (c : Dev nD) : (dats m 0 c).arrAt 7 cfg0.N = fun i => grad2 (A := 704) (B := 1024) (m ((c : Thread nD τ).loc main_arg3)) (m ((c : Thread nD τ).loc main_arg4)) (m ((c : Thread nD τ).loc main_arg5)) (m ((c : Thread nD τ).loc main_arg6)) i := by
  refine (dats m 0 c).arrAt_eq_of_covers 7 _ (by decide +kernel) fun t hf y => ?_
  blk_simp
  rw [after0_7]
  refine (g_out (grid0.coords t) _ _ _ _ _ _ _ y).trans ?_
  have e : (win0_7.blk t).view.emb y = pos t y := by
    have h0 : (y 0).val < 1 := (y 0).isLt
    blk_ext [idx t, pos]
  rw [e]
  rw [grad_blk m c t]

theorem final9 (c : Dev nD) : (dats m 0 c).arrAt 9 cfg0.N = fun i => newM (grad2 (A := 704) (B := 1024) (m ((c : Thread nD τ).loc main_arg3)) (m ((c : Thread nD τ).loc main_arg4)) (m ((c : Thread nD τ).loc main_arg5)) (m ((c : Thread nD τ).loc main_arg6)) i) ((m ((c : Thread nD τ).loc main_arg1)) i) := by
  refine (dats m 0 c).arrAt_eq_of_covers 9 _ (by decide +kernel) fun t hf y => ?_
  blk_simp
  rw [after0_9]
  refine (newM_out (grid0.coords t) _ _ _ _ _ _ _ y).trans ?_
  have e : (win0_9.blk t).view.emb y = pos t y := by
    have h0 : (y 0).val < 1 := (y 0).isLt
    blk_ext [idx t, pos]
  rw [e]
  rw [blk1 m c t, grad_blk m c t]

theorem final10 (c : Dev nD) : (dats m 0 c).arrAt 10 cfg0.N = fun i => newV (grad2 (A := 704) (B := 1024) (m ((c : Thread nD τ).loc main_arg3)) (m ((c : Thread nD τ).loc main_arg4)) (m ((c : Thread nD τ).loc main_arg5)) (m ((c : Thread nD τ).loc main_arg6)) i) ((m ((c : Thread nD τ).loc main_arg2)) i) := by
  refine (dats m 0 c).arrAt_eq_of_covers 10 _ (by decide +kernel) fun t hf y => ?_
  blk_simp
  rw [after0_10]
  refine (newV_out (grid0.coords t) _ _ _ _ _ _ _ y).trans ?_
  have e : (win0_10.blk t).view.emb y = pos t y := by
    have h0 : (y 0).val < 1 := (y 0).isLt
    blk_ext [idx t, pos]
  rw [e]
  rw [blk2 m c t, grad_blk m c t]

theorem final8 (c : Dev nD) : (dats m 0 c).arrAt 8 cfg0.N = fun i => delta ((m ((c : Thread nD τ).loc main_arg0)) i) (grad2 (A := 704) (B := 1024) (m ((c : Thread nD τ).loc main_arg3)) (m ((c : Thread nD τ).loc main_arg4)) (m ((c : Thread nD τ).loc main_arg5)) (m ((c : Thread nD τ).loc main_arg6)) i) ((m ((c : Thread nD τ).loc main_arg1)) i) ((m ((c : Thread nD τ).loc main_arg2)) i) := by
  refine (dats m 0 c).arrAt_eq_of_covers 8 _ (by decide +kernel) fun t hf y => ?_
  blk_simp
  rw [after0_8]
  refine (delta_out (grid0.coords t) _ _ _ _ _ _ _ y).trans ?_
  have e : (win0_8.blk t).view.emb y = pos t y := by
    have h0 : (y 0).val < 1 := (y 0).isLt
    blk_ext [idx t, pos]
  rw [e]
  rw [blk0 m c t, blk1 m c t, blk2 m c t, grad_blk m c t]

end Cert.Kernel28Ideal.Adam

namespace Cert.Proof.Adam28

open Cert.Spec Cert.Spec.Adam

theorem algebraic : Cert.algebraic_Kernel28Ideal_Reference28Ideal := by
  intro m g m' g' _ hagree
  refine ⟨_, _, _, _, Cert.Kernel28Ideal.Value.run_blocks m g, ?_⟩
  refine θ_run_mono (Cert.Reference28Ideal.Adam.run m' g') fun r h c => ?_
  obtain ⟨e0, e1, e2, e3, e4, e5, e6⟩ := hagree c
  exact ⟨(h c).1.trans (by rw [e3, e4, e5, e6]; exact (Cert.Kernel28Ideal.Adam.final7 m c).symm),
    (h c).2.1.trans (by rw [e0, e1, e2, e3, e4, e5, e6]; exact (Cert.Kernel28Ideal.Adam.final8 m c).symm),
    (h c).2.2.1.trans (by rw [e1, e3, e4, e5, e6]; exact (Cert.Kernel28Ideal.Adam.final9 m c).symm),
    (h c).2.2.2.1.trans (by rw [e2, e3, e4, e5, e6]; exact (Cert.Kernel28Ideal.Adam.final10 m c).symm), (h c).2.2.2.2⟩

end Cert.Proof.Adam28

end
-- ==== Proof.Adam29.lean ====
/-
  The optimiser's call for the weights of queries and heads' results: what the kernel leaves in its four arrays, what the reference computes, and that
  the two are the same.
-/
module

public import proofs.«01_k».proof.Defs
public import proofs.«01_k».proof.Proof.Gen.Kernel29Ideal.Value
public import proofs.«01_k».proof.Proof.Gen.Reference29Ideal.Read
public import proofs.«01_k».proof.Proof.Adam
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Reference29Ideal.Adam

open Cert.Reference29Ideal Cert.Reference29Ideal.Gen Cert.Reference29Ideal.Read Cert.Spec Cert.Spec.Adam

variable (x0 : FVec Ideal S2x256x1024 .f32) (x1 : FVec Ideal S2x256x1024 .f32) (x2 : FVec Ideal S2x256x1024 .f32) (x3 : FVec Ideal S1x256x1024 .f32) (x4 : FVec Ideal S1x256x1024 .f32) (x5 : FVec Ideal S1x256x1024 .f32) (x6 : FVec Ideal S1x256x1024 .f32)

theorem g_eq (i : S2x256x1024.Idx) : val_main_v2 (F := Ideal) x3 x4 x5 x6 i = grad2 (A := 256) (B := 1024) x3 x4 x5 x6 i := by
  unfold grad2
  pointwise [val_main_v0, val_main_v1, val_main_v2]
  by_cases h : (i 0).val < 1
  · rw [dif_pos h, if_pos (Nat.lt_one_iff.mp h)]
    have z : (⟨(i 0).val, h⟩ : Fin 1) = 0 := Subsingleton.elim _ _
    exact congrArg (fun k : Fin 1 => x3 (ix3 k (i 1) (i 2)) + x4 (ix3 k (i 1) (i 2))) z
  · rw [dif_neg h, if_neg (fun e => h (Nat.lt_one_iff.mpr e))]
    exact congrArg (fun k : Fin 1 => x5 (ix3 k (i 1) (i 2)) + x6 (ix3 k (i 1) (i 2))) (Subsingleton.elim _ 0)

theorem newM_eq (i : S2x256x1024.Idx) : val_main_v7 (F := Ideal) x1 x3 x4 x5 x6 i = newM (grad2 (A := 256) (B := 1024) x3 x4 x5 x6 i) (x1 i) := by
  rw [← g_eq x3 x4 x5 x6]
  pointwise [val_main_v0, val_main_v1, val_main_cst, val_main_v3, val_main_v4, val_main_cst_0, val_main_v5, val_main_v6, val_main_v7, val_main_cst_1, val_main_v8, val_main_v9, val_main_v10, val_main_cst_2, val_main_v11, val_main_v12, val_main_v13, val_main_cst_3, val_main_v14, val_main_v15, val_main_cst_4, val_main_v16, val_main_v17, val_main_v18, val_main_cst_5, val_main_v19, val_main_v20, val_main_v21, val_main_cst_6, val_main_v22, val_main_v23, val_main_v24, val_main_cst_7, val_main_v25, val_main_v26, newM, newV, delta]

theorem newV_eq (i : S2x256x1024.Idx) : val_main_v13 (F := Ideal) x2 x3 x4 x5 x6 i = newV (grad2 (A := 256) (B := 1024) x3 x4 x5 x6 i) (x2 i) := by
  rw [← g_eq x3 x4 x5 x6]
  pointwise [val_main_v0, val_main_v1, val_main_cst, val_main_v3, val_main_v4, val_main_cst_0, val_main_v5, val_main_v6, val_main_v7, val_main_cst_1, val_main_v8, val_main_v9, val_main_v10, val_main_cst_2, val_main_v11, val_main_v12, val_main_v13, val_main_cst_3, val_main_v14, val_main_v15, val_main_cst_4, val_main_v16, val_main_v17, val_main_v18, val_main_cst_5, val_main_v19, val_main_v20, val_main_v21, val_main_cst_6, val_main_v22, val_main_v23, val_main_v24, val_main_cst_7, val_main_v25, val_main_v26, newM, newV, delta]

theorem delta_eq (i : S2x256x1024.Idx) : val_main_v26 (F := Ideal) x0 x1 x2 x3 x4 x5 x6 i = delta (x0 i) (grad2 (A := 256) (B := 1024) x3 x4 x5 x6 i) (x1 i) (x2 i) := by
  rw [← g_eq x3 x4 x5 x6]
  pointwise [val_main_v0, val_main_v1, val_main_cst, val_main_v3, val_main_v4, val_main_cst_0, val_main_v5, val_main_v6, val_main_v7, val_main_cst_1, val_main_v8, val_main_v9, val_main_v10, val_main_cst_2, val_main_v11, val_main_v12, val_main_v13, val_main_cst_3, val_main_v14, val_main_v15, val_main_cst_4, val_main_v16, val_main_v17, val_main_v18, val_main_cst_5, val_main_v19, val_main_v20, val_main_v21, val_main_cst_6, val_main_v22, val_main_v23, val_main_v24, val_main_cst_7, val_main_v25, val_main_v26, newM, newV, delta]

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v2) = (fun i => grad2 (A := 256) (B := 1024) (m ((c.tc : Thread nD τ).loc main_arg3)) (m ((c.tc : Thread nD τ).loc main_arg4)) (m ((c.tc : Thread nD τ).loc main_arg5)) (m ((c.tc : Thread nD τ).loc main_arg6)) i)
      ∧ r.2.mem ((c.tc : Thread nD τ).loc main_v26) = (fun i => delta ((m ((c.tc : Thread nD τ).loc main_arg0)) i) (grad2 (A := 256) (B := 1024) (m ((c.tc : Thread nD τ).loc main_arg3)) (m ((c.tc : Thread nD τ).loc main_arg4)) (m ((c.tc : Thread nD τ).loc main_arg5)) (m ((c.tc : Thread nD τ).loc main_arg6)) i) ((m ((c.tc : Thread nD τ).loc main_arg1)) i) ((m ((c.tc : Thread nD τ).loc main_arg2)) i))
      ∧ r.2.mem ((c.tc : Thread nD τ).loc main_v7) = (fun i => newM (grad2 (A := 256) (B := 1024) (m ((c.tc : Thread nD τ).loc main_arg3)) (m ((c.tc : Thread nD τ).loc main_arg4)) (m ((c.tc : Thread nD τ).loc main_arg5)) (m ((c.tc : Thread nD τ).loc main_arg6)) i) ((m ((c.tc : Thread nD τ).loc main_arg1)) i))
      ∧ r.2.mem ((c.tc : Thread nD τ).loc main_v13) = (fun i => newV (grad2 (A := 256) (B := 1024) (m ((c.tc : Thread nD τ).loc main_arg3)) (m ((c.tc : Thread nD τ).loc main_arg4)) (m ((c.tc : Thread nD τ).loc main_arg5)) (m ((c.tc : Thread nD τ).loc main_arg6)) i) ((m ((c.tc : Thread nD τ).loc main_arg2)) i))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c).1.trans ((val_main_v2_eq _ _ _ _).trans (funext fun i => g_eq _ _ _ _ i)),
    (h c).2.1.trans ((val_main_v26_eq _ _ _ _ _ _ _).trans (funext fun i => delta_eq _ _ _ _ _ _ _ i)),
    (h c).2.2.1.trans ((val_main_v7_eq _ _ _ _ _).trans (funext fun i => newM_eq _ _ _ _ _ i)),
    (h c).2.2.2.1.trans ((val_main_v13_eq _ _ _ _ _).trans (funext fun i => newV_eq _ _ _ _ _ i)), (h c).2.2.2.2⟩) (Cert.Reference29Ideal.Value.run m ρ)

end Cert.Reference29Ideal.Adam

namespace Cert.Kernel29Ideal.Adam

open Cert.Kernel29Ideal Cert.Kernel29Ideal.Gen Cert.Spec Cert.Spec.Adam

section Block

variable (i : grid0.Coords) (x0 : Vec Ideal S1x256x1024 .f32) (x1 : Vec Ideal S1x256x1024 .f32) (x2 : Vec Ideal S1x256x1024 .f32) (x3 : Vec Ideal S1x256x1024 .f32) (x4 : Vec Ideal S1x256x1024 .f32) (x5 : Vec Ideal S1x256x1024 .f32) (x6 : Vec Ideal S1x256x1024 .f32)

/-- The block's gradient. -/
def gB (y : S1x256x1024.Idx) : EReal := if (i 0).val = 0 then x3 y + x4 y else x5 y + x6 y

theorem pay5_eq (y : S256x1024.Idx) : k0_pay5 (F := Ideal) i x3 x4 x5 x6 y = gB i x3 x4 x5 x6 (ix3 0 (y 0) (y 1)) := by
  have h0 : (i 0).val < 2 := (i 0).isLt
  unfold gB
  by_cases h : (i 0).val = 0
  · have e : Scalar.cmpi .eq (BitVec.ofNat 32 (i 0).val) 1#32 = 0#1 := by rw [h]; rfl
    rw [if_pos h]
    unfold k0_pay5
    simp only [e]
    pointwise
  · have e : Scalar.cmpi .eq (BitVec.ofNat 32 (i 0).val) 1#32 = 1#1 := by rw [show (i 0).val = 1 by omega]; rfl
    rw [if_neg h]
    unfold k0_pay5
    simp only [e]
    pointwise

theorem g_at (p : Fin 256) (q : Fin 1024) : out0_7 i x0 x1 x2 x3 x4 x5 x6 (ix3 0 p q) = gB i x3 x4 x5 x6 (ix3 0 p q) := by
  unfold_out out0_7
  rw [View.canon_unit_zero (by decide)]
  simp only [View.ld_unit_zero (S := S1x256x1024) (by decide : (![0, 0, 0] : Fin 3 → ℕ) = fun _ => 0)]
  pointwise [k0_pay1, k0_pay2, k0_pay3, k0_pay4, k0_pay6, k0_pay7, k0_pay8, k0_pay9, pay5_eq, newM, newV, delta]
  try rfl

theorem g_out (y : S1x256x1024.Idx) : out0_7 i x0 x1 x2 x3 x4 x5 x6 y = gB i x3 x4 x5 x6 y := by
  have h0 : y = ix3 0 (y 1) (y 2) := by blk_ext
  rw [h0]
  exact g_at i x0 x1 x2 x3 x4 x5 x6 (y 1) (y 2)

theorem newM_at (p : Fin 256) (q : Fin 1024) : out0_9 i x0 x1 x2 x3 x4 x5 x6 (ix3 0 p q) = newM (gB i x3 x4 x5 x6 (ix3 0 p q)) (x1 (ix3 0 p q)) := by
  unfold_out out0_9
  rw [View.canon_unit_zero (by decide)]
  simp only [View.ld_unit_zero (S := S1x256x1024) (by decide : (![0, 0, 0] : Fin 3 → ℕ) = fun _ => 0)]
  pointwise [k0_pay1, k0_pay2, k0_pay3, k0_pay4, k0_pay6, k0_pay7, k0_pay8, k0_pay9, pay5_eq, newM, newV, delta]
  try rfl

theorem newM_out (y : S1x256x1024.Idx) : out0_9 i x0 x1 x2 x3 x4 x5 x6 y = newM (gB i x3 x4 x5 x6 y) (x1 y) := by
  have h0 : y = ix3 0 (y 1) (y 2) := by blk_ext
  rw [h0]
  exact newM_at i x0 x1 x2 x3 x4 x5 x6 (y 1) (y 2)

theorem newV_at (p : Fin 256) (q : Fin 1024) : out0_10 i x0 x1 x2 x3 x4 x5 x6 (ix3 0 p q) = newV (gB i x3 x4 x5 x6 (ix3 0 p q)) (x2 (ix3 0 p q)) := by
  unfold_out out0_10
  rw [View.canon_unit_zero (by decide)]
  simp only [View.ld_unit_zero (S := S1x256x1024) (by decide : (![0, 0, 0] : Fin 3 → ℕ) = fun _ => 0)]
  pointwise [k0_pay1, k0_pay2, k0_pay3, k0_pay4, k0_pay6, k0_pay7, k0_pay8, k0_pay9, pay5_eq, newM, newV, delta]
  try rfl

theorem newV_out (y : S1x256x1024.Idx) : out0_10 i x0 x1 x2 x3 x4 x5 x6 y = newV (gB i x3 x4 x5 x6 y) (x2 y) := by
  have h0 : y = ix3 0 (y 1) (y 2) := by blk_ext
  rw [h0]
  exact newV_at i x0 x1 x2 x3 x4 x5 x6 (y 1) (y 2)

theorem delta_at (p : Fin 256) (q : Fin 1024) : out0_8 i x0 x1 x2 x3 x4 x5 x6 (ix3 0 p q) = delta (x0 (ix3 0 p q)) (gB i x3 x4 x5 x6 (ix3 0 p q)) (x1 (ix3 0 p q)) (x2 (ix3 0 p q)) := by
  unfold_out out0_8
  rw [View.canon_unit_zero (by decide)]
  simp only [View.ld_unit_zero (S := S1x256x1024) (by decide : (![0, 0, 0] : Fin 3 → ℕ) = fun _ => 0)]
  pointwise [k0_pay1, k0_pay2, k0_pay3, k0_pay4, k0_pay6, k0_pay7, k0_pay8, k0_pay9, pay5_eq, newM, newV, delta]
  try rfl

theorem delta_out (y : S1x256x1024.Idx) : out0_8 i x0 x1 x2 x3 x4 x5 x6 y = delta (x0 y) (gB i x3 x4 x5 x6 y) (x1 y) (x2 y) := by
  have h0 : y = ix3 0 (y 1) (y 2) := by blk_ext
  rw [h0]
  exact delta_at i x0 x1 x2 x3 x4 x5 x6 (y 1) (y 2)

end Block

variable (m : (ℓ : Loc nD τ sig) → Buf (Elt Ideal) ℓ)

theorem idx : ∀ t : Fin cfg0.N, win0_0.index t = ![t.val / 1, t.val % 1, 0] ∧ win0_1.index t = ![t.val / 1, t.val % 1, 0] ∧ win0_2.index t = ![t.val / 1, t.val % 1, 0] ∧ win0_7.index t = ![t.val / 1, t.val % 1, 0] ∧ win0_8.index t = ![t.val / 1, t.val % 1, 0] ∧ win0_9.index t = ![t.val / 1, t.val % 1, 0] ∧ win0_10.index t = ![t.val / 1, t.val % 1, 0] :=
  (by decide +kernel : ∀ t : Fin grid0.N, _)

theorem idxA : ∀ t : Fin cfg0.N, t.val / 1 = 0 → win0_3.index t = ![0, t.val % 1, 0] ∧ win0_4.index t = ![0, t.val % 1, 0] :=
  (by decide +kernel : ∀ t : Fin grid0.N, _)

theorem idxB : ∀ t : Fin cfg0.N, ¬ t.val / 1 = 0 → win0_5.index t = ![0, t.val % 1, 0] ∧ win0_6.index t = ![0, t.val % 1, 0] :=
  (by decide +kernel : ∀ t : Fin grid0.N, _)

theorem layer : ∀ t : Fin cfg0.N, (grid0.coords t 0).val = t.val / 1 :=
  (by decide +kernel : ∀ t : Fin grid0.N, _)

/-- The place of a block's element in the array. -/
def pos (t : Fin cfg0.N) (y : S1x256x1024.Idx) : S2x256x1024.Idx :=
  ix3 ⟨t.val / 1, by have := lt_of_lt_of_eq t.isLt N_0; omega⟩ ⟨t.val % 1 * 256 + (y 1).val, by have := lt_of_lt_of_eq t.isLt N_0; have : (y 1).val < 256 := (y 1).isLt; omega⟩ (y 2)

theorem blk0 (c : Dev nD) (t : Fin cfg0.N) (y : S1x256x1024.Idx) : iblk m c 0 t y = (m ((c : Thread nD τ).loc main_arg0)) (pos t y) := by
  have h0 : (y 0).val < 1 := (y 0).isLt
  blk_ext [iblk, V, idx t, pos]

theorem blk1 (c : Dev nD) (t : Fin cfg0.N) (y : S1x256x1024.Idx) : iblk m c 1 t y = (m ((c : Thread nD τ).loc main_arg1)) (pos t y) := by
  have h0 : (y 0).val < 1 := (y 0).isLt
  blk_ext [iblk, V, idx t, pos]

theorem blk2 (c : Dev nD) (t : Fin cfg0.N) (y : S1x256x1024.Idx) : iblk m c 2 t y = (m ((c : Thread nD τ).loc main_arg2)) (pos t y) := by
  have h0 : (y 0).val < 1 := (y 0).isLt
  blk_ext [iblk, V, idx t, pos]

theorem blk3 (c : Dev nD) (t : Fin cfg0.N) (h : t.val / 1 = 0) (y : S1x256x1024.Idx) : iblk m c 3 t y = (m ((c : Thread nD τ).loc main_arg3)) (ix3 0 (pos t y 1) (pos t y 2)) := by
  have h0 : (y 0).val < 1 := (y 0).isLt
  blk_ext [iblk, V, idxA t h, pos]

theorem blk4 (c : Dev nD) (t : Fin cfg0.N) (h : t.val / 1 = 0) (y : S1x256x1024.Idx) : iblk m c 4 t y = (m ((c : Thread nD τ).loc main_arg4)) (ix3 0 (pos t y 1) (pos t y 2)) := by
  have h0 : (y 0).val < 1 := (y 0).isLt
  blk_ext [iblk, V, idxA t h, pos]

theorem blk5 (c : Dev nD) (t : Fin cfg0.N) (h : ¬ t.val / 1 = 0) (y : S1x256x1024.Idx) : iblk m c 5 t y = (m ((c : Thread nD τ).loc main_arg5)) (ix3 0 (pos t y 1) (pos t y 2)) := by
  have h0 : (y 0).val < 1 := (y 0).isLt
  blk_ext [iblk, V, idxB t h, pos]

theorem blk6 (c : Dev nD) (t : Fin cfg0.N) (h : ¬ t.val / 1 = 0) (y : S1x256x1024.Idx) : iblk m c 6 t y = (m ((c : Thread nD τ).loc main_arg6)) (ix3 0 (pos t y 1) (pos t y 2)) := by
  have h0 : (y 0).val < 1 := (y 0).isLt
  blk_ext [iblk, V, idxB t h, pos]

theorem grad_blk (c : Dev nD) (t : Fin cfg0.N) (y : S1x256x1024.Idx) : gB (grid0.coords t) (iblk m c 3 t) (iblk m c 4 t) (iblk m c 5 t) (iblk m c 6 t) y
    = grad2 (A := 256) (B := 1024) (m ((c : Thread nD τ).loc main_arg3)) (m ((c : Thread nD τ).loc main_arg4)) (m ((c : Thread nD τ).loc main_arg5)) (m ((c : Thread nD τ).loc main_arg6)) (pos t y) := by
  unfold gB grad2
  have e : (pos t y 0).val = t.val / 1 := rfl
  rw [layer t, e]
  by_cases h : t.val / 1 = 0
  · rw [if_pos h, if_pos h, blk3 m c t h, blk4 m c t h]
  · rw [if_neg h, if_neg h, blk5 m c t h, blk6 m c t h]

theorem final7 (c : Dev nD) : (dats m 0 c).arrAt 7 cfg0.N = fun i => grad2 (A := 256) (B := 1024) (m ((c : Thread nD τ).loc main_arg3)) (m ((c : Thread nD τ).loc main_arg4)) (m ((c : Thread nD τ).loc main_arg5)) (m ((c : Thread nD τ).loc main_arg6)) i := by
  refine (dats m 0 c).arrAt_eq_of_covers 7 _ (by decide +kernel) fun t hf y => ?_
  blk_simp
  rw [after0_7]
  refine (g_out (grid0.coords t) _ _ _ _ _ _ _ y).trans ?_
  have e : (win0_7.blk t).view.emb y = pos t y := by
    have h0 : (y 0).val < 1 := (y 0).isLt
    blk_ext [idx t, pos]
  rw [e]
  rw [grad_blk m c t]

theorem final9 (c : Dev nD) : (dats m 0 c).arrAt 9 cfg0.N = fun i => newM (grad2 (A := 256) (B := 1024) (m ((c : Thread nD τ).loc main_arg3)) (m ((c : Thread nD τ).loc main_arg4)) (m ((c : Thread nD τ).loc main_arg5)) (m ((c : Thread nD τ).loc main_arg6)) i) ((m ((c : Thread nD τ).loc main_arg1)) i) := by
  refine (dats m 0 c).arrAt_eq_of_covers 9 _ (by decide +kernel) fun t hf y => ?_
  blk_simp
  rw [after0_9]
  refine (newM_out (grid0.coords t) _ _ _ _ _ _ _ y).trans ?_
  have e : (win0_9.blk t).view.emb y = pos t y := by
    have h0 : (y 0).val < 1 := (y 0).isLt
    blk_ext [idx t, pos]
  rw [e]
  rw [blk1 m c t, grad_blk m c t]

theorem final10 (c : Dev nD) : (dats m 0 c).arrAt 10 cfg0.N = fun i => newV (grad2 (A := 256) (B := 1024) (m ((c : Thread nD τ).loc main_arg3)) (m ((c : Thread nD τ).loc main_arg4)) (m ((c : Thread nD τ).loc main_arg5)) (m ((c : Thread nD τ).loc main_arg6)) i) ((m ((c : Thread nD τ).loc main_arg2)) i) := by
  refine (dats m 0 c).arrAt_eq_of_covers 10 _ (by decide +kernel) fun t hf y => ?_
  blk_simp
  rw [after0_10]
  refine (newV_out (grid0.coords t) _ _ _ _ _ _ _ y).trans ?_
  have e : (win0_10.blk t).view.emb y = pos t y := by
    have h0 : (y 0).val < 1 := (y 0).isLt
    blk_ext [idx t, pos]
  rw [e]
  rw [blk2 m c t, grad_blk m c t]

theorem final8 (c : Dev nD) : (dats m 0 c).arrAt 8 cfg0.N = fun i => delta ((m ((c : Thread nD τ).loc main_arg0)) i) (grad2 (A := 256) (B := 1024) (m ((c : Thread nD τ).loc main_arg3)) (m ((c : Thread nD τ).loc main_arg4)) (m ((c : Thread nD τ).loc main_arg5)) (m ((c : Thread nD τ).loc main_arg6)) i) ((m ((c : Thread nD τ).loc main_arg1)) i) ((m ((c : Thread nD τ).loc main_arg2)) i) := by
  refine (dats m 0 c).arrAt_eq_of_covers 8 _ (by decide +kernel) fun t hf y => ?_
  blk_simp
  rw [after0_8]
  refine (delta_out (grid0.coords t) _ _ _ _ _ _ _ y).trans ?_
  have e : (win0_8.blk t).view.emb y = pos t y := by
    have h0 : (y 0).val < 1 := (y 0).isLt
    blk_ext [idx t, pos]
  rw [e]
  rw [blk0 m c t, blk1 m c t, blk2 m c t, grad_blk m c t]

end Cert.Kernel29Ideal.Adam

namespace Cert.Proof.Adam29

open Cert.Spec Cert.Spec.Adam

theorem algebraic : Cert.algebraic_Kernel29Ideal_Reference29Ideal := by
  intro m g m' g' _ hagree
  refine ⟨_, _, _, _, Cert.Kernel29Ideal.Value.run_blocks m g, ?_⟩
  refine θ_run_mono (Cert.Reference29Ideal.Adam.run m' g') fun r h c => ?_
  obtain ⟨e0, e1, e2, e3, e4, e5, e6⟩ := hagree c
  exact ⟨(h c).1.trans (by rw [e3, e4, e5, e6]; exact (Cert.Kernel29Ideal.Adam.final7 m c).symm),
    (h c).2.1.trans (by rw [e0, e1, e2, e3, e4, e5, e6]; exact (Cert.Kernel29Ideal.Adam.final8 m c).symm),
    (h c).2.2.1.trans (by rw [e1, e3, e4, e5, e6]; exact (Cert.Kernel29Ideal.Adam.final9 m c).symm),
    (h c).2.2.2.1.trans (by rw [e2, e3, e4, e5, e6]; exact (Cert.Kernel29Ideal.Adam.final10 m c).symm), (h c).2.2.2.2⟩

end Cert.Proof.Adam29

end
-- ==== Proof.Adam30.lean ====
/-
  The optimiser's call for the weights of keys and values: what the kernel leaves in its four arrays, what the reference computes, and that
  the two are the same.
-/
module

public import proofs.«01_k».proof.Defs
public import proofs.«01_k».proof.Proof.Gen.Kernel30Ideal.Value
public import proofs.«01_k».proof.Proof.Gen.Reference30Ideal.Read
public import proofs.«01_k».proof.Proof.Adam
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Reference30Ideal.Adam

open Cert.Reference30Ideal Cert.Reference30Ideal.Gen Cert.Reference30Ideal.Read Cert.Spec Cert.Spec.Adam

variable (x0 : FVec Ideal S2x1024x512 .f32) (x1 : FVec Ideal S2x1024x512 .f32) (x2 : FVec Ideal S2x1024x512 .f32) (x3 : FVec Ideal S1x1024x512 .f32) (x4 : FVec Ideal S1x1024x512 .f32) (x5 : FVec Ideal S1x1024x512 .f32) (x6 : FVec Ideal S1x1024x512 .f32)

theorem g_eq (i : S2x1024x512.Idx) : val_main_v2 (F := Ideal) x3 x4 x5 x6 i = grad2 (A := 1024) (B := 512) x3 x4 x5 x6 i := by
  unfold grad2
  pointwise [val_main_v0, val_main_v1, val_main_v2]
  by_cases h : (i 0).val < 1
  · rw [dif_pos h, if_pos (Nat.lt_one_iff.mp h)]
    have z : (⟨(i 0).val, h⟩ : Fin 1) = 0 := Subsingleton.elim _ _
    exact congrArg (fun k : Fin 1 => x3 (ix3 k (i 1) (i 2)) + x4 (ix3 k (i 1) (i 2))) z
  · rw [dif_neg h, if_neg (fun e => h (Nat.lt_one_iff.mpr e))]
    exact congrArg (fun k : Fin 1 => x5 (ix3 k (i 1) (i 2)) + x6 (ix3 k (i 1) (i 2))) (Subsingleton.elim _ 0)

theorem newM_eq (i : S2x1024x512.Idx) : val_main_v7 (F := Ideal) x1 x3 x4 x5 x6 i = newM (grad2 (A := 1024) (B := 512) x3 x4 x5 x6 i) (x1 i) := by
  rw [← g_eq x3 x4 x5 x6]
  pointwise [val_main_v0, val_main_v1, val_main_cst, val_main_v3, val_main_v4, val_main_cst_0, val_main_v5, val_main_v6, val_main_v7, val_main_cst_1, val_main_v8, val_main_v9, val_main_v10, val_main_cst_2, val_main_v11, val_main_v12, val_main_v13, val_main_cst_3, val_main_v14, val_main_v15, val_main_cst_4, val_main_v16, val_main_v17, val_main_v18, val_main_cst_5, val_main_v19, val_main_v20, val_main_v21, val_main_cst_6, val_main_v22, val_main_v23, val_main_v24, val_main_cst_7, val_main_v25, val_main_v26, newM, newV, delta]

theorem newV_eq (i : S2x1024x512.Idx) : val_main_v13 (F := Ideal) x2 x3 x4 x5 x6 i = newV (grad2 (A := 1024) (B := 512) x3 x4 x5 x6 i) (x2 i) := by
  rw [← g_eq x3 x4 x5 x6]
  pointwise [val_main_v0, val_main_v1, val_main_cst, val_main_v3, val_main_v4, val_main_cst_0, val_main_v5, val_main_v6, val_main_v7, val_main_cst_1, val_main_v8, val_main_v9, val_main_v10, val_main_cst_2, val_main_v11, val_main_v12, val_main_v13, val_main_cst_3, val_main_v14, val_main_v15, val_main_cst_4, val_main_v16, val_main_v17, val_main_v18, val_main_cst_5, val_main_v19, val_main_v20, val_main_v21, val_main_cst_6, val_main_v22, val_main_v23, val_main_v24, val_main_cst_7, val_main_v25, val_main_v26, newM, newV, delta]

theorem delta_eq (i : S2x1024x512.Idx) : val_main_v26 (F := Ideal) x0 x1 x2 x3 x4 x5 x6 i = delta (x0 i) (grad2 (A := 1024) (B := 512) x3 x4 x5 x6 i) (x1 i) (x2 i) := by
  rw [← g_eq x3 x4 x5 x6]
  pointwise [val_main_v0, val_main_v1, val_main_cst, val_main_v3, val_main_v4, val_main_cst_0, val_main_v5, val_main_v6, val_main_v7, val_main_cst_1, val_main_v8, val_main_v9, val_main_v10, val_main_cst_2, val_main_v11, val_main_v12, val_main_v13, val_main_cst_3, val_main_v14, val_main_v15, val_main_cst_4, val_main_v16, val_main_v17, val_main_v18, val_main_cst_5, val_main_v19, val_main_v20, val_main_v21, val_main_cst_6, val_main_v22, val_main_v23, val_main_v24, val_main_cst_7, val_main_v25, val_main_v26, newM, newV, delta]

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v2) = (fun i => grad2 (A := 1024) (B := 512) (m ((c.tc : Thread nD τ).loc main_arg3)) (m ((c.tc : Thread nD τ).loc main_arg4)) (m ((c.tc : Thread nD τ).loc main_arg5)) (m ((c.tc : Thread nD τ).loc main_arg6)) i)
      ∧ r.2.mem ((c.tc : Thread nD τ).loc main_v26) = (fun i => delta ((m ((c.tc : Thread nD τ).loc main_arg0)) i) (grad2 (A := 1024) (B := 512) (m ((c.tc : Thread nD τ).loc main_arg3)) (m ((c.tc : Thread nD τ).loc main_arg4)) (m ((c.tc : Thread nD τ).loc main_arg5)) (m ((c.tc : Thread nD τ).loc main_arg6)) i) ((m ((c.tc : Thread nD τ).loc main_arg1)) i) ((m ((c.tc : Thread nD τ).loc main_arg2)) i))
      ∧ r.2.mem ((c.tc : Thread nD τ).loc main_v7) = (fun i => newM (grad2 (A := 1024) (B := 512) (m ((c.tc : Thread nD τ).loc main_arg3)) (m ((c.tc : Thread nD τ).loc main_arg4)) (m ((c.tc : Thread nD τ).loc main_arg5)) (m ((c.tc : Thread nD τ).loc main_arg6)) i) ((m ((c.tc : Thread nD τ).loc main_arg1)) i))
      ∧ r.2.mem ((c.tc : Thread nD τ).loc main_v13) = (fun i => newV (grad2 (A := 1024) (B := 512) (m ((c.tc : Thread nD τ).loc main_arg3)) (m ((c.tc : Thread nD τ).loc main_arg4)) (m ((c.tc : Thread nD τ).loc main_arg5)) (m ((c.tc : Thread nD τ).loc main_arg6)) i) ((m ((c.tc : Thread nD τ).loc main_arg2)) i))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c).1.trans ((val_main_v2_eq _ _ _ _).trans (funext fun i => g_eq _ _ _ _ i)),
    (h c).2.1.trans ((val_main_v26_eq _ _ _ _ _ _ _).trans (funext fun i => delta_eq _ _ _ _ _ _ _ i)),
    (h c).2.2.1.trans ((val_main_v7_eq _ _ _ _ _).trans (funext fun i => newM_eq _ _ _ _ _ i)),
    (h c).2.2.2.1.trans ((val_main_v13_eq _ _ _ _ _).trans (funext fun i => newV_eq _ _ _ _ _ i)), (h c).2.2.2.2⟩) (Cert.Reference30Ideal.Value.run m ρ)

end Cert.Reference30Ideal.Adam

namespace Cert.Kernel30Ideal.Adam

open Cert.Kernel30Ideal Cert.Kernel30Ideal.Gen Cert.Spec Cert.Spec.Adam

section Block

variable (i : grid0.Coords) (x0 : Vec Ideal S1x512x512 .f32) (x1 : Vec Ideal S1x512x512 .f32) (x2 : Vec Ideal S1x512x512 .f32) (x3 : Vec Ideal S1x512x512 .f32) (x4 : Vec Ideal S1x512x512 .f32) (x5 : Vec Ideal S1x512x512 .f32) (x6 : Vec Ideal S1x512x512 .f32)

/-- The block's gradient. -/
def gB (y : S1x512x512.Idx) : EReal := if (i 0).val = 0 then x3 y + x4 y else x5 y + x6 y

theorem pay5_eq (y : S512x512.Idx) : k0_pay5 (F := Ideal) i x3 x4 x5 x6 y = gB i x3 x4 x5 x6 (ix3 0 (y 0) (y 1)) := by
  have h0 : (i 0).val < 2 := (i 0).isLt
  unfold gB
  by_cases h : (i 0).val = 0
  · have e : Scalar.cmpi .eq (BitVec.ofNat 32 (i 0).val) 1#32 = 0#1 := by rw [h]; rfl
    rw [if_pos h]
    unfold k0_pay5
    simp only [e]
    pointwise
  · have e : Scalar.cmpi .eq (BitVec.ofNat 32 (i 0).val) 1#32 = 1#1 := by rw [show (i 0).val = 1 by omega]; rfl
    rw [if_neg h]
    unfold k0_pay5
    simp only [e]
    pointwise

theorem g_at (p : Fin 512) (q : Fin 512) : out0_7 i x0 x1 x2 x3 x4 x5 x6 (ix3 0 p q) = gB i x3 x4 x5 x6 (ix3 0 p q) := by
  unfold_out out0_7
  rw [View.canon_unit_zero (by decide)]
  simp only [View.ld_unit_zero (S := S1x512x512) (by decide : (![0, 0, 0] : Fin 3 → ℕ) = fun _ => 0)]
  pointwise [k0_pay1, k0_pay2, k0_pay3, k0_pay4, k0_pay6, k0_pay7, k0_pay8, k0_pay9, pay5_eq, newM, newV, delta]
  try rfl

theorem g_out (y : S1x512x512.Idx) : out0_7 i x0 x1 x2 x3 x4 x5 x6 y = gB i x3 x4 x5 x6 y := by
  have h0 : y = ix3 0 (y 1) (y 2) := by blk_ext
  rw [h0]
  exact g_at i x0 x1 x2 x3 x4 x5 x6 (y 1) (y 2)

theorem newM_at (p : Fin 512) (q : Fin 512) : out0_9 i x0 x1 x2 x3 x4 x5 x6 (ix3 0 p q) = newM (gB i x3 x4 x5 x6 (ix3 0 p q)) (x1 (ix3 0 p q)) := by
  unfold_out out0_9
  rw [View.canon_unit_zero (by decide)]
  simp only [View.ld_unit_zero (S := S1x512x512) (by decide : (![0, 0, 0] : Fin 3 → ℕ) = fun _ => 0)]
  pointwise [k0_pay1, k0_pay2, k0_pay3, k0_pay4, k0_pay6, k0_pay7, k0_pay8, k0_pay9, pay5_eq, newM, newV, delta]
  try rfl

theorem newM_out (y : S1x512x512.Idx) : out0_9 i x0 x1 x2 x3 x4 x5 x6 y = newM (gB i x3 x4 x5 x6 y) (x1 y) := by
  have h0 : y = ix3 0 (y 1) (y 2) := by blk_ext
  rw [h0]
  exact newM_at i x0 x1 x2 x3 x4 x5 x6 (y 1) (y 2)

theorem newV_at (p : Fin 512) (q : Fin 512) : out0_10 i x0 x1 x2 x3 x4 x5 x6 (ix3 0 p q) = newV (gB i x3 x4 x5 x6 (ix3 0 p q)) (x2 (ix3 0 p q)) := by
  unfold_out out0_10
  rw [View.canon_unit_zero (by decide)]
  simp only [View.ld_unit_zero (S := S1x512x512) (by decide : (![0, 0, 0] : Fin 3 → ℕ) = fun _ => 0)]
  pointwise [k0_pay1, k0_pay2, k0_pay3, k0_pay4, k0_pay6, k0_pay7, k0_pay8, k0_pay9, pay5_eq, newM, newV, delta]
  try rfl

theorem newV_out (y : S1x512x512.Idx) : out0_10 i x0 x1 x2 x3 x4 x5 x6 y = newV (gB i x3 x4 x5 x6 y) (x2 y) := by
  have h0 : y = ix3 0 (y 1) (y 2) := by blk_ext
  rw [h0]
  exact newV_at i x0 x1 x2 x3 x4 x5 x6 (y 1) (y 2)

theorem delta_at (p : Fin 512) (q : Fin 512) : out0_8 i x0 x1 x2 x3 x4 x5 x6 (ix3 0 p q) = delta (x0 (ix3 0 p q)) (gB i x3 x4 x5 x6 (ix3 0 p q)) (x1 (ix3 0 p q)) (x2 (ix3 0 p q)) := by
  unfold_out out0_8
  rw [View.canon_unit_zero (by decide)]
  simp only [View.ld_unit_zero (S := S1x512x512) (by decide : (![0, 0, 0] : Fin 3 → ℕ) = fun _ => 0)]
  pointwise [k0_pay1, k0_pay2, k0_pay3, k0_pay4, k0_pay6, k0_pay7, k0_pay8, k0_pay9, pay5_eq, newM, newV, delta]
  try rfl

theorem delta_out (y : S1x512x512.Idx) : out0_8 i x0 x1 x2 x3 x4 x5 x6 y = delta (x0 y) (gB i x3 x4 x5 x6 y) (x1 y) (x2 y) := by
  have h0 : y = ix3 0 (y 1) (y 2) := by blk_ext
  rw [h0]
  exact delta_at i x0 x1 x2 x3 x4 x5 x6 (y 1) (y 2)

end Block

variable (m : (ℓ : Loc nD τ sig) → Buf (Elt Ideal) ℓ)

theorem idx : ∀ t : Fin cfg0.N, win0_0.index t = ![t.val / 2, t.val % 2, 0] ∧ win0_1.index t = ![t.val / 2, t.val % 2, 0] ∧ win0_2.index t = ![t.val / 2, t.val % 2, 0] ∧ win0_7.index t = ![t.val / 2, t.val % 2, 0] ∧ win0_8.index t = ![t.val / 2, t.val % 2, 0] ∧ win0_9.index t = ![t.val / 2, t.val % 2, 0] ∧ win0_10.index t = ![t.val / 2, t.val % 2, 0] :=
  (by decide +kernel : ∀ t : Fin grid0.N, _)

theorem idxA : ∀ t : Fin cfg0.N, t.val / 2 = 0 → win0_3.index t = ![0, t.val % 2, 0] ∧ win0_4.index t = ![0, t.val % 2, 0] :=
  (by decide +kernel : ∀ t : Fin grid0.N, _)

theorem idxB : ∀ t : Fin cfg0.N, ¬ t.val / 2 = 0 → win0_5.index t = ![0, t.val % 2, 0] ∧ win0_6.index t = ![0, t.val % 2, 0] :=
  (by decide +kernel : ∀ t : Fin grid0.N, _)

theorem layer : ∀ t : Fin cfg0.N, (grid0.coords t 0).val = t.val / 2 :=
  (by decide +kernel : ∀ t : Fin grid0.N, _)

/-- The place of a block's element in the array. -/
def pos (t : Fin cfg0.N) (y : S1x512x512.Idx) : S2x1024x512.Idx :=
  ix3 ⟨t.val / 2, by have := lt_of_lt_of_eq t.isLt N_0; omega⟩ ⟨t.val % 2 * 512 + (y 1).val, by have := lt_of_lt_of_eq t.isLt N_0; have : (y 1).val < 512 := (y 1).isLt; omega⟩ (y 2)

theorem blk0 (c : Dev nD) (t : Fin cfg0.N) (y : S1x512x512.Idx) : iblk m c 0 t y = (m ((c : Thread nD τ).loc main_arg0)) (pos t y) := by
  have h0 : (y 0).val < 1 := (y 0).isLt
  blk_ext [iblk, V, idx t, pos]

theorem blk1 (c : Dev nD) (t : Fin cfg0.N) (y : S1x512x512.Idx) : iblk m c 1 t y = (m ((c : Thread nD τ).loc main_arg1)) (pos t y) := by
  have h0 : (y 0).val < 1 := (y 0).isLt
  blk_ext [iblk, V, idx t, pos]

theorem blk2 (c : Dev nD) (t : Fin cfg0.N) (y : S1x512x512.Idx) : iblk m c 2 t y = (m ((c : Thread nD τ).loc main_arg2)) (pos t y) := by
  have h0 : (y 0).val < 1 := (y 0).isLt
  blk_ext [iblk, V, idx t, pos]

theorem blk3 (c : Dev nD) (t : Fin cfg0.N) (h : t.val / 2 = 0) (y : S1x512x512.Idx) : iblk m c 3 t y = (m ((c : Thread nD τ).loc main_arg3)) (ix3 0 (pos t y 1) (pos t y 2)) := by
  have h0 : (y 0).val < 1 := (y 0).isLt
  blk_ext [iblk, V, idxA t h, pos]

theorem blk4 (c : Dev nD) (t : Fin cfg0.N) (h : t.val / 2 = 0) (y : S1x512x512.Idx) : iblk m c 4 t y = (m ((c : Thread nD τ).loc main_arg4)) (ix3 0 (pos t y 1) (pos t y 2)) := by
  have h0 : (y 0).val < 1 := (y 0).isLt
  blk_ext [iblk, V, idxA t h, pos]

theorem blk5 (c : Dev nD) (t : Fin cfg0.N) (h : ¬ t.val / 2 = 0) (y : S1x512x512.Idx) : iblk m c 5 t y = (m ((c : Thread nD τ).loc main_arg5)) (ix3 0 (pos t y 1) (pos t y 2)) := by
  have h0 : (y 0).val < 1 := (y 0).isLt
  blk_ext [iblk, V, idxB t h, pos]

theorem blk6 (c : Dev nD) (t : Fin cfg0.N) (h : ¬ t.val / 2 = 0) (y : S1x512x512.Idx) : iblk m c 6 t y = (m ((c : Thread nD τ).loc main_arg6)) (ix3 0 (pos t y 1) (pos t y 2)) := by
  have h0 : (y 0).val < 1 := (y 0).isLt
  blk_ext [iblk, V, idxB t h, pos]

theorem grad_blk (c : Dev nD) (t : Fin cfg0.N) (y : S1x512x512.Idx) : gB (grid0.coords t) (iblk m c 3 t) (iblk m c 4 t) (iblk m c 5 t) (iblk m c 6 t) y
    = grad2 (A := 1024) (B := 512) (m ((c : Thread nD τ).loc main_arg3)) (m ((c : Thread nD τ).loc main_arg4)) (m ((c : Thread nD τ).loc main_arg5)) (m ((c : Thread nD τ).loc main_arg6)) (pos t y) := by
  unfold gB grad2
  have e : (pos t y 0).val = t.val / 2 := rfl
  rw [layer t, e]
  by_cases h : t.val / 2 = 0
  · rw [if_pos h, if_pos h, blk3 m c t h, blk4 m c t h]
  · rw [if_neg h, if_neg h, blk5 m c t h, blk6 m c t h]

theorem final7 (c : Dev nD) : (dats m 0 c).arrAt 7 cfg0.N = fun i => grad2 (A := 1024) (B := 512) (m ((c : Thread nD τ).loc main_arg3)) (m ((c : Thread nD τ).loc main_arg4)) (m ((c : Thread nD τ).loc main_arg5)) (m ((c : Thread nD τ).loc main_arg6)) i := by
  refine (dats m 0 c).arrAt_eq_of_covers 7 _ (by decide +kernel) fun t hf y => ?_
  blk_simp
  rw [after0_7]
  refine (g_out (grid0.coords t) _ _ _ _ _ _ _ y).trans ?_
  have e : (win0_7.blk t).view.emb y = pos t y := by
    have h0 : (y 0).val < 1 := (y 0).isLt
    blk_ext [idx t, pos]
  rw [e]
  rw [grad_blk m c t]

theorem final9 (c : Dev nD) : (dats m 0 c).arrAt 9 cfg0.N = fun i => newM (grad2 (A := 1024) (B := 512) (m ((c : Thread nD τ).loc main_arg3)) (m ((c : Thread nD τ).loc main_arg4)) (m ((c : Thread nD τ).loc main_arg5)) (m ((c : Thread nD τ).loc main_arg6)) i) ((m ((c : Thread nD τ).loc main_arg1)) i) := by
  refine (dats m 0 c).arrAt_eq_of_covers 9 _ (by decide +kernel) fun t hf y => ?_
  blk_simp
  rw [after0_9]
  refine (newM_out (grid0.coords t) _ _ _ _ _ _ _ y).trans ?_
  have e : (win0_9.blk t).view.emb y = pos t y := by
    have h0 : (y 0).val < 1 := (y 0).isLt
    blk_ext [idx t, pos]
  rw [e]
  rw [blk1 m c t, grad_blk m c t]

theorem final10 (c : Dev nD) : (dats m 0 c).arrAt 10 cfg0.N = fun i => newV (grad2 (A := 1024) (B := 512) (m ((c : Thread nD τ).loc main_arg3)) (m ((c : Thread nD τ).loc main_arg4)) (m ((c : Thread nD τ).loc main_arg5)) (m ((c : Thread nD τ).loc main_arg6)) i) ((m ((c : Thread nD τ).loc main_arg2)) i) := by
  refine (dats m 0 c).arrAt_eq_of_covers 10 _ (by decide +kernel) fun t hf y => ?_
  blk_simp
  rw [after0_10]
  refine (newV_out (grid0.coords t) _ _ _ _ _ _ _ y).trans ?_
  have e : (win0_10.blk t).view.emb y = pos t y := by
    have h0 : (y 0).val < 1 := (y 0).isLt
    blk_ext [idx t, pos]
  rw [e]
  rw [blk2 m c t, grad_blk m c t]

theorem final8 (c : Dev nD) : (dats m 0 c).arrAt 8 cfg0.N = fun i => delta ((m ((c : Thread nD τ).loc main_arg0)) i) (grad2 (A := 1024) (B := 512) (m ((c : Thread nD τ).loc main_arg3)) (m ((c : Thread nD τ).loc main_arg4)) (m ((c : Thread nD τ).loc main_arg5)) (m ((c : Thread nD τ).loc main_arg6)) i) ((m ((c : Thread nD τ).loc main_arg1)) i) ((m ((c : Thread nD τ).loc main_arg2)) i) := by
  refine (dats m 0 c).arrAt_eq_of_covers 8 _ (by decide +kernel) fun t hf y => ?_
  blk_simp
  rw [after0_8]
  refine (delta_out (grid0.coords t) _ _ _ _ _ _ _ y).trans ?_
  have e : (win0_8.blk t).view.emb y = pos t y := by
    have h0 : (y 0).val < 1 := (y 0).isLt
    blk_ext [idx t, pos]
  rw [e]
  rw [blk0 m c t, blk1 m c t, blk2 m c t, grad_blk m c t]

end Cert.Kernel30Ideal.Adam

namespace Cert.Proof.Adam30

open Cert.Spec Cert.Spec.Adam

theorem algebraic : Cert.algebraic_Kernel30Ideal_Reference30Ideal := by
  intro m g m' g' _ hagree
  refine ⟨_, _, _, _, Cert.Kernel30Ideal.Value.run_blocks m g, ?_⟩
  refine θ_run_mono (Cert.Reference30Ideal.Adam.run m' g') fun r h c => ?_
  obtain ⟨e0, e1, e2, e3, e4, e5, e6⟩ := hagree c
  exact ⟨(h c).1.trans (by rw [e3, e4, e5, e6]; exact (Cert.Kernel30Ideal.Adam.final7 m c).symm),
    (h c).2.1.trans (by rw [e0, e1, e2, e3, e4, e5, e6]; exact (Cert.Kernel30Ideal.Adam.final8 m c).symm),
    (h c).2.2.1.trans (by rw [e1, e3, e4, e5, e6]; exact (Cert.Kernel30Ideal.Adam.final9 m c).symm),
    (h c).2.2.2.1.trans (by rw [e2, e3, e4, e5, e6]; exact (Cert.Kernel30Ideal.Adam.final10 m c).symm), (h c).2.2.2.2⟩

end Cert.Proof.Adam30

end
-- ==== Proof.Adam31.lean ====
/-
  The optimiser's call for the even mixer's first weights: what the kernel leaves in its four arrays, what the reference computes, and that
  the two are the same.
-/
module

public import proofs.«01_k».proof.Defs
public import proofs.«01_k».proof.Proof.Gen.Kernel31Ideal.Value
public import proofs.«01_k».proof.Proof.Gen.Reference31Ideal.Read
public import proofs.«01_k».proof.Proof.Adam
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Reference31Ideal.Adam

open Cert.Reference31Ideal Cert.Reference31Ideal.Gen Cert.Reference31Ideal.Read Cert.Spec Cert.Spec.Adam

variable (x0 : FVec Ideal S1x1024x448 .f32) (x1 : FVec Ideal S1x1024x448 .f32) (x2 : FVec Ideal S1x1024x448 .f32) (x3 : FVec Ideal S1x1024x448 .f32) (x4 : FVec Ideal S1x1024x448 .f32)

theorem g_eq (i : S1x1024x448.Idx) : val_main_v0 (F := Ideal) x3 x4 i = grad1 (S := S1x1024x448) x3 x4 i := by
  unfold grad1
  pointwise [val_main_v0]

theorem newM_eq (i : S1x1024x448.Idx) : val_main_v5 (F := Ideal) x1 x3 x4 i = newM (grad1 (S := S1x1024x448) x3 x4 i) (x1 i) := by
  rw [← g_eq x3 x4]
  pointwise [val_main_cst, val_main_v1, val_main_v2, val_main_cst_0, val_main_v3, val_main_v4, val_main_v5, val_main_cst_1, val_main_v6, val_main_v7, val_main_v8, val_main_cst_2, val_main_v9, val_main_v10, val_main_v11, val_main_cst_3, val_main_v12, val_main_v13, val_main_cst_4, val_main_v14, val_main_v15, val_main_v16, val_main_cst_5, val_main_v17, val_main_v18, val_main_v19, val_main_cst_6, val_main_v20, val_main_v21, val_main_v22, val_main_cst_7, val_main_v23, val_main_v24, newM, newV, delta]

theorem newV_eq (i : S1x1024x448.Idx) : val_main_v11 (F := Ideal) x2 x3 x4 i = newV (grad1 (S := S1x1024x448) x3 x4 i) (x2 i) := by
  rw [← g_eq x3 x4]
  pointwise [val_main_cst, val_main_v1, val_main_v2, val_main_cst_0, val_main_v3, val_main_v4, val_main_v5, val_main_cst_1, val_main_v6, val_main_v7, val_main_v8, val_main_cst_2, val_main_v9, val_main_v10, val_main_v11, val_main_cst_3, val_main_v12, val_main_v13, val_main_cst_4, val_main_v14, val_main_v15, val_main_v16, val_main_cst_5, val_main_v17, val_main_v18, val_main_v19, val_main_cst_6, val_main_v20, val_main_v21, val_main_v22, val_main_cst_7, val_main_v23, val_main_v24, newM, newV, delta]

theorem delta_eq (i : S1x1024x448.Idx) : val_main_v24 (F := Ideal) x0 x1 x2 x3 x4 i = delta (x0 i) (grad1 (S := S1x1024x448) x3 x4 i) (x1 i) (x2 i) := by
  rw [← g_eq x3 x4]
  pointwise [val_main_cst, val_main_v1, val_main_v2, val_main_cst_0, val_main_v3, val_main_v4, val_main_v5, val_main_cst_1, val_main_v6, val_main_v7, val_main_v8, val_main_cst_2, val_main_v9, val_main_v10, val_main_v11, val_main_cst_3, val_main_v12, val_main_v13, val_main_cst_4, val_main_v14, val_main_v15, val_main_v16, val_main_cst_5, val_main_v17, val_main_v18, val_main_v19, val_main_cst_6, val_main_v20, val_main_v21, val_main_v22, val_main_cst_7, val_main_v23, val_main_v24, newM, newV, delta]

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v0) = (fun i => grad1 (S := S1x1024x448) (m ((c.tc : Thread nD τ).loc main_arg3)) (m ((c.tc : Thread nD τ).loc main_arg4)) i)
      ∧ r.2.mem ((c.tc : Thread nD τ).loc main_v24) = (fun i => delta ((m ((c.tc : Thread nD τ).loc main_arg0)) i) (grad1 (S := S1x1024x448) (m ((c.tc : Thread nD τ).loc main_arg3)) (m ((c.tc : Thread nD τ).loc main_arg4)) i) ((m ((c.tc : Thread nD τ).loc main_arg1)) i) ((m ((c.tc : Thread nD τ).loc main_arg2)) i))
      ∧ r.2.mem ((c.tc : Thread nD τ).loc main_v5) = (fun i => newM (grad1 (S := S1x1024x448) (m ((c.tc : Thread nD τ).loc main_arg3)) (m ((c.tc : Thread nD τ).loc main_arg4)) i) ((m ((c.tc : Thread nD τ).loc main_arg1)) i))
      ∧ r.2.mem ((c.tc : Thread nD τ).loc main_v11) = (fun i => newV (grad1 (S := S1x1024x448) (m ((c.tc : Thread nD τ).loc main_arg3)) (m ((c.tc : Thread nD τ).loc main_arg4)) i) ((m ((c.tc : Thread nD τ).loc main_arg2)) i))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans ((val_main_v0_eq _ _).trans (funext fun i => g_eq _ _ i)),
    (h c).2.1.trans ((val_main_v24_eq _ _ _ _ _).trans (funext fun i => delta_eq _ _ _ _ _ i)),
    (h c).2.2.1.trans ((val_main_v5_eq _ _ _).trans (funext fun i => newM_eq _ _ _ i)),
    (h c).2.2.2.1.trans ((val_main_v11_eq _ _ _).trans (funext fun i => newV_eq _ _ _ i)), (h c).2.2.2.2⟩) (Cert.Reference31Ideal.Value.run m ρ)

end Cert.Reference31Ideal.Adam

namespace Cert.Kernel31Ideal.Adam

open Cert.Kernel31Ideal Cert.Kernel31Ideal.Gen Cert.Spec Cert.Spec.Adam

section Block

variable (x0 : Vec Ideal S1x512x448 .f32) (x1 : Vec Ideal S1x512x448 .f32) (x2 : Vec Ideal S1x512x448 .f32) (x3 : Vec Ideal S1x512x448 .f32) (x4 : Vec Ideal S1x512x448 .f32)

theorem g_at (p : Fin 512) (q : Fin 448) : out0_5 x0 x1 x2 x3 x4 (ix3 0 p q) = (x3 (ix3 0 p q) + x4 (ix3 0 p q)) := by
  unfold out0_5 r0_0
  rw [View.canon_unit_zero (by decide)]
  simp only [View.ld_unit_zero (S := S1x512x448) (by decide : (![0, 0, 0] : Fin 3 → ℕ) = fun _ => 0)]
  pointwise [k0_pay1, k0_pay2, k0_pay3, k0_pay4, k0_pay5, k0_pay6, k0_pay7, k0_pay8, k0_pay9, newM, newV, delta]
  try rfl

theorem g_out (y : S1x512x448.Idx) : out0_5 x0 x1 x2 x3 x4 y = (x3 y + x4 y) := by
  have h0 : y = ix3 0 (y 1) (y 2) := by blk_ext
  rw [h0]
  exact g_at x0 x1 x2 x3 x4 (y 1) (y 2)

theorem newM_at (p : Fin 512) (q : Fin 448) : out0_7 x0 x1 x2 x3 x4 (ix3 0 p q) = newM ((x3 (ix3 0 p q) + x4 (ix3 0 p q))) (x1 (ix3 0 p q)) := by
  unfold out0_7 r0_0
  rw [View.canon_unit_zero (by decide)]
  simp only [View.ld_unit_zero (S := S1x512x448) (by decide : (![0, 0, 0] : Fin 3 → ℕ) = fun _ => 0)]
  pointwise [k0_pay1, k0_pay2, k0_pay3, k0_pay4, k0_pay5, k0_pay6, k0_pay7, k0_pay8, k0_pay9, newM, newV, delta]
  try rfl

theorem newM_out (y : S1x512x448.Idx) : out0_7 x0 x1 x2 x3 x4 y = newM ((x3 y + x4 y)) (x1 y) := by
  have h0 : y = ix3 0 (y 1) (y 2) := by blk_ext
  rw [h0]
  exact newM_at x0 x1 x2 x3 x4 (y 1) (y 2)

theorem newV_at (p : Fin 512) (q : Fin 448) : out0_8 x0 x1 x2 x3 x4 (ix3 0 p q) = newV ((x3 (ix3 0 p q) + x4 (ix3 0 p q))) (x2 (ix3 0 p q)) := by
  unfold out0_8 r0_0
  rw [View.canon_unit_zero (by decide)]
  simp only [View.ld_unit_zero (S := S1x512x448) (by decide : (![0, 0, 0] : Fin 3 → ℕ) = fun _ => 0)]
  pointwise [k0_pay1, k0_pay2, k0_pay3, k0_pay4, k0_pay5, k0_pay6, k0_pay7, k0_pay8, k0_pay9, newM, newV, delta]
  try rfl

theorem newV_out (y : S1x512x448.Idx) : out0_8 x0 x1 x2 x3 x4 y = newV ((x3 y + x4 y)) (x2 y) := by
  have h0 : y = ix3 0 (y 1) (y 2) := by blk_ext
  rw [h0]
  exact newV_at x0 x1 x2 x3 x4 (y 1) (y 2)

theorem delta_at (p : Fin 512) (q : Fin 448) : out0_6 x0 x1 x2 x3 x4 (ix3 0 p q) = delta (x0 (ix3 0 p q)) ((x3 (ix3 0 p q) + x4 (ix3 0 p q))) (x1 (ix3 0 p q)) (x2 (ix3 0 p q)) := by
  unfold out0_6 r0_0
  rw [View.canon_unit_zero (by decide)]
  simp only [View.ld_unit_zero (S := S1x512x448) (by decide : (![0, 0, 0] : Fin 3 → ℕ) = fun _ => 0)]
  pointwise [k0_pay1, k0_pay2, k0_pay3, k0_pay4, k0_pay5, k0_pay6, k0_pay7, k0_pay8, k0_pay9, newM, newV, delta]
  try rfl

theorem delta_out (y : S1x512x448.Idx) : out0_6 x0 x1 x2 x3 x4 y = delta (x0 y) ((x3 y + x4 y)) (x1 y) (x2 y) := by
  have h0 : y = ix3 0 (y 1) (y 2) := by blk_ext
  rw [h0]
  exact delta_at x0 x1 x2 x3 x4 (y 1) (y 2)

end Block

variable (m : (ℓ : Loc nD τ sig) → Buf (Elt Ideal) ℓ)

theorem idx : ∀ t : Fin cfg0.N, win0_0.index t = ![0, t.val, 0] ∧ win0_1.index t = ![0, t.val, 0] ∧ win0_2.index t = ![0, t.val, 0] ∧ win0_5.index t = ![0, t.val, 0] ∧ win0_6.index t = ![0, t.val, 0] ∧ win0_7.index t = ![0, t.val, 0] ∧ win0_8.index t = ![0, t.val, 0] ∧ win0_3.index t = ![0, t.val, 0] ∧ win0_4.index t = ![0, t.val, 0] :=
  (by decide +kernel : ∀ t : Fin grid0.N, _)

/-- The place of a block's element in the array. -/
def pos (t : Fin cfg0.N) (y : S1x512x448.Idx) : S1x1024x448.Idx :=
  ix3 ⟨0, by have := lt_of_lt_of_eq t.isLt N_0; omega⟩ ⟨t.val * 512 + (y 1).val, by have := lt_of_lt_of_eq t.isLt N_0; have : (y 1).val < 512 := (y 1).isLt; omega⟩ (y 2)

theorem blk0 (c : Dev nD) (t : Fin cfg0.N) (y : S1x512x448.Idx) : iblk m c 0 t y = (m ((c : Thread nD τ).loc main_arg0)) (pos t y) := by
  have h0 : (y 0).val < 1 := (y 0).isLt
  blk_ext [iblk, V, idx t, pos]

theorem blk1 (c : Dev nD) (t : Fin cfg0.N) (y : S1x512x448.Idx) : iblk m c 1 t y = (m ((c : Thread nD τ).loc main_arg1)) (pos t y) := by
  have h0 : (y 0).val < 1 := (y 0).isLt
  blk_ext [iblk, V, idx t, pos]

theorem blk2 (c : Dev nD) (t : Fin cfg0.N) (y : S1x512x448.Idx) : iblk m c 2 t y = (m ((c : Thread nD τ).loc main_arg2)) (pos t y) := by
  have h0 : (y 0).val < 1 := (y 0).isLt
  blk_ext [iblk, V, idx t, pos]

theorem blk3 (c : Dev nD) (t : Fin cfg0.N) (y : S1x512x448.Idx) : iblk m c 3 t y = (m ((c : Thread nD τ).loc main_arg3)) (pos t y) := by
  have h0 : (y 0).val < 1 := (y 0).isLt
  blk_ext [iblk, V, idx t, pos]

theorem blk4 (c : Dev nD) (t : Fin cfg0.N) (y : S1x512x448.Idx) : iblk m c 4 t y = (m ((c : Thread nD τ).loc main_arg4)) (pos t y) := by
  have h0 : (y 0).val < 1 := (y 0).isLt
  blk_ext [iblk, V, idx t, pos]

theorem final5 (c : Dev nD) : (dats m 0 c).arrAt 5 cfg0.N = fun i => grad1 (S := S1x1024x448) (m ((c : Thread nD τ).loc main_arg3)) (m ((c : Thread nD τ).loc main_arg4)) i := by
  refine (dats m 0 c).arrAt_eq_of_covers 5 _ (by decide +kernel) fun t hf y => ?_
  blk_simp
  rw [after0_5]
  refine (g_out  _ _ _ _ _ y).trans ?_
  have e : (win0_5.blk t).view.emb y = pos t y := by
    have h0 : (y 0).val < 1 := (y 0).isLt
    blk_ext [idx t, pos]
  rw [e]
  rw [blk3 m c t, blk4 m c t]
  rfl

theorem final7 (c : Dev nD) : (dats m 0 c).arrAt 7 cfg0.N = fun i => newM (grad1 (S := S1x1024x448) (m ((c : Thread nD τ).loc main_arg3)) (m ((c : Thread nD τ).loc main_arg4)) i) ((m ((c : Thread nD τ).loc main_arg1)) i) := by
  refine (dats m 0 c).arrAt_eq_of_covers 7 _ (by decide +kernel) fun t hf y => ?_
  blk_simp
  rw [after0_7]
  refine (newM_out  _ _ _ _ _ y).trans ?_
  have e : (win0_7.blk t).view.emb y = pos t y := by
    have h0 : (y 0).val < 1 := (y 0).isLt
    blk_ext [idx t, pos]
  rw [e]
  rw [blk1 m c t, blk3 m c t, blk4 m c t]
  rfl

theorem final8 (c : Dev nD) : (dats m 0 c).arrAt 8 cfg0.N = fun i => newV (grad1 (S := S1x1024x448) (m ((c : Thread nD τ).loc main_arg3)) (m ((c : Thread nD τ).loc main_arg4)) i) ((m ((c : Thread nD τ).loc main_arg2)) i) := by
  refine (dats m 0 c).arrAt_eq_of_covers 8 _ (by decide +kernel) fun t hf y => ?_
  blk_simp
  rw [after0_8]
  refine (newV_out  _ _ _ _ _ y).trans ?_
  have e : (win0_8.blk t).view.emb y = pos t y := by
    have h0 : (y 0).val < 1 := (y 0).isLt
    blk_ext [idx t, pos]
  rw [e]
  rw [blk2 m c t, blk3 m c t, blk4 m c t]
  rfl

theorem final6 (c : Dev nD) : (dats m 0 c).arrAt 6 cfg0.N = fun i => delta ((m ((c : Thread nD τ).loc main_arg0)) i) (grad1 (S := S1x1024x448) (m ((c : Thread nD τ).loc main_arg3)) (m ((c : Thread nD τ).loc main_arg4)) i) ((m ((c : Thread nD τ).loc main_arg1)) i) ((m ((c : Thread nD τ).loc main_arg2)) i) := by
  refine (dats m 0 c).arrAt_eq_of_covers 6 _ (by decide +kernel) fun t hf y => ?_
  blk_simp
  rw [after0_6]
  refine (delta_out  _ _ _ _ _ y).trans ?_
  have e : (win0_6.blk t).view.emb y = pos t y := by
    have h0 : (y 0).val < 1 := (y 0).isLt
    blk_ext [idx t, pos]
  rw [e]
  rw [blk0 m c t, blk1 m c t, blk2 m c t, blk3 m c t, blk4 m c t]
  rfl

end Cert.Kernel31Ideal.Adam

namespace Cert.Proof.Adam31

open Cert.Spec Cert.Spec.Adam

theorem algebraic : Cert.algebraic_Kernel31Ideal_Reference31Ideal := by
  intro m g m' g' _ hagree
  refine ⟨_, _, _, _, Cert.Kernel31Ideal.Value.run_blocks m g, ?_⟩
  refine θ_run_mono (Cert.Reference31Ideal.Adam.run m' g') fun r h c => ?_
  obtain ⟨e0, e1, e2, e3, e4⟩ := hagree c
  exact ⟨(h c).1.trans (by rw [e3, e4]; exact (Cert.Kernel31Ideal.Adam.final5 m c).symm),
    (h c).2.1.trans (by rw [e0, e1, e2, e3, e4]; exact (Cert.Kernel31Ideal.Adam.final6 m c).symm),
    (h c).2.2.1.trans (by rw [e1, e3, e4]; exact (Cert.Kernel31Ideal.Adam.final7 m c).symm),
    (h c).2.2.2.1.trans (by rw [e2, e3, e4]; exact (Cert.Kernel31Ideal.Adam.final8 m c).symm), (h c).2.2.2.2⟩

end Cert.Proof.Adam31

end
-- ==== Proof.Adam32.lean ====
/-
  The optimiser's call for the odd mixer's first weights: what the kernel leaves in its four arrays, what the reference computes, and that
  the two are the same.
-/
module

public import proofs.«01_k».proof.Defs
public import proofs.«01_k».proof.Proof.Gen.Kernel32Ideal.Value
public import proofs.«01_k».proof.Proof.Gen.Reference32Ideal.Read
public import proofs.«01_k».proof.Proof.Adam
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Reference32Ideal.Adam

open Cert.Reference32Ideal Cert.Reference32Ideal.Gen Cert.Reference32Ideal.Read Cert.Spec Cert.Spec.Adam

variable (x0 : FVec Ideal S1x1024x768 .f32) (x1 : FVec Ideal S1x1024x768 .f32) (x2 : FVec Ideal S1x1024x768 .f32) (x3 : FVec Ideal S1x1024x768 .f32) (x4 : FVec Ideal S1x1024x768 .f32)

theorem g_eq (i : S1x1024x768.Idx) : val_main_v0 (F := Ideal) x3 x4 i = grad1 (S := S1x1024x768) x3 x4 i := by
  unfold grad1
  pointwise [val_main_v0]

theorem newM_eq (i : S1x1024x768.Idx) : val_main_v5 (F := Ideal) x1 x3 x4 i = newM (grad1 (S := S1x1024x768) x3 x4 i) (x1 i) := by
  rw [← g_eq x3 x4]
  pointwise [val_main_cst, val_main_v1, val_main_v2, val_main_cst_0, val_main_v3, val_main_v4, val_main_v5, val_main_cst_1, val_main_v6, val_main_v7, val_main_v8, val_main_cst_2, val_main_v9, val_main_v10, val_main_v11, val_main_cst_3, val_main_v12, val_main_v13, val_main_cst_4, val_main_v14, val_main_v15, val_main_v16, val_main_cst_5, val_main_v17, val_main_v18, val_main_v19, val_main_cst_6, val_main_v20, val_main_v21, val_main_v22, val_main_cst_7, val_main_v23, val_main_v24, newM, newV, delta]

theorem newV_eq (i : S1x1024x768.Idx) : val_main_v11 (F := Ideal) x2 x3 x4 i = newV (grad1 (S := S1x1024x768) x3 x4 i) (x2 i) := by
  rw [← g_eq x3 x4]
  pointwise [val_main_cst, val_main_v1, val_main_v2, val_main_cst_0, val_main_v3, val_main_v4, val_main_v5, val_main_cst_1, val_main_v6, val_main_v7, val_main_v8, val_main_cst_2, val_main_v9, val_main_v10, val_main_v11, val_main_cst_3, val_main_v12, val_main_v13, val_main_cst_4, val_main_v14, val_main_v15, val_main_v16, val_main_cst_5, val_main_v17, val_main_v18, val_main_v19, val_main_cst_6, val_main_v20, val_main_v21, val_main_v22, val_main_cst_7, val_main_v23, val_main_v24, newM, newV, delta]

theorem delta_eq (i : S1x1024x768.Idx) : val_main_v24 (F := Ideal) x0 x1 x2 x3 x4 i = delta (x0 i) (grad1 (S := S1x1024x768) x3 x4 i) (x1 i) (x2 i) := by
  rw [← g_eq x3 x4]
  pointwise [val_main_cst, val_main_v1, val_main_v2, val_main_cst_0, val_main_v3, val_main_v4, val_main_v5, val_main_cst_1, val_main_v6, val_main_v7, val_main_v8, val_main_cst_2, val_main_v9, val_main_v10, val_main_v11, val_main_cst_3, val_main_v12, val_main_v13, val_main_cst_4, val_main_v14, val_main_v15, val_main_v16, val_main_cst_5, val_main_v17, val_main_v18, val_main_v19, val_main_cst_6, val_main_v20, val_main_v21, val_main_v22, val_main_cst_7, val_main_v23, val_main_v24, newM, newV, delta]

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v0) = (fun i => grad1 (S := S1x1024x768) (m ((c.tc : Thread nD τ).loc main_arg3)) (m ((c.tc : Thread nD τ).loc main_arg4)) i)
      ∧ r.2.mem ((c.tc : Thread nD τ).loc main_v24) = (fun i => delta ((m ((c.tc : Thread nD τ).loc main_arg0)) i) (grad1 (S := S1x1024x768) (m ((c.tc : Thread nD τ).loc main_arg3)) (m ((c.tc : Thread nD τ).loc main_arg4)) i) ((m ((c.tc : Thread nD τ).loc main_arg1)) i) ((m ((c.tc : Thread nD τ).loc main_arg2)) i))
      ∧ r.2.mem ((c.tc : Thread nD τ).loc main_v5) = (fun i => newM (grad1 (S := S1x1024x768) (m ((c.tc : Thread nD τ).loc main_arg3)) (m ((c.tc : Thread nD τ).loc main_arg4)) i) ((m ((c.tc : Thread nD τ).loc main_arg1)) i))
      ∧ r.2.mem ((c.tc : Thread nD τ).loc main_v11) = (fun i => newV (grad1 (S := S1x1024x768) (m ((c.tc : Thread nD τ).loc main_arg3)) (m ((c.tc : Thread nD τ).loc main_arg4)) i) ((m ((c.tc : Thread nD τ).loc main_arg2)) i))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans ((val_main_v0_eq _ _).trans (funext fun i => g_eq _ _ i)),
    (h c).2.1.trans ((val_main_v24_eq _ _ _ _ _).trans (funext fun i => delta_eq _ _ _ _ _ i)),
    (h c).2.2.1.trans ((val_main_v5_eq _ _ _).trans (funext fun i => newM_eq _ _ _ i)),
    (h c).2.2.2.1.trans ((val_main_v11_eq _ _ _).trans (funext fun i => newV_eq _ _ _ i)), (h c).2.2.2.2⟩) (Cert.Reference32Ideal.Value.run m ρ)

end Cert.Reference32Ideal.Adam

namespace Cert.Kernel32Ideal.Adam

open Cert.Kernel32Ideal Cert.Kernel32Ideal.Gen Cert.Spec Cert.Spec.Adam

section Block

variable (x0 : Vec Ideal S1x512x768 .f32) (x1 : Vec Ideal S1x512x768 .f32) (x2 : Vec Ideal S1x512x768 .f32) (x3 : Vec Ideal S1x512x768 .f32) (x4 : Vec Ideal S1x512x768 .f32)

theorem g_at (p : Fin 512) (q : Fin 768) : out0_5 x0 x1 x2 x3 x4 (ix3 0 p q) = (x3 (ix3 0 p q) + x4 (ix3 0 p q)) := by
  unfold out0_5 r0_0
  rw [View.canon_unit_zero (by decide)]
  simp only [View.ld_unit_zero (S := S1x512x768) (by decide : (![0, 0, 0] : Fin 3 → ℕ) = fun _ => 0)]
  pointwise [k0_pay1, k0_pay2, k0_pay3, k0_pay4, k0_pay5, k0_pay6, k0_pay7, k0_pay8, k0_pay9, newM, newV, delta]
  try rfl

theorem g_out (y : S1x512x768.Idx) : out0_5 x0 x1 x2 x3 x4 y = (x3 y + x4 y) := by
  have h0 : y = ix3 0 (y 1) (y 2) := by blk_ext
  rw [h0]
  exact g_at x0 x1 x2 x3 x4 (y 1) (y 2)

theorem newM_at (p : Fin 512) (q : Fin 768) : out0_7 x0 x1 x2 x3 x4 (ix3 0 p q) = newM ((x3 (ix3 0 p q) + x4 (ix3 0 p q))) (x1 (ix3 0 p q)) := by
  unfold out0_7 r0_0
  rw [View.canon_unit_zero (by decide)]
  simp only [View.ld_unit_zero (S := S1x512x768) (by decide : (![0, 0, 0] : Fin 3 → ℕ) = fun _ => 0)]
  pointwise [k0_pay1, k0_pay2, k0_pay3, k0_pay4, k0_pay5, k0_pay6, k0_pay7, k0_pay8, k0_pay9, newM, newV, delta]
  try rfl

theorem newM_out (y : S1x512x768.Idx) : out0_7 x0 x1 x2 x3 x4 y = newM ((x3 y + x4 y)) (x1 y) := by
  have h0 : y = ix3 0 (y 1) (y 2) := by blk_ext
  rw [h0]
  exact newM_at x0 x1 x2 x3 x4 (y 1) (y 2)

theorem newV_at (p : Fin 512) (q : Fin 768) : out0_8 x0 x1 x2 x3 x4 (ix3 0 p q) = newV ((x3 (ix3 0 p q) + x4 (ix3 0 p q))) (x2 (ix3 0 p q)) := by
  unfold out0_8 r0_0
  rw [View.canon_unit_zero (by decide)]
  simp only [View.ld_unit_zero (S := S1x512x768) (by decide : (![0, 0, 0] : Fin 3 → ℕ) = fun _ => 0)]
  pointwise [k0_pay1, k0_pay2, k0_pay3, k0_pay4, k0_pay5, k0_pay6, k0_pay7, k0_pay8, k0_pay9, newM, newV, delta]
  try rfl

theorem newV_out (y : S1x512x768.Idx) : out0_8 x0 x1 x2 x3 x4 y = newV ((x3 y + x4 y)) (x2 y) := by
  have h0 : y = ix3 0 (y 1) (y 2) := by blk_ext
  rw [h0]
  exact newV_at x0 x1 x2 x3 x4 (y 1) (y 2)

theorem delta_at (p : Fin 512) (q : Fin 768) : out0_6 x0 x1 x2 x3 x4 (ix3 0 p q) = delta (x0 (ix3 0 p q)) ((x3 (ix3 0 p q) + x4 (ix3 0 p q))) (x1 (ix3 0 p q)) (x2 (ix3 0 p q)) := by
  unfold out0_6 r0_0
  rw [View.canon_unit_zero (by decide)]
  simp only [View.ld_unit_zero (S := S1x512x768) (by decide : (![0, 0, 0] : Fin 3 → ℕ) = fun _ => 0)]
  pointwise [k0_pay1, k0_pay2, k0_pay3, k0_pay4, k0_pay5, k0_pay6, k0_pay7, k0_pay8, k0_pay9, newM, newV, delta]
  try rfl

theorem delta_out (y : S1x512x768.Idx) : out0_6 x0 x1 x2 x3 x4 y = delta (x0 y) ((x3 y + x4 y)) (x1 y) (x2 y) := by
  have h0 : y = ix3 0 (y 1) (y 2) := by blk_ext
  rw [h0]
  exact delta_at x0 x1 x2 x3 x4 (y 1) (y 2)

end Block

variable (m : (ℓ : Loc nD τ sig) → Buf (Elt Ideal) ℓ)

theorem idx : ∀ t : Fin cfg0.N, win0_0.index t = ![0, t.val, 0] ∧ win0_1.index t = ![0, t.val, 0] ∧ win0_2.index t = ![0, t.val, 0] ∧ win0_5.index t = ![0, t.val, 0] ∧ win0_6.index t = ![0, t.val, 0] ∧ win0_7.index t = ![0, t.val, 0] ∧ win0_8.index t = ![0, t.val, 0] ∧ win0_3.index t = ![0, t.val, 0] ∧ win0_4.index t = ![0, t.val, 0] :=
  (by decide +kernel : ∀ t : Fin grid0.N, _)

/-- The place of a block's element in the array. -/
def pos (t : Fin cfg0.N) (y : S1x512x768.Idx) : S1x1024x768.Idx :=
  ix3 ⟨0, by have := lt_of_lt_of_eq t.isLt N_0; omega⟩ ⟨t.val * 512 + (y 1).val, by have := lt_of_lt_of_eq t.isLt N_0; have : (y 1).val < 512 := (y 1).isLt; omega⟩ (y 2)

theorem blk0 (c : Dev nD) (t : Fin cfg0.N) (y : S1x512x768.Idx) : iblk m c 0 t y = (m ((c : Thread nD τ).loc main_arg0)) (pos t y) := by
  have h0 : (y 0).val < 1 := (y 0).isLt
  blk_ext [iblk, V, idx t, pos]

theorem blk1 (c : Dev nD) (t : Fin cfg0.N) (y : S1x512x768.Idx) : iblk m c 1 t y = (m ((c : Thread nD τ).loc main_arg1)) (pos t y) := by
  have h0 : (y 0).val < 1 := (y 0).isLt
  blk_ext [iblk, V, idx t, pos]

theorem blk2 (c : Dev nD) (t : Fin cfg0.N) (y : S1x512x768.Idx) : iblk m c 2 t y = (m ((c : Thread nD τ).loc main_arg2)) (pos t y) := by
  have h0 : (y 0).val < 1 := (y 0).isLt
  blk_ext [iblk, V, idx t, pos]

theorem blk3 (c : Dev nD) (t : Fin cfg0.N) (y : S1x512x768.Idx) : iblk m c 3 t y = (m ((c : Thread nD τ).loc main_arg3)) (pos t y) := by
  have h0 : (y 0).val < 1 := (y 0).isLt
  blk_ext [iblk, V, idx t, pos]

theorem blk4 (c : Dev nD) (t : Fin cfg0.N) (y : S1x512x768.Idx) : iblk m c 4 t y = (m ((c : Thread nD τ).loc main_arg4)) (pos t y) := by
  have h0 : (y 0).val < 1 := (y 0).isLt
  blk_ext [iblk, V, idx t, pos]

theorem final5 (c : Dev nD) : (dats m 0 c).arrAt 5 cfg0.N = fun i => grad1 (S := S1x1024x768) (m ((c : Thread nD τ).loc main_arg3)) (m ((c : Thread nD τ).loc main_arg4)) i := by
  refine (dats m 0 c).arrAt_eq_of_covers 5 _ (by decide +kernel) fun t hf y => ?_
  blk_simp
  rw [after0_5]
  refine (g_out  _ _ _ _ _ y).trans ?_
  have e : (win0_5.blk t).view.emb y = pos t y := by
    have h0 : (y 0).val < 1 := (y 0).isLt
    blk_ext [idx t, pos]
  rw [e]
  rw [blk3 m c t, blk4 m c t]
  rfl

theorem final7 (c : Dev nD) : (dats m 0 c).arrAt 7 cfg0.N = fun i => newM (grad1 (S := S1x1024x768) (m ((c : Thread nD τ).loc main_arg3)) (m ((c : Thread nD τ).loc main_arg4)) i) ((m ((c : Thread nD τ).loc main_arg1)) i) := by
  refine (dats m 0 c).arrAt_eq_of_covers 7 _ (by decide +kernel) fun t hf y => ?_
  blk_simp
  rw [after0_7]
  refine (newM_out  _ _ _ _ _ y).trans ?_
  have e : (win0_7.blk t).view.emb y = pos t y := by
    have h0 : (y 0).val < 1 := (y 0).isLt
    blk_ext [idx t, pos]
  rw [e]
  rw [blk1 m c t, blk3 m c t, blk4 m c t]
  rfl

theorem final8 (c : Dev nD) : (dats m 0 c).arrAt 8 cfg0.N = fun i => newV (grad1 (S := S1x1024x768) (m ((c : Thread nD τ).loc main_arg3)) (m ((c : Thread nD τ).loc main_arg4)) i) ((m ((c : Thread nD τ).loc main_arg2)) i) := by
  refine (dats m 0 c).arrAt_eq_of_covers 8 _ (by decide +kernel) fun t hf y => ?_
  blk_simp
  rw [after0_8]
  refine (newV_out  _ _ _ _ _ y).trans ?_
  have e : (win0_8.blk t).view.emb y = pos t y := by
    have h0 : (y 0).val < 1 := (y 0).isLt
    blk_ext [idx t, pos]
  rw [e]
  rw [blk2 m c t, blk3 m c t, blk4 m c t]
  rfl

theorem final6 (c : Dev nD) : (dats m 0 c).arrAt 6 cfg0.N = fun i => delta ((m ((c : Thread nD τ).loc main_arg0)) i) (grad1 (S := S1x1024x768) (m ((c : Thread nD τ).loc main_arg3)) (m ((c : Thread nD τ).loc main_arg4)) i) ((m ((c : Thread nD τ).loc main_arg1)) i) ((m ((c : Thread nD τ).loc main_arg2)) i) := by
  refine (dats m 0 c).arrAt_eq_of_covers 6 _ (by decide +kernel) fun t hf y => ?_
  blk_simp
  rw [after0_6]
  refine (delta_out  _ _ _ _ _ y).trans ?_
  have e : (win0_6.blk t).view.emb y = pos t y := by
    have h0 : (y 0).val < 1 := (y 0).isLt
    blk_ext [idx t, pos]
  rw [e]
  rw [blk0 m c t, blk1 m c t, blk2 m c t, blk3 m c t, blk4 m c t]
  rfl

end Cert.Kernel32Ideal.Adam

namespace Cert.Proof.Adam32

open Cert.Spec Cert.Spec.Adam

theorem algebraic : Cert.algebraic_Kernel32Ideal_Reference32Ideal := by
  intro m g m' g' _ hagree
  refine ⟨_, _, _, _, Cert.Kernel32Ideal.Value.run_blocks m g, ?_⟩
  refine θ_run_mono (Cert.Reference32Ideal.Adam.run m' g') fun r h c => ?_
  obtain ⟨e0, e1, e2, e3, e4⟩ := hagree c
  exact ⟨(h c).1.trans (by rw [e3, e4]; exact (Cert.Kernel32Ideal.Adam.final5 m c).symm),
    (h c).2.1.trans (by rw [e0, e1, e2, e3, e4]; exact (Cert.Kernel32Ideal.Adam.final6 m c).symm),
    (h c).2.2.1.trans (by rw [e1, e3, e4]; exact (Cert.Kernel32Ideal.Adam.final7 m c).symm),
    (h c).2.2.2.1.trans (by rw [e2, e3, e4]; exact (Cert.Kernel32Ideal.Adam.final8 m c).symm), (h c).2.2.2.2⟩

end Cert.Proof.Adam32

end
-- ==== Proof.Adam33.lean ====
/-
  The optimiser's call for the mixers' last weights: what the kernel leaves in its four arrays, what the reference computes, and that
  the two are the same.
-/
module

public import proofs.«01_k».proof.Defs
public import proofs.«01_k».proof.Proof.Gen.Kernel33Ideal.Value
public import proofs.«01_k».proof.Proof.Gen.Reference33Ideal.Read
public import proofs.«01_k».proof.Proof.Adam
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Reference33Ideal.Adam

open Cert.Reference33Ideal Cert.Reference33Ideal.Gen Cert.Reference33Ideal.Read Cert.Spec Cert.Spec.Adam

variable (x0 : FVec Ideal S1x256x1024 .f32) (x1 : FVec Ideal S1x256x1024 .f32) (x2 : FVec Ideal S1x256x1024 .f32) (x3 : FVec Ideal S1x256x1024 .f32) (x4 : FVec Ideal S1x256x1024 .f32)

theorem g_eq (i : S1x256x1024.Idx) : val_main_v0 (F := Ideal) x3 x4 i = grad1 (S := S1x256x1024) x3 x4 i := by
  unfold grad1
  pointwise [val_main_v0]

theorem newM_eq (i : S1x256x1024.Idx) : val_main_v5 (F := Ideal) x1 x3 x4 i = newM (grad1 (S := S1x256x1024) x3 x4 i) (x1 i) := by
  rw [← g_eq x3 x4]
  pointwise [val_main_cst, val_main_v1, val_main_v2, val_main_cst_0, val_main_v3, val_main_v4, val_main_v5, val_main_cst_1, val_main_v6, val_main_v7, val_main_v8, val_main_cst_2, val_main_v9, val_main_v10, val_main_v11, val_main_cst_3, val_main_v12, val_main_v13, val_main_cst_4, val_main_v14, val_main_v15, val_main_v16, val_main_cst_5, val_main_v17, val_main_v18, val_main_v19, val_main_cst_6, val_main_v20, val_main_v21, val_main_v22, val_main_cst_7, val_main_v23, val_main_v24, newM, newV, delta]

theorem newV_eq (i : S1x256x1024.Idx) : val_main_v11 (F := Ideal) x2 x3 x4 i = newV (grad1 (S := S1x256x1024) x3 x4 i) (x2 i) := by
  rw [← g_eq x3 x4]
  pointwise [val_main_cst, val_main_v1, val_main_v2, val_main_cst_0, val_main_v3, val_main_v4, val_main_v5, val_main_cst_1, val_main_v6, val_main_v7, val_main_v8, val_main_cst_2, val_main_v9, val_main_v10, val_main_v11, val_main_cst_3, val_main_v12, val_main_v13, val_main_cst_4, val_main_v14, val_main_v15, val_main_v16, val_main_cst_5, val_main_v17, val_main_v18, val_main_v19, val_main_cst_6, val_main_v20, val_main_v21, val_main_v22, val_main_cst_7, val_main_v23, val_main_v24, newM, newV, delta]

theorem delta_eq (i : S1x256x1024.Idx) : val_main_v24 (F := Ideal) x0 x1 x2 x3 x4 i = delta (x0 i) (grad1 (S := S1x256x1024) x3 x4 i) (x1 i) (x2 i) := by
  rw [← g_eq x3 x4]
  pointwise [val_main_cst, val_main_v1, val_main_v2, val_main_cst_0, val_main_v3, val_main_v4, val_main_v5, val_main_cst_1, val_main_v6, val_main_v7, val_main_v8, val_main_cst_2, val_main_v9, val_main_v10, val_main_v11, val_main_cst_3, val_main_v12, val_main_v13, val_main_cst_4, val_main_v14, val_main_v15, val_main_v16, val_main_cst_5, val_main_v17, val_main_v18, val_main_v19, val_main_cst_6, val_main_v20, val_main_v21, val_main_v22, val_main_cst_7, val_main_v23, val_main_v24, newM, newV, delta]

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v0) = (fun i => grad1 (S := S1x256x1024) (m ((c.tc : Thread nD τ).loc main_arg3)) (m ((c.tc : Thread nD τ).loc main_arg4)) i)
      ∧ r.2.mem ((c.tc : Thread nD τ).loc main_v24) = (fun i => delta ((m ((c.tc : Thread nD τ).loc main_arg0)) i) (grad1 (S := S1x256x1024) (m ((c.tc : Thread nD τ).loc main_arg3)) (m ((c.tc : Thread nD τ).loc main_arg4)) i) ((m ((c.tc : Thread nD τ).loc main_arg1)) i) ((m ((c.tc : Thread nD τ).loc main_arg2)) i))
      ∧ r.2.mem ((c.tc : Thread nD τ).loc main_v5) = (fun i => newM (grad1 (S := S1x256x1024) (m ((c.tc : Thread nD τ).loc main_arg3)) (m ((c.tc : Thread nD τ).loc main_arg4)) i) ((m ((c.tc : Thread nD τ).loc main_arg1)) i))
      ∧ r.2.mem ((c.tc : Thread nD τ).loc main_v11) = (fun i => newV (grad1 (S := S1x256x1024) (m ((c.tc : Thread nD τ).loc main_arg3)) (m ((c.tc : Thread nD τ).loc main_arg4)) i) ((m ((c.tc : Thread nD τ).loc main_arg2)) i))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans ((val_main_v0_eq _ _).trans (funext fun i => g_eq _ _ i)),
    (h c).2.1.trans ((val_main_v24_eq _ _ _ _ _).trans (funext fun i => delta_eq _ _ _ _ _ i)),
    (h c).2.2.1.trans ((val_main_v5_eq _ _ _).trans (funext fun i => newM_eq _ _ _ i)),
    (h c).2.2.2.1.trans ((val_main_v11_eq _ _ _).trans (funext fun i => newV_eq _ _ _ i)), (h c).2.2.2.2⟩) (Cert.Reference33Ideal.Value.run m ρ)

end Cert.Reference33Ideal.Adam

namespace Cert.Kernel33Ideal.Adam

open Cert.Kernel33Ideal Cert.Kernel33Ideal.Gen Cert.Spec Cert.Spec.Adam

section Block

variable (x0 : Vec Ideal S1x256x1024 .f32) (x1 : Vec Ideal S1x256x1024 .f32) (x2 : Vec Ideal S1x256x1024 .f32) (x3 : Vec Ideal S1x256x1024 .f32) (x4 : Vec Ideal S1x256x1024 .f32)

theorem g_at (p : Fin 256) (q : Fin 1024) : out0_5 x0 x1 x2 x3 x4 (ix3 0 p q) = (x3 (ix3 0 p q) + x4 (ix3 0 p q)) := by
  unfold out0_5 r0_0
  rw [View.canon_unit_zero (by decide)]
  simp only [View.ld_unit_zero (S := S1x256x1024) (by decide : (![0, 0, 0] : Fin 3 → ℕ) = fun _ => 0)]
  pointwise [k0_pay1, k0_pay2, k0_pay3, k0_pay4, k0_pay5, k0_pay6, k0_pay7, k0_pay8, k0_pay9, newM, newV, delta]
  try rfl

theorem g_out (y : S1x256x1024.Idx) : out0_5 x0 x1 x2 x3 x4 y = (x3 y + x4 y) := by
  have h0 : y = ix3 0 (y 1) (y 2) := by blk_ext
  rw [h0]
  exact g_at x0 x1 x2 x3 x4 (y 1) (y 2)

theorem newM_at (p : Fin 256) (q : Fin 1024) : out0_7 x0 x1 x2 x3 x4 (ix3 0 p q) = newM ((x3 (ix3 0 p q) + x4 (ix3 0 p q))) (x1 (ix3 0 p q)) := by
  unfold out0_7 r0_0
  rw [View.canon_unit_zero (by decide)]
  simp only [View.ld_unit_zero (S := S1x256x1024) (by decide : (![0, 0, 0] : Fin 3 → ℕ) = fun _ => 0)]
  pointwise [k0_pay1, k0_pay2, k0_pay3, k0_pay4, k0_pay5, k0_pay6, k0_pay7, k0_pay8, k0_pay9, newM, newV, delta]
  try rfl

theorem newM_out (y : S1x256x1024.Idx) : out0_7 x0 x1 x2 x3 x4 y = newM ((x3 y + x4 y)) (x1 y) := by
  have h0 : y = ix3 0 (y 1) (y 2) := by blk_ext
  rw [h0]
  exact newM_at x0 x1 x2 x3 x4 (y 1) (y 2)

theorem newV_at (p : Fin 256) (q : Fin 1024) : out0_8 x0 x1 x2 x3 x4 (ix3 0 p q) = newV ((x3 (ix3 0 p q) + x4 (ix3 0 p q))) (x2 (ix3 0 p q)) := by
  unfold out0_8 r0_0
  rw [View.canon_unit_zero (by decide)]
  simp only [View.ld_unit_zero (S := S1x256x1024) (by decide : (![0, 0, 0] : Fin 3 → ℕ) = fun _ => 0)]
  pointwise [k0_pay1, k0_pay2, k0_pay3, k0_pay4, k0_pay5, k0_pay6, k0_pay7, k0_pay8, k0_pay9, newM, newV, delta]
  try rfl

theorem newV_out (y : S1x256x1024.Idx) : out0_8 x0 x1 x2 x3 x4 y = newV ((x3 y + x4 y)) (x2 y) := by
  have h0 : y = ix3 0 (y 1) (y 2) := by blk_ext
  rw [h0]
  exact newV_at x0 x1 x2 x3 x4 (y 1) (y 2)

theorem delta_at (p : Fin 256) (q : Fin 1024) : out0_6 x0 x1 x2 x3 x4 (ix3 0 p q) = delta (x0 (ix3 0 p q)) ((x3 (ix3 0 p q) + x4 (ix3 0 p q))) (x1 (ix3 0 p q)) (x2 (ix3 0 p q)) := by
  unfold out0_6 r0_0
  rw [View.canon_unit_zero (by decide)]
  simp only [View.ld_unit_zero (S := S1x256x1024) (by decide : (![0, 0, 0] : Fin 3 → ℕ) = fun _ => 0)]
  pointwise [k0_pay1, k0_pay2, k0_pay3, k0_pay4, k0_pay5, k0_pay6, k0_pay7, k0_pay8, k0_pay9, newM, newV, delta]
  try rfl

theorem delta_out (y : S1x256x1024.Idx) : out0_6 x0 x1 x2 x3 x4 y = delta (x0 y) ((x3 y + x4 y)) (x1 y) (x2 y) := by
  have h0 : y = ix3 0 (y 1) (y 2) := by blk_ext
  rw [h0]
  exact delta_at x0 x1 x2 x3 x4 (y 1) (y 2)

end Block

variable (m : (ℓ : Loc nD τ sig) → Buf (Elt Ideal) ℓ)

theorem idx : ∀ t : Fin cfg0.N, win0_0.index t = ![0, t.val, 0] ∧ win0_1.index t = ![0, t.val, 0] ∧ win0_2.index t = ![0, t.val, 0] ∧ win0_5.index t = ![0, t.val, 0] ∧ win0_6.index t = ![0, t.val, 0] ∧ win0_7.index t = ![0, t.val, 0] ∧ win0_8.index t = ![0, t.val, 0] ∧ win0_3.index t = ![0, t.val, 0] ∧ win0_4.index t = ![0, t.val, 0] :=
  (by decide +kernel : ∀ t : Fin grid0.N, _)

/-- The place of a block's element in the array. -/
def pos (t : Fin cfg0.N) (y : S1x256x1024.Idx) : S1x256x1024.Idx :=
  ix3 ⟨0, by have := lt_of_lt_of_eq t.isLt N_0; omega⟩ ⟨t.val * 256 + (y 1).val, by have := lt_of_lt_of_eq t.isLt N_0; have : (y 1).val < 256 := (y 1).isLt; omega⟩ (y 2)

theorem blk0 (c : Dev nD) (t : Fin cfg0.N) (y : S1x256x1024.Idx) : iblk m c 0 t y = (m ((c : Thread nD τ).loc main_arg0)) (pos t y) := by
  have h0 : (y 0).val < 1 := (y 0).isLt
  blk_ext [iblk, V, idx t, pos]

theorem blk1 (c : Dev nD) (t : Fin cfg0.N) (y : S1x256x1024.Idx) : iblk m c 1 t y = (m ((c : Thread nD τ).loc main_arg1)) (pos t y) := by
  have h0 : (y 0).val < 1 := (y 0).isLt
  blk_ext [iblk, V, idx t, pos]

theorem blk2 (c : Dev nD) (t : Fin cfg0.N) (y : S1x256x1024.Idx) : iblk m c 2 t y = (m ((c : Thread nD τ).loc main_arg2)) (pos t y) := by
  have h0 : (y 0).val < 1 := (y 0).isLt
  blk_ext [iblk, V, idx t, pos]

theorem blk3 (c : Dev nD) (t : Fin cfg0.N) (y : S1x256x1024.Idx) : iblk m c 3 t y = (m ((c : Thread nD τ).loc main_arg3)) (pos t y) := by
  have h0 : (y 0).val < 1 := (y 0).isLt
  blk_ext [iblk, V, idx t, pos]

theorem blk4 (c : Dev nD) (t : Fin cfg0.N) (y : S1x256x1024.Idx) : iblk m c 4 t y = (m ((c : Thread nD τ).loc main_arg4)) (pos t y) := by
  have h0 : (y 0).val < 1 := (y 0).isLt
  blk_ext [iblk, V, idx t, pos]

theorem final5 (c : Dev nD) : (dats m 0 c).arrAt 5 cfg0.N = fun i => grad1 (S := S1x256x1024) (m ((c : Thread nD τ).loc main_arg3)) (m ((c : Thread nD τ).loc main_arg4)) i := by
  refine (dats m 0 c).arrAt_eq_of_covers 5 _ (by decide +kernel) fun t hf y => ?_
  blk_simp
  rw [after0_5]
  refine (g_out  _ _ _ _ _ y).trans ?_
  have e : (win0_5.blk t).view.emb y = pos t y := by
    have h0 : (y 0).val < 1 := (y 0).isLt
    blk_ext [idx t, pos]
  rw [e]
  rw [blk3 m c t, blk4 m c t]
  rfl

theorem final7 (c : Dev nD) : (dats m 0 c).arrAt 7 cfg0.N = fun i => newM (grad1 (S := S1x256x1024) (m ((c : Thread nD τ).loc main_arg3)) (m ((c : Thread nD τ).loc main_arg4)) i) ((m ((c : Thread nD τ).loc main_arg1)) i) := by
  refine (dats m 0 c).arrAt_eq_of_covers 7 _ (by decide +kernel) fun t hf y => ?_
  blk_simp
  rw [after0_7]
  refine (newM_out  _ _ _ _ _ y).trans ?_
  have e : (win0_7.blk t).view.emb y = pos t y := by
    have h0 : (y 0).val < 1 := (y 0).isLt
    blk_ext [idx t, pos]
  rw [e]
  rw [blk1 m c t, blk3 m c t, blk4 m c t]
  rfl

theorem final8 (c : Dev nD) : (dats m 0 c).arrAt 8 cfg0.N = fun i => newV (grad1 (S := S1x256x1024) (m ((c : Thread nD τ).loc main_arg3)) (m ((c : Thread nD τ).loc main_arg4)) i) ((m ((c : Thread nD τ).loc main_arg2)) i) := by
  refine (dats m 0 c).arrAt_eq_of_covers 8 _ (by decide +kernel) fun t hf y => ?_
  blk_simp
  rw [after0_8]
  refine (newV_out  _ _ _ _ _ y).trans ?_
  have e : (win0_8.blk t).view.emb y = pos t y := by
    have h0 : (y 0).val < 1 := (y 0).isLt
    blk_ext [idx t, pos]
  rw [e]
  rw [blk2 m c t, blk3 m c t, blk4 m c t]
  rfl

theorem final6 (c : Dev nD) : (dats m 0 c).arrAt 6 cfg0.N = fun i => delta ((m ((c : Thread nD τ).loc main_arg0)) i) (grad1 (S := S1x256x1024) (m ((c : Thread nD τ).loc main_arg3)) (m ((c : Thread nD τ).loc main_arg4)) i) ((m ((c : Thread nD τ).loc main_arg1)) i) ((m ((c : Thread nD τ).loc main_arg2)) i) := by
  refine (dats m 0 c).arrAt_eq_of_covers 6 _ (by decide +kernel) fun t hf y => ?_
  blk_simp
  rw [after0_6]
  refine (delta_out  _ _ _ _ _ y).trans ?_
  have e : (win0_6.blk t).view.emb y = pos t y := by
    have h0 : (y 0).val < 1 := (y 0).isLt
    blk_ext [idx t, pos]
  rw [e]
  rw [blk0 m c t, blk1 m c t, blk2 m c t, blk3 m c t, blk4 m c t]
  rfl

end Cert.Kernel33Ideal.Adam

namespace Cert.Proof.Adam33

open Cert.Spec Cert.Spec.Adam

theorem algebraic : Cert.algebraic_Kernel33Ideal_Reference33Ideal := by
  intro m g m' g' _ hagree
  refine ⟨_, _, _, _, Cert.Kernel33Ideal.Value.run_blocks m g, ?_⟩
  refine θ_run_mono (Cert.Reference33Ideal.Adam.run m' g') fun r h c => ?_
  obtain ⟨e0, e1, e2, e3, e4⟩ := hagree c
  exact ⟨(h c).1.trans (by rw [e3, e4]; exact (Cert.Kernel33Ideal.Adam.final5 m c).symm),
    (h c).2.1.trans (by rw [e0, e1, e2, e3, e4]; exact (Cert.Kernel33Ideal.Adam.final6 m c).symm),
    (h c).2.2.1.trans (by rw [e1, e3, e4]; exact (Cert.Kernel33Ideal.Adam.final7 m c).symm),
    (h c).2.2.2.1.trans (by rw [e2, e3, e4]; exact (Cert.Kernel33Ideal.Adam.final8 m c).symm), (h c).2.2.2.2⟩

end Cert.Proof.Adam33

end
-- ==== Proof.Adam34.lean ====
/-
  The optimiser's call for the packed taps of the two convolutions: what the kernel leaves in its four arrays, what the reference computes, and that
  the two are the same.
-/
module

public import proofs.«01_k».proof.Defs
public import proofs.«01_k».proof.Proof.Gen.Kernel34Ideal.Value
public import proofs.«01_k».proof.Proof.Gen.Reference34Ideal.Read
public import proofs.«01_k».proof.Proof.Adam
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Reference34Ideal.Adam

open Cert.Reference34Ideal Cert.Reference34Ideal.Gen Cert.Reference34Ideal.Read Cert.Spec Cert.Spec.Adam

variable (x0 : FVec Ideal S1x48x128 .f32) (x1 : FVec Ideal S1x48x128 .f32) (x2 : FVec Ideal S1x48x128 .f32) (x3 : FVec Ideal S1x48x128 .f32) (x4 : FVec Ideal S1x48x128 .f32)

theorem g_eq (i : S1x48x128.Idx) : val_main_v0 (F := Ideal) x3 x4 i = grad1 (S := S1x48x128) x3 x4 i := by
  unfold grad1
  pointwise [val_main_v0]

theorem newM_eq (i : S1x48x128.Idx) : val_main_v5 (F := Ideal) x1 x3 x4 i = newM (grad1 (S := S1x48x128) x3 x4 i) (x1 i) := by
  rw [← g_eq x3 x4]
  pointwise [val_main_cst, val_main_v1, val_main_v2, val_main_cst_0, val_main_v3, val_main_v4, val_main_v5, val_main_cst_1, val_main_v6, val_main_v7, val_main_v8, val_main_cst_2, val_main_v9, val_main_v10, val_main_v11, val_main_cst_3, val_main_v12, val_main_v13, val_main_cst_4, val_main_v14, val_main_v15, val_main_v16, val_main_cst_5, val_main_v17, val_main_v18, val_main_v19, val_main_cst_6, val_main_v20, val_main_v21, val_main_v22, val_main_cst_7, val_main_v23, val_main_v24, newM, newV, delta]

theorem newV_eq (i : S1x48x128.Idx) : val_main_v11 (F := Ideal) x2 x3 x4 i = newV (grad1 (S := S1x48x128) x3 x4 i) (x2 i) := by
  rw [← g_eq x3 x4]
  pointwise [val_main_cst, val_main_v1, val_main_v2, val_main_cst_0, val_main_v3, val_main_v4, val_main_v5, val_main_cst_1, val_main_v6, val_main_v7, val_main_v8, val_main_cst_2, val_main_v9, val_main_v10, val_main_v11, val_main_cst_3, val_main_v12, val_main_v13, val_main_cst_4, val_main_v14, val_main_v15, val_main_v16, val_main_cst_5, val_main_v17, val_main_v18, val_main_v19, val_main_cst_6, val_main_v20, val_main_v21, val_main_v22, val_main_cst_7, val_main_v23, val_main_v24, newM, newV, delta]

theorem delta_eq (i : S1x48x128.Idx) : val_main_v24 (F := Ideal) x0 x1 x2 x3 x4 i = delta (x0 i) (grad1 (S := S1x48x128) x3 x4 i) (x1 i) (x2 i) := by
  rw [← g_eq x3 x4]
  pointwise [val_main_cst, val_main_v1, val_main_v2, val_main_cst_0, val_main_v3, val_main_v4, val_main_v5, val_main_cst_1, val_main_v6, val_main_v7, val_main_v8, val_main_cst_2, val_main_v9, val_main_v10, val_main_v11, val_main_cst_3, val_main_v12, val_main_v13, val_main_cst_4, val_main_v14, val_main_v15, val_main_v16, val_main_cst_5, val_main_v17, val_main_v18, val_main_v19, val_main_cst_6, val_main_v20, val_main_v21, val_main_v22, val_main_cst_7, val_main_v23, val_main_v24, newM, newV, delta]

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v0) = (fun i => grad1 (S := S1x48x128) (m ((c.tc : Thread nD τ).loc main_arg3)) (m ((c.tc : Thread nD τ).loc main_arg4)) i)
      ∧ r.2.mem ((c.tc : Thread nD τ).loc main_v24) = (fun i => delta ((m ((c.tc : Thread nD τ).loc main_arg0)) i) (grad1 (S := S1x48x128) (m ((c.tc : Thread nD τ).loc main_arg3)) (m ((c.tc : Thread nD τ).loc main_arg4)) i) ((m ((c.tc : Thread nD τ).loc main_arg1)) i) ((m ((c.tc : Thread nD τ).loc main_arg2)) i))
      ∧ r.2.mem ((c.tc : Thread nD τ).loc main_v5) = (fun i => newM (grad1 (S := S1x48x128) (m ((c.tc : Thread nD τ).loc main_arg3)) (m ((c.tc : Thread nD τ).loc main_arg4)) i) ((m ((c.tc : Thread nD τ).loc main_arg1)) i))
      ∧ r.2.mem ((c.tc : Thread nD τ).loc main_v11) = (fun i => newV (grad1 (S := S1x48x128) (m ((c.tc : Thread nD τ).loc main_arg3)) (m ((c.tc : Thread nD τ).loc main_arg4)) i) ((m ((c.tc : Thread nD τ).loc main_arg2)) i))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans ((val_main_v0_eq _ _).trans (funext fun i => g_eq _ _ i)),
    (h c).2.1.trans ((val_main_v24_eq _ _ _ _ _).trans (funext fun i => delta_eq _ _ _ _ _ i)),
    (h c).2.2.1.trans ((val_main_v5_eq _ _ _).trans (funext fun i => newM_eq _ _ _ i)),
    (h c).2.2.2.1.trans ((val_main_v11_eq _ _ _).trans (funext fun i => newV_eq _ _ _ i)), (h c).2.2.2.2⟩) (Cert.Reference34Ideal.Value.run m ρ)

end Cert.Reference34Ideal.Adam

namespace Cert.Kernel34Ideal.Adam

open Cert.Kernel34Ideal Cert.Kernel34Ideal.Gen Cert.Spec Cert.Spec.Adam

section Block

variable (x0 : Vec Ideal S1x48x128 .f32) (x1 : Vec Ideal S1x48x128 .f32) (x2 : Vec Ideal S1x48x128 .f32) (x3 : Vec Ideal S1x48x128 .f32) (x4 : Vec Ideal S1x48x128 .f32)

theorem g_at (p : Fin 48) (q : Fin 128) : out0_5 x0 x1 x2 x3 x4 (ix3 0 p q) = (x3 (ix3 0 p q) + x4 (ix3 0 p q)) := by
  unfold out0_5 r0_0
  rw [View.canon_unit_zero (by decide)]
  simp only [View.ld_unit_zero (S := S1x48x128) (by decide : (![0, 0, 0] : Fin 3 → ℕ) = fun _ => 0)]
  pointwise [k0_pay1, k0_pay2, k0_pay3, k0_pay4, k0_pay5, k0_pay6, k0_pay7, k0_pay8, k0_pay9, newM, newV, delta]
  try rfl

theorem g_out (y : S1x48x128.Idx) : out0_5 x0 x1 x2 x3 x4 y = (x3 y + x4 y) := by
  have h0 : y = ix3 0 (y 1) (y 2) := by blk_ext
  rw [h0]
  exact g_at x0 x1 x2 x3 x4 (y 1) (y 2)

theorem newM_at (p : Fin 48) (q : Fin 128) : out0_7 x0 x1 x2 x3 x4 (ix3 0 p q) = newM ((x3 (ix3 0 p q) + x4 (ix3 0 p q))) (x1 (ix3 0 p q)) := by
  unfold out0_7 r0_0
  rw [View.canon_unit_zero (by decide)]
  simp only [View.ld_unit_zero (S := S1x48x128) (by decide : (![0, 0, 0] : Fin 3 → ℕ) = fun _ => 0)]
  pointwise [k0_pay1, k0_pay2, k0_pay3, k0_pay4, k0_pay5, k0_pay6, k0_pay7, k0_pay8, k0_pay9, newM, newV, delta]
  try rfl

theorem newM_out (y : S1x48x128.Idx) : out0_7 x0 x1 x2 x3 x4 y = newM ((x3 y + x4 y)) (x1 y) := by
  have h0 : y = ix3 0 (y 1) (y 2) := by blk_ext
  rw [h0]
  exact newM_at x0 x1 x2 x3 x4 (y 1) (y 2)

theorem newV_at (p : Fin 48) (q : Fin 128) : out0_8 x0 x1 x2 x3 x4 (ix3 0 p q) = newV ((x3 (ix3 0 p q) + x4 (ix3 0 p q))) (x2 (ix3 0 p q)) := by
  unfold out0_8 r0_0
  rw [View.canon_unit_zero (by decide)]
  simp only [View.ld_unit_zero (S := S1x48x128) (by decide : (![0, 0, 0] : Fin 3 → ℕ) = fun _ => 0)]
  pointwise [k0_pay1, k0_pay2, k0_pay3, k0_pay4, k0_pay5, k0_pay6, k0_pay7, k0_pay8, k0_pay9, newM, newV, delta]
  try rfl

theorem newV_out (y : S1x48x128.Idx) : out0_8 x0 x1 x2 x3 x4 y = newV ((x3 y + x4 y)) (x2 y) := by
  have h0 : y = ix3 0 (y 1) (y 2) := by blk_ext
  rw [h0]
  exact newV_at x0 x1 x2 x3 x4 (y 1) (y 2)

theorem delta_at (p : Fin 48) (q : Fin 128) : out0_6 x0 x1 x2 x3 x4 (ix3 0 p q) = delta (x0 (ix3 0 p q)) ((x3 (ix3 0 p q) + x4 (ix3 0 p q))) (x1 (ix3 0 p q)) (x2 (ix3 0 p q)) := by
  unfold out0_6 r0_0
  rw [View.canon_unit_zero (by decide)]
  simp only [View.ld_unit_zero (S := S1x48x128) (by decide : (![0, 0, 0] : Fin 3 → ℕ) = fun _ => 0)]
  pointwise [k0_pay1, k0_pay2, k0_pay3, k0_pay4, k0_pay5, k0_pay6, k0_pay7, k0_pay8, k0_pay9, newM, newV, delta]
  try rfl

theorem delta_out (y : S1x48x128.Idx) : out0_6 x0 x1 x2 x3 x4 y = delta (x0 y) ((x3 y + x4 y)) (x1 y) (x2 y) := by
  have h0 : y = ix3 0 (y 1) (y 2) := by blk_ext
  rw [h0]
  exact delta_at x0 x1 x2 x3 x4 (y 1) (y 2)

end Block

variable (m : (ℓ : Loc nD τ sig) → Buf (Elt Ideal) ℓ)

theorem idx : ∀ t : Fin cfg0.N, win0_0.index t = ![0, t.val, 0] ∧ win0_1.index t = ![0, t.val, 0] ∧ win0_2.index t = ![0, t.val, 0] ∧ win0_5.index t = ![0, t.val, 0] ∧ win0_6.index t = ![0, t.val, 0] ∧ win0_7.index t = ![0, t.val, 0] ∧ win0_8.index t = ![0, t.val, 0] ∧ win0_3.index t = ![0, t.val, 0] ∧ win0_4.index t = ![0, t.val, 0] :=
  (by decide +kernel : ∀ t : Fin grid0.N, _)

/-- The place of a block's element in the array. -/
def pos (t : Fin cfg0.N) (y : S1x48x128.Idx) : S1x48x128.Idx :=
  ix3 ⟨0, by have := lt_of_lt_of_eq t.isLt N_0; omega⟩ ⟨t.val * 48 + (y 1).val, by have := lt_of_lt_of_eq t.isLt N_0; have : (y 1).val < 48 := (y 1).isLt; omega⟩ (y 2)

theorem blk0 (c : Dev nD) (t : Fin cfg0.N) (y : S1x48x128.Idx) : iblk m c 0 t y = (m ((c : Thread nD τ).loc main_arg0)) (pos t y) := by
  have h0 : (y 0).val < 1 := (y 0).isLt
  blk_ext [iblk, V, idx t, pos]

theorem blk1 (c : Dev nD) (t : Fin cfg0.N) (y : S1x48x128.Idx) : iblk m c 1 t y = (m ((c : Thread nD τ).loc main_arg1)) (pos t y) := by
  have h0 : (y 0).val < 1 := (y 0).isLt
  blk_ext [iblk, V, idx t, pos]

theorem blk2 (c : Dev nD) (t : Fin cfg0.N) (y : S1x48x128.Idx) : iblk m c 2 t y = (m ((c : Thread nD τ).loc main_arg2)) (pos t y) := by
  have h0 : (y 0).val < 1 := (y 0).isLt
  blk_ext [iblk, V, idx t, pos]

theorem blk3 (c : Dev nD) (t : Fin cfg0.N) (y : S1x48x128.Idx) : iblk m c 3 t y = (m ((c : Thread nD τ).loc main_arg3)) (pos t y) := by
  have h0 : (y 0).val < 1 := (y 0).isLt
  blk_ext [iblk, V, idx t, pos]

theorem blk4 (c : Dev nD) (t : Fin cfg0.N) (y : S1x48x128.Idx) : iblk m c 4 t y = (m ((c : Thread nD τ).loc main_arg4)) (pos t y) := by
  have h0 : (y 0).val < 1 := (y 0).isLt
  blk_ext [iblk, V, idx t, pos]

theorem final5 (c : Dev nD) : (dats m 0 c).arrAt 5 cfg0.N = fun i => grad1 (S := S1x48x128) (m ((c : Thread nD τ).loc main_arg3)) (m ((c : Thread nD τ).loc main_arg4)) i := by
  refine (dats m 0 c).arrAt_eq_of_covers 5 _ (by decide +kernel) fun t hf y => ?_
  blk_simp
  rw [after0_5]
  refine (g_out  _ _ _ _ _ y).trans ?_
  have e : (win0_5.blk t).view.emb y = pos t y := by
    have h0 : (y 0).val < 1 := (y 0).isLt
    blk_ext [idx t, pos]
  rw [e]
  rw [blk3 m c t, blk4 m c t]
  rfl

theorem final7 (c : Dev nD) : (dats m 0 c).arrAt 7 cfg0.N = fun i => newM (grad1 (S := S1x48x128) (m ((c : Thread nD τ).loc main_arg3)) (m ((c : Thread nD τ).loc main_arg4)) i) ((m ((c : Thread nD τ).loc main_arg1)) i) := by
  refine (dats m 0 c).arrAt_eq_of_covers 7 _ (by decide +kernel) fun t hf y => ?_
  blk_simp
  rw [after0_7]
  refine (newM_out  _ _ _ _ _ y).trans ?_
  have e : (win0_7.blk t).view.emb y = pos t y := by
    have h0 : (y 0).val < 1 := (y 0).isLt
    blk_ext [idx t, pos]
  rw [e]
  rw [blk1 m c t, blk3 m c t, blk4 m c t]
  rfl

theorem final8 (c : Dev nD) : (dats m 0 c).arrAt 8 cfg0.N = fun i => newV (grad1 (S := S1x48x128) (m ((c : Thread nD τ).loc main_arg3)) (m ((c : Thread nD τ).loc main_arg4)) i) ((m ((c : Thread nD τ).loc main_arg2)) i) := by
  refine (dats m 0 c).arrAt_eq_of_covers 8 _ (by decide +kernel) fun t hf y => ?_
  blk_simp
  rw [after0_8]
  refine (newV_out  _ _ _ _ _ y).trans ?_
  have e : (win0_8.blk t).view.emb y = pos t y := by
    have h0 : (y 0).val < 1 := (y 0).isLt
    blk_ext [idx t, pos]
  rw [e]
  rw [blk2 m c t, blk3 m c t, blk4 m c t]
  rfl

theorem final6 (c : Dev nD) : (dats m 0 c).arrAt 6 cfg0.N = fun i => delta ((m ((c : Thread nD τ).loc main_arg0)) i) (grad1 (S := S1x48x128) (m ((c : Thread nD τ).loc main_arg3)) (m ((c : Thread nD τ).loc main_arg4)) i) ((m ((c : Thread nD τ).loc main_arg1)) i) ((m ((c : Thread nD τ).loc main_arg2)) i) := by
  refine (dats m 0 c).arrAt_eq_of_covers 6 _ (by decide +kernel) fun t hf y => ?_
  blk_simp
  rw [after0_6]
  refine (delta_out  _ _ _ _ _ y).trans ?_
  have e : (win0_6.blk t).view.emb y = pos t y := by
    have h0 : (y 0).val < 1 := (y 0).isLt
    blk_ext [idx t, pos]
  rw [e]
  rw [blk0 m c t, blk1 m c t, blk2 m c t, blk3 m c t, blk4 m c t]
  rfl

end Cert.Kernel34Ideal.Adam

namespace Cert.Proof.Adam34

open Cert.Spec Cert.Spec.Adam

theorem algebraic : Cert.algebraic_Kernel34Ideal_Reference34Ideal := by
  intro m g m' g' _ hagree
  refine ⟨_, _, _, _, Cert.Kernel34Ideal.Value.run_blocks m g, ?_⟩
  refine θ_run_mono (Cert.Reference34Ideal.Adam.run m' g') fun r h c => ?_
  obtain ⟨e0, e1, e2, e3, e4⟩ := hagree c
  exact ⟨(h c).1.trans (by rw [e3, e4]; exact (Cert.Kernel34Ideal.Adam.final5 m c).symm),
    (h c).2.1.trans (by rw [e0, e1, e2, e3, e4]; exact (Cert.Kernel34Ideal.Adam.final6 m c).symm),
    (h c).2.2.1.trans (by rw [e1, e3, e4]; exact (Cert.Kernel34Ideal.Adam.final7 m c).symm),
    (h c).2.2.2.1.trans (by rw [e2, e3, e4]; exact (Cert.Kernel34Ideal.Adam.final8 m c).symm), (h c).2.2.2.2⟩

end Cert.Proof.Adam34

end
-- ==== Proof.lean ====
module

public import Idealize.ShloMosaic.Lib.Quiescent
public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Gen.Kernel2.Frame
public import proofs.«01_k».proof.Proof.Gen.Kernel2Ideal.Frame
public import proofs.«01_k».proof.Proof.Gen.Reference2Ideal.Run
public import proofs.«01_k».proof.Proof.Gen.Kernel3.Frame
public import proofs.«01_k».proof.Proof.Gen.Kernel3Ideal.Frame
public import proofs.«01_k».proof.Proof.Gen.Reference3Ideal.Run
public import proofs.«01_k».proof.Proof.Gen.Kernel4.Frame
public import proofs.«01_k».proof.Proof.Gen.Kernel4Ideal.Frame
public import proofs.«01_k».proof.Proof.Gen.Reference4Ideal.Run
public import proofs.«01_k».proof.Proof.Gen.Kernel5.Frame
public import proofs.«01_k».proof.Proof.Gen.Kernel5Ideal.Frame
public import proofs.«01_k».proof.Proof.Gen.Reference5Ideal.Run
public import proofs.«01_k».proof.Proof.Gen.Kernel6.Frame
public import proofs.«01_k».proof.Proof.Gen.Kernel6Ideal.Frame
public import proofs.«01_k».proof.Proof.Gen.Reference6Ideal.Run
public import proofs.«01_k».proof.Proof.Gen.Kernel7.Frame
public import proofs.«01_k».proof.Proof.Gen.Kernel7Ideal.Frame
public import proofs.«01_k».proof.Proof.Gen.Reference7Ideal.Run
public import proofs.«01_k».proof.Proof.Gen.Kernel8.Frame
public import proofs.«01_k».proof.Proof.Gen.Kernel8Ideal.Frame
public import proofs.«01_k».proof.Proof.Gen.Reference8Ideal.Run
public import proofs.«01_k».proof.Proof.Gen.Kernel9.Frame
public import proofs.«01_k».proof.Proof.Gen.Kernel9Ideal.Frame
public import proofs.«01_k».proof.Proof.Gen.Reference9Ideal.Run
public import proofs.«01_k».proof.Proof.Gen.Kernel10.Frame
public import proofs.«01_k».proof.Proof.Gen.Kernel10Ideal.Frame
public import proofs.«01_k».proof.Proof.Gen.Reference10Ideal.Run
public import proofs.«01_k».proof.Proof.Gen.Kernel11.Frame
public import proofs.«01_k».proof.Proof.Gen.Kernel11Ideal.Frame
public import proofs.«01_k».proof.Proof.Gen.Reference11Ideal.Run
public import proofs.«01_k».proof.Proof.Gen.Kernel12.Frame
public import proofs.«01_k».proof.Proof.Gen.Kernel12Ideal.Frame
public import proofs.«01_k».proof.Proof.Gen.Reference12Ideal.Run
public import proofs.«01_k».proof.Proof.Gen.Kernel13.Frame
public import proofs.«01_k».proof.Proof.Gen.Kernel13Ideal.Frame
public import proofs.«01_k».proof.Proof.Gen.Reference13Ideal.Run
public import proofs.«01_k».proof.Proof.Gen.Kernel14.Frame
public import proofs.«01_k».proof.Proof.Gen.Kernel14Ideal.Frame
public import proofs.«01_k».proof.Proof.Gen.Reference14Ideal.Run
public import proofs.«01_k».proof.Proof.Gen.Kernel15.Frame
public import proofs.«01_k».proof.Proof.Gen.Kernel15Ideal.Frame
public import proofs.«01_k».proof.Proof.Gen.Reference15Ideal.Run
public import proofs.«01_k».proof.Proof.Gen.Kernel16.Frame
public import proofs.«01_k».proof.Proof.Gen.Kernel16Ideal.Frame
public import proofs.«01_k».proof.Proof.Gen.Reference16Ideal.Run
public import proofs.«01_k».proof.Proof.Gen.Kernel17.Frame
public import proofs.«01_k».proof.Proof.Gen.Kernel17Ideal.Frame
public import proofs.«01_k».proof.Proof.Gen.Reference17Ideal.Run
public import proofs.«01_k».proof.Proof.Gen.Kernel18.Frame
public import proofs.«01_k».proof.Proof.Gen.Kernel18Ideal.Frame
public import proofs.«01_k».proof.Proof.Gen.Reference18Ideal.Run
public import proofs.«01_k».proof.Proof.Gen.Kernel19.Frame
public import proofs.«01_k».proof.Proof.Gen.Kernel19Ideal.Frame
public import proofs.«01_k».proof.Proof.Gen.Reference19Ideal.Run
public import proofs.«01_k».proof.Proof.Gen.Kernel20.Frame
public import proofs.«01_k».proof.Proof.Gen.Kernel20Ideal.Frame
public import proofs.«01_k».proof.Proof.Gen.Reference20Ideal.Run
public import proofs.«01_k».proof.Proof.Gen.Kernel21.Frame
public import proofs.«01_k».proof.Proof.Gen.Kernel21Ideal.Frame
public import proofs.«01_k».proof.Proof.Gen.Reference21Ideal.Run
public import proofs.«01_k».proof.Proof.Gen.Kernel22.Frame
public import proofs.«01_k».proof.Proof.Gen.Kernel22Ideal.Frame
public import proofs.«01_k».proof.Proof.Gen.Reference22Ideal.Run
public import proofs.«01_k».proof.Proof.Gen.Kernel23.Frame
public import proofs.«01_k».proof.Proof.Gen.Kernel23Ideal.Frame
public import proofs.«01_k».proof.Proof.Gen.Reference23Ideal.Run
public import proofs.«01_k».proof.Proof.Gen.Kernel24.Frame
public import proofs.«01_k».proof.Proof.Gen.Kernel24Ideal.Frame
public import proofs.«01_k».proof.Proof.Gen.Reference24Ideal.Run
public import proofs.«01_k».proof.Proof.Gen.Kernel25.Frame
public import proofs.«01_k».proof.Proof.Gen.Kernel25Ideal.Frame
public import proofs.«01_k».proof.Proof.Gen.Reference25Ideal.Run
public import proofs.«01_k».proof.Proof.Gen.Kernel26.Frame
public import proofs.«01_k».proof.Proof.Gen.Kernel26Ideal.Frame
public import proofs.«01_k».proof.Proof.Gen.Reference26Ideal.Run
public import proofs.«01_k».proof.Proof.Gen.Kernel27.Frame
public import proofs.«01_k».proof.Proof.Gen.Kernel27Ideal.Frame
public import proofs.«01_k».proof.Proof.Gen.Reference27Ideal.Run
public import proofs.«01_k».proof.Proof.Gen.Kernel28.Frame
public import proofs.«01_k».proof.Proof.Gen.Kernel28Ideal.Frame
public import proofs.«01_k».proof.Proof.Gen.Reference28Ideal.Run
public import proofs.«01_k».proof.Proof.Gen.Kernel29.Frame
public import proofs.«01_k».proof.Proof.Gen.Kernel29Ideal.Frame
public import proofs.«01_k».proof.Proof.Gen.Reference29Ideal.Run
public import proofs.«01_k».proof.Proof.Gen.Kernel30.Frame
public import proofs.«01_k».proof.Proof.Gen.Kernel30Ideal.Frame
public import proofs.«01_k».proof.Proof.Gen.Reference30Ideal.Run
public import proofs.«01_k».proof.Proof.Gen.Kernel31.Frame
public import proofs.«01_k».proof.Proof.Gen.Kernel31Ideal.Frame
public import proofs.«01_k».proof.Proof.Gen.Reference31Ideal.Run
public import proofs.«01_k».proof.Proof.Gen.Kernel32.Frame
public import proofs.«01_k».proof.Proof.Gen.Kernel32Ideal.Frame
public import proofs.«01_k».proof.Proof.Gen.Reference32Ideal.Run
public import proofs.«01_k».proof.Proof.Gen.Kernel33.Frame
public import proofs.«01_k».proof.Proof.Gen.Kernel33Ideal.Frame
public import proofs.«01_k».proof.Proof.Gen.Reference33Ideal.Run
public import proofs.«01_k».proof.Proof.Gen.Kernel34.Frame
public import proofs.«01_k».proof.Proof.Gen.Kernel34Ideal.Frame
public import proofs.«01_k».proof.Proof.Gen.Reference34Ideal.Run
public import proofs.«01_k».proof.Proof.Bwd
public import proofs.«01_k».proof.Proof.FwdClaim
public import proofs.«01_k».proof.Proof.WDown
public import proofs.«01_k».proof.Proof.WGate
public import proofs.«01_k».proof.Proof.WUp
public import proofs.«01_k».proof.Proof.XaBwd
public import proofs.«01_k».proof.Proof.Prods
public import proofs.«01_k».proof.Proof.Prods
public import proofs.«01_k».proof.Proof.Prods
public import proofs.«01_k».proof.Proof.Prods
public import proofs.«01_k».proof.Proof.Prods
public import proofs.«01_k».proof.Proof.Prods
public import proofs.«01_k».proof.Proof.NormBwd
public import proofs.«01_k».proof.Proof.NormBwd14
public import proofs.«01_k».proof.Proof.NormBwd15
public import proofs.«01_k».proof.Proof.NormFwd
public import proofs.«01_k».proof.Proof.NormFwd
public import proofs.«01_k».proof.Proof.XaFwd
public import proofs.«01_k».proof.Proof.Memory
public import proofs.«01_k».proof.Proof.Memory
public import proofs.«01_k».proof.Proof.Memory
public import proofs.«01_k».proof.Proof.Memory
public import proofs.«01_k».proof.Proof.MemBwd
public import proofs.«01_k».proof.Proof.Loss
public import proofs.«01_k».proof.Proof.SconvFwd
public import proofs.«01_k».proof.Proof.SconvBwd
public import proofs.«01_k».proof.Proof.Adam27
public import proofs.«01_k».proof.Proof.Adam28
public import proofs.«01_k».proof.Proof.Adam29
public import proofs.«01_k».proof.Proof.Adam30
public import proofs.«01_k».proof.Proof.Adam31
public import proofs.«01_k».proof.Proof.Adam32
public import proofs.«01_k».proof.Proof.Adam33
public import proofs.«01_k».proof.Proof.Adam34
public import proofs.«01_k».proof.Proof.Gen.Kernel
public import proofs.«01_k».proof.Proof.Gen.KernelIdeal
public import proofs.«01_k».proof.Proof.Gen.ReferenceIdeal
public import proofs.«01_k».proof.Proof.Gen.Kernel2
public import proofs.«01_k».proof.Proof.Gen.Kernel2Ideal
public import proofs.«01_k».proof.Proof.Gen.Reference2Ideal
public import proofs.«01_k».proof.Proof.Gen.Kernel3
public import proofs.«01_k».proof.Proof.Gen.Kernel3Ideal
public import proofs.«01_k».proof.Proof.Gen.Reference3Ideal
public import proofs.«01_k».proof.Proof.Gen.Kernel4
public import proofs.«01_k».proof.Proof.Gen.Kernel4Ideal
public import proofs.«01_k».proof.Proof.Gen.Reference4Ideal
public import proofs.«01_k».proof.Proof.Gen.Kernel5
public import proofs.«01_k».proof.Proof.Gen.Kernel5Ideal
public import proofs.«01_k».proof.Proof.Gen.Reference5Ideal
public import proofs.«01_k».proof.Proof.Gen.Kernel6
public import proofs.«01_k».proof.Proof.Gen.Kernel6Ideal
public import proofs.«01_k».proof.Proof.Gen.Reference6Ideal
public import proofs.«01_k».proof.Proof.Gen.Kernel7
public import proofs.«01_k».proof.Proof.Gen.Kernel7Ideal
public import proofs.«01_k».proof.Proof.Gen.Reference7Ideal
public import proofs.«01_k».proof.Proof.Gen.Kernel8
public import proofs.«01_k».proof.Proof.Gen.Kernel8Ideal
public import proofs.«01_k».proof.Proof.Gen.Reference8Ideal
public import proofs.«01_k».proof.Proof.Gen.Kernel9
public import proofs.«01_k».proof.Proof.Gen.Kernel9Ideal
public import proofs.«01_k».proof.Proof.Gen.Reference9Ideal
public import proofs.«01_k».proof.Proof.Gen.Kernel10
public import proofs.«01_k».proof.Proof.Gen.Kernel10Ideal
public import proofs.«01_k».proof.Proof.Gen.Reference10Ideal
public import proofs.«01_k».proof.Proof.Gen.Kernel11
public import proofs.«01_k».proof.Proof.Gen.Kernel11Ideal
public import proofs.«01_k».proof.Proof.Gen.Reference11Ideal
public import proofs.«01_k».proof.Proof.Gen.Kernel12
public import proofs.«01_k».proof.Proof.Gen.Kernel12Ideal
public import proofs.«01_k».proof.Proof.Gen.Reference12Ideal
public import proofs.«01_k».proof.Proof.Gen.Kernel13
public import proofs.«01_k».proof.Proof.Gen.Kernel13Ideal
public import proofs.«01_k».proof.Proof.Gen.Reference13Ideal
public import proofs.«01_k».proof.Proof.Gen.Kernel14
public import proofs.«01_k».proof.Proof.Gen.Kernel14Ideal
public import proofs.«01_k».proof.Proof.Gen.Reference14Ideal
public import proofs.«01_k».proof.Proof.Gen.Kernel15
public import proofs.«01_k».proof.Proof.Gen.Kernel15Ideal
public import proofs.«01_k».proof.Proof.Gen.Reference15Ideal
public import proofs.«01_k».proof.Proof.Gen.Kernel16
public import proofs.«01_k».proof.Proof.Gen.Kernel16Ideal
public import proofs.«01_k».proof.Proof.Gen.Reference16Ideal
public import proofs.«01_k».proof.Proof.Gen.Kernel17
public import proofs.«01_k».proof.Proof.Gen.Kernel17Ideal
public import proofs.«01_k».proof.Proof.Gen.Reference17Ideal
public import proofs.«01_k».proof.Proof.Gen.Kernel18
public import proofs.«01_k».proof.Proof.Gen.Kernel18Ideal
public import proofs.«01_k».proof.Proof.Gen.Reference18Ideal
public import proofs.«01_k».proof.Proof.Gen.Kernel19
public import proofs.«01_k».proof.Proof.Gen.Kernel19Ideal
public import proofs.«01_k».proof.Proof.Gen.Reference19Ideal
public import proofs.«01_k».proof.Proof.Gen.Kernel20
public import proofs.«01_k».proof.Proof.Gen.Kernel20Ideal
public import proofs.«01_k».proof.Proof.Gen.Reference20Ideal
public import proofs.«01_k».proof.Proof.Gen.Kernel21
public import proofs.«01_k».proof.Proof.Gen.Kernel21Ideal
public import proofs.«01_k».proof.Proof.Gen.Reference21Ideal
public import proofs.«01_k».proof.Proof.Gen.Kernel22
public import proofs.«01_k».proof.Proof.Gen.Kernel22Ideal
public import proofs.«01_k».proof.Proof.Gen.Reference22Ideal
public import proofs.«01_k».proof.Proof.Gen.Kernel23
public import proofs.«01_k».proof.Proof.Gen.Kernel23Ideal
public import proofs.«01_k».proof.Proof.Gen.Reference23Ideal
public import proofs.«01_k».proof.Proof.Gen.Kernel24
public import proofs.«01_k».proof.Proof.Gen.Kernel24Ideal
public import proofs.«01_k».proof.Proof.Gen.Reference24Ideal
public import proofs.«01_k».proof.Proof.Gen.Kernel25
public import proofs.«01_k».proof.Proof.Gen.Kernel25Ideal
public import proofs.«01_k».proof.Proof.Gen.Reference25Ideal
public import proofs.«01_k».proof.Proof.Gen.Kernel26
public import proofs.«01_k».proof.Proof.Gen.Kernel26Ideal
public import proofs.«01_k».proof.Proof.Gen.Reference26Ideal
public import proofs.«01_k».proof.Proof.Gen.Kernel27
public import proofs.«01_k».proof.Proof.Gen.Kernel27Ideal
public import proofs.«01_k».proof.Proof.Gen.Reference27Ideal
public import proofs.«01_k».proof.Proof.Gen.Kernel28
public import proofs.«01_k».proof.Proof.Gen.Kernel28Ideal
public import proofs.«01_k».proof.Proof.Gen.Reference28Ideal
public import proofs.«01_k».proof.Proof.Gen.Kernel29
public import proofs.«01_k».proof.Proof.Gen.Kernel29Ideal
public import proofs.«01_k».proof.Proof.Gen.Reference29Ideal
public import proofs.«01_k».proof.Proof.Gen.Kernel30
public import proofs.«01_k».proof.Proof.Gen.Kernel30Ideal
public import proofs.«01_k».proof.Proof.Gen.Reference30Ideal
public import proofs.«01_k».proof.Proof.Gen.Kernel31
public import proofs.«01_k».proof.Proof.Gen.Kernel31Ideal
public import proofs.«01_k».proof.Proof.Gen.Reference31Ideal
public import proofs.«01_k».proof.Proof.Gen.Kernel32
public import proofs.«01_k».proof.Proof.Gen.Kernel32Ideal
public import proofs.«01_k».proof.Proof.Gen.Reference32Ideal
public import proofs.«01_k».proof.Proof.Gen.Kernel33
public import proofs.«01_k».proof.Proof.Gen.Kernel33Ideal
public import proofs.«01_k».proof.Proof.Gen.Reference33Ideal
public import proofs.«01_k».proof.Proof.Gen.Kernel34
public import proofs.«01_k».proof.Proof.Gen.Kernel34Ideal
public import proofs.«01_k».proof.Proof.Gen.Reference34Ideal
public import proofs.«01_k».proof.Proof.Gen.Pre_finite
public import proofs.«01_k».proof.Proof.Gen.Pre_finite6
public import proofs.«01_k».proof.Proof.Gen.Pre_finite18

@[expose] public section

noncomputable section

namespace Cert.Proof

open Idealize.ShloMosaic Idealize.SL.Sem

/-- The reference program ReferenceIdeal runs, keeps its arguments and owns no counter. -/
theorem frame_ReferenceIdeal : Cert.quiescent_ReferenceIdeal := fun m ρ _ =>
  (θ_run Cert.ReferenceIdeal.defs _ _).mono
    (fun r h => ⟨fun c => (h c).2.2.2.2, sem_eq_zero_of_no_sems (by decide) r.2⟩)
    (Cert.ReferenceIdeal.Value.run m ρ)

/-- The reference program ReferenceIdeal runs, keeps its arguments and owns no counter. -/
theorem frame_pre_ReferenceIdeal : Cert.quiescent_ReferenceIdeal_pre_finite := fun m ρ _ =>
  (θ_run Cert.ReferenceIdeal.defs _ _).mono
    (fun r h => ⟨fun c => (h c).2.2.2.2, sem_eq_zero_of_no_sems (by decide) r.2⟩)
    (Cert.ReferenceIdeal.Value.run m ρ)

/-- The reference program Reference2Ideal runs, keeps its arguments and owns no counter. -/
theorem frame_Reference2Ideal : Cert.quiescent_Reference2Ideal := fun m ρ _ =>
  (θ_run Cert.Reference2Ideal.defs _ _).mono
    (fun r h => ⟨fun c => (h c).2.2.2.2.2, sem_eq_zero_of_no_sems (by decide) r.2⟩)
    (Cert.Reference2Ideal.Value.run m ρ)

/-- The reference program Reference3Ideal runs, keeps its arguments and owns no counter. -/
theorem frame_Reference3Ideal : Cert.quiescent_Reference3Ideal := fun m ρ _ =>
  (θ_run Cert.Reference3Ideal.defs _ _).mono
    (fun r h => ⟨fun c => (h c).2, sem_eq_zero_of_no_sems (by decide) r.2⟩)
    (Cert.Reference3Ideal.Value.run m ρ)

/-- The reference program Reference4Ideal runs, keeps its arguments and owns no counter. -/
theorem frame_Reference4Ideal : Cert.quiescent_Reference4Ideal := fun m ρ _ =>
  (θ_run Cert.Reference4Ideal.defs _ _).mono
    (fun r h => ⟨fun c => (h c).2, sem_eq_zero_of_no_sems (by decide) r.2⟩)
    (Cert.Reference4Ideal.Value.run m ρ)

/-- The reference program Reference5Ideal runs, keeps its arguments and owns no counter. -/
theorem frame_Reference5Ideal : Cert.quiescent_Reference5Ideal := fun m ρ _ =>
  (θ_run Cert.Reference5Ideal.defs _ _).mono
    (fun r h => ⟨fun c => (h c).2, sem_eq_zero_of_no_sems (by decide) r.2⟩)
    (Cert.Reference5Ideal.Value.run m ρ)

/-- The reference program Reference6Ideal runs, keeps its arguments and owns no counter. -/
theorem frame_Reference6Ideal : Cert.quiescent_Reference6Ideal := fun m ρ _ =>
  (θ_run Cert.Reference6Ideal.defs _ _).mono
    (fun r h => ⟨fun c => (h c).2.2, sem_eq_zero_of_no_sems (by decide) r.2⟩)
    (Cert.Reference6Ideal.Value.run m ρ)

/-- The reference program Reference6Ideal runs, keeps its arguments and owns no counter. -/
theorem frame_pre_Reference6Ideal : Cert.quiescent_Reference6Ideal_pre_finite6 := fun m ρ _ =>
  (θ_run Cert.Reference6Ideal.defs _ _).mono
    (fun r h => ⟨fun c => (h c).2.2, sem_eq_zero_of_no_sems (by decide) r.2⟩)
    (Cert.Reference6Ideal.Value.run m ρ)

/-- The reference program Reference7Ideal runs, keeps its arguments and owns no counter. -/
theorem frame_Reference7Ideal : Cert.quiescent_Reference7Ideal := fun m ρ _ =>
  (θ_run Cert.Reference7Ideal.defs _ _).mono
    (fun r h => ⟨fun c => (h c).2, sem_eq_zero_of_no_sems (by decide) r.2⟩)
    (Cert.Reference7Ideal.Value.run m ρ)

/-- The reference program Reference8Ideal runs, keeps its arguments and owns no counter. -/
theorem frame_Reference8Ideal : Cert.quiescent_Reference8Ideal := fun m ρ _ =>
  (θ_run Cert.Reference8Ideal.defs _ _).mono
    (fun r h => ⟨fun c => (h c).2, sem_eq_zero_of_no_sems (by decide) r.2⟩)
    (Cert.Reference8Ideal.Value.run m ρ)

/-- The reference program Reference9Ideal runs, keeps its arguments and owns no counter. -/
theorem frame_Reference9Ideal : Cert.quiescent_Reference9Ideal := fun m ρ _ =>
  (θ_run Cert.Reference9Ideal.defs _ _).mono
    (fun r h => ⟨fun c => (h c).2, sem_eq_zero_of_no_sems (by decide) r.2⟩)
    (Cert.Reference9Ideal.Value.run m ρ)

/-- The reference program Reference10Ideal runs, keeps its arguments and owns no counter. -/
theorem frame_Reference10Ideal : Cert.quiescent_Reference10Ideal := fun m ρ _ =>
  (θ_run Cert.Reference10Ideal.defs _ _).mono
    (fun r h => ⟨fun c => (h c).2, sem_eq_zero_of_no_sems (by decide) r.2⟩)
    (Cert.Reference10Ideal.Value.run m ρ)

/-- The reference program Reference11Ideal runs, keeps its arguments and owns no counter. -/
theorem frame_Reference11Ideal : Cert.quiescent_Reference11Ideal := fun m ρ _ =>
  (θ_run Cert.Reference11Ideal.defs _ _).mono
    (fun r h => ⟨fun c => (h c).2, sem_eq_zero_of_no_sems (by decide) r.2⟩)
    (Cert.Reference11Ideal.Value.run m ρ)

/-- The reference program Reference12Ideal runs, keeps its arguments and owns no counter. -/
theorem frame_Reference12Ideal : Cert.quiescent_Reference12Ideal := fun m ρ _ =>
  (θ_run Cert.Reference12Ideal.defs _ _).mono
    (fun r h => ⟨fun c => (h c).2, sem_eq_zero_of_no_sems (by decide) r.2⟩)
    (Cert.Reference12Ideal.Value.run m ρ)

/-- The reference program Reference13Ideal runs, keeps its arguments and owns no counter. -/
theorem frame_Reference13Ideal : Cert.quiescent_Reference13Ideal := fun m ρ _ =>
  (θ_run Cert.Reference13Ideal.defs _ _).mono
    (fun r h => ⟨fun c => (h c).2.2, sem_eq_zero_of_no_sems (by decide) r.2⟩)
    (Cert.Reference13Ideal.Value.run m ρ)

/-- The reference program Reference14Ideal runs, keeps its arguments and owns no counter. -/
theorem frame_Reference14Ideal : Cert.quiescent_Reference14Ideal := fun m ρ _ =>
  (θ_run Cert.Reference14Ideal.defs _ _).mono
    (fun r h => ⟨fun c => (h c).2.2, sem_eq_zero_of_no_sems (by decide) r.2⟩)
    (Cert.Reference14Ideal.Value.run m ρ)

/-- The reference program Reference15Ideal runs, keeps its arguments and owns no counter. -/
theorem frame_Reference15Ideal : Cert.quiescent_Reference15Ideal := fun m ρ _ =>
  (θ_run Cert.Reference15Ideal.defs _ _).mono
    (fun r h => ⟨fun c => (h c).2.2, sem_eq_zero_of_no_sems (by decide) r.2⟩)
    (Cert.Reference15Ideal.Value.run m ρ)

/-- The reference program Reference16Ideal runs, keeps its arguments and owns no counter. -/
theorem frame_Reference16Ideal : Cert.quiescent_Reference16Ideal := fun m ρ _ =>
  (θ_run Cert.Reference16Ideal.defs _ _).mono
    (fun r h => ⟨fun c => (h c).2.2, sem_eq_zero_of_no_sems (by decide) r.2⟩)
    (Cert.Reference16Ideal.Value.run m ρ)

/-- The reference program Reference17Ideal runs, keeps its arguments and owns no counter. -/
theorem frame_Reference17Ideal : Cert.quiescent_Reference17Ideal := fun m ρ _ =>
  (θ_run Cert.Reference17Ideal.defs _ _).mono
    (fun r h => ⟨fun c => (h c).2.2, sem_eq_zero_of_no_sems (by decide) r.2⟩)
    (Cert.Reference17Ideal.Value.run m ρ)

/-- The reference program Reference18Ideal runs, keeps its arguments and owns no counter. -/
theorem frame_Reference18Ideal : Cert.quiescent_Reference18Ideal := fun m ρ _ =>
  (θ_run Cert.Reference18Ideal.defs _ _).mono
    (fun r h => ⟨fun c => (h c).2.2.2.2, sem_eq_zero_of_no_sems (by decide) r.2⟩)
    (Cert.Reference18Ideal.Value.run m ρ)

/-- The reference program Reference18Ideal runs, keeps its arguments and owns no counter. -/
theorem frame_pre_Reference18Ideal : Cert.quiescent_Reference18Ideal_pre_finite18 := fun m ρ _ =>
  (θ_run Cert.Reference18Ideal.defs _ _).mono
    (fun r h => ⟨fun c => (h c).2.2.2.2, sem_eq_zero_of_no_sems (by decide) r.2⟩)
    (Cert.Reference18Ideal.Value.run m ρ)

/-- The reference program Reference19Ideal runs, keeps its arguments and owns no counter. -/
theorem frame_Reference19Ideal : Cert.quiescent_Reference19Ideal := fun m ρ _ =>
  (θ_run Cert.Reference19Ideal.defs _ _).mono
    (fun r h => ⟨fun c => (h c).2, sem_eq_zero_of_no_sems (by decide) r.2⟩)
    (Cert.Reference19Ideal.Value.run m ρ)

/-- The reference program Reference20Ideal runs, keeps its arguments and owns no counter. -/
theorem frame_Reference20Ideal : Cert.quiescent_Reference20Ideal := fun m ρ _ =>
  (θ_run Cert.Reference20Ideal.defs _ _).mono
    (fun r h => ⟨fun c => (h c).2, sem_eq_zero_of_no_sems (by decide) r.2⟩)
    (Cert.Reference20Ideal.Value.run m ρ)

/-- The reference program Reference21Ideal runs, keeps its arguments and owns no counter. -/
theorem frame_Reference21Ideal : Cert.quiescent_Reference21Ideal := fun m ρ _ =>
  (θ_run Cert.Reference21Ideal.defs _ _).mono
    (fun r h => ⟨fun c => (h c).2, sem_eq_zero_of_no_sems (by decide) r.2⟩)
    (Cert.Reference21Ideal.Value.run m ρ)

/-- The reference program Reference22Ideal runs, keeps its arguments and owns no counter. -/
theorem frame_Reference22Ideal : Cert.quiescent_Reference22Ideal := fun m ρ _ =>
  (θ_run Cert.Reference22Ideal.defs _ _).mono
    (fun r h => ⟨fun c => (h c).2, sem_eq_zero_of_no_sems (by decide) r.2⟩)
    (Cert.Reference22Ideal.Value.run m ρ)

/-- The reference program Reference23Ideal runs, keeps its arguments and owns no counter. -/
theorem frame_Reference23Ideal : Cert.quiescent_Reference23Ideal := fun m ρ _ =>
  (θ_run Cert.Reference23Ideal.defs _ _).mono
    (fun r h => ⟨fun c => (h c).2, sem_eq_zero_of_no_sems (by decide) r.2⟩)
    (Cert.Reference23Ideal.Value.run m ρ)

/-- The reference program Reference24Ideal runs, keeps its arguments and owns no counter. -/
theorem frame_Reference24Ideal : Cert.quiescent_Reference24Ideal := fun m ρ _ =>
  (θ_run Cert.Reference24Ideal.defs _ _).mono
    (fun r h => ⟨fun c => (h c).2.2.2, sem_eq_zero_of_no_sems (by decide) r.2⟩)
    (Cert.Reference24Ideal.Value.run m ρ)

/-- The reference program Reference25Ideal runs, keeps its arguments and owns no counter. -/
theorem frame_Reference25Ideal : Cert.quiescent_Reference25Ideal := fun m ρ _ =>
  (θ_run Cert.Reference25Ideal.defs _ _).mono
    (fun r h => ⟨fun c => (h c).2.2, sem_eq_zero_of_no_sems (by decide) r.2⟩)
    (Cert.Reference25Ideal.Value.run m ρ)

/-- The reference program Reference26Ideal runs, keeps its arguments and owns no counter. -/
theorem frame_Reference26Ideal : Cert.quiescent_Reference26Ideal := fun m ρ _ =>
  (θ_run Cert.Reference26Ideal.defs _ _).mono
    (fun r h => ⟨fun c => (h c).2.2, sem_eq_zero_of_no_sems (by decide) r.2⟩)
    (Cert.Reference26Ideal.Value.run m ρ)

/-- The reference program Reference27Ideal runs, keeps its arguments and owns no counter. -/
theorem frame_Reference27Ideal : Cert.quiescent_Reference27Ideal := fun m ρ _ =>
  (θ_run Cert.Reference27Ideal.defs _ _).mono
    (fun r h => ⟨fun c => (h c).2.2.2.2, sem_eq_zero_of_no_sems (by decide) r.2⟩)
    (Cert.Reference27Ideal.Value.run m ρ)

/-- The reference program Reference28Ideal runs, keeps its arguments and owns no counter. -/
theorem frame_Reference28Ideal : Cert.quiescent_Reference28Ideal := fun m ρ _ =>
  (θ_run Cert.Reference28Ideal.defs _ _).mono
    (fun r h => ⟨fun c => (h c).2.2.2.2, sem_eq_zero_of_no_sems (by decide) r.2⟩)
    (Cert.Reference28Ideal.Value.run m ρ)

/-- The reference program Reference29Ideal runs, keeps its arguments and owns no counter. -/
theorem frame_Reference29Ideal : Cert.quiescent_Reference29Ideal := fun m ρ _ =>
  (θ_run Cert.Reference29Ideal.defs _ _).mono
    (fun r h => ⟨fun c => (h c).2.2.2.2, sem_eq_zero_of_no_sems (by decide) r.2⟩)
    (Cert.Reference29Ideal.Value.run m ρ)

/-- The reference program Reference30Ideal runs, keeps its arguments and owns no counter. -/
theorem frame_Reference30Ideal : Cert.quiescent_Reference30Ideal := fun m ρ _ =>
  (θ_run Cert.Reference30Ideal.defs _ _).mono
    (fun r h => ⟨fun c => (h c).2.2.2.2, sem_eq_zero_of_no_sems (by decide) r.2⟩)
    (Cert.Reference30Ideal.Value.run m ρ)

/-- The reference program Reference31Ideal runs, keeps its arguments and owns no counter. -/
theorem frame_Reference31Ideal : Cert.quiescent_Reference31Ideal := fun m ρ _ =>
  (θ_run Cert.Reference31Ideal.defs _ _).mono
    (fun r h => ⟨fun c => (h c).2.2.2.2, sem_eq_zero_of_no_sems (by decide) r.2⟩)
    (Cert.Reference31Ideal.Value.run m ρ)

/-- The reference program Reference32Ideal runs, keeps its arguments and owns no counter. -/
theorem frame_Reference32Ideal : Cert.quiescent_Reference32Ideal := fun m ρ _ =>
  (θ_run Cert.Reference32Ideal.defs _ _).mono
    (fun r h => ⟨fun c => (h c).2.2.2.2, sem_eq_zero_of_no_sems (by decide) r.2⟩)
    (Cert.Reference32Ideal.Value.run m ρ)

/-- The reference program Reference33Ideal runs, keeps its arguments and owns no counter. -/
theorem frame_Reference33Ideal : Cert.quiescent_Reference33Ideal := fun m ρ _ =>
  (θ_run Cert.Reference33Ideal.defs _ _).mono
    (fun r h => ⟨fun c => (h c).2.2.2.2, sem_eq_zero_of_no_sems (by decide) r.2⟩)
    (Cert.Reference33Ideal.Value.run m ρ)

/-- The reference program Reference34Ideal runs, keeps its arguments and owns no counter. -/
theorem frame_Reference34Ideal : Cert.quiescent_Reference34Ideal := fun m ρ _ =>
  (θ_run Cert.Reference34Ideal.defs _ _).mono
    (fun r h => ⟨fun c => (h c).2.2.2.2, sem_eq_zero_of_no_sems (by decide) r.2⟩)
    (Cert.Reference34Ideal.Value.run m ρ)

/-- The whole certificate: the side conditions of every program, the runs of every program, and the value
claims proved in the modules of this directory. -/
theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Kernel15.Gen.facts, Cert.Kernel15Ideal.Gen.facts, Cert.Reference15Ideal.Gen.facts, Cert.Kernel16.Gen.facts, Cert.Kernel16Ideal.Gen.facts, Cert.Reference16Ideal.Gen.facts, Cert.Kernel17.Gen.facts, Cert.Kernel17Ideal.Gen.facts, Cert.Reference17Ideal.Gen.facts, Cert.Kernel18.Gen.facts, Cert.Kernel18Ideal.Gen.facts, Cert.Reference18Ideal.Gen.facts, Cert.Kernel19.Gen.facts, Cert.Kernel19Ideal.Gen.facts, Cert.Reference19Ideal.Gen.facts, Cert.Kernel20.Gen.facts, Cert.Kernel20Ideal.Gen.facts, Cert.Reference20Ideal.Gen.facts, Cert.Kernel21.Gen.facts, Cert.Kernel21Ideal.Gen.facts, Cert.Reference21Ideal.Gen.facts, Cert.Kernel22.Gen.facts, Cert.Kernel22Ideal.Gen.facts, Cert.Reference22Ideal.Gen.facts, Cert.Kernel23.Gen.facts, Cert.Kernel23Ideal.Gen.facts, Cert.Reference23Ideal.Gen.facts, Cert.Kernel24.Gen.facts, Cert.Kernel24Ideal.Gen.facts, Cert.Reference24Ideal.Gen.facts, Cert.Kernel25.Gen.facts, Cert.Kernel25Ideal.Gen.facts, Cert.Reference25Ideal.Gen.facts, Cert.Kernel26.Gen.facts, Cert.Kernel26Ideal.Gen.facts, Cert.Reference26Ideal.Gen.facts, Cert.Kernel27.Gen.facts, Cert.Kernel27Ideal.Gen.facts, Cert.Reference27Ideal.Gen.facts, Cert.Kernel28.Gen.facts, Cert.Kernel28Ideal.Gen.facts, Cert.Reference28Ideal.Gen.facts, Cert.Kernel29.Gen.facts, Cert.Kernel29Ideal.Gen.facts, Cert.Reference29Ideal.Gen.facts, Cert.Kernel30.Gen.facts, Cert.Kernel30Ideal.Gen.facts, Cert.Reference30Ideal.Gen.facts, Cert.Kernel31.Gen.facts, Cert.Kernel31Ideal.Gen.facts, Cert.Reference31Ideal.Gen.facts, Cert.Kernel32.Gen.facts, Cert.Kernel32Ideal.Gen.facts, Cert.Reference32Ideal.Gen.facts, Cert.Kernel33.Gen.facts, Cert.Kernel33Ideal.Gen.facts, Cert.Reference33Ideal.Gen.facts, Cert.Kernel34.Gen.facts, Cert.Kernel34Ideal.Gen.facts, Cert.Reference34Ideal.Gen.facts, Cert.Pre_finite.Gen.facts, Cert.Pre_finite6.Gen.facts, Cert.Pre_finite18.Gen.facts,
    fun m ρ _ => Cert.Kernel.Gen.frame m ρ,
    fun m ρ _ => Cert.KernelIdeal.Gen.frame m ρ,
    fun m ρ _ => Cert.KernelIdeal.Gen.frame m ρ,
    frame_ReferenceIdeal,
    frame_pre_ReferenceIdeal,
    fun m ρ _ => Cert.Kernel2.Gen.frame m ρ,
    fun m ρ _ => Cert.Kernel2Ideal.Gen.frame m ρ,
    frame_Reference2Ideal,
    fun m ρ _ => Cert.Kernel3.Gen.frame m ρ,
    fun m ρ _ => Cert.Kernel3Ideal.Gen.frame m ρ,
    frame_Reference3Ideal,
    fun m ρ _ => Cert.Kernel4.Gen.frame m ρ,
    fun m ρ _ => Cert.Kernel4Ideal.Gen.frame m ρ,
    frame_Reference4Ideal,
    fun m ρ _ => Cert.Kernel5.Gen.frame m ρ,
    fun m ρ _ => Cert.Kernel5Ideal.Gen.frame m ρ,
    frame_Reference5Ideal,
    fun m ρ _ => Cert.Kernel6.Gen.frame m ρ,
    fun m ρ _ => Cert.Kernel6Ideal.Gen.frame m ρ,
    fun m ρ _ => Cert.Kernel6Ideal.Gen.frame m ρ,
    frame_Reference6Ideal,
    frame_pre_Reference6Ideal,
    fun m ρ _ => Cert.Kernel7.Gen.frame m ρ,
    fun m ρ _ => Cert.Kernel7Ideal.Gen.frame m ρ,
    frame_Reference7Ideal,
    fun m ρ _ => Cert.Kernel8.Gen.frame m ρ,
    fun m ρ _ => Cert.Kernel8Ideal.Gen.frame m ρ,
    frame_Reference8Ideal,
    fun m ρ _ => Cert.Kernel9.Gen.frame m ρ,
    fun m ρ _ => Cert.Kernel9Ideal.Gen.frame m ρ,
    frame_Reference9Ideal,
    fun m ρ _ => Cert.Kernel10.Gen.frame m ρ,
    fun m ρ _ => Cert.Kernel10Ideal.Gen.frame m ρ,
    frame_Reference10Ideal,
    fun m ρ _ => Cert.Kernel11.Gen.frame m ρ,
    fun m ρ _ => Cert.Kernel11Ideal.Gen.frame m ρ,
    frame_Reference11Ideal,
    fun m ρ _ => Cert.Kernel12.Gen.frame m ρ,
    fun m ρ _ => Cert.Kernel12Ideal.Gen.frame m ρ,
    frame_Reference12Ideal,
    fun m ρ _ => Cert.Kernel13.Gen.frame m ρ,
    fun m ρ _ => Cert.Kernel13Ideal.Gen.frame m ρ,
    frame_Reference13Ideal,
    fun m ρ _ => Cert.Kernel14.Gen.frame m ρ,
    fun m ρ _ => Cert.Kernel14Ideal.Gen.frame m ρ,
    frame_Reference14Ideal,
    fun m ρ _ => Cert.Kernel15.Gen.frame m ρ,
    fun m ρ _ => Cert.Kernel15Ideal.Gen.frame m ρ,
    frame_Reference15Ideal,
    fun m ρ _ => Cert.Kernel16.Gen.frame m ρ,
    fun m ρ _ => Cert.Kernel16Ideal.Gen.frame m ρ,
    frame_Reference16Ideal,
    fun m ρ _ => Cert.Kernel17.Gen.frame m ρ,
    fun m ρ _ => Cert.Kernel17Ideal.Gen.frame m ρ,
    frame_Reference17Ideal,
    fun m ρ _ => Cert.Kernel18.Gen.frame m ρ,
    fun m ρ _ => Cert.Kernel18Ideal.Gen.frame m ρ,
    fun m ρ _ => Cert.Kernel18Ideal.Gen.frame m ρ,
    frame_Reference18Ideal,
    frame_pre_Reference18Ideal,
    fun m ρ _ => Cert.Kernel19.Gen.frame m ρ,
    fun m ρ _ => Cert.Kernel19Ideal.Gen.frame m ρ,
    frame_Reference19Ideal,
    fun m ρ _ => Cert.Kernel20.Gen.frame m ρ,
    fun m ρ _ => Cert.Kernel20Ideal.Gen.frame m ρ,
    frame_Reference20Ideal,
    fun m ρ _ => Cert.Kernel21.Gen.frame m ρ,
    fun m ρ _ => Cert.Kernel21Ideal.Gen.frame m ρ,
    frame_Reference21Ideal,
    fun m ρ _ => Cert.Kernel22.Gen.frame m ρ,
    fun m ρ _ => Cert.Kernel22Ideal.Gen.frame m ρ,
    frame_Reference22Ideal,
    fun m ρ _ => Cert.Kernel23.Gen.frame m ρ,
    fun m ρ _ => Cert.Kernel23Ideal.Gen.frame m ρ,
    frame_Reference23Ideal,
    fun m ρ _ => Cert.Kernel24.Gen.frame m ρ,
    fun m ρ _ => Cert.Kernel24Ideal.Gen.frame m ρ,
    frame_Reference24Ideal,
    fun m ρ _ => Cert.Kernel25.Gen.frame m ρ,
    fun m ρ _ => Cert.Kernel25Ideal.Gen.frame m ρ,
    frame_Reference25Ideal,
    fun m ρ _ => Cert.Kernel26.Gen.frame m ρ,
    fun m ρ _ => Cert.Kernel26Ideal.Gen.frame m ρ,
    frame_Reference26Ideal,
    fun m ρ _ => Cert.Kernel27.Gen.frame m ρ,
    fun m ρ _ => Cert.Kernel27Ideal.Gen.frame m ρ,
    frame_Reference27Ideal,
    fun m ρ _ => Cert.Kernel28.Gen.frame m ρ,
    fun m ρ _ => Cert.Kernel28Ideal.Gen.frame m ρ,
    frame_Reference28Ideal,
    fun m ρ _ => Cert.Kernel29.Gen.frame m ρ,
    fun m ρ _ => Cert.Kernel29Ideal.Gen.frame m ρ,
    frame_Reference29Ideal,
    fun m ρ _ => Cert.Kernel30.Gen.frame m ρ,
    fun m ρ _ => Cert.Kernel30Ideal.Gen.frame m ρ,
    frame_Reference30Ideal,
    fun m ρ _ => Cert.Kernel31.Gen.frame m ρ,
    fun m ρ _ => Cert.Kernel31Ideal.Gen.frame m ρ,
    frame_Reference31Ideal,
    fun m ρ _ => Cert.Kernel32.Gen.frame m ρ,
    fun m ρ _ => Cert.Kernel32Ideal.Gen.frame m ρ,
    frame_Reference32Ideal,
    fun m ρ _ => Cert.Kernel33.Gen.frame m ρ,
    fun m ρ _ => Cert.Kernel33Ideal.Gen.frame m ρ,
    frame_Reference33Ideal,
    fun m ρ _ => Cert.Kernel34.Gen.frame m ρ,
    fun m ρ _ => Cert.Kernel34Ideal.Gen.frame m ρ,
    frame_Reference34Ideal,
    trivial,
    Bwd.algebraic,
    trivial,
    Fwd.algebraic,
    trivial,
    WDown.algebraic,
    trivial,
    WGate.algebraic,
    trivial,
    WUp.algebraic,
    trivial,
    XaBwd.algebraic,
    trivial,
    ProdT.algebraic,
    trivial,
    GradO.algebraic,
    trivial,
    GradQ.algebraic,
    trivial,
    GradOdd.algebraic,
    trivial,
    GradEven.algebraic,
    trivial,
    ProdOut.algebraic,
    trivial,
    NormBwd13.algebraic,
    trivial,
    NormBwd14.algebraic,
    trivial,
    NormBwd15.algebraic,
    trivial,
    NormFwd16.algebraic,
    trivial,
    NormFwd17.algebraic,
    trivial,
    XaFwd.algebraic,
    trivial,
    MemNorm.algebraic,
    trivial,
    MemKv.algebraic,
    trivial,
    MemGrad.algebraic,
    trivial,
    MemProdT.algebraic,
    trivial,
    MemGain.algebraic,
    trivial,
    Loss.algebraic,
    trivial,
    SconvFwd.algebraic,
    trivial,
    SconvBwd.algebraic,
    trivial,
    Adam27.algebraic,
    trivial,
    Adam28.algebraic,
    trivial,
    Adam29.algebraic,
    trivial,
    Adam30.algebraic,
    trivial,
    Adam31.algebraic,
    trivial,
    Adam32.algebraic,
    trivial,
    Adam33.algebraic,
    trivial,
    Adam34.algebraic⟩

end Cert.Proof

end
